-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v66_0)) (v1 : (c : Dev Cert.KernelIdeal.nD) → Buf (Elt Ideal) ((c.tc : Thread Cert.KernelIdeal.nD Cert.KernelIdeal.τ).loc Cert.KernelIdeal.main_v66_1)) (v2 : (c : Dev Cert.KernelIdeal.nD) → Buf (Elt Ideal) ((c.tc : Thread Cert.KernelIdeal.nD Cert.KernelIdeal.τ).loc Cert.KernelIdeal.main_v66_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66_0) = v0 c
          ∧ r.2.mem ((c.tc : Thread Cert.KernelIdeal.nD Cert.KernelIdeal.τ).loc Cert.KernelIdeal.main_v66_1) = v1 c
          ∧ r.2.mem ((c.tc : Thread Cert.KernelIdeal.nD Cert.KernelIdeal.τ).loc Cert.KernelIdeal.main_v66_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v16_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_v17) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)) (v5 : (c : Dev Cert.Kernel3Ideal.nD) → Buf (Elt Ideal) ((c.tc : Thread Cert.Kernel3Ideal.nD Cert.Kernel3Ideal.τ).loc Cert.Kernel3Ideal.main_v10_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_v10_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_v61) = v2 c
          ∧ r.2.mem ((c.tc : Thread Cert.Reference3Ideal.nD Cert.Reference3Ideal.τ).loc Cert.Reference3Ideal.main_v36) = v3 c
          ∧ r.2.mem ((c.tc : Thread Cert.Reference3Ideal.nD Cert.Reference3Ideal.τ).loc Cert.Reference3Ideal.main_v79) = v4 c
          ∧ r.2.mem ((c.tc : Thread Cert.Reference3Ideal.nD Cert.Reference3Ideal.τ).loc Cert.Reference3Ideal.main_v80) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v36_0)) (v1 : (c : Dev Cert.Kernel4Ideal.nD) → Buf (Elt Ideal) ((c.tc : Thread Cert.Kernel4Ideal.nD Cert.Kernel4Ideal.τ).loc Cert.Kernel4Ideal.main_v36_1)) (v2 : (c : Dev Cert.Kernel4Ideal.nD) → Buf (Elt Ideal) ((c.tc : Thread Cert.Kernel4Ideal.nD Cert.Kernel4Ideal.τ).loc Cert.Kernel4Ideal.main_v36_2)) (v3 : (c : Dev Cert.Kernel4Ideal.nD) → Buf (Elt Ideal) ((c.tc : Thread Cert.Kernel4Ideal.nD Cert.Kernel4Ideal.τ).loc Cert.Kernel4Ideal.main_v36_3)) (v4 : (c : Dev Cert.Kernel4Ideal.nD) → Buf (Elt Ideal) ((c.tc : Thread Cert.Kernel4Ideal.nD Cert.Kernel4Ideal.τ).loc Cert.Kernel4Ideal.main_v36_4)) (v5 : (c : Dev Cert.Kernel4Ideal.nD) → Buf (Elt Ideal) ((c.tc : Thread Cert.Kernel4Ideal.nD Cert.Kernel4Ideal.τ).loc Cert.Kernel4Ideal.main_v36_5)) (v6 : (c : Dev Cert.Kernel4Ideal.nD) → Buf (Elt Ideal) ((c.tc : Thread Cert.Kernel4Ideal.nD Cert.Kernel4Ideal.τ).loc Cert.Kernel4Ideal.main_v36_6)) (v7 : (c : Dev Cert.Kernel4Ideal.nD) → Buf (Elt Ideal) ((c.tc : Thread Cert.Kernel4Ideal.nD Cert.Kernel4Ideal.τ).loc Cert.Kernel4Ideal.main_v36_7)) (v8 : (c : Dev Cert.Kernel4Ideal.nD) → Buf (Elt Ideal) ((c.tc : Thread Cert.Kernel4Ideal.nD Cert.Kernel4Ideal.τ).loc Cert.Kernel4Ideal.main_v36_8)) (v9 : (c : Dev Cert.Kernel4Ideal.nD) → Buf (Elt Ideal) ((c.tc : Thread Cert.Kernel4Ideal.nD Cert.Kernel4Ideal.τ).loc Cert.Kernel4Ideal.main_v36_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36_0) = v0 c
          ∧ r.2.mem ((c.tc : Thread Cert.Kernel4Ideal.nD Cert.Kernel4Ideal.τ).loc Cert.Kernel4Ideal.main_v36_1) = v1 c
          ∧ r.2.mem ((c.tc : Thread Cert.Kernel4Ideal.nD Cert.Kernel4Ideal.τ).loc Cert.Kernel4Ideal.main_v36_2) = v2 c
          ∧ r.2.mem ((c.tc : Thread Cert.Kernel4Ideal.nD Cert.Kernel4Ideal.τ).loc Cert.Kernel4Ideal.main_v36_3) = v3 c
          ∧ r.2.mem ((c.tc : Thread Cert.Kernel4Ideal.nD Cert.Kernel4Ideal.τ).loc Cert.Kernel4Ideal.main_v36_4) = v4 c
          ∧ r.2.mem ((c.tc : Thread Cert.Kernel4Ideal.nD Cert.Kernel4Ideal.τ).loc Cert.Kernel4Ideal.main_v36_5) = v5 c
          ∧ r.2.mem ((c.tc : Thread Cert.Kernel4Ideal.nD Cert.Kernel4Ideal.τ).loc Cert.Kernel4Ideal.main_v36_6) = v6 c
          ∧ r.2.mem ((c.tc : Thread Cert.Kernel4Ideal.nD Cert.Kernel4Ideal.τ).loc Cert.Kernel4Ideal.main_v36_7) = v7 c
          ∧ r.2.mem ((c.tc : Thread Cert.Kernel4Ideal.nD Cert.Kernel4Ideal.τ).loc Cert.Kernel4Ideal.main_v36_8) = v8 c
          ∧ r.2.mem ((c.tc : Thread Cert.Kernel4Ideal.nD Cert.Kernel4Ideal.τ).loc Cert.Kernel4Ideal.main_v36_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v107) = v2 c
          ∧ r.2.mem ((c.tc : Thread Cert.Reference4Ideal.nD Cert.Reference4Ideal.τ).loc Cert.Reference4Ideal.main_v99) = v3 c
          ∧ r.2.mem ((c.tc : Thread Cert.Reference4Ideal.nD Cert.Reference4Ideal.τ).loc Cert.Reference4Ideal.main_v102) = v4 c
          ∧ r.2.mem ((c.tc : Thread Cert.Reference4Ideal.nD Cert.Reference4Ideal.τ).loc Cert.Reference4Ideal.main_v104) = v5 c
          ∧ r.2.mem ((c.tc : Thread Cert.Reference4Ideal.nD Cert.Reference4Ideal.τ).loc Cert.Reference4Ideal.main_v108) = v6 c
          ∧ r.2.mem ((c.tc : Thread Cert.Reference4Ideal.nD Cert.Reference4Ideal.τ).loc Cert.Reference4Ideal.main_v109) = v7 c
          ∧ r.2.mem ((c.tc : Thread Cert.Reference4Ideal.nD Cert.Reference4Ideal.τ).loc Cert.Reference4Ideal.main_v111) = v8 c
          ∧ r.2.mem ((c.tc : Thread Cert.Reference4Ideal.nD Cert.Reference4Ideal.τ).loc Cert.Reference4Ideal.main_v113) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v71_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v71_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v205) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  bcast_S_S4096x8x64 : S_.BroadcastsInDim S4096x8x64 (![] : Fin 0 → Fin S4096x8x64.rank)

variable [Facts]

def fn {F : FTy → Type} [FloatOps F] (main_arg0 : FVec F S4096x8x96 .f32) (main_arg1 : FVec F S4096x8x96 .f32) (main_arg2 : FVec F S4096x8x64 .f32) (main_arg3 : FVec F S4096x8x64 .f32) : IVec S4096x8x96 1 × IVec S4096x8x96 1 × IVec S4096x8x64 1 × IVec S4096x8x64 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_v3 : FVec F S4096x8x96 .f32 := Host.absf main_arg1
  let main_cst_0 : FVec F S_ .f32 := constant S_ .f32 0x7F800000#32
  let main_v4 : FVec F S4096x8x96 .f32 := broadcastInDim S4096x8x96 ![] bcast_S_S4096x8x96 main_cst_0
  let main_v5 : IVec S4096x8x96 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x8x64 .f32 := Host.absf main_arg3
  let main_cst_2 : FVec F S_ .f32 := constant S_ .f32 0x7F800000#32
  let main_v10 : FVec F S4096x8x64 .f32 := broadcastInDim S4096x8x64 ![] bcast_S_S4096x8x64 main_cst_2
  let main_v11 : IVec S4096x8x64 1 := cmpf .olt main_v9 main_v10
  (main_v2, main_v5, main_v8, main_v11)
-- ==== Pre_finite2.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S4096x1024 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg4
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Kernel.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4x2x4096 : Shape := ⟨3, ![4, 2, 4096]⟩
abbrev S4096x8 : Shape := ⟨2, ![4096, 8]⟩
abbrev S4096x8x128 : Shape := ⟨3, ![4096, 8, 128]⟩
abbrev S4096x1024 : Shape := ⟨2, ![4096, 1024]⟩
abbrev S1024x4096 : Shape := ⟨2, ![1024, 4096]⟩
abbrev S4096x512 : Shape := ⟨2, ![4096, 512]⟩
abbrev S512x512 : Shape := ⟨2, ![512, 512]⟩
abbrev S512x256 : Shape := ⟨2, ![512, 256]⟩
abbrev S4096x256 : Shape := ⟨2, ![4096, 256]⟩
abbrev S2x2x4096 : Shape := ⟨3, ![2, 2, 4096]⟩
abbrev S512x4096 : Shape := ⟨2, ![512, 4096]⟩
abbrev S4x512x128 : Shape := ⟨3, ![4, 512, 128]⟩
abbrev S512x128 : Shape := ⟨2, ![512, 128]⟩
abbrev S1x512x128 : Shape := ⟨3, ![1, 512, 128]⟩
abbrev S1x1x512 : Shape := ⟨3, ![1, 1, 512]⟩
abbrev S1x512 : Shape := ⟨2, ![1, 512]⟩
abbrev S128x512 : Shape := ⟨2, ![128, 512]⟩

abbrev nBuf : Space → Nat
  | .hbm => 96
  | .vmem => 22
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x64x4096, .f32⟩
  | .hbm, ⟨34, _⟩ => ⟨S4096x8x64, .f32⟩
  | .hbm, ⟨35, _⟩ => ⟨S8x4096x4096, .f32⟩
  | .hbm, ⟨36, _⟩ => ⟨S_, .f32⟩
  | .hbm, ⟨37, _⟩ => ⟨S8x4096x4096, .f32⟩
  | .hbm, ⟨38, _⟩ => ⟨S8x4096x4096, .f32⟩
  | .hbm, ⟨39, _⟩ => ⟨S4096, .i32⟩
  | .hbm, ⟨40, _⟩ => ⟨S1x4096, .i32⟩
  | .hbm, ⟨41, _⟩ => ⟨S4096x1, .i32⟩
  | .hbm, ⟨42, _⟩ => ⟨S4096x4096, .i32⟩
  | .hbm, ⟨43, _⟩ => ⟨S4096x4096, .i32⟩
  | .hbm, ⟨44, _⟩ => ⟨S4096x4096, .i1⟩
  | .hbm, ⟨45, _⟩ => ⟨S_, .f32⟩
  | .hbm, ⟨46, _⟩ => ⟨S_, .f32⟩
  | .hbm, ⟨47, _⟩ => ⟨S8x4096x4096, .i1⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S_, .f32⟩
  | .hbm, ⟨57, _⟩ => ⟨S8x4096, .f32⟩
  | .hbm, ⟨58, _⟩ => ⟨S8x4096, .f32⟩
  | .hbm, ⟨59, _⟩ => ⟨S8x4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8x4096, .f32⟩
  | .hbm, ⟨64, _⟩ => ⟨S8x4096, .f32⟩
  | .hbm, ⟨65, _⟩ => ⟨S4x2x4096, .f32⟩
  | .hbm, ⟨66, _⟩ => ⟨S4096x8x64, .f32⟩
  | .hbm, ⟨67, _⟩ => ⟨S_, .f32⟩
  | .hbm, ⟨68, _⟩ => ⟨S4096x8, .f32⟩
  | .hbm, ⟨69, _⟩ => ⟨S8x4096, .f32⟩
  | .hbm, ⟨70, _⟩ => ⟨S4x2x4096, .f32⟩
  | .hbm, ⟨71, _⟩ => ⟨S_, .i32⟩
  | .hbm, ⟨72, _⟩ => ⟨S_, .f32⟩
  | .hbm, ⟨73, _⟩ => ⟨S4096x8x128, .f32⟩
  | .hbm, ⟨74, _⟩ => ⟨S4096x1024, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4096x1024, .f32⟩
  | .hbm, ⟨81, _⟩ => ⟨S4096x1024, .f32⟩
  | .hbm, ⟨82, _⟩ => ⟨S4096x1024, .bf16⟩
  | .hbm, ⟨83, _⟩ => ⟨S_, .i32⟩
  | .hbm, ⟨84, _⟩ => ⟨S_, .f32⟩
  | .hbm, ⟨85, _⟩ => ⟨S4096x8x128, .f32⟩
  | .hbm, ⟨86, _⟩ => ⟨S4096x1024, .f32⟩
  | .hbm, ⟨87, _⟩ => ⟨S4096x1024, .bf16⟩
  | .hbm, ⟨88, _⟩ => ⟨S1024x4096, .bf16⟩
  | .hbm, ⟨89, _⟩ => ⟨S4096x512, .f32⟩
  | .hbm, ⟨90, _⟩ => ⟨S4096x512, .bf16⟩
  | .hbm, ⟨91, _⟩ => ⟨S4096x512, .f32⟩
  | .hbm, ⟨92, _⟩ => ⟨S4096x512, .bf16⟩
  | .hbm, ⟨93, _⟩ => ⟨S1024x4096, .f32⟩
  | .hbm, ⟨94, _⟩ => ⟨S4096x1024, .f32⟩
  | .hbm, ⟨95, _⟩ => ⟨S4096x512, .f32⟩
  | .local _ .vmem, ⟨0, _⟩ => ⟨S4096x512, .bf16⟩
  | .local _ .vmem, ⟨1, _⟩ => ⟨S4096x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S4096x256, .bf16⟩
  | .local _ .vmem, ⟨9, _⟩ => ⟨S4096x256, .bf16⟩
  | .local _ .vmem, ⟨10, _⟩ => ⟨S2x2x4096, .f32⟩
  | .local _ .vmem, ⟨11, _⟩ => ⟨S2x2x4096, .f32⟩
  | .local _ .vmem, ⟨12, _⟩ => ⟨S2x2x4096, .f32⟩
  | .local _ .vmem, ⟨13, _⟩ => ⟨S2x2x4096, .f32⟩
  | .local _ .vmem, ⟨14, _⟩ => ⟨S512x4096, .f32⟩
  | .local _ .vmem, ⟨15, _⟩ => ⟨S512x4096, .f32⟩
  | .local _ .vmem, ⟨16, _⟩ => ⟨S512x512, .f32⟩
  | .local _ .vmem, ⟨17, _⟩ => ⟨S512x512, .f32⟩
  | .local _ .vmem, ⟨18, _⟩ => ⟨S512x256, .f32⟩
  | .local _ .vmem, ⟨19, _⟩ => ⟨S512x256, .f32⟩
  | .local _ .vmem, ⟨20, _⟩ => ⟨S4x512x128, .bf16⟩
  | .local _ .vmem, ⟨21, _⟩ => ⟨S4x512x128, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c : Ref sig .tc := ⟨.hbm, 71, rfl⟩
abbrev main_call2_v0 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_call3_v0 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66_0 : Ref sig .tc := ⟨.hbm, 93, rfl⟩
abbrev main_v66_1 : Ref sig .tc := ⟨.hbm, 94, rfl⟩
abbrev main_v66_2 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32 : BitVec 32 := 512#32
  let v42 : BitVec 32 := Scalar.muli arg1 c512_i32
  v42
def k0_off1 (i : grid0.Coords) : Fin 2 → Nat :=
  let arg1 : BitVec 32 := BitVec.ofNat 32 (i 1).val
  let c512_i32 : BitVec 32 := 512#32
  let v42 : BitVec 32 := Scalar.muli arg1 c512_i32
  let v43 : BitVec 32 := v42
  let v46 : Index := Scalar.indexCast v43
  let c0_27 : Index := 0#32
  ![v46.toNat, 0]
def k0_off2 (i : grid0.Coords) : Fin 2 → Nat :=
  let arg1 : BitVec 32 := BitVec.ofNat 32 (i 1).val
  let c512_i32 : BitVec 32 := 512#32
  let v42 : BitVec 32 := Scalar.muli arg1 c512_i32
  let v43 : BitVec 32 := v42
  let v52 : Index := Scalar.indexCast v43
  let c128_31 : Index := 128#32
  ![v52.toNat, 128]
def k0_off3 (i : grid0.Coords) : Fin 2 → Nat :=
  let arg1 : BitVec 32 := BitVec.ofNat 32 (i 1).val
  let c512_i32 : BitVec 32 := 512#32
  let v42 : BitVec 32 := Scalar.muli arg1 c512_i32
  let v43 : BitVec 32 := v42
  let v58 : Index := Scalar.indexCast v43
  let c256_34 : Index := 256#32
  ![v58.toNat, 256]
def k0_off4 (i : grid0.Coords) : Fin 2 → Nat :=
  let arg1 : BitVec 32 := BitVec.ofNat 32 (i 1).val
  let c512_i32 : BitVec 32 := 512#32
  let v42 : BitVec 32 := Scalar.muli arg1 c512_i32
  let v43 : BitVec 32 := v42
  let v64 : Index := Scalar.indexCast v43
  let c384_37 : Index := 384#32
  ![v64.toNat, 384]
def k0_off5 (i : grid0.Coords) : Fin 2 → Nat :=
  let arg1 : BitVec 32 := BitVec.ofNat 32 (i 1).val
  let c512_i32 : BitVec 32 := 512#32
  let v42 : BitVec 32 := Scalar.muli arg1 c512_i32
  let v43 : BitVec 32 := v42
  let v70 : Index := Scalar.indexCast v43
  let c0_42 : Index := 0#32
  ![v70.toNat, 0]
def k0_off6 (i : grid0.Coords) : Fin 2 → Nat :=
  let arg1 : BitVec 32 := BitVec.ofNat 32 (i 1).val
  let c512_i32 : BitVec 32 := 512#32
  let v42 : BitVec 32 := Scalar.muli arg1 c512_i32
  let v43 : BitVec 32 := v42
  let v82 : Index := Scalar.indexCast v43
  let c128_52 : Index := 128#32
  ![v82.toNat, 128]
def k0_off7 (i : grid0.Coords) : Fin 3 → Nat :=
  let c0_59 : Index := 0#32
  let c0_60 : Index := 0#32
  let arg1 : BitVec 32 := BitVec.ofNat 32 (i 1).val
  let c512_i32 : BitVec 32 := 512#32
  let v42 : BitVec 32 := Scalar.muli arg1 c512_i32
  let v43 : BitVec 32 := v42
  let v92 : Index := Scalar.indexCast v43
  ![0, 0, v92.toNat]
def k0_off8 (i : grid0.Coords) : Fin 2 → Nat :=
  let c0_78 : Index := 0#32
  let arg1 : BitVec 32 := BitVec.ofNat 32 (i 1).val
  let c512_i32 : BitVec 32 := 512#32
  let v42 : BitVec 32 := Scalar.muli arg1 c512_i32
  let v43 : BitVec 32 := v42
  let v129 : Index := Scalar.indexCast v43
  ![0, v129.toNat]
def k0_off9 (i : grid0.Coords) : Fin 3 → Nat :=
  let c0_83 : Index := 0#32
  let c1_84 : Index := 1#32
  let arg1 : BitVec 32 := BitVec.ofNat 32 (i 1).val
  let c512_i32 : BitVec 32 := 512#32
  let v42 : BitVec 32 := Scalar.muli arg1 c512_i32
  let v43 : BitVec 32 := v42
  let v139 : Index := Scalar.indexCast v43
  ![0, 1, v139.toNat]
def k0_off10 (i : grid0.Coords) : Fin 2 → Nat :=
  let c128_102 : Index := 128#32
  let arg1 : BitVec 32 := BitVec.ofNat 32 (i 1).val
  let c512_i32 : BitVec 32 := 512#32
  let v42 : BitVec 32 := Scalar.muli arg1 c512_i32
  let v43 : BitVec 32 := v42
  let v176 : Index := Scalar.indexCast v43
  ![128, v176.toNat]
def k0_off11 (i : grid0.Coords) : Fin 3 → Nat :=
  let c1_107 : Index := 1#32
  let c0_108 : Index := 0#32
  let arg1 : BitVec 32 := BitVec.ofNat 32 (i 1).val
  let c512_i32 : BitVec 32 := 512#32
  let v42 : BitVec 32 := Scalar.muli arg1 c512_i32
  let v43 : BitVec 32 := v42
  let v186 : Index := Scalar.indexCast v43
  ![1, 0, v186.toNat]
def k0_off12 (i : grid0.Coords) : Fin 2 → Nat :=
  let c256_126 : Index := 256#32
  let arg1 : BitVec 32 := BitVec.ofNat 32 (i 1).val
  let c512_i32 : BitVec 32 := 512#32
  let v42 : BitVec 32 := Scalar.muli arg1 c512_i32
  let v43 : BitVec 32 := v42
  let v223 : Index := Scalar.indexCast v43
  ![256, v223.toNat]
def k0_off13 (i : grid0.Coords) : Fin 3 → Nat :=
  let c1_131 : Index := 1#32
  let c1_132 : Index := 1#32
  let arg1 : BitVec 32 := BitVec.ofNat 32 (i 1).val
  let c512_i32 : BitVec 32 := 512#32
  let v42 : BitVec 32 := Scalar.muli arg1 c512_i32
  let v43 : BitVec 32 := v42
  let v233 : Index := Scalar.indexCast v43
  ![1, 1, v233.toNat]
def k0_off14 (i : grid0.Coords) : Fin 2 → Nat :=
  let c384_150 : Index := 384#32
  let arg1 : BitVec 32 := BitVec.ofNat 32 (i 1).val
  let c512_i32 : BitVec 32 := 512#32
  let v42 : BitVec 32 := Scalar.muli arg1 c512_i32
  let v43 : BitVec 32 := v42
  let v270 : Index := Scalar.indexCast v43
  ![384, v270.toNat]
@[reducible] def k0_t1_loop (i : grid0.Coords) : Scf.Loop 32 :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_157 : BitVec 32 := 1#32
  ⟨v280, v285, c1_i32_157⟩
def k0_mult2 (i : grid0.Coords) (k0_t1 : Fin (k0_t1_loop i).trips) : BitVec 32 :=
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  v309
def k0_off15 (i : grid0.Coords) (k0_t1 : Fin (k0_t1_loop i).trips) : Fin 2 → Nat :=
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v313 : Index := Scalar.indexCast v310
  let c0_185 : Index := 0#32
  ![v313.toNat, 0]
def k0_off16 (i : grid0.Coords) (k0_t1 : Fin (k0_t1_loop i).trips) : Fin 2 → Nat :=
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v319 : Index := Scalar.indexCast v310
  let c128_189 : Index := 128#32
  ![v319.toNat, 128]
def k0_off17 (i : grid0.Coords) (k0_t1 : Fin (k0_t1_loop i).trips) : Fin 2 → Nat :=
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v325 : Index := Scalar.indexCast v310
  let c256_193 : Index := 256#32
  ![v325.toNat, 256]
def k0_off18 (i : grid0.Coords) (k0_t1 : Fin (k0_t1_loop i).trips) : Fin 2 → Nat :=
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v331 : Index := Scalar.indexCast v310
  let c384_197 : Index := 384#32
  ![v331.toNat, 384]
def k0_off19 (i : grid0.Coords) (k0_t1 : Fin (k0_t1_loop i).trips) : Fin 2 → Nat :=
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v337 : Index := Scalar.indexCast v310
  let c0_202 : Index := 0#32
  ![v337.toNat, 0]
def k0_off20 (i : grid0.Coords) (k0_t1 : Fin (k0_t1_loop i).trips) : Fin 2 → Nat :=
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v349 : Index := Scalar.indexCast v310
  let c128_212 : Index := 128#32
  ![v349.toNat, 128]
def k0_off21 (i : grid0.Coords) (k0_t1 : Fin (k0_t1_loop i).trips) : Fin 3 → Nat :=
  let c0_219 : Index := 0#32
  let c0_220 : Index := 0#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v359 : Index := Scalar.indexCast v310
  ![0, 0, v359.toNat]
def k0_off22 (i : grid0.Coords) (k0_t1 : Fin (k0_t1_loop i).trips) : Fin 2 → Nat :=
  let c0_237 : Index := 0#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v391 : Index := Scalar.indexCast v310
  ![0, v391.toNat]
def k0_off23 (i : grid0.Coords) (k0_t1 : Fin (k0_t1_loop i).trips) : Fin 3 → Nat :=
  let c0_242 : Index := 0#32
  let c1_243 : Index := 1#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v401 : Index := Scalar.indexCast v310
  ![0, 1, v401.toNat]
def k0_off24 (i : grid0.Coords) (k0_t1 : Fin (k0_t1_loop i).trips) : Fin 2 → Nat :=
  let c128_260 : Index := 128#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v433 : Index := Scalar.indexCast v310
  ![128, v433.toNat]
def k0_off25 (i : grid0.Coords) (k0_t1 : Fin (k0_t1_loop i).trips) : Fin 3 → Nat :=
  let c1_265 : Index := 1#32
  let c0_266 : Index := 0#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v443 : Index := Scalar.indexCast v310
  ![1, 0, v443.toNat]
def k0_off26 (i : grid0.Coords) (k0_t1 : Fin (k0_t1_loop i).trips) : Fin 2 → Nat :=
  let c256_283 : Index := 256#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v475 : Index := Scalar.indexCast v310
  ![256, v475.toNat]
def k0_off27 (i : grid0.Coords) (k0_t1 : Fin (k0_t1_loop i).trips) : Fin 3 → Nat :=
  let c1_288 : Index := 1#32
  let c1_289 : Index := 1#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v485 : Index := Scalar.indexCast v310
  ![1, 1, v485.toNat]
def k0_off28 (i : grid0.Coords) (k0_t1 : Fin (k0_t1_loop i).trips) : Fin 2 → Nat :=
  let c384_306 : Index := 384#32
  let arg1 : BitVec 32 := BitVec.ofNat 32 (i 1).val
  let c1_i32 : BitVec 32 := 1#32
  let v280 : BitVec 32 := Scalar.addi arg1 c1_i32
  let c1_i32_157 : BitVec 32 := 1#32
  let arg14 : BitVec 32 := Scf.iv v280 c1_i32_157 k0_t1
  let c512_i32_182 : BitVec 32 := 512#32
  let v309 : BitVec 32 := Scalar.muli arg14 c512_i32_182
  let v310 : BitVec 32 := v309
  let v517 : Index := Scalar.indexCast v310
  ![384, v517.toNat]
@[reducible] def k0_t2_loop (i : grid0.Coords) : Scf.Loop 32 :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let v282 : BitVec 32 := Scalar.addi v280 v281
  let c1_i32_158 : BitVec 32 := 1#32
  ⟨v285, v282, c1_i32_158⟩
def k0_mult3 (i : grid0.Coords) (k0_t2 : Fin (k0_t2_loop i).trips) : BitVec 32 :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  v309
def k0_off29 (i : grid0.Coords) (k0_t2 : Fin (k0_t2_loop i).trips) : Fin 2 → Nat :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v313 : Index := Scalar.indexCast v310
  let c0_185 : Index := 0#32
  ![v313.toNat, 0]
def k0_off30 (i : grid0.Coords) (k0_t2 : Fin (k0_t2_loop i).trips) : Fin 2 → Nat :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v319 : Index := Scalar.indexCast v310
  let c128_189 : Index := 128#32
  ![v319.toNat, 128]
def k0_off31 (i : grid0.Coords) (k0_t2 : Fin (k0_t2_loop i).trips) : Fin 2 → Nat :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v325 : Index := Scalar.indexCast v310
  let c256_193 : Index := 256#32
  ![v325.toNat, 256]
def k0_off32 (i : grid0.Coords) (k0_t2 : Fin (k0_t2_loop i).trips) : Fin 2 → Nat :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v331 : Index := Scalar.indexCast v310
  let c384_197 : Index := 384#32
  ![v331.toNat, 384]
def k0_off33 (i : grid0.Coords) (k0_t2 : Fin (k0_t2_loop i).trips) : Fin 2 → Nat :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v337 : Index := Scalar.indexCast v310
  let c0_202 : Index := 0#32
  ![v337.toNat, 0]
def k0_off34 (i : grid0.Coords) (k0_t2 : Fin (k0_t2_loop i).trips) : Fin 2 → Nat :=
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v349 : Index := Scalar.indexCast v310
  let c128_212 : Index := 128#32
  ![v349.toNat, 128]
def k0_off35 (i : grid0.Coords) (k0_t2 : Fin (k0_t2_loop i).trips) : Fin 3 → Nat :=
  let c0_219 : Index := 0#32
  let c0_220 : Index := 0#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v359 : Index := Scalar.indexCast v310
  ![0, 0, v359.toNat]
def k0_off36 (i : grid0.Coords) (k0_t2 : Fin (k0_t2_loop i).trips) : Fin 2 → Nat :=
  let c0_237 : Index := 0#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v391 : Index := Scalar.indexCast v310
  ![0, v391.toNat]
def k0_off37 (i : grid0.Coords) (k0_t2 : Fin (k0_t2_loop i).trips) : Fin 3 → Nat :=
  let c0_242 : Index := 0#32
  let c1_243 : Index := 1#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v401 : Index := Scalar.indexCast v310
  ![0, 1, v401.toNat]
def k0_off38 (i : grid0.Coords) (k0_t2 : Fin (k0_t2_loop i).trips) : Fin 2 → Nat :=
  let c128_260 : Index := 128#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v433 : Index := Scalar.indexCast v310
  ![128, v433.toNat]
def k0_off39 (i : grid0.Coords) (k0_t2 : Fin (k0_t2_loop i).trips) : Fin 3 → Nat :=
  let c1_265 : Index := 1#32
  let c0_266 : Index := 0#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v443 : Index := Scalar.indexCast v310
  ![1, 0, v443.toNat]
def k0_off40 (i : grid0.Coords) (k0_t2 : Fin (k0_t2_loop i).trips) : Fin 2 → Nat :=
  let c256_283 : Index := 256#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v475 : Index := Scalar.indexCast v310
  ![256, v475.toNat]
def k0_off41 (i : grid0.Coords) (k0_t2 : Fin (k0_t2_loop i).trips) : Fin 3 → Nat :=
  let c1_288 : Index := 1#32
  let c1_289 : Index := 1#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v485 : Index := Scalar.indexCast v310
  ![1, 1, v485.toNat]
def k0_off42 (i : grid0.Coords) (k0_t2 : Fin (k0_t2_loop i).trips) : Fin 2 → Nat :=
  let c384_306 : Index := 384#32
  let arg1 : BitVec 32 := BitVec.ofNat 32 (i 1).val
  let c1_i32 : BitVec 32 := 1#32
  let v280 : BitVec 32 := Scalar.addi arg1 c1_i32
  let c8_i32 : BitVec 32 := 8#32
  let v281 : BitVec 32 := Scalar.subi c8_i32 v280
  let c1_i32_156 : BitVec 32 := 1#32
  let v283 : BitVec 32 := Scalar.divsi v281 c1_i32_156
  let v284 : BitVec 32 := Scalar.muli v283 c1_i32_156
  let v285 : BitVec 32 := Scalar.addi v280 v284
  let c1_i32_158 : BitVec 32 := 1#32
  let arg14 : BitVec 32 := Scf.iv v285 c1_i32_158 k0_t2
  let c512_i32_182 : BitVec 32 := 512#32
  let v309 : BitVec 32 := Scalar.muli arg14 c512_i32_182
  let v310 : BitVec 32 := v309
  let v517 : Index := Scalar.indexCast v310
  ![384, v517.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x2x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x2x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S4096x8x96 : Shape := ⟨3, ![4096, 8, 96]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S4096x8x128 : Shape := ⟨3, ![4096, 8, 128]⟩
abbrev S4096x1024 : Shape := ⟨2, ![4096, 1024]⟩
abbrev S1024x4096 : Shape := ⟨2, ![1024, 4096]⟩
abbrev S4096x512 : Shape := ⟨2, ![4096, 512]⟩

abbrev nBuf : Space → Nat
  | .hbm => 102
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S8x4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .i1⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S_, .f32⟩
  | .hbm, ⟨33, _⟩ => ⟨S8x4096, .f32⟩
  | .hbm, ⟨34, _⟩ => ⟨S8x4096, .i1⟩
  | .hbm, ⟨35, _⟩ => ⟨S_, .f32⟩
  | .hbm, ⟨36, _⟩ => ⟨S8x4096, .f32⟩
  | .hbm, ⟨37, _⟩ => ⟨S8x4096, .i1⟩
  | .hbm, ⟨38, _⟩ => ⟨S_, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S8x4096, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x64x4096, .f32⟩
  | .hbm, ⟨60, _⟩ => ⟨S4096x8x64, .f32⟩
  | .hbm, ⟨61, _⟩ => ⟨S8x64x4096, .f32⟩
  | .hbm, ⟨62, _⟩ => ⟨S8x4096x4096, .f32⟩
  | .hbm, ⟨63, _⟩ => ⟨S8x64x4096, .f32⟩
  | .hbm, ⟨64, _⟩ => ⟨S4096x8x64, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S8x4096x1, .f32⟩
  | .hbm, ⟨72, _⟩ => ⟨S8x4096x4096, .f32⟩
  | .hbm, ⟨73, _⟩ => ⟨S8x4096x4096, .f32⟩
  | .hbm, ⟨74, _⟩ => ⟨S_, .f32⟩
  | .hbm, ⟨75, _⟩ => ⟨S8x4096, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096x4096, .f32⟩
  | .hbm, ⟨84, _⟩ => ⟨S8x4096x4096, .f32⟩
  | .hbm, ⟨85, _⟩ => ⟨S8x4096x96, .f32⟩
  | .hbm, ⟨86, _⟩ => ⟨S4096x8x96, .f32⟩
  | .hbm, ⟨87, _⟩ => ⟨S8x4096x96, .f32⟩
  | .hbm, ⟨88, _⟩ => ⟨S4096x8x96, .f32⟩
  | .hbm, ⟨89, _⟩ => ⟨S_, .i32⟩
  | .hbm, ⟨90, _⟩ => ⟨S_, .f32⟩
  | .hbm, ⟨91, _⟩ => ⟨S4096x8x128, .f32⟩
  | .hbm, ⟨92, _⟩ => ⟨S4096x1024, .f32⟩
  | .hbm, ⟨93, _⟩ => ⟨S1024x4096, .f32⟩
  | .hbm, ⟨94, _⟩ => ⟨S_, .f32⟩
  | .hbm, ⟨95, _⟩ => ⟨S1024x4096, .f32⟩
  | .hbm, ⟨96, _⟩ => ⟨S1024x4096, .f32⟩
  | .hbm, ⟨97, _⟩ => ⟨S_, .i32⟩
  | .hbm, ⟨98, _⟩ => ⟨S_, .f32⟩
  | .hbm, ⟨99, _⟩ => ⟨S4096x8x128, .f32⟩
  | .hbm, ⟨100, _⟩ => ⟨S4096x1024, .f32⟩
  | .hbm, ⟨101, _⟩ => ⟨S4096x512, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c : Ref sig .tc := ⟨.hbm, 89, rfl⟩
abbrev main_call2_v0 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_14 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_call3_v0 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩

abbrev nD : Nat := 1
abbrev τ : Topo := Topo.v7x

variable {F : FTy → Type} [FloatOps F]
-- ==== Kernel2.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S4x704x1024 : Shape := ⟨3, ![4, 704, 1024]⟩
abbrev S512x1024 : Shape := ⟨2, ![512, 1024]⟩
abbrev S1x512x704 : Shape := ⟨3, ![1, 512, 704]⟩
abbrev S1x704x1024 : Shape := ⟨3, ![1, 704, 1024]⟩
abbrev S512x704 : Shape := ⟨2, ![512, 704]⟩
abbrev S704x1024 : Shape := ⟨2, ![704, 1024]⟩

abbrev nBuf : Space → Nat
  | .hbm => 25
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x4x704, .f32⟩
  | .hbm, ⟨7, _⟩ => ⟨S4x4096x704, .f32⟩
  | .hbm, ⟨8, _⟩ => ⟨S4096x2816, .f32⟩
  | .hbm, ⟨9, _⟩ => ⟨S4096x4x704, .f32⟩
  | .hbm, ⟨10, _⟩ => ⟨S4x4096x704, .f32⟩
  | .hbm, ⟨11, _⟩ => ⟨S4096x1024, .bf16⟩
  | .hbm, ⟨12, _⟩ => ⟨S4096x1024, .bf16⟩
  | .hbm, ⟨13, _⟩ => ⟨S2816x1024, .f32⟩
  | .hbm, ⟨14, _⟩ => ⟨S4x704x1024, .f32⟩
  | .hbm, ⟨15, _⟩ => ⟨S4x704x1024, .bf16⟩
  | .hbm, ⟨16, _⟩ => ⟨S2816x1024, .f32⟩
  | .hbm, ⟨17, _⟩ => ⟨S4x704x1024, .f32⟩
  | .hbm, ⟨18, _⟩ => ⟨S4x704x1024, .bf16⟩
  | .hbm, ⟨19, _⟩ => ⟨S4x704x1024, .f32⟩
  | .hbm, ⟨20, _⟩ => ⟨S4x704x1024, .bf16⟩
  | .hbm, ⟨21, _⟩ => ⟨S4x704x1024, .f32⟩
  | .hbm, ⟨22, _⟩ => ⟨S4x704x1024, .f32⟩
  | .hbm, ⟨23, _⟩ => ⟨S4x704x1024, .f32⟩
  | .hbm, ⟨24, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x512x704, .f32⟩
  | .local _ .vmem, ⟨3, _⟩ => ⟨S1x512x704, .f32⟩
  | .local _ .vmem, ⟨4, _⟩ => ⟨S1x512x704, .f32⟩
  | .local _ .vmem, ⟨5, _⟩ => ⟨S1x512x704, .f32⟩
  | .local _ .vmem, ⟨6, _⟩ => ⟨S512x1024, .bf16⟩
  | .local _ .vmem, ⟨7, _⟩ => ⟨S512x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .f32⟩
  | .local _ .vmem, ⟨15, _⟩ => ⟨S1x704x1024, .f32⟩
  | .local _ .vmem, ⟨16, _⟩ => ⟨S1x704x1024, .f32⟩
  | .local _ .vmem, ⟨17, _⟩ => ⟨S1x704x1024, .f32⟩
  | .local _ .vmem, ⟨18, _⟩ => ⟨S1x704x1024, .f32⟩
  | .local _ .vmem, ⟨19, _⟩ => ⟨S1x704x1024, .f32⟩
  | .local _ .vmem, ⟨20, _⟩ => ⟨S512x1024, .f32⟩
  | .local _ .vmem, ⟨21, _⟩ => ⟨S512x1024, .f32⟩
  | .local _ .vmem, ⟨22, _⟩ => ⟨S4096x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond2 (i : grid0.Coords) : BitVec 1 :=
  let arg0 : BitVec 32 := BitVec.ofNat 32 (i 0).val
  let c0_i32_44 : BitVec 32 := 0#32
  let v61 : BitVec 1 := Scalar.cmpi .eq arg0 c0_i32_44
  let v62 : BitVec 32 := Scalar.extui v61
  let c0_i32_45 : BitVec 32 := 0#32
  let v63 : BitVec 1 := Scalar.cmpi .ne v62 c0_i32_45
  v63

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v72 : Index := Scalar.indexCast v1
  let c0_50 : Index := 0#32
  ![v72.toNat, 0]
def k0_cond3 (i : grid0.Coords) : BitVec 1 :=
  let arg0 : BitVec 32 := BitVec.ofNat 32 (i 0).val
  let c0_i32_46 : BitVec 32 := 0#32
  let v64 : BitVec 1 := Scalar.cmpi .sgt arg0 c0_i32_46
  let c3_i32 : BitVec 32 := 3#32
  let v65 : BitVec 1 := Scalar.cmpi .slt arg0 c3_i32
  let v66 : BitVec 1 := Scalar.andi v64 v65
  let v67 : BitVec 32 := Scalar.extui v66
  let c0_i32_47 : BitVec 32 := 0#32
  let v68 : BitVec 1 := Scalar.cmpi .ne v67 c0_i32_47
  v68

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v72 : Index := Scalar.indexCast v1
  let c0_50 : Index := 0#32
  ![v72.toNat, 0]
def k0_cond4 (i : grid0.Coords) : BitVec 1 :=
  let arg0 : BitVec 32 := BitVec.ofNat 32 (i 0).val
  let c3_i32_48 : BitVec 32 := 3#32
  let v69 : BitVec 1 := Scalar.cmpi .eq arg0 c3_i32_48
  let v70 : BitVec 32 := Scalar.extui v69
  let c0_i32_49 : BitVec 32 := 0#32
  let v71 : BitVec 1 := Scalar.cmpi .ne v70 c0_i32_49
  v71

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v72 : Index := Scalar.indexCast v1
  let c0_50 : Index := 0#32
  ![v72.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x704x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x704x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4x704x1024 : Shape := ⟨3, ![4, 704, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S2816x1024, .f32⟩
  | .hbm, ⟨28, _⟩ => ⟨S1024x2816, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S2816x1024, .f32⟩
  | .hbm, ⟨35, _⟩ => ⟨S1024x2816, .f32⟩
  | .hbm, ⟨36, _⟩ => ⟨S4096x1024, .f32⟩
  | .hbm, ⟨37, _⟩ => ⟨S4096x1024, .f32⟩
  | .hbm, ⟨38, _⟩ => ⟨S2816x1024, .f32⟩
  | .hbm, ⟨39, _⟩ => ⟨S4x704x1024, .f32⟩
  | .hbm, ⟨40, _⟩ => ⟨S2816x1024, .f32⟩
  | .hbm, ⟨41, _⟩ => ⟨S4x704x1024, .f32⟩
  | .hbm, ⟨42, _⟩ => ⟨S4x704x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S4x4096x704 : Shape := ⟨3, ![4, 4096, 704]⟩
abbrev S256x1024 : Shape := ⟨2, ![256, 1024]⟩
abbrev S4x256x704 : Shape := ⟨3, ![4, 256, 704]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩

abbrev nBuf : Space → Nat
  | .hbm => 23
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .bf16⟩
  | .hbm, ⟨8, _⟩ => ⟨S1x1024, .f32⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S2816x1024, .f32⟩
  | .hbm, ⟨13, _⟩ => ⟨S4x704x1024, .f32⟩
  | .hbm, ⟨14, _⟩ => ⟨S4x704x1024, .bf16⟩
  | .hbm, ⟨15, _⟩ => ⟨S4x704x1024, .f32⟩
  | .hbm, ⟨16, _⟩ => ⟨S4x704x1024, .bf16⟩
  | .hbm, ⟨17, _⟩ => ⟨S4x4096x704, .f32⟩
  | .hbm, ⟨18, _⟩ => ⟨S4x4096x704, .f32⟩
  | .hbm, ⟨19, _⟩ => ⟨S4096x1024, .bf16⟩
  | .hbm, ⟨20, _⟩ => ⟨S4096x1024, .f32⟩
  | .hbm, ⟨21, _⟩ => ⟨S1x1024, .f32⟩
  | .hbm, ⟨22, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S4x704x1024, .bf16⟩
  | .local _ .vmem, ⟨8, _⟩ => ⟨S4x704x1024, .bf16⟩
  | .local _ .vmem, ⟨9, _⟩ => ⟨S4x704x1024, .bf16⟩
  | .local _ .vmem, ⟨10, _⟩ => ⟨S4x256x704, .f32⟩
  | .local _ .vmem, ⟨11, _⟩ => ⟨S4x256x704, .f32⟩
  | .local _ .vmem, ⟨12, _⟩ => ⟨S4x256x704, .f32⟩
  | .local _ .vmem, ⟨13, _⟩ => ⟨S4x256x704, .f32⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference3Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x704 : Shape := ⟨3, ![4096, 4, 704]⟩
abbrev S4x4096x704 : Shape := ⟨3, ![4, 4096, 704]⟩

abbrev nBuf : Space → Nat
  | .hbm => 117
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x4x704, .f32⟩
  | .hbm, ⟨90, _⟩ => ⟨S4x4096x704, .f32⟩
  | .hbm, ⟨91, _⟩ => ⟨S4096x4x704, .f32⟩
  | .hbm, ⟨92, _⟩ => ⟨S4x4096x704, .f32⟩
  | .hbm, ⟨93, _⟩ => ⟨S4096x1024, .bf16⟩
  | .hbm, ⟨94, _⟩ => ⟨S4096x1024, .f32⟩
  | .hbm, ⟨95, _⟩ => ⟨S_, .f32⟩
  | .hbm, ⟨96, _⟩ => ⟨S4096, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S_, .f32⟩
  | .hbm, ⟨102, _⟩ => ⟨S4096x1, .f32⟩
  | .hbm, ⟨103, _⟩ => ⟨S4096x1, .f32⟩
  | .hbm, ⟨104, _⟩ => ⟨S4096x1, .f32⟩
  | .hbm, ⟨105, _⟩ => ⟨S4096x1024, .f32⟩
  | .hbm, ⟨106, _⟩ => ⟨S4096x1024, .f32⟩
  | .hbm, ⟨107, _⟩ => ⟨S1x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S_, .f32⟩
  | .hbm, ⟨114, _⟩ => ⟨S1024, .f32⟩
  | .hbm, ⟨115, _⟩ => ⟨S1x1024, .f32⟩
  | .hbm, ⟨116, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_cst_8 : Ref sig .tc := ⟨.hbm, 55, rfl⟩
abbrev main_cst_9 : Ref sig .tc := ⟨.hbm, 56, rfl⟩
abbrev main_v31 : Ref sig .tc := ⟨.hbm, 57, rfl⟩
abbrev main_v32 : Ref sig .tc := ⟨.hbm, 58, rfl⟩
abbrev main_cst_10 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_11 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_12 : Ref sig .tc := ⟨.hbm, 70, rfl⟩
abbrev main_v42 : Ref sig .tc := ⟨.hbm, 71, rfl⟩
abbrev main_v43 : Ref sig .tc := ⟨.hbm, 72, rfl⟩
abbrev main_cst_13 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_14 : Ref sig .tc := ⟨.hbm, 79, rfl⟩
abbrev main_v49 : Ref sig .tc := ⟨.hbm, 80, rfl⟩
abbrev main_v50 : Ref sig .tc := ⟨.hbm, 81, rfl⟩
abbrev main_cst_15 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_16 : Ref sig .tc := ⟨.hbm, 95, rfl⟩
abbrev main_v63 : Ref sig .tc := ⟨.hbm, 96, rfl⟩
abbrev main_v64 : Ref sig .tc := ⟨.hbm, 97, rfl⟩
abbrev main_cst_17 : Ref sig .tc := ⟨.hbm, 98, rfl⟩
abbrev main_v65 : Ref sig .tc := ⟨.hbm, 99, rfl⟩
abbrev main_v66 : Ref sig .tc := ⟨.hbm, 100, rfl⟩
abbrev main_cst_18 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_19 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== Kernel4.lean ====
abbrev S4096x1024 : Shape := ⟨2, ![4096, 1024]⟩
abbrev S4096 : Shape := ⟨1, ![4096]⟩
abbrev S1024 : Shape := ⟨1, ![1024]⟩
abbrev S1024x2592 : Shape := ⟨2, ![1024, 2592]⟩
abbrev S384 : Shape := ⟨1, ![384]⟩
abbrev S384x8x96 : Shape := ⟨3, ![384, 8, 96]⟩
abbrev S128 : Shape := ⟨1, ![128]⟩
abbrev S128x8x128 : Shape := ⟨3, ![128, 8, 128]⟩
abbrev S2592x1024 : Shape := ⟨2, ![2592, 1024]⟩
abbrev S512x1024 : Shape := ⟨2, ![512, 1024]⟩
abbrev S_ : Shape := ⟨0, ![]⟩
abbrev S64x1024 : Shape := ⟨2, ![64, 1024]⟩
abbrev S32x1024 : Shape := ⟨2, ![32, 1024]⟩
abbrev S2048x1024 : Shape := ⟨2, ![2048, 1024]⟩
abbrev S2688x1024 : Shape := ⟨2, ![2688, 1024]⟩
abbrev S384x8x128 : Shape := ⟨3, ![384, 8, 128]⟩
abbrev S384x1024 : Shape := ⟨2, ![384, 1024]⟩
abbrev S128x8x64 : Shape := ⟨3, ![128, 8, 64]⟩
abbrev S128x1024 : Shape := ⟨2, ![128, 1024]⟩
abbrev S128x512 : Shape := ⟨2, ![128, 512]⟩
abbrev S4096x1 : Shape := ⟨2, ![4096, 1]⟩
abbrev S16 : Shape := ⟨1, ![16]⟩
abbrev S64 : Shape := ⟨1, ![64]⟩
abbrev S32 : Shape := ⟨1, ![32]⟩
abbrev S1x128 : Shape := ⟨2, ![1, 128]⟩
abbrev S1x1024 : Shape := ⟨2, ![1, 1024]⟩
abbrev S1x384 : Shape := ⟨2, ![1, 384]⟩
abbrev S4096x384 : Shape := ⟨2, ![4096, 384]⟩
abbrev S4096x128 : Shape := ⟨2, ![4096, 128]⟩
abbrev S4096x2048 : Shape := ⟨2, ![4096, 2048]⟩
abbrev S4096x512 : Shape := ⟨2, ![4096, 512]⟩
abbrev S1024x4096 : Shape := ⟨2, ![1024, 4096]⟩
abbrev S512x4096 : Shape := ⟨2, ![512, 4096]⟩
abbrev S512x1 : Shape := ⟨2, ![512, 1]⟩
abbrev S512x384 : Shape := ⟨2, ![512, 384]⟩
abbrev S512x128 : Shape := ⟨2, ![512, 128]⟩
abbrev S512x2048 : Shape := ⟨2, ![512, 2048]⟩
abbrev S512x512 : Shape := ⟨2, ![512, 512]⟩
abbrev S1024x512 : Shape := ⟨2, ![1024, 512]⟩
abbrev S512 : Shape := ⟨1, ![512]⟩
abbrev S640x1024 : Shape := ⟨2, ![640, 1024]⟩
abbrev S512x640 : Shape := ⟨2, ![512, 640]⟩

abbrev nBuf : Space → Nat
  | .hbm => 67
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1024, .f32⟩
  | .hbm, ⟨3, _⟩ => ⟨S1024x2592, .f32⟩
  | .hbm, ⟨4, _⟩ => ⟨S384, .f32⟩
  | .hbm, ⟨5, _⟩ => ⟨S384x8x96, .f32⟩
  | .hbm, ⟨6, _⟩ => ⟨S128, .f32⟩
  | .hbm, ⟨7, _⟩ => ⟨S128x8x128, .f32⟩
  | .hbm, ⟨8, _⟩ => ⟨S2592x1024, .f32⟩
  | .hbm, ⟨9, _⟩ => ⟨S2592x1024, .bf16⟩
  | .hbm, ⟨10, _⟩ => ⟨S384x8x96, .bf16⟩
  | .hbm, ⟨11, _⟩ => ⟨S128x8x128, .bf16⟩
  | .hbm, ⟨12, _⟩ => ⟨S512x1024, .bf16⟩
  | .hbm, ⟨13, _⟩ => ⟨S_, .bf16⟩
  | .hbm, ⟨14, _⟩ => ⟨S64x1024, .bf16⟩
  | .hbm, ⟨15, _⟩ => ⟨S32x1024, .bf16⟩
  | .hbm, ⟨16, _⟩ => ⟨S_, .bf16⟩
  | .hbm, ⟨17, _⟩ => ⟨S32x1024, .bf16⟩
  | .hbm, ⟨18, _⟩ => ⟨S2048x1024, .bf16⟩
  | .hbm, ⟨19, _⟩ => ⟨S2688x1024, .bf16⟩
  | .hbm, ⟨20, _⟩ => ⟨S_, .i32⟩
  | .hbm, ⟨21, _⟩ => ⟨S_, .bf16⟩
  | .hbm, ⟨22, _⟩ => ⟨S384x8x128, .bf16⟩
  | .hbm, ⟨23, _⟩ => ⟨S384x1024, .bf16⟩
  | .hbm, ⟨24, _⟩ => ⟨S128x8x64, .bf16⟩
  | .hbm, ⟨25, _⟩ => ⟨S_, .i32⟩
  | .hbm, ⟨26, _⟩ => ⟨S_, .bf16⟩
  | .hbm, ⟨27, _⟩ => ⟨S128x8x128, .bf16⟩
  | .hbm, ⟨28, _⟩ => ⟨S128x1024, .bf16⟩
  | .hbm, ⟨29, _⟩ => ⟨S128x8x64, .bf16⟩
  | .hbm, ⟨30, _⟩ => ⟨S128x512, .bf16⟩
  | .hbm, ⟨31, _⟩ => ⟨S4096x1, .i32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S64, .f32⟩
  | .hbm, ⟨50, _⟩ => ⟨S_, .f32⟩
  | .hbm, ⟨51, _⟩ => ⟨S32, .f32⟩
  | .hbm, ⟨52, _⟩ => ⟨S128, .f32⟩
  | .hbm, ⟨53, _⟩ => ⟨S1x128, .f32⟩
  | .hbm, ⟨54, _⟩ => ⟨S1x1024, .f32⟩
  | .hbm, ⟨55, _⟩ => ⟨S1x384, .f32⟩
  | .hbm, ⟨56, _⟩ => ⟨S1x128, .f32⟩
  | .hbm, ⟨57, _⟩ => ⟨S4096x384, .f32⟩
  | .hbm, ⟨58, _⟩ => ⟨S4096x128, .f32⟩
  | .hbm, ⟨59, _⟩ => ⟨S4096x2048, .f32⟩
  | .hbm, ⟨60, _⟩ => ⟨S4096x1024, .bf16⟩
  | .hbm, ⟨61, _⟩ => ⟨S4096x1024, .bf16⟩
  | .hbm, ⟨62, _⟩ => ⟨S4096x512, .bf16⟩
  | .hbm, ⟨63, _⟩ => ⟨S1024x4096, .bf16⟩
  | .hbm, ⟨64, _⟩ => ⟨S512x4096, .bf16⟩
  | .hbm, ⟨65, _⟩ => ⟨S4096x128, .f32⟩
  | .hbm, ⟨66, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x128, .f32⟩
  | .local _ .vmem, ⟨5, _⟩ => ⟨S1x1024, .f32⟩
  | .local _ .vmem, ⟨6, _⟩ => ⟨S2688x1024, .bf16⟩
  | .local _ .vmem, ⟨7, _⟩ => ⟨S1x384, .f32⟩
  | .local _ .vmem, ⟨8, _⟩ => ⟨S384x1024, .bf16⟩
  | .local _ .vmem, ⟨9, _⟩ => ⟨S1x128, .f32⟩
  | .local _ .vmem, ⟨10, _⟩ => ⟨S128x1024, .bf16⟩
  | .local _ .vmem, ⟨11, _⟩ => ⟨S128x512, .bf16⟩
  | .local _ .vmem, ⟨12, _⟩ => ⟨S512x384, .f32⟩
  | .local _ .vmem, ⟨13, _⟩ => ⟨S512x384, .f32⟩
  | .local _ .vmem, ⟨14, _⟩ => ⟨S512x128, .f32⟩
  | .local _ .vmem, ⟨15, _⟩ => ⟨S512x128, .f32⟩
  | .local _ .vmem, ⟨16, _⟩ => ⟨S512x2048, .f32⟩
  | .local _ .vmem, ⟨17, _⟩ => ⟨S512x2048, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x512, .bf16⟩
  | .local _ .vmem, ⟨23, _⟩ => ⟨S512x512, .bf16⟩
  | .local _ .vmem, ⟨24, _⟩ => ⟨S1024x512, .bf16⟩
  | .local _ .vmem, ⟨25, _⟩ => ⟨S1024x512, .bf16⟩
  | .local _ .vmem, ⟨26, _⟩ => ⟨S512x512, .bf16⟩
  | .local _ .vmem, ⟨27, _⟩ => ⟨S512x512, .bf16⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36_0 : Ref sig .tc := ⟨.hbm, 57, rfl⟩
abbrev main_v36_1 : Ref sig .tc := ⟨.hbm, 58, rfl⟩
abbrev main_v36_2 : Ref sig .tc := ⟨.hbm, 59, rfl⟩
abbrev main_v36_3 : Ref sig .tc := ⟨.hbm, 60, rfl⟩
abbrev main_v36_4 : Ref sig .tc := ⟨.hbm, 61, rfl⟩
abbrev main_v36_5 : Ref sig .tc := ⟨.hbm, 62, rfl⟩
abbrev main_v36_6 : Ref sig .tc := ⟨.hbm, 63, rfl⟩
abbrev main_v36_7 : Ref sig .tc := ⟨.hbm, 64, rfl⟩
abbrev main_v36_8 : Ref sig .tc := ⟨.hbm, 65, rfl⟩
abbrev main_v36_9 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2688x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S4096x1024 : Shape := ⟨2, ![4096, 1024]⟩
abbrev S4096 : Shape := ⟨1, ![4096]⟩
abbrev S1024 : Shape := ⟨1, ![1024]⟩
abbrev S1024x2592 : Shape := ⟨2, ![1024, 2592]⟩
abbrev S384 : Shape := ⟨1, ![384]⟩
abbrev S384x8x96 : Shape := ⟨3, ![384, 8, 96]⟩
abbrev S128 : Shape := ⟨1, ![128]⟩
abbrev S128x8x128 : Shape := ⟨3, ![128, 8, 128]⟩
abbrev S_ : Shape := ⟨0, ![]⟩
abbrev S4096x1 : Shape := ⟨2, ![4096, 1]⟩
abbrev S1x1024 : Shape := ⟨2, ![1, 1024]⟩
abbrev S4096x2592 : Shape := ⟨2, ![4096, 2592]⟩
abbrev S4096x384 : Shape := ⟨2, ![4096, 384]⟩
abbrev S4096x128 : Shape := ⟨2, ![4096, 128]⟩
abbrev S4096x32 : Shape := ⟨2, ![4096, 32]⟩
abbrev S1x384 : Shape := ⟨2, ![1, 384]⟩
abbrev S4096x8x96 : Shape := ⟨3, ![4096, 8, 96]⟩
abbrev S4096x8x64 : Shape := ⟨3, ![4096, 8, 64]⟩
abbrev S4096x8x32 : Shape := ⟨3, ![4096, 8, 32]⟩
abbrev S1x128 : Shape := ⟨2, ![1, 128]⟩
abbrev S4096x8x128 : Shape := ⟨3, ![4096, 8, 128]⟩
abbrev S16 : Shape := ⟨1, ![16]⟩
abbrev S1x16 : Shape := ⟨2, ![1, 16]⟩
abbrev S4096x16 : Shape := ⟨2, ![4096, 16]⟩
abbrev S4096x1x16 : Shape := ⟨3, ![4096, 1, 16]⟩
abbrev S4096x8x16 : Shape := ⟨3, ![4096, 8, 16]⟩
abbrev S4096x1x32 : Shape := ⟨3, ![4096, 1, 32]⟩
abbrev S4096x512 : Shape := ⟨2, ![4096, 512]⟩
abbrev S4096x64 : Shape := ⟨2, ![4096, 64]⟩
abbrev S4096x2048 : Shape := ⟨2, ![4096, 2048]⟩
abbrev S1024x4096 : Shape := ⟨2, ![1024, 4096]⟩
abbrev S512x4096 : Shape := ⟨2, ![512, 4096]⟩

abbrev nBuf : Space → Nat
  | .hbm => 142
  | .vmem => 0
  | .smem => 0
  | _ => 0

abbrev hbmTy0_0 (i : Nat) : BufTy := match i % 128 with
  | 0 => ⟨S4096x1024, .f32⟩
  | 1 => ⟨S4096, .i32⟩
  | 2 => ⟨S1024, .f32⟩
  | 3 => ⟨S1024x2592, .f32⟩
  | 4 => ⟨S384, .f32⟩
  | 5 => ⟨S384x8x96, .f32⟩
  | 6 => ⟨S128, .f32⟩
  | 7 => ⟨S128x8x128, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S4096x2592, .f32⟩
  | 25 => ⟨S4096x384, .f32⟩
  | 26 => ⟨S4096x128, .f32⟩
  | 27 => ⟨S4096x32, .f32⟩
  | 28 => ⟨S4096x384, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1, .f32⟩
  | 39 => ⟨S4096x384, .f32⟩
  | 40 => ⟨S4096x384, .f32⟩
  | 41 => ⟨S1x384, .f32⟩
  | 42 => ⟨S4096x384, .f32⟩
  | 43 => ⟨S4096x384, .f32⟩
  | 44 => ⟨S4096x8x96, .f32⟩
  | 45 => ⟨S4096x8x64, .f32⟩
  | 46 => ⟨S4096x8x32, .f32⟩
  | 47 => ⟨S4096x128, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x1, .f32⟩
  | 58 => ⟨S4096x128, .f32⟩
  | 59 => ⟨S4096x128, .f32⟩
  | 60 => ⟨S1x128, .f32⟩
  | 61 => ⟨S4096x128, .f32⟩
  | 62 => ⟨S4096x128, .f32⟩
  | 63 => ⟨S4096x8x128, .f32⟩
  | 64 => ⟨S4096x8x64, .f32⟩
  | 65 => ⟨S4096x8x64, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S4096, .f32⟩
  | 83 => ⟨S4096x1, .f32⟩
  | 84 => ⟨S1x16, .f32⟩
  | 85 => ⟨S4096x16, .f32⟩
  | 86 => ⟨S4096x16, .f32⟩
  | 87 => ⟨S4096x16, .f32⟩
  | 88 => ⟨S4096x16, .f32⟩
  | 89 => ⟨S4096x16, .f32⟩
  | 90 => ⟨S4096x1x16, .f32⟩
  | 91 => ⟨S4096x1x16, .f32⟩
  | 92 => ⟨S4096x8x16, .f32⟩
  | 93 => ⟨S4096x8x16, .f32⟩
  | 94 => ⟨S4096x8x16, .f32⟩
  | 95 => ⟨S4096x8x16, .f32⟩
  | 96 => ⟨S4096x8x16, .f32⟩
  | 97 => ⟨S4096x8x16, .f32⟩
  | 98 => ⟨S4096x8x16, .f32⟩
  | 99 => ⟨S4096x8x16, .f32⟩
  | 100 => ⟨S4096x8x16, .f32⟩
  | 101 => ⟨S4096x8x16, .f32⟩
  | 102 => ⟨S4096x8x16, .f32⟩
  | 103 => ⟨S4096x8x16, .f32⟩
  | 104 => ⟨S4096x8x32, .f32⟩
  | 105 => ⟨S4096x16, .f32⟩
  | 106 => ⟨S4096x16, .f32⟩
  | 107 => ⟨S4096x16, .f32⟩
  | 108 => ⟨S4096x16, .f32⟩
  | 109 => ⟨S4096x16, .f32⟩
  | 110 => ⟨S4096x16, .f32⟩
  | 111 => ⟨S4096x16, .f32⟩
  | 112 => ⟨S4096x16, .f32⟩
  | 113 => ⟨S4096x32, .f32⟩
  | 114 => ⟨S4096x1x32, .f32⟩
  | 115 => ⟨S4096x8x32, .f32⟩
  | 116 => ⟨S_, .f32⟩
  | 117 => ⟨S4096x8x32, .f32⟩
  | 118 => ⟨S4096x8x128, .f32⟩
  | 119 => ⟨S_, .f32⟩
  | 120 => ⟨S4096x8x128, .f32⟩
  | 121 => ⟨S4096x8x128, .f32⟩
  | 122 => ⟨S4096x1024, .f32⟩
  | 123 => ⟨S4096x1024, .bf16⟩
  | 124 => ⟨S4096x8x128, .f32⟩
  | 125 => ⟨S4096x1024, .f32⟩
  | 126 => ⟨S4096x1024, .bf16⟩
  | 127 => ⟨S4096x512, .f32⟩
  | _ => ⟨S4096x1024, .f32⟩

abbrev hbmTy0_1 (i : Nat) : BufTy := match i % 128 with
  | 0 => ⟨S4096x512, .bf16⟩
  | 1 => ⟨S_, .f32⟩
  | 2 => ⟨S4096x64, .f32⟩
  | 3 => ⟨S_, .f32⟩
  | 4 => ⟨S4096x64, .f32⟩
  | 5 => ⟨S4096x2048, .f32⟩
  | 6 => ⟨S1024x4096, .bf16⟩
  | 7 => ⟨S512x4096, .bf16⟩
  | 8 => ⟨S_, .f32⟩
  | 9 => ⟨S4096x32, .f32⟩
  | 10 => ⟨S4096x128, .f32⟩
  | 11 => ⟨S_, .f32⟩
  | 12 => ⟨S4096x32, .f32⟩
  | 13 => ⟨S4096x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_13 : Ref sig .tc := ⟨.hbm, 116, rfl⟩
abbrev main_v94 : Ref sig .tc := ⟨.hbm, 117, rfl⟩
abbrev main_v95 : Ref sig .tc := ⟨.hbm, 118, rfl⟩
abbrev main_cst_14 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_cst_15 : Ref sig .tc := ⟨.hbm, 129, rfl⟩
abbrev main_v105 : Ref sig .tc := ⟨.hbm, 130, rfl⟩
abbrev main_cst_16 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_17 : Ref sig .tc := ⟨.hbm, 136, rfl⟩
abbrev main_v110 : Ref sig .tc := ⟨.hbm, 137, rfl⟩
abbrev main_v111 : Ref sig .tc := ⟨.hbm, 138, rfl⟩
abbrev main_cst_18 : Ref sig .tc := ⟨.hbm, 139, rfl⟩
abbrev main_v112 : Ref sig .tc := ⟨.hbm, 140, rfl⟩
abbrev main_v113 : Ref sig .tc := ⟨.hbm, 141, rfl⟩

abbrev nD : Nat := 1
abbrev τ : Topo := Topo.v7x

variable {F : FTy → Type} [FloatOps F]
-- ==== Kernel5.lean ====
abbrev S4096x1024 : Shape := ⟨2, ![4096, 1024]⟩
abbrev S4096 : Shape := ⟨1, ![4096]⟩
abbrev S4096x8x96 : Shape := ⟨3, ![4096, 8, 96]⟩
abbrev S4096x8x64 : Shape := ⟨3, ![4096, 8, 64]⟩
abbrev S4096x2048 : Shape := ⟨2, ![4096, 2048]⟩
abbrev S1024 : Shape := ⟨1, ![1024]⟩
abbrev S1024x2592 : Shape := ⟨2, ![1024, 2592]⟩
abbrev S384 : Shape := ⟨1, ![384]⟩
abbrev S384x8x96 : Shape := ⟨3, ![384, 8, 96]⟩
abbrev S128 : Shape := ⟨1, ![128]⟩
abbrev S128x8x128 : Shape := ⟨3, ![128, 8, 128]⟩
abbrev S2592x1024 : Shape := ⟨2, ![2592, 1024]⟩
abbrev S512x1024 : Shape := ⟨2, ![512, 1024]⟩
abbrev S_ : Shape := ⟨0, ![]⟩
abbrev S64x1024 : Shape := ⟨2, ![64, 1024]⟩
abbrev S32x1024 : Shape := ⟨2, ![32, 1024]⟩
abbrev S2048x1024 : Shape := ⟨2, ![2048, 1024]⟩
abbrev S2688x1024 : Shape := ⟨2, ![2688, 1024]⟩
abbrev S384x8x128 : Shape := ⟨3, ![384, 8, 128]⟩
abbrev S384x1024 : Shape := ⟨2, ![384, 1024]⟩
abbrev S128x8x64 : Shape := ⟨3, ![128, 8, 64]⟩
abbrev S128x1024 : Shape := ⟨2, ![128, 1024]⟩
abbrev S128x512 : Shape := ⟨2, ![128, 512]⟩
abbrev S4096x1 : Shape := ⟨2, ![4096, 1]⟩
abbrev S1x1024 : Shape := ⟨2, ![1, 1024]⟩
abbrev S4096x2592 : Shape := ⟨2, ![4096, 2592]⟩
abbrev S16 : Shape := ⟨1, ![16]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S4096x512 : Shape := ⟨2, ![4096, 512]⟩
abbrev S4096x384 : Shape := ⟨2, ![4096, 384]⟩
abbrev S4096x8x128 : Shape := ⟨3, ![4096, 8, 128]⟩
abbrev S1024x4096 : Shape := ⟨2, ![1024, 4096]⟩
abbrev S1x384 : Shape := ⟨2, ![1, 384]⟩
abbrev S1x128 : Shape := ⟨2, ![1, 128]⟩
abbrev S4x672x1024 : Shape := ⟨3, ![4, 672, 1024]⟩
abbrev S256x1024 : Shape := ⟨2, ![256, 1024]⟩
abbrev S256x384 : Shape := ⟨2, ![256, 384]⟩
abbrev S256x128 : Shape := ⟨2, ![256, 128]⟩
abbrev S1024x256 : Shape := ⟨2, ![1024, 256]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1x104x1024 : Shape := ⟨3, ![1, 104, 1024]⟩
abbrev S104x1024 : Shape := ⟨2, ![104, 1024]⟩
abbrev S1x648x1024 : Shape := ⟨3, ![1, 648, 1024]⟩
abbrev S648x1024 : Shape := ⟨2, ![648, 1024]⟩
abbrev S128x256 : Shape := ⟨2, ![128, 256]⟩
abbrev S256x640 : Shape := ⟨2, ![256, 640]⟩
abbrev S640x1024 : Shape := ⟨2, ![640, 1024]⟩
abbrev S1x512x1024 : Shape := ⟨3, ![1, 512, 1024]⟩
abbrev S1x32x1024 : Shape := ⟨3, ![1, 32, 1024]⟩

abbrev nBuf : Space → Nat
  | .hbm => 114
  | .vmem => 42
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1024, .f32⟩
  | .hbm, ⟨3, _⟩ => ⟨S4096x8x96, .f32⟩
  | .hbm, ⟨4, _⟩ => ⟨S4096x8x96, .f32⟩
  | .hbm, ⟨5, _⟩ => ⟨S4096x8x64, .f32⟩
  | .hbm, ⟨6, _⟩ => ⟨S4096x2048, .f32⟩
  | .hbm, ⟨7, _⟩ => ⟨S1024, .f32⟩
  | .hbm, ⟨8, _⟩ => ⟨S1024x2592, .f32⟩
  | .hbm, ⟨9, _⟩ => ⟨S384, .f32⟩
  | .hbm, ⟨10, _⟩ => ⟨S384x8x96, .f32⟩
  | .hbm, ⟨11, _⟩ => ⟨S128, .f32⟩
  | .hbm, ⟨12, _⟩ => ⟨S128x8x128, .f32⟩
  | .hbm, ⟨13, _⟩ => ⟨S2592x1024, .f32⟩
  | .hbm, ⟨14, _⟩ => ⟨S2592x1024, .bf16⟩
  | .hbm, ⟨15, _⟩ => ⟨S384x8x96, .bf16⟩
  | .hbm, ⟨16, _⟩ => ⟨S128x8x128, .bf16⟩
  | .hbm, ⟨17, _⟩ => ⟨S512x1024, .bf16⟩
  | .hbm, ⟨18, _⟩ => ⟨S_, .bf16⟩
  | .hbm, ⟨19, _⟩ => ⟨S64x1024, .bf16⟩
  | .hbm, ⟨20, _⟩ => ⟨S32x1024, .bf16⟩
  | .hbm, ⟨21, _⟩ => ⟨S_, .bf16⟩
  | .hbm, ⟨22, _⟩ => ⟨S32x1024, .bf16⟩
  | .hbm, ⟨23, _⟩ => ⟨S2048x1024, .bf16⟩
  | .hbm, ⟨24, _⟩ => ⟨S2688x1024, .bf16⟩
  | .hbm, ⟨25, _⟩ => ⟨S_, .i32⟩
  | .hbm, ⟨26, _⟩ => ⟨S_, .bf16⟩
  | .hbm, ⟨27, _⟩ => ⟨S384x8x128, .bf16⟩
  | .hbm, ⟨28, _⟩ => ⟨S384x1024, .bf16⟩
  | .hbm, ⟨29, _⟩ => ⟨S128x8x64, .bf16⟩
  | .hbm, ⟨30, _⟩ => ⟨S_, .i32⟩
  | .hbm, ⟨31, _⟩ => ⟨S_, .bf16⟩
  | .hbm, ⟨32, _⟩ => ⟨S128x8x128, .bf16⟩
  | .hbm, ⟨33, _⟩ => ⟨S128x1024, .bf16⟩
  | .hbm, ⟨34, _⟩ => ⟨S128x8x64, .bf16⟩
  | .hbm, ⟨35, _⟩ => ⟨S128x512, .bf16⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x2592, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S4096, .f32⟩
  | .hbm, ⟨70, _⟩ => ⟨S4096x1, .f32⟩
  | .hbm, ⟨71, _⟩ => ⟨S1x16, .f32⟩
  | .hbm, ⟨72, _⟩ => ⟨S4096x16, .f32⟩
  | .hbm, ⟨73, _⟩ => ⟨S4096x16, .f32⟩
  | .hbm, ⟨74, _⟩ => ⟨S4096x16, .f32⟩
  | .hbm, ⟨75, _⟩ => ⟨S4096x16, .f32⟩
  | .hbm, ⟨76, _⟩ => ⟨S4096x16, .f32⟩
  | .hbm, ⟨77, _⟩ => ⟨S_, .f32⟩
  | .hbm, ⟨78, _⟩ => ⟨S4096x64, .f32⟩
  | .hbm, ⟨79, _⟩ => ⟨S_, .f32⟩
  | .hbm, ⟨80, _⟩ => ⟨S4096x64, .f32⟩
  | .hbm, ⟨81, _⟩ => ⟨S_, .f32⟩
  | .hbm, ⟨82, _⟩ => ⟨S4096x32, .f32⟩
  | .hbm, ⟨83, _⟩ => ⟨S4096x128, .f32⟩
  | .hbm, ⟨84, _⟩ => ⟨S_, .f32⟩
  | .hbm, ⟨85, _⟩ => ⟨S4096x32, .f32⟩
  | .hbm, ⟨86, _⟩ => ⟨S4096x128, .f32⟩
  | .hbm, ⟨87, _⟩ => ⟨S4096x512, .f32⟩
  | .hbm, ⟨88, _⟩ => ⟨S4096x512, .f32⟩
  | .hbm, ⟨89, _⟩ => ⟨S4096x512, .f32⟩
  | .hbm, ⟨90, _⟩ => ⟨S4096x512, .f32⟩
  | .hbm, ⟨91, _⟩ => ⟨S4096x384, .f32⟩
  | .hbm, ⟨92, _⟩ => ⟨S4096x128, .f32⟩
  | .hbm, ⟨93, _⟩ => ⟨S_, .i32⟩
  | .hbm, ⟨94, _⟩ => ⟨S_, .f32⟩
  | .hbm, ⟨95, _⟩ => ⟨S4096x8x128, .f32⟩
  | .hbm, ⟨96, _⟩ => ⟨S4096x1024, .f32⟩
  | .hbm, ⟨97, _⟩ => ⟨S1024x4096, .f32⟩
  | .hbm, ⟨98, _⟩ => ⟨S_, .i32⟩
  | .hbm, ⟨99, _⟩ => ⟨S_, .f32⟩
  | .hbm, ⟨100, _⟩ => ⟨S4096x8x128, .f32⟩
  | .hbm, ⟨101, _⟩ => ⟨S4096x1024, .f32⟩
  | .hbm, ⟨102, _⟩ => ⟨S4096x512, .f32⟩
  | .hbm, ⟨103, _⟩ => ⟨S1x1024, .f32⟩
  | .hbm, ⟨104, _⟩ => ⟨S1x384, .f32⟩
  | .hbm, ⟨105, _⟩ => ⟨S1x128, .f32⟩
  | .hbm, ⟨106, _⟩ => ⟨S4096x1024, .f32⟩
  | .hbm, ⟨107, _⟩ => ⟨S4x672x1024, .f32⟩
  | .hbm, ⟨108, _⟩ => ⟨S384x1024, .f32⟩
  | .hbm, ⟨109, _⟩ => ⟨S128x1024, .f32⟩
  | .hbm, ⟨110, _⟩ => ⟨S128x512, .f32⟩
  | .hbm, ⟨111, _⟩ => ⟨S1x1024, .f32⟩
  | .hbm, ⟨112, _⟩ => ⟨S1x384, .f32⟩
  | .hbm, ⟨113, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x384, .f32⟩
  | .local _ .vmem, ⟨5, _⟩ => ⟨S256x384, .f32⟩
  | .local _ .vmem, ⟨6, _⟩ => ⟨S256x128, .f32⟩
  | .local _ .vmem, ⟨7, _⟩ => ⟨S256x128, .f32⟩
  | .local _ .vmem, ⟨8, _⟩ => ⟨S1024x256, .f32⟩
  | .local _ .vmem, ⟨9, _⟩ => ⟨S1024x256, .f32⟩
  | .local _ .vmem, ⟨10, _⟩ => ⟨S256x1024, .f32⟩
  | .local _ .vmem, ⟨11, _⟩ => ⟨S256x1024, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S1x1024, .f32⟩
  | .local _ .vmem, ⟨27, _⟩ => ⟨S2688x1024, .bf16⟩
  | .local _ .vmem, ⟨28, _⟩ => ⟨S1x384, .f32⟩
  | .local _ .vmem, ⟨29, _⟩ => ⟨S384x1024, .bf16⟩
  | .local _ .vmem, ⟨30, _⟩ => ⟨S1x128, .f32⟩
  | .local _ .vmem, ⟨31, _⟩ => ⟨S128x1024, .bf16⟩
  | .local _ .vmem, ⟨32, _⟩ => ⟨S128x512, .bf16⟩
  | .local _ .vmem, ⟨33, _⟩ => ⟨S256x1024, .f32⟩
  | .local _ .vmem, ⟨34, _⟩ => ⟨S256x1024, .f32⟩
  | .local _ .vmem, ⟨35, _⟩ => ⟨S4x672x1024, .f32⟩
  | .local _ .vmem, ⟨36, _⟩ => ⟨S384x1024, .f32⟩
  | .local _ .vmem, ⟨37, _⟩ => ⟨S128x1024, .f32⟩
  | .local _ .vmem, ⟨38, _⟩ => ⟨S128x512, .f32⟩
  | .local _ .vmem, ⟨39, _⟩ => ⟨S1x1024, .f32⟩
  | .local _ .vmem, ⟨40, _⟩ => ⟨S1x384, .f32⟩
  | .local _ .vmem, ⟨41, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_call0_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_call1_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_cst_11 : Ref sig .tc := ⟨.hbm, 79, rfl⟩
abbrev main_v51 : Ref sig .tc := ⟨.hbm, 80, rfl⟩
abbrev main_cst_12 : Ref sig .tc := ⟨.hbm, 81, rfl⟩
abbrev main_v52 : Ref sig .tc := ⟨.hbm, 82, rfl⟩
abbrev main_v53 : Ref sig .tc := ⟨.hbm, 83, rfl⟩
abbrev main_cst_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_call2_v0 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_15 : Ref sig .tc := ⟨.hbm, 98, rfl⟩
abbrev main_call3_v0 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71_0 : Ref sig .tc := ⟨.hbm, 106, rfl⟩
abbrev main_v71_1 : Ref sig .tc := ⟨.hbm, 107, rfl⟩
abbrev main_v71_2 : Ref sig .tc := ⟨.hbm, 108, rfl⟩
abbrev main_v71_3 : Ref sig .tc := ⟨.hbm, 109, rfl⟩
abbrev main_v71_4 : Ref sig .tc := ⟨.hbm, 110, rfl⟩
abbrev main_v71_5 : Ref sig .tc := ⟨.hbm, 111, rfl⟩
abbrev main_v71_6 : Ref sig .tc := ⟨.hbm, 112, rfl⟩
abbrev main_v71_7 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_stg26_0 : Ref sig .tc := ⟨.vmem, 40, rfl⟩
abbrev cc0_stg27_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem20_1 : DmaSem sig := 34
abbrev cc0_sem21_0 : DmaSem sig := 35
abbrev cc0_sem22_0 : DmaSem sig := 36
abbrev cc0_sem23_0 : DmaSem sig := 37
abbrev cc0_sem24_0 : DmaSem sig := 38
abbrev cc0_sem25_0 : DmaSem sig := 39
abbrev cc0_sem26_0 : DmaSem sig := 40
abbrev cc0_sem27_0 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2688x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S384x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S4x672x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S384x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x384 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== Reference5Ideal.lean ====
abbrev S4096x1024 : Shape := ⟨2, ![4096, 1024]⟩
abbrev S4096 : Shape := ⟨1, ![4096]⟩
abbrev S4096x8x96 : Shape := ⟨3, ![4096, 8, 96]⟩
abbrev S4096x8x64 : Shape := ⟨3, ![4096, 8, 64]⟩
abbrev S4096x2048 : Shape := ⟨2, ![4096, 2048]⟩
abbrev S1024 : Shape := ⟨1, ![1024]⟩
abbrev S1024x2592 : Shape := ⟨2, ![1024, 2592]⟩
abbrev S384 : Shape := ⟨1, ![384]⟩
abbrev S384x8x96 : Shape := ⟨3, ![384, 8, 96]⟩
abbrev S128 : Shape := ⟨1, ![128]⟩
abbrev S128x8x128 : Shape := ⟨3, ![128, 8, 128]⟩
abbrev S_ : Shape := ⟨0, ![]⟩
abbrev S4096x1 : Shape := ⟨2, ![4096, 1]⟩
abbrev S1x1024 : Shape := ⟨2, ![1, 1024]⟩
abbrev S4096x2592 : Shape := ⟨2, ![4096, 2592]⟩
abbrev S4096x384 : Shape := ⟨2, ![4096, 384]⟩
abbrev S4096x128 : Shape := ⟨2, ![4096, 128]⟩
abbrev S4096x32 : Shape := ⟨2, ![4096, 32]⟩
abbrev S1x384 : Shape := ⟨2, ![1, 384]⟩
abbrev S4096x8x32 : Shape := ⟨3, ![4096, 8, 32]⟩
abbrev S1x128 : Shape := ⟨2, ![1, 128]⟩
abbrev S4096x8x128 : Shape := ⟨3, ![4096, 8, 128]⟩
abbrev S16 : Shape := ⟨1, ![16]⟩
abbrev S1x16 : Shape := ⟨2, ![1, 16]⟩
abbrev S4096x16 : Shape := ⟨2, ![4096, 16]⟩
abbrev S4096x1x16 : Shape := ⟨3, ![4096, 1, 16]⟩
abbrev S4096x8x16 : Shape := ⟨3, ![4096, 8, 16]⟩
abbrev S4096x1x32 : Shape := ⟨3, ![4096, 1, 32]⟩

abbrev nBuf : Space → Nat
  | .hbm => 257
  | .vmem => 0
  | .smem => 0
  | _ => 0

abbrev hbmTy0_0 (i : Nat) : BufTy := match i % 128 with
  | 0 => ⟨S4096x1024, .f32⟩
  | 1 => ⟨S4096, .i32⟩
  | 2 => ⟨S4096x1024, .f32⟩
  | 3 => ⟨S4096x8x96, .f32⟩
  | 4 => ⟨S4096x8x96, .f32⟩
  | 5 => ⟨S4096x8x64, .f32⟩
  | 6 => ⟨S4096x2048, .f32⟩
  | 7 => ⟨S1024, .f32⟩
  | 8 => ⟨S1024x2592, .f32⟩
  | 9 => ⟨S384, .f32⟩
  | 10 => ⟨S384x8x96, .f32⟩
  | 11 => ⟨S128, .f32⟩
  | 12 => ⟨S128x8x128, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S1x1024, .f32⟩
  | 31 => ⟨S4096x1024, .f32⟩
  | 32 => ⟨S4096x1024, .f32⟩
  | 33 => ⟨S4096x2592, .f32⟩
  | 34 => ⟨S4096x384, .f32⟩
  | 35 => ⟨S4096x128, .f32⟩
  | 36 => ⟨S4096x32, .f32⟩
  | 37 => ⟨S4096x384, .f32⟩
  | 38 => ⟨S_, .f32⟩
  | 39 => ⟨S4096, .f32⟩
  | 40 => ⟨S4096x1, .f32⟩
  | 41 => ⟨S_, .f32⟩
  | 42 => ⟨S4096x1, .f32⟩
  | 43 => ⟨S4096x1, .f32⟩
  | 44 => ⟨S_, .f32⟩
  | 45 => ⟨S4096x1, .f32⟩
  | 46 => ⟨S4096x1, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x384, .f32⟩
  | 53 => ⟨S4096x384, .f32⟩
  | 54 => ⟨S1x384, .f32⟩
  | 55 => ⟨S4096x384, .f32⟩
  | 56 => ⟨S4096x384, .f32⟩
  | 57 => ⟨S4096x8x96, .f32⟩
  | 58 => ⟨S4096x8x64, .f32⟩
  | 59 => ⟨S4096x8x32, .f32⟩
  | 60 => ⟨S4096x128, .f32⟩
  | 61 => ⟨S_, .f32⟩
  | 62 => ⟨S4096, .f32⟩
  | 63 => ⟨S4096x1, .f32⟩
  | 64 => ⟨S_, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x128, .f32⟩
  | 76 => ⟨S4096x128, .f32⟩
  | 77 => ⟨S1x128, .f32⟩
  | 78 => ⟨S4096x128, .f32⟩
  | 79 => ⟨S4096x128, .f32⟩
  | 80 => ⟨S4096x8x128, .f32⟩
  | 81 => ⟨S4096x8x64, .f32⟩
  | 82 => ⟨S4096x8x64, .f32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S4096, .f32⟩
  | 100 => ⟨S4096x1, .f32⟩
  | 101 => ⟨S1x16, .f32⟩
  | 102 => ⟨S4096x16, .f32⟩
  | 103 => ⟨S4096x16, .f32⟩
  | 104 => ⟨S4096x16, .f32⟩
  | 105 => ⟨S4096x16, .f32⟩
  | 106 => ⟨S4096x16, .f32⟩
  | 107 => ⟨S4096x1x16, .f32⟩
  | 108 => ⟨S4096x1x16, .f32⟩
  | 109 => ⟨S4096x8x16, .f32⟩
  | 110 => ⟨S4096x8x16, .f32⟩
  | 111 => ⟨S4096x8x16, .f32⟩
  | 112 => ⟨S4096x8x16, .f32⟩
  | 113 => ⟨S4096x8x16, .f32⟩
  | 114 => ⟨S4096x8x16, .f32⟩
  | 115 => ⟨S4096x8x16, .f32⟩
  | 116 => ⟨S4096x8x16, .f32⟩
  | 117 => ⟨S4096x8x16, .f32⟩
  | 118 => ⟨S4096x8x16, .f32⟩
  | 119 => ⟨S4096x8x16, .f32⟩
  | 120 => ⟨S4096x8x16, .f32⟩
  | 121 => ⟨S4096x8x32, .f32⟩
  | 122 => ⟨S4096x16, .f32⟩
  | 123 => ⟨S4096x16, .f32⟩
  | 124 => ⟨S4096x16, .f32⟩
  | 125 => ⟨S4096x16, .f32⟩
  | 126 => ⟨S4096x16, .f32⟩
  | 127 => ⟨S4096x16, .f32⟩
  | _ => ⟨S4096x1024, .f32⟩

abbrev hbmTy0_1 (i : Nat) : BufTy := match i % 128 with
  | 0 => ⟨S4096x16, .f32⟩
  | 1 => ⟨S4096x16, .f32⟩
  | 2 => ⟨S4096x32, .f32⟩
  | 3 => ⟨S4096x1x32, .f32⟩
  | 4 => ⟨S4096x8x32, .f32⟩
  | 5 => ⟨S4096x8x96, .f32⟩
  | 6 => ⟨S_, .f32⟩
  | 7 => ⟨S4096x8x96, .f32⟩
  | 8 => ⟨S4096x8x96, .f32⟩
  | 9 => ⟨S4096x8x96, .f32⟩
  | 10 => ⟨S4096x2048, .f32⟩
  | 11 => ⟨S_, .f32⟩
  | 12 => ⟨S4096x2592, .f32⟩
  | 13 => ⟨S4096x8x64, .f32⟩
  | 14 => ⟨S4096x8x32, .f32⟩
  | 15 => ⟨S_, .f32⟩
  | 16 => ⟨S4096x8x96, .f32⟩
  | 17 => ⟨S4096x8x96, .f32⟩
  | 18 => ⟨S4096x8x64, .f32⟩
  | 19 => ⟨S4096x8x32, .f32⟩
  | 20 => ⟨S_, .f32⟩
  | 21 => ⟨S4096x32, .f32⟩
  | 22 => ⟨S4096x1x32, .f32⟩
  | 23 => ⟨S_, .f32⟩
  | 24 => ⟨S4096x32, .f32⟩
  | 25 => ⟨S4096x16, .f32⟩
  | 26 => ⟨S4096x16, .f32⟩
  | 27 => ⟨S4096x16, .f32⟩
  | 28 => ⟨S4096x16, .f32⟩
  | 29 => ⟨S4096x16, .f32⟩
  | 30 => ⟨S4096x16, .f32⟩
  | 31 => ⟨S4096x16, .f32⟩
  | 32 => ⟨S4096x16, .f32⟩
  | 33 => ⟨S4096x16, .f32⟩
  | 34 => ⟨S4096x32, .f32⟩
  | 35 => ⟨S4096x8x16, .f32⟩
  | 36 => ⟨S4096x8x16, .f32⟩
  | 37 => ⟨S4096x8x16, .f32⟩
  | 38 => ⟨S4096x8x16, .f32⟩
  | 39 => ⟨S4096x8x16, .f32⟩
  | 40 => ⟨S4096x8x16, .f32⟩
  | 41 => ⟨S4096x8x16, .f32⟩
  | 42 => ⟨S4096x8x16, .f32⟩
  | 43 => ⟨S4096x8x16, .f32⟩
  | 44 => ⟨S4096x8x16, .f32⟩
  | 45 => ⟨S4096x8x16, .f32⟩
  | 46 => ⟨S4096x8x16, .f32⟩
  | 47 => ⟨S4096x8x16, .f32⟩
  | 48 => ⟨S4096x8x32, .f32⟩
  | 49 => ⟨S_, .f32⟩
  | 50 => ⟨S4096x8x128, .f32⟩
  | 51 => ⟨S_, .f32⟩
  | 52 => ⟨S4096x8x128, .f32⟩
  | 53 => ⟨S4096x8x128, .f32⟩
  | 54 => ⟨S4096x128, .f32⟩
  | 55 => ⟨S4096x128, .f32⟩
  | 56 => ⟨S4096x128, .f32⟩
  | 57 => ⟨S4096x128, .f32⟩
  | 58 => ⟨S_, .f32⟩
  | 59 => ⟨S4096, .f32⟩
  | 60 => ⟨S4096x1, .f32⟩
  | 61 => ⟨S4096x128, .f32⟩
  | 62 => ⟨S4096x128, .f32⟩
  | 63 => ⟨S4096x1, .f32⟩
  | 64 => ⟨S_, .f32⟩
  | 65 => ⟨S4096x1, .f32⟩
  | 66 => ⟨S4096x1, .f32⟩
  | 67 => ⟨S_, .f32⟩
  | 68 => ⟨S4096, .f32⟩
  | 69 => ⟨S4096x128, .f32⟩
  | 70 => ⟨S4096x128, .f32⟩
  | 71 => ⟨S4096x128, .f32⟩
  | 72 => ⟨S4096x128, .f32⟩
  | 73 => ⟨S4096x128, .f32⟩
  | 74 => ⟨S_, .f32⟩
  | 75 => ⟨S4096x8x96, .f32⟩
  | 76 => ⟨S_, .f32⟩
  | 77 => ⟨S4096x8x96, .f32⟩
  | 78 => ⟨S4096x8x96, .f32⟩
  | 79 => ⟨S4096x384, .f32⟩
  | 80 => ⟨S4096x384, .f32⟩
  | 81 => ⟨S4096x384, .f32⟩
  | 82 => ⟨S4096x384, .f32⟩
  | 83 => ⟨S_, .f32⟩
  | 84 => ⟨S4096, .f32⟩
  | 85 => ⟨S4096x1, .f32⟩
  | 86 => ⟨S4096x384, .f32⟩
  | 87 => ⟨S4096x384, .f32⟩
  | 88 => ⟨S4096x1, .f32⟩
  | 89 => ⟨S_, .f32⟩
  | 90 => ⟨S4096x1, .f32⟩
  | 91 => ⟨S4096x1, .f32⟩
  | 92 => ⟨S_, .f32⟩
  | 93 => ⟨S4096, .f32⟩
  | 94 => ⟨S4096x384, .f32⟩
  | 95 => ⟨S4096x384, .f32⟩
  | 96 => ⟨S4096x384, .f32⟩
  | 97 => ⟨S4096x384, .f32⟩
  | 98 => ⟨S4096x384, .f32⟩
  | 99 => ⟨S_, .f32⟩
  | 100 => ⟨S4096x2592, .f32⟩
  | 101 => ⟨S4096x2592, .f32⟩
  | 102 => ⟨S_, .f32⟩
  | 103 => ⟨S4096x2592, .f32⟩
  | 104 => ⟨S4096x2592, .f32⟩
  | 105 => ⟨S_, .f32⟩
  | 106 => ⟨S4096x2592, .f32⟩
  | 107 => ⟨S4096x2592, .f32⟩
  | 108 => ⟨S4096x1024, .f32⟩
  | 109 => ⟨S4096x1024, .f32⟩
  | 110 => ⟨S4096x1024, .f32⟩
  | 111 => ⟨S4096x1024, .f32⟩
  | 112 => ⟨S_, .f32⟩
  | 113 => ⟨S4096, .f32⟩
  | 114 => ⟨S4096x1, .f32⟩
  | 115 => ⟨S4096x1024, .f32⟩
  | 116 => ⟨S4096x1024, .f32⟩
  | 117 => ⟨S4096x1024, .f32⟩
  | 118 => ⟨S4096x1, .f32⟩
  | 119 => ⟨S_, .f32⟩
  | 120 => ⟨S4096x1, .f32⟩
  | 121 => ⟨S4096x1, .f32⟩
  | 122 => ⟨S_, .f32⟩
  | 123 => ⟨S4096, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_2 (i : Nat) : BufTy := match i % 128 with
  | 0 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_v65 : Ref sig .tc := ⟨.hbm, 94, rfl⟩
abbrev main_v66 : Ref sig .tc := ⟨.hbm, 95, rfl⟩
abbrev main_cst_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_16 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_17 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_18 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_19 : Ref sig .tc := ⟨.hbm, 148, rfl⟩
abbrev main_v115 : Ref sig .tc := ⟨.hbm, 149, rfl⟩
abbrev main_v116 : Ref sig .tc := ⟨.hbm, 150, rfl⟩
abbrev main_cst_20 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_cst_21 : Ref sig .tc := ⟨.hbm, 177, rfl⟩
abbrev main_v142 : Ref sig .tc := ⟨.hbm, 178, rfl⟩
abbrev main_cst_22 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_cst_23 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_cst_24 : Ref sig .tc := ⟨.hbm, 192, rfl⟩
abbrev main_v154 : Ref sig .tc := ⟨.hbm, 193, rfl⟩
abbrev main_v155 : Ref sig .tc := ⟨.hbm, 194, rfl⟩
abbrev main_cst_25 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_cst_26 : Ref sig .tc := ⟨.hbm, 202, rfl⟩
abbrev main_v162 : Ref sig .tc := ⟨.hbm, 203, rfl⟩
abbrev main_cst_27 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_28 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_cst_29 : Ref sig .tc := ⟨.hbm, 217, rfl⟩
abbrev main_v174 : Ref sig .tc := ⟨.hbm, 218, rfl⟩
abbrev main_v175 : Ref sig .tc := ⟨.hbm, 219, rfl⟩
abbrev main_cst_30 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_cst_31 : Ref sig .tc := ⟨.hbm, 227, rfl⟩
abbrev main_v182 : Ref sig .tc := ⟨.hbm, 228, rfl⟩
abbrev main_v183 : Ref sig .tc := ⟨.hbm, 229, rfl⟩
abbrev main_cst_32 : Ref sig .tc := ⟨.hbm, 230, rfl⟩
abbrev main_v184 : Ref sig .tc := ⟨.hbm, 231, rfl⟩
abbrev main_v185 : Ref sig .tc := ⟨.hbm, 232, rfl⟩
abbrev main_cst_33 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_cst_34 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_cst_35 : Ref sig .tc := ⟨.hbm, 247, rfl⟩
abbrev main_v198 : Ref sig .tc := ⟨.hbm, 248, rfl⟩
abbrev main_v199 : Ref sig .tc := ⟨.hbm, 249, rfl⟩
abbrev main_cst_36 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩

abbrev nD : Nat := 1
abbrev τ : Topo := Topo.v7x

variable {F : FTy → Type} [FloatOps F]
-- ==== Proof.FrameK.lean ====
module

public import proofs.«01_k».proof.Proof.Gen.Kernel.Frame
public import proofs.«01_k».proof.Proof.Gen.Kernel.Skeleton
public import Idealize.ShloMosaic.Lib.Pipeline.ValueKit
public import Idealize.ShloMosaic.Lib.WritesUnit
public import Idealize.ShloMosaic.Lib.LoopRemainder

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The frame of the kernel as it is printed, whatever its floats are: the results' contents are not named. -/

variable {F : FTy → Type} [FloatOps F]

local notation "𝕄" => MT nD τ sig Unit (Elt F) ℕ (UR sig nD τ) ℕ

/-- What the loop holds before a trip: what it reads, and in what it writes anything. -/
abbrev inv (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x2x4096 .f32) (harg7 : arg7.IsWhole) (arg8 : Memref sig .tc .vmem S2x2x4096 .f32) (harg8 : arg8.IsWhole) (arg9 : Memref sig .tc .vmem S512x4096 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S4x512x128 .bf16) (harg12 : arg12.IsWhole) (arg13 : Memref sig .tc .vmem S4x512x128 .f32) (harg13 : arg13.IsWhole) (X2 : BufTy.Contents (Elt F) arg2.view.ty) (X3 : BufTy.Contents (Elt F) arg3.view.ty) (X4 : BufTy.Contents (Elt F) arg4.view.ty) (X6 : BufTy.Contents (Elt F) arg6.view.ty) (X7 : BufTy.Contents (Elt F) arg7.view.ty) (X8 : BufTy.Contents (Elt F) arg8.view.ty) (X12 : BufTy.Contents (Elt F) arg12.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} X12) ∗ (∃ f, (arg9.view.loc (c : Thread nD τ) ↦[arg9.view.set]{fullShare} f)) ∗ (∃ f, (arg10.view.loc (c : Thread nD τ) ↦[arg10.view.set]{fullShare} f)) ∗ (∃ f, (arg13.view.loc (c : Thread nD τ) ↦[arg13.view.set]{fullShare} f)))

set_option maxHeartbeats 4000000 in
/-- One trip of the loop keeps that. -/
theorem trip (𝒱 : Variants) (c : Dev nD) (bd : Option 𝒱.V) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x2x4096 .f32) (harg7 : arg7.IsWhole) (arg8 : Memref sig .tc .vmem S2x2x4096 .f32) (harg8 : arg8.IsWhole) (arg9 : Memref sig .tc .vmem S512x4096 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S4x512x128 .bf16) (harg12 : arg12.IsWhole) (arg13 : Memref sig .tc .vmem S4x512x128 .f32) (harg13 : arg13.IsWhole) (arg1 : BitVec 32) (v43 : BitVec 32) (v243 : FVec F S512x512 .f32) (v249 : FVec F S512x512 .f32) (v251 : FVec F S512x128 .f32) (v280 : BitVec 32) (X2 : BufTy.Contents (Elt F) arg2.view.ty) (X3 : BufTy.Contents (Elt F) arg3.view.ty) (X4 : BufTy.Contents (Elt F) arg4.view.ty) (X6 : BufTy.Contents (Elt F) arg6.view.ty) (X7 : BufTy.Contents (Elt F) arg7.view.ty) (X8 : BufTy.Contents (Elt F) arg8.view.ty) (X12 : BufTy.Contents (Elt F) arg12.view.ty) (k : Fin (k0_t1_loop i).trips) (E : Set ℕ) (acc : BitVec 32) :
    inv c i arg2 harg2 arg3 harg3 arg4 harg4 arg5 harg5 arg6 harg6 arg7 harg7 arg8 harg8 arg9 harg9 arg10 harg10 arg11 harg11 arg12 harg12 arg13 harg13 X2 X3 X4 X6 X7 X8 X12 ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg1 v43 v243 v249 v251 v280 k acc) fun _ =>
      (inv c i arg2 harg2 arg3 harg3 arg4 harg4 arg5 harg5 arg6 harg6 arg7 harg7 arg8 harg8 arg9 harg9 arg10 harg10 arg11 harg11 arg12 harg12 arg13 harg13 X2 X3 X4 X6 X7 X8 X12 : sProp 𝕄) := by
  unfold inv k0_t1_body
  simp only [k0_part1_eq_skeleton, k0_part2_eq_skeleton, k0_part3_eq_skeleton, k0_part4_eq_skeleton, k0_part5_eq_skeleton, k0_part6_eq_skeleton]
  iintro ⟨H2, H3, H4, H6, H7, H8, H12, ⟨%f9, H9⟩, ⟨%f10, H10⟩, ⟨%f13, H13⟩⟩
  sl_exec
  sl_step
  isplitl [H2]; · iexact H2
  isplitl [H3]; · iexact H3
  isplitl [H4]; · iexact H4
  isplitl [H6]; · iexact H6
  isplitl [H7]; · iexact H7
  isplitl [H8]; · iexact H8
  isplitl [H12]; · iexact H12
  isplitl [H9]; · iexists _; iexact H9
  isplitl [H10]; · iexists _; iexact H10
  iexists _; iexact H13

set_option warn.classDefReducibility false in
/-- The loop over the query blocks below the diagonal, by its invariant. -/
@[sl_loop] def loopInv (𝒱 : Variants) (c : Dev nD) (bd : Option 𝒱.V) (E : Set ℕ) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x2x4096 .f32) (harg7 : arg7.IsWhole) (arg8 : Memref sig .tc .vmem S2x2x4096 .f32) (harg8 : arg8.IsWhole) (arg9 : Memref sig .tc .vmem S512x4096 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S4x512x128 .bf16) (harg12 : arg12.IsWhole) (arg13 : Memref sig .tc .vmem S4x512x128 .f32) (harg13 : arg13.IsWhole) (arg1 : BitVec 32) (v43 : BitVec 32) (v243 : FVec F S512x512 .f32) (v249 : FVec F S512x512 .f32) (v251 : FVec F S512x128 .f32) (v280 : BitVec 32) (X2 : BufTy.Contents (Elt F) arg2.view.ty) (X3 : BufTy.Contents (Elt F) arg3.view.ty) (X4 : BufTy.Contents (Elt F) arg4.view.ty) (X6 : BufTy.Contents (Elt F) arg6.view.ty) (X7 : BufTy.Contents (Elt F) arg7.view.ty) (X8 : BufTy.Contents (Elt F) arg8.view.ty) (X12 : BufTy.Contents (Elt F) arg12.view.ty) (init : BitVec 32) :
    Idealize.ShloMosaic.LoopInv (M := MT nD τ sig Unit (Elt F) ℕ (UR sig nD τ) ℕ) Idealize.ShloMosaic.frame (wpE defs₀ 𝒱 (c : Thread nD τ) bd) E
      (k0_t1_loop i).lb (k0_t1_loop i).ub (k0_t1_loop i).st (k0_t1_ok i) init (k0_t1_body (F := F) i arg2 harg2 arg3 harg3 arg4 harg4 arg5 harg5 arg6 harg6 arg7 harg7 arg8 harg8 arg9 harg9 arg10 harg10 arg11 harg11 arg12 harg12 arg13 harg13 arg1 v43 v243 v249 v251 v280) where
  inv _ _ := inv c i arg2 harg2 arg3 harg3 arg4 harg4 arg5 harg5 arg6 harg6 arg7 harg7 arg8 harg8 arg9 harg9 arg10 harg10 arg11 harg11 arg12 harg12 arg13 harg13 X2 X3 X4 X6 X7 X8 X12
  step k acc := trip 𝒱 c bd i arg2 harg2 arg3 harg3 arg4 harg4 arg5 harg5 arg6 harg6 arg7 harg7 arg8 harg8 arg9 harg9 arg10 harg10 arg11 harg11 arg12 harg12 arg13 harg13 arg1 v43 v243 v249 v251 v280 X2 X3 X4 X6 X7 X8 X12 k E acc

set_option maxHeartbeats 8000000 in
/-- The kernel's body at a grid point leaves what it reads alone. -/
theorem run (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x2x4096 .f32) (harg7 : arg7.IsWhole) (arg8 : Memref sig .tc .vmem S2x2x4096 .f32) (harg8 : arg8.IsWhole) (arg9 : Memref sig .tc .vmem S512x4096 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S4x512x128 .bf16) (harg12 : arg12.IsWhole) (arg13 : Memref sig .tc .vmem S4x512x128 .f32) (harg13 : arg13.IsWhole) (x2 : Vec F S4096x512 .bf16) (x3 : Vec F S512x512 .bf16) (x4 : Vec F S512x512 .bf16) (x5 : Vec F S512x256 .bf16) (x6 : Vec F S4096x256 .bf16) (x7 : Vec F S2x2x4096 .f32) (x8 : Vec F S2x2x4096 .f32) (E : Set ℕ) (K : PUnit → sProp 𝕄) :
   iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩)) ⊢ wp frame (wpE (defs₀ (F := F)) Variants.none c none) E (cc0_attn_bwd (F := F) i arg2 harg2 arg3 harg3 arg4 harg4 arg5 harg5 arg6 harg6 arg7 harg7 arg8 harg8 arg9 harg9 arg10 harg10 arg11 harg11 arg12 harg12 arg13 harg13) K := by
  simp only [cc0_attn_bwd_eq_skeleton]; unfold cc0_attn_bwd_skel
  simp only [k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

variable (m : (ℓ : Loc nD τ sig) → Buf (Elt F) ℓ) (ρ : Dev nD → PrngReg)

/-- The proof data: the arrays as the launch finds them, the inputs' buffers at their blocks, the results' buffers at any
contents (these are forgotten below). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := Pipeline.ΦA spec0 c
  q _ := fullShare
  owed _ := 0

/-- The results' buffers, of whose contents nothing is said. -/
def fgt : Fin cfg0.W → Bool := fun w => decide (7 ≤ w.val)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

abbrev ms0_0 (t : Fin cfg0.N) : Memref sig .tc .vmem S4096x512 .bf16 := win0_0.stage (cfg0.slots t 0)
abbrev ms0_1 (t : Fin cfg0.N) : Memref sig .tc .vmem S512x512 .bf16 := win0_1.stage (cfg0.slots t 1)
abbrev ms0_2 (t : Fin cfg0.N) : Memref sig .tc .vmem S512x512 .bf16 := win0_2.stage (cfg0.slots t 2)
abbrev ms0_3 (t : Fin cfg0.N) : Memref sig .tc .vmem S512x256 .bf16 := win0_3.stage (cfg0.slots t 3)
abbrev ms0_4 (t : Fin cfg0.N) : Memref sig .tc .vmem S4096x256 .bf16 := win0_4.stage (cfg0.slots t 4)
abbrev ms0_5 (t : Fin cfg0.N) : Memref sig .tc .vmem S2x2x4096 .f32 := win0_5.stage (cfg0.slots t 5)
abbrev ms0_6 (t : Fin cfg0.N) : Memref sig .tc .vmem S2x2x4096 .f32 := win0_6.stage (cfg0.slots t 6)
abbrev ms0_7 (t : Fin cfg0.N) : Memref sig .tc .vmem S512x4096 .f32 := win0_7.stage (cfg0.slots t 7)
abbrev ms0_8 (t : Fin cfg0.N) : Memref sig .tc .vmem S512x512 .f32 := win0_8.stage (cfg0.slots t 8)
abbrev ms0_9 (t : Fin cfg0.N) : Memref sig .tc .vmem S512x256 .f32 := win0_9.stage (cfg0.slots t 9)
abbrev scM0_0 : Memref sig .tc .vmem S4x512x128 .bf16 := Memref.whole cc0_scratch0
abbrev scM0_1 : Memref sig .tc .vmem S4x512x128 .f32 := Memref.whole cc0_scratch1

/-- The scratch buffers, each owned at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2400000 in
/-- The body at any grid point. -/
theorem sound_body (c : Dev nD) (t : Fin cfg0.N) :
    bodyPre m c t ⊢ wp frame (wpE (defs₀ (F := F)) Variants.none c none) Set.univ (bodyAt0 (F := F) t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

/-- The body's obligation, at every grid point. -/
theorem body_obligation (c : Dev nD) : Pipeline.BodyObligationLoose (dats m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run: every execution ends with every array that is not a result as the launch found it, and every semaphore
counter at zero. -/
theorem run_main : θ_run defs (onTc (τ := τ) (main (F := F))) (s₀ m ρ) (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The frame: the argument arrays end as launched, every semaphore counter at zero. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c)⟩, h.2⟩) (run_main m ρ)

end Cert.Kernel.Hand

end
-- ==== Proof.Ops.lean ====
module

public import proofs.«01_k».proof.Proof.Gen.KernelIdeal.Skeleton
public import Idealize.ShloMosaic.Lib.Pointwise
public import Idealize.ShloMosaic.Lib.VecWindow
public import Idealize.ShloMosaic.Lib.WordCmp

@[expose] public section

set_option maxRecDepth 16384

noncomputable section

/-! What one step of the kernel's body computes, a vector operation at a time, and each of these read at an index. -/

namespace Cert.KernelIdeal.Hand

open Cert.KernelIdeal Cert.KernelIdeal.Gen
open Idealize.ShloMosaic Idealize.ShloMosaic.TcCoe Idealize.SL.Sem

/-- Row `c` of the block `b` of 512 rows, among 4096. -/
def row (b : Fin 8) (c : Fin 512) : Fin 4096 := ⟨512 * b.val + c.val, by omega⟩
/-- Lane `d` of head `a`, among the 512 of the four heads. -/
def hd (a : Fin 4) (d : Fin 128) : Fin 512 := ⟨128 * a.val + d.val, by omega⟩
/-- Lane `e` of the pair of heads that holds head `a`, among 256. -/
def pr (a : Fin 4) (e : Fin 128) : Fin 256 := ⟨128 * (a.val / 2) + e.val, by omega⟩
/-- The pair of head `a`. -/
def hp (a : Fin 4) : Fin 2 := ⟨a.val / 2, by omega⟩
/-- The place of head `a` in its pair. -/
def hr (a : Fin 4) : Fin 2 := ⟨a.val % 2, by omega⟩
/-- The head of lane `l`. -/
def hdOf (l : Fin 512) : Fin 4 := ⟨l.val / 128, by omega⟩

/-- The scores of one key block against one query block. -/
def scOp (kW qW : Vec Ideal S512x128 .bf16) : FVec Ideal S512x512 .f32 :=
  matmul dot_S512x128_S512x128_S512x512_1_1_0_0_n_n none (shapeCast S512x128 kW shapeCasts_S512x128_S512x128 : FVec Ideal S512x128 .bf16)
    (shapeCast S512x128 qW shapeCasts_S512x128_S512x128 : FVec Ideal S512x128 .bf16) (constant S512x512 .f32 0x00000000#32)

/-- The values against the incoming gradient. -/
def dpOp (vW : Vec Ideal S1x512x128 .bf16) (oW : Vec Ideal S512x128 .bf16) : FVec Ideal S512x512 .f32 :=
  matmul dot_S512x128_S512x128_S512x512_1_1_0_0_n_n none (shapeCast S512x128 vW shapeCasts_S1x512x128_S512x128 : FVec Ideal S512x128 .bf16)
    (shapeCast S512x128 oW shapeCasts_S512x128_S512x128 : FVec Ideal S512x128 .bf16) (constant S512x512 .f32 0x00000000#32)

/-- The probabilities of one step below the diagonal. -/
def pOp (s : FVec Ideal S512x512 .f32) (lW : Vec Ideal S1x1x512 .f32) : FVec Ideal S512x512 .f32 :=
  exp2 (subf s (broadcastTo S512x512 (shapeCast S1x512 lW shapeCasts_S1x1x512_S1x512 : FVec Ideal S1x512 .f32) broadcasts_S1x512_S512x512))

/-- The probabilities of the step on the diagonal. -/
def pmOp (s : FVec Ideal S512x512 .f32) (lW : Vec Ideal S1x1x512 .f32) : FVec Ideal S512x512 .f32 :=
  select (cmpi .sle (iota .tc S512x512 32 [0] iota_S512x512_d0_w32) (iota .tc S512x512 32 [1] iota_S512x512_d1_w32))
    (pOp s lW) (broadcast S512x512 (Scalar.ofBits .f32 0x00000000#32 : Ideal .f32))

/-- The gradient of the scores. -/
def dsOp (p dp : FVec Ideal S512x512 .f32) (dW : Vec Ideal S1x1x512 .f32) : FVec Ideal S512x512 .f32 :=
  mulf p (subf dp (broadcastTo S512x512 (shapeCast S1x512 dW shapeCasts_S1x1x512_S1x512 : FVec Ideal S1x512 .f32) broadcasts_S1x512_S512x512))

/-- The values' gradient after one step. -/
def dvOp (p : FVec Ideal S512x512 .f32) (oW : Vec Ideal S512x128 .bf16) (fW : Vec Ideal S1x512x128 .f32) : FVec Ideal S1x512x128 .f32 :=
  shapeCast S1x512x128 (addf (shapeCast S512x128 fW shapeCasts_S1x512x128_S512x128 : FVec Ideal S512x128 .f32)
    (matmul dot_S512x512_S512x128_S512x128_1_0_0_1_n_n none (truncf .bf16 p bitsLt_bf16_f32)
      (shapeCast S512x128 oW shapeCasts_S512x128_S512x128 : FVec Ideal S512x128 .bf16) (constant S512x128 .f32 0x00000000#32))) shapeCasts_S512x128_S1x512x128

/-- The keys' gradient after one step. -/
def dkOp (ds : FVec Ideal S512x512 .f32) (qW : Vec Ideal S512x128 .bf16) (fW : Vec Ideal S512x128 .f32) : FVec Ideal S512x128 .f32 :=
  addf (shapeCast S512x128 fW shapeCasts_S512x128_S512x128 : FVec Ideal S512x128 .f32)
    (matmul dot_S512x512_S512x128_S512x128_1_0_0_1_n_n none (truncf .bf16 ds bitsLt_bf16_f32)
      (shapeCast S512x128 qW shapeCasts_S512x128_S512x128 : FVec Ideal S512x128 .bf16) (constant S512x128 .f32 0x00000000#32))

/-- The queries' gradient after one step. -/
def dqOp (ds : FVec Ideal S512x512 .f32) (tW : Vec Ideal S128x512 .bf16) (fW : Vec Ideal S128x512 .f32) : FVec Ideal S128x512 .f32 :=
  addf (shapeCast S128x512 fW shapeCasts_S128x512_S128x512 : FVec Ideal S128x512 .f32)
    (matmul dot_S128x512_S512x512_S128x512_1_0_0_1_n_n none (shapeCast S128x512 tW shapeCasts_S128x512_S128x512 : FVec Ideal S128x512 .bf16)
      (truncf .bf16 ds bitsLt_bf16_f32) (constant S128x512 .f32 0x00000000#32))

/-- The scores at an index. -/
theorem scOp_at (kW qW : Vec Ideal S512x128 .bf16) (k c : Fin 512) :
    scOp kW qW (ix2 k c) = ∑ d : Fin 128, (kW (ix2 k d) : EReal) * qW (ix2 c d) := by
  pointwise! [scOp]
/-- The values against the incoming gradient, at an index. -/
theorem dpOp_at (vW : Vec Ideal S1x512x128 .bf16) (oW : Vec Ideal S512x128 .bf16) (k c : Fin 512) :
    dpOp vW oW (ix2 k c) = ∑ e : Fin 128, (vW (ix3 0 k e) : EReal) * oW (ix2 c e) := by
  pointwise! [dpOp]
/-- The probabilities at an index. -/
theorem pOp_at (s : FVec Ideal S512x512 .f32) (lW : Vec Ideal S1x1x512 .f32) (k c : Fin 512) :
    pOp s lW (ix2 k c) = Ideal.exp2 ((s (ix2 k c) : EReal) - lW (ix3 0 0 c)) := by
  pointwise! [pOp]
/-- The masked probabilities at an index. -/
theorem pmOp_at (s : FVec Ideal S512x512 .f32) (lW : Vec Ideal S1x1x512 .f32) (k c : Fin 512) :
    pmOp s lW (ix2 k c) = if k.val ≤ c.val then Ideal.exp2 ((s (ix2 k c) : EReal) - lW (ix3 0 0 c)) else 0 := by
  pointwise [pmOp, pOp]
  have h : IntOp.cmpi CmpIPredicate.sle (BitVec.ofNat 32 k.val) (BitVec.ofNat 32 c.val) = BitVec.ofBool (decide (k.val ≤ c.val)) := by word_cmp
  rw [h]
  by_cases hkc : k.val ≤ c.val
  · rw [if_pos hkc, decide_eq_true hkc]; rfl
  · rw [if_neg hkc, decide_eq_false hkc]; rfl
/-- The gradient of the scores, at an index. -/
theorem dsOp_at (p dp : FVec Ideal S512x512 .f32) (dW : Vec Ideal S1x1x512 .f32) (k c : Fin 512) :
    dsOp p dp dW (ix2 k c) = (p (ix2 k c) : EReal) * ((dp (ix2 k c) : EReal) - dW (ix3 0 0 c)) := by
  pointwise! [dsOp]
/-- The values' gradient at an index. -/
theorem dvOp_at (p : FVec Ideal S512x512 .f32) (oW : Vec Ideal S512x128 .bf16) (fW : Vec Ideal S1x512x128 .f32) (k : Fin 512) (e : Fin 128) :
    dvOp p oW fW (ix3 0 k e) = (fW (ix3 0 k e) : EReal) + ∑ c : Fin 512, (p (ix2 k c) : EReal) * oW (ix2 c e) := by
  pointwise! [dvOp]
/-- The keys' gradient at an index. -/
theorem dkOp_at (ds : FVec Ideal S512x512 .f32) (qW : Vec Ideal S512x128 .bf16) (fW : Vec Ideal S512x128 .f32) (k : Fin 512) (d : Fin 128) :
    dkOp ds qW fW (ix2 k d) = (fW (ix2 k d) : EReal) + ∑ c : Fin 512, (ds (ix2 k c) : EReal) * qW (ix2 c d) := by
  pointwise! [dkOp]
/-- The queries' gradient at an index. -/
theorem dqOp_at (ds : FVec Ideal S512x512 .f32) (tW : Vec Ideal S128x512 .bf16) (fW : Vec Ideal S128x512 .f32) (d : Fin 128) (c : Fin 512) :
    dqOp ds tW fW (ix2 d c) = (fW (ix2 d c) : EReal) + ∑ k : Fin 512, (tW (ix2 d k) : EReal) * ds (ix2 k c) := by
  pointwise! [dqOp]

end Cert.KernelIdeal.Hand

end
-- ==== Proof.Steps.lean ====
module

public import proofs.«01_k».proof.Proof.Ops

@[expose] public section

set_option maxRecDepth 16384

noncomputable section

/-! One step of the kernel's body as a function of what the buffers hold: the model of a step, that the vector operations
compute it, and the loads and stores of a step read at an index. -/

namespace Cert.KernelIdeal.Hand

open Cert.KernelIdeal Cert.KernelIdeal.Gen
open Idealize.ShloMosaic Idealize.ShloMosaic.TcCoe Idealize.SL.Sem

/-- What the body reads: queries, keys, keys transposed, the values of each head alone in its pair's lanes, the incoming
gradient, the logarithms of the rows' sums, the rows' dot products. -/
structure Env where
  q : Vec Ideal S4096x512 .bf16
  k : Vec Ideal S512x512 .bf16
  t : Vec Ideal S512x512 .bf16
  va : Vec Ideal S4x512x128 .bf16
  o : Vec Ideal S4096x256 .bf16
  l : Vec Ideal S2x2x4096 .f32
  d : Vec Ideal S2x2x4096 .f32

namespace Env

variable (X : Env) (j b : Fin 8)

/-- The score of key `k` of the block against query `q`. -/
def SC (a : Fin 4) (k : Fin 512) (q : Fin 4096) : EReal := ∑ d : Fin 128, (X.k (ix2 k (hd a d)) : EReal) * X.q (ix2 q (hd a d))
/-- The probability, of key block `j`: zero above the diagonal. -/
def PM (a : Fin 4) (k : Fin 512) (q : Fin 4096) : EReal :=
  if 512 * j.val + k.val ≤ q.val then Ideal.exp2 (X.SC a k q - X.l (ix3 (hp a) (hr a) q)) else 0
/-- The value of key `k` against the incoming gradient of query `q`. -/
def DP (a : Fin 4) (k : Fin 512) (q : Fin 4096) : EReal := ∑ e : Fin 128, (X.va (ix3 a k e) : EReal) * X.o (ix2 q (pr a e))
/-- The gradient of the score. -/
def DS (a : Fin 4) (k : Fin 512) (q : Fin 4096) : EReal := X.PM j a k q * (X.DP a k q - X.d (ix3 (hp a) (hr a) q))

/-- One step's addition to the values' gradient. -/
def addDv (y : S4x512x128.Idx) : EReal := ∑ c : Fin 512, X.PM j (y 0) (y 1) (row b c) * X.o (ix2 (row b c) (pr (y 0) (y 2)))
/-- One step's addition to the keys' gradient. -/
def addDk (y : S512x512.Idx) : EReal := ∑ c : Fin 512, X.DS j (hdOf (y 1)) (y 0) (row b c) * X.q (ix2 (row b c) (y 1))
/-- One step's addition to the queries' gradient, in the step's columns. -/
def addDq (y : S512x4096.Idx) : EReal := ∑ k : Fin 512, (X.t (ix2 (y 0) k) : EReal) * X.DS j (hdOf (y 0)) k (y 1)

/-- The values' gradient after the step of query block `b`. -/
def stepDv (f : Vec Ideal S4x512x128 .f32) : Vec Ideal S4x512x128 .f32 := fun y => (f y : EReal) + X.addDv j b y
/-- The keys' gradient after the step of query block `b`. -/
def stepDk (f : Vec Ideal S512x512 .f32) : Vec Ideal S512x512 .f32 := fun y => (f y : EReal) + X.addDk j b y
/-- The queries' gradient after the step of query block `b`. -/
def stepDq (f : Vec Ideal S512x4096 .f32) : Vec Ideal S512x4096 .f32 :=
  fun y => if 512 * b.val ≤ (y 1).val ∧ (y 1).val < 512 * b.val + 512 then (f y : EReal) + X.addDq j y else f y

end Env

variable {X : Env} {j b : Fin 8} {a : Fin 4}

theorem hdOf_hd (a : Fin 4) (d : Fin 128) : hdOf (hd a d) = a := Fin.ext (by show (128 * a.val + d.val) / 128 = a.val; omega)

/-- The scores of the loaded blocks are the model's. -/
theorem sc_of {kW qW : Vec Ideal S512x128 .bf16} (hk : ∀ k d, kW (ix2 k d) = X.k (ix2 k (hd a d))) (hq : ∀ c d, qW (ix2 c d) = X.q (ix2 (row b c) (hd a d)))
    (k c : Fin 512) : scOp kW qW (ix2 k c) = X.SC a k (row b c) :=
  (scOp_at kW qW k c).trans (Finset.sum_congr rfl fun d _ => congrArg₂ (fun u w : EReal => u * w) (hk k d) (hq c d))

/-- The loaded values against the loaded gradient are the model's. -/
theorem dp_of {vW : Vec Ideal S1x512x128 .bf16} {oW : Vec Ideal S512x128 .bf16} (hv : ∀ k e, vW (ix3 0 k e) = X.va (ix3 a k e))
    (ho : ∀ c e, oW (ix2 c e) = X.o (ix2 (row b c) (pr a e))) (k c : Fin 512) : dpOp vW oW (ix2 k c) = X.DP a k (row b c) :=
  (dpOp_at vW oW k c).trans (Finset.sum_congr rfl fun e _ => congrArg₂ (fun u w : EReal => u * w) (hv k e) (ho c e))

/-- The probabilities below the diagonal are the model's. -/
theorem p_of {s : FVec Ideal S512x512 .f32} {lW : Vec Ideal S1x1x512 .f32} (hjb : j.val < b.val) (hs : ∀ k c, s (ix2 k c) = X.SC a k (row b c))
    (hl : ∀ c, lW (ix3 0 0 c) = X.l (ix3 (hp a) (hr a) (row b c))) (k c : Fin 512) : pOp s lW (ix2 k c) = X.PM j a k (row b c) := by
  rw [pOp_at, hs, hl, Env.PM, if_pos]
  show 512 * j.val + k.val ≤ 512 * b.val + c.val
  omega

/-- The probabilities on the diagonal are the model's. -/
theorem pm_of {s : FVec Ideal S512x512 .f32} {lW : Vec Ideal S1x1x512 .f32} (hs : ∀ k c, s (ix2 k c) = X.SC a k (row j c))
    (hl : ∀ c, lW (ix3 0 0 c) = X.l (ix3 (hp a) (hr a) (row j c))) (k c : Fin 512) : pmOp s lW (ix2 k c) = X.PM j a k (row j c) := by
  rw [pmOp_at, hs, hl, Env.PM]
  refine if_congr ?_ rfl rfl
  show k.val ≤ c.val ↔ 512 * j.val + k.val ≤ 512 * j.val + c.val
  omega

/-- The scores' gradient is the model's. -/
theorem ds_of {p dp : FVec Ideal S512x512 .f32} {dW : Vec Ideal S1x1x512 .f32} (hp' : ∀ k c, p (ix2 k c) = X.PM j a k (row b c))
    (hdp : ∀ k c, dp (ix2 k c) = X.DP a k (row b c)) (hd' : ∀ c, dW (ix3 0 0 c) = X.d (ix3 (hp a) (hr a) (row b c))) (k c : Fin 512) :
    dsOp p dp dW (ix2 k c) = X.DS j a k (row b c) := by
  rw [dsOp_at, hp', hdp, hd', Env.DS]

/-- The values' gradient after a step is the model's. -/
theorem dv_of {p : FVec Ideal S512x512 .f32} {oW : Vec Ideal S512x128 .bf16} {fW : Vec Ideal S1x512x128 .f32} {f : Vec Ideal S4x512x128 .f32}
    (hp' : ∀ k c, p (ix2 k c) = X.PM j a k (row b c)) (ho : ∀ c e, oW (ix2 c e) = X.o (ix2 (row b c) (pr a e)))
    (hf : ∀ k e, fW (ix3 0 k e) = f (ix3 a k e)) (k : Fin 512) (e : Fin 128) : dvOp p oW fW (ix3 0 k e) = X.stepDv j b f (ix3 a k e) :=
  (dvOp_at p oW fW k e).trans (congrArg₂ (fun u w : EReal => u + w) (hf k e)
    (Finset.sum_congr rfl fun c _ => congrArg₂ (fun u w : EReal => u * w) (hp' k c) (ho c e)))

/-- The keys' gradient after a step is the model's. -/
theorem dk_of {ds : FVec Ideal S512x512 .f32} {qW : Vec Ideal S512x128 .bf16} {fW : Vec Ideal S512x128 .f32} {f : Vec Ideal S512x512 .f32}
    (hds : ∀ k c, ds (ix2 k c) = X.DS j a k (row b c)) (hq : ∀ c d, qW (ix2 c d) = X.q (ix2 (row b c) (hd a d)))
    (hf : ∀ k d, fW (ix2 k d) = f (ix2 k (hd a d))) (k : Fin 512) (d : Fin 128) : dkOp ds qW fW (ix2 k d) = X.stepDk j b f (ix2 k (hd a d)) := by
  refine (dkOp_at ds qW fW k d).trans (congrArg₂ (fun u w : EReal => u + w) (hf k d) (Finset.sum_congr rfl fun c _ => ?_))
  refine congrArg₂ (fun u w : EReal => u * w) ((hds k c).trans ?_) (hq c d)
  show X.DS j a k (row b c) = X.DS j (hdOf (hd a d)) k (row b c)
  rw [hdOf_hd]

/-- The queries' gradient after a step is the model's, in the step's columns. -/
theorem dq_of {ds : FVec Ideal S512x512 .f32} {tW : Vec Ideal S128x512 .bf16} {fW : Vec Ideal S128x512 .f32} {f : Vec Ideal S512x4096 .f32}
    (hds : ∀ k c, ds (ix2 k c) = X.DS j a k (row b c)) (ht : ∀ d k, tW (ix2 d k) = X.t (ix2 (hd a d) k))
    (hf : ∀ d c, fW (ix2 d c) = f (ix2 (hd a d) (row b c))) (d : Fin 128) (c : Fin 512) :
    dqOp ds tW fW (ix2 d c) = X.stepDq j b f (ix2 (hd a d) (row b c)) := by
  refine (dqOp_at ds tW fW d c).trans (Eq.trans ?_ (if_pos ⟨?_, ?_⟩).symm)
  · refine congrArg₂ (fun u w : EReal => u + w) (hf d c) (Finset.sum_congr rfl fun k _ => ?_)
    refine congrArg₂ (fun u w : EReal => u * w) (ht d k) ((hds k c).trans ?_)
    show X.DS j a k (row b c) = X.DS j (hdOf (hd a d)) k (row b c)
    rw [hdOf_hd]
  · show 512 * b.val ≤ 512 * b.val + c.val; omega
  · show 512 * b.val + c.val < 512 * b.val + 512; omega

section Views

variable {sig : RefSig} {κ : Kind} {sp : Space} {e : EltTy} {Val : EltTy → Type}

/-- A load of a rectangle of a matrix reads the matrix at the rectangle's offsets plus the index. -/
theorem ld2 {M N m n : ℕ} (v : View sig κ sp ⟨2, ![M, N]⟩ e) (f : v.ty.Contents Val) {off : Fin 2 → ℕ}
    (inb : ∀ a : Fin 2, off a + (![m, n] : Fin 2 → ℕ) a ≤ (![M, N] : Fin 2 → ℕ) a) {o0 o1 : ℕ} (h : off = ![o0, o1])
    (x : Fin m) (y : Fin n) (x' : Fin M) (y' : Fin N) (hx : x'.val = o0 + x.val) (hy : y'.val = o1 + y.val) :
    v.readAt Val (Rect.unit (s := ⟨2, ![M, N]⟩) off ![m, n] inb).toLoadRect f (ix2 x y) = v.read Val f (ix2 x' y') := by
  subst h
  refine congrArg (v.read Val f) (funext fun a => Fin.ext ?_)
  match a with
  | ⟨0, _⟩ => show o0 + 1 * x.val = x'.val; omega
  | ⟨1, _⟩ => show o1 + 1 * y.val = y'.val; omega

/-- A load of a box of a rank-3 array reads the array at the box's offsets plus the index. -/
theorem ld3 {L M N l m n : ℕ} (v : View sig κ sp ⟨3, ![L, M, N]⟩ e) (f : v.ty.Contents Val) {off : Fin 3 → ℕ}
    (inb : ∀ a : Fin 3, off a + (![l, m, n] : Fin 3 → ℕ) a ≤ (![L, M, N] : Fin 3 → ℕ) a) {o0 o1 o2 : ℕ} (h : off = ![o0, o1, o2])
    (x : Fin l) (y : Fin m) (z : Fin n) (x' : Fin L) (y' : Fin M) (z' : Fin N) (hx : x'.val = o0 + x.val) (hy : y'.val = o1 + y.val) (hz : z'.val = o2 + z.val) :
    v.readAt Val (Rect.unit (s := ⟨3, ![L, M, N]⟩) off ![l, m, n] inb).toLoadRect f (ix3 x y z) = v.read Val f (ix3 x' y' z') := by
  subst h
  refine congrArg (v.read Val f) (funext fun a => Fin.ext ?_)
  match a with
  | ⟨0, _⟩ => show o0 + 1 * x.val = x'.val; omega
  | ⟨1, _⟩ => show o1 + 1 * y.val = y'.val; omega
  | ⟨2, _⟩ => show o2 + 1 * z.val = z'.val; omega

/-- An index of another head is not under a store of a head's rows of the queries' gradient. -/
theorem skip9 (v : View sig κ sp S512x4096 e) (f : v.ty.Contents Val) {off : Fin 2 → ℕ} (inb : ∀ a, off a + S128x512.size a ≤ S512x4096.size a)
    (w : (Rect.unit (s := S512x4096) off S128x512.size inb).shape.Idx → Val e) (L : List (View.Piece Val S512x4096 e)) {a' : ℕ} {o : ℕ} (h : off = ![128 * a', o])
    (r : Fin 512) (q : Fin 4096) (ha : r.val / 128 ≠ a') :
    v.read Val (v.writes Val f (⟨Rect.unit off S128x512.size inb, w⟩ :: L)) (ix2 r q) = v.read Val (v.writes Val f L) (ix2 r q) := by
  refine View.read_writes_cons_unit_of_not_mem v f inb w L _ h (0 : Fin 2) ?_
  show r.val < 128 * a' ∨ 128 * a' + 128 ≤ r.val
  omega

/-- An index of another head is not under a store of a head's lanes of the keys' gradient. -/
theorem skip10 (v : View sig κ sp S512x512 e) (f : v.ty.Contents Val) {off : Fin 2 → ℕ} (inb : ∀ a, off a + S512x128.size a ≤ S512x512.size a)
    (w : (Rect.unit (s := S512x512) off S512x128.size inb).shape.Idx → Val e) (L : List (View.Piece Val S512x512 e)) {a' : ℕ} (h : off = ![0, 128 * a'])
    (k r : Fin 512) (ha : r.val / 128 ≠ a') :
    v.read Val (v.writes Val f (⟨Rect.unit off S512x128.size inb, w⟩ :: L)) (ix2 k r) = v.read Val (v.writes Val f L) (ix2 k r) := by
  refine View.read_writes_cons_unit_of_not_mem v f inb w L _ h (1 : Fin 2) ?_
  show r.val < 128 * a' ∨ 128 * a' + 128 ≤ r.val
  omega

/-- An index of another head is not under a store of a head's slab of the values' gradient. -/
theorem skip13 (v : View sig κ sp S4x512x128 e) (f : v.ty.Contents Val) {off : Fin 3 → ℕ} (inb : ∀ a, off a + S1x512x128.size a ≤ S4x512x128.size a)
    (w : (Rect.unit (s := S4x512x128) off S1x512x128.size inb).shape.Idx → Val e) (L : List (View.Piece Val S4x512x128 e)) {a' : ℕ} (h : off = ![a', 0, 0])
    (a : Fin 4) (k : Fin 512) (r : Fin 128) (ha : a.val ≠ a') :
    v.read Val (v.writes Val f (⟨Rect.unit off S1x512x128.size inb, w⟩ :: L)) (ix3 a k r) = v.read Val (v.writes Val f L) (ix3 a k r) := by
  refine View.read_writes_cons_unit_of_not_mem v f inb w L _ h (0 : Fin 3) ?_
  show a.val < a' ∨ a' + 1 ≤ a.val
  omega

/-- Four stores, of the four heads' rows in one block of columns, leave `g` when each stores `g` there and `g` is the old contents elsewhere. -/
theorem rows9 (v : View sig κ sp S512x4096 e) (f : v.ty.Contents Val) (b : Fin 8) {off0 off1 off2 off3 : Fin 2 → ℕ}
    (inb0 : ∀ a, off0 a + S128x512.size a ≤ S512x4096.size a) (inb1 : ∀ a, off1 a + S128x512.size a ≤ S512x4096.size a)
    (inb2 : ∀ a, off2 a + S128x512.size a ≤ S512x4096.size a) (inb3 : ∀ a, off3 a + S128x512.size a ≤ S512x4096.size a)
    (h0 : off0 = ![0, 512 * b.val]) (h1 : off1 = ![128, 512 * b.val]) (h2 : off2 = ![256, 512 * b.val]) (h3 : off3 = ![384, 512 * b.val])
    (w0 w1 w2 w3 : S128x512.Idx → Val e) (g : S512x4096.Idx → Val e)
    (H0 : ∀ d c, w0 (ix2 d c) = g (ix2 (hd 0 d) (row b c))) (H1 : ∀ d c, w1 (ix2 d c) = g (ix2 (hd 1 d) (row b c)))
    (H2 : ∀ d c, w2 (ix2 d c) = g (ix2 (hd 2 d) (row b c))) (H3 : ∀ d c, w3 (ix2 d c) = g (ix2 (hd 3 d) (row b c)))
    (Hg : ∀ (r : Fin 512) (q : Fin 4096), ¬ (512 * b.val ≤ q.val ∧ q.val < 512 * b.val + 512) → v.read Val f (ix2 r q) = g (ix2 r q)) :
    v.read Val (v.writes Val f [⟨Rect.unit off3 S128x512.size inb3, w3⟩, ⟨Rect.unit off2 S128x512.size inb2, w2⟩,
      ⟨Rect.unit off1 S128x512.size inb1, w1⟩, ⟨Rect.unit off0 S128x512.size inb0, w0⟩]) = g := by
  funext y
  obtain ⟨r, q, rfl⟩ : ∃ (r : Fin 512) (q : Fin 4096), y = ix2 r q := ⟨_, _, eq_ix2 y⟩
  by_cases hq : 512 * b.val ≤ q.val ∧ q.val < 512 * b.val + 512
  · obtain ⟨c, rfl⟩ : ∃ c : Fin 512, q = row b c := ⟨⟨q.val - 512 * b.val, by omega⟩, Fin.ext (by show q.val = 512 * b.val + (q.val - 512 * b.val); omega)⟩
    obtain ⟨a, d, rfl⟩ : ∃ (a : Fin 4) (d : Fin 128), r = hd a d :=
      ⟨⟨r.val / 128, by omega⟩, ⟨r.val % 128, by omega⟩, Fin.ext (by show r.val = 128 * (r.val / 128) + r.val % 128; omega)⟩
    have hv : (hd a d).val / 128 = a.val := congrArg Fin.val (hdOf_hd a d)
    match a with
    | ⟨0, _⟩ =>
      refine (skip9 v f inb3 w3 _ (a' := 3) h3 _ _ (by rw [hv]; exact Nat.ne_of_beq_eq_false rfl)).trans ?_
      refine (skip9 v f inb2 w2 _ (a' := 2) h2 _ _ (by rw [hv]; exact Nat.ne_of_beq_eq_false rfl)).trans ?_
      refine (skip9 v f inb1 w1 _ (a' := 1) h1 _ _ (by rw [hv]; exact Nat.ne_of_beq_eq_false rfl)).trans ?_
      refine (View.read_writes_cons_unit_of_mem v f inb0 w0 _ _ (ix2 d c) h0 fun x => ?_).trans (H0 d c)
      match x with
      | ⟨0, _⟩ => rfl
      | ⟨1, _⟩ => rfl
    | ⟨1, _⟩ =>
      refine (skip9 v f inb3 w3 _ (a' := 3) h3 _ _ (by rw [hv]; exact Nat.ne_of_beq_eq_false rfl)).trans ?_
      refine (skip9 v f inb2 w2 _ (a' := 2) h2 _ _ (by rw [hv]; exact Nat.ne_of_beq_eq_false rfl)).trans ?_
      refine (View.read_writes_cons_unit_of_mem v f inb1 w1 _ _ (ix2 d c) h1 fun x => ?_).trans (H1 d c)
      match x with
      | ⟨0, _⟩ => rfl
      | ⟨1, _⟩ => rfl
    | ⟨2, _⟩ =>
      refine (skip9 v f inb3 w3 _ (a' := 3) h3 _ _ (by rw [hv]; exact Nat.ne_of_beq_eq_false rfl)).trans ?_
      refine (View.read_writes_cons_unit_of_mem v f inb2 w2 _ _ (ix2 d c) h2 fun x => ?_).trans (H2 d c)
      match x with
      | ⟨0, _⟩ => rfl
      | ⟨1, _⟩ => rfl
    | ⟨3, _⟩ =>
      refine (View.read_writes_cons_unit_of_mem v f inb3 w3 _ _ (ix2 d c) h3 fun x => ?_).trans (H3 d c)
      match x with
      | ⟨0, _⟩ => rfl
      | ⟨1, _⟩ => rfl
  · rw [← Hg r q hq]
    have ho : q.val < 512 * b.val ∨ 512 * b.val + 512 ≤ q.val := by omega
    refine (View.read_writes_cons_unit_of_not_mem v f inb3 w3 _ _ h3 (1 : Fin 2) ho).trans ?_
    refine (View.read_writes_cons_unit_of_not_mem v f inb2 w2 _ _ h2 (1 : Fin 2) ho).trans ?_
    refine (View.read_writes_cons_unit_of_not_mem v f inb1 w1 _ _ h1 (1 : Fin 2) ho).trans ?_
    refine (View.read_writes_cons_unit_of_not_mem v f inb0 w0 _ _ h0 (1 : Fin 2) ho).trans ?_
    rfl

/-- Four stores, of the four heads' lanes, over any earlier ones, leave `g` when each stores `g` there. -/
theorem lanes10 (v : View sig κ sp S512x512 e) (f : v.ty.Contents Val) (L : List (View.Piece Val S512x512 e))
    (inb0 : ∀ a, (![0, 0] : Fin 2 → ℕ) a + S512x128.size a ≤ S512x512.size a) (inb1 : ∀ a, (![0, 128] : Fin 2 → ℕ) a + S512x128.size a ≤ S512x512.size a)
    (inb2 : ∀ a, (![0, 256] : Fin 2 → ℕ) a + S512x128.size a ≤ S512x512.size a) (inb3 : ∀ a, (![0, 384] : Fin 2 → ℕ) a + S512x128.size a ≤ S512x512.size a)
    (w0 w1 w2 w3 : S512x128.Idx → Val e) (g : S512x512.Idx → Val e)
    (H0 : ∀ k d, w0 (ix2 k d) = g (ix2 k (hd 0 d))) (H1 : ∀ k d, w1 (ix2 k d) = g (ix2 k (hd 1 d)))
    (H2 : ∀ k d, w2 (ix2 k d) = g (ix2 k (hd 2 d))) (H3 : ∀ k d, w3 (ix2 k d) = g (ix2 k (hd 3 d))) :
    v.read Val (v.writes Val f (⟨Rect.unit ![0, 384] S512x128.size inb3, w3⟩ :: ⟨Rect.unit ![0, 256] S512x128.size inb2, w2⟩ ::
      ⟨Rect.unit ![0, 128] S512x128.size inb1, w1⟩ :: ⟨Rect.unit ![0, 0] S512x128.size inb0, w0⟩ :: L)) = g := by
  funext y
  obtain ⟨k, r, rfl⟩ : ∃ (k r : Fin 512), y = ix2 k r := ⟨_, _, eq_ix2 y⟩
  obtain ⟨a, d, rfl⟩ : ∃ (a : Fin 4) (d : Fin 128), r = hd a d :=
    ⟨⟨r.val / 128, by omega⟩, ⟨r.val % 128, by omega⟩, Fin.ext (by show r.val = 128 * (r.val / 128) + r.val % 128; omega)⟩
  have hv : (hd a d).val / 128 = a.val := congrArg Fin.val (hdOf_hd a d)
  match a with
  | ⟨0, _⟩ =>
    refine (skip10 v f inb3 w3 _ (a' := 3) rfl _ _ (by rw [hv]; exact Nat.ne_of_beq_eq_false rfl)).trans ?_
    refine (skip10 v f inb2 w2 _ (a' := 2) rfl _ _ (by rw [hv]; exact Nat.ne_of_beq_eq_false rfl)).trans ?_
    refine (skip10 v f inb1 w1 _ (a' := 1) rfl _ _ (by rw [hv]; exact Nat.ne_of_beq_eq_false rfl)).trans ?_
    refine (View.read_writes_cons_unit_of_mem v f inb0 w0 _ _ (ix2 k d) rfl fun x => ?_).trans (H0 k d)
    match x with
    | ⟨0, _⟩ => show k.val = 0 + k.val; omega
    | ⟨1, _⟩ => rfl
  | ⟨1, _⟩ =>
    refine (skip10 v f inb3 w3 _ (a' := 3) rfl _ _ (by rw [hv]; exact Nat.ne_of_beq_eq_false rfl)).trans ?_
    refine (skip10 v f inb2 w2 _ (a' := 2) rfl _ _ (by rw [hv]; exact Nat.ne_of_beq_eq_false rfl)).trans ?_
    refine (View.read_writes_cons_unit_of_mem v f inb1 w1 _ _ (ix2 k d) rfl fun x => ?_).trans (H1 k d)
    match x with
    | ⟨0, _⟩ => show k.val = 0 + k.val; omega
    | ⟨1, _⟩ => rfl
  | ⟨2, _⟩ =>
    refine (skip10 v f inb3 w3 _ (a' := 3) rfl _ _ (by rw [hv]; exact Nat.ne_of_beq_eq_false rfl)).trans ?_
    refine (View.read_writes_cons_unit_of_mem v f inb2 w2 _ _ (ix2 k d) rfl fun x => ?_).trans (H2 k d)
    match x with
    | ⟨0, _⟩ => show k.val = 0 + k.val; omega
    | ⟨1, _⟩ => rfl
  | ⟨3, _⟩ =>
    refine (View.read_writes_cons_unit_of_mem v f inb3 w3 _ _ (ix2 k d) rfl fun x => ?_).trans (H3 k d)
    match x with
    | ⟨0, _⟩ => show k.val = 0 + k.val; omega
    | ⟨1, _⟩ => rfl

/-- Four stores, of the four heads' slabs, over any earlier ones, leave `g` when each stores `g` there. -/
theorem slabs13 (v : View sig κ sp S4x512x128 e) (f : v.ty.Contents Val) (L : List (View.Piece Val S4x512x128 e))
    (inb0 : ∀ a, (![0, 0, 0] : Fin 3 → ℕ) a + S1x512x128.size a ≤ S4x512x128.size a) (inb1 : ∀ a, (![1, 0, 0] : Fin 3 → ℕ) a + S1x512x128.size a ≤ S4x512x128.size a)
    (inb2 : ∀ a, (![2, 0, 0] : Fin 3 → ℕ) a + S1x512x128.size a ≤ S4x512x128.size a) (inb3 : ∀ a, (![3, 0, 0] : Fin 3 → ℕ) a + S1x512x128.size a ≤ S4x512x128.size a)
    (w0 w1 w2 w3 : S1x512x128.Idx → Val e) (g : S4x512x128.Idx → Val e)
    (H0 : ∀ k d, w0 (ix3 0 k d) = g (ix3 0 k d)) (H1 : ∀ k d, w1 (ix3 0 k d) = g (ix3 1 k d))
    (H2 : ∀ k d, w2 (ix3 0 k d) = g (ix3 2 k d)) (H3 : ∀ k d, w3 (ix3 0 k d) = g (ix3 3 k d)) :
    v.read Val (v.writes Val f (⟨Rect.unit ![3, 0, 0] S1x512x128.size inb3, w3⟩ :: ⟨Rect.unit ![2, 0, 0] S1x512x128.size inb2, w2⟩ ::
      ⟨Rect.unit ![1, 0, 0] S1x512x128.size inb1, w1⟩ :: ⟨Rect.unit ![0, 0, 0] S1x512x128.size inb0, w0⟩ :: L)) = g := by
  funext y
  obtain ⟨a, k, d, rfl⟩ : ∃ (a : Fin 4) (k : Fin 512) (d : Fin 128), y = ix3 a k d := ⟨_, _, _, eq_ix3 y⟩
  match a with
  | ⟨0, _⟩ =>
    refine (skip13 v f inb3 w3 _ (a' := 3) rfl _ _ _ (Nat.ne_of_beq_eq_false rfl)).trans ?_
    refine (skip13 v f inb2 w2 _ (a' := 2) rfl _ _ _ (Nat.ne_of_beq_eq_false rfl)).trans ?_
    refine (skip13 v f inb1 w1 _ (a' := 1) rfl _ _ _ (Nat.ne_of_beq_eq_false rfl)).trans ?_
    refine (View.read_writes_cons_unit_of_mem v f inb0 w0 _ _ (ix3 0 k d) rfl fun x => ?_).trans (H0 k d)
    match x with
    | ⟨0, _⟩ => rfl
    | ⟨1, _⟩ => show k.val = 0 + k.val; omega
    | ⟨2, _⟩ => show d.val = 0 + d.val; omega
  | ⟨1, _⟩ =>
    refine (skip13 v f inb3 w3 _ (a' := 3) rfl _ _ _ (Nat.ne_of_beq_eq_false rfl)).trans ?_
    refine (skip13 v f inb2 w2 _ (a' := 2) rfl _ _ _ (Nat.ne_of_beq_eq_false rfl)).trans ?_
    refine (View.read_writes_cons_unit_of_mem v f inb1 w1 _ _ (ix3 0 k d) rfl fun x => ?_).trans (H1 k d)
    match x with
    | ⟨0, _⟩ => rfl
    | ⟨1, _⟩ => show k.val = 0 + k.val; omega
    | ⟨2, _⟩ => show d.val = 0 + d.val; omega
  | ⟨2, _⟩ =>
    refine (skip13 v f inb3 w3 _ (a' := 3) rfl _ _ _ (Nat.ne_of_beq_eq_false rfl)).trans ?_
    refine (View.read_writes_cons_unit_of_mem v f inb2 w2 _ _ (ix3 0 k d) rfl fun x => ?_).trans (H2 k d)
    match x with
    | ⟨0, _⟩ => rfl
    | ⟨1, _⟩ => show k.val = 0 + k.val; omega
    | ⟨2, _⟩ => show d.val = 0 + d.val; omega
  | ⟨3, _⟩ =>
    refine (View.read_writes_cons_unit_of_mem v f inb3 w3 _ _ (ix3 0 k d) rfl fun x => ?_).trans (H3 k d)
    match x with
    | ⟨0, _⟩ => rfl
    | ⟨1, _⟩ => show k.val = 0 + k.val; omega
    | ⟨2, _⟩ => show d.val = 0 + d.val; omega

end Views

end Cert.KernelIdeal.Hand

end
-- ==== Proof.Trip.lean ====
module

public import proofs.«01_k».proof.Proof.Gen.KernelIdeal.Frame
public import proofs.«01_k».proof.Proof.Gen.KernelIdeal.Skeleton
public import proofs.«01_k».proof.Proof.Steps
public import Idealize.ShloMosaic.Lib.Pipeline.ValueKit
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- One trip of the loop over the query blocks below the diagonal: the three gradients it accumulates are those of the
model's step. -/
theorem trip (𝒱 : Variants) (c : Dev nD) (bd : Option 𝒱.V) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x2x4096 .f32) (harg7 : arg7.IsWhole) (arg8 : Memref sig .tc .vmem S2x2x4096 .f32) (harg8 : arg8.IsWhole) (arg9 : Memref sig .tc .vmem S512x4096 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S4x512x128 .bf16) (harg12 : arg12.IsWhole) (arg13 : Memref sig .tc .vmem S4x512x128 .f32) (harg13 : arg13.IsWhole) (arg1 : BitVec 32) (v43 : BitVec 32) (v243 : FVec Ideal S512x512 .f32) (v249 : FVec Ideal S512x512 .f32) (v251 : FVec Ideal S512x128 .f32) (v280 : BitVec 32) (X2 : BufTy.Contents (Elt Ideal) arg2.view.ty) (X3 : BufTy.Contents (Elt Ideal) arg3.view.ty) (X4 : BufTy.Contents (Elt Ideal) arg4.view.ty) (X6 : BufTy.Contents (Elt Ideal) arg6.view.ty) (X7 : BufTy.Contents (Elt Ideal) arg7.view.ty) (X8 : BufTy.Contents (Elt Ideal) arg8.view.ty) (X12 : BufTy.Contents (Elt Ideal) arg12.view.ty) (X9 : BufTy.Contents (Elt Ideal) arg9.view.ty) (X10 : BufTy.Contents (Elt Ideal) arg10.view.ty) (X13 : BufTy.Contents (Elt Ideal) arg13.view.ty) (k : Fin (k0_t1_loop i).trips) (j b : Fin 8)
    (hj : j.val = (i 1).val) (hb : b.val = (i 1).val + k.val + 1) (E : Set ℕ) (acc : BitVec 32) :
   iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} X12) ∗ (arg9.view.loc (c : Thread nD τ) ↦[arg9.view.set]{fullShare} X9) ∗ (arg10.view.loc (c : Thread nD τ) ↦[arg10.view.set]{fullShare} X10) ∗ (arg13.view.loc (c : Thread nD τ) ↦[arg13.view.set]{fullShare} X13)) ⊢ wp frame (wpE (defs₀ (F := Ideal)) 𝒱 (c : Thread nD τ) bd) E (k0_t1_body (F := Ideal) i arg2 harg2 arg3 harg3 arg4 harg4 arg5 harg5 arg6 harg6 arg7 harg7 arg8 harg8 arg9 harg9 arg10 harg10 arg11 harg11 arg12 harg12 arg13 harg13 arg1 v43 v243 v249 v251 v280 k acc) fun _ =>
      (iprop(∃ g9 g10 g13, ⌜arg9.view.read (Elt Ideal) g9 = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).stepDq j b (arg9.view.read (Elt Ideal) X9) ∧ arg10.view.read (Elt Ideal) g10 = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).stepDk j b (arg10.view.read (Elt Ideal) X10) ∧ arg13.view.read (Elt Ideal) g13 = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).stepDv j b (arg13.view.read (Elt Ideal) X13)⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} X12) ∗ (arg9.view.loc (c : Thread nD τ) ↦[arg9.view.set]{fullShare} g9) ∗ (arg10.view.loc (c : Thread nD τ) ↦[arg10.view.set]{fullShare} g10) ∗ (arg13.view.loc (c : Thread nD τ) ↦[arg13.view.set]{fullShare} g13)) : sProp 𝕄) := by
  generalize hX : (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env) = X
  have hjb : j.val < b.val := by omega
  have hb' : 512 * (i 1).val + 512 * k.val + 512 = 512 * b.val := by omega
  have hrow : ∀ c : Fin 512, (row b c).val = 512 * (i 1).val + 512 * k.val + 512 + c.val := fun c => by rw [hb']; rfl
  have hdv : ∀ (a : Fin 4) (d : Fin 128), (hd a d).val / 128 = a.val := fun a d => congrArg Fin.val (hdOf_hd a d)
  unfold k0_t1_body
  simp only [k0_part1_eq_skeleton, k0_part2_eq_skeleton, k0_part3_eq_skeleton, k0_part4_eq_skeleton, k0_part5_eq_skeleton, k0_part6_eq_skeleton]
  iintro ⟨H2, H3, H4, H6, H7, H8, H12, H9, H10, H13⟩
  sl_exec
  sl_step
  iexists _, _, _
  isplitr; swap
  · isplitl [H2]; · iexact H2
    isplitl [H3]; · iexact H3
    isplitl [H4]; · iexact H4
    isplitl [H6]; · iexact H6
    isplitl [H7]; · iexact H7
    isplitl [H8]; · iexact H8
    isplitl [H12]; · iexact H12
    isplitl [H9]; · iexact H9
    isplitl [H10]; · iexact H10
    iexact H13

  ipureintro
  subst hX

  have hk0 : ∀ (k : Fin 512) (d : Fin 128), arg3.view.readAt (Elt Ideal) (Rect.unit (s := S512x512) ![0, 0] S512x128.size inb_S512x512_S512x128_0_0).toLoadRect X3 (ix2 k d) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).k (ix2 k (hd 0 d)) := fun k d => ld2 _ _ _ rfl k d k (hd 0 d) (by omega) rfl
  have hq0 : ∀ (c : Fin 512) (d : Fin 128), arg2.view.readAt (Elt Ideal) (Rect.unit (s := S4096x512) (k0_off15 i k) S512x128.size (k0_off15_inb i k)).toLoadRect X2 (ix2 c d) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).q (ix2 (row b c) (hd 0 d)) := fun c d => ld2 _ _ _ (k0_off15_eq i k) c d (row b c) (hd 0 d) (hrow c) rfl
  have hv0 : ∀ (k : Fin 512) (e : Fin 128), arg12.view.readAt (Elt Ideal) (Rect.unit (s := S4x512x128) ![0, 0, 0] S1x512x128.size inb_S4x512x128_S1x512x128_0_0_0).toLoadRect X12 (ix3 0 k e) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).va (ix3 0 k e) := fun k e => ld3 _ _ _ rfl 0 k e 0 k e rfl (by omega) (by omega)
  have ho0 : ∀ (c : Fin 512) (e : Fin 128), arg6.view.readAt (Elt Ideal) (Rect.unit (s := S4096x256) (k0_off19 i k) S512x128.size (k0_off19_inb i k)).toLoadRect X6 (ix2 c e) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).o (ix2 (row b c) (pr 0 e)) := fun c e => ld2 _ _ _ (k0_off19_eq i k) c e (row b c) (pr 0 e) (hrow c) rfl
  have hl0 : ∀ (c : Fin 512), arg7.view.readAt (Elt Ideal) (Rect.unit (s := S2x2x4096) (k0_off21 i k) S1x1x512.size (k0_off21_inb i k)).toLoadRect X7 (ix3 0 0 c) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).l (ix3 (hp 0) (hr 0) (row b c)) := fun c => ld3 _ _ _ (k0_off21_eq i k) 0 0 c (hp 0) (hr 0) (row b c) rfl rfl (hrow c)
  have hd0 : ∀ (c : Fin 512), arg8.view.readAt (Elt Ideal) (Rect.unit (s := S2x2x4096) (k0_off21 i k) S1x1x512.size (k0_off21_inb i k)).toLoadRect X8 (ix3 0 0 c) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).d (ix3 (hp 0) (hr 0) (row b c)) := fun c => ld3 _ _ _ (k0_off21_eq i k) 0 0 c (hp 0) (hr 0) (row b c) rfl rfl (hrow c)
  have ht0 : ∀ (d : Fin 128) (k : Fin 512), arg4.view.readAt (Elt Ideal) (Rect.unit (s := S512x512) ![0, 0] S128x512.size inb_S512x512_S128x512_0_0).toLoadRect X4 (ix2 d k) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).t (ix2 (hd 0 d) k) := fun d k => ld2 _ _ _ rfl d k (hd 0 d) k rfl (by omega)
  have hP0 := p_of (a := 0) (j := j) hjb (sc_of hk0 hq0) hl0
  have hS0 := ds_of (a := 0) (j := j) hP0 (dp_of hv0 ho0) hd0

  have hk1 : ∀ (k : Fin 512) (d : Fin 128), arg3.view.readAt (Elt Ideal) (Rect.unit (s := S512x512) ![0, 128] S512x128.size inb_S512x512_S512x128_0_128).toLoadRect X3 (ix2 k d) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).k (ix2 k (hd 1 d)) := fun k d => ld2 _ _ _ rfl k d k (hd 1 d) (by omega) rfl
  have hq1 : ∀ (c : Fin 512) (d : Fin 128), arg2.view.readAt (Elt Ideal) (Rect.unit (s := S4096x512) (k0_off16 i k) S512x128.size (k0_off16_inb i k)).toLoadRect X2 (ix2 c d) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).q (ix2 (row b c) (hd 1 d)) := fun c d => ld2 _ _ _ (k0_off16_eq i k) c d (row b c) (hd 1 d) (hrow c) rfl
  have hv1 : ∀ (k : Fin 512) (e : Fin 128), arg12.view.readAt (Elt Ideal) (Rect.unit (s := S4x512x128) ![1, 0, 0] S1x512x128.size inb_S4x512x128_S1x512x128_1_0_0).toLoadRect X12 (ix3 0 k e) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).va (ix3 1 k e) := fun k e => ld3 _ _ _ rfl 0 k e 1 k e rfl (by omega) (by omega)
  have ho1 : ∀ (c : Fin 512) (e : Fin 128), arg6.view.readAt (Elt Ideal) (Rect.unit (s := S4096x256) (k0_off19 i k) S512x128.size (k0_off19_inb i k)).toLoadRect X6 (ix2 c e) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).o (ix2 (row b c) (pr 1 e)) := fun c e => ld2 _ _ _ (k0_off19_eq i k) c e (row b c) (pr 1 e) (hrow c) rfl
  have hl1 : ∀ (c : Fin 512), arg7.view.readAt (Elt Ideal) (Rect.unit (s := S2x2x4096) (k0_off23 i k) S1x1x512.size (k0_off23_inb i k)).toLoadRect X7 (ix3 0 0 c) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).l (ix3 (hp 1) (hr 1) (row b c)) := fun c => ld3 _ _ _ (k0_off23_eq i k) 0 0 c (hp 1) (hr 1) (row b c) rfl rfl (hrow c)
  have hd1 : ∀ (c : Fin 512), arg8.view.readAt (Elt Ideal) (Rect.unit (s := S2x2x4096) (k0_off23 i k) S1x1x512.size (k0_off23_inb i k)).toLoadRect X8 (ix3 0 0 c) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).d (ix3 (hp 1) (hr 1) (row b c)) := fun c => ld3 _ _ _ (k0_off23_eq i k) 0 0 c (hp 1) (hr 1) (row b c) rfl rfl (hrow c)
  have ht1 : ∀ (d : Fin 128) (k : Fin 512), arg4.view.readAt (Elt Ideal) (Rect.unit (s := S512x512) ![128, 0] S128x512.size inb_S512x512_S128x512_128_0).toLoadRect X4 (ix2 d k) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).t (ix2 (hd 1 d) k) := fun d k => ld2 _ _ _ rfl d k (hd 1 d) k rfl (by omega)
  have hP1 := p_of (a := 1) (j := j) hjb (sc_of hk1 hq1) hl1
  have hS1 := ds_of (a := 1) (j := j) hP1 (dp_of hv1 ho1) hd1

  have hk2 : ∀ (k : Fin 512) (d : Fin 128), arg3.view.readAt (Elt Ideal) (Rect.unit (s := S512x512) ![0, 256] S512x128.size inb_S512x512_S512x128_0_256).toLoadRect X3 (ix2 k d) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).k (ix2 k (hd 2 d)) := fun k d => ld2 _ _ _ rfl k d k (hd 2 d) (by omega) rfl
  have hq2 : ∀ (c : Fin 512) (d : Fin 128), arg2.view.readAt (Elt Ideal) (Rect.unit (s := S4096x512) (k0_off17 i k) S512x128.size (k0_off17_inb i k)).toLoadRect X2 (ix2 c d) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).q (ix2 (row b c) (hd 2 d)) := fun c d => ld2 _ _ _ (k0_off17_eq i k) c d (row b c) (hd 2 d) (hrow c) rfl
  have hv2 : ∀ (k : Fin 512) (e : Fin 128), arg12.view.readAt (Elt Ideal) (Rect.unit (s := S4x512x128) ![2, 0, 0] S1x512x128.size inb_S4x512x128_S1x512x128_2_0_0).toLoadRect X12 (ix3 0 k e) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).va (ix3 2 k e) := fun k e => ld3 _ _ _ rfl 0 k e 2 k e rfl (by omega) (by omega)
  have ho2 : ∀ (c : Fin 512) (e : Fin 128), arg6.view.readAt (Elt Ideal) (Rect.unit (s := S4096x256) (k0_off20 i k) S512x128.size (k0_off20_inb i k)).toLoadRect X6 (ix2 c e) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).o (ix2 (row b c) (pr 2 e)) := fun c e => ld2 _ _ _ (k0_off20_eq i k) c e (row b c) (pr 2 e) (hrow c) rfl
  have hl2 : ∀ (c : Fin 512), arg7.view.readAt (Elt Ideal) (Rect.unit (s := S2x2x4096) (k0_off25 i k) S1x1x512.size (k0_off25_inb i k)).toLoadRect X7 (ix3 0 0 c) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).l (ix3 (hp 2) (hr 2) (row b c)) := fun c => ld3 _ _ _ (k0_off25_eq i k) 0 0 c (hp 2) (hr 2) (row b c) rfl rfl (hrow c)
  have hd2 : ∀ (c : Fin 512), arg8.view.readAt (Elt Ideal) (Rect.unit (s := S2x2x4096) (k0_off25 i k) S1x1x512.size (k0_off25_inb i k)).toLoadRect X8 (ix3 0 0 c) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).d (ix3 (hp 2) (hr 2) (row b c)) := fun c => ld3 _ _ _ (k0_off25_eq i k) 0 0 c (hp 2) (hr 2) (row b c) rfl rfl (hrow c)
  have ht2 : ∀ (d : Fin 128) (k : Fin 512), arg4.view.readAt (Elt Ideal) (Rect.unit (s := S512x512) ![256, 0] S128x512.size inb_S512x512_S128x512_256_0).toLoadRect X4 (ix2 d k) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).t (ix2 (hd 2 d) k) := fun d k => ld2 _ _ _ rfl d k (hd 2 d) k rfl (by omega)
  have hP2 := p_of (a := 2) (j := j) hjb (sc_of hk2 hq2) hl2
  have hS2 := ds_of (a := 2) (j := j) hP2 (dp_of hv2 ho2) hd2

  have hk3 : ∀ (k : Fin 512) (d : Fin 128), arg3.view.readAt (Elt Ideal) (Rect.unit (s := S512x512) ![0, 384] S512x128.size inb_S512x512_S512x128_0_384).toLoadRect X3 (ix2 k d) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).k (ix2 k (hd 3 d)) := fun k d => ld2 _ _ _ rfl k d k (hd 3 d) (by omega) rfl
  have hq3 : ∀ (c : Fin 512) (d : Fin 128), arg2.view.readAt (Elt Ideal) (Rect.unit (s := S4096x512) (k0_off18 i k) S512x128.size (k0_off18_inb i k)).toLoadRect X2 (ix2 c d) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).q (ix2 (row b c) (hd 3 d)) := fun c d => ld2 _ _ _ (k0_off18_eq i k) c d (row b c) (hd 3 d) (hrow c) rfl
  have hv3 : ∀ (k : Fin 512) (e : Fin 128), arg12.view.readAt (Elt Ideal) (Rect.unit (s := S4x512x128) ![3, 0, 0] S1x512x128.size inb_S4x512x128_S1x512x128_3_0_0).toLoadRect X12 (ix3 0 k e) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).va (ix3 3 k e) := fun k e => ld3 _ _ _ rfl 0 k e 3 k e rfl (by omega) (by omega)
  have ho3 : ∀ (c : Fin 512) (e : Fin 128), arg6.view.readAt (Elt Ideal) (Rect.unit (s := S4096x256) (k0_off20 i k) S512x128.size (k0_off20_inb i k)).toLoadRect X6 (ix2 c e) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).o (ix2 (row b c) (pr 3 e)) := fun c e => ld2 _ _ _ (k0_off20_eq i k) c e (row b c) (pr 3 e) (hrow c) rfl
  have hl3 : ∀ (c : Fin 512), arg7.view.readAt (Elt Ideal) (Rect.unit (s := S2x2x4096) (k0_off27 i k) S1x1x512.size (k0_off27_inb i k)).toLoadRect X7 (ix3 0 0 c) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).l (ix3 (hp 3) (hr 3) (row b c)) := fun c => ld3 _ _ _ (k0_off27_eq i k) 0 0 c (hp 3) (hr 3) (row b c) rfl rfl (hrow c)
  have hd3 : ∀ (c : Fin 512), arg8.view.readAt (Elt Ideal) (Rect.unit (s := S2x2x4096) (k0_off27 i k) S1x1x512.size (k0_off27_inb i k)).toLoadRect X8 (ix3 0 0 c) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).d (ix3 (hp 3) (hr 3) (row b c)) := fun c => ld3 _ _ _ (k0_off27_eq i k) 0 0 c (hp 3) (hr 3) (row b c) rfl rfl (hrow c)
  have ht3 : ∀ (d : Fin 128) (k : Fin 512), arg4.view.readAt (Elt Ideal) (Rect.unit (s := S512x512) ![384, 0] S128x512.size inb_S512x512_S128x512_384_0).toLoadRect X4 (ix2 d k) = (⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).t (ix2 (hd 3 d) k) := fun d k => ld2 _ _ _ rfl d k (hd 3 d) k rfl (by omega)
  have hP3 := p_of (a := 3) (j := j) hjb (sc_of hk3 hq3) hl3
  have hS3 := ds_of (a := 3) (j := j) hP3 (dp_of hv3 ho3) hd3

  refine ⟨?_, ?_, ?_⟩

  · refine rows9 _ _ b _ _ _ _ ((k0_off22_eq i k).trans (by rw [hb'])) ((k0_off24_eq i k).trans (by rw [hb'])) ((k0_off26_eq i k).trans (by rw [hb'])) ((k0_off28_eq i k).trans (by rw [hb'])) _ _ _ _ _ ?_ ?_ ?_ ?_ fun r q hq => (if_neg hq).symm
    · exact dq_of hS0 ht0 fun d c => by
        refine (ld2 _ _ _ (k0_off22_eq i k) d c (hd 0 d) (row b c) rfl (hrow c)).trans ?_
        rfl
    · exact dq_of hS1 ht1 fun d c => by
        refine (ld2 _ _ _ (k0_off24_eq i k) d c (hd 1 d) (row b c) rfl (hrow c)).trans ?_
        rfl
    · exact dq_of hS2 ht2 fun d c => by
        refine (ld2 _ _ _ (k0_off26_eq i k) d c (hd 2 d) (row b c) rfl (hrow c)).trans ?_
        rfl
    · exact dq_of hS3 ht3 fun d c => by
        refine (ld2 _ _ _ (k0_off28_eq i k) d c (hd 3 d) (row b c) rfl (hrow c)).trans ?_
        rfl
  · refine lanes10 _ _ [] _ _ _ _ _ _ _ _ _ ?_ ?_ ?_ ?_
    · exact dk_of hS0 hq0 fun k d => by
        refine (ld2 _ _ _ rfl k d k (hd 0 d) (by omega) rfl).trans ?_
        rfl
    · exact dk_of hS1 hq1 fun k d => by
        refine (ld2 _ _ _ rfl k d k (hd 1 d) (by omega) rfl).trans ?_
        rfl
    · exact dk_of hS2 hq2 fun k d => by
        refine (ld2 _ _ _ rfl k d k (hd 2 d) (by omega) rfl).trans ?_
        rfl
    · exact dk_of hS3 hq3 fun k d => by
        refine (ld2 _ _ _ rfl k d k (hd 3 d) (by omega) rfl).trans ?_
        rfl
  · refine slabs13 _ _ [] _ _ _ _ _ _ _ _ _ ?_ ?_ ?_ ?_
    · exact dv_of (fW := arg13.view.readAt (Elt Ideal) (Rect.unit (s := S4x512x128) ![0, 0, 0] S1x512x128.size inb_S4x512x128_S1x512x128_0_0_0).toLoadRect X13) hP0 ho0 fun k e => by
        refine (ld3 _ _ _ rfl 0 k e 0 k e rfl (by omega) (by omega)).trans ?_
        rfl
    · exact dv_of (fW := arg13.view.readAt (Elt Ideal) (Rect.unit (s := S4x512x128) ![1, 0, 0] S1x512x128.size inb_S4x512x128_S1x512x128_1_0_0).toLoadRect X13) hP1 ho1 fun k e => by
        refine (ld3 _ _ _ rfl 0 k e 1 k e rfl (by omega) (by omega)).trans ?_
        rfl
    · exact dv_of (fW := arg13.view.readAt (Elt Ideal) (Rect.unit (s := S4x512x128) ![2, 0, 0] S1x512x128.size inb_S4x512x128_S1x512x128_2_0_0).toLoadRect X13) hP2 ho2 fun k e => by
        refine (ld3 _ _ _ rfl 0 k e 2 k e rfl (by omega) (by omega)).trans ?_
        rfl
    · exact dv_of (fW := arg13.view.readAt (Elt Ideal) (Rect.unit (s := S4x512x128) ![3, 0, 0] S1x512x128.size inb_S4x512x128_S1x512x128_3_0_0).toLoadRect X13) hP3 ho3 fun k e => by
        refine (ld3 _ _ _ rfl 0 k e 3 k e rfl (by omega) (by omega)).trans ?_
        rfl

end Cert.KernelIdeal.Hand

end
-- ==== Proof.Loop.lean ====
module

public import proofs.«01_k».proof.Proof.Gen.KernelIdeal.Frame
public import proofs.«01_k».proof.Proof.Gen.KernelIdeal.Skeleton
public import proofs.«01_k».proof.Proof.Trip
public import Idealize.ShloMosaic.Lib.Pipeline.ValueKit
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The key block of a grid point. -/
def jOf (i : grid0.Coords) : Fin 8 := ⟨(i 1).val, (i 1).isLt⟩

/-- Steps `j + 1, …, j + n` (those below 8), one after another. -/
def iter {α : Type} (step : Fin 8 → α → α) (j : Fin 8) : ℕ → α → α
  | 0, f => f
  | n + 1, f => if h : j.val + n + 1 < 8 then step ⟨j.val + n + 1, h⟩ (iter step j n f) else iter step j n f

/-- The number of query blocks below the diagonal. -/
theorem trips_eq : ∀ i : grid0.Coords, (k0_t1_loop i).trips = 7 - (i 1).val := by decide +kernel

/-- The step that a trip of the loop takes. -/
theorem iter_trip {α : Type} (step : Fin 8 → α → α) (i : grid0.Coords) (k : Fin (k0_t1_loop i).trips) (h : (i 1).val + k.val + 1 < 8) (f : α) :
    iter step (jOf i) (k.val + 1) f = step ⟨(i 1).val + k.val + 1, h⟩ (iter step (jOf i) k.val f) := dif_pos h

/-- What the loop holds before trip `k`: what it reads, and in what it writes the gradients after `k` steps. -/
abbrev inv (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x2x4096 .f32) (harg7 : arg7.IsWhole) (arg8 : Memref sig .tc .vmem S2x2x4096 .f32) (harg8 : arg8.IsWhole) (arg9 : Memref sig .tc .vmem S512x4096 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S4x512x128 .bf16) (harg12 : arg12.IsWhole) (arg13 : Memref sig .tc .vmem S4x512x128 .f32) (harg13 : arg13.IsWhole) (X2 : BufTy.Contents (Elt Ideal) arg2.view.ty) (X3 : BufTy.Contents (Elt Ideal) arg3.view.ty) (X4 : BufTy.Contents (Elt Ideal) arg4.view.ty) (X6 : BufTy.Contents (Elt Ideal) arg6.view.ty) (X7 : BufTy.Contents (Elt Ideal) arg7.view.ty) (X8 : BufTy.Contents (Elt Ideal) arg8.view.ty) (X12 : BufTy.Contents (Elt Ideal) arg12.view.ty) (G9 : BufTy.Contents (Elt Ideal) arg9.view.ty) (G10 : BufTy.Contents (Elt Ideal) arg10.view.ty) (G13 : BufTy.Contents (Elt Ideal) arg13.view.ty) (k : ℕ) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg12.view.loc (c : Thread nD τ) ↦[arg12.view.set]{fullShare} X12) ∗ (∃ f, (arg9.view.loc (c : Thread nD τ) ↦[arg9.view.set]{fullShare} f) ∗ ⌜arg9.view.read (Elt Ideal) f = iter ((⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).stepDq (jOf i)) (jOf i) k (arg9.view.read (Elt Ideal) G9)⌝) ∗ (∃ f, (arg10.view.loc (c : Thread nD τ) ↦[arg10.view.set]{fullShare} f) ∗ ⌜arg10.view.read (Elt Ideal) f = iter ((⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).stepDk (jOf i)) (jOf i) k (arg10.view.read (Elt Ideal) G10)⌝) ∗ (∃ f, (arg13.view.loc (c : Thread nD τ) ↦[arg13.view.set]{fullShare} f) ∗ ⌜arg13.view.read (Elt Ideal) f = iter ((⟨arg2.view.read (Elt Ideal) X2, arg3.view.read (Elt Ideal) X3, arg4.view.read (Elt Ideal) X4, arg12.view.read (Elt Ideal) X12, arg6.view.read (Elt Ideal) X6, arg7.view.read (Elt Ideal) X7, arg8.view.read (Elt Ideal) X8⟩ : Env).stepDv (jOf i)) (jOf i) k (arg13.view.read (Elt Ideal) G13)⌝))

set_option warn.classDefReducibility false in
/-- The loop over the query blocks below the diagonal, by its invariant. -/
@[sl_loop] def loopInv (𝒱 : Variants) (c : Dev nD) (bd : Option 𝒱.V) (E : Set ℕ) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x2x4096 .f32) (harg7 : arg7.IsWhole) (arg8 : Memref sig .tc .vmem S2x2x4096 .f32) (harg8 : arg8.IsWhole) (arg9 : Memref sig .tc .vmem S512x4096 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S4x512x128 .bf16) (harg12 : arg12.IsWhole) (arg13 : Memref sig .tc .vmem S4x512x128 .f32) (harg13 : arg13.IsWhole) (arg1 : BitVec 32) (v43 : BitVec 32) (v243 : FVec Ideal S512x512 .f32) (v249 : FVec Ideal S512x512 .f32) (v251 : FVec Ideal S512x128 .f32) (v280 : BitVec 32) (X2 : BufTy.Contents (Elt Ideal) arg2.view.ty) (X3 : BufTy.Contents (Elt Ideal) arg3.view.ty) (X4 : BufTy.Contents (Elt Ideal) arg4.view.ty) (X6 : BufTy.Contents (Elt Ideal) arg6.view.ty) (X7 : BufTy.Contents (Elt Ideal) arg7.view.ty) (X8 : BufTy.Contents (Elt Ideal) arg8.view.ty) (X12 : BufTy.Contents (Elt Ideal) arg12.view.ty) (G9 : BufTy.Contents (Elt Ideal) arg9.view.ty) (G10 : BufTy.Contents (Elt Ideal) arg10.view.ty) (G13 : BufTy.Contents (Elt Ideal) arg13.view.ty) (init : BitVec 32) :
    Idealize.ShloMosaic.LoopInv (M := MT nD τ sig Unit (Elt Ideal) ℕ (UR sig nD τ) ℕ) Idealize.ShloMosaic.frame (wpE defs₀ 𝒱 (c : Thread nD τ) bd) E
      (k0_t1_loop i).lb (k0_t1_loop i).ub (k0_t1_loop i).st (k0_t1_ok i) init (k0_t1_body (F := Ideal) i arg2 harg2 arg3 harg3 arg4 harg4 arg5 harg5 arg6 harg6 arg7 harg7 arg8 harg8 arg9 harg9 arg10 harg10 arg11 harg11 arg12 harg12 arg13 harg13 arg1 v43 v243 v249 v251 v280) where
  inv k _ := inv c i arg2 harg2 arg3 harg3 arg4 harg4 arg5 harg5 arg6 harg6 arg7 harg7 arg8 harg8 arg9 harg9 arg10 harg10 arg11 harg11 arg12 harg12 arg13 harg13 X2 X3 X4 X6 X7 X8 X12 G9 G10 G13 k
  step k acc := by
    have hk : (i 1).val + k.val + 1 < 8 := by have h1 : k.val < (k0_t1_loop i).trips := k.isLt; rw [trips_eq] at h1; omega
    iintro ⟨H2, H3, H4, H6, H7, H8, H12, ⟨%f9, H9, %h9⟩, ⟨%f10, H10, %h10⟩, ⟨%f13, H13, %h13⟩⟩
    iapply (wp_wand_r Idealize.ShloMosaic.frame (wpE (defs₀ (F := Ideal)) 𝒱 (c : Thread nD τ) bd) E)
    isplitl [H2 H3 H4 H6 H7 H8 H12 H9 H10 H13]
    · iapply (trip 𝒱 c bd i arg2 harg2 arg3 harg3 arg4 harg4 arg5 harg5 arg6 harg6 arg7 harg7 arg8 harg8 arg9 harg9 arg10 harg10 arg11 harg11 arg12 harg12 arg13 harg13 arg1 v43 v243 v249 v251 v280 X2 X3 X4 X6 X7 X8 X12 f9 f10 f13 k (jOf i) ⟨(i 1).val + k.val + 1, hk⟩ rfl rfl E acc)
      isplitl [H2]; · iexact H2
      isplitl [H3]; · iexact H3
      isplitl [H4]; · iexact H4
      isplitl [H6]; · iexact H6
      isplitl [H7]; · iexact H7
      isplitl [H8]; · iexact H8
      isplitl [H12]; · iexact H12
      isplitl [H9]; · iexact H9
      isplitl [H10]; · iexact H10
      iexact H13
    · iintro %yld ⟨%g9, %g10, %g13, %hg, H2, H3, H4, H6, H7, H8, H12, H9, H10, H13⟩
      isplitl [H2]; · iexact H2
      isplitl [H3]; · iexact H3
      isplitl [H4]; · iexact H4
      isplitl [H6]; · iexact H6
      isplitl [H7]; · iexact H7
      isplitl [H8]; · iexact H8
      isplitl [H12]; · iexact H12
      isplitl [H9]
      · iexists _; isplitl [H9]; · iexact H9
        ipureintro; rw [hg.1, h9]; exact (iter_trip _ i k hk _).symm
      isplitl [H10]
      · iexists _; isplitl [H10]; · iexact H10
        ipureintro; rw [hg.2.1, h10]; exact (iter_trip _ i k hk _).symm
      iexists _; isplitl [H13]; · iexact H13
      ipureintro; rw [hg.2.2, h13]; exact (iter_trip _ i k hk _).symm

end Cert.KernelIdeal.Hand

end
-- ==== Proof.Scratch.lean ====
module

public import proofs.«01_k».proof.Proof.Loop

@[expose] public section

set_option maxRecDepth 16384

noncomputable section

/-! What the body writes before its steps and after them: the values with the other head's lanes cleared, the zero fills,
the two heads of a pair put side by side, the keys' gradient times a constant. -/

namespace Cert.KernelIdeal.Hand

open Cert.KernelIdeal Cert.KernelIdeal.Gen
open Idealize.ShloMosaic Idealize.ShloMosaic.TcCoe Idealize.SL.Sem

/-- The values of head `a` alone: its pair's lanes, those of the other head zero. -/
def vaOf (x : Vec Ideal S512x256 .bf16) : Vec Ideal S4x512x128 .bf16 :=
  fun y => if ((y 2).val < 64 ↔ (y 0).val % 2 = 0) then x (ix2 (y 1) (pr (y 0) (y 2))) else (0 : EReal)

theorem vaOf_at (x : Vec Ideal S512x256 .bf16) (a : Fin 4) (k : Fin 512) (e : Fin 128) :
    vaOf x (ix3 a k e) = if (e.val < 64 ↔ a.val % 2 = 0) then x (ix2 k (pr a e)) else (0 : EReal) := rfl

theorem slt64 (e : Fin 128) : IntOp.cmpi CmpIPredicate.slt (BitVec.ofNat 32 e.val) 64#32 = BitVec.ofBool (decide (e.val < 64)) := by
  have h : IntOp.cmpi CmpIPredicate.slt (BitVec.ofNat 32 e.val) (BitVec.ofNat 32 64) = BitVec.ofBool (decide (e.val < 64)) := by word_cmp
  exact h

theorem sge64 (e : Fin 128) : IntOp.cmpi CmpIPredicate.sge (BitVec.ofNat 32 e.val) 64#32 = BitVec.ofBool (decide (64 ≤ e.val)) := by
  have h : IntOp.cmpi CmpIPredicate.sge (BitVec.ofNat 32 e.val) (BitVec.ofNat 32 64) = BitVec.ofBool (decide (64 ≤ e.val)) := by word_cmp
  exact h

/-- The first head's values. -/
theorem pay68_at (w : Vec Ideal S512x128 .bf16) (k : Fin 512) (e : Fin 128) :
    (k0_pay68 (F := Ideal) w (ix3 0 k e) : EReal) = if e.val < 64 then (w (ix2 k e) : EReal) else 0 := by
  pointwise [k0_pay68, k0_pay67]
  rw [slt64]
  by_cases h : e.val < 64
  · rw [if_pos h, decide_eq_true h]; rfl
  · rw [if_neg h, decide_eq_false h]; rfl
/-- The second head's values. -/
theorem pay69_at (w : Vec Ideal S512x128 .bf16) (k : Fin 512) (e : Fin 128) :
    (k0_pay69 (F := Ideal) w (ix3 0 k e) : EReal) = if e.val < 64 then 0 else (w (ix2 k e) : EReal) := by
  pointwise [k0_pay69, k0_pay67]
  rw [sge64]
  by_cases h : e.val < 64
  · rw [if_pos h, decide_eq_false (show ¬ 64 ≤ e.val by omega)]; rfl
  · rw [if_neg h, decide_eq_true (show 64 ≤ e.val by omega)]; rfl
/-- The third head's values. -/
theorem pay71_at (w : Vec Ideal S512x128 .bf16) (k : Fin 512) (e : Fin 128) :
    (k0_pay71 (F := Ideal) w (ix3 0 k e) : EReal) = if e.val < 64 then (w (ix2 k e) : EReal) else 0 := pay68_at w k e
/-- The fourth head's values. -/
theorem pay73_at (w : Vec Ideal S512x128 .bf16) (k : Fin 512) (e : Fin 128) :
    (k0_pay73 (F := Ideal) (k0_pay70 w) k0_pay72 (Scalar.ofBits .bf16 0x0000#16) (ix3 0 k e) : EReal) = if e.val < 64 then 0 else (w (ix2 k e) : EReal) :=
  pay69_at w k e

/-- The queries' gradient is set to zero. -/
theorem pay66_at (y : S512x4096.Idx) : (k0_pay66 (F := Ideal) y : EReal) = 0 := by
  obtain ⟨a, b, rfl⟩ : ∃ (a : Fin 512) (b : Fin 4096), y = ix2 a b := ⟨_, _, eq_ix2 y⟩
  pointwise! [k0_pay66]
/-- The keys' gradient is set to zero. -/
theorem pay74_at (y : S512x512.Idx) : (k0_pay74 (F := Ideal) y : EReal) = 0 := by
  obtain ⟨a, b, rfl⟩ : ∃ (a : Fin 512) (b : Fin 512), y = ix2 a b := ⟨_, _, eq_ix2 y⟩
  pointwise! [k0_pay74]
/-- The values' gradient is set to zero. -/
theorem pay75_at (y : S4x512x128.Idx) : (k0_pay75 (F := Ideal) y : EReal) = 0 := by
  obtain ⟨a, b, c, rfl⟩ : ∃ (a : Fin 4) (b : Fin 512) (c : Fin 128), y = ix3 a b c := ⟨_, _, _, eq_ix3 y⟩
  pointwise! [k0_pay75]

/-- The keys' gradient is scaled. -/
theorem pay3_at (w : Vec Ideal S512x512 .f32) (y : S512x512.Idx) : (k0_pay3 (F := Ideal) w y : EReal) = (w y : EReal) * ((Real.log 2 : ℝ) : EReal) := by
  obtain ⟨a, b, rfl⟩ : ∃ (a : Fin 512) (b : Fin 512), y = ix2 a b := ⟨_, _, eq_ix2 y⟩
  pointwise [k0_pay3]
  rfl
/-- The first pair of heads, side by side. -/
theorem pay1_at (w w' : Vec Ideal S1x512x128 .f32) (k : Fin 512) (e : Fin 128) :
    (k0_pay1 (F := Ideal) (iota .tc S512x128 32 [1] iota_S512x128_d1_w32) w w' (ix2 k e) : EReal) = if e.val < 64 then (w (ix3 0 k e) : EReal) else w' (ix3 0 k e) := by
  pointwise [k0_pay1]
  rw [slt64]
  by_cases h : e.val < 64
  · rw [if_pos h, decide_eq_true h]; rfl
  · rw [if_neg h, decide_eq_false h]; rfl
/-- The second pair of heads, side by side. -/
theorem pay2_at (w w' : Vec Ideal S1x512x128 .f32) (k : Fin 512) (e : Fin 128) :
    (k0_pay2 (F := Ideal) (iota .tc S512x128 32 [1] iota_S512x128_d1_w32) w w' (ix2 k e) : EReal) = if e.val < 64 then (w (ix3 0 k e) : EReal) else w' (ix3 0 k e) :=
  pay1_at w w' k e

theorem mkEq (X : Env) {q k t va o l d} (h2 : q = X.q) (h3 : k = X.k) (h4 : t = X.t) (h12 : va = X.va) (h6 : o = X.o) (h7 : l = X.l) (h8 : d = X.d) :
    (⟨q, k, t, va, o, l, d⟩ : Env) = X := by
  subst h2 h3 h4 h12 h6 h7 h8; rfl

section Out

variable (X : Env) (j : Fin 8)

/-- The queries' gradient after a grid point: the block's steps `j, …, 7` over what the point before left, or over zero at the first. -/
def outDq (f : Vec Ideal S512x4096 .f32) : Vec Ideal S512x4096 .f32 :=
  iter (X.stepDq j) j (7 - j.val) (X.stepDq j j (if j.val = 0 then fun _ => (0 : EReal) else f))
/-- The sum over the query blocks `j, …, 7` that makes the keys' gradient. -/
def sumDk : Vec Ideal S512x512 .f32 := iter (X.stepDk j) j (7 - j.val) (X.stepDk j j fun _ => (0 : EReal))
/-- The sum over the query blocks `j, …, 7` that makes the values' gradient. -/
def sumDv : Vec Ideal S4x512x128 .f32 := iter (X.stepDv j) j (7 - j.val) (X.stepDv j j fun _ => (0 : EReal))
/-- The keys' gradient of the block. -/
def outDk : Vec Ideal S512x512 .f32 := fun y => (sumDk X j y : EReal) * ((Real.log 2 : ℝ) : EReal)
/-- The values' gradient of the block: each head's own lanes. -/
def outDv : Vec Ideal S512x256 .f32 :=
  fun y => sumDv X j (ix3 ⟨(y 1).val / 64, by have := (y 1).isLt; change (y 1).val < 256 at this; omega⟩ (y 0) ⟨(y 1).val % 128, by omega⟩)

end Out

section Views

variable {κ : Kind} {sp : Space}

/-- A matrix filled with zeros reads zero. -/
theorem zero10 (v : View sig κ sp S512x512 .f32) (f : v.ty.Contents (Elt Ideal)) (inb : ∀ a, (![0, 0] : Fin 2 → ℕ) a + S512x512.size a ≤ S512x512.size a) (y : S512x512.Idx) :
    (v.read (Elt Ideal) (v.writes (Elt Ideal) f [⟨Rect.unit ![0, 0] S512x512.size inb, k0_pay74 (F := Ideal)⟩]) y : EReal) = 0 := by
  refine (View.read_writes_cons_unit_of_mem v f inb (k0_pay74 (F := Ideal)) [] y y rfl fun x => ?_).trans (pay74_at y)
  match x with
  | ⟨0, _⟩ => exact (Nat.zero_add _).symm
  | ⟨1, _⟩ => exact (Nat.zero_add _).symm

/-- The four slabs filled with zeros read zero. -/
theorem zero13 (v : View sig κ sp S4x512x128 .f32) (f : v.ty.Contents (Elt Ideal)) (inb : ∀ a, (![0, 0, 0] : Fin 3 → ℕ) a + S4x512x128.size a ≤ S4x512x128.size a) (y : S4x512x128.Idx) :
    (v.read (Elt Ideal) (v.writes (Elt Ideal) f [⟨Rect.unit ![0, 0, 0] S4x512x128.size inb, k0_pay75 (F := Ideal)⟩]) y : EReal) = 0 := by
  refine (View.read_writes_cons_unit_of_mem v f inb (k0_pay75 (F := Ideal)) [] y y rfl fun x => ?_).trans (pay75_at y)
  match x with
  | ⟨0, _⟩ => exact (Nat.zero_add _).symm
  | ⟨1, _⟩ => exact (Nat.zero_add _).symm
  | ⟨2, _⟩ => exact (Nat.zero_add _).symm

/-- The queries' gradient filled with zeros reads zero. -/
theorem zero9 (v : View sig κ sp S512x4096 .f32) (f : v.ty.Contents (Elt Ideal)) (inb : ∀ a, (![0, 0] : Fin 2 → ℕ) a + S512x4096.size a ≤ S512x4096.size a) (y : S512x4096.Idx) :
    (v.read (Elt Ideal) (v.writes (Elt Ideal) f [⟨Rect.unit ![0, 0] S512x4096.size inb, k0_pay66 (F := Ideal)⟩]) y : EReal) = 0 := by
  refine (View.read_writes_cons_unit_of_mem v f inb (k0_pay66 (F := Ideal)) [] y y rfl fun x => ?_).trans (pay66_at y)
  match x with
  | ⟨0, _⟩ => exact (Nat.zero_add _).symm
  | ⟨1, _⟩ => exact (Nat.zero_add _).symm

/-- The four heads' values, as stored. -/
theorem va12 (v : View sig κ sp S4x512x128 .bf16) (f : v.ty.Contents (Elt Ideal)) (x : Vec Ideal S512x256 .bf16)
    (inb0 : ∀ a, (![0, 0, 0] : Fin 3 → ℕ) a + S1x512x128.size a ≤ S4x512x128.size a) (inb1 : ∀ a, (![1, 0, 0] : Fin 3 → ℕ) a + S1x512x128.size a ≤ S4x512x128.size a)
    (inb2 : ∀ a, (![2, 0, 0] : Fin 3 → ℕ) a + S1x512x128.size a ≤ S4x512x128.size a) (inb3 : ∀ a, (![3, 0, 0] : Fin 3 → ℕ) a + S1x512x128.size a ≤ S4x512x128.size a)
    (w w' : Vec Ideal S512x128 .bf16) (hw : ∀ k e, w (ix2 k e) = x (ix2 k (pr 0 e))) (hw' : ∀ k e, w' (ix2 k e) = x (ix2 k (pr 2 e))) :
    v.read (Elt Ideal) (v.writes (Elt Ideal) f [⟨Rect.unit ![3, 0, 0] S1x512x128.size inb3, k0_pay73 (k0_pay70 w') k0_pay72 (Scalar.ofBits .bf16 0x0000#16)⟩,
      ⟨Rect.unit ![2, 0, 0] S1x512x128.size inb2, k0_pay71 w'⟩, ⟨Rect.unit ![1, 0, 0] S1x512x128.size inb1, k0_pay69 w⟩,
      ⟨Rect.unit ![0, 0, 0] S1x512x128.size inb0, k0_pay68 w⟩]) = vaOf x := by
  refine slabs13 v f [] inb0 inb1 inb2 inb3 _ _ _ _ (vaOf x) ?_ ?_ ?_ ?_
  · intro k e
    refine (pay68_at w k e).trans ?_
    rw [hw]
    exact if_congr (by show e.val < 64 ↔ (e.val < 64 ↔ 0 % 2 = 0); simp) rfl rfl
  · intro k e
    refine (pay69_at w k e).trans ?_
    rw [hw]
    by_cases h : e.val < 64
    · rw [if_pos h]; exact ((vaOf_at x 1 k e).trans (if_neg fun hc => absurd (hc.mp h) (show ¬ (1 : ℕ) % 2 = 0 by decide))).symm
    · rw [if_neg h]; exact ((vaOf_at x 1 k e).trans (if_pos ⟨fun hc => absurd hc h, fun hc => absurd hc (show ¬ (1 : ℕ) % 2 = 0 by decide)⟩)).symm
  · intro k e
    refine (pay71_at w' k e).trans ?_
    rw [hw']
    exact if_congr (by show e.val < 64 ↔ (e.val < 64 ↔ 2 % 2 = 0); simp) rfl rfl
  · intro k e
    refine (pay73_at w' k e).trans ?_
    rw [hw']
    by_cases h : e.val < 64
    · rw [if_pos h]; exact ((vaOf_at x 3 k e).trans (if_neg fun hc => absurd (hc.mp h) (show ¬ (3 : ℕ) % 2 = 0 by decide))).symm
    · rw [if_neg h]; exact ((vaOf_at x 3 k e).trans (if_pos ⟨fun hc => absurd hc h, fun hc => absurd hc (show ¬ (3 : ℕ) % 2 = 0 by decide)⟩)).symm

/-- The values' gradient put side by side: what the two stores of the pairs leave. -/
theorem pairs11 (v : View sig κ sp S512x256 .f32) (f : v.ty.Contents (Elt Ideal)) (D : Vec Ideal S4x512x128 .f32)
    (inb0 : ∀ a, (![0, 0] : Fin 2 → ℕ) a + S512x128.size a ≤ S512x256.size a) (inb1 : ∀ a, (![0, 128] : Fin 2 → ℕ) a + S512x128.size a ≤ S512x256.size a)
    (w0 w1 w2 w3 : Vec Ideal S1x512x128 .f32) (h0 : ∀ k e, w0 (ix3 0 k e) = D (ix3 0 k e)) (h1 : ∀ k e, w1 (ix3 0 k e) = D (ix3 1 k e))
    (h2 : ∀ k e, w2 (ix3 0 k e) = D (ix3 2 k e)) (h3 : ∀ k e, w3 (ix3 0 k e) = D (ix3 3 k e)) :
    v.read (Elt Ideal) (v.writes (Elt Ideal) f [⟨Rect.unit ![0, 128] S512x128.size inb1, k0_pay2 (iota .tc S512x128 32 [1] iota_S512x128_d1_w32) w2 w3⟩,
      ⟨Rect.unit ![0, 0] S512x128.size inb0, k0_pay1 (iota .tc S512x128 32 [1] iota_S512x128_d1_w32) w0 w1⟩])
      = fun y => D (ix3 ⟨(y 1).val / 64, by have := (y 1).isLt; change (y 1).val < 256 at this; omega⟩ (y 0) ⟨(y 1).val % 128, by omega⟩) := by
  funext y
  obtain ⟨k, l, rfl⟩ : ∃ (k : Fin 512) (l : Fin 256), y = ix2 k l := ⟨_, _, eq_ix2 y⟩
  show _ = D (ix3 (⟨l.val / 64, by omega⟩ : Fin 4) k (⟨l.val % 128, by omega⟩ : Fin 128))
  by_cases hl : l.val < 128
  · refine (View.read_writes_cons_unit_of_not_mem v f inb1 _ _ _ rfl (1 : Fin 2) (by show l.val < 128 ∨ 128 + 128 ≤ l.val; omega)).trans ?_
    refine (View.read_writes_cons_unit_of_mem v f inb0 _ _ _ (ix2 k ⟨l.val, hl⟩) rfl fun x => ?_).trans ?_
    · match x with
      | ⟨0, _⟩ => exact (Nat.zero_add _).symm
      | ⟨1, _⟩ => exact (Nat.zero_add _).symm
    · refine (pay1_at w0 w1 k ⟨l.val, hl⟩).trans ?_
      rw [h0, h1]
      by_cases h : l.val < 64
      · rw [if_pos h]
        exact congrArg D (congrArg₂ (fun a e => ix3 a k e) (Fin.ext (by show 0 = l.val / 64; omega)) (Fin.ext (by show l.val = l.val % 128; omega)))
      · rw [if_neg h]
        exact congrArg D (congrArg₂ (fun a e => ix3 a k e) (Fin.ext (by show 1 = l.val / 64; omega)) (Fin.ext (by show l.val = l.val % 128; omega)))
  · refine (View.read_writes_cons_unit_of_mem v f inb1 _ _ _ (ix2 k ⟨l.val - 128, by omega⟩) rfl fun x => ?_).trans ?_
    · match x with
      | ⟨0, _⟩ => exact (Nat.zero_add _).symm
      | ⟨1, _⟩ => show l.val = 128 + (l.val - 128); omega
    · refine (pay2_at w2 w3 k ⟨l.val - 128, by omega⟩).trans ?_
      rw [h2, h3]
      by_cases h : l.val - 128 < 64
      · rw [if_pos h]
        exact congrArg D (congrArg₂ (fun a e => ix3 a k e) (Fin.ext (by show 2 = l.val / 64; omega)) (Fin.ext (by show l.val - 128 = l.val % 128; omega)))
      · rw [if_neg h]
        exact congrArg D (congrArg₂ (fun a e => ix3 a k e) (Fin.ext (by show 3 = l.val / 64; omega)) (Fin.ext (by show l.val - 128 = l.val % 128; omega)))

/-- What the queries' gradient holds after the conditional zero fill. -/
theorem base9 (v : View sig κ sp S512x4096 .f32) (c : Prop) [Decidable c] (G : v.ty.Contents (Elt Ideal)) (x : Vec Ideal S512x4096 .f32) (hG : v.read (Elt Ideal) G = x)
    (inb : ∀ a, (![0, 0] : Fin 2 → ℕ) a + S512x4096.size a ≤ S512x4096.size a) {b : Fin 8} (hc : c ↔ b.val = 0) :
    v.read (Elt Ideal) (if _h : c then v.writes (Elt Ideal) G [⟨Rect.unit ![0, 0] S512x4096.size inb, k0_pay66 (F := Ideal)⟩] else G)
      = if b.val = 0 then fun _ => (0 : EReal) else x := by
  by_cases h : c
  · rw [dif_pos h, if_pos (hc.mp h)]
    exact funext fun y => zero9 v G inb y
  · rw [dif_neg h, if_neg (fun h' => h (hc.mpr h'))]
    exact hG

/-- The queries' gradient after the diagonal's step and the loop. -/
theorem dq9 (v : View sig κ sp S512x4096 .f32) (F : v.ty.Contents (Elt Ideal)) (x : Vec Ideal S512x4096 .f32) (X : Env) (b : Fin 8) (fL : v.ty.Contents (Elt Ideal))
    (hF : v.read (Elt Ideal) F = if b.val = 0 then fun _ => (0 : EReal) else x) {off0 off1 off2 off3 : Fin 2 → ℕ}
    (inb0 : ∀ a, off0 a + S128x512.size a ≤ S512x4096.size a) (inb1 : ∀ a, off1 a + S128x512.size a ≤ S512x4096.size a)
    (inb2 : ∀ a, off2 a + S128x512.size a ≤ S512x4096.size a) (inb3 : ∀ a, off3 a + S128x512.size a ≤ S512x4096.size a)
    (h0 : off0 = ![0, 512 * b.val]) (h1 : off1 = ![128, 512 * b.val]) (h2 : off2 = ![256, 512 * b.val]) (h3 : off3 = ![384, 512 * b.val])
    (w0 w1 w2 w3 : Vec Ideal S128x512 .f32) {n : ℕ}
    (hL : v.read (Elt Ideal) fL = iter (X.stepDq b) b n (v.read (Elt Ideal) (v.writes (Elt Ideal) F [⟨Rect.unit off3 S128x512.size inb3, w3⟩,
      ⟨Rect.unit off2 S128x512.size inb2, w2⟩, ⟨Rect.unit off1 S128x512.size inb1, w1⟩, ⟨Rect.unit off0 S128x512.size inb0, w0⟩])))
    (hn : n = 7 - b.val)
    (H0 : ∀ d c, w0 (ix2 d c) = X.stepDq b b (v.read (Elt Ideal) F) (ix2 (hd 0 d) (row b c))) (H1 : ∀ d c, w1 (ix2 d c) = X.stepDq b b (v.read (Elt Ideal) F) (ix2 (hd 1 d) (row b c)))
    (H2 : ∀ d c, w2 (ix2 d c) = X.stepDq b b (v.read (Elt Ideal) F) (ix2 (hd 2 d) (row b c))) (H3 : ∀ d c, w3 (ix2 d c) = X.stepDq b b (v.read (Elt Ideal) F) (ix2 (hd 3 d) (row b c))) :
    v.read (Elt Ideal) fL = outDq X b x := by
  rw [hL, hn, outDq, ← hF]
  exact congrArg (iter (X.stepDq b) b (7 - b.val)) (rows9 v F b inb0 inb1 inb2 inb3 h0 h1 h2 h3 w0 w1 w2 w3 _ H0 H1 H2 H3 fun r q hq => (if_neg hq).symm)

end Views

end Cert.KernelIdeal.Hand

end
-- ==== Proof.Body.lean ====
module

public import proofs.«01_k».proof.Proof.Gen.KernelIdeal.Frame
public import proofs.«01_k».proof.Proof.Gen.KernelIdeal.Skeleton
public import proofs.«01_k».proof.Proof.Scratch
public import Idealize.ShloMosaic.Lib.Pipeline.ValueKit
public import Idealize.ShloMosaic.Lib.WritesUnit
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The queries' gradient is set to zero at the first key block. -/
theorem first_iff : ∀ i : grid0.Coords, (Scalar.cmpi .ne (Scalar.extui (Scalar.cmpi .eq (BitVec.ofNat 32 (i 1).val) 0#32)) 0#32) = 1#1 ↔ (i 1).val = 0 := by
  decide +kernel

set_option maxHeartbeats 8000000 in
/-- The kernel's body at a grid point: it leaves the block's three gradients. -/
theorem run (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S4096x256 .bf16) (harg6 : arg6.IsWhole) (arg7 : Memref sig .tc .vmem S2x2x4096 .f32) (harg7 : arg7.IsWhole) (arg8 : Memref sig .tc .vmem S2x2x4096 .f32) (harg8 : arg8.IsWhole) (arg9 : Memref sig .tc .vmem S512x4096 .f32) (harg9 : arg9.IsWhole) (arg10 : Memref sig .tc .vmem S512x512 .f32) (harg10 : arg10.IsWhole) (arg11 : Memref sig .tc .vmem S512x256 .f32) (harg11 : arg11.IsWhole) (arg12 : Memref sig .tc .vmem S4x512x128 .bf16) (harg12 : arg12.IsWhole) (arg13 : Memref sig .tc .vmem S4x512x128 .f32) (harg13 : arg13.IsWhole) (x2 : Vec Ideal S4096x512 .bf16) (x3 : Vec Ideal S512x512 .bf16) (x4 : Vec Ideal S512x512 .bf16) (x5 : Vec Ideal S512x256 .bf16) (x6 : Vec Ideal S4096x256 .bf16) (x7 : Vec Ideal S2x2x4096 .f32) (x8 : Vec Ideal S2x2x4096 .f32) (x9 : Vec Ideal S512x4096 .f32) (E : Set ℕ) (K : PUnit → sProp 𝕄) :
   iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outDq (⟨x2, x3, x4, vaOf x5, x6, x7, x8⟩ : Env) (jOf i) x9) ∗ owns (c : Thread nD τ) arg10 fullShare (outDk (⟨x2, x3, x4, vaOf x5, x6, x7, x8⟩ : Env) (jOf i)) ∗ owns (c : Thread nD τ) arg11 fullShare (outDv (⟨x2, x3, x4, vaOf x5, x6, x7, x8⟩ : Env) (jOf i)) ∗ (∃ d, owns (c : Thread nD τ) arg12 fullShare d) ∗ (∃ d, owns (c : Thread nD τ) arg13 fullShare d)) -∗ K ⟨⟩)) ⊢ wp frame (wpE (defs₀ (F := Ideal)) Variants.none c none) E (cc0_attn_bwd (F := Ideal) i arg2 harg2 arg3 harg3 arg4 harg4 arg5 harg5 arg6 harg6 arg7 harg7 arg8 harg8 arg9 harg9 arg10 harg10 arg11 harg11 arg12 harg12 arg13 harg13) K := by
  have hdv : ∀ (a : Fin 4) (d : Fin 128), (hd a d).val / 128 = a.val := fun a d => congrArg Fin.val (hdOf_hd a d)
  simp only [cc0_attn_bwd_eq_skeleton]; unfold cc0_attn_bwd_skel
  simp only [k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec
  sl_step
  obtain ⟨X, hX⟩ : ∃ X : Env, X = (⟨x2, x3, x4, vaOf x5, x6, x7, x8⟩ : Env) := ⟨_, rfl⟩
  obtain ⟨b, hb⟩ : ∃ b : Fin 8, b = jOf i := ⟨_, rfl⟩
  have hbv : b.val = (i 1).val := congrArg Fin.val hb
  have hrow : ∀ z : Fin 512, (row b z).val = 512 * (i 1).val + z.val := fun z => by rw [← hbv]; rfl
  have htr : (k0_t1_loop i).trips = 7 - b.val := (trips_eq i).trans (by rw [hbv])
  have e2 : arg2.view.read (Elt Ideal) (harg2.unread x2) = X.q := (harg2.read_unread x2).trans (congrArg Env.q hX).symm
  have e3 : arg3.view.read (Elt Ideal) (harg3.unread x3) = X.k := (harg3.read_unread x3).trans (congrArg Env.k hX).symm
  have e4 : arg4.view.read (Elt Ideal) (harg4.unread x4) = X.t := (harg4.read_unread x4).trans (congrArg Env.t hX).symm
  have e6 : arg6.view.read (Elt Ideal) (harg6.unread x6) = X.o := (harg6.read_unread x6).trans (congrArg Env.o hX).symm
  have e7 : arg7.view.read (Elt Ideal) (harg7.unread x7) = X.l := (harg7.read_unread x7).trans (congrArg Env.l hX).symm
  have e8 : arg8.view.read (Elt Ideal) (harg8.unread x8) = X.d := (harg8.read_unread x8).trans (congrArg Env.d hX).symm
  have e12 : arg12.view.read (Elt Ideal) (arg12.view.writes (Elt Ideal) arg12.view.junk (run.sl.H12_4 c arg5 harg5 x5)) = X.va := (va12 _ _ x5 _ _ _ _ _ _
      (fun k e => (ld2 _ _ _ rfl k e k (pr 0 e) (by omega) rfl).trans (congrFun (harg5.read_unread x5) _))
      (fun k e => (ld2 _ _ _ rfl k e k (pr 2 e) (by omega) rfl).trans (congrFun (harg5.read_unread x5) _))).trans (congrArg Env.va hX).symm
  have hE : (⟨arg2.view.read (Elt Ideal) (harg2.unread x2), arg3.view.read (Elt Ideal) (harg3.unread x3), arg4.view.read (Elt Ideal) (harg4.unread x4), arg12.view.read (Elt Ideal) (arg12.view.writes (Elt Ideal) arg12.view.junk (run.sl.H12_4 c arg5 harg5 x5)), arg6.view.read (Elt Ideal) (harg6.unread x6), arg7.view.read (Elt Ideal) (harg7.unread x7), arg8.view.read (Elt Ideal) (harg8.unread x8)⟩ : Env) = X := mkEq X e2 e3 e4 e12 e6 e7 e8
  rw [hE, ← hb] at hL8 hL10 hL12
  clear hE
  rw [← hX, ← hb]
  clear hX

  have hk0 : ∀ (k : Fin 512) (d : Fin 128), arg3.view.readAt (Elt Ideal) (Rect.unit (s := S512x512) ![0, 0] S512x128.size inb_S512x512_S512x128_0_0).toLoadRect (harg3.unread x3) (ix2 k d) = X.k (ix2 k (hd 0 d)) := fun k d => (ld2 _ _ _ rfl k d k (hd 0 d) (by omega) rfl).trans (congrFun e3 _)
  have hq0 : ∀ (z : Fin 512) (d : Fin 128), arg2.view.readAt (Elt Ideal) (Rect.unit (s := S4096x512) (k0_off1 i) S512x128.size (k0_off1_inb i)).toLoadRect (harg2.unread x2) (ix2 z d) = X.q (ix2 (row b z) (hd 0 d)) := fun z d => (ld2 _ _ _ (k0_off1_eq i) z d (row b z) (hd 0 d) (hrow z) rfl).trans (congrFun e2 _)
  have hv0 : ∀ (k : Fin 512) (e : Fin 128), arg12.view.readAt (Elt Ideal) (Rect.unit (s := S4x512x128) ![0, 0, 0] S1x512x128.size inb_S4x512x128_S1x512x128_0_0_0).toLoadRect (arg12.view.writes (Elt Ideal) arg12.view.junk (run.sl.H12_4 c arg5 harg5 x5)) (ix3 0 k e) = X.va (ix3 0 k e) := fun k e => (ld3 _ _ _ rfl 0 k e 0 k e rfl (by omega) (by omega)).trans (congrFun e12 _)
  have ho0 : ∀ (z : Fin 512) (e : Fin 128), arg6.view.readAt (Elt Ideal) (Rect.unit (s := S4096x256) (k0_off5 i) S512x128.size (k0_off5_inb i)).toLoadRect (harg6.unread x6) (ix2 z e) = X.o (ix2 (row b z) (pr 0 e)) := fun z e => (ld2 _ _ _ (k0_off5_eq i) z e (row b z) (pr 0 e) (hrow z) rfl).trans (congrFun e6 _)
  have hl0 : ∀ (z : Fin 512), arg7.view.readAt (Elt Ideal) (Rect.unit (s := S2x2x4096) (k0_off7 i) S1x1x512.size (k0_off7_inb i)).toLoadRect (harg7.unread x7) (ix3 0 0 z) = X.l (ix3 (hp 0) (hr 0) (row b z)) := fun z => (ld3 _ _ _ (k0_off7_eq i) 0 0 z (hp 0) (hr 0) (row b z) rfl rfl (hrow z)).trans (congrFun e7 _)
  have hd0 : ∀ (z : Fin 512), arg8.view.readAt (Elt Ideal) (Rect.unit (s := S2x2x4096) (k0_off7 i) S1x1x512.size (k0_off7_inb i)).toLoadRect (harg8.unread x8) (ix3 0 0 z) = X.d (ix3 (hp 0) (hr 0) (row b z)) := fun z => (ld3 _ _ _ (k0_off7_eq i) 0 0 z (hp 0) (hr 0) (row b z) rfl rfl (hrow z)).trans (congrFun e8 _)
  have ht0 : ∀ (d : Fin 128) (k : Fin 512), arg4.view.readAt (Elt Ideal) (Rect.unit (s := S512x512) ![0, 0] S128x512.size inb_S512x512_S128x512_0_0).toLoadRect (harg4.unread x4) (ix2 d k) = X.t (ix2 (hd 0 d) k) := fun d k => (ld2 _ _ _ rfl d k (hd 0 d) k rfl (by omega)).trans (congrFun e4 _)
  have hP0 := pm_of (X := X) (a := 0) (j := b) (sc_of hk0 hq0) hl0
  have hS0 := ds_of (X := X) (a := 0) (j := b) hP0 (dp_of hv0 ho0) hd0

  have hk1 : ∀ (k : Fin 512) (d : Fin 128), arg3.view.readAt (Elt Ideal) (Rect.unit (s := S512x512) ![0, 128] S512x128.size inb_S512x512_S512x128_0_128).toLoadRect (harg3.unread x3) (ix2 k d) = X.k (ix2 k (hd 1 d)) := fun k d => (ld2 _ _ _ rfl k d k (hd 1 d) (by omega) rfl).trans (congrFun e3 _)
  have hq1 : ∀ (z : Fin 512) (d : Fin 128), arg2.view.readAt (Elt Ideal) (Rect.unit (s := S4096x512) (k0_off2 i) S512x128.size (k0_off2_inb i)).toLoadRect (harg2.unread x2) (ix2 z d) = X.q (ix2 (row b z) (hd 1 d)) := fun z d => (ld2 _ _ _ (k0_off2_eq i) z d (row b z) (hd 1 d) (hrow z) rfl).trans (congrFun e2 _)
  have hv1 : ∀ (k : Fin 512) (e : Fin 128), arg12.view.readAt (Elt Ideal) (Rect.unit (s := S4x512x128) ![1, 0, 0] S1x512x128.size inb_S4x512x128_S1x512x128_1_0_0).toLoadRect (arg12.view.writes (Elt Ideal) arg12.view.junk (run.sl.H12_4 c arg5 harg5 x5)) (ix3 0 k e) = X.va (ix3 1 k e) := fun k e => (ld3 _ _ _ rfl 0 k e 1 k e rfl (by omega) (by omega)).trans (congrFun e12 _)
  have ho1 : ∀ (z : Fin 512) (e : Fin 128), arg6.view.readAt (Elt Ideal) (Rect.unit (s := S4096x256) (k0_off5 i) S512x128.size (k0_off5_inb i)).toLoadRect (harg6.unread x6) (ix2 z e) = X.o (ix2 (row b z) (pr 1 e)) := fun z e => (ld2 _ _ _ (k0_off5_eq i) z e (row b z) (pr 1 e) (hrow z) rfl).trans (congrFun e6 _)
  have hl1 : ∀ (z : Fin 512), arg7.view.readAt (Elt Ideal) (Rect.unit (s := S2x2x4096) (k0_off9 i) S1x1x512.size (k0_off9_inb i)).toLoadRect (harg7.unread x7) (ix3 0 0 z) = X.l (ix3 (hp 1) (hr 1) (row b z)) := fun z => (ld3 _ _ _ (k0_off9_eq i) 0 0 z (hp 1) (hr 1) (row b z) rfl rfl (hrow z)).trans (congrFun e7 _)
  have hd1 : ∀ (z : Fin 512), arg8.view.readAt (Elt Ideal) (Rect.unit (s := S2x2x4096) (k0_off9 i) S1x1x512.size (k0_off9_inb i)).toLoadRect (harg8.unread x8) (ix3 0 0 z) = X.d (ix3 (hp 1) (hr 1) (row b z)) := fun z => (ld3 _ _ _ (k0_off9_eq i) 0 0 z (hp 1) (hr 1) (row b z) rfl rfl (hrow z)).trans (congrFun e8 _)
  have ht1 : ∀ (d : Fin 128) (k : Fin 512), arg4.view.readAt (Elt Ideal) (Rect.unit (s := S512x512) ![128, 0] S128x512.size inb_S512x512_S128x512_128_0).toLoadRect (harg4.unread x4) (ix2 d k) = X.t (ix2 (hd 1 d) k) := fun d k => (ld2 _ _ _ rfl d k (hd 1 d) k rfl (by omega)).trans (congrFun e4 _)
  have hP1 := pm_of (X := X) (a := 1) (j := b) (sc_of hk1 hq1) hl1
  have hS1 := ds_of (X := X) (a := 1) (j := b) hP1 (dp_of hv1 ho1) hd1

  have hk2 : ∀ (k : Fin 512) (d : Fin 128), arg3.view.readAt (Elt Ideal) (Rect.unit (s := S512x512) ![0, 256] S512x128.size inb_S512x512_S512x128_0_256).toLoadRect (harg3.unread x3) (ix2 k d) = X.k (ix2 k (hd 2 d)) := fun k d => (ld2 _ _ _ rfl k d k (hd 2 d) (by omega) rfl).trans (congrFun e3 _)
  have hq2 : ∀ (z : Fin 512) (d : Fin 128), arg2.view.readAt (Elt Ideal) (Rect.unit (s := S4096x512) (k0_off3 i) S512x128.size (k0_off3_inb i)).toLoadRect (harg2.unread x2) (ix2 z d) = X.q (ix2 (row b z) (hd 2 d)) := fun z d => (ld2 _ _ _ (k0_off3_eq i) z d (row b z) (hd 2 d) (hrow z) rfl).trans (congrFun e2 _)
  have hv2 : ∀ (k : Fin 512) (e : Fin 128), arg12.view.readAt (Elt Ideal) (Rect.unit (s := S4x512x128) ![2, 0, 0] S1x512x128.size inb_S4x512x128_S1x512x128_2_0_0).toLoadRect (arg12.view.writes (Elt Ideal) arg12.view.junk (run.sl.H12_4 c arg5 harg5 x5)) (ix3 0 k e) = X.va (ix3 2 k e) := fun k e => (ld3 _ _ _ rfl 0 k e 2 k e rfl (by omega) (by omega)).trans (congrFun e12 _)
  have ho2 : ∀ (z : Fin 512) (e : Fin 128), arg6.view.readAt (Elt Ideal) (Rect.unit (s := S4096x256) (k0_off6 i) S512x128.size (k0_off6_inb i)).toLoadRect (harg6.unread x6) (ix2 z e) = X.o (ix2 (row b z) (pr 2 e)) := fun z e => (ld2 _ _ _ (k0_off6_eq i) z e (row b z) (pr 2 e) (hrow z) rfl).trans (congrFun e6 _)
  have hl2 : ∀ (z : Fin 512), arg7.view.readAt (Elt Ideal) (Rect.unit (s := S2x2x4096) (k0_off11 i) S1x1x512.size (k0_off11_inb i)).toLoadRect (harg7.unread x7) (ix3 0 0 z) = X.l (ix3 (hp 2) (hr 2) (row b z)) := fun z => (ld3 _ _ _ (k0_off11_eq i) 0 0 z (hp 2) (hr 2) (row b z) rfl rfl (hrow z)).trans (congrFun e7 _)
  have hd2 : ∀ (z : Fin 512), arg8.view.readAt (Elt Ideal) (Rect.unit (s := S2x2x4096) (k0_off11 i) S1x1x512.size (k0_off11_inb i)).toLoadRect (harg8.unread x8) (ix3 0 0 z) = X.d (ix3 (hp 2) (hr 2) (row b z)) := fun z => (ld3 _ _ _ (k0_off11_eq i) 0 0 z (hp 2) (hr 2) (row b z) rfl rfl (hrow z)).trans (congrFun e8 _)
  have ht2 : ∀ (d : Fin 128) (k : Fin 512), arg4.view.readAt (Elt Ideal) (Rect.unit (s := S512x512) ![256, 0] S128x512.size inb_S512x512_S128x512_256_0).toLoadRect (harg4.unread x4) (ix2 d k) = X.t (ix2 (hd 2 d) k) := fun d k => (ld2 _ _ _ rfl d k (hd 2 d) k rfl (by omega)).trans (congrFun e4 _)
  have hP2 := pm_of (X := X) (a := 2) (j := b) (sc_of hk2 hq2) hl2
  have hS2 := ds_of (X := X) (a := 2) (j := b) hP2 (dp_of hv2 ho2) hd2

  have hk3 : ∀ (k : Fin 512) (d : Fin 128), arg3.view.readAt (Elt Ideal) (Rect.unit (s := S512x512) ![0, 384] S512x128.size inb_S512x512_S512x128_0_384).toLoadRect (harg3.unread x3) (ix2 k d) = X.k (ix2 k (hd 3 d)) := fun k d => (ld2 _ _ _ rfl k d k (hd 3 d) (by omega) rfl).trans (congrFun e3 _)
  have hq3 : ∀ (z : Fin 512) (d : Fin 128), arg2.view.readAt (Elt Ideal) (Rect.unit (s := S4096x512) (k0_off4 i) S512x128.size (k0_off4_inb i)).toLoadRect (harg2.unread x2) (ix2 z d) = X.q (ix2 (row b z) (hd 3 d)) := fun z d => (ld2 _ _ _ (k0_off4_eq i) z d (row b z) (hd 3 d) (hrow z) rfl).trans (congrFun e2 _)
  have hv3 : ∀ (k : Fin 512) (e : Fin 128), arg12.view.readAt (Elt Ideal) (Rect.unit (s := S4x512x128) ![3, 0, 0] S1x512x128.size inb_S4x512x128_S1x512x128_3_0_0).toLoadRect (arg12.view.writes (Elt Ideal) arg12.view.junk (run.sl.H12_4 c arg5 harg5 x5)) (ix3 0 k e) = X.va (ix3 3 k e) := fun k e => (ld3 _ _ _ rfl 0 k e 3 k e rfl (by omega) (by omega)).trans (congrFun e12 _)
  have ho3 : ∀ (z : Fin 512) (e : Fin 128), arg6.view.readAt (Elt Ideal) (Rect.unit (s := S4096x256) (k0_off6 i) S512x128.size (k0_off6_inb i)).toLoadRect (harg6.unread x6) (ix2 z e) = X.o (ix2 (row b z) (pr 3 e)) := fun z e => (ld2 _ _ _ (k0_off6_eq i) z e (row b z) (pr 3 e) (hrow z) rfl).trans (congrFun e6 _)
  have hl3 : ∀ (z : Fin 512), arg7.view.readAt (Elt Ideal) (Rect.unit (s := S2x2x4096) (k0_off13 i) S1x1x512.size (k0_off13_inb i)).toLoadRect (harg7.unread x7) (ix3 0 0 z) = X.l (ix3 (hp 3) (hr 3) (row b z)) := fun z => (ld3 _ _ _ (k0_off13_eq i) 0 0 z (hp 3) (hr 3) (row b z) rfl rfl (hrow z)).trans (congrFun e7 _)
  have hd3 : ∀ (z : Fin 512), arg8.view.readAt (Elt Ideal) (Rect.unit (s := S2x2x4096) (k0_off13 i) S1x1x512.size (k0_off13_inb i)).toLoadRect (harg8.unread x8) (ix3 0 0 z) = X.d (ix3 (hp 3) (hr 3) (row b z)) := fun z => (ld3 _ _ _ (k0_off13_eq i) 0 0 z (hp 3) (hr 3) (row b z) rfl rfl (hrow z)).trans (congrFun e8 _)
  have ht3 : ∀ (d : Fin 128) (k : Fin 512), arg4.view.readAt (Elt Ideal) (Rect.unit (s := S512x512) ![384, 0] S128x512.size inb_S512x512_S128x512_384_0).toLoadRect (harg4.unread x4) (ix2 d k) = X.t (ix2 (hd 3 d) k) := fun d k => (ld2 _ _ _ rfl d k (hd 3 d) k rfl (by omega)).trans (congrFun e4 _)
  have hP3 := pm_of (X := X) (a := 3) (j := b) (sc_of hk3 hq3) hl3
  have hS3 := ds_of (X := X) (a := 3) (j := b) hP3 (dp_of hv3 ho3) hd3

  have h10 : arg10.view.read (Elt Ideal) fL1 = iter (X.stepDk b) b (7 - b.val) (X.stepDk b b fun _ => (0 : EReal)) := by
    refine hL10.trans (congrArg₂ (fun n f => iter (X.stepDk b) b n f) htr (lanes10 _ _ _ _ _ _ _ _ _ _ _ _ ?_ ?_ ?_ ?_))
    · exact dk_of hS0 hq0 fun k d => (ld2 _ _ _ rfl k d k (hd 0 d) (by omega) rfl).trans <| zero10 _ _ _ _
    · exact dk_of hS1 hq1 fun k d => (ld2 _ _ _ rfl k d k (hd 1 d) (by omega) rfl).trans <| (skip10 _ _ _ _ _ (a' := 0) rfl k (hd 1 d) (by rw [hdv 1 d]; exact Nat.ne_of_beq_eq_false rfl)).trans <| zero10 _ _ _ _
    · exact dk_of hS2 hq2 fun k d => (ld2 _ _ _ rfl k d k (hd 2 d) (by omega) rfl).trans <| (skip10 _ _ _ _ _ (a' := 1) rfl k (hd 2 d) (by rw [hdv 2 d]; exact Nat.ne_of_beq_eq_false rfl)).trans <| (skip10 _ _ _ _ _ (a' := 0) rfl k (hd 2 d) (by rw [hdv 2 d]; exact Nat.ne_of_beq_eq_false rfl)).trans <| zero10 _ _ _ _
    · exact dk_of hS3 hq3 fun k d => (ld2 _ _ _ rfl k d k (hd 3 d) (by omega) rfl).trans <| (skip10 _ _ _ _ _ (a' := 2) rfl k (hd 3 d) (by rw [hdv 3 d]; exact Nat.ne_of_beq_eq_false rfl)).trans <| (skip10 _ _ _ _ _ (a' := 1) rfl k (hd 3 d) (by rw [hdv 3 d]; exact Nat.ne_of_beq_eq_false rfl)).trans <| (skip10 _ _ _ _ _ (a' := 0) rfl k (hd 3 d) (by rw [hdv 3 d]; exact Nat.ne_of_beq_eq_false rfl)).trans <| zero10 _ _ _ _

  have h13 : arg13.view.read (Elt Ideal) fL2 = iter (X.stepDv b) b (7 - b.val) (X.stepDv b b fun _ => (0 : EReal)) := by
    refine hL12.trans (congrArg₂ (fun n f => iter (X.stepDv b) b n f) htr (slabs13 _ _ _ _ _ _ _ _ _ _ _ _ ?_ ?_ ?_ ?_))
    · exact dv_of (fW := arg13.view.readAt (Elt Ideal) (Rect.unit (s := S4x512x128) ![0, 0, 0] S1x512x128.size inb_S4x512x128_S1x512x128_0_0_0).toLoadRect (arg13.view.writes (Elt Ideal) arg13.view.junk _)) hP0 ho0 fun k e => (ld3 _ _ _ rfl 0 k e 0 k e rfl (by omega) (by omega)).trans <| zero13 _ _ _ _
    · exact dv_of (fW := arg13.view.readAt (Elt Ideal) (Rect.unit (s := S4x512x128) ![1, 0, 0] S1x512x128.size inb_S4x512x128_S1x512x128_1_0_0).toLoadRect (arg13.view.writes (Elt Ideal) arg13.view.junk _)) hP1 ho1 fun k e => (ld3 _ _ _ rfl 0 k e 1 k e rfl (by omega) (by omega)).trans <| (skip13 _ _ _ _ _ (a' := 0) rfl 1 k e (Nat.ne_of_beq_eq_false rfl)).trans <| zero13 _ _ _ _
    · exact dv_of (fW := arg13.view.readAt (Elt Ideal) (Rect.unit (s := S4x512x128) ![2, 0, 0] S1x512x128.size inb_S4x512x128_S1x512x128_2_0_0).toLoadRect (arg13.view.writes (Elt Ideal) arg13.view.junk _)) hP2 ho2 fun k e => (ld3 _ _ _ rfl 0 k e 2 k e rfl (by omega) (by omega)).trans <| (skip13 _ _ _ _ _ (a' := 1) rfl 2 k e (Nat.ne_of_beq_eq_false rfl)).trans <| (skip13 _ _ _ _ _ (a' := 0) rfl 2 k e (Nat.ne_of_beq_eq_false rfl)).trans <| zero13 _ _ _ _
    · exact dv_of (fW := arg13.view.readAt (Elt Ideal) (Rect.unit (s := S4x512x128) ![3, 0, 0] S1x512x128.size inb_S4x512x128_S1x512x128_3_0_0).toLoadRect (arg13.view.writes (Elt Ideal) arg13.view.junk _)) hP3 ho3 fun k e => (ld3 _ _ _ rfl 0 k e 3 k e rfl (by omega) (by omega)).trans <| (skip13 _ _ _ _ _ (a' := 2) rfl 3 k e (Nat.ne_of_beq_eq_false rfl)).trans <| (skip13 _ _ _ _ _ (a' := 1) rfl 3 k e (Nat.ne_of_beq_eq_false rfl)).trans <| (skip13 _ _ _ _ _ (a' := 0) rfl 3 k e (Nat.ne_of_beq_eq_false rfl)).trans <| zero13 _ _ _ _

  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    refine dq9 _ _ _ _ _ _ (base9 _ _ _ _ (harg9.read_unread x9) _ ((first_iff i).trans (by rw [hbv]))) _ _ _ _
      ((k0_off8_eq i).trans (by rw [hbv])) ((k0_off10_eq i).trans (by rw [hbv])) ((k0_off12_eq i).trans (by rw [hbv])) ((k0_off14_eq i).trans (by rw [hbv])) _ _ _ _ hL8 htr ?_ ?_ ?_ ?_
    · exact dq_of hS0 ht0 fun d c => (ld2 _ _ _ (k0_off8_eq i) d c (hd 0 d) (row b c) rfl (hrow c)).trans rfl
    · exact dq_of hS1 ht1 fun d c => (ld2 _ _ _ (k0_off10_eq i) d c (hd 1 d) (row b c) rfl (hrow c)).trans rfl
    · exact dq_of hS2 ht2 fun d c => (ld2 _ _ _ (k0_off12_eq i) d c (hd 2 d) (row b c) rfl (hrow c)).trans rfl
    · exact dq_of hS3 ht3 fun d c => (ld2 _ _ _ (k0_off14_eq i) d c (hd 3 d) (row b c) rfl (hrow c)).trans rfl

  isplitl [H10]
  · iexists _; isplitr; swap; · iexact H10
    ipureintro
    funext y
    refine (View.read_writes_cons_unit_of_mem _ _ _ _ _ y y rfl fun x => ?_).trans ?_
    · match x with
      | ⟨0, _⟩ => exact (Nat.zero_add _).symm
      | ⟨1, _⟩ => exact (Nat.zero_add _).symm
    · refine (pay3_at _ y).trans (congrArg (fun u : EReal => u * ((Real.log 2 : ℝ) : EReal)) ?_)
      refine Eq.trans ?_ (congrFun h10 y)
      obtain ⟨r, s, rfl⟩ : ∃ (r : Fin 512) (s : Fin 512), y = ix2 r s := ⟨_, _, eq_ix2 y⟩
      exact ld2 _ _ _ rfl r s r s (by omega) (by omega)
  isplitl [H11]
  · iexists _; isplitr; swap; · iexact H11
    ipureintro
    exact pairs11 _ _ (sumDv X b) _ _ _ _ _ _
      (fun k e => (ld3 _ _ _ rfl 0 k e 0 k e rfl (by omega) (by omega)).trans (congrFun h13 _))
      (fun k e => (ld3 _ _ _ rfl 0 k e 1 k e rfl (by omega) (by omega)).trans (congrFun h13 _))
      (fun k e => (ld3 _ _ _ rfl 0 k e 2 k e rfl (by omega) (by omega)).trans (congrFun h13 _))
      (fun k e => (ld3 _ _ _ rfl 0 k e 3 k e rfl (by omega) (by omega)).trans (congrFun h13 _))

  isplitl [H12]
  · iexists _, _; isplitr; swap; · iexact H12
    ipureintro; rfl
  iexists _, _; isplitr; swap; · iexact H13
  ipureintro; rfl

end Cert.KernelIdeal.Hand

end
-- ==== Proof.Run.lean ====
module

public import proofs.«01_k».proof.Proof.Body
public import Idealize.ShloMosaic.Lib.Claim

@[expose] public section

set_option maxRecDepth 16384

noncomputable section

/-! The launch over the sixteen grid points: what each window's buffer holds after every point, the body's obligation,
the run, and the frame. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the body reads at a grid point. -/
def envAt (c : Dev nD) (t : Fin cfg0.N) : Env :=
  ⟨iblk m c 0 t, iblk m c 1 t, iblk m c 2 t, vaOf (iblk m c 3 t), iblk m c 4 t, iblk m c 5 t, iblk m c 6 t⟩

/-- The grid point of a number. -/
def pt (n : ℕ) : Fin cfg0.N := ⟨n % 16, lt_of_lt_of_eq (Nat.mod_lt _ (by decide)) (show 16 = cfg0.N from N_0.symm)⟩

theorem pt_val (t : Fin cfg0.N) : pt t.val = t :=
  Fin.ext (Nat.mod_eq_of_lt (lt_of_lt_of_eq t.isLt (show cfg0.N = 16 from N_0)))

/-- What the queries' gradient's buffer holds after a grid point. -/
def dqAt (c : Dev nD) : ℕ → Vec Ideal S512x4096 .f32
  | 0 => outDq (envAt m c (pt 0)) (jOf (grid0.coords (pt 0))) fun _ => (0 : EReal)
  | n + 1 => outDq (envAt m c (pt (n + 1))) (jOf (grid0.coords (pt (n + 1)))) (dqAt c n)

/-- The proof data: the arrays as the launch finds them, the inputs' buffers at their blocks, the results' buffers at the
gradients. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t.val
    | ⟨8, _⟩ => outDk (envAt m c t) (jOf (grid0.coords t))
    | ⟨9, _⟩ => outDv (envAt m c t) (jOf (grid0.coords t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqAt m c t.val := by dsimp only [dats]
theorem after0_8 (c : Dev nD) (t : Fin cfg0.N) : (dats m 0 c).after 8 t = outDk (envAt m c t) (jOf (grid0.coords t)) := by dsimp only [dats]
theorem after0_9 (c : Dev nD) (t : Fin cfg0.N) : (dats m 0 c).after 9 t = outDv (envAt m c t) (jOf (grid0.coords t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The key block of a grid point. -/
theorem jOf_val : ∀ t : Fin cfg0.N, (jOf (grid0.coords t)).val = t.val % 8 :=
  (by decide +kernel : ∀ t : Fin grid0.N, (jOf (grid0.coords t)).val = t.val % 8)

/-- From what the queries' gradient's buffer holds before a grid point, the body leaves what it holds after it. -/
theorem dq_step (c : Dev nD) (t : Fin cfg0.N) (d) :
    outDq (envAt m c t) (jOf (grid0.coords t)) ((dats m 0 c).before 7 t d) = dqAt m c t.val := by
  have hN : t.val < 16 := lt_of_lt_of_eq t.isLt (show cfg0.N = 16 from N_0)
  have hj := jOf_val t
  by_cases h : t.val % 8 = 0
  · have hz : (jOf (grid0.coords t)).val = 0 := hj.trans h
    have hr : ∀ f g : Vec Ideal S512x4096 .f32, outDq (envAt m c t) (jOf (grid0.coords t)) f = outDq (envAt m c t) (jOf (grid0.coords t)) g :=
      fun f g => by unfold outDq; rw [if_pos hz, if_pos hz]
    obtain ⟨n, hn⟩ : ∃ n, n = t.val := ⟨_, rfl⟩
    rw [← hn]
    have ht : t = pt n := by rw [hn, pt_val]
    cases n with
    | zero => subst ht; exact hr _ _
    | succ n => subst ht; exact hr _ _
  · have h0 : t.val ≠ 0 := fun h0 => h (by rw [h0])
    obtain ⟨n, hn⟩ : ∃ n, t.val = n + 1 := ⟨t.val - 1, by omega⟩
    have hfl : (cfg0.win 7).flush ⟨t.val - 1, Nat.lt_of_le_of_lt (Nat.sub_le _ _) t.isLt⟩ = false := by
      rw [Bool.eq_false_iff]
      intro hf
      have := (flush0_7 _).mp hf
      dsimp only at this
      omega
    rw [(dats m 0 c).before_out_kept 7 rfl t h0 hfl (fun _ => rfl) (fun _ _ => rfl) d, after0_7]
    have ht : t = pt (n + 1) := by rw [← hn, pt_val]
    have hp : t.val - 1 = n := by omega
    dsimp only
    rw [hp, hn, ht]
    rfl

abbrev ms0_0 (t : Fin cfg0.N) : Memref sig .tc .vmem S4096x512 .bf16 := win0_0.stage (cfg0.slots t 0)
abbrev ms0_1 (t : Fin cfg0.N) : Memref sig .tc .vmem S512x512 .bf16 := win0_1.stage (cfg0.slots t 1)
abbrev ms0_2 (t : Fin cfg0.N) : Memref sig .tc .vmem S512x512 .bf16 := win0_2.stage (cfg0.slots t 2)
abbrev ms0_3 (t : Fin cfg0.N) : Memref sig .tc .vmem S512x256 .bf16 := win0_3.stage (cfg0.slots t 3)
abbrev ms0_4 (t : Fin cfg0.N) : Memref sig .tc .vmem S4096x256 .bf16 := win0_4.stage (cfg0.slots t 4)
abbrev ms0_5 (t : Fin cfg0.N) : Memref sig .tc .vmem S2x2x4096 .f32 := win0_5.stage (cfg0.slots t 5)
abbrev ms0_6 (t : Fin cfg0.N) : Memref sig .tc .vmem S2x2x4096 .f32 := win0_6.stage (cfg0.slots t 6)
abbrev ms0_7 (t : Fin cfg0.N) : Memref sig .tc .vmem S512x4096 .f32 := win0_7.stage (cfg0.slots t 7)
abbrev ms0_8 (t : Fin cfg0.N) : Memref sig .tc .vmem S512x512 .f32 := win0_8.stage (cfg0.slots t 8)
abbrev ms0_9 (t : Fin cfg0.N) : Memref sig .tc .vmem S512x256 .f32 := win0_9.stage (cfg0.slots t 9)
abbrev scM0_0 : Memref sig .tc .vmem S4x512x128 .bf16 := Memref.whole cc0_scratch0
abbrev scM0_1 : Memref sig .tc .vmem S4x512x128 .f32 := Memref.whole cc0_scratch1

/-- The scratch buffers, each owned at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 2400000 in
/-- The body at any grid point. -/
theorem sound_body (c : Dev nD) (t : Fin cfg0.N) :
    bodyPre m c t ⊢ wp frame (wpE (defs₀ (F := Ideal)) Variants.none c none) Set.univ (bodyAt0 (F := Ideal) t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← dq_step m c t d7]
  iapply (run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := Ideal) .tc cfg0.body (cfg0.bodyArgs t (cfg0.slots t)) = bodyAt0 t := by
  unfold defs₀; rw [Defs.onTc_tc]

/-- The body's obligation, at every grid point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The run: every execution ends with the results' arrays as the pipeline wrote them, everything else as the launch found
it, and every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The frame: the argument arrays end as launched, every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Consts.lean ====
module

public import Idealize.ShloMosaic.PureOps.Ideal

@[expose] public section

noncomputable section

/-! The constants of the host code, as the reals that they are, and arithmetic of extended reals that are real. -/

namespace Cert.Model

open Idealize.ShloMosaic

/-- The mask's constant is `-∞`. -/
theorem ofBits_bot : Ideal.ofBits .f32 0xFF800000#32 = (⊥ : EReal) := by
  simp [Ideal.ofBits, Ideal.ieee, -EReal.coe_mul]

/-- The precondition's constant is `+∞`. -/
theorem ofBits_top : Ideal.ofBits .f32 0x7F800000#32 = (⊤ : EReal) := by
  simp [Ideal.ofBits, Ideal.ieee, -EReal.coe_mul]

/-- `2.0` is two. -/
theorem ofBits_two : Ideal.ofBits .f32 0x40000000#32 = ((2 : ℝ) : EReal) := by
  simp [Ideal.ofBits, Ideal.ieee, -EReal.coe_mul]; norm_num

/-- The scale is a real number that is not zero. -/
theorem ofBits_scale : ∃ r : ℝ, r ≠ 0 ∧ Ideal.ofBits .f32 0x3DD105EC#32 = (r : EReal) := by
  refine ⟨_, ?_, rfl⟩
  refine mul_ne_zero (mul_ne_zero ?_ ?_) ?_
  · split <;> norm_num
  · exact_mod_cast Nat.ne_of_gt (by positivity)
  · positivity

/-- The scale, as a real number. -/
def sc : ℝ := ofBits_scale.choose

theorem sc_ne : sc ≠ 0 := ofBits_scale.choose_spec.1
theorem ofBits_sc : Ideal.ofBits .f32 0x3DD105EC#32 = ((sc : ℝ) : EReal) := ofBits_scale.choose_spec.2

/-- A sum of reals, read as an extended real. -/
theorem sum_coe {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, ← EReal.coe_add]

/-- A sum whose terms are reals is the real sum. -/
theorem sum_eq_coe {ι : Type} [Fintype ι] {g : ι → EReal} (f : ι → ℝ) (h : ∀ x, g x = ((f x : ℝ) : EReal)) :
    ∑ x, g x = ((∑ x, f x : ℝ) : EReal) := by
  rw [← sum_coe]; exact Finset.sum_congr rfl fun x _ => h x

/-- A quotient of reals. -/
theorem div_real (x : ℝ) {y : ℝ} (h : y ≠ 0) : Ideal.div (x : EReal) (y : EReal) = ((x / y : ℝ) : EReal) := by
  rw [Ideal.div_coe h, ← EReal.coe_mul]; congr 1; ring

/-- The greatest of finitely many numbers below `+∞`, one of them above `-∞`, is real. -/
theorem fold_max_real {ι : Type} [Fintype ι] (f : ι → EReal) (hT : ∀ x, f x ≠ ⊤) (hB : ∃ x, f x ≠ ⊥) :
    ∃ r : ℝ, Finset.univ.fold max ⊥ f = (r : EReal) := by
  have h1 : Finset.univ.fold max ⊥ f ≠ ⊤ := by
    refine ne_of_lt ?_
    rw [Finset.fold_max_lt]
    exact ⟨bot_lt_top, fun x _ => lt_top_iff_ne_top.mpr (hT x)⟩
  have h2 : Finset.univ.fold max ⊥ f ≠ ⊥ := by
    obtain ⟨x, hx⟩ := hB
    refine bot_lt_iff_ne_bot.mp ?_
    rw [Finset.lt_fold_max]
    exact Or.inr ⟨x, Finset.mem_univ x, bot_lt_iff_ne_bot.mpr hx⟩
  exact ⟨_, (EReal.coe_toReal h1 h2).symm⟩

/-- A sum over 128 lanes of which the last 32 hold nothing. -/
theorem sum_lanes (f : Fin 96 → ℝ) : ∑ d : Fin 128, (if h : d.val < 96 then f ⟨d.val, h⟩ else 0) = ∑ d : Fin 96, f d := by
  rw [show (∑ d : Fin 128, (if h : d.val < 96 then f ⟨d.val, h⟩ else 0)) = ∑ d : Fin (96 + 32), (if h : d.val < 96 then f ⟨d.val, h⟩ else 0) from rfl,
    Fin.sum_univ_add]
  simp

/-- A sum over a pair's 128 lanes of which the last 64 hold nothing, -/
theorem sum_even (f : Fin 64 → ℝ) : ∑ d : Fin 128, (if h : d.val < 64 then f ⟨d.val, h⟩ else 0) = ∑ d : Fin 64, f d := by
  rw [show (∑ d : Fin 128, (if h : d.val < 64 then f ⟨d.val, h⟩ else 0)) = ∑ d : Fin (64 + 64), (if h : d.val < 64 then f ⟨d.val, h⟩ else 0) from rfl,
    Fin.sum_univ_add]
  simp

/-- or the first 64. -/
theorem sum_odd (f : Fin 64 → ℝ) : ∑ d : Fin 128, (if h : 64 ≤ d.val then f ⟨d.val - 64, by omega⟩ else 0) = ∑ d : Fin 64, f d := by
  rw [show (∑ d : Fin 128, (if h : 64 ≤ d.val then f ⟨d.val - 64, by omega⟩ else 0)) = ∑ d : Fin (64 + 64), (if h : 64 ≤ d.val then f ⟨d.val - 64, by have := d.isLt; omega⟩ else 0) from rfl,
    Fin.sum_univ_add]
  have h1 : ∀ x : Fin 64, ¬ 64 ≤ x.val := fun x => by omega
  simp [h1]

end Cert.Model

end
-- ==== Proof.Model.lean ====
module

public import proofs.«01_k».proof.Proof.Consts

@[expose] public section

noncomputable section

/-! The attention and its gradient over the reals. -/

namespace Cert.Model

/-- The arguments, as reals, and what each row's exponentials are taken against (its greatest score). -/
structure Args where
  q : Fin 4096 → Fin 8 → Fin 96 → ℝ
  k : Fin 4096 → Fin 8 → Fin 96 → ℝ
  v : Fin 4096 → Fin 8 → Fin 64 → ℝ
  c : Fin 4096 → Fin 8 → Fin 64 → ℝ
  M : Fin 8 → Fin 4096 → ℝ

namespace Args

variable (A : Args) (h : Fin 8) (q k : Fin 4096)

/-- The score of a query and a key, -/
def s : ℝ := (∑ d, A.q q h d * A.k k h d) * sc
/-- its exponential, zero for a key after the query, -/
def e : ℝ := if k.val ≤ q.val then Real.exp (A.s h q k - A.M h q) else 0
/-- their sum over the keys, -/
def l : ℝ := ∑ k, A.e h q k
/-- the probability. -/
def p : ℝ := A.e h q k / A.l h q
/-- The gradient of the probability, -/
def dp : ℝ := ∑ d, A.c q h d * A.v k h d
/-- its mean, -/
def D : ℝ := ∑ k, A.dp h q k * A.p h q k
/-- the gradient of the score. -/
def ds : ℝ := A.p h q k * (A.dp h q k - A.D h q)
/-- The gradient of the queries, by the scale, -/
def dq (d : Fin 96) : ℝ := ∑ k, A.ds h q k * A.k k h d
/-- of the keys, -/
def dk (d : Fin 96) : ℝ := (∑ q, A.ds h q k * A.q q h d) * sc
/-- of the values. -/
def dv (d : Fin 64) : ℝ := ∑ q, A.p h q k * A.c q h d

theorem e_nonneg : 0 ≤ A.e h q k := by
  unfold e; split
  · exact (Real.exp_pos _).le
  · exact le_rfl

theorem l_pos : 0 < A.l h q := by
  refine lt_of_lt_of_le (?_ : 0 < A.e h q q) (Finset.single_le_sum (f := fun k => A.e h q k) (fun k _ => A.e_nonneg h q k) (Finset.mem_univ q))
  unfold e; rw [if_pos le_rfl]; exact Real.exp_pos _

theorem p_zero (hk : ¬ k.val ≤ q.val) : A.p h q k = 0 := by
  unfold p e; rw [if_neg hk, zero_div]

/-- What the version computes of a probability: two to the power of the scaled score less the row's logarithm. -/
theorem p_exp2 (hk : k.val ≤ q.val) :
    Real.rpow 2 (A.s h q k / Real.log 2 - (A.M h q + Real.log (A.l h q)) / Real.log 2) = A.p h q k := by
  have h2 : Real.log 2 ≠ 0 := Real.log_ne_zero_of_pos_of_ne_one (by norm_num) (by norm_num)
  have hl := A.l_pos h q
  unfold p e
  rw [if_pos hk, show Real.rpow 2 = fun x => (2 : ℝ) ^ x from rfl]
  dsimp only
  rw [Real.rpow_def_of_pos (by norm_num)]
  rw [show Real.log 2 * (A.s h q k / Real.log 2 - (A.M h q + Real.log (A.l h q)) / Real.log 2) = (A.s h q k - A.M h q) - Real.log (A.l h q) by
    field_simp; ring]
  rw [Real.exp_sub, Real.exp_log hl]

/-- The output of the attention against the incoming gradient is the mean of the probabilities' gradient. -/
theorem D_eq : ∑ d, A.c q h d * (∑ k, A.v k h d * A.p h q k) = A.D h q := by
  unfold D dp
  simp only [Finset.mul_sum, Finset.sum_mul]
  rw [Finset.sum_comm]
  refine Finset.sum_congr rfl fun k _ => Finset.sum_congr rfl fun d _ => ?_
  ring

/-- The gradient of the score, as the derivative of the quotient gives it. -/
theorem ds_eq : (A.dp h q k / A.l h q + -(∑ k, A.dp h q k * (1 / (A.l h q * A.l h q)) * A.e h q k)) * A.e h q k = A.ds h q k := by
  have hl := (A.l_pos h q).ne'
  unfold ds D p
  have : ∑ k, A.dp h q k * (1 / (A.l h q * A.l h q)) * A.e h q k = (∑ k, A.dp h q k * (A.e h q k / A.l h q)) / A.l h q := by
    rw [Finset.sum_div]; refine Finset.sum_congr rfl fun k _ => ?_; field_simp
  rw [this]
  generalize (∑ k, A.dp h q k * (A.e h q k / A.l h q)) = D
  field_simp
  ring

end Args

end Cert.Model

end
-- ==== Proof.Values.lean ====
module

public import proofs.«01_k».proof.Proof.Model
public import proofs.«01_k».proof.Proof.Scratch
public import Idealize.ShloMosaic.Lib.IdealHost

@[expose] public section

set_option maxRecDepth 16384

noncomputable section

/-! What the body's model computes when what it reads is the attention's reals. -/

namespace Cert.KernelIdeal.Hand

open Cert.KernelIdeal Cert.KernelIdeal.Gen Cert.Model
open Idealize.ShloMosaic Idealize.SL.Sem

/-- Head `a` of group `g`. -/
def head (g : Fin 2) (a : Fin 4) : Fin 8 := ⟨4 * g.val + a.val, by omega⟩

/-- An array's lanes of a group of heads, each head's 96 at the first of 128. -/
def lanesR (f : Fin 4096 → Fin 8 → Fin 96 → ℝ) (g : Fin 2) (q : Fin 4096) (x : Fin 512) : ℝ :=
  if h : x.val % 128 < 96 then f q (head g (hdOf x)) ⟨x.val % 128, h⟩ else 0

/-- That what the body reads of group `g` and key block `j` is the model's. -/
structure EnvIs (A : Args) (g : Fin 2) (j : Fin 8) (X : Env) : Prop where
  q : ∀ q x, X.q (ix2 q x) = ((lanesR A.q g q x * (sc / Real.log 2) : ℝ) : EReal)
  k : ∀ k x, X.k (ix2 k x) = ((lanesR A.k g (row j k) x : ℝ) : EReal)
  t : ∀ x k, X.t (ix2 x k) = ((lanesR A.k g (row j k) x : ℝ) : EReal)
  va : ∀ (a : Fin 4) k (e : Fin 128), X.va (ix3 a k e) = ((if (e.val < 64 ↔ a.val % 2 = 0) then A.v (row j k) (head g a) ⟨e.val % 64, by omega⟩ else 0 : ℝ) : EReal)
  o : ∀ q (y : Fin 256), X.o (ix2 q y) = ((A.c q (head g ⟨y.val / 64, by omega⟩) ⟨y.val % 64, by omega⟩ : ℝ) : EReal)
  l : ∀ (a : Fin 4) q, X.l (ix3 (hp a) (hr a) q) = (((A.M (head g a) q + Real.log (A.l (head g a) q)) / Real.log 2 : ℝ) : EReal)
  d : ∀ (a : Fin 4) q, X.d (ix3 (hp a) (hr a) q) = ((A.D (head g a) q : ℝ) : EReal)

theorem lanesR_hd (f : Fin 4096 → Fin 8 → Fin 96 → ℝ) (g : Fin 2) (q : Fin 4096) (a : Fin 4) (d : Fin 128) :
    lanesR f g q (hd a d) = if h : d.val < 96 then f q (head g a) ⟨d.val, h⟩ else 0 := by
  have h1 : (hd a d).val % 128 = d.val := by show (128 * a.val + d.val) % 128 = d.val; omega
  unfold lanesR
  rw [hdOf_hd]
  by_cases h : d.val < 96
  · rw [dif_pos h, dif_pos (h1.symm ▸ h)]; congr 1; exact Fin.ext h1
  · rw [dif_neg h, dif_neg (h1.symm ▸ h)]

section

variable {A : Args} {g : Fin 2} {j : Fin 8} {X : Env} (hX : EnvIs A g j X)
include hX

theorem SC_is (a : Fin 4) (k : Fin 512) (q : Fin 4096) : X.SC a k q = ((A.s (head g a) q (row j k) / Real.log 2 : ℝ) : EReal) := by
  unfold Env.SC
  rw [sum_eq_coe (fun d : Fin 128 => if h : d.val < 96 then A.k (row j k) (head g a) ⟨d.val, h⟩ * (A.q q (head g a) ⟨d.val, h⟩ * (sc / Real.log 2)) else 0) fun d => by
    rw [hX.k, hX.q, ← EReal.coe_mul, lanesR_hd, lanesR_hd]
    congr 1
    split
    · rfl
    · rw [zero_mul]]
  congr 1
  rw [sum_lanes fun d => A.k (row j k) (head g a) d * (A.q q (head g a) d * (sc / Real.log 2)), Args.s, Finset.sum_mul, Finset.sum_div]
  exact Finset.sum_congr rfl fun d _ => by ring

theorem PM_is (a : Fin 4) (k : Fin 512) (q : Fin 4096) : X.PM j a k q = ((A.p (head g a) q (row j k) : ℝ) : EReal) := by
  unfold Env.PM
  by_cases h : 512 * j.val + k.val ≤ q.val
  · rw [if_pos h, SC_is hX, hX.l, ← EReal.coe_sub, Ideal.exp2_coe, A.p_exp2 _ _ _ (show (row j k).val ≤ q.val from h)]
  · rw [if_neg h, A.p_zero _ _ _ (show ¬ (row j k).val ≤ q.val from h), EReal.coe_zero]

theorem DP_is (a : Fin 4) (k : Fin 512) (q : Fin 4096) : X.DP a k q = ((A.dp (head g a) q (row j k) : ℝ) : EReal) := by
  unfold Env.DP
  have ho : ∀ e : Fin 128, (e.val < 64 ↔ a.val % 2 = 0) →
      X.o (ix2 q (pr a e)) = ((A.c q (head g a) ⟨e.val % 64, by omega⟩ : ℝ) : EReal) := fun e he => by
    rw [hX.o]
    have h1 : (⟨(pr a e).val / 64, by omega⟩ : Fin 4) = a := Fin.ext (by
      show (128 * (a.val / 2) + e.val) / 64 = a.val; omega)
    have h2 : (⟨(pr a e).val % 64, by omega⟩ : Fin 64) = ⟨e.val % 64, by omega⟩ := Fin.ext (by
      show (128 * (a.val / 2) + e.val) % 64 = e.val % 64; omega)
    rw [h1, h2]
  rw [sum_eq_coe (fun e : Fin 128 => if (e.val < 64 ↔ a.val % 2 = 0) then A.v (row j k) (head g a) ⟨e.val % 64, by omega⟩ * A.c q (head g a) ⟨e.val % 64, by omega⟩ else 0) fun e => by
    rw [hX.va]
    by_cases he : (e.val < 64 ↔ a.val % 2 = 0)
    · rw [if_pos he, if_pos he, ho e he, ← EReal.coe_mul]
    · rw [if_neg he, if_neg he, EReal.coe_zero, zero_mul]]
  congr 1
  unfold Args.dp
  have hc : ∀ d : Fin 64, A.c q (head g a) d * A.v (row j k) (head g a) d = A.v (row j k) (head g a) d * A.c q (head g a) d := fun d => mul_comm _ _
  rw [Finset.sum_congr rfl fun d _ => hc d]
  by_cases ha : a.val % 2 = 0
  · rw [← sum_even]
    refine Finset.sum_congr rfl fun e _ => ?_
    by_cases he : e.val < 64
    · rw [if_pos ⟨fun _ => ha, fun _ => he⟩, dif_pos he]
      have : (⟨e.val % 64, by omega⟩ : Fin 64) = ⟨e.val, he⟩ := Fin.ext (Nat.mod_eq_of_lt he)
      rw [this]
    · rw [if_neg (fun h => he (h.mpr ha)), dif_neg he]
  · rw [← sum_odd]
    refine Finset.sum_congr rfl fun e _ => ?_
    by_cases he : 64 ≤ e.val
    · rw [if_pos ⟨fun h => absurd he (by omega), fun h => absurd h ha⟩, dif_pos he]
      have : (⟨e.val % 64, by omega⟩ : Fin 64) = ⟨e.val - 64, by omega⟩ := Fin.ext (by show e.val % 64 = e.val - 64; omega)
      rw [this]
    · rw [if_neg (fun h => ha (h.mp (by omega))), dif_neg he]

theorem DS_is (a : Fin 4) (k : Fin 512) (q : Fin 4096) : X.DS j a k q = ((A.ds (head g a) q (row j k) : ℝ) : EReal) := by
  unfold Env.DS
  rw [PM_is hX, DP_is hX, hX.d, ← EReal.coe_sub, ← EReal.coe_mul]
  rfl

end

/-- Steps that each add a real to an entry, from query block `j` on, when the earlier ones would add zero. -/
theorem iter_add {ι : Type} (step : Fin 8 → (ι → EReal) → ι → EReal) (j : Fin 8) (y : ι) (R : Fin 8 → ℝ) (hs : ∀ b f, step b f y = f y + ((R b : ℝ) : EReal))
    (hz : ∀ b, b.val < j.val → R b = 0) (f : ι → EReal) (B : ℝ) (hf : f y = ((B : ℝ) : EReal)) :
    ∀ n, j.val + n < 8 → iter step j n (step j f) y = ((B + ∑ b, (if b.val ≤ j.val + n then R b else 0) : ℝ) : EReal)
  | 0, _ => by
    show step j f y = _
    rw [hs, hf, ← EReal.coe_add]
    congr 2
    refine Eq.symm ?_
    rw [Finset.sum_eq_single j]
    · exact if_pos (Nat.le_refl j.val)
    · intro b _ hb
      split
      · exact hz b (lt_of_le_of_ne (by assumption) fun h => hb (Fin.ext h))
      · rfl
    · intro h; exact absurd (Finset.mem_univ j) h
  | n + 1, h => by
    rw [show iter step j (n + 1) (step j f) = if h : j.val + n + 1 < 8 then step ⟨j.val + n + 1, h⟩ (iter step j n (step j f)) else iter step j n (step j f) from rfl,
      dif_pos (show j.val + n + 1 < 8 from h), hs, iter_add step j y R hs hz f B hf n (by omega), ← EReal.coe_add, add_assoc]
    congr 2
    have : ∀ b : Fin 8, (if b.val ≤ j.val + (n + 1) then R b else 0) = (if b.val ≤ j.val + n then R b else 0) + (if b = ⟨j.val + n + 1, h⟩ then R b else 0) := fun b => by
      by_cases h1 : b.val ≤ j.val + n
      · rw [if_pos h1, if_pos (by omega), if_neg (fun e => by rw [e] at h1; dsimp only at h1; omega), add_zero]
      · by_cases h2 : b.val ≤ j.val + (n + 1)
        · rw [if_neg h1, if_pos h2, if_pos (Fin.ext (by show b.val = j.val + n + 1; omega)), zero_add]
        · rw [if_neg h1, if_neg h2, if_neg (fun e => h2 (by rw [e]; show j.val + n + 1 ≤ _; omega)), zero_add]
    rw [Finset.sum_congr rfl fun b _ => this b, Finset.sum_add_distrib, Finset.sum_ite_eq' Finset.univ, if_pos (Finset.mem_univ _)]

/-- All of them. -/
theorem iter_all {ι : Type} (step : Fin 8 → (ι → EReal) → ι → EReal) (j : Fin 8) (y : ι) (R : Fin 8 → ℝ) (hs : ∀ b f, step b f y = f y + ((R b : ℝ) : EReal))
    (hz : ∀ b, b.val < j.val → R b = 0) (f : ι → EReal) (B : ℝ) (hf : f y = ((B : ℝ) : EReal)) :
    iter step j (7 - j.val) (step j f) y = ((B + ∑ b, R b : ℝ) : EReal) := by
  rw [iter_add step j y R hs hz f B hf (7 - j.val) (by omega)]
  congr 2
  exact Finset.sum_congr rfl fun b _ => if_pos (by omega)

/-- A sum over the eight blocks is one over the array. -/
theorem sum_rows (f : Fin 4096 → ℝ) : ∑ b : Fin 8, ∑ c : Fin 512, f (row b c) = ∑ q, f q := by
  rw [Fin.sum_univ_tiles 8 512 (by decide) f]
  refine Finset.sum_congr rfl fun b _ => Finset.sum_congr rfl fun c _ => congrArg f (Fin.ext ?_)
  show 512 * b.val + c.val = b.val * 512 + c.val
  omega

section

variable {A : Args} {g : Fin 2} {j : Fin 8} {X : Env} (hX : EnvIs A g j X)
include hX

/-- The keys' gradient that a grid point leaves. -/
theorem outDk_is (k x : Fin 512) : outDk X j (ix2 k x) = ((lanesR (fun k h d => A.dk h k d) g (row j k) x : ℝ) : EReal) := by
  have hR := iter_all (X.stepDk j) j (ix2 k x) (fun b => ∑ c, A.ds (head g (hdOf x)) (row b c) (row j k) * (lanesR A.q g (row b c) x * (sc / Real.log 2)))
    (fun b f => by
      show (f (ix2 k x) : EReal) + X.addDk j b (ix2 k x) = _
      congr 1
      exact sum_eq_coe _ fun c => by
        show X.DS j (hdOf x) k (row b c) * X.q (ix2 (row b c) x) = _
        rw [DS_is hX, hX.q, ← EReal.coe_mul])
    (fun b hb => Finset.sum_eq_zero fun c _ => by
      rw [Args.ds, A.p_zero _ _ _ (by show ¬ 512 * j.val + k.val ≤ 512 * b.val + c.val; omega), zero_mul, zero_mul])
    (fun _ => (0 : EReal)) 0 EReal.coe_zero.symm
  rw [sum_rows fun q => A.ds (head g (hdOf x)) q (row j k) * (lanesR A.q g q x * (sc / Real.log 2)), zero_add] at hR
  show (sumDk X j (ix2 k x) : EReal) * ((Real.log 2 : ℝ) : EReal) = _
  unfold sumDk
  rw [hR, ← EReal.coe_mul]
  congr 1
  have h2 : Real.log 2 ≠ 0 := Real.log_ne_zero_of_pos_of_ne_one (by norm_num) (by norm_num)
  unfold lanesR
  by_cases h : x.val % 128 < 96
  · simp only [dif_pos h]
    rw [Args.dk, Finset.sum_mul, Finset.sum_mul]
    refine Finset.sum_congr rfl fun q _ => ?_
    field_simp
  · simp only [dif_neg h, zero_mul, mul_zero, Finset.sum_const_zero]

/-- The values' gradient that a grid point leaves. -/
theorem outDv_is (k : Fin 512) (y : Fin 256) : outDv X j (ix2 k y) =
    ((A.dv (head g ⟨y.val / 64, by omega⟩) (row j k) ⟨y.val % 64, by omega⟩ : ℝ) : EReal) := by
  have hR := iter_all (X.stepDv j) j (ix3 (⟨y.val / 64, by omega⟩ : Fin 4) k (⟨y.val % 128, by omega⟩ : Fin 128))
    (fun b => ∑ c, A.p (head g ⟨y.val / 64, by omega⟩) (row b c) (row j k) * A.c (row b c) (head g ⟨y.val / 64, by omega⟩) ⟨y.val % 64, by omega⟩)
    (fun b f => by
      show (f _ : EReal) + X.addDv j b _ = _
      congr 1
      exact sum_eq_coe _ fun c => by
        show X.PM j ⟨y.val / 64, by omega⟩ k (row b c) * X.o (ix2 (row b c) (pr ⟨y.val / 64, by omega⟩ ⟨y.val % 128, by omega⟩)) = _
        rw [PM_is hX, show pr (⟨y.val / 64, by omega⟩ : Fin 4) (⟨y.val % 128, by omega⟩ : Fin 128) = y from Fin.ext (by
          show 128 * (y.val / 64 / 2) + y.val % 128 = y.val; omega), hX.o, ← EReal.coe_mul])
    (fun b hb => Finset.sum_eq_zero fun c _ => by
      rw [A.p_zero _ _ _ (by show ¬ 512 * j.val + k.val ≤ 512 * b.val + c.val; omega), zero_mul])
    (fun _ => (0 : EReal)) 0 EReal.coe_zero.symm
  rw [sum_rows fun q => A.p (head g ⟨y.val / 64, by omega⟩) q (row j k) * A.c q (head g ⟨y.val / 64, by omega⟩) ⟨y.val % 64, by omega⟩, zero_add] at hR
  exact hR

/-- What a grid point adds to the queries' gradient. -/
theorem outDq_is (f : Vec Ideal S512x4096 .f32) (B : ℝ) (x : Fin 512) (q : Fin 4096) (hf : f (ix2 x q) = ((B : ℝ) : EReal)) :
    outDq X j f (ix2 x q) = (((if j.val = 0 then 0 else B) + ∑ k, lanesR A.k g (row j k) x * A.ds (head g (hdOf x)) q (row j k) : ℝ) : EReal) := by
  have ha : X.addDq j (ix2 x q) = ((∑ k, lanesR A.k g (row j k) x * A.ds (head g (hdOf x)) q (row j k) : ℝ) : EReal) :=
    sum_eq_coe _ fun k => by
      show X.t (ix2 x k) * X.DS j (hdOf x) k q = _
      rw [hX.t, DS_is hX, ← EReal.coe_mul]
  obtain ⟨r, hr⟩ : ∃ r, r = ∑ k, lanesR A.k g (row j k) x * A.ds (head g (hdOf x)) q (row j k) := ⟨_, rfl⟩
  have hR := iter_all (X.stepDq j) j (ix2 x q) (fun b => if 512 * b.val ≤ q.val ∧ q.val < 512 * b.val + 512 then r else 0)
    (fun b f => by
      show (if 512 * b.val ≤ q.val ∧ q.val < 512 * b.val + 512 then (f (ix2 x q) : EReal) + X.addDq j (ix2 x q) else f (ix2 x q)) = _
      by_cases h : 512 * b.val ≤ q.val ∧ q.val < 512 * b.val + 512
      · rw [if_pos h, if_pos h, ha, hr]
      · rw [if_neg h, if_neg h, EReal.coe_zero, add_zero])
    (fun b hb => by
      split
      · rename_i h
        rw [hr]
        exact Finset.sum_eq_zero fun k _ => by
          rw [Args.ds, A.p_zero _ _ _ (by show ¬ 512 * j.val + k.val ≤ q.val; omega), zero_mul, mul_zero]
      · rfl)
    (if j.val = 0 then fun _ => (0 : EReal) else f) (if j.val = 0 then 0 else B) (by
      split
      · exact EReal.coe_zero.symm
      · exact hf)
  unfold outDq
  refine hR.trans ?_
  rw [← hr]
  congr 2
  rw [Finset.sum_eq_single (⟨q.val / 512, by omega⟩ : Fin 8)]
  · rw [if_pos]
    dsimp only
    omega
  · intro b _ hb
    refine if_neg fun h => hb (Fin.ext ?_)
    show b.val = q.val / 512
    omega
  · intro h; exact absurd (Finset.mem_univ _) h

end

end Cert.KernelIdeal.Hand

end
-- ==== Proof.Host.lean ====
module

public import proofs.«01_k».proof.Proof.Gen.ReferenceIdeal
public import proofs.«01_k».proof.Proof.Model
public import Idealize.ShloMosaic.Lib.Pointwise
public import Idealize.ShloMosaic.Lib.WordCmp
public import Idealize.ShloMosaic.Lib.IdealHost

@[expose] public section

set_option maxRecDepth 16384

noncomputable section

/-! The host code of the attention's forward pass, which the reference and the version's preparation share: each array,
read at an index, is the model's number. -/

namespace Cert.HostT

open Cert.ReferenceIdeal Cert.ReferenceIdeal.Gen Cert.Model
open Idealize.ShloMosaic Idealize.SL.Sem

variable (Q K : FVec Ideal S4096x8x96 .f32) (V C : FVec Ideal S4096x8x64 .f32)

/-- The causal mask. -/
def mask : IVec S8x4096x4096 1 := broadcastInDim S8x4096x4096 ![1, 2] bcast_S4096x4096_S8x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The scores, -/
def score : FVec Ideal S8x4096x4096 .f32 := mulf (Host.dotGeneral dot_S4096x8x96_S4096x8x96_S8x4096x4096_2_2_0_0_1_1 none Q K) (broadcastInDim S8x4096x4096 ![] bcast_S_S8x4096x4096 (constant S_ .f32 0x3DD105EC#32))

/-- under the mask, -/
def masked : FVec Ideal S8x4096x4096 .f32 := select mask (score Q K) (broadcastInDim S8x4096x4096 ![] bcast_S_S8x4096x4096 (id (constant S_ .f32 0xFF800000#32)))

/-- each row's greatest one. -/
def top : FVec Ideal S8x4096 .f32 := Host.reduce FloatOps.maximumf (masked Q K) (constant S_ .f32 0xFF800000#32) reducesTo_S8x4096x4096_S8x4096_d2 h_S_

/-- The same, not below `-∞`. -/
def topB (T : FVec Ideal S8x4096 .f32) : FVec Ideal S8x4096 .f32 := maximumf (broadcastInDim S8x4096 ![] bcast_S_S8x4096 (constant S_ .f32 0xFF800000#32)) T

/-- A number of each row, as a column, -/
def col (T : FVec Ideal S8x4096 .f32) : FVec Ideal S8x4096x1 .f32 := broadcastInDim S8x4096x1 ![0, 1] bcast_S8x4096_S8x4096x1_0_1 T
/-- and along the row. -/
def row (T : FVec Ideal S8x4096x1 .f32) : FVec Ideal S8x4096x4096 .f32 := broadcastInDim S8x4096x4096 ![0, 1, 2] bcast_S8x4096x1_S8x4096x4096_0_1_2 T

/-- The exponentials, against the rows' numbers `T`, -/
def ex (T : FVec Ideal S8x4096 .f32) : FVec Ideal S8x4096x4096 .f32 := Host.exp (subf (masked Q K) (row (col T)))

/-- a sum over each row, -/
def rowSum (E : FVec Ideal S8x4096x4096 .f32) : FVec Ideal S8x4096 .f32 := Host.reduceAdd E (constant S_ .f32 0x00000000#32) reducesTo_S8x4096x4096_S8x4096_d2 h_S_

/-- the probabilities. -/
def prob (E : FVec Ideal S8x4096x4096 .f32) : FVec Ideal S8x4096x4096 .f32 := Host.divf E (row (col (rowSum E)))

/-- The gradient of the probabilities. -/
def dpT : FVec Ideal S8x4096x4096 .f32 := Host.dotGeneral dot_S8x64x4096_S4096x8x64_S8x4096x4096_1_2_2_0_0_1 none (transpose S8x64x4096 [1, 2, 0] C transposes_S4096x8x64_S8x64x4096_1_2_0) V

/-- That the arguments, and each row's greatest score, are the model's reals. -/
structure Reads (A : Args) : Prop where
  q : ∀ q h d, Q (ix3 q h d) = ((A.q q h d : ℝ) : EReal)
  k : ∀ q h d, K (ix3 q h d) = ((A.k q h d : ℝ) : EReal)
  v : ∀ q h d, V (ix3 q h d) = ((A.v q h d : ℝ) : EReal)
  c : ∀ q h d, C (ix3 q h d) = ((A.c q h d : ℝ) : EReal)
  M : ∀ h q, top Q K (ix2 h q) = ((A.M h q : ℝ) : EReal)

theorem mask_at (h : Fin 8) (q k : Fin 4096) : mask (ix3 h q k) = BitVec.ofBool (decide (k.val ≤ q.val)) := by
  pointwise [mask]
  have h : IntOp.cmpi CmpIPredicate.sle (BitVec.ofNat 32 k.val) (BitVec.ofNat 32 q.val) = BitVec.ofBool (decide (k.val ≤ q.val)) := by word_cmp
  exact h

theorem select_mask (h : Fin 8) (q k : Fin 4096) (x y : EReal) :
    Scalar.select (mask (ix3 h q k)) x y = if k.val ≤ q.val then x else y := by
  rw [mask_at]
  by_cases hk : k.val ≤ q.val
  · rw [if_pos hk, decide_eq_true hk]; rfl
  · rw [if_neg hk, decide_eq_false hk]; rfl

theorem score_lit (h : Fin 8) (q k : Fin 4096) : score Q K (ix3 h q k) = (∑ x, (Q (ix3 q h x) : EReal) * K (ix3 k h x)) * Ideal.ofBits .f32 0x3DD105EC#32 := by
  pointwise [score]

theorem masked_lit (h : Fin 8) (q k : Fin 4096) : masked Q K (ix3 h q k) = if k.val ≤ q.val then (score Q K (ix3 h q k) : EReal) else ⊥ := by
  rw [← select_mask, ← ofBits_bot]
  pointwise [masked]
  rfl

theorem top_lit (h : Fin 8) (q : Fin 4096) : top Q K (ix2 h q) = Finset.univ.fold max (⊥ : EReal) fun k => masked Q K (ix3 h q k) := by
  rw [← ofBits_bot]
  pointwise [top]

theorem topB_lit (T : FVec Ideal S8x4096 .f32) (h : Fin 8) (q : Fin 4096) : topB T (ix2 h q) = max (⊥ : EReal) (T (ix2 h q)) := by
  rw [← ofBits_bot]
  pointwise [topB]

theorem col_at (T : FVec Ideal S8x4096 .f32) (h : Fin 8) (q : Fin 4096) (z : Fin 1) : col T (ix3 h q z) = T (ix2 h q) := by
  pointwise [col]

theorem row_at (T : FVec Ideal S8x4096x1 .f32) (h : Fin 8) (q k : Fin 4096) : row T (ix3 h q k) = T (ix3 h q 0) := by
  pointwise [row]

theorem ex_lit (T : FVec Ideal S8x4096 .f32) (h : Fin 8) (q k : Fin 4096) :
    ex Q K T (ix3 h q k) = Ideal.exp ((masked Q K (ix3 h q k) : EReal) - T (ix2 h q)) := by
  rw [← col_at T h q 0, ← row_at (col T) h q k]
  rfl

theorem rowSum_at (E : FVec Ideal S8x4096x4096 .f32) (h : Fin 8) (q : Fin 4096) : rowSum E (ix2 h q) = ∑ k, (E (ix3 h q k) : EReal) := by
  pointwise [rowSum]

theorem prob_lit (E : FVec Ideal S8x4096x4096 .f32) (h : Fin 8) (q k : Fin 4096) :
    prob E (ix3 h q k) = Ideal.div (E (ix3 h q k)) (rowSum E (ix2 h q)) := by
  rw [← col_at (rowSum E) h q 0, ← row_at (col (rowSum E)) h q k]
  rfl

theorem dpT_lit (h : Fin 8) (q k : Fin 4096) : dpT V C (ix3 h q k) = ∑ x, (C (ix3 q h x) : EReal) * V (ix3 k h x) := by
  pointwise [dpT]

variable {Q K V C} {A : Args} (r : Reads Q K V C A)
include r

theorem score_at (h : Fin 8) (q k : Fin 4096) : score Q K (ix3 h q k) = ((A.s h q k : ℝ) : EReal) := by
  rw [score_lit, ofBits_sc, sum_eq_coe (fun d => A.q q h d * A.k k h d) fun d => by rw [r.q, r.k, EReal.coe_mul], ← EReal.coe_mul]
  rfl

theorem topB_at (h : Fin 8) (q : Fin 4096) : topB (top Q K) (ix2 h q) = ((A.M h q : ℝ) : EReal) := by
  rw [topB_lit, r.M, max_eq_right bot_le]

theorem ex_at (T : FVec Ideal S8x4096 .f32) (hT : ∀ h q, T (ix2 h q) = ((A.M h q : ℝ) : EReal)) (h : Fin 8) (q k : Fin 4096) :
    ex Q K T (ix3 h q k) = ((A.e h q k : ℝ) : EReal) := by
  rw [ex_lit, hT, masked_lit, Args.e]
  by_cases hk : k.val ≤ q.val
  · rw [if_pos hk, if_pos hk, score_at r, ← EReal.coe_sub]; rfl
  · rw [if_neg hk, if_neg hk]; simp

theorem sum_at (T : FVec Ideal S8x4096 .f32) (hT : ∀ h q, T (ix2 h q) = ((A.M h q : ℝ) : EReal)) (h : Fin 8) (q : Fin 4096) :
    rowSum (ex Q K T) (ix2 h q) = ((A.l h q : ℝ) : EReal) :=
  (rowSum_at _ h q).trans (sum_eq_coe _ fun k => ex_at r T hT h q k)

theorem prob_at (T : FVec Ideal S8x4096 .f32) (hT : ∀ h q, T (ix2 h q) = ((A.M h q : ℝ) : EReal)) (h : Fin 8) (q k : Fin 4096) :
    prob (ex Q K T) (ix3 h q k) = ((A.p h q k : ℝ) : EReal) := by
  rw [prob_lit, ex_at r T hT, sum_at r T hT, div_real _ (A.l_pos h q).ne']
  rfl

theorem dpT_at (h : Fin 8) (q k : Fin 4096) : dpT V C (ix3 h q k) = ((A.dp h q k : ℝ) : EReal) :=
  (dpT_lit V C h q k).trans (sum_eq_coe _ fun d => by rw [r.c, r.v, EReal.coe_mul])

omit r

/-- Real arguments have such a model. -/
theorem reads_of (q k : Fin 4096 → Fin 8 → Fin 96 → ℝ) (v c : Fin 4096 → Fin 8 → Fin 64 → ℝ)
    (hq : ∀ a h d, Q (ix3 a h d) = ((q a h d : ℝ) : EReal)) (hk : ∀ a h d, K (ix3 a h d) = ((k a h d : ℝ) : EReal))
    (hv : ∀ a h d, V (ix3 a h d) = ((v a h d : ℝ) : EReal)) (hc : ∀ a h d, C (ix3 a h d) = ((c a h d : ℝ) : EReal)) :
    ∃ A : Args, Reads Q K V C A := by
  have hs : ∀ h a b, ∃ x : ℝ, score Q K (ix3 h a b) = (x : EReal) := fun h a b => by
    rw [score_lit, ofBits_sc, sum_eq_coe (fun d => q a h d * k b h d) fun d => by rw [hq, hk, EReal.coe_mul], ← EReal.coe_mul]
    exact ⟨_, rfl⟩
  have hM : ∀ h a, ∃ x : ℝ, top Q K (ix2 h a) = (x : EReal) := fun h a => by
    rw [top_lit]
    refine fold_max_real _ (fun b => ?_) ⟨a, ?_⟩
    · obtain ⟨x, hx⟩ := hs h a b
      rw [masked_lit, hx]
      split
      · exact EReal.coe_ne_top x
      · exact bot_ne_top
    · obtain ⟨x, hx⟩ := hs h a a
      rw [masked_lit, hx, if_pos le_rfl]
      exact EReal.coe_ne_bot x
  choose M hM using hM
  exact ⟨⟨q, k, v, c, M⟩, hq, hk, hv, hc, hM⟩

end Cert.HostT

end
-- ==== Proof.Entry.lean ====
module

public import proofs.«01_k».proof.Proof.Host
public import proofs.«01_k».proof.Proof.Run
public import Idealize.ShloMosaic.Lib.Claim

@[expose] public section

set_option maxRecDepth 16384

noncomputable section

/-! What the version's call is given, read at an index: the model's numbers. -/

namespace Cert.KHost

open Cert.KernelIdeal Cert.KernelIdeal.Gen Cert.Model Cert.HostT
open Idealize.ShloMosaic Idealize.SL.Sem

/-- The scalars' logarithm of two. -/
def ln2 : FVec Ideal S_ .f32 := Host.log (constant S_ .f32 0x40000000#32)

/-- Each row's logarithm of its sum. -/
def logSum (Mx : FVec Ideal S8x4096 .f32) (L : FVec Ideal S8x4096 .f32) : FVec Ideal S8x4096 .f32 := addf Mx (Host.log L)

/-- To the base two, by pairs of heads. -/
def lse (T : FVec Ideal S8x4096 .f32) : FVec Ideal S4x2x4096 .f32 := shapeCast _ (Host.divf T (broadcastInDim S8x4096 ![] bcast_S_S8x4096 (id ln2))) shapeCasts_S8x4096_S4x2x4096

/-- The attention's output, -/
def outT (V : FVec Ideal S4096x8x64 .f32) (P : FVec Ideal S8x4096x4096 .f32) : FVec Ideal S8x64x4096 .f32 := Host.dotGeneral dot_S4096x8x64_S8x4096x4096_S8x64x4096_0_2_2_1_1_0 none V P

/-- its product with the incoming gradient, summed over the lanes, -/
def outSum (C : FVec Ideal S4096x8x64 .f32) (O : FVec Ideal S8x64x4096 .f32) : FVec Ideal S4096x8 .f32 := Host.reduceAdd (mulf C (transpose S4096x8x64 [2, 0, 1] O transposes_S8x64x4096_S4096x8x64_2_0_1)) (constant S_ .f32 0x00000000#32) reducesTo_S4096x8x64_S4096x8_d2 h_S_

/-- by pairs of heads. -/
def dvec (X : FVec Ideal S4096x8 .f32) : FVec Ideal S4x2x4096 .f32 := shapeCast _ (transpose S8x4096 [1, 0] X transposes_S4096x8_S8x4096_1_0) shapeCasts_S8x4096_S4x2x4096

/-- A head's lanes, padded to 128 and set side by side. -/
def wide (X : FVec Ideal S4096x8x96 .f32) : FVec Ideal S4096x1024 .f32 := shapeCast _ (pad S4096x8x128 ![0, 0, 0] ![0, 0, 32] ![0, 0, 0] X (sitofp .f32 (constantI S_ 32 0#32)) pads_S4096x8x96_S4096x8x128_000_000_0320 h_S_) shapeCasts_S4096x8x128_S4096x1024

/-- The queries, scaled to the base two, -/
def qb (X : FVec Ideal S4096x1024 .f32) : FVec Ideal S4096x1024 .bf16 := truncf .bf16 (mulf X (broadcastInDim S4096x1024 ![] bcast_S_S4096x1024 (id (Host.divf (constant S_ .f32 0x3DD105EC#32) ln2)))) bitsLt_bf16_f32
/-- the keys, -/
def kb (X : FVec Ideal S4096x1024 .f32) : FVec Ideal S4096x1024 .bf16 := truncf .bf16 X bitsLt_bf16_f32
/-- turned, -/
def kbT (X : FVec Ideal S4096x1024 .bf16) : FVec Ideal S1024x4096 .bf16 := transpose S1024x4096 [1, 0] X transposes_S4096x1024_S1024x4096_1_0
/-- the values (and the incoming gradient) side by side. -/
def flat (X : FVec Ideal S4096x8x64 .f32) : FVec Ideal S4096x512 .bf16 := truncf .bf16 (shapeCast S4096x512 X shapeCasts_S4096x8x64_S4096x512) bitsLt_bf16_f32

theorem logT_at (L : FVec Ideal S8x4096 .f32) (h : Fin 8) (q : Fin 4096) (x : ℝ) (hx : 0 < x) (hL : L (ix2 h q) = ((x : ℝ) : EReal)) :
    Host.log L (ix2 h q) = ((Real.log x : ℝ) : EReal) := by
  show Ideal.log (L (ix2 h q)) = _
  rw [hL, Ideal.log_coe, if_neg (not_le.mpr hx)]

theorem ln2_at : ln2 ix0 = ((Real.log 2 : ℝ) : EReal) := by
  show Ideal.log (Ideal.ofBits .f32 0x40000000#32) = _
  rw [ofBits_two, Ideal.log_coe, if_neg (by norm_num)]

theorem log2_ne : Real.log 2 ≠ 0 := Real.log_ne_zero_of_pos_of_ne_one (by norm_num) (by norm_num)

theorem logSum_at (Mx L : FVec Ideal S8x4096 .f32) (h : Fin 8) (q : Fin 4096) (x y : ℝ) (hy : 0 < y) (hM : Mx (ix2 h q) = ((x : ℝ) : EReal))
    (hL : L (ix2 h q) = ((y : ℝ) : EReal)) : logSum Mx L (ix2 h q) = ((x + Real.log y : ℝ) : EReal) := by
  show (Mx (ix2 h q) : EReal) + Host.log L (ix2 h q) = _
  rw [hM, logT_at L h q y hy hL, ← EReal.coe_add]

theorem lse_lit (T : FVec Ideal S8x4096 .f32) (a : Fin 4) (b : Fin 2) (q : Fin 4096) :
    lse T (ix3 a b q) = Ideal.div (T (ix2 (⟨a.val * 2 + b.val, by omega⟩ : Fin 8) q)) (ln2 ix0) := by
  pointwise [lse]
  rfl

theorem outT_at (V : FVec Ideal S4096x8x64 .f32) (P : FVec Ideal S8x4096x4096 .f32) (h : Fin 8) (d : Fin 64) (q : Fin 4096) :
    outT V P (ix3 h d q) = ∑ k, (V (ix3 k h d) : EReal) * P (ix3 h q k) := by
  pointwise [outT]

theorem outSum_at (C : FVec Ideal S4096x8x64 .f32) (O : FVec Ideal S8x64x4096 .f32) (q : Fin 4096) (h : Fin 8) :
    outSum C O (ix2 q h) = ∑ d, (C (ix3 q h d) : EReal) * O (ix3 h d q) := by
  pointwise [outSum]

theorem dvec_at (X : FVec Ideal S4096x8 .f32) (a : Fin 4) (b : Fin 2) (q : Fin 4096) :
    dvec X (ix3 a b q) = X (ix2 q (⟨a.val * 2 + b.val, by omega⟩ : Fin 8)) := by
  pointwise [dvec]

theorem wide_at (X : FVec Ideal S4096x8x96 .f32) (q : Fin 4096) (y : Fin 1024) :
    wide X (ix2 q y) = if h : y.val % 128 < 96 then (X (ix3 q (⟨y.val / 128, by omega⟩ : Fin 8) ⟨y.val % 128, h⟩) : EReal) else 0 := by
  have hz : (FloatOps.sitofp (F := Ideal) FTy.f32 0#32 : EReal) = 0 := by simp [FloatOps.sitofp]
  pointwise [wide]
  have hy : y.val / 128 < 8 := by omega
  by_cases hd : y.val % 128 < 96
  · rw [dif_pos ⟨hy, hd⟩, dif_pos hd]
  · rw [dif_neg (fun h => hd h.2), dif_neg hd, hz]

theorem qb_lit (X : FVec Ideal S4096x1024 .f32) (q : Fin 4096) (y : Fin 1024) :
    qb X (ix2 q y) = (X (ix2 q y) : EReal) * Ideal.div ((sc : ℝ) : EReal) (ln2 ix0) := by
  rw [← ofBits_sc]
  pointwise [qb]
  rfl

theorem kbT_at (X : FVec Ideal S4096x1024 .bf16) (y : Fin 1024) (q : Fin 4096) : kbT X (ix2 y q) = X (ix2 q y) := by
  pointwise [kbT]

theorem flat_at (X : FVec Ideal S4096x8x64 .f32) (q : Fin 4096) (y : Fin 512) :
    flat X (ix2 q y) = X (ix3 q (⟨y.val / 64, by omega⟩ : Fin 8) ⟨y.val % 64, by omega⟩) := by
  pointwise [flat]

section Values

variable {Q K : FVec Ideal S4096x8x96 .f32} {V C : FVec Ideal S4096x8x64 .f32} {A : Args} (r : Reads Q K V C A)
include r

/-- The rows' logarithms, -/
theorem lse_model (a : Fin 4) (b : Fin 2) (q : Fin 4096) :
    lse (logSum (top Q K) (rowSum (ex Q K (top Q K)))) (ix3 a b q)
      = (((A.M ⟨a.val * 2 + b.val, by omega⟩ q + Real.log (A.l ⟨a.val * 2 + b.val, by omega⟩ q)) / Real.log 2 : ℝ) : EReal) := by
  rw [lse_lit, logSum_at _ _ _ q _ _ (A.l_pos _ q) (r.M _ q) (sum_at r _ r.M _ q), ln2_at, div_real _ log2_ne]

/-- the gradient's means, -/
theorem dvec_model (a : Fin 4) (b : Fin 2) (q : Fin 4096) :
    dvec (outSum C (outT V (prob (ex Q K (topB (top Q K)))))) (ix3 a b q) = ((A.D ⟨a.val * 2 + b.val, by omega⟩ q : ℝ) : EReal) := by
  rw [dvec_at, outSum_at, ← A.D_eq]
  refine sum_eq_coe _ fun d => ?_
  rw [r.c, outT_at, sum_eq_coe (fun k => A.v k ⟨a.val * 2 + b.val, by omega⟩ d * A.p ⟨a.val * 2 + b.val, by omega⟩ q k) fun k => by
    rw [r.v, prob_at r _ (topB_at r), EReal.coe_mul], ← EReal.coe_mul]

/-- the queries, -/
theorem qb_model (q : Fin 4096) (y : Fin 1024) : qb (wide Q) (ix2 q y) =
    (((if h : y.val % 128 < 96 then A.q q ⟨y.val / 128, by omega⟩ ⟨y.val % 128, h⟩ else 0) * (sc / Real.log 2) : ℝ) : EReal) := by
  rw [qb_lit, wide_at, ln2_at, div_real _ log2_ne, EReal.coe_mul]
  congr 1
  split
  · rw [r.q]
  · rfl

/-- the keys, -/
theorem kb_model (q : Fin 4096) (y : Fin 1024) : kb (wide K) (ix2 q y) =
    (((if h : y.val % 128 < 96 then A.k q ⟨y.val / 128, by omega⟩ ⟨y.val % 128, h⟩ else 0) : ℝ) : EReal) := by
  show wide K (ix2 q y) = _
  rw [wide_at]
  split
  · rw [r.k]
  · rfl

end Values

variable (m : (ℓ : Loc nD τ sig) → Buf (Elt Ideal) ℓ) (c : Dev nD)

/-- The program's arguments. -/
abbrev aQ : FVec Ideal S4096x8x96 .f32 := m ((c.tc : Thread nD τ).loc main_arg0)
abbrev aK : FVec Ideal S4096x8x96 .f32 := m ((c.tc : Thread nD τ).loc main_arg1)
abbrev aV : FVec Ideal S4096x8x64 .f32 := m ((c.tc : Thread nD τ).loc main_arg2)
abbrev aC : FVec Ideal S4096x8x64 .f32 := m ((c.tc : Thread nD τ).loc main_arg3)

/-- The call's operands are these. -/
theorem V57 : V m c main_v57 = qb (wide (aQ m c)) := by entry_read; rfl
theorem V60 : V m c main_v60 = kb (wide (aK m c)) := by entry_read; rfl
theorem V61 : V m c main_v61 = kbT (kb (wide (aK m c))) := by entry_read; rfl
theorem V63 : V m c main_v63 = flat (aV m c) := by entry_read; rfl
theorem V65 : V m c main_v65 = flat (aC m c) := by entry_read; rfl
theorem V45 : V m c main_v45 = lse (logSum (top (aQ m c) (aK m c)) (rowSum (ex (aQ m c) (aK m c) (top (aQ m c) (aK m c))))) := by
  unfold V
  simp only [hostOps0, hostOps0_1, hostOps0_2, hostOps0_3, hostOps0_4, hostOps0_5, hostOps0_6, hostOps0_7, hostOps0_8, List.flatten_cons, List.flatten_nil,
    List.cons_append, List.nil_append, List.append_nil, StableHlo.TRef.binary, StableHlo.TRef.nullary, StableHlo.TRef.ternary, StableHlo.TRef.unary,
    StableHlo.TRef.toBuf, StableHlo.TRef.ofBuf, cast_eq]
  after_results_simp <;> rfl

theorem V49 : V m c main_v49 = dvec (outSum (aC m c) (outT (aV m c) (prob (ex (aQ m c) (aK m c) (topB (top (aQ m c) (aK m c))))))) := by
  unfold V
  simp only [hostOps0, hostOps0_1, hostOps0_2, hostOps0_3, hostOps0_4, hostOps0_5, hostOps0_6, hostOps0_7, hostOps0_8, List.flatten_cons, List.flatten_nil,
    List.cons_append, List.nil_append, List.append_nil, StableHlo.TRef.binary, StableHlo.TRef.nullary, StableHlo.TRef.ternary, StableHlo.TRef.unary,
    StableHlo.TRef.toBuf, StableHlo.TRef.ofBuf, cast_eq]
  after_results_simp <;> rfl

end Cert.KHost

end
-- ==== Proof.Blocks.lean ====
module

public import proofs.«01_k».proof.Proof.Values
public import proofs.«01_k».proof.Proof.Entry
public import Idealize.ShloMosaic.Lib.Pipeline.ValueKit

@[expose] public section

set_option maxRecDepth 16384

noncomputable section

/-! The blocks that a grid point's body reads are the model's. -/

namespace Cert.KernelIdeal.Hand

open Cert.KernelIdeal Cert.KernelIdeal.Gen Cert.Model Cert.HostT Cert.KHost
open Idealize.ShloMosaic Idealize.ShloMosaic.TcCoe Idealize.SL.Sem

/-- The windows' index maps. -/
theorem idx : ∀ t : Fin cfg0.N, win0_0.index t = ![0, t.val / 8] ∧ win0_1.index t = ![t.val % 8, t.val / 8] ∧ win0_2.index t = ![t.val / 8, t.val % 8]
    ∧ win0_3.index t = ![t.val % 8, t.val / 8] ∧ win0_4.index t = ![0, t.val / 8] ∧ win0_5.index t = ![t.val / 8, 0, 0] ∧ win0_6.index t = ![t.val / 8, 0, 0]
    ∧ win0_7.index t = ![t.val / 8, 0] ∧ win0_8.index t = ![t.val % 8, t.val / 8] ∧ win0_9.index t = ![t.val % 8, t.val / 8] :=
  (by decide +kernel : ∀ t : Fin grid0.N, _)

variable (m : (ℓ : Loc nD τ sig) → Buf (Elt Ideal) ℓ) (c : Dev nD) (t : Fin cfg0.N)

theorem lt16 : t.val < 16 := lt_of_lt_of_eq t.isLt (show cfg0.N = 16 from N_0)

/-- The group of heads of a grid point. -/
def gOf : Fin 2 := ⟨t.val / 8, by have := lt16 t; omega⟩

theorem rd0 (q : Fin 4096) (x : Fin 512) (z : Fin 1024) (hz : z.val = 512 * (t.val / 8) + x.val) : iblk m c 0 t (ix2 q x) = V m c main_v57 (ix2 q z) := by
  blk_ext [iblk, idx t]
theorem rd1 (k x : Fin 512) (w : Fin 4096) (z : Fin 1024) (hw : w.val = 512 * (t.val % 8) + k.val) (hz : z.val = 512 * (t.val / 8) + x.val) :
    iblk m c 1 t (ix2 k x) = V m c main_v60 (ix2 w z) := by
  blk_ext [iblk, idx t]
theorem rd2 (k x : Fin 512) (w : Fin 4096) (z : Fin 1024) (hw : w.val = 512 * (t.val % 8) + k.val) (hz : z.val = 512 * (t.val / 8) + x.val) :
    iblk m c 2 t (ix2 x k) = V m c main_v61 (ix2 z w) := by
  blk_ext [iblk, idx t]
theorem rd3 (k : Fin 512) (x : Fin 256) (w : Fin 4096) (z : Fin 512) (hw : w.val = 512 * (t.val % 8) + k.val) (hz : z.val = 256 * (t.val / 8) + x.val) :
    iblk m c 3 t (ix2 k x) = V m c main_v63 (ix2 w z) := by
  blk_ext [iblk, idx t]
theorem rd4 (q : Fin 4096) (x : Fin 256) (z : Fin 512) (hz : z.val = 256 * (t.val / 8) + x.val) : iblk m c 4 t (ix2 q x) = V m c main_v65 (ix2 q z) := by
  blk_ext [iblk, idx t]
theorem rd5 (a b : Fin 2) (q : Fin 4096) (z : Fin 4) (hz : z.val = 2 * (t.val / 8) + a.val) : iblk m c 5 t (ix3 a b q) = V m c main_v45 (ix3 z b q) := by
  blk_ext [iblk, idx t]
theorem rd6 (a b : Fin 2) (q : Fin 4096) (z : Fin 4) (hz : z.val = 2 * (t.val / 8) + a.val) : iblk m c 6 t (ix3 a b q) = V m c main_v49 (ix3 z b q) := by
  blk_ext [iblk, idx t]

/-- The lanes of a group, among all heads'. -/
theorem lanes_eq (f : Fin 4096 → Fin 8 → Fin 96 → ℝ) (q : Fin 4096) (x : Fin 512) (z : Fin 1024) (hz : z.val = 512 * (t.val / 8) + x.val) :
    (if h : z.val % 128 < 96 then f q ⟨z.val / 128, by omega⟩ ⟨z.val % 128, h⟩ else 0) = lanesR f (gOf t) q x := by
  have h1 : z.val % 128 = x.val % 128 := by omega
  have h2 : (⟨z.val / 128, by omega⟩ : Fin 8) = head (gOf t) (hdOf x) := Fin.ext (by
    show z.val / 128 = 4 * (t.val / 8) + x.val / 128; omega)
  unfold lanesR
  by_cases h : x.val % 128 < 96
  · rw [dif_pos h, dif_pos (h1.symm ▸ h)]
    exact congrArg₂ (f q) h2 (Fin.ext h1)
  · rw [dif_neg h, dif_neg (h1.symm ▸ h)]

variable {A : Args} (r : Reads (aQ m c) (aK m c) (aV m c) (aC m c) A)
include r

theorem env_q (q : Fin 4096) (x : Fin 512) : (envAt m c t).q (ix2 q x) = ((lanesR A.q (gOf t) q x * (sc / Real.log 2) : ℝ) : EReal) := by
  have ht := lt16 t
  rw [show (envAt m c t).q = iblk m c 0 t from rfl, rd0 m c t q x ⟨512 * (t.val / 8) + x.val, by omega⟩ rfl, V57, qb_model r,
    lanes_eq t A.q q x ⟨512 * (t.val / 8) + x.val, by omega⟩ rfl]

theorem env_k (k x : Fin 512) : (envAt m c t).k (ix2 k x) = ((lanesR A.k (gOf t) (row (jOf (grid0.coords t)) k) x : ℝ) : EReal) := by
  have ht := lt16 t
  have hj := jOf_val t
  rw [show (envAt m c t).k = iblk m c 1 t from rfl, rd1 m c t k x (row (jOf (grid0.coords t)) k) ⟨512 * (t.val / 8) + x.val, by omega⟩
    (by show 512 * (jOf (grid0.coords t)).val + k.val = _; rw [hj]) rfl, V60, kb_model r,
    lanes_eq t A.k _ x ⟨512 * (t.val / 8) + x.val, by omega⟩ rfl]

theorem env_t (x k : Fin 512) : (envAt m c t).t (ix2 x k) = ((lanesR A.k (gOf t) (row (jOf (grid0.coords t)) k) x : ℝ) : EReal) := by
  have ht := lt16 t
  have hj := jOf_val t
  rw [show (envAt m c t).t = iblk m c 2 t from rfl, rd2 m c t k x (row (jOf (grid0.coords t)) k) ⟨512 * (t.val / 8) + x.val, by omega⟩
    (by show 512 * (jOf (grid0.coords t)).val + k.val = _; rw [hj]) rfl, V61, kbT_at, kb_model r,
    lanes_eq t A.k _ x ⟨512 * (t.val / 8) + x.val, by omega⟩ rfl]

theorem env_va (a : Fin 4) (k : Fin 512) (e : Fin 128) : (envAt m c t).va (ix3 a k e) = ((if (e.val < 64 ↔ a.val % 2 = 0) then A.v (row (jOf (grid0.coords t)) k) (head (gOf t) a) ⟨e.val % 64, by omega⟩ else 0 : ℝ) : EReal) := by
  have ht := lt16 t
  have hj := jOf_val t
  rw [show (envAt m c t).va = vaOf (iblk m c 3 t) from rfl, vaOf_at]
  split
  · rename_i h
    rw [rd3 m c t k (pr a e) (row (jOf (grid0.coords t)) k) ⟨256 * (t.val / 8) + (pr a e).val, by omega⟩
      (by show 512 * (jOf (grid0.coords t)).val + k.val = _; rw [hj]) rfl, V63, flat_at, r.v]
    have h1 : (⟨(256 * (t.val / 8) + (pr a e).val) / 64, by omega⟩ : Fin 8) = head (gOf t) a := Fin.ext (by
      show (256 * (t.val / 8) + (128 * (a.val / 2) + e.val)) / 64 = 4 * (t.val / 8) + a.val; omega)
    have h2 : (⟨(256 * (t.val / 8) + (pr a e).val) % 64, by omega⟩ : Fin 64) = ⟨e.val % 64, by omega⟩ := Fin.ext (by
      show (256 * (t.val / 8) + (128 * (a.val / 2) + e.val)) % 64 = e.val % 64; omega)
    dsimp only
    rw [h1, h2]
  · rfl

theorem env_o (q : Fin 4096) (y : Fin 256) : (envAt m c t).o (ix2 q y) = ((A.c q (head (gOf t) ⟨y.val / 64, by omega⟩) ⟨y.val % 64, by omega⟩ : ℝ) : EReal) := by
  have ht := lt16 t
  rw [show (envAt m c t).o = iblk m c 4 t from rfl, rd4 m c t q y ⟨256 * (t.val / 8) + y.val, by omega⟩ rfl, V65, flat_at, r.c]
  have h1 : (⟨(256 * (t.val / 8) + y.val) / 64, by omega⟩ : Fin 8) = head (gOf t) ⟨y.val / 64, by omega⟩ := Fin.ext (by
    show (256 * (t.val / 8) + y.val) / 64 = 4 * (t.val / 8) + y.val / 64; omega)
  have h2 : (⟨(256 * (t.val / 8) + y.val) % 64, by omega⟩ : Fin 64) = ⟨y.val % 64, by omega⟩ := Fin.ext (by
    show (256 * (t.val / 8) + y.val) % 64 = y.val % 64; omega)
  dsimp only
  rw [h1, h2]

theorem env_l (a : Fin 4) (q : Fin 4096) : (envAt m c t).l (ix3 (hp a) (hr a) q) = (((A.M (head (gOf t) a) q + Real.log (A.l (head (gOf t) a) q)) / Real.log 2 : ℝ) : EReal) := by
  have ht := lt16 t
  rw [show (envAt m c t).l = iblk m c 5 t from rfl, rd5 m c t (hp a) (hr a) q ⟨2 * (t.val / 8) + (hp a).val, by omega⟩ rfl, V45, lse_model r]
  have h1 : (⟨(2 * (t.val / 8) + (hp a).val) * 2 + (hr a).val, by omega⟩ : Fin 8) = head (gOf t) a := Fin.ext (by
    show (2 * (t.val / 8) + a.val / 2) * 2 + a.val % 2 = 4 * (t.val / 8) + a.val; omega)
  dsimp only
  rw [h1]

theorem env_d (a : Fin 4) (q : Fin 4096) : (envAt m c t).d (ix3 (hp a) (hr a) q) = ((A.D (head (gOf t) a) q : ℝ) : EReal) := by
  have ht := lt16 t
  rw [show (envAt m c t).d = iblk m c 6 t from rfl, rd6 m c t (hp a) (hr a) q ⟨2 * (t.val / 8) + (hp a).val, by omega⟩ rfl, V49, dvec_model r]
  have h1 : (⟨(2 * (t.val / 8) + (hp a).val) * 2 + (hr a).val, by omega⟩ : Fin 8) = head (gOf t) a := Fin.ext (by
    show (2 * (t.val / 8) + a.val / 2) * 2 + a.val % 2 = 4 * (t.val / 8) + a.val; omega)
  dsimp only
  rw [h1]

/-- What the body reads at a grid point is the model's. -/
theorem env_is : EnvIs A (gOf t) (jOf (grid0.coords t)) (envAt m c t) :=
  ⟨env_q m c t r, env_k m c t r, env_t m c t r, env_va m c t r, env_o m c t r, env_l m c t r, env_d m c t r⟩

end Cert.KernelIdeal.Hand

end
-- ==== Proof.Ref.lean ====
module

public import proofs.«01_k».proof.Proof.Host
public import proofs.«01_k».proof.Proof.Gen.ReferenceIdeal.Run

@[expose] public section

set_option maxRecDepth 16384

noncomputable section

/-! The reference's three results, read at an index: the model's gradients. -/

namespace Cert.HostT

open Cert.ReferenceIdeal Cert.ReferenceIdeal.Gen Cert.Model
open Idealize.ShloMosaic Idealize.SL.Sem

/-- One over the square of each row's sum, -/
def inv2 (L : FVec Ideal S8x4096x1 .f32) : FVec Ideal S8x4096x1 .f32 := Host.divf (broadcastInDim S8x4096x1 ![] bcast_S_S8x4096x1 (constant S_ .f32 0x3F800000#32)) (mulf L L)

/-- the products of the quotient's derivative, -/
def quot (DP E : FVec Ideal S8x4096x4096 .f32) : FVec Ideal S8x4096x4096 .f32 := mulf (mulf DP (row (inv2 (col (rowSum E))))) E

/-- less their sum over each row, -/
def negSum (X : FVec Ideal S8x4096x4096 .f32) : FVec Ideal S8x4096 .f32 := Host.reduceAdd (Host.negf (shapeCast _ (rowSum X) shapeCasts_S8x4096_S8x4096x1)) (constant S_ .f32 0x00000000#32) reducesTo_S8x4096x1_S8x4096_d2 h_S_

/-- along the row. -/
def row2 (T : FVec Ideal S8x4096 .f32) : FVec Ideal S8x4096x4096 .f32 := broadcastInDim S8x4096x4096 ![0, 1] bcast_S8x4096_S8x4096x4096_0_1 T

/-- The gradient of the scores, before the mask, -/
def dsPre (DP E : FVec Ideal S8x4096x4096 .f32) : FVec Ideal S8x4096x4096 .f32 := mulf (addf (prob' DP E) (row2 (negSum (quot DP E)))) E
where prob' (DP E : FVec Ideal S8x4096x4096 .f32) : FVec Ideal S8x4096x4096 .f32 := Host.divf DP (row (col (rowSum E)))

/-- and under it. -/
def dsT (DP E : FVec Ideal S8x4096x4096 .f32) : FVec Ideal S8x4096x4096 .f32 := select mask (dsPre DP E) (broadcastInDim S8x4096x4096 ![] bcast_S_S8x4096x4096 (constant S_ .f32 0x00000000#32))

/-- By the scale. -/
def scl (X : FVec Ideal S8x4096x4096 .f32) : FVec Ideal S8x4096x4096 .f32 := mulf X (broadcastInDim S8x4096x4096 ![] bcast_S_S8x4096x4096 (constant S_ .f32 0x3DD105EC#32))

/-- A head's lanes, padded to 128 and set side by side. -/
def lanes (X : FVec Ideal S8x4096x96 .f32) : FVec Ideal S4096x1024 .f32 := shapeCast _ (pad S4096x8x128 ![0, 0, 0] ![0, 0, 32] ![0, 0, 0] (transpose S4096x8x96 [1, 0, 2] X transposes_S8x4096x96_S4096x8x96_1_0_2) (sitofp .f32 (constantI S_ 32 0#32)) pads_S4096x8x96_S4096x8x128_000_000_0320 h_S_) shapeCasts_S4096x8x128_S4096x1024

/-- The products over the keys, -/
def dqDot (X : FVec Ideal S8x4096x4096 .f32) (K : FVec Ideal S4096x8x96 .f32) : FVec Ideal S8x4096x96 .f32 := Host.dotGeneral dot_S8x4096x4096_S4096x8x96_S8x4096x96_2_0_1_2_0_1 none X K
/-- over the queries, -/
def dkDot (X : FVec Ideal S8x4096x4096 .f32) (Q : FVec Ideal S4096x8x96 .f32) : FVec Ideal S8x4096x96 .f32 := Host.dotGeneral dot_S8x4096x4096_S4096x8x96_S8x4096x96_1_0_2_2_0_1 none X Q
/-- and of the values. -/
def dvDot (P : FVec Ideal S8x4096x4096 .f32) (C : FVec Ideal S4096x8x64 .f32) : FVec Ideal S8x64x4096 .f32 := Host.dotGeneral dot_S8x64x4096_S8x4096x4096_S8x64x4096_2_1_1_2_0_0 none (transpose S8x64x4096 [1, 2, 0] C transposes_S4096x8x64_S8x64x4096_1_2_0) P

/-- The queries' gradient, by the scale and turned, -/
def dqRes (X : FVec Ideal S4096x1024 .f32) : FVec Ideal S1024x4096 .f32 := Host.divf (transpose S1024x4096 [1, 0] X transposes_S4096x1024_S1024x4096_1_0) (broadcastInDim S1024x4096 ![] bcast_S_S1024x4096 (constant S_ .f32 0x3DD105EC#32))
/-- the values'. -/
def dvRes (X : FVec Ideal S8x64x4096 .f32) : FVec Ideal S4096x512 .f32 := shapeCast _ (transpose S4096x8x64 [2, 0, 1] X transposes_S8x64x4096_S4096x8x64_2_0_1) shapeCasts_S4096x8x64_S4096x512

theorem inv2_at (L : FVec Ideal S8x4096x1 .f32) (h : Fin 8) (q : Fin 4096) (z : Fin 1) :
    inv2 L (ix3 h q z) = Ideal.div (1 : EReal) ((L (ix3 h q z) : EReal) * L (ix3 h q z)) := by
  pointwise [inv2]

theorem row2_at (T : FVec Ideal S8x4096 .f32) (h : Fin 8) (q k : Fin 4096) : row2 T (ix3 h q k) = T (ix2 h q) := by
  pointwise [row2]

theorem negSum_at (X : FVec Ideal S8x4096x4096 .f32) (h : Fin 8) (q : Fin 4096) : negSum X (ix2 h q) = -(rowSum X (ix2 h q) : EReal) := by
  pointwise [negSum]
  exact Fin.sum_univ_one _

theorem quot_lit (DP E : FVec Ideal S8x4096x4096 .f32) (h : Fin 8) (q k : Fin 4096) :
    quot DP E (ix3 h q k) = (DP (ix3 h q k) : EReal) * Ideal.div (1 : EReal) ((rowSum E (ix2 h q) : EReal) * rowSum E (ix2 h q)) * E (ix3 h q k) := by
  rw [← col_at (rowSum E) h q 0, ← inv2_at (col (rowSum E)) h q 0, ← row_at (inv2 (col (rowSum E))) h q k]
  rfl

theorem dsPre_lit (DP E : FVec Ideal S8x4096x4096 .f32) (h : Fin 8) (q k : Fin 4096) :
    dsPre DP E (ix3 h q k) = (Ideal.div (DP (ix3 h q k)) (rowSum E (ix2 h q)) + -(rowSum (quot DP E) (ix2 h q) : EReal)) * E (ix3 h q k) := by
  rw [← col_at (rowSum E) h q 0, ← row_at (col (rowSum E)) h q k, ← negSum_at (quot DP E) h q, ← row2_at (negSum (quot DP E)) h q k]
  rfl

theorem dsT_lit (DP E : FVec Ideal S8x4096x4096 .f32) (h : Fin 8) (q k : Fin 4096) :
    dsT DP E (ix3 h q k) = if k.val ≤ q.val then (dsPre DP E (ix3 h q k) : EReal) else 0 := by
  rw [← select_mask h]
  pointwise [dsT]

theorem scl_at (X : FVec Ideal S8x4096x4096 .f32) (h : Fin 8) (q k : Fin 4096) :
    scl X (ix3 h q k) = (X (ix3 h q k) : EReal) * ((sc : ℝ) : EReal) := by
  rw [← ofBits_sc]
  pointwise [scl]

theorem lanes_at (X : FVec Ideal S8x4096x96 .f32) (q : Fin 4096) (y : Fin 1024) :
    lanes X (ix2 q y) = if h : y.val % 128 < 96 then (X (ix3 (⟨y.val / 128, by omega⟩ : Fin 8) q ⟨y.val % 128, h⟩) : EReal) else 0 := by
  have hz : (FloatOps.sitofp (F := Ideal) FTy.f32 0#32 : EReal) = 0 := by simp [FloatOps.sitofp]
  pointwise [lanes]
  have hy : y.val / 128 < 8 := by omega
  by_cases hd : y.val % 128 < 96
  · rw [dif_pos ⟨hy, hd⟩, dif_pos hd]
  · rw [dif_neg (fun h => hd h.2), dif_neg hd, hz]

theorem dqDot_at (X : FVec Ideal S8x4096x4096 .f32) (K : FVec Ideal S4096x8x96 .f32) (h : Fin 8) (q : Fin 4096) (d : Fin 96) :
    dqDot X K (ix3 h q d) = ∑ k, (X (ix3 h q k) : EReal) * K (ix3 k h d) := by
  pointwise [dqDot]

theorem dkDot_at (X : FVec Ideal S8x4096x4096 .f32) (Q : FVec Ideal S4096x8x96 .f32) (h : Fin 8) (k : Fin 4096) (d : Fin 96) :
    dkDot X Q (ix3 h k d) = ∑ q, (X (ix3 h q k) : EReal) * Q (ix3 q h d) := by
  pointwise [dkDot]

theorem dvDot_at (P : FVec Ideal S8x4096x4096 .f32) (C : FVec Ideal S4096x8x64 .f32) (h : Fin 8) (d : Fin 64) (k : Fin 4096) :
    dvDot P C (ix3 h d k) = ∑ q, (C (ix3 q h d) : EReal) * P (ix3 h q k) := by
  pointwise [dvDot]

theorem dqRes_at (X : FVec Ideal S4096x1024 .f32) (y : Fin 1024) (q : Fin 4096) :
    dqRes X (ix2 y q) = Ideal.div (X (ix2 q y)) ((sc : ℝ) : EReal) := by
  rw [← ofBits_sc]
  pointwise [dqRes]

theorem dvRes_at (X : FVec Ideal S8x64x4096 .f32) (k : Fin 4096) (y : Fin 512) :
    dvRes X (ix2 k y) = X (ix3 (⟨y.val / 64, by omega⟩ : Fin 8) ⟨y.val % 64, by omega⟩ k) := by
  pointwise [dvRes]

variable {Q K : FVec Ideal S4096x8x96 .f32} {V C : FVec Ideal S4096x8x64 .f32} {A : Args} (r : Reads Q K V C A)
include r

/-- The exponentials of the rows' greatest scores. -/
theorem topB_rows : ∀ h q, topB (top Q K) (ix2 h q) = ((A.M h q : ℝ) : EReal) := topB_at r

theorem quot_at (h : Fin 8) (q k : Fin 4096) : quot (dpT V C) (ex Q K (topB (top Q K))) (ix3 h q k) =
    ((A.dp h q k * (1 / (A.l h q * A.l h q)) * A.e h q k : ℝ) : EReal) := by
  have hl := (A.l_pos h q).ne'
  rw [quot_lit, dpT_at r, sum_at r _ (topB_at r), ex_at r _ (topB_at r), ← EReal.coe_mul, ← EReal.coe_one, div_real _ (mul_ne_zero hl hl), ← EReal.coe_mul,
    ← EReal.coe_mul]

theorem dsT_at (h : Fin 8) (q k : Fin 4096) : dsT (dpT V C) (ex Q K (topB (top Q K))) (ix3 h q k) = ((A.ds h q k : ℝ) : EReal) := by
  rw [dsT_lit]
  by_cases hk : k.val ≤ q.val
  · rw [if_pos hk, dsPre_lit, dpT_at r, sum_at r _ (topB_at r), ex_at r _ (topB_at r), div_real _ (A.l_pos h q).ne', rowSum_at,
      sum_eq_coe _ fun k => quot_at r h q k, ← EReal.coe_neg, ← EReal.coe_add, ← EReal.coe_mul, A.ds_eq]
  · rw [if_neg hk, Args.ds, A.p_zero h q k hk, zero_mul, EReal.coe_zero]

theorem dqDot_model (h : Fin 8) (q : Fin 4096) (d : Fin 96) :
    dqDot (scl (dsT (dpT V C) (ex Q K (topB (top Q K))))) K (ix3 h q d) = ((A.dq h q d * sc : ℝ) : EReal) := by
  rw [dqDot_at, sum_eq_coe (fun k => A.ds h q k * sc * A.k k h d) fun k => by rw [scl_at, dsT_at r, r.k, EReal.coe_mul, EReal.coe_mul], Args.dq,
    Finset.sum_mul]
  congr 1
  exact Finset.sum_congr rfl fun k _ => by ring

theorem dkDot_model (h : Fin 8) (k : Fin 4096) (d : Fin 96) :
    dkDot (scl (dsT (dpT V C) (ex Q K (topB (top Q K))))) Q (ix3 h k d) = ((A.dk h k d : ℝ) : EReal) := by
  rw [dkDot_at, sum_eq_coe (fun q => A.ds h q k * sc * A.q q h d) fun q => by rw [scl_at, dsT_at r, r.q, EReal.coe_mul, EReal.coe_mul], Args.dk,
    Finset.sum_mul]
  congr 1
  exact Finset.sum_congr rfl fun k _ => by ring

theorem dvDot_model (h : Fin 8) (d : Fin 64) (k : Fin 4096) :
    dvDot (prob (ex Q K (topB (top Q K)))) C (ix3 h d k) = ((A.dv h k d : ℝ) : EReal) := by
  rw [dvDot_at, sum_eq_coe (fun q => A.p h q k * A.c q h d) fun q => by rw [prob_at r _ (topB_at r), r.c, mul_comm, EReal.coe_mul]]
  rfl

/-- The reference's first result, at an index: the queries' gradient, by the scale. -/
theorem res_dq (y : Fin 1024) (q : Fin 4096) :
    dqRes (lanes (dqDot (scl (dsT (dpT V C) (ex Q K (topB (top Q K))))) K)) (ix2 y q)
      = (((if h : y.val % 128 < 96 then A.dq ⟨y.val / 128, by omega⟩ q ⟨y.val % 128, h⟩ else 0 : ℝ)) : EReal) := by
  rw [dqRes_at, lanes_at]
  split
  · rw [dqDot_model r, div_real _ sc_ne, mul_div_cancel_right₀ _ sc_ne]
  · rw [← EReal.coe_zero, div_real _ sc_ne, zero_div]

/-- The second: the keys'. -/
theorem res_dk (k : Fin 4096) (y : Fin 1024) :
    lanes (dkDot (scl (dsT (dpT V C) (ex Q K (topB (top Q K))))) Q) (ix2 k y)
      = (((if h : y.val % 128 < 96 then A.dk ⟨y.val / 128, by omega⟩ k ⟨y.val % 128, h⟩ else 0 : ℝ)) : EReal) := by
  rw [lanes_at]
  split
  · rw [dkDot_model r]
  · rfl

/-- The third: the values'. -/
theorem res_dv (k : Fin 4096) (y : Fin 512) :
    dvRes (dvDot (prob (ex Q K (topB (top Q K)))) C) (ix2 k y) = ((A.dv ⟨y.val / 64, by omega⟩ k ⟨y.val % 64, by omega⟩ : ℝ) : EReal) := by
  rw [dvRes_at, dvDot_model r]

omit r

/-- The three results are the printed program's. -/
theorem res67 (m : (ℓ : Loc nD τ sig) → Buf (Elt Ideal) ℓ) (c : Dev nD) : Value.res_main_v67 m c =
    dqRes (lanes (dqDot (scl (dsT (dpT (m ((c.tc : Thread nD τ).loc main_arg2)) (m ((c.tc : Thread nD τ).loc main_arg3))) (ex (m ((c.tc : Thread nD τ).loc main_arg0)) (m ((c.tc : Thread nD τ).loc main_arg1)) (topB (top (m ((c.tc : Thread nD τ).loc main_arg0)) (m ((c.tc : Thread nD τ).loc main_arg1))))))) (m ((c.tc : Thread nD τ).loc main_arg1)))) := by
  unfold Value.res_main_v67; rfl

theorem res69 (m : (ℓ : Loc nD τ sig) → Buf (Elt Ideal) ℓ) (c : Dev nD) : Value.res_main_v69 m c =
    lanes (dkDot (scl (dsT (dpT (m ((c.tc : Thread nD τ).loc main_arg2)) (m ((c.tc : Thread nD τ).loc main_arg3))) (ex (m ((c.tc : Thread nD τ).loc main_arg0)) (m ((c.tc : Thread nD τ).loc main_arg1)) (topB (top (m ((c.tc : Thread nD τ).loc main_arg0)) (m ((c.tc : Thread nD τ).loc main_arg1))))))) (m ((c.tc : Thread nD τ).loc main_arg0))) := by
  unfold Value.res_main_v69; rfl

theorem res70 (m : (ℓ : Loc nD τ sig) → Buf (Elt Ideal) ℓ) (c : Dev nD) : Value.res_main_v70 m c =
    dvRes (dvDot (prob (ex (m ((c.tc : Thread nD τ).loc main_arg0)) (m ((c.tc : Thread nD τ).loc main_arg1)) (topB (top (m ((c.tc : Thread nD τ).loc main_arg0)) (m ((c.tc : Thread nD τ).loc main_arg1)))))) (m ((c.tc : Thread nD τ).loc main_arg3))) := by
  unfold Value.res_main_v70; rfl

end Cert.HostT

end
-- ==== Proof.Final.lean ====
module

public import proofs.«01_k».proof.Proof.Blocks
public import proofs.«01_k».proof.Proof.Ref

@[expose] public section

set_option maxRecDepth 16384

noncomputable section

/-! The arrays that the run leaves, at an index: the model's gradients. -/

namespace Cert.KernelIdeal.Hand

open Cert.KernelIdeal Cert.KernelIdeal.Gen Cert.Model Cert.HostT Cert.KHost
open Idealize.ShloMosaic Idealize.ShloMosaic.TcCoe Idealize.SL.Sem

variable (m : (ℓ : Loc nD τ sig) → Buf (Elt Ideal) ℓ) (c : Dev nD)

/-- What key block `j` adds to the queries' gradient. -/
def addR (A : Args) (g : Fin 2) (x : Fin 512) (q : Fin 4096) (j : Fin 8) : ℝ := ∑ k, lanesR A.k g (row j k) x * A.ds (head g (hdOf x)) q (row j k)

theorem addR_sum (A : Args) (g : Fin 2) (x : Fin 512) (q : Fin 4096) : ∑ j, addR A g x q j = lanesR (fun q h d => A.dq h q d) g q x := by
  unfold addR
  rw [sum_rows fun k => lanesR A.k g k x * A.ds (head g (hdOf x)) q k]
  unfold lanesR
  by_cases h : x.val % 128 < 96
  · simp only [dif_pos h]
    exact Finset.sum_congr rfl fun k _ => mul_comm _ _
  · simp only [dif_neg h, zero_mul, Finset.sum_const_zero]

/-- A sum over the blocks up to one is the sum up to the one before, and its own. -/
theorem sum_upto (R : Fin 8 → ℝ) (n : ℕ) (h : n + 1 < 8) :
    (∑ b : Fin 8, if b.val ≤ n then R b else 0) + R ⟨n + 1, h⟩ = ∑ b : Fin 8, if b.val ≤ n + 1 then R b else 0 := by
  have : ∀ b : Fin 8, (if b.val ≤ n + 1 then R b else 0) = (if b.val ≤ n then R b else 0) + (if b = ⟨n + 1, h⟩ then R b else 0) := fun b => by
    by_cases h1 : b.val ≤ n
    · rw [if_pos h1, if_pos (by omega), if_neg (fun e => by rw [e] at h1; dsimp only at h1; omega), add_zero]
    · by_cases h2 : b.val ≤ n + 1
      · rw [if_neg h1, if_pos h2, if_pos (Fin.ext (by show b.val = n + 1; omega)), zero_add]
      · rw [if_neg h1, if_neg h2, if_neg (fun e => h2 (by rw [e])), zero_add]
  rw [Finset.sum_congr rfl fun b _ => this b, Finset.sum_add_distrib, Finset.sum_ite_eq' Finset.univ, if_pos (Finset.mem_univ _)]

theorem sum_upto_zero (R : Fin 8 → ℝ) (j : Fin 8) (hj : j.val = 0) : R j = ∑ b : Fin 8, if b.val ≤ 0 then R b else 0 := by
  refine Eq.symm ?_
  rw [Finset.sum_eq_single j]
  · exact if_pos (by omega)
  · intro b _ hb
    exact if_neg fun h => hb (Fin.ext (by omega))
  · intro h; exact absurd (Finset.mem_univ j) h

section

variable {A : Args} (r : Reads (aQ m c) (aK m c) (aV m c) (aC m c) A)
include r

/-- What the queries' gradient's buffer holds after a grid point: what the key blocks so far have added. -/
theorem dqAt_is (x : Fin 512) (q : Fin 4096) : ∀ n, n < 16 →
    dqAt m c n (ix2 x q) = ((∑ b : Fin 8, (if b.val ≤ n % 8 then addR A (gOf (pt n)) x q b else 0) : ℝ) : EReal)
  | 0, _ => by
    have hp : (pt 0).val = 0 := rfl
    have hj : (jOf (grid0.coords (pt 0))).val = 0 := by rw [jOf_val, hp]
    refine (outDq_is (env_is m c (pt 0) r) _ 0 x q EReal.coe_zero.symm).trans (congrArg _ ?_)
    rw [if_pos hj, zero_add]
    exact sum_upto_zero (addR A (gOf (pt 0)) x q) _ hj
  | n + 1, hn => by
    have hp : (pt (n + 1)).val = n + 1 := Nat.mod_eq_of_lt hn
    have hp0 : (pt n).val = n := Nat.mod_eq_of_lt (by omega)
    have hj : (jOf (grid0.coords (pt (n + 1)))).val = (n + 1) % 8 := by rw [jOf_val, hp]
    refine (outDq_is (env_is m c (pt (n + 1)) r) _ _ x q (dqAt_is x q n (by omega))).trans (congrArg _ ?_)
    by_cases h0 : (n + 1) % 8 = 0
    · rw [if_pos (hj.trans h0), zero_add, h0]
      exact sum_upto_zero (addR A (gOf (pt (n + 1))) x q) _ (hj.trans h0)
    · have hg : gOf (pt n) = gOf (pt (n + 1)) := Fin.ext (by
        show (pt n).val / 8 = (pt (n + 1)).val / 8
        rw [hp, hp0]; omega)
      have hm : (n + 1) % 8 = n % 8 + 1 := by omega
      have hjj : jOf (grid0.coords (pt (n + 1))) = ⟨n % 8 + 1, by omega⟩ := Fin.ext (hj.trans hm)
      rw [if_neg (fun h => h0 (hj.symm.trans h)), hg, hm, hjj]
      exact sum_upto (addR A (gOf (pt (n + 1))) x q) (n % 8) (by omega)

theorem point7 (t : Fin cfg0.N) (ht : t.val % 8 = 7) (x : Fin 512) (q : Fin 4096) : dqAt m c t.val (ix2 x q) = dqRes (lanes (dqDot (scl (dsT (dpT (aV m c) (aC m c)) (ex (aQ m c) (aK m c) (topB (top (aQ m c) (aK m c)))))) (aK m c))) ((win0_7.blk t).view.emb (ix2 x q)) := by
  have h16 := lt16 t
  have he : (win0_7.blk t).view.emb (ix2 x q) = ix2 (⟨512 * (t.val / 8) + x.val, by omega⟩ : Fin 1024) q := by blk_ext [idx t]
  refine (dqAt_is m c r x q t.val h16).trans (Eq.symm ((congrArg _ he).trans ((res_dq r _ q).trans (congrArg _ ?_))))
  refine (lanes_eq t (fun q h d => A.dq h q d) q x _ rfl).trans ?_
  rw [pt_val, ht, ← addR_sum]
  exact Finset.sum_congr rfl fun b _ => (if_pos (by omega)).symm

theorem point8 (t : Fin cfg0.N) (k x : Fin 512) : outDk (envAt m c t) (jOf (grid0.coords t)) (ix2 k x) = lanes (dkDot (scl (dsT (dpT (aV m c) (aC m c)) (ex (aQ m c) (aK m c) (topB (top (aQ m c) (aK m c)))))) (aQ m c)) ((win0_8.blk t).view.emb (ix2 k x)) := by
  have h16 := lt16 t
  have hj := jOf_val t
  have he : (win0_8.blk t).view.emb (ix2 k x) = ix2 (⟨512 * (t.val % 8) + k.val, by omega⟩ : Fin 4096) (⟨512 * (t.val / 8) + x.val, by omega⟩ : Fin 1024) := by blk_ext [idx t]
  have hk : (⟨512 * (t.val % 8) + k.val, by omega⟩ : Fin 4096) = row (jOf (grid0.coords t)) k := Fin.ext (by
    show 512 * (t.val % 8) + k.val = 512 * (jOf (grid0.coords t)).val + k.val; rw [hj])
  rw [hk] at he
  refine (outDk_is (env_is m c t r) k x).trans (Eq.symm ((congrArg _ he).trans ((res_dk r _ _).trans (congrArg _ ?_))))
  exact lanes_eq t (fun k h d => A.dk h k d) _ x _ rfl

theorem point9 (t : Fin cfg0.N) (k : Fin 512) (y : Fin 256) : outDv (envAt m c t) (jOf (grid0.coords t)) (ix2 k y) = dvRes (dvDot (prob (ex (aQ m c) (aK m c) (topB (top (aQ m c) (aK m c))))) (aC m c)) ((win0_9.blk t).view.emb (ix2 k y)) := by
  have h16 := lt16 t
  have hj := jOf_val t
  have he : (win0_9.blk t).view.emb (ix2 k y) = ix2 (⟨512 * (t.val % 8) + k.val, by omega⟩ : Fin 4096) (⟨256 * (t.val / 8) + y.val, by omega⟩ : Fin 512) := by blk_ext [idx t]
  have hk : (⟨512 * (t.val % 8) + k.val, by omega⟩ : Fin 4096) = row (jOf (grid0.coords t)) k := Fin.ext (by
    show 512 * (t.val % 8) + k.val = 512 * (jOf (grid0.coords t)).val + k.val; rw [hj])
  rw [hk] at he
  refine (outDv_is (env_is m c t r) k y).trans (Eq.symm ((congrArg _ he).trans ((res_dv r _ _).trans (congrArg _ ?_))))
  have h1 : (⟨(256 * (t.val / 8) + y.val) / 64, by omega⟩ : Fin 8) = head (gOf t) ⟨y.val / 64, by omega⟩ := Fin.ext (by
    show (256 * (t.val / 8) + y.val) / 64 = 4 * (t.val / 8) + y.val / 64; omega)
  have h2 : (⟨(256 * (t.val / 8) + y.val) % 64, by omega⟩ : Fin 64) = ⟨y.val % 64, by omega⟩ := Fin.ext (by
    show (256 * (t.val / 8) + y.val) % 64 = y.val % 64; omega)
  exact congrArg₂ (fun h d => A.dv h (row (jOf (grid0.coords t)) k) d) h1 h2

/-- The queries' gradient: the reference's first result. -/
theorem final7 : (dats m 0 c).arrAt 7 cfg0.N = dqRes (lanes (dqDot (scl (dsT (dpT (aV m c) (aC m c)) (ex (aQ m c) (aK m c) (topB (top (aQ m c) (aK m c)))))) (aK m c))) := by
  refine (dats m 0 c).arrAt_eq_of_covers 7 _ (by decide +kernel) fun t hf y => ?_
  have hm := (flush0_7 t).mp hf
  blk_simp
  rw [after0_7]
  obtain ⟨x, q, rfl⟩ : ∃ (x : Fin 512) (q : Fin 4096), y = ix2 x q := ⟨y 0, y 1, eq_ix2 y⟩
  exact point7 m c r t hm x q

/-- The keys': its second. -/
theorem final8 : (dats m 0 c).arrAt 8 cfg0.N = lanes (dkDot (scl (dsT (dpT (aV m c) (aC m c)) (ex (aQ m c) (aK m c) (topB (top (aQ m c) (aK m c)))))) (aQ m c)) := by
  refine (dats m 0 c).arrAt_eq_of_covers 8 _ (by decide +kernel) fun t hf y => ?_
  blk_simp
  rw [after0_8]
  obtain ⟨k, x, rfl⟩ : ∃ (k x : Fin 512), y = ix2 k x := ⟨y 0, y 1, eq_ix2 y⟩
  exact point8 m c r t k x

/-- The values': its third. -/
theorem final9 : (dats m 0 c).arrAt 9 cfg0.N = dvRes (dvDot (prob (ex (aQ m c) (aK m c) (topB (top (aQ m c) (aK m c))))) (aC m c)) := by
  refine (dats m 0 c).arrAt_eq_of_covers 9 _ (by decide +kernel) fun t hf y => ?_
  blk_simp
  rw [after0_9]
  obtain ⟨k, x, rfl⟩ : ∃ (k : Fin 512) (x : Fin 256), y = ix2 k x := ⟨y 0, y 1, eq_ix2 y⟩
  exact point9 m c r t k x

end

end Cert.KernelIdeal.Hand

end
-- ==== Proof.Algebraic.lean ====
module

public import proofs.«01_k».proof.Defs
public import proofs.«01_k».proof.Proof.Gen.Pre_finite
public import proofs.«01_k».proof.Proof.Final

@[expose] public section

set_option maxRecDepth 16384

noncomputable section

/-! The version's three results are the reference's. -/

namespace Cert.KernelIdeal.Hand

open Cert.KernelIdeal Cert.KernelIdeal.Gen Cert.Model Cert.HostT Cert.KHost
open Idealize.ShloMosaic Idealize.SL.Sem

/-- A number whose absolute value is below `+∞` is real. -/
theorem real_of_lt {x : EReal} (h : FloatOps.cmpf (F := Ideal) (φ := .f32) CmpFPredicate.olt (FloatOps.absf (F := Ideal) (φ := .f32) x) (Ideal.ofBits .f32 0x7F800000#32) = 1#1) : ∃ r : ℝ, x = (r : EReal) := by
  rw [ofBits_top] at h
  induction x using EReal.rec with
  | coe r => exact ⟨r, rfl⟩
  | bot => exact absurd h (by simp [FloatOps.cmpf, FloatOps.absf, Ideal.cmp])
  | top => exact absurd h (by simp [FloatOps.cmpf, FloatOps.absf, Ideal.cmp])

/-- Finite arguments have a model. -/
theorem reads_of_pre (m : (ℓ : Loc nD τ sig) → Buf (Elt Ideal) ℓ) (h : Cert.Pre_KernelIdeal_finite m) (c : Dev nD) :
    ∃ A : Args, Reads (aQ m c) (aK m c) (aV m c) (aC m c) A := by
  obtain ⟨h0, h1, h2, h3⟩ := h c
  have e0 : ∀ i, ∃ r : ℝ, aQ m c i = (r : EReal) := fun i => real_of_lt (congrFun h0 i)
  have e1 : ∀ i, ∃ r : ℝ, aK m c i = (r : EReal) := fun i => real_of_lt (congrFun h1 i)
  have e2 : ∀ i, ∃ r : ℝ, aV m c i = (r : EReal) := fun i => real_of_lt (congrFun h2 i)
  have e3 : ∀ i, ∃ r : ℝ, aC m c i = (r : EReal) := fun i => real_of_lt (congrFun h3 i)
  choose f0 e0 using e0
  choose f1 e1 using e1
  choose f2 e2 using e2
  choose f3 e3 using e3
  exact reads_of (fun a h d => f0 (ix3 a h d)) (fun a h d => f1 (ix3 a h d)) (fun a h d => f2 (ix3 a h d)) (fun a h d => f3 (ix3 a h d))
    (fun a h d => e0 (ix3 a h d)) (fun a h d => e1 (ix3 a h d)) (fun a h d => e2 (ix3 a h d)) (fun a h d => e3 (ix3 a h d))

section

variable (m : (ℓ : Loc nD τ sig) → Buf (Elt Ideal) ℓ) (c : Dev nD)

/-- The three gradients. -/
def gradQ : FVec Ideal S1024x4096 .f32 := dqRes (lanes (dqDot (scl (dsT (dpT (aV m c) (aC m c)) (ex (aQ m c) (aK m c) (topB (top (aQ m c) (aK m c)))))) (aK m c)))
def gradK : FVec Ideal S4096x1024 .f32 := lanes (dkDot (scl (dsT (dpT (aV m c) (aC m c)) (ex (aQ m c) (aK m c) (topB (top (aQ m c) (aK m c)))))) (aQ m c))
def gradV : FVec Ideal S4096x512 .f32 := dvRes (dvDot (prob (ex (aQ m c) (aK m c) (topB (top (aQ m c) (aK m c))))) (aC m c))

end

/-- The version's run ends with them, and leaves its arguments alone. -/
theorem run_kernel (m : (ℓ : Loc nD τ sig) → Buf (Elt Ideal) ℓ) (g : Dev nD → PrngReg) (hpre : Cert.Pre_KernelIdeal_finite m) :
    θ_run defs (onTc (τ := τ) (main (F := Ideal))) ⟨m, fun _ => 0, g⟩ (fun r => ∀ c : Dev nD,
      r.2.mem ((c.tc : Thread nD τ).loc main_v66_0) = gradQ m c
      ∧ r.2.mem ((c.tc : Thread nD τ).loc main_v66_1) = gradK m c
      ∧ r.2.mem ((c.tc : Thread nD τ).loc main_v66_2) = gradV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    obtain ⟨A, hA⟩ := reads_of_pre m hpre c
    exact ⟨((h c).1 7).trans (final7 m c hA), ((h c).1 8).trans (final8 m c hA), ((h c).1 9).trans (final9 m c hA),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m g)

/-- On finite arguments, the version's gradients of the queries, the keys and the values are the reference's. -/
theorem algebraic : Cert.algebraic_KernelIdeal_ReferenceIdeal_pre_finite := fun m g m' g' hpre hagree => by
  refine ⟨gradQ m, gradK m, gradV m, run_kernel m g hpre, ?_⟩
  refine (θ_run Cert.ReferenceIdeal.defs _ _).mono (fun _ h c => ?_) (Cert.ReferenceIdeal.Value.run (F := Ideal) m' g')
  obtain ⟨h0, h1, h2, h3⟩ := h c
  obtain ⟨a0, a1, a2, a3⟩ := hagree c
  refine ⟨h0.trans ?_, h1.trans ?_, h2.trans ?_, h3⟩
  · rw [res67, a0, a1, a2, a3]; rfl
  · rw [res69, a0, a1, a2, a3]; rfl
  · rw [res70, a0, a1, a3]; rfl

end Cert.KernelIdeal.Hand

end
-- ==== Proof.FfnRun.lean ====
module

public import proofs.«01_k».proof.Proof.Gen.Kernel2Ideal.Frame
public import proofs.«01_k».proof.Proof.Gen.Kernel2Ideal.Skeleton
public import Idealize.ShloMosaic.Lib.Pipeline.ValueKit
public import Idealize.ShloMosaic.Lib.VecWindow
public import Idealize.ShloMosaic.Lib.WritesUnit

@[expose] public section

set_option maxRecDepth 16384

noncomputable section

/-! The body of the feed-forward network's backward call at a grid point, whatever the floats are: what it leaves in each
window's buffer and in the scratch that carries the input's gradient from one hidden shard to the next. -/

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueKit

variable {F : FTy → Type} [FloatOps F]

local notation "𝕄" => MT nD τ sig Unit (Elt F) ℕ (UR sig nD τ) ℕ

/-- The hidden shard of a grid point, -/
def jOf (i : grid0.Coords) : Fin 4 := ⟨(i 0).val, (i 0).isLt⟩
/-- and its block of 512 tokens. -/
def bOf (i : grid0.Coords) : Fin 8 := ⟨(i 1).val, (i 1).isLt⟩

/-- A token of a block, among all 4096. -/
def tok (b : Fin 8) (s : Fin 512) : Fin 4096 := ⟨512 * b.val + s.val, by have := b.isLt; have := s.isLt; omega⟩

/-- The rows of a block. -/
def rows (b : Fin 8) (d : Vec F S4096x1024 .f32) : Vec F S512x1024 .f32 := fun y => d (ix2 (tok b (y 0)) (y 1))

/-- What a weight's gradient holds when a grid point begins to add to it: zeros at a shard's first block of tokens. -/
def start (i : grid0.Coords) (x : Vec F S1x704x1024 .f32) : Vec F S1x704x1024 .f32 := if (bOf i).val = 0 then k0_pay4 else x

/-- The gate weight's gradient after a grid point, -/
def outWg (i : grid0.Coords) (x2 : Vec F S512x1024 .bf16) (x3 x4 : Vec F S1x512x704 .f32) (x5 : Vec F S512x1024 .bf16) (x8 : Vec F S1x704x1024 .bf16) (x9 : Vec F S1x704x1024 .f32) : Vec F S1x704x1024 .f32 :=
  k0_pay19 (k0_pay7 x2) (k0_pay8 x3) (k0_pay15 x3 x4 x5 x8) (k0_pay16 x3) (start i x9)

/-- the up weight's, -/
def outWu (i : grid0.Coords) (x2 : Vec F S512x1024 .bf16) (x3 : Vec F S1x512x704 .f32) (x5 : Vec F S512x1024 .bf16) (x8 : Vec F S1x704x1024 .bf16) (x10 : Vec F S1x704x1024 .f32) : Vec F S1x704x1024 .f32 :=
  k0_pay20 (k0_pay7 x2) (k0_pay12 x3) (k0_pay13 x5 x8) (start i x10)

/-- the down weight's, -/
def outWd (i : grid0.Coords) (x3 x4 : Vec F S1x512x704 .f32) (x5 : Vec F S512x1024 .bf16) (x11 : Vec F S1x704x1024 .f32) : Vec F S1x704x1024 .f32 :=
  k0_pay14 x3 x4 x5 (start i x11)

/-- the shard's part of the input's gradient, -/
def partZ (x3 x4 : Vec F S1x512x704 .f32) (x5 : Vec F S512x1024 .bf16) (x6 x7 x8 : Vec F S1x704x1024 .bf16) : Vec F S512x1024 .f32 :=
  k0_pay21 (k0_pay8 x3) (k0_pay12 x3) (k0_pay13 x5 x8) (k0_pay15 x3 x4 x5 x8) (k0_pay16 x3) x6 x7

/-- the input's gradient: written at the last shard, -/
def outZ (i : grid0.Coords) (z : Vec F S512x1024 .f32) (x13 : Vec F S4096x1024 .f32) (x12 : Vec F S512x1024 .f32) : Vec F S512x1024 .f32 :=
  if (jOf i).val = 3 then k0_pay3 z (rows (bOf i) x13) else x12

/-- and the block's rows of the carried sum: the first shard stores, the next two add, the last leaves them. -/
def carry (i : grid0.Coords) (z r : Vec F S512x1024 .f32) : Vec F S512x1024 .f32 :=
  if (jOf i).val = 0 then k0_pay1 z else if (jOf i).val = 3 then r else k0_pay2 z r

/-- The scratch after a grid point, from before it. -/
def Kept (i : grid0.Coords) (z : Vec F S512x1024 .f32) (x d : Vec F S4096x1024 .f32) : Prop :=
  rows (bOf i) d = carry i z (rows (bOf i) x) ∧ ∀ b, b ≠ bOf i → rows b d = rows b x

theorem first_iff : ∀ i : grid0.Coords, (Scalar.cmpi .ne (Scalar.extui (Scalar.cmpi .eq (BitVec.ofNat 32 (i 1).val) 0#32)) 0#32) = 1#1 ↔ (bOf i).val = 0 := by
  decide +kernel
theorem cond2_iff : ∀ i : grid0.Coords, k0_cond2 i = 1#1 ↔ (jOf i).val = 0 := by decide +kernel
theorem cond3_iff : ∀ i : grid0.Coords, k0_cond3 i = 1#1 ↔ (jOf i).val ≠ 0 ∧ (jOf i).val ≠ 3 := by decide +kernel
theorem cond4_iff : ∀ i : grid0.Coords, k0_cond4 i = 1#1 ↔ (jOf i).val = 3 := by decide +kernel
theorem off1_eq : ∀ i : grid0.Coords, k0_off1 i = ![512 * (bOf i).val, 0] := by decide +kernel
theorem off2_eq : ∀ i : grid0.Coords, k0_off2 i = ![512 * (bOf i).val, 0] := by decide +kernel
theorem off3_eq : ∀ i : grid0.Coords, k0_off3 i = ![512 * (bOf i).val, 0] := by decide +kernel

section Rows

variable {κ : Kind} {sp : Space} (v : View sig κ sp S4096x1024 .f32) (f : v.ty.Contents (Elt F))

/-- A load of a block's rows. -/
theorem load_rows {off : Fin 2 → ℕ} (inb : ∀ a, off a + S512x1024.size a ≤ S4096x1024.size a) (b : Fin 8) (h : off = ![512 * b.val, 0]) :
    v.readAt (Elt F) (Rect.unit (s := S4096x1024) off S512x1024.size inb).toLoadRect f = rows b (v.read (Elt F) f) := by
  subst h
  funext y
  refine congrArg (v.read (Elt F) f) (funext fun a => Fin.ext ?_)
  match a with
  | ⟨0, _⟩ => show 512 * b.val + 1 * (y 0).val = 512 * b.val + (y 0).val; omega
  | ⟨1, _⟩ => show 0 + 1 * (y 1).val = (y 1).val; omega

/-- A store of a block's rows leaves the payload in them, -/
theorem store_rows_same {off : Fin 2 → ℕ} (inb : ∀ a, off a + S512x1024.size a ≤ S4096x1024.size a) (b : Fin 8) (h : off = ![512 * b.val, 0]) (w : Vec F S512x1024 .f32) :
    rows b (v.read (Elt F) (v.writes (Elt F) f [⟨Rect.unit off S512x1024.size inb, w⟩])) = w := by
  funext y
  refine View.read_writes_cons_unit_of_mem v f inb w [] _ y h fun a => ?_
  match a with
  | ⟨0, _⟩ => rfl
  | ⟨1, _⟩ => show (y 1).val = 0 + (y 1).val; omega

/-- and the other blocks' rows as they were. -/
theorem store_rows_other {off : Fin 2 → ℕ} (inb : ∀ a, off a + S512x1024.size a ≤ S4096x1024.size a) (b b' : Fin 8) (hb : b' ≠ b) (h : off = ![512 * b.val, 0]) (w : Vec F S512x1024 .f32) :
    rows b' (v.read (Elt F) (v.writes (Elt F) f [⟨Rect.unit off S512x1024.size inb, w⟩])) = rows b' (v.read (Elt F) f) := by
  funext y
  refine (View.read_writes_cons_unit_of_not_mem v f inb w [] _ h 0 ?_).trans rfl
  have h1 : b'.val ≠ b.val := fun e => hb (Fin.ext e)
  have h2 : (y 0).val < 512 := (y 0).isLt
  show 512 * b'.val + (y 0).val < 512 * b.val ∨ 512 * b.val + 512 ≤ 512 * b'.val + (y 0).val
  omega

end Rows

/-- What is read of an accumulated block once the first block's zeros are stored. -/
theorem start_of {κ : Kind} {sp : Space} {v : View sig κ sp S1x704x1024 .f32} {f : v.ty.Contents (Elt F)} {x : Vec F S1x704x1024 .f32} (hf : v.read (Elt F) f = x)
    {c : Prop} [Decidable c] {i : grid0.Coords} (hc : c ↔ (bOf i).val = 0) {off : Fin 3 → ℕ} (inb : ∀ a, off a + S1x704x1024.size a ≤ S1x704x1024.size a) :
    v.read (Elt F) (if _h : c then v.writes (Elt F) f [⟨Rect.unit off S1x704x1024.size inb, k0_pay4 (F := F)⟩] else f) = start i x := by
  unfold start
  by_cases h : c
  · rw [dif_pos h, if_pos (hc.mp h)]
    exact View.read_writes_full v f inb _ []
  · rw [dif_neg h, if_neg (fun h' => h (hc.mpr h'))]
    exact hf

variable {i : grid0.Coords} {v2 x2 : Vec F S512x1024 .bf16} {v3 v4 x3 x4 : Vec F S1x512x704 .f32} {v5 x5 : Vec F S512x1024 .bf16} {v6 v7 v8 x6 x7 x8 : Vec F S1x704x1024 .bf16} {v9 x9 : Vec F S1x704x1024 .f32}

theorem wg_of (h2 : v2 = x2) (h3 : v3 = x3) (h4 : v4 = x4) (h5 : v5 = x5) (h8 : v8 = x8) (h9 : v9 = start i x9) :
    k0_pay19 (k0_pay7 v2) (k0_pay8 v3) (k0_pay15 v3 v4 v5 v8) (k0_pay16 v3) v9 = outWg i x2 x3 x4 x5 x8 x9 := by
  subst h2; subst h3; subst h4; subst h5; subst h8; subst h9; rfl
theorem wu_of (h2 : v2 = x2) (h3 : v3 = x3) (h5 : v5 = x5) (h8 : v8 = x8) (h9 : v9 = start i x9) :
    k0_pay20 (k0_pay7 v2) (k0_pay12 v3) (k0_pay13 v5 v8) v9 = outWu i x2 x3 x5 x8 x9 := by
  subst h2; subst h3; subst h5; subst h8; subst h9; rfl
theorem wd_of (h3 : v3 = x3) (h4 : v4 = x4) (h5 : v5 = x5) (h9 : v9 = start i x9) :
    k0_pay14 v3 v4 v5 v9 = outWd i x3 x4 x5 x9 := by
  subst h3; subst h4; subst h5; subst h9; rfl
theorem z_of (h3 : v3 = x3) (h4 : v4 = x4) (h5 : v5 = x5) (h6 : v6 = x6) (h7 : v7 = x7) (h8 : v8 = x8) :
    k0_pay21 (k0_pay8 v3) (k0_pay12 v3) (k0_pay13 v5 v8) (k0_pay15 v3 v4 v5 v8) (k0_pay16 v3) v6 v7 = partZ x3 x4 x5 x6 x7 x8 := by
  subst h3; subst h4; subst h5; subst h6; subst h7; subst h8; rfl

set_option maxHeartbeats 8000000 in
/-- The body at a grid point. -/
theorem run (c : Dev nD) (i : grid0.Coords) (arg2 : Memref sig .tc .vmem S512x1024 .bf16) (harg2 : arg2.IsWhole) (arg3 : Memref sig .tc .vmem S1x512x704 .f32) (harg3 : arg3.IsWhole) (arg4 : Memref sig .tc .vmem S1x512x704 .f32) (harg4 : arg4.IsWhole) (arg5 : Memref sig .tc .vmem S512x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .f32) (harg9 : arg9.IsWhole) (arg10 : Memref sig .tc .vmem S1x704x1024 .f32) (harg10 : arg10.IsWhole) (arg11 : Memref sig .tc .vmem S1x704x1024 .f32) (harg11 : arg11.IsWhole) (arg12 : Memref sig .tc .vmem S512x1024 .f32) (harg12 : arg12.IsWhole) (arg13 : Memref sig .tc .vmem S4096x1024 .f32) (harg13 : arg13.IsWhole) (x2 : Vec F S512x1024 .bf16) (x3 : Vec F S1x512x704 .f32) (x4 : Vec F S1x512x704 .f32) (x5 : Vec F S512x1024 .bf16) (x6 : Vec F S1x704x1024 .bf16) (x7 : Vec F S1x704x1024 .bf16) (x8 : Vec F S1x704x1024 .bf16) (x9 : Vec F S1x704x1024 .f32) (x10 : Vec F S1x704x1024 .f32) (x11 : Vec F S1x704x1024 .f32) (x12 : Vec F S512x1024 .f32) (x13 : Vec F S4096x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outWg i x2 x3 x4 x5 x8 x9) ∗ owns (c : Thread nD τ) arg10 fullShare (outWu i x2 x3 x5 x8 x10) ∗ owns (c : Thread nD τ) arg11 fullShare (outWd i x3 x4 x5 x11) ∗ owns (c : Thread nD τ) arg12 fullShare (outZ i (partZ x3 x4 x5 x6 x7 x8) x13 x12) ∗ (∃ d, ⌜Kept i (partZ x3 x4 x5 x6 x7 x8) x13 d⌝ ∗ owns (c : Thread nD τ) arg13 fullShare d)) -∗ K ⟨⟩))
      ⊢ wp frame (wpE (defs₀ (F := F)) Variants.none (c : Thread nD τ) none) E (cc0_ffn_bwd (F := F) i arg2 harg2 arg3 harg3 arg4 harg4 arg5 harg5 arg6 harg6 arg7 harg7 arg8 harg8 arg9 harg9 arg10 harg10 arg11 harg11 arg12 harg12 arg13 harg13) K := by
  simp only [cc0_ffn_bwd_eq_skeleton]; unfold cc0_ffn_bwd_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  rcases (show (jOf i).val = 0 ∨ ((jOf i).val ≠ 0 ∧ (jOf i).val ≠ 3) ∨ (jOf i).val = 3 by omega) with hj | hj | hj
  · have c2 : k0_cond2 i = 1#1 := (cond2_iff i).mpr hj
    have c3 : ¬ k0_cond3 i = 1#1 := fun h => ((cond3_iff i).mp h).1 hj
    have c4 : ¬ k0_cond4 i = 1#1 := fun h => by have := (cond4_iff i).mp h; omega
    sl_exec
    sl_step
    iapply Hk
    have h2 := (View.readAt_full arg2.view (harg2.unread x2) (off := ![0, 0]) inb_S512x1024_S512x1024_0_0).trans (harg2.read_unread x2)
    have h3 := (View.readAt_full arg3.view (harg3.unread x3) (off := ![0, 0, 0]) inb_S1x512x704_S1x512x704_0_0_0).trans (harg3.read_unread x3)
    have h4 := (View.readAt_full arg4.view (harg4.unread x4) (off := ![0, 0, 0]) inb_S1x512x704_S1x512x704_0_0_0).trans (harg4.read_unread x4)
    have h5 := (View.readAt_full arg5.view (harg5.unread x5) (off := ![0, 0]) inb_S512x1024_S512x1024_0_0).trans (harg5.read_unread x5)
    have h6 := (View.readAt_full arg6.view (harg6.unread x6) (off := ![0, 0, 0]) inb_S1x704x1024_S1x704x1024_0_0_0).trans (harg6.read_unread x6)
    have h7 := (View.readAt_full arg7.view (harg7.unread x7) (off := ![0, 0, 0]) inb_S1x704x1024_S1x704x1024_0_0_0).trans (harg7.read_unread x7)
    have h8 := (View.readAt_full arg8.view (harg8.unread x8) (off := ![0, 0, 0]) inb_S1x704x1024_S1x704x1024_0_0_0).trans (harg8.read_unread x8)
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro
      refine (View.read_writes_full _ _ _ _ _).trans ?_
      exact wg_of h2 h3 h4 h5 h8 ((View.readAt_full _ _ _).trans (start_of (harg9.read_unread x9) (first_iff i) _))
    isplitl [H10]
    · iexists _; isplitr; swap; · iexact H10
      ipureintro
      refine (View.read_writes_full _ _ _ _ _).trans ?_
      exact wu_of h2 h3 h5 h8 ((View.readAt_full _ _ _).trans (start_of (harg10.read_unread x10) (first_iff i) _))
    isplitl [H11]
    · iexists _; isplitr; swap; · iexact H11
      ipureintro
      refine (View.read_writes_full _ _ _ _ _).trans ?_
      exact wd_of h3 h4 h5 ((View.readAt_full _ _ _).trans (start_of (harg11.read_unread x11) (first_iff i) _))
    isplitl [H12]
    · iexists _; isplitr; swap; · iexact H12
      ipureintro
      exact (harg12.read_unread x12).trans (if_neg (by omega)).symm
    iexists _; isplitr; swap
    · iexists _; isplitr; swap; · iexact H13
      ipureintro; rfl
    ipureintro
    refine ⟨(store_rows_same _ _ _ (bOf i) (off1_eq i) _).trans ?_, fun b hb => (store_rows_other _ _ _ (bOf i) b hb (off1_eq i) _).trans (congrArg (rows _) (harg13.read_unread x13))⟩
    exact (congrArg k0_pay1 (z_of h3 h4 h5 h6 h7 h8)).trans (if_pos hj).symm
  · have c2 : ¬ k0_cond2 i = 1#1 := fun h => hj.1 ((cond2_iff i).mp h)
    have c3 : k0_cond3 i = 1#1 := (cond3_iff i).mpr hj
    have c4 : ¬ k0_cond4 i = 1#1 := fun h => hj.2 ((cond4_iff i).mp h)
    sl_exec
    sl_step
    iapply Hk
    have h2 := (View.readAt_full arg2.view (harg2.unread x2) (off := ![0, 0]) inb_S512x1024_S512x1024_0_0).trans (harg2.read_unread x2)
    have h3 := (View.readAt_full arg3.view (harg3.unread x3) (off := ![0, 0, 0]) inb_S1x512x704_S1x512x704_0_0_0).trans (harg3.read_unread x3)
    have h4 := (View.readAt_full arg4.view (harg4.unread x4) (off := ![0, 0, 0]) inb_S1x512x704_S1x512x704_0_0_0).trans (harg4.read_unread x4)
    have h5 := (View.readAt_full arg5.view (harg5.unread x5) (off := ![0, 0]) inb_S512x1024_S512x1024_0_0).trans (harg5.read_unread x5)
    have h6 := (View.readAt_full arg6.view (harg6.unread x6) (off := ![0, 0, 0]) inb_S1x704x1024_S1x704x1024_0_0_0).trans (harg6.read_unread x6)
    have h7 := (View.readAt_full arg7.view (harg7.unread x7) (off := ![0, 0, 0]) inb_S1x704x1024_S1x704x1024_0_0_0).trans (harg7.read_unread x7)
    have h8 := (View.readAt_full arg8.view (harg8.unread x8) (off := ![0, 0, 0]) inb_S1x704x1024_S1x704x1024_0_0_0).trans (harg8.read_unread x8)
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro
      refine (View.read_writes_full _ _ _ _ _).trans ?_
      exact wg_of h2 h3 h4 h5 h8 ((View.readAt_full _ _ _).trans (start_of (harg9.read_unread x9) (first_iff i) _))
    isplitl [H10]
    · iexists _; isplitr; swap; · iexact H10
      ipureintro
      refine (View.read_writes_full _ _ _ _ _).trans ?_
      exact wu_of h2 h3 h5 h8 ((View.readAt_full _ _ _).trans (start_of (harg10.read_unread x10) (first_iff i) _))
    isplitl [H11]
    · iexists _; isplitr; swap; · iexact H11
      ipureintro
      refine (View.read_writes_full _ _ _ _ _).trans ?_
      exact wd_of h3 h4 h5 ((View.readAt_full _ _ _).trans (start_of (harg11.read_unread x11) (first_iff i) _))
    isplitl [H12]
    · iexists _; isplitr; swap; · iexact H12
      ipureintro
      exact (harg12.read_unread x12).trans (if_neg (by omega)).symm
    iexists _; isplitr; swap
    · iexists _; isplitr; swap; · iexact H13
      ipureintro; rfl
    ipureintro
    refine ⟨(store_rows_same _ _ _ (bOf i) (off2_eq i) _).trans ?_, fun b hb => (store_rows_other _ _ _ (bOf i) b hb (off2_eq i) _).trans (congrArg (rows _) (harg13.read_unread x13))⟩
    exact (congrArg₂ k0_pay2 (z_of h3 h4 h5 h6 h7 h8) ((load_rows _ _ _ (bOf i) (off2_eq i)).trans (congrArg (rows _) (harg13.read_unread x13)))).trans ((if_neg hj.1).trans (if_neg hj.2)).symm
  · have c2 : ¬ k0_cond2 i = 1#1 := fun h => by have := (cond2_iff i).mp h; omega
    have c3 : ¬ k0_cond3 i = 1#1 := fun h => ((cond3_iff i).mp h).2 hj
    have c4 : k0_cond4 i = 1#1 := (cond4_iff i).mpr hj
    sl_exec
    sl_step
    iapply Hk
    have h2 := (View.readAt_full arg2.view (harg2.unread x2) (off := ![0, 0]) inb_S512x1024_S512x1024_0_0).trans (harg2.read_unread x2)
    have h3 := (View.readAt_full arg3.view (harg3.unread x3) (off := ![0, 0, 0]) inb_S1x512x704_S1x512x704_0_0_0).trans (harg3.read_unread x3)
    have h4 := (View.readAt_full arg4.view (harg4.unread x4) (off := ![0, 0, 0]) inb_S1x512x704_S1x512x704_0_0_0).trans (harg4.read_unread x4)
    have h5 := (View.readAt_full arg5.view (harg5.unread x5) (off := ![0, 0]) inb_S512x1024_S512x1024_0_0).trans (harg5.read_unread x5)
    have h6 := (View.readAt_full arg6.view (harg6.unread x6) (off := ![0, 0, 0]) inb_S1x704x1024_S1x704x1024_0_0_0).trans (harg6.read_unread x6)
    have h7 := (View.readAt_full arg7.view (harg7.unread x7) (off := ![0, 0, 0]) inb_S1x704x1024_S1x704x1024_0_0_0).trans (harg7.read_unread x7)
    have h8 := (View.readAt_full arg8.view (harg8.unread x8) (off := ![0, 0, 0]) inb_S1x704x1024_S1x704x1024_0_0_0).trans (harg8.read_unread x8)
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro
      refine (View.read_writes_full _ _ _ _ _).trans ?_
      exact wg_of h2 h3 h4 h5 h8 ((View.readAt_full _ _ _).trans (start_of (harg9.read_unread x9) (first_iff i) _))
    isplitl [H10]
    · iexists _; isplitr; swap; · iexact H10
      ipureintro
      refine (View.read_writes_full _ _ _ _ _).trans ?_
      exact wu_of h2 h3 h5 h8 ((View.readAt_full _ _ _).trans (start_of (harg10.read_unread x10) (first_iff i) _))
    isplitl [H11]
    · iexists _; isplitr; swap; · iexact H11
      ipureintro
      refine (View.read_writes_full _ _ _ _ _).trans ?_
      exact wd_of h3 h4 h5 ((View.readAt_full _ _ _).trans (start_of (harg11.read_unread x11) (first_iff i) _))
    isplitl [H12]
    · iexists _; isplitr; swap; · iexact H12
      ipureintro
      exact (View.read_writes_full _ _ _ _ _).trans ((congrArg₂ k0_pay3 (z_of h3 h4 h5 h6 h7 h8) ((load_rows _ _ _ (bOf i) (off3_eq i)).trans (congrArg (rows (bOf i)) (harg13.read_unread x13)))).trans (if_pos hj).symm)
    iexists _; isplitr; swap
    · iexists _; isplitr; swap; · iexact H13
      ipureintro; rfl
    ipureintro
    refine ⟨(congrArg (rows _) (harg13.read_unread x13)).trans ((if_neg (by omega)).trans (if_pos hj)).symm, fun b hb => congrArg (rows _) (harg13.read_unread x13)⟩

end Cert.Kernel2Ideal.Hand

end
-- ==== Proof.FfnLaunch.lean ====
module

public import proofs.«01_k».proof.Proof.FfnRun
public import Idealize.ShloMosaic.Lib.Claim

@[expose] public section

set_option maxRecDepth 16384

noncomputable section

/-! The launch of the feed-forward network's backward call over the 32 grid points: four hidden shards, eight blocks of tokens
each. What every buffer holds after every point, the carried sum's invariant, the run and the frame. -/

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueKit

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point of a number. -/
def pt (n : ℕ) : Fin cfg0.N := ⟨n % 32, lt_of_lt_of_eq (Nat.mod_lt _ (by decide)) (show 32 = cfg0.N from N_0.symm)⟩

theorem pt_val (t : Fin cfg0.N) : pt t.val = t :=
  Fin.ext (Nat.mod_eq_of_lt (lt_of_lt_of_eq t.isLt (show cfg0.N = 32 from N_0)))

theorem jOf_val : ∀ t : Fin cfg0.N, (jOf (grid0.coords t)).val = t.val / 8 :=
  (by decide +kernel : ∀ t : Fin grid0.N, (jOf (grid0.coords t)).val = t.val / 8)
theorem bOf_val : ∀ t : Fin cfg0.N, (bOf (grid0.coords t)).val = t.val % 8 :=
  (by decide +kernel : ∀ t : Fin grid0.N, (bOf (grid0.coords t)).val = t.val % 8)
theorem flush0_10 : ∀ t : Fin cfg0.N, (cfg0.win 10).flush t = true ↔ 24 ≤ t.val :=
  (by decide +kernel : ∀ t : Fin grid0.N, win0_10.flush t = true ↔ 24 ≤ t.val)

/-- The gate weight's gradient, from what the buffer held. -/
def nextWg (c : Dev nD) (t : Fin cfg0.N) (x : Vec F S1x704x1024 .f32) : Vec F S1x704x1024 .f32 :=
  outWg (grid0.coords t) (iblk m c 0 t) (iblk m c 1 t) (iblk m c 2 t) (iblk m c 3 t) (iblk m c 6 t) x
/-- The up weight's gradient, from what the buffer held. -/
def nextWu (c : Dev nD) (t : Fin cfg0.N) (x : Vec F S1x704x1024 .f32) : Vec F S1x704x1024 .f32 :=
  outWu (grid0.coords t) (iblk m c 0 t) (iblk m c 1 t) (iblk m c 3 t) (iblk m c 6 t) x
/-- The down weight's gradient, from what the buffer held. -/
def nextWd (c : Dev nD) (t : Fin cfg0.N) (x : Vec F S1x704x1024 .f32) : Vec F S1x704x1024 .f32 :=
  outWd (grid0.coords t) (iblk m c 1 t) (iblk m c 2 t) (iblk m c 3 t) x
/-- The part of the input's gradient a grid point computes. -/
def partAt (c : Dev nD) (t : Fin cfg0.N) : Vec F S512x1024 .f32 :=
  partZ (iblk m c 1 t) (iblk m c 2 t) (iblk m c 3 t) (iblk m c 4 t) (iblk m c 5 t) (iblk m c 6 t)

/-- What an accumulated buffer holds after a grid point. -/
def accum (next : Fin cfg0.N → Vec F S1x704x1024 .f32 → Vec F S1x704x1024 .f32) : ℕ → Vec F S1x704x1024 .f32
  | 0 => next (pt 0) k0_pay4
  | n + 1 => next (pt (n + 1)) (accum next n)

/-- A block's rows of the carried sum after a shard's point. -/
def accAt (c : Dev nD) (b : Fin 8) : ℕ → Vec F S512x1024 .f32
  | 0 => carry (grid0.coords (pt b.val)) (partAt m c (pt b.val)) (partAt m c (pt b.val))
  | j + 1 => carry (grid0.coords (pt (8 * (j + 1) + b.val))) (partAt m c (pt (8 * (j + 1) + b.val))) (accAt c b j)

/-- Before a grid point, every block's rows hold what the latest point of that block left. -/
def Inv (c : Dev nD) (t : ℕ) (d : Vec F S4096x1024 .f32) : Prop :=
  ∀ (b : Fin 8) (j : ℕ), 8 * j + b.val < t → t ≤ 8 * (j + 1) + b.val → rows b d = accAt m c b j

abbrev ms0_0 (t : Fin cfg0.N) : Memref sig .tc .vmem S512x1024 .bf16 := win0_0.stage (cfg0.slots t 0)
abbrev ms0_1 (t : Fin cfg0.N) : Memref sig .tc .vmem S1x512x704 .f32 := win0_1.stage (cfg0.slots t 1)
abbrev ms0_2 (t : Fin cfg0.N) : Memref sig .tc .vmem S1x512x704 .f32 := win0_2.stage (cfg0.slots t 2)
abbrev ms0_3 (t : Fin cfg0.N) : Memref sig .tc .vmem S512x1024 .bf16 := win0_3.stage (cfg0.slots t 3)
abbrev ms0_4 (t : Fin cfg0.N) : Memref sig .tc .vmem S1x704x1024 .bf16 := win0_4.stage (cfg0.slots t 4)
abbrev ms0_5 (t : Fin cfg0.N) : Memref sig .tc .vmem S1x704x1024 .bf16 := win0_5.stage (cfg0.slots t 5)
abbrev ms0_6 (t : Fin cfg0.N) : Memref sig .tc .vmem S1x704x1024 .bf16 := win0_6.stage (cfg0.slots t 6)
abbrev ms0_7 (t : Fin cfg0.N) : Memref sig .tc .vmem S1x704x1024 .f32 := win0_7.stage (cfg0.slots t 7)
abbrev ms0_8 (t : Fin cfg0.N) : Memref sig .tc .vmem S1x704x1024 .f32 := win0_8.stage (cfg0.slots t 8)
abbrev ms0_9 (t : Fin cfg0.N) : Memref sig .tc .vmem S1x704x1024 .f32 := win0_9.stage (cfg0.slots t 9)
abbrev ms0_10 (t : Fin cfg0.N) : Memref sig .tc .vmem S512x1024 .f32 := win0_10.stage (cfg0.slots t 10)
abbrev scM0_0 : Memref sig .tc .vmem S4096x1024 .f32 := Memref.whole cc0_scratch0

/-- The proof data: the arrays as the launch finds them, the inputs' buffers at their blocks, the results' buffers at the
sums, the scratch at the carried sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => accum (nextWg m c) t.val
    | ⟨8, _⟩ => accum (nextWu m c) t.val
    | ⟨9, _⟩ => accum (nextWd m c) t.val
    | ⟨10, _⟩ => k0_pay3 (partAt m c t) (accAt m c (bOf (grid0.coords t)) 2)
  Φ t := iprop((∃ d, ⌜Inv m c t.val d⌝ ∗ owns (c : Thread nD τ) scM0_0 fullShare d) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = accum (nextWg m c) t.val := by dsimp only [dats]
theorem after0_8 (c : Dev nD) (t : Fin cfg0.N) : (dats m 0 c).after 8 t = accum (nextWu m c) t.val := by dsimp only [dats]
theorem after0_9 (c : Dev nD) (t : Fin cfg0.N) : (dats m 0 c).after 9 t = accum (nextWd m c) t.val := by dsimp only [dats]
theorem after0_10 (c : Dev nD) (t : Fin cfg0.N) : (dats m 0 c).after 10 t = k0_pay3 (partAt m c t) (accAt m c (bOf (grid0.coords t)) 2) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem start_zero {t : Fin cfg0.N} (h : t.val % 8 = 0) (f g : Vec F S1x704x1024 .f32) : start (grid0.coords t) f = start (grid0.coords t) g := by
  unfold start; rw [if_pos ((bOf_val t).trans h), if_pos ((bOf_val t).trans h)]

/-- From what the buffer held, a point's step gives what it holds next. -/
theorem accum_step {next : Fin cfg0.N → Vec F S1x704x1024 .f32 → Vec F S1x704x1024 .f32} (hz : ∀ t : Fin cfg0.N, t.val % 8 = 0 → ∀ f g, next t f = next t g)
    (t : Fin cfg0.N) (x : Vec F S1x704x1024 .f32) (hx : t.val % 8 ≠ 0 → x = accum next (t.val - 1)) : next t x = accum next t.val := by
  obtain ⟨n, hn⟩ : ∃ n, n = t.val := ⟨_, rfl⟩
  rw [← hn]
  have ht : t = pt n := by rw [hn, pt_val]
  cases n with
  | zero => rw [ht]; exact hz _ (by rw [← ht, ← hn]) _ _
  | succ n =>
    by_cases h : t.val % 8 = 0
    · exact (hz t h _ (accum next n)).trans (by rw [ht]; rfl)
    · rw [hx h, show t.val - 1 = n by omega, ht]; rfl

theorem not_flushed {w : Fin cfg0.W} (hw : ∀ t : Fin cfg0.N, (cfg0.win w).flush t = true ↔ t.val % 8 = 7) (t : Fin cfg0.N) (h : t.val % 8 ≠ 0) :
    (cfg0.win w).flush ⟨t.val - 1, Nat.lt_of_le_of_lt (Nat.sub_le _ _) t.isLt⟩ = false := by
  rw [Bool.eq_false_iff]
  intro hf
  have := (hw _).mp hf
  dsimp only at this
  omega

theorem nextWg_zero (c : Dev nD) (t : Fin cfg0.N) (h : t.val % 8 = 0) (f g : Vec F S1x704x1024 .f32) : nextWg m c t f = nextWg m c t g := by
  unfold nextWg outWg; rw [start_zero h f g]
theorem kept_7 (c : Dev nD) (t : Fin cfg0.N) (d) (h : t.val % 8 ≠ 0) : (dats m 0 c).before 7 t d = accum (nextWg m c) (t.val - 1) := by
  have h0 : t.val ≠ 0 := fun h0 => h (by rw [h0])
  rw [(dats m 0 c).before_out_kept 7 rfl t h0 (not_flushed flush0_7 t h) (fun _ => rfl) (fun _ _ => rfl) d, after0_7]
theorem step_7 (c : Dev nD) (t : Fin cfg0.N) (d) : nextWg m c t ((dats m 0 c).before 7 t d) = accum (nextWg m c) t.val :=
  accum_step (nextWg_zero m c) t _ (kept_7 m c t d)
theorem nextWu_zero (c : Dev nD) (t : Fin cfg0.N) (h : t.val % 8 = 0) (f g : Vec F S1x704x1024 .f32) : nextWu m c t f = nextWu m c t g := by
  unfold nextWu outWu; rw [start_zero h f g]
theorem kept_8 (c : Dev nD) (t : Fin cfg0.N) (d) (h : t.val % 8 ≠ 0) : (dats m 0 c).before 8 t d = accum (nextWu m c) (t.val - 1) := by
  have h0 : t.val ≠ 0 := fun h0 => h (by rw [h0])
  rw [(dats m 0 c).before_out_kept 8 rfl t h0 (not_flushed flush0_8 t h) (fun _ => rfl) (fun _ _ => rfl) d, after0_8]
theorem step_8 (c : Dev nD) (t : Fin cfg0.N) (d) : nextWu m c t ((dats m 0 c).before 8 t d) = accum (nextWu m c) t.val :=
  accum_step (nextWu_zero m c) t _ (kept_8 m c t d)
theorem nextWd_zero (c : Dev nD) (t : Fin cfg0.N) (h : t.val % 8 = 0) (f g : Vec F S1x704x1024 .f32) : nextWd m c t f = nextWd m c t g := by
  unfold nextWd outWd; rw [start_zero h f g]
theorem kept_9 (c : Dev nD) (t : Fin cfg0.N) (d) (h : t.val % 8 ≠ 0) : (dats m 0 c).before 9 t d = accum (nextWd m c) (t.val - 1) := by
  have h0 : t.val ≠ 0 := fun h0 => h (by rw [h0])
  rw [(dats m 0 c).before_out_kept 9 rfl t h0 (not_flushed flush0_9 t h) (fun _ => rfl) (fun _ _ => rfl) d, after0_9]
theorem step_9 (c : Dev nD) (t : Fin cfg0.N) (d) : nextWd m c t ((dats m 0 c).before 9 t d) = accum (nextWd m c) t.val :=
  accum_step (nextWd_zero m c) t _ (kept_9 m c t d)

/-- A point's step keeps the carried sum's invariant. -/
theorem inv_step (c : Dev nD) (t : Fin cfg0.N) {x d : Vec F S4096x1024 .f32} (hx : Inv m c t.val x) (hd : Kept (grid0.coords t) (partAt m c t) x d) :
    Inv m c (t.val + 1) d := by
  intro b j h1 h2
  have hN : t.val < 32 := lt_of_lt_of_eq t.isLt (show cfg0.N = 32 from N_0)
  have hb := bOf_val t
  have hj := jOf_val t
  have hbl := b.isLt
  by_cases e : b = bOf (grid0.coords t)
  · have ev : b.val = t.val % 8 := by rw [e, hb]
    have et : t.val = 8 * j + b.val := by omega
    have hr := hd.1
    rw [← e] at hr
    rw [hr]
    have ht : t = pt (8 * j + b.val) := by rw [← et, pt_val]
    cases j with
    | zero =>
      have hz : (jOf (grid0.coords t)).val = 0 := by omega
      have : ∀ r r' : Vec F S512x1024 .f32, carry (grid0.coords t) (partAt m c t) r = carry (grid0.coords t) (partAt m c t) r' := fun r r' => by
        unfold carry; rw [if_pos hz, if_pos hz]
      refine (this _ (partAt m c t)).trans ?_
      have ht0 : t = pt b.val := by rw [ht]; congr 1; omega
      rw [ht0]; rfl
    | succ j =>
      rw [hx b j (by omega) (by omega), ht]; rfl
  · have ev : b.val ≠ t.val % 8 := fun h => e (Fin.ext (h.trans hb.symm))
    rw [hd.2 b e]
    exact hx b j (by omega) (by omega)

/-- The scratch, owned at some contents, and the generator's register. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (dats m 0 c).leavesExact 10 t)

/-- The input's gradient's buffer: at the last shard the finished sum, before it untouched. -/
theorem leaves10 (c : Dev nD) (t : Fin cfg0.N) (x : Vec F S4096x1024 .f32) (hx : Inv m c t.val x) (d) :
    owns (c : Thread nD τ) (ms0_10 t) fullShare (outZ (grid0.coords t) (partAt m c t) (x) ((dats m 0 c).before 10 t d)) ⊢ ((dats m 0 c).leavesExact 10 t : sProp 𝕄) := by
  have hN : t.val < 32 := lt_of_lt_of_eq t.isLt (show cfg0.N = 32 from N_0)
  have hj := jOf_val t
  have hb := bOf_val t
  by_cases h : (jOf (grid0.coords t)).val = 3
  · have hi : cfg0.idle 10 (cfg0.grid.coords t) = false := by
      show (!(k0_cond4 (grid0.coords t) == 1#1)) = false
      rw [(cond4_iff _).mpr h]; rfl
    have e : outZ (grid0.coords t) (partAt m c t) x ((dats m 0 c).before 10 t d) = (dats m 0 c).after 10 t := by
      rw [after0_10]; unfold outZ
      rw [if_pos h, hx (bOf (grid0.coords t)) 2 (by omega) (by omega)]
    unfold Dat.leavesExact
    rw [hi, e]
  · have hi : cfg0.idle 10 (cfg0.grid.coords t) = true := by
      show (!(k0_cond4 (grid0.coords t) == 1#1)) = true
      rw [Bool.not_eq_true', beq_eq_false_iff_ne]
      exact fun h' => h ((cond4_iff _).mp h')
    have hf : (cfg0.win 10).flush t = false := by
      rw [Bool.eq_false_iff]
      intro hf
      have := (flush0_10 t).mp hf
      omega
    have e : outZ (grid0.coords t) (partAt m c t) x ((dats m 0 c).before 10 t d) = (dats m 0 c).before 10 t d := if_neg h
    unfold Dat.leavesExact
    rw [hi, hf, e]
    iintro H
    iexists d
    iexact H

set_option maxHeartbeats 2400000 in
/-- The body at any grid point. -/
theorem sound_body (c : Dev nD) (t : Fin cfg0.N) :
    bodyPre m c t ⊢ wp frame (wpE (defs₀ (F := F)) Variants.none c none) Set.univ (bodyAt0 (F := F) t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9]
  rw [show (dats m 0 c).Φ t.castSucc = iprop((∃ d, ⌜Inv m c t.val d⌝ ∗ owns (c : Thread nD τ) scM0_0 fullShare d) ∗ (∃ r, prngReg c r)) from rfl,
    show (dats m 0 c).Φ t.succ = iprop((∃ d, ⌜Inv m c (t.val + 1) d⌝ ∗ owns (c : Thread nD τ) scM0_0 fullShare d) ∗ (∃ r, prngReg c r)) from rfl]
  iintro ⟨⟨⟨%x, %hx, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [← step_7 m c t d7, ← step_8 m c t d8, ← step_9 m c t d9]
  iapply (run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ _ x Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  iintro ⟨H0, H1, H2, H3, H4, H5, H6, H7, H8, H9, H10, ⟨%d, %hd, HS0⟩⟩
  isplitl [HS0 Hg]
  · isplitl [HS0]
    · iexists d
      isplitr
      · ipureintro; exact inv_step m c t hx hd
      iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (leaves10 m c t x hx d10)
  iexact H10

theorem defs₀_row (t : Fin cfg0.N) :
    defs₀ (F := F) .tc cfg0.body (cfg0.bodyArgs t (cfg0.slots t)) = bodyAt0 t := by
  unfold defs₀; rw [Defs.onTc_tc]

/-- The body's obligation, at every grid point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- Before the first point nothing is asked of the scratch, -/
theorem phi_in (c : Dev nD) : Pipeline.ΦA spec0 c ⊢ ((dats m 0 c).Φ 0 : sProp 𝕄) := by
  rw [PhiA0_eq, show (dats m 0 c).Φ 0 = iprop((∃ d, ⌜Inv m c 0 d⌝ ∗ owns (c : Thread nD τ) scM0_0 fullShare d) ∗ (∃ r, prngReg c r)) from rfl]
  iintro ⟨⟨%d, H⟩, Hg⟩
  isplitl [H]
  · iexists d
    isplitr
    · ipureintro; exact fun b j h => absurd h (Nat.not_lt_zero _)
    iexact H
  iexact Hg

/-- and after the last it is left at whatever it holds. -/
theorem phi_out (c : Dev nD) : ((dats m 0 c).Φ (Fin.last cfg0.N) : sProp 𝕄) ⊢ Pipeline.ΦA spec0 c := by
  rw [PhiA0_eq, show (dats m 0 c).Φ (Fin.last cfg0.N) = iprop((∃ d, ⌜Inv m c cfg0.N d⌝ ∗ owns (c : Thread nD τ) scM0_0 fullShare d) ∗ (∃ r, prngReg c r)) from rfl]
  iintro ⟨⟨%d, %hd, H⟩, Hg⟩
  isplitl [H]
  · iexists d
    iexact H
  iexact Hg

set_option backward.isDefEq.respectTransparency.types false in
/-- The run: every execution ends with the results' arrays as the pipeline wrote them, everything else as the launch found
it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel2Ideal.Hand

end
-- ==== Proof.FfnModel.lean ====
module

public import proofs.«01_k».proof.Proof.Consts

@[expose] public section

noncomputable section

/-! The gradient of the feed-forward network, as sums of extended reals. -/

namespace Cert.Ffn

open Idealize.ShloMosaic

/-- Row `r` of the block `b` of 512 tokens, among 4096. -/
def tk (b : Fin 8) (r : Fin 512) : Fin 4096 := ⟨512 * b.val + r.val, by omega⟩
/-- Hidden unit `f` of the shard `j`, among 2816. -/
def hid (j : Fin 4) (f : Fin 704) : Fin 2816 := ⟨j.val * 704 + f.val, by omega⟩

/-- The tokens, the three weights and the incoming gradient. -/
structure Net where
  z : Fin 4096 → Fin 1024 → EReal
  wg : Fin 1024 → Fin 2816 → EReal
  wu : Fin 1024 → Fin 2816 → EReal
  wd : Fin 2816 → Fin 1024 → EReal
  ct : Fin 4096 → Fin 1024 → EReal

namespace Net

variable (N : Net)

/-- The gate's logits, -/
def g (s : Fin 4096) (f : Fin 2816) : EReal := ∑ d, N.z s d * N.wg d f
/-- the other factor, -/
def u (s : Fin 4096) (f : Fin 2816) : EReal := ∑ d, N.z s d * N.wu d f
/-- the gradient of their product, -/
def y (s : Fin 4096) (f : Fin 2816) : EReal := ∑ d, N.ct s d * N.wd f d
/-- the gate, -/
def act (s : Fin 4096) (f : Fin 2816) : EReal := N.g s f * Ideal.logistic (N.g s f)
/-- the gradient of the logits, -/
def dg (s : Fin 4096) (f : Fin 2816) : EReal :=
  N.y s f * N.u s f * Ideal.logistic (N.g s f) * (1 + N.g s f * (1 - Ideal.logistic (N.g s f)))
/-- and of the other factor. -/
def du (s : Fin 4096) (f : Fin 2816) : EReal := N.y s f * N.act s f

/-- The gradients of the weights -/
def dwg (f : Fin 2816) (d : Fin 1024) : EReal := ∑ s, N.dg s f * N.z s d
def dwu (f : Fin 2816) (d : Fin 1024) : EReal := ∑ s, N.du s f * N.z s d
def dwd (f : Fin 2816) (d : Fin 1024) : EReal := ∑ s, N.act s f * N.u s f * N.ct s d
/-- and of the tokens. -/
def dz (s : Fin 4096) (d : Fin 1024) : EReal := (∑ f, N.dg s f * N.wg d f) + ∑ f, N.du s f * N.wu d f

/-- All but the gate's weight are real. -/
structure Real : Prop where
  z : ∀ s d, ∃ r : ℝ, N.z s d = (r : EReal)
  wu : ∀ d f, ∃ r : ℝ, N.wu d f = (r : EReal)
  wd : ∀ f d, ∃ r : ℝ, N.wd f d = (r : EReal)
  ct : ∀ s d, ∃ r : ℝ, N.ct s d = (r : EReal)

end Net

/-- A sum of products of reals is real. -/
theorem dot_real {ι : Type} [Fintype ι] {a b : ι → EReal} (ha : ∀ i, ∃ r : ℝ, a i = (r : EReal)) (hb : ∀ i, ∃ r : ℝ, b i = (r : EReal)) :
    ∃ r : ℝ, ∑ i, a i * b i = (r : EReal) := by
  choose f hf using ha
  choose g hg using hb
  exact ⟨_, Cert.Model.sum_eq_coe (fun i => f i * g i) fun i => by rw [hf, hg, EReal.coe_mul]⟩

/-- The derivative of `x · logistic x`, once by parts and once factored: the same, whatever `x` is, if what it is taken of is real. -/
theorem silu (c : ℝ) (x : EReal) :
    (c : EReal) * Ideal.logistic x + x * c * (Ideal.logistic x * (1 - Ideal.logistic x))
      = c * Ideal.logistic x * (1 + x * (1 - Ideal.logistic x)) := by
  have h11 : (1 : EReal) - 1 = 0 := by rw [← EReal.coe_one, ← EReal.coe_sub, sub_self, EReal.coe_zero]
  induction x using EReal.rec with
  | coe x =>
    rw [Ideal.logistic_coe, ← EReal.coe_one]
    simp only [← EReal.coe_sub, ← EReal.coe_mul, ← EReal.coe_add]
    congr 1; ring
  | bot => rw [Ideal.logistic_bot]; simp only [mul_zero, zero_mul, add_zero]
  | top => rw [Ideal.logistic_top, h11]; simp only [mul_zero, mul_one, add_zero]

/-- The gradient of the logits, by parts. -/
theorem Net.dg_parts (N : Net) (h : N.Real) (s : Fin 4096) (f : Fin 2816) :
    N.y s f * N.u s f * Ideal.logistic (N.g s f)
      + N.g s f * (N.y s f * N.u s f) * (Ideal.logistic (N.g s f) * (1 - Ideal.logistic (N.g s f))) = N.dg s f := by
  obtain ⟨a, ha⟩ := dot_real (a := N.ct s) (b := N.wd f) (h.ct s) (h.wd f)
  obtain ⟨b, hb⟩ := dot_real (a := N.z s) (b := fun d => N.wu d f) (h.z s) fun d => h.wu d f
  have hy : N.y s f = (a : EReal) := ha
  have hu : N.u s f = (b : EReal) := hb
  unfold Net.dg
  rw [hy, hu, ← EReal.coe_mul]
  exact silu (a * b) (N.g s f)

/-- Sums over the tokens by blocks, -/
theorem sum_tk (F : Fin 4096 → EReal) : ∑ b, ∑ r, F (tk b r) = ∑ s, F s := by
  rw [← Fintype.sum_prod_type' (f := fun b r => F (tk b r))]
  exact Fintype.sum_equiv (finProdFinEquiv (m := 8) (n := 512)) _ _ fun x => congrArg F (Fin.ext (by
    show 512 * x.1.val + x.2.val = x.2.val + 512 * x.1.val; omega))

/-- and over the hidden units by shards. -/
theorem sum_hid (F : Fin 2816 → EReal) : ∑ j, ∑ f, F (hid j f) = ∑ f, F f := by
  rw [← Fintype.sum_prod_type' (f := fun j f => F (hid j f))]
  exact Fintype.sum_equiv (finProdFinEquiv (m := 4) (n := 704)) _ _ fun x => congrArg F (Fin.ext (by
    show x.1.val * 704 + x.2.val = x.2.val + 704 * x.1.val; omega))

/-- A sum over the blocks up to one is the sum up to the one before, and its own. -/
theorem sum_upto (R : Fin 8 → EReal) (n : ℕ) (h : n + 1 < 8) :
    (∑ b : Fin 8, if b.val ≤ n then R b else 0) + R ⟨n + 1, h⟩ = ∑ b : Fin 8, if b.val ≤ n + 1 then R b else 0 := by
  have : ∀ b : Fin 8, (if b.val ≤ n + 1 then R b else 0) = (if b.val ≤ n then R b else 0) + (if b = ⟨n + 1, h⟩ then R b else 0) := fun b => by
    by_cases h1 : b.val ≤ n
    · rw [if_pos h1, if_pos (by omega), if_neg (fun e => by rw [e] at h1; dsimp only at h1; omega), add_zero]
    · by_cases h2 : b.val ≤ n + 1
      · rw [if_neg h1, if_pos h2, if_pos (Fin.ext (by show b.val = n + 1; omega)), zero_add]
      · rw [if_neg h1, if_neg h2, if_neg (fun e => h2 (by rw [e])), zero_add]
  rw [Finset.sum_congr rfl fun b _ => this b, Finset.sum_add_distrib, Finset.sum_ite_eq' Finset.univ, if_pos (Finset.mem_univ _)]

theorem sum_upto_zero (R : Fin 8 → EReal) (j : Fin 8) (hj : j.val = 0) : R j = ∑ b : Fin 8, if b.val ≤ 0 then R b else 0 := by
  refine Eq.symm ?_
  rw [Finset.sum_eq_single j]
  · exact if_pos (by omega)
  · intro b _ hb
    exact if_neg fun h => hb (Fin.ext (by omega))
  · intro h; exact absurd (Finset.mem_univ j) h

theorem sum_upto_all (R : Fin 8 → EReal) : (∑ b : Fin 8, if b.val ≤ 7 then R b else 0) = ∑ b, R b :=
  Finset.sum_congr rfl fun b _ => if_pos (by omega)

end Cert.Ffn

end
-- ==== Proof.FfnOps.lean ====
module

public import proofs.«01_k».proof.Proof.FfnRun
public import proofs.«01_k».proof.Proof.FfnModel
public import Idealize.ShloMosaic.Lib.Pointwise

@[expose] public section

set_option maxRecDepth 16384

noncomputable section

/-! What a grid point of the feed-forward network's backward call computes, read at an index. -/

namespace Cert.Kernel2Ideal.Hand

open Cert.Kernel2Ideal Cert.Kernel2Ideal.Gen Cert.Ffn
open Idealize.ShloMosaic Idealize.ShloMosaic.TcCoe Idealize.SL.Sem

theorem pay1_at (z : FVec Ideal S512x1024 .f32) (r : Fin 512) (d : Fin 1024) : k0_pay1 z (ix2 r d) = z (ix2 r d) := by
  pointwise [k0_pay1]
theorem pay2_at (z x : FVec Ideal S512x1024 .f32) (r : Fin 512) (d : Fin 1024) : k0_pay2 z x (ix2 r d) = (x (ix2 r d) : EReal) + z (ix2 r d) := by
  pointwise [k0_pay2]
theorem pay3_at (z x : FVec Ideal S512x1024 .f32) (r : Fin 512) (d : Fin 1024) : k0_pay3 z x (ix2 r d) = (x (ix2 r d) : EReal) + z (ix2 r d) := by
  pointwise [k0_pay3]
theorem pay4_at (f : Fin 704) (d : Fin 1024) : (k0_pay4 (F := Ideal)) (ix3 0 f d) = (0 : EReal) := by
  pointwise [k0_pay4]
theorem pay7_at (z : Vec Ideal S512x1024 .bf16) (r : Fin 512) (d : Fin 1024) : k0_pay7 z (ix2 r d) = z (ix2 r d) := by
  pointwise [k0_pay7]
theorem pay8_at (x : Vec Ideal S1x512x704 .f32) (r : Fin 512) (f : Fin 704) : k0_pay8 x (ix2 r f) = x (ix3 0 r f) := by
  pointwise [k0_pay8]
theorem pay9_at (x : Vec Ideal S1x512x704 .f32) (r : Fin 512) (f : Fin 704) : k0_pay9 x (ix2 r f) = x (ix3 0 r f) := by
  pointwise [k0_pay9]
theorem pay10_at (x : Vec Ideal S512x1024 .bf16) (r : Fin 512) (d : Fin 1024) : k0_pay10 x (ix2 r d) = x (ix2 r d) := by
  pointwise [k0_pay10]
theorem pay11_at (x : Vec Ideal S1x512x704 .f32) (r : Fin 512) (f : Fin 704) : k0_pay11 x (ix2 r f) = Ideal.logistic (x (ix3 0 r f)) := by
  rw [← pay8_at x r f]; rfl
theorem pay12_at (x : Vec Ideal S1x512x704 .f32) (r : Fin 512) (f : Fin 704) :
    k0_pay12 x (ix2 r f) = (x (ix3 0 r f) : EReal) * Ideal.logistic (x (ix3 0 r f)) := by
  rw [← pay11_at x r f, ← pay8_at x r f]; rfl
theorem pay13_at (y : Vec Ideal S512x1024 .bf16) (w : Vec Ideal S1x704x1024 .bf16) (r : Fin 512) (f : Fin 704) :
    k0_pay13 y w (ix2 r f) = ∑ d, (y (ix2 r d) : EReal) * w (ix3 0 f d) := by
  pointwise! [k0_pay13, k0_pay10]
theorem pay15_at (x v : Vec Ideal S1x512x704 .f32) (y : Vec Ideal S512x1024 .bf16) (w : Vec Ideal S1x704x1024 .bf16) (r : Fin 512) (f : Fin 704) :
    k0_pay15 x v y w (ix2 r f) = (k0_pay13 y w (ix2 r f) : EReal) * v (ix3 0 r f) * Ideal.logistic (x (ix3 0 r f)) := by
  rw [← pay11_at x r f, ← pay9_at v r f]; rfl
theorem pay16_at (x : Vec Ideal S1x512x704 .f32) (r : Fin 512) (f : Fin 704) :
    k0_pay16 x (ix2 r f) = (1 : EReal) - Ideal.logistic (x (ix3 0 r f)) := by
  rw [← pay11_at x r f]
  pointwise [k0_pay16]
theorem pay17_at (a b e : FVec Ideal S512x704 .f32) (r : Fin 512) (f : Fin 704) :
    k0_pay17 a b e (ix2 r f) = (b (ix2 r f) : EReal) * (1 + (a (ix2 r f) : EReal) * e (ix2 r f)) := by
  pointwise [k0_pay17]
theorem pay18_at (a b : FVec Ideal S512x704 .f32) (r : Fin 512) (f : Fin 704) :
    k0_pay18 a b (ix2 r f) = (b (ix2 r f) : EReal) * a (ix2 r f) := by
  pointwise [k0_pay18]

/-- What a buffer held, and a product over the block's tokens. -/
def addT (v : FVec Ideal S512x704 .f32) (w : FVec Ideal S512x1024 .bf16) (x : Vec Ideal S1x704x1024 .f32) : FVec Ideal S1x704x1024 .f32 :=
  shapeCast S1x704x1024 (addf (shapeCast S704x1024 x shapeCasts_S1x704x1024_S704x1024 : FVec Ideal S704x1024 .f32)
    (matmul dot_S512x704_S512x1024_S704x1024_0_0_1_1_n_n none (truncf .bf16 v bitsLt_bf16_f32) w (constant S704x1024 .f32 0x00000000#32)))
    shapeCasts_S704x1024_S1x704x1024
theorem addT_at (v : FVec Ideal S512x704 .f32) (w : FVec Ideal S512x1024 .bf16) (x : Vec Ideal S1x704x1024 .f32) (f : Fin 704) (d : Fin 1024) :
    addT v w x (ix3 0 f d) = (x (ix3 0 f d) : EReal) + ∑ r, (v (ix2 r f) : EReal) * w (ix2 r d) := by
  pointwise! [addT]

/-- A product over the shard's hidden units. -/
def overH (v : FVec Ideal S512x704 .f32) (w : Vec Ideal S1x704x1024 .bf16) : FVec Ideal S512x1024 .f32 :=
  matmul dot_S512x704_S704x1024_S512x1024_1_0_0_1_n_n none (truncf .bf16 v bitsLt_bf16_f32)
    (shapeCast S704x1024 w shapeCasts_S1x704x1024_S704x1024 : FVec Ideal S704x1024 .bf16) (constant S512x1024 .f32 0x00000000#32)
theorem overH_at (v : FVec Ideal S512x704 .f32) (w : Vec Ideal S1x704x1024 .bf16) (r : Fin 512) (d : Fin 1024) :
    overH v w (ix2 r d) = ∑ f, (v (ix2 r f) : EReal) * w (ix3 0 f d) := by
  pointwise! [overH]

theorem pay14_eq (x v : Vec Ideal S1x512x704 .f32) (y : Vec Ideal S512x1024 .bf16) (o : Vec Ideal S1x704x1024 .f32) :
    k0_pay14 x v y o = addT (mulf (k0_pay12 x) (k0_pay9 v)) (k0_pay10 y) o := rfl
theorem pay19_eq (z : FVec Ideal S512x1024 .bf16) (a b e : FVec Ideal S512x704 .f32) (o : Vec Ideal S1x704x1024 .f32) :
    k0_pay19 z a b e o = addT (k0_pay17 a b e) z o := rfl
theorem pay20_eq (z : FVec Ideal S512x1024 .bf16) (a b : FVec Ideal S512x704 .f32) (o : Vec Ideal S1x704x1024 .f32) :
    k0_pay20 z a b o = addT (k0_pay18 a b) z o := rfl
theorem pay21_eq (a s y b e : FVec Ideal S512x704 .f32) (v w : Vec Ideal S1x704x1024 .bf16) :
    k0_pay21 a s y b e v w = addf (overH (k0_pay17 a b e) v) (overH (k0_pay18 s y) w) := rfl

/-- The blocks that a grid point reads are a network's. -/
structure PtIs (N : Net) (j : Fin 4) (b : Fin 8) (x2 : Vec Ideal S512x1024 .bf16) (x3 x4 : Vec Ideal S1x512x704 .f32) (x5 : Vec Ideal S512x1024 .bf16)
    (x6 x7 x8 : Vec Ideal S1x704x1024 .bf16) : Prop where
  z : ∀ r d, x2 (ix2 r d) = N.z (tk b r) d
  g : ∀ r f, x3 (ix3 0 r f) = N.g (tk b r) (hid j f)
  u : ∀ r f, x4 (ix3 0 r f) = N.u (tk b r) (hid j f)
  ct : ∀ r d, x5 (ix2 r d) = N.ct (tk b r) d
  wg : ∀ f d, x6 (ix3 0 f d) = N.wg d (hid j f)
  wu : ∀ f d, x7 (ix3 0 f d) = N.wu d (hid j f)
  wd : ∀ f d, x8 (ix3 0 f d) = N.wd (hid j f) d

section

variable {N : Net} {j : Fin 4} {b : Fin 8} {x2 : Vec Ideal S512x1024 .bf16} {x3 x4 : Vec Ideal S1x512x704 .f32} {x5 : Vec Ideal S512x1024 .bf16}
  {x6 x7 x8 : Vec Ideal S1x704x1024 .bf16} (h : PtIs N j b x2 x3 x4 x5 x6 x7 x8)
include h

theorem y_is (r : Fin 512) (f : Fin 704) : k0_pay13 x5 x8 (ix2 r f) = N.y (tk b r) (hid j f) := by
  rw [pay13_at]
  exact Finset.sum_congr rfl fun d _ => by rw [h.ct, h.wd]

theorem act_is (r : Fin 512) (f : Fin 704) : k0_pay12 x3 (ix2 r f) = N.act (tk b r) (hid j f) := by
  rw [pay12_at, h.g]; rfl

theorem dg_is (r : Fin 512) (f : Fin 704) :
    k0_pay17 (k0_pay8 x3) (k0_pay15 x3 x4 x5 x8) (k0_pay16 x3) (ix2 r f) = N.dg (tk b r) (hid j f) := by
  rw [pay17_at, pay8_at, pay15_at, pay16_at, y_is h, h.g, h.u]; rfl

theorem du_is (r : Fin 512) (f : Fin 704) : k0_pay18 (k0_pay12 x3) (k0_pay13 x5 x8) (ix2 r f) = N.du (tk b r) (hid j f) := by
  rw [pay18_at, y_is h, act_is h]; rfl

/-- What a point adds to the gate weight's gradient, -/
theorem outWg_is (i : grid0.Coords) (x : Vec Ideal S1x704x1024 .f32) (f : Fin 704) (d : Fin 1024) :
    outWg i x2 x3 x4 x5 x8 x (ix3 0 f d) = (start i x (ix3 0 f d) : EReal) + ∑ r, N.dg (tk b r) (hid j f) * N.z (tk b r) d := by
  unfold outWg
  rw [pay19_eq, addT_at]
  exact congrArg _ (Finset.sum_congr rfl fun r _ => by rw [dg_is h, pay7_at, h.z])
/-- to the up weight's, -/
theorem outWu_is (i : grid0.Coords) (x : Vec Ideal S1x704x1024 .f32) (f : Fin 704) (d : Fin 1024) :
    outWu i x2 x3 x5 x8 x (ix3 0 f d) = (start i x (ix3 0 f d) : EReal) + ∑ r, N.du (tk b r) (hid j f) * N.z (tk b r) d := by
  unfold outWu
  rw [pay20_eq, addT_at]
  exact congrArg _ (Finset.sum_congr rfl fun r _ => by rw [du_is h, pay7_at, h.z])
/-- to the down weight's, -/
theorem outWd_is (i : grid0.Coords) (x : Vec Ideal S1x704x1024 .f32) (f : Fin 704) (d : Fin 1024) :
    outWd i x3 x4 x5 x (ix3 0 f d)
      = (start i x (ix3 0 f d) : EReal) + ∑ r, N.act (tk b r) (hid j f) * N.u (tk b r) (hid j f) * N.ct (tk b r) d := by
  unfold outWd
  rw [pay14_eq, addT_at]
  refine congrArg _ (Finset.sum_congr rfl fun r _ => ?_)
  rw [pay10_at, h.ct, show (mulf (k0_pay12 x3) (k0_pay9 x4) (ix2 r f) : EReal) = (k0_pay12 x3 (ix2 r f) : EReal) * k0_pay9 x4 (ix2 r f) from rfl, act_is h, pay9_at, h.u]
/-- and to the tokens'. -/
theorem partZ_is (r : Fin 512) (d : Fin 1024) : partZ x3 x4 x5 x6 x7 x8 (ix2 r d)
    = (∑ f, N.dg (tk b r) (hid j f) * N.wg d (hid j f)) + ∑ f, N.du (tk b r) (hid j f) * N.wu d (hid j f) := by
  unfold partZ
  rw [pay21_eq]
  refine congrArg₂ (fun x y : EReal => x + y) ((overH_at _ _ r d).trans ?_) ((overH_at _ _ r d).trans ?_)
  · exact Finset.sum_congr rfl fun f _ => by rw [dg_is h, h.wg]
  · exact Finset.sum_congr rfl fun f _ => by rw [du_is h, h.wu]

end

end Cert.Kernel2Ideal.Hand

end
-- ==== Proof.FfnBlocks.lean ====
module

public import proofs.«01_k».proof.Proof.FfnLaunch
public import proofs.«01_k».proof.Proof.FfnOps
public import Idealize.ShloMosaic.Lib.Pipeline.ValueKit

@[expose] public section

set_option maxRecDepth 16384

noncomputable section

/-! What the feed-forward network's backward call is given, and the blocks that its grid points read. -/

namespace Cert.Kernel2Ideal.Hand

open Cert.Kernel2Ideal Cert.Kernel2Ideal.Gen Cert.Ffn
open Idealize.ShloMosaic Idealize.ShloMosaic.TcCoe Idealize.SL.Sem

/-- The hidden units of a product, by shards, -/
def units (x : FVec Ideal S4096x1024 .f32) (w : FVec Ideal S1024x2816 .f32) : FVec Ideal S4x4096x704 .f32 :=
  transpose S4x4096x704 [1, 0, 2] (shapeCast S4096x4x704 (Host.dotGeneral dot_S4096x1024_S1024x2816_S4096x2816_1_0_0_1_n_n none x w) shapeCasts_S4096x2816_S4096x4x704)
    transposes_S4096x4x704_S4x4096x704_1_0_2
/-- a weight's rows by shards, -/
def parts (w : FVec Ideal S2816x1024 .f32) : FVec Ideal S4x704x1024 .bf16 :=
  truncf .bf16 (shapeCast S4x704x1024 w shapeCasts_S2816x1024_S4x704x1024) bitsLt_bf16_f32
/-- its columns, -/
def turned (w : FVec Ideal S1024x2816 .f32) : FVec Ideal S2816x1024 .f32 := transpose S2816x1024 [1, 0] w transposes_S1024x2816_S2816x1024_1_0
/-- and a token's lanes. -/
def narrow (x : FVec Ideal S4096x1024 .f32) : FVec Ideal S4096x1024 .bf16 := truncf .bf16 x bitsLt_bf16_f32

theorem units_at (x : FVec Ideal S4096x1024 .f32) (w : FVec Ideal S1024x2816 .f32) (j : Fin 4) (s : Fin 4096) (f : Fin 704) :
    units x w (ix3 j s f) = ∑ d, (x (ix2 s d) : EReal) * w (ix2 d (hid j f)) := by
  pointwise! [units]
theorem parts_at (w : FVec Ideal S2816x1024 .f32) (j : Fin 4) (f : Fin 704) (d : Fin 1024) : parts w (ix3 j f d) = w (ix2 (hid j f) d) := by
  pointwise! [parts]
theorem turned_at (w : FVec Ideal S1024x2816 .f32) (f : Fin 2816) (d : Fin 1024) : turned w (ix2 f d) = w (ix2 d f) := by
  pointwise [turned]

/-- A network's arrays. -/
def netOf (z : FVec Ideal S4096x1024 .f32) (wg wu : FVec Ideal S1024x2816 .f32) (wd : FVec Ideal S2816x1024 .f32) (ct : FVec Ideal S4096x1024 .f32) : Net where
  z s d := z (ix2 s d)
  wg d f := wg (ix2 d f)
  wu d f := wu (ix2 d f)
  wd f d := wd (ix2 f d)
  ct s d := ct (ix2 s d)

variable (m : (ℓ : Loc nD τ sig) → Buf (Elt Ideal) ℓ) (c : Dev nD)

/-- The program's arguments. -/
abbrev aZ : FVec Ideal S4096x1024 .f32 := m ((c.tc : Thread nD τ).loc main_arg0)
abbrev aG : FVec Ideal S1024x2816 .f32 := m ((c.tc : Thread nD τ).loc main_arg1)
abbrev aU : FVec Ideal S1024x2816 .f32 := m ((c.tc : Thread nD τ).loc main_arg2)
abbrev aD : FVec Ideal S2816x1024 .f32 := m ((c.tc : Thread nD τ).loc main_arg3)
abbrev aT : FVec Ideal S4096x1024 .f32 := m ((c.tc : Thread nD τ).loc main_arg4)
/-- Their network. -/
abbrev net : Net := netOf (aZ m c) (aG m c) (aU m c) (aD m c) (aT m c)

/-- The call's operands are these. -/
theorem V2 : V m c main_v2 = units (aZ m c) (aG m c) := by entry_read; rfl
theorem V5 : V m c main_v5 = units (aZ m c) (aU m c) := by entry_read; rfl
theorem V6 : V m c main_v6 = narrow (aZ m c) := by entry_read; rfl
theorem V7 : V m c main_v7 = narrow (aT m c) := by entry_read; rfl
theorem V10 : V m c main_v10 = parts (turned (aG m c)) := by entry_read; rfl
theorem V13 : V m c main_v13 = parts (turned (aU m c)) := by entry_read; rfl
theorem V15 : V m c main_v15 = parts (aD m c) := by entry_read; rfl

/-- The windows' index maps. -/
theorem idx : ∀ t : Fin cfg0.N, win0_0.index t = ![t.val % 8, 0] ∧ win0_1.index t = ![t.val / 8, t.val % 8, 0] ∧ win0_2.index t = ![t.val / 8, t.val % 8, 0]
    ∧ win0_3.index t = ![t.val % 8, 0] ∧ win0_4.index t = ![t.val / 8, 0, 0] ∧ win0_5.index t = ![t.val / 8, 0, 0] ∧ win0_6.index t = ![t.val / 8, 0, 0]
    ∧ win0_7.index t = ![t.val / 8, 0, 0] ∧ win0_8.index t = ![t.val / 8, 0, 0] ∧ win0_9.index t = ![t.val / 8, 0, 0] :=
  (by decide +kernel : ∀ t : Fin grid0.N, _)
theorem idx10 : ∀ t : Fin cfg0.N, 24 ≤ t.val → win0_10.index t = ![t.val % 8, 0] :=
  (by decide +kernel : ∀ t : Fin grid0.N, 24 ≤ t.val → win0_10.index t = ![t.val % 8, 0])

variable (t : Fin cfg0.N)

theorem lt32 : t.val < 32 := lt_of_lt_of_eq t.isLt (show cfg0.N = 32 from N_0)

theorem rd0 (r : Fin 512) (d : Fin 1024) (s : Fin 4096) (hs : s.val = 512 * (t.val % 8) + r.val) : iblk m c 0 t (ix2 r d) = V m c main_v6 (ix2 s d) := by
  blk_ext [iblk, idx t]
theorem rd1 (r : Fin 512) (f : Fin 704) (j : Fin 4) (s : Fin 4096) (hj : j.val = t.val / 8) (hs : s.val = 512 * (t.val % 8) + r.val) :
    iblk m c 1 t (ix3 0 r f) = V m c main_v2 (ix3 j s f) := by
  blk_ext [iblk, idx t]
theorem rd2 (r : Fin 512) (f : Fin 704) (j : Fin 4) (s : Fin 4096) (hj : j.val = t.val / 8) (hs : s.val = 512 * (t.val % 8) + r.val) :
    iblk m c 2 t (ix3 0 r f) = V m c main_v5 (ix3 j s f) := by
  blk_ext [iblk, idx t]
theorem rd3 (r : Fin 512) (d : Fin 1024) (s : Fin 4096) (hs : s.val = 512 * (t.val % 8) + r.val) : iblk m c 3 t (ix2 r d) = V m c main_v7 (ix2 s d) := by
  blk_ext [iblk, idx t]
theorem rd4 (f : Fin 704) (d : Fin 1024) (j : Fin 4) (hj : j.val = t.val / 8) : iblk m c 4 t (ix3 0 f d) = V m c main_v10 (ix3 j f d) := by
  blk_ext [iblk, idx t]
theorem rd5 (f : Fin 704) (d : Fin 1024) (j : Fin 4) (hj : j.val = t.val / 8) : iblk m c 5 t (ix3 0 f d) = V m c main_v13 (ix3 j f d) := by
  blk_ext [iblk, idx t]
theorem rd6 (f : Fin 704) (d : Fin 1024) (j : Fin 4) (hj : j.val = t.val / 8) : iblk m c 6 t (ix3 0 f d) = V m c main_v15 (ix3 j f d) := by
  blk_ext [iblk, idx t]

/-- The blocks that a grid point reads are the network's. -/
theorem pt_is (j : Fin 4) (b : Fin 8) (hj : j.val = t.val / 8) (hb : b.val = t.val % 8) :
    PtIs (net m c) j b (iblk m c 0 t) (iblk m c 1 t) (iblk m c 2 t) (iblk m c 3 t) (iblk m c 4 t) (iblk m c 5 t) (iblk m c 6 t) := by
  have hs : ∀ r : Fin 512, (tk b r).val = 512 * (t.val % 8) + r.val := fun r => by show 512 * b.val + r.val = _; rw [hb]
  refine ⟨fun r d => ?_, fun r f => ?_, fun r f => ?_, fun r d => ?_, fun f d => ?_, fun f d => ?_, fun f d => ?_⟩
  · rw [rd0 m c t r d _ (hs r), V6]; rfl
  · rw [rd1 m c t r f j _ hj (hs r), V2, units_at]; rfl
  · rw [rd2 m c t r f j _ hj (hs r), V5, units_at]; rfl
  · rw [rd3 m c t r d _ (hs r), V7]; rfl
  · rw [rd4 m c t f d j hj, V10, parts_at, turned_at]; rfl
  · rw [rd5 m c t f d j hj, V13, parts_at, turned_at]; rfl
  · rw [rd6 m c t f d j hj, V15, parts_at]; rfl

end Cert.Kernel2Ideal.Hand

end
-- ==== Proof.FfnRef.lean ====
module

public import proofs.«01_k».proof.Proof.FfnModel
public import proofs.«01_k».proof.Proof.Gen.Reference2Ideal.Run
public import Idealize.ShloMosaic.Lib.Pointwise
public import Idealize.ShloMosaic.Lib.IdealHost

@[expose] public section

set_option maxRecDepth 16384

noncomputable section

/-! The results of the feed-forward network's reference, read at an index. -/

namespace Cert.FfnRef

open Cert.Reference2Ideal Cert.Reference2Ideal.Gen Cert.Ffn
open Idealize.ShloMosaic Idealize.SL.Sem

/-- The array of ones, -/
def ones : FVec Ideal S4096x2816 .f32 := broadcastInDim S4096x2816 ![] bcast_S_S4096x2816 (constant S_ .f32 0x3F800000#32)
/-- the hidden units of a product, -/
def units (x : FVec Ideal S4096x1024 .f32) (w : FVec Ideal S1024x2816 .f32) : FVec Ideal S4096x2816 .f32 :=
  Host.dotGeneral dot_S4096x1024_S1024x2816_S4096x2816_1_0_0_1_n_n none x w
/-- of one with a weight's rows, -/
def unitsT (x : FVec Ideal S4096x1024 .f32) (w : FVec Ideal S2816x1024 .f32) : FVec Ideal S4096x2816 .f32 :=
  Host.dotGeneral dot_S4096x1024_S2816x1024_S4096x2816_1_1_0_0_n_n none x w
/-- the sigmoid, -/
def sig (g : FVec Ideal S4096x2816 .f32) : FVec Ideal S4096x2816 .f32 := Host.divf ones (addf ones (Host.exp (Host.negf g)))
/-- its complement, -/
def cosig (g : FVec Ideal S4096x2816 .f32) : FVec Ideal S4096x2816 .f32 := subf ones (sig g)
/-- the gate, -/
def act (g : FVec Ideal S4096x2816 .f32) : FVec Ideal S4096x2816 .f32 := mulf g (sig g)
/-- the gradient of the logits, -/
def dg (g u y : FVec Ideal S4096x2816 .f32) : FVec Ideal S4096x2816 .f32 :=
  addf (mulf (mulf y u) (sig g)) (mulf (mulf g (mulf y u)) (mulf (sig g) (cosig g)))
/-- a product over the tokens, -/
def overT (v : FVec Ideal S4096x2816 .f32) (x : FVec Ideal S4096x1024 .f32) : FVec Ideal S2816x1024 .f32 :=
  Host.dotGeneral dot_S4096x2816_S4096x1024_S2816x1024_0_0_1_1_n_n none v x
/-- the other way round, -/
def overT' (x : FVec Ideal S4096x1024 .f32) (v : FVec Ideal S4096x2816 .f32) : FVec Ideal S1024x2816 .f32 :=
  Host.dotGeneral dot_S4096x1024_S4096x2816_S1024x2816_0_0_1_1_n_n none x v
/-- a product over the hidden units, -/
def overH (v : FVec Ideal S4096x2816 .f32) (w : FVec Ideal S1024x2816 .f32) : FVec Ideal S4096x1024 .f32 :=
  Host.dotGeneral dot_S4096x2816_S1024x2816_S4096x1024_1_1_0_0_n_n none v w
/-- turned, -/
def turn (w : FVec Ideal S2816x1024 .f32) : FVec Ideal S1024x2816 .f32 := transpose S1024x2816 [1, 0] w transposes_S2816x1024_S1024x2816_1_0
def turn' (w : FVec Ideal S1024x2816 .f32) : FVec Ideal S2816x1024 .f32 := transpose S2816x1024 [1, 0] w transposes_S1024x2816_S2816x1024_1_0
/-- and by shards. -/
def parts (w : FVec Ideal S2816x1024 .f32) : FVec Ideal S4x704x1024 .f32 := shapeCast S4x704x1024 w shapeCasts_S2816x1024_S4x704x1024

theorem units_at (x : FVec Ideal S4096x1024 .f32) (w : FVec Ideal S1024x2816 .f32) (s : Fin 4096) (f : Fin 2816) :
    units x w (ix2 s f) = ∑ d, (x (ix2 s d) : EReal) * w (ix2 d f) := by
  pointwise [units]
theorem unitsT_at (x : FVec Ideal S4096x1024 .f32) (w : FVec Ideal S2816x1024 .f32) (s : Fin 4096) (f : Fin 2816) :
    unitsT x w (ix2 s f) = ∑ d, (x (ix2 s d) : EReal) * w (ix2 f d) := by
  pointwise [unitsT]
theorem overT_at (v : FVec Ideal S4096x2816 .f32) (x : FVec Ideal S4096x1024 .f32) (f : Fin 2816) (d : Fin 1024) :
    overT v x (ix2 f d) = ∑ s, (v (ix2 s f) : EReal) * x (ix2 s d) := by
  pointwise [overT]
theorem overT'_at (x : FVec Ideal S4096x1024 .f32) (v : FVec Ideal S4096x2816 .f32) (d : Fin 1024) (f : Fin 2816) :
    overT' x v (ix2 d f) = ∑ s, (x (ix2 s d) : EReal) * v (ix2 s f) := by
  pointwise [overT']
theorem overH_at (v : FVec Ideal S4096x2816 .f32) (w : FVec Ideal S1024x2816 .f32) (s : Fin 4096) (d : Fin 1024) :
    overH v w (ix2 s d) = ∑ f, (v (ix2 s f) : EReal) * w (ix2 d f) := by
  pointwise [overH]
theorem turn_at (w : FVec Ideal S2816x1024 .f32) (f : Fin 2816) (d : Fin 1024) : turn w (ix2 d f) = w (ix2 f d) := by
  pointwise [turn]
theorem turn'_at (w : FVec Ideal S1024x2816 .f32) (f : Fin 2816) (d : Fin 1024) : turn' w (ix2 f d) = w (ix2 d f) := by
  pointwise [turn']
theorem parts_at (w : FVec Ideal S2816x1024 .f32) (j : Fin 4) (f : Fin 704) (d : Fin 1024) : parts w (ix3 j f d) = w (ix2 (hid j f) d) := by
  pointwise! [parts]
theorem ones_at (s : Fin 4096) (f : Fin 2816) : ones (ix2 s f) = (1 : EReal) := by
  pointwise [ones]
theorem sig_at (g : FVec Ideal S4096x2816 .f32) (s : Fin 4096) (f : Fin 2816) : sig g (ix2 s f) = Ideal.logistic (g (ix2 s f)) := by
  show Ideal.div (ones (ix2 s f)) ((ones (ix2 s f) : EReal) + Ideal.exp (-(g (ix2 s f) : EReal))) = _
  rw [ones_at]; rfl
theorem cosig_at (g : FVec Ideal S4096x2816 .f32) (s : Fin 4096) (f : Fin 2816) : cosig g (ix2 s f) = 1 - Ideal.logistic (g (ix2 s f)) := by
  rw [← sig_at g s f, ← ones_at s f]; rfl
theorem act_at (g : FVec Ideal S4096x2816 .f32) (s : Fin 4096) (f : Fin 2816) : act g (ix2 s f) = (g (ix2 s f) : EReal) * Ideal.logistic (g (ix2 s f)) := by
  rw [← sig_at g s f]; rfl
theorem dg_at (g u y : FVec Ideal S4096x2816 .f32) (s : Fin 4096) (f : Fin 2816) :
    dg g u y (ix2 s f) = (y (ix2 s f) : EReal) * u (ix2 s f) * Ideal.logistic (g (ix2 s f))
      + (g (ix2 s f) : EReal) * ((y (ix2 s f) : EReal) * u (ix2 s f)) * (Ideal.logistic (g (ix2 s f)) * (1 - Ideal.logistic (g (ix2 s f)))) := by
  rw [← cosig_at g s f, ← sig_at g s f]; rfl

/-- The four gradients. -/
def gradG (z : FVec Ideal S4096x1024 .f32) (wg wu : FVec Ideal S1024x2816 .f32) (wd : FVec Ideal S2816x1024 .f32) (ct : FVec Ideal S4096x1024 .f32) : FVec Ideal S4x704x1024 .f32 :=
  parts (turn' (turn (overT (dg (units z wg) (units z wu) (unitsT ct wd)) z)))
def gradU (z : FVec Ideal S4096x1024 .f32) (wg : FVec Ideal S1024x2816 .f32) (wd : FVec Ideal S2816x1024 .f32) (ct : FVec Ideal S4096x1024 .f32) : FVec Ideal S4x704x1024 .f32 :=
  parts (turn' (turn (overT (mulf (act (units z wg)) (unitsT ct wd)) z)))
def gradD (z : FVec Ideal S4096x1024 .f32) (wg wu : FVec Ideal S1024x2816 .f32) (ct : FVec Ideal S4096x1024 .f32) : FVec Ideal S4x704x1024 .f32 :=
  parts (turn' (overT' ct (mulf (act (units z wg)) (units z wu))))
def gradZ (z : FVec Ideal S4096x1024 .f32) (wg wu : FVec Ideal S1024x2816 .f32) (wd : FVec Ideal S2816x1024 .f32) (ct : FVec Ideal S4096x1024 .f32) : FVec Ideal S4096x1024 .f32 :=
  addf (overH (mulf (act (units z wg)) (unitsT ct wd)) wu) (overH (dg (units z wg) (units z wu) (unitsT ct wd)) wg)

/-- A network's arrays. -/
structure Reads (z : FVec Ideal S4096x1024 .f32) (wg wu : FVec Ideal S1024x2816 .f32) (wd : FVec Ideal S2816x1024 .f32) (ct : FVec Ideal S4096x1024 .f32) (N : Net) : Prop where
  real : N.Real
  z : ∀ s d, z (ix2 s d) = N.z s d
  wg : ∀ d f, wg (ix2 d f) = N.wg d f
  wu : ∀ d f, wu (ix2 d f) = N.wu d f
  wd : ∀ f d, wd (ix2 f d) = N.wd f d
  ct : ∀ s d, ct (ix2 s d) = N.ct s d

section

variable {z : FVec Ideal S4096x1024 .f32} {wg wu : FVec Ideal S1024x2816 .f32} {wd : FVec Ideal S2816x1024 .f32} {ct : FVec Ideal S4096x1024 .f32} {N : Net}
  (h : Reads z wg wu wd ct N)
include h

theorem g_is (s : Fin 4096) (f : Fin 2816) : units z wg (ix2 s f) = N.g s f := by
  rw [units_at]; exact Finset.sum_congr rfl fun d _ => by rw [h.z, h.wg]
theorem u_is (s : Fin 4096) (f : Fin 2816) : units z wu (ix2 s f) = N.u s f := by
  rw [units_at]; exact Finset.sum_congr rfl fun d _ => by rw [h.z, h.wu]
theorem y_is (s : Fin 4096) (f : Fin 2816) : unitsT ct wd (ix2 s f) = N.y s f := by
  rw [unitsT_at]; exact Finset.sum_congr rfl fun d _ => by rw [h.ct, h.wd]
theorem act_is (s : Fin 4096) (f : Fin 2816) : act (units z wg) (ix2 s f) = N.act s f := by
  rw [act_at, g_is h]; rfl
theorem dg_is (s : Fin 4096) (f : Fin 2816) : dg (units z wg) (units z wu) (unitsT ct wd) (ix2 s f) = N.dg s f := by
  rw [dg_at, g_is h, u_is h, y_is h, N.dg_parts h.real]
theorem du_is (s : Fin 4096) (f : Fin 2816) : mulf (act (units z wg)) (unitsT ct wd) (ix2 s f) = N.du s f := by
  rw [show (mulf (act (units z wg)) (unitsT ct wd) (ix2 s f) : EReal) = (act (units z wg) (ix2 s f) : EReal) * unitsT ct wd (ix2 s f) from rfl, act_is h, y_is h]
  exact mul_comm _ _
theorem au_is (s : Fin 4096) (f : Fin 2816) : mulf (act (units z wg)) (units z wu) (ix2 s f) = N.act s f * N.u s f := by
  rw [show (mulf (act (units z wg)) (units z wu) (ix2 s f) : EReal) = (act (units z wg) (ix2 s f) : EReal) * units z wu (ix2 s f) from rfl, act_is h, u_is h]

theorem gradG_is (j : Fin 4) (f : Fin 704) (d : Fin 1024) : gradG z wg wu wd ct (ix3 j f d) = N.dwg (hid j f) d := by
  unfold gradG
  rw [parts_at, turn'_at, turn_at, overT_at]
  exact Finset.sum_congr rfl fun s _ => by rw [dg_is h, h.z]
theorem gradU_is (j : Fin 4) (f : Fin 704) (d : Fin 1024) : gradU z wg wd ct (ix3 j f d) = N.dwu (hid j f) d := by
  unfold gradU
  rw [parts_at, turn'_at, turn_at, overT_at]
  exact Finset.sum_congr rfl fun s _ => by rw [du_is h, h.z]
theorem gradD_is (j : Fin 4) (f : Fin 704) (d : Fin 1024) : gradD z wg wu ct (ix3 j f d) = N.dwd (hid j f) d := by
  unfold gradD
  rw [parts_at, turn'_at, overT'_at]
  exact Finset.sum_congr rfl fun s _ => by rw [au_is h, h.ct]; exact mul_comm _ _
theorem gradZ_is (s : Fin 4096) (d : Fin 1024) : gradZ z wg wu wd ct (ix2 s d) = N.dz s d := by
  unfold gradZ
  refine (congrArg₂ (fun x y : EReal => x + y) ((overH_at _ _ s d).trans (Finset.sum_congr rfl fun f _ => ?_)) ((overH_at _ _ s d).trans (Finset.sum_congr rfl fun f _ => ?_))).trans (add_comm _ _)
  · rw [du_is h, h.wu]
  · rw [dg_is h, h.wg]

end

end Cert.FfnRef

end
-- ==== Proof.FfnFinal.lean ====
module

public import proofs.«01_k».proof.Proof.FfnBlocks
public import proofs.«01_k».proof.Proof.FfnRef

@[expose] public section

set_option maxRecDepth 16384

noncomputable section

/-! The arrays that the feed-forward network's backward call leaves, at an index: the network's gradients. -/

namespace Cert.Kernel2Ideal.Hand

open Cert.Kernel2Ideal Cert.Kernel2Ideal.Gen Cert.Ffn
open Idealize.ShloMosaic Idealize.ShloMosaic.TcCoe Idealize.SL.Sem

/-- The shard of a grid point, -/
def jAt (t : Fin cfg0.N) : Fin 4 := ⟨t.val / 8, by have := lt32 t; omega⟩
/-- and its block of tokens. -/
def bAt (t : Fin cfg0.N) : Fin 8 := ⟨t.val % 8, by omega⟩

theorem pt_num (n : ℕ) (h : n < 32) : (pt n).val = n := Nat.mod_eq_of_lt h

theorem start_at (t : Fin cfg0.N) (x : Vec Ideal S1x704x1024 .f32) (f : Fin 704) (d : Fin 1024) :
    (start (grid0.coords t) x (ix3 0 f d) : EReal) = if t.val % 8 = 0 then 0 else x (ix3 0 f d) := by
  unfold start
  rw [bOf_val]
  split
  · exact pay4_at f d
  · rfl

/-- A buffer whose step adds a block's part holds, after a grid point, the parts of its shard's blocks so far. -/
theorem accum_is (next : Fin cfg0.N → Vec Ideal S1x704x1024 .f32 → Vec Ideal S1x704x1024 .f32) (R : Fin 4 → Fin 8 → EReal) (f : Fin 704) (d : Fin 1024)
    (hn : ∀ t x, next t x (ix3 0 f d) = (start (grid0.coords t) x (ix3 0 f d) : EReal) + R (jAt t) (bAt t)) :
    ∀ n, n < 32 → accum next n (ix3 0 f d) = ∑ b : Fin 8, if b.val ≤ n % 8 then R (jAt (pt n)) b else 0
  | 0, _ => by
    have hp : (pt 0).val = 0 := rfl
    refine (hn (pt 0) (k0_pay4 (F := Ideal))).trans ?_
    rw [start_at, hp, if_pos rfl, zero_add]
    exact sum_upto_zero _ _ rfl
  | n + 1, h => by
    have hp := pt_num (n + 1) h
    have hp0 := pt_num n (by omega)
    refine (hn (pt (n + 1)) (accum next n)).trans ?_
    rw [start_at, hp]
    by_cases h0 : (n + 1) % 8 = 0
    · rw [if_pos h0, zero_add, h0]
      exact sum_upto_zero _ _ (by show (pt (n + 1)).val % 8 = 0; rw [hp, h0])
    · have hj : jAt (pt n) = jAt (pt (n + 1)) := Fin.ext (by
        show (pt n).val / 8 = (pt (n + 1)).val / 8
        rw [hp, hp0]; omega)
      have hm : (n + 1) % 8 = n % 8 + 1 := by omega
      have hb : bAt (pt (n + 1)) = ⟨n % 8 + 1, by omega⟩ := Fin.ext (by
        show (pt (n + 1)).val % 8 = n % 8 + 1
        rw [hp, hm])
      rw [if_neg h0, accum_is next R f d hn n (by omega), hj, hb, hm]
      exact sum_upto _ (n % 8) (by omega)

/-- At the shard's last point, all of them. -/
theorem accum_last (next : Fin cfg0.N → Vec Ideal S1x704x1024 .f32 → Vec Ideal S1x704x1024 .f32) (R : Fin 4 → Fin 8 → EReal) (f : Fin 704) (d : Fin 1024)
    (hn : ∀ t x, next t x (ix3 0 f d) = (start (grid0.coords t) x (ix3 0 f d) : EReal) + R (jAt t) (bAt t)) (t : Fin cfg0.N) (ht : t.val % 8 = 7) :
    accum next t.val (ix3 0 f d) = ∑ b, R (jAt t) b := by
  rw [accum_is next R f d hn t.val (lt32 t), ht, sum_upto_all, pt_val]

variable (m : (ℓ : Loc nD τ sig) → Buf (Elt Ideal) ℓ) (c : Dev nD)

theorem at_pt (t : Fin cfg0.N) : PtIs (net m c) (jAt t) (bAt t) (iblk m c 0 t) (iblk m c 1 t) (iblk m c 2 t) (iblk m c 3 t) (iblk m c 4 t) (iblk m c 5 t) (iblk m c 6 t) :=
  pt_is m c t _ _ rfl rfl

theorem sumWg (t : Fin cfg0.N) (ht : t.val % 8 = 7) (f : Fin 704) (d : Fin 1024) :
    accum (nextWg m c) t.val (ix3 0 f d) = (net m c).dwg (hid (jAt t) f) d :=
  (accum_last (nextWg m c) (fun j b => ∑ r, (net m c).dg (tk b r) (hid j f) * (net m c).z (tk b r) d) f d
    (fun t x => outWg_is (at_pt m c t) (grid0.coords t) x f d) t ht).trans
    (sum_tk fun s => (net m c).dg s (hid (jAt t) f) * (net m c).z s d)
theorem sumWu (t : Fin cfg0.N) (ht : t.val % 8 = 7) (f : Fin 704) (d : Fin 1024) :
    accum (nextWu m c) t.val (ix3 0 f d) = (net m c).dwu (hid (jAt t) f) d :=
  (accum_last (nextWu m c) (fun j b => ∑ r, (net m c).du (tk b r) (hid j f) * (net m c).z (tk b r) d) f d
    (fun t x => outWu_is (at_pt m c t) (grid0.coords t) x f d) t ht).trans
    (sum_tk fun s => (net m c).du s (hid (jAt t) f) * (net m c).z s d)
theorem sumWd (t : Fin cfg0.N) (ht : t.val % 8 = 7) (f : Fin 704) (d : Fin 1024) :
    accum (nextWd m c) t.val (ix3 0 f d) = (net m c).dwd (hid (jAt t) f) d :=
  (accum_last (nextWd m c) (fun j b => ∑ r, (net m c).act (tk b r) (hid j f) * (net m c).u (tk b r) (hid j f) * (net m c).ct (tk b r) d) f d
    (fun t x => outWd_is (at_pt m c t) (grid0.coords t) x f d) t ht).trans
    (sum_tk fun s => (net m c).act s (hid (jAt t) f) * (net m c).u s (hid (jAt t) f) * (net m c).ct s d)

/-- What a shard adds to the tokens' gradient. -/
def shardZ (N : Net) (s : Fin 4096) (d : Fin 1024) (j : Fin 4) : EReal := (∑ f, N.dg s (hid j f) * N.wg d (hid j f)) + ∑ f, N.du s (hid j f) * N.wu d (hid j f)

theorem shardZ_sum (N : Net) (s : Fin 4096) (d : Fin 1024) : ∑ j, shardZ N s d j = N.dz s d := by
  unfold shardZ Net.dz
  rw [Finset.sum_add_distrib, sum_hid fun f => N.dg s f * N.wg d f, sum_hid fun f => N.du s f * N.wu d f]

theorem part_at (b : Fin 8) (j : Fin 4) (r : Fin 512) (d : Fin 1024) (t : Fin cfg0.N) (ht : t.val = 8 * j.val + b.val) :
    partAt m c t (ix2 r d) = shardZ (net m c) (tk b r) d j :=
  partZ_is (pt_is m c t j b (by omega) (by omega)) r d

/-- A carried row after the first, the second and the third shard. -/
theorem acc0 (b : Fin 8) (r : Fin 512) (d : Fin 1024) : accAt m c b 0 (ix2 r d) = shardZ (net m c) (tk b r) d 0 := by
  have hp := pt_num b.val (by omega)
  have hj : (jOf (grid0.coords (pt b.val))).val = 0 := by rw [jOf_val, hp]; omega
  unfold accAt carry
  rw [if_pos hj, pay1_at]
  exact part_at m c b 0 r d _ (by rw [hp]; show b.val = 8 * 0 + b.val; omega)
theorem acc_step (b : Fin 8) (n : ℕ) (j : Fin 4) (hn : j.val = n + 1) (h3 : j.val ≠ 3) (r : Fin 512) (d : Fin 1024) :
    accAt m c b (n + 1) (ix2 r d) = (accAt m c b n (ix2 r d) : EReal) + shardZ (net m c) (tk b r) d j := by
  have hp := pt_num (8 * (n + 1) + b.val) (by omega)
  have hj : (jOf (grid0.coords (pt (8 * (n + 1) + b.val)))).val = n + 1 := by rw [jOf_val, hp]; omega
  show carry _ _ (accAt m c b n) (ix2 r d) = _
  unfold carry
  rw [if_neg (by rw [hj]; omega), if_neg (by rw [hj]; omega), pay2_at, part_at m c b j r d _ (by rw [hp, hn])]

theorem point10 (t : Fin cfg0.N) (ht : 24 ≤ t.val) (r : Fin 512) (d : Fin 1024) :
    k0_pay3 (partAt m c t) (accAt m c (bOf (grid0.coords t)) 2) (ix2 r d) = (net m c).dz (tk (bAt t) r) d := by
  have h32 := lt32 t
  have hb : bOf (grid0.coords t) = bAt t := Fin.ext (bOf_val t)
  rw [pay3_at, hb, acc_step m c (bAt t) 1 2 rfl (by decide), acc_step m c (bAt t) 0 1 rfl (by decide), acc0,
    part_at m c (bAt t) 3 r d t (by show t.val = 8 * 3 + t.val % 8; omega), ← shardZ_sum, Fin.sum_univ_four]

/-- The network has real arrays. -/
abbrev Fits : Prop := Cert.FfnRef.Reads (aZ m c) (aG m c) (aU m c) (aD m c) (aT m c) (net m c)

variable {m c} (h : Fits m c)
include h

/-- The gate weight's gradient: the reference's first result. -/
theorem final7 : (dats m 0 c).arrAt 7 cfg0.N = Cert.FfnRef.gradG (aZ m c) (aG m c) (aU m c) (aD m c) (aT m c) := by
  refine (dats m 0 c).arrAt_eq_of_covers 7 _ (by decide +kernel) fun t hf y => ?_
  have hm := (flush0_7 t).mp hf
  blk_simp
  rw [after0_7]
  obtain ⟨o, f, d, rfl⟩ : ∃ (o : Fin 1) (f : Fin 704) (d : Fin 1024), y = ix3 o f d := ⟨y 0, y 1, y 2, eq_ix3 y⟩
  obtain rfl : o = 0 := Subsingleton.elim _ _
  have he : (win0_7.blk t).view.emb (ix3 0 f d) = ix3 (jAt t) f d := by unfold jAt; blk_ext [idx t]
  exact (sumWg m c t hm f d).trans (Eq.symm ((congrArg _ he).trans (Cert.FfnRef.gradG_is h _ _ _)))
/-- The up weight's: its second. -/
theorem final8 : (dats m 0 c).arrAt 8 cfg0.N = Cert.FfnRef.gradU (aZ m c) (aG m c) (aD m c) (aT m c) := by
  refine (dats m 0 c).arrAt_eq_of_covers 8 _ (by decide +kernel) fun t hf y => ?_
  have hm := (flush0_8 t).mp hf
  blk_simp
  rw [after0_8]
  obtain ⟨o, f, d, rfl⟩ : ∃ (o : Fin 1) (f : Fin 704) (d : Fin 1024), y = ix3 o f d := ⟨y 0, y 1, y 2, eq_ix3 y⟩
  obtain rfl : o = 0 := Subsingleton.elim _ _
  have he : (win0_8.blk t).view.emb (ix3 0 f d) = ix3 (jAt t) f d := by unfold jAt; blk_ext [idx t]
  exact (sumWu m c t hm f d).trans (Eq.symm ((congrArg _ he).trans (Cert.FfnRef.gradU_is h _ _ _)))
/-- The down weight's: its third. -/
theorem final9 : (dats m 0 c).arrAt 9 cfg0.N = Cert.FfnRef.gradD (aZ m c) (aG m c) (aU m c) (aT m c) := by
  refine (dats m 0 c).arrAt_eq_of_covers 9 _ (by decide +kernel) fun t hf y => ?_
  have hm := (flush0_9 t).mp hf
  blk_simp
  rw [after0_9]
  obtain ⟨o, f, d, rfl⟩ : ∃ (o : Fin 1) (f : Fin 704) (d : Fin 1024), y = ix3 o f d := ⟨y 0, y 1, y 2, eq_ix3 y⟩
  obtain rfl : o = 0 := Subsingleton.elim _ _
  have he : (win0_9.blk t).view.emb (ix3 0 f d) = ix3 (jAt t) f d := by unfold jAt; blk_ext [idx t]
  exact (sumWd m c t hm f d).trans (Eq.symm ((congrArg _ he).trans (Cert.FfnRef.gradD_is h _ _ _)))
/-- The tokens': its fourth. -/
theorem final10 : (dats m 0 c).arrAt 10 cfg0.N = Cert.FfnRef.gradZ (aZ m c) (aG m c) (aU m c) (aD m c) (aT m c) := by
  refine (dats m 0 c).arrAt_eq_of_covers 10 _ (by decide +kernel) fun t hf y => ?_
  have hm := (flush0_10 t).mp hf
  blk_simp
  rw [after0_10]
  obtain ⟨r, d, rfl⟩ : ∃ (r : Fin 512) (d : Fin 1024), y = ix2 r d := ⟨y 0, y 1, eq_ix2 y⟩
  have he : (win0_10.blk t).view.emb (ix2 r d) = ix2 (tk (bAt t) r) d := by unfold tk bAt; blk_ext [idx10 t hm]
  exact (point10 m c t hm r d).trans (Eq.symm ((congrArg _ he).trans (Cert.FfnRef.gradZ_is h _ _)))

end Cert.Kernel2Ideal.Hand

end
-- ==== Proof.FfnAlgebraic.lean ====
module

public import proofs.«01_k».proof.Defs
public import proofs.«01_k».proof.Proof.Gen.Pre_finite2
public import proofs.«01_k».proof.Proof.FfnFinal

@[expose] public section

set_option maxRecDepth 16384

noncomputable section

/-! The four results of the version's feed-forward backward call are the reference's. -/

namespace Cert.Kernel2Ideal.Hand

open Cert.Kernel2Ideal Cert.Kernel2Ideal.Gen Cert.Ffn Cert.FfnRef
open Idealize.ShloMosaic Idealize.SL.Sem

/-- A number whose absolute value is below `+∞` is real. -/
theorem real_of_lt {x : EReal} (h : FloatOps.cmpf (F := Ideal) (φ := .f32) CmpFPredicate.olt (FloatOps.absf (F := Ideal) (φ := .f32) x) (Ideal.ofBits .f32 0x7F800000#32) = 1#1) : ∃ r : ℝ, x = (r : EReal) := by
  rw [Cert.Model.ofBits_top] at h
  induction x using EReal.rec with
  | coe r => exact ⟨r, rfl⟩
  | bot => exact absurd h (by simp [FloatOps.cmpf, FloatOps.absf, Ideal.cmp])
  | top => exact absurd h (by simp [FloatOps.cmpf, FloatOps.absf, Ideal.cmp])

/-- Under the precondition the network's arrays are real. -/
theorem fits (m : (ℓ : Loc nD τ sig) → Buf (Elt Ideal) ℓ) (h : Cert.Pre_Kernel2Ideal_finite2 m) (c : Dev nD) : Fits m c := by
  obtain ⟨h0, h2, h3, h4⟩ := h c
  have e0 : ∀ i, ∃ r : ℝ, aZ m c i = (r : EReal) := fun i => real_of_lt (congrFun h0 i)
  have e2 : ∀ i, ∃ r : ℝ, aU m c i = (r : EReal) := fun i => real_of_lt (congrFun h2 i)
  have e3 : ∀ i, ∃ r : ℝ, aD m c i = (r : EReal) := fun i => real_of_lt (congrFun h3 i)
  have e4 : ∀ i, ∃ r : ℝ, aT m c i = (r : EReal) := fun i => real_of_lt (congrFun h4 i)
  exact ⟨⟨fun s d => e0 (ix2 s d), fun d f => e2 (ix2 d f), fun f d => e3 (ix2 f d), fun s d => e4 (ix2 s d)⟩,
    fun _ _ => rfl, fun _ _ => rfl, fun _ _ => rfl, fun _ _ => rfl, fun _ _ => rfl⟩

section

variable (m : (ℓ : Loc nD τ sig) → Buf (Elt Ideal) ℓ) (c : Dev nD)

/-- The four gradients. -/
def resG : FVec Ideal S4x704x1024 .f32 := gradG (aZ m c) (aG m c) (aU m c) (aD m c) (aT m c)
def resU : FVec Ideal S4x704x1024 .f32 := gradU (aZ m c) (aG m c) (aD m c) (aT m c)
def resD : FVec Ideal S4x704x1024 .f32 := gradD (aZ m c) (aG m c) (aU m c) (aT m c)
def resZ : FVec Ideal S4096x1024 .f32 := gradZ (aZ m c) (aG m c) (aU m c) (aD m c) (aT m c)

end

/-- The version's run ends with them, and leaves its arguments alone. -/
theorem run_kernel (m : (ℓ : Loc nD τ sig) → Buf (Elt Ideal) ℓ) (g : Dev nD → PrngReg) (hpre : Cert.Pre_Kernel2Ideal_finite2 m) :
    θ_run defs (onTc (τ := τ) (main (F := Ideal))) ⟨m, fun _ => 0, g⟩ (fun r => ∀ c : Dev nD,
      r.2.mem ((c.tc : Thread nD τ).loc main_v16_0) = resG m c
      ∧ r.2.mem ((c.tc : Thread nD τ).loc main_v16_1) = resU m c
      ∧ r.2.mem ((c.tc : Thread nD τ).loc main_v16_2) = resD m c
      ∧ r.2.mem ((c.tc : Thread nD τ).loc main_v16_3) = resZ m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 7).trans (final7 (fits m hpre c)), ((h c).1 8).trans (final8 (fits m hpre c)), ((h c).1 9).trans (final9 (fits m hpre c)),
      ((h c).1 10).trans (final10 (fits m hpre c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m g)

/-- On finite tokens, up and down weights and incoming gradient, the version's gradients of the three weights and of the tokens are the reference's. -/
theorem algebraic : Cert.algebraic_Kernel2Ideal_Reference2Ideal_pre_finite2 := fun m g m' g' hpre hagree => by
  refine ⟨resG m, resU m, resD m, resZ m, run_kernel m g hpre, ?_⟩
  refine (θ_run Cert.Reference2Ideal.defs _ _).mono (fun _ h c => ?_) (Cert.Reference2Ideal.Value.run (F := Ideal) m' g')
  obtain ⟨h0, h1, h2, h3, h4⟩ := h c
  obtain ⟨a0, a1, a2, a3, a4⟩ := hagree c
  refine ⟨h0.trans ?_, h1.trans ?_, h2.trans ?_, h3.trans ?_, h4⟩
  · rw [a0, a1, a2, a3, a4]; rfl
  · rw [a0, a1, a3, a4]; rfl
  · rw [a0, a1, a2, a4]; rfl
  · rw [a0, a1, a2, a3, a4]; rfl

end Cert.Kernel2Ideal.Hand

end
-- ==== Proof.HeadModel.lean ====
module

public import proofs.«01_k».proof.Proof.FfnModel

@[expose] public section

noncomputable section

/-! The feed-forward network's output, the last norm, the loss and its gradients, as sums of extended reals. -/

namespace Cert.Head

open Idealize.ShloMosaic Cert.Ffn

/-- Row `r` of the block `b` of 256 tokens, among 4096. -/
def tk (b : Fin 16) (r : Fin 256) : Fin 4096 := ⟨256 * b.val + r.val, by omega⟩

/-- Sums over the tokens by blocks. -/
theorem sum_tk (F : Fin 4096 → EReal) : ∑ b, ∑ r, F (tk b r) = ∑ s, F s := by
  rw [← Fintype.sum_prod_type' (f := fun b r => F (tk b r))]
  exact Fintype.sum_equiv (finProdFinEquiv (m := 16) (n := 256)) _ _ fun x => congrArg F (Fin.ext (by
    show 256 * x.1.val + x.2.val = x.2.val + 256 * x.1.val; omega))

/-! ### The constants. -/

/-- `1024.0`, -/
theorem ofBits_lanes : Ideal.ofBits .f32 0x44800000#32 = ((1024 : ℝ) : EReal) := by
  simp [Ideal.ofBits, Ideal.ieee, -EReal.coe_mul]; norm_num
/-- its inverse, -/
theorem ofBits_inv : Ideal.ofBits .f32 0x3A800000#32 = ((1 / 1024 : ℝ) : EReal) := by
  simp [Ideal.ofBits, Ideal.ieee, -EReal.coe_mul]; norm_num
/-- a half, -/
theorem ofBits_half : Ideal.ofBits .f32 0x3F000000#32 = ((1 / 2 : ℝ) : EReal) := by
  simp [Ideal.ofBits, Ideal.ieee, -EReal.coe_mul]; norm_num
/-- minus a half, -/
theorem ofBits_neghalf : Ideal.ofBits .f32 0xBF000000#32 = ((-(1 / 2) : ℝ) : EReal) := by
  simp [Ideal.ofBits, Ideal.ieee, -EReal.coe_mul]; norm_num
/-- and the norm's epsilon, which is positive. -/
theorem ofBits_eps : ∃ r : ℝ, 0 < r ∧ Ideal.ofBits .f32 0x358637BD#32 = (r : EReal) := by
  refine ⟨_, ?_, rfl⟩
  simp

/-! ### One row of the norm. -/

/-- A row's mean square and the epsilon, -/
def mean2 (y : Fin 1024 → EReal) : EReal := Ideal.div (∑ d, y d * y d) (Ideal.ofBits .f32 0x44800000#32) + Ideal.ofBits .f32 0x358637BD#32
/-- and the inverse of its root. -/
def irms (y : Fin 1024 → EReal) : EReal := Ideal.rsqrt (mean2 y)

/-- The gradient of the row, as the kernel has it, -/
def back (y a : Fin 1024 → EReal) (d : Fin 1024) : EReal :=
  irms y * (a d - y d * irms y * Ideal.div (∑ k, a k * (y k * irms y)) (Ideal.ofBits .f32 0x44800000#32))
/-- and a part of it in the reference. -/
def part (y a : Fin 1024 → EReal) : EReal :=
  Ideal.div ((∑ k, y k * a k) * (Ideal.ofBits .f32 0xBF000000#32 * Ideal.div (irms y) (mean2 y))) (Ideal.ofBits .f32 0x44800000#32)

/-- A row has an infinite entry or is real. -/
theorem inf_or_real (y : Fin 1024 → EReal) : (∃ d, y d = ⊤ ∨ y d = ⊥) ∨ ∃ f : Fin 1024 → ℝ, ∀ d, y d = (f d : EReal) := by
  by_cases h : ∃ d, y d = ⊤ ∨ y d = ⊥
  · exact .inl h
  · refine .inr ⟨fun d => (y d).toReal, fun d => ?_⟩
    push Not at h
    exact (EReal.coe_toReal (h d).1 (h d).2).symm

theorem sq_nonneg' (x : EReal) : 0 ≤ x * x := by
  induction x using EReal.rec with
  | coe x => rw [← EReal.coe_mul]; exact_mod_cast mul_self_nonneg x
  | bot => simp
  | top => simp

/-- With an infinite entry the mean square is infinite, -/
theorem mean2_top {y : Fin 1024 → EReal} (h : ∃ d, y d = ⊤ ∨ y d = ⊥) : mean2 y = ⊤ := by
  obtain ⟨d, hd⟩ := h
  obtain ⟨e, _, he⟩ := ofBits_eps
  have hs : y d * y d = ⊤ := by rcases hd with h | h <;> rw [h] <;> simp
  have ht : ∑ k, y k * y k = ⊤ := by
    refine top_le_iff.mp (hs ▸ ?_)
    exact Finset.single_le_sum (f := fun k => y k * y k) (fun k _ => sq_nonneg' (y k)) (Finset.mem_univ d)
  unfold mean2
  rw [ht, he, ofBits_lanes, Ideal.div_coe (by norm_num), EReal.top_mul_coe_of_pos (by norm_num)]
  exact EReal.top_add_coe e

/-- else it is a positive real. -/
theorem mean2_real {y : Fin 1024 → EReal} {f : Fin 1024 → ℝ} (h : ∀ d, y d = (f d : EReal)) : ∃ m : ℝ, 0 < m ∧ mean2 y = (m : EReal) := by
  obtain ⟨e, he0, he⟩ := ofBits_eps
  refine ⟨(∑ d, f d * f d) / 1024 + e, add_pos_of_nonneg_of_pos (div_nonneg (Finset.sum_nonneg fun d _ => mul_self_nonneg _) (by norm_num)) he0, ?_⟩
  unfold mean2
  rw [Cert.Model.sum_eq_coe (fun d => f d * f d) fun d => by rw [h, EReal.coe_mul], he, ofBits_lanes, Cert.Model.div_real _ (by norm_num), EReal.coe_add]

/-- A positive real comes out of a sum. -/
theorem sum_mul_pos {ι : Type} [Fintype ι] (f : ι → EReal) {r : ℝ} (hr : 0 ≤ r) : ∑ i, f i * (r : EReal) = (∑ i, f i) * (r : EReal) := by
  classical
  induction (Finset.univ : Finset ι) using Finset.induction_on with
  | empty => simp
  | insert a s ha ih =>
    rw [Finset.sum_insert ha, Finset.sum_insert ha, ih, EReal.right_distrib_of_nonneg_of_ne_top (by exact_mod_cast hr) (EReal.coe_ne_top r)]

/-- The two forms of the gradient are the same. -/
theorem back_eq (y a : Fin 1024 → EReal) (d : Fin 1024) : a d * irms y + y d * part y a + part y a * y d = back y a d := by
  rcases inf_or_real y with h | ⟨f, h⟩
  · have hm := mean2_top h
    have hr : irms y = 0 := by unfold irms; rw [hm]; rfl
    have hd : Ideal.div (irms y) (mean2 y) = 0 := by rw [hr, hm]; unfold Ideal.div; rw [if_neg (by simp), zero_mul]
    have hp : part y a = 0 := by
      unfold part
      rw [hd, mul_zero, mul_zero, ofBits_lanes, Ideal.div_coe (by norm_num), zero_mul]
    unfold back
    rw [hr, hp, mul_zero, mul_zero, zero_mul, zero_mul, add_zero, add_zero]
  · obtain ⟨m, hm0, hm⟩ := mean2_real h
    have hr : irms y = (((Real.sqrt m)⁻¹ : ℝ) : EReal) := by
      unfold irms
      rw [hm, Ideal.rsqrt_coe, if_neg (not_lt.mpr hm0.le), if_neg hm0.ne']
    have hpos : 0 < (Real.sqrt m)⁻¹ := inv_pos.mpr (Real.sqrt_pos.mpr hm0)
    have hrr : (Real.sqrt m)⁻¹ * (Real.sqrt m)⁻¹ = 1 / m := by rw [← mul_inv, Real.mul_self_sqrt hm0.le, one_div]
    unfold back part
    rw [hr, hm, ofBits_lanes, ofBits_neghalf, Cert.Model.div_real _ hm0.ne', ← EReal.coe_mul, Ideal.div_coe (by norm_num), Ideal.div_coe (by norm_num)]
    have hs : ∑ k, a k * (y k * (((Real.sqrt m)⁻¹ : ℝ) : EReal)) = (∑ k, y k * a k) * (((Real.sqrt m)⁻¹ : ℝ) : EReal) := by
      rw [← sum_mul_pos _ hpos.le]
      exact Finset.sum_congr rfl fun k _ => by rw [← mul_assoc, mul_comm (a k)]
    rw [hs]
    generalize (∑ k, y k * a k) = S
    generalize (Real.sqrt m)⁻¹ = r at *
    rw [sub_eq_add_neg, EReal.left_distrib_of_nonneg_of_ne_top (by exact_mod_cast hpos.le) (EReal.coe_ne_top r), h d]
    have e1 : (r : EReal) * -((f d : EReal) * r * (S * r * ((1 / 1024 : ℝ) : EReal))) = S * ((-(r * (f d * r * (r * (1 / 1024)))) : ℝ) : EReal) := by
      rw [mul_neg, EReal.coe_neg, mul_neg]
      congr 1
      simp only [EReal.coe_mul]
      ac_rfl
    have e2 : (f d : EReal) * (S * ((-(1 / 2) * (r / m) : ℝ) : EReal) * ((1 / 1024 : ℝ) : EReal)) = S * ((f d * (-(1 / 2) * (r / m)) * (1 / 1024) : ℝ) : EReal) := by
      simp only [EReal.coe_mul]
      ac_rfl
    have e3 : ∀ v : ℝ, S * (v : EReal) + S * (v : EReal) = S * ((2 * v : ℝ) : EReal) := fun v => by
      rw [two_mul, EReal.coe_add]
      rcases le_total 0 v with hv | hv
      · exact (EReal.left_distrib_of_nonneg (by exact_mod_cast hv) (by exact_mod_cast hv)).symm
      · have := (EReal.left_distrib_of_nonneg (a := (((-v : ℝ)) : EReal)) (b := ((-v : ℝ) : EReal)) (c := -S) (by exact_mod_cast neg_nonneg.mpr hv) (by exact_mod_cast neg_nonneg.mpr hv)).symm
        rw [← EReal.coe_add]
        rw [← EReal.coe_add] at this
        simp only [EReal.coe_neg, neg_mul, mul_neg, neg_neg, ← neg_add] at this
        exact this
    rw [e1, mul_comm _ (f d : EReal), e2, add_assoc, e3, mul_comm (a d)]
    congr 3
    have : r * (f d * r * (r * (1 / 1024))) = f d * (1 / 1024) * r * (1 / m) := by rw [← hrr]; ring
    rw [this]; ring

/-! ### The network. -/

/-- The tokens, the residual stream, the targets, the norm's scale and the three weights. -/
structure Net where
  z : Fin 4096 → Fin 1024 → EReal
  h : Fin 4096 → Fin 1024 → EReal
  t : Fin 4096 → Fin 1024 → EReal
  w : Fin 1024 → EReal
  wg : Fin 1024 → Fin 2816 → EReal
  wu : Fin 1024 → Fin 2816 → EReal
  wd : Fin 2816 → Fin 1024 → EReal

namespace Net

variable (N : Net)

/-- The gate's logits, -/
def g (s : Fin 4096) (f : Fin 2816) : EReal := ∑ d, N.z s d * N.wg d f
/-- the other factor, -/
def u (s : Fin 4096) (f : Fin 2816) : EReal := ∑ d, N.z s d * N.wu d f
/-- their gated product, -/
def a (s : Fin 4096) (f : Fin 2816) : EReal := N.g s f * Ideal.logistic (N.g s f) * N.u s f
/-- the output, -/
def y (s : Fin 4096) (d : Fin 1024) : EReal := ∑ f, N.a s f * N.wd f d
/-- normed, -/
def xn (s : Fin 4096) (d : Fin 1024) : EReal := N.y s d * irms (N.y s)
/-- and the error. -/
def e (s : Fin 4096) (d : Fin 1024) : EReal := N.h s d + N.xn s d * N.w d - N.t s d
/-- The squared errors over the tokens, -/
def sq (d : Fin 1024) : EReal := ∑ s, N.e s d * N.e s d
/-- the gradient of the residual stream, -/
def dh (s : Fin 4096) (d : Fin 1024) : EReal := N.e s d * Ideal.ofBits .f32 0x3A800000#32
/-- of the norm's scale -/
def dw (d : Fin 1024) : EReal := ∑ s, N.dh s d * N.xn s d
/-- and of the output. -/
def dy (s : Fin 4096) (d : Fin 1024) : EReal := back (N.y s) (fun k => N.dh s k * N.w k) d

end Net

/-- Half of twice a number, over the lanes. -/
theorem dh_eq (x : EReal) : Ideal.div (Ideal.ofBits .f32 0x3F000000#32 * 1) (Ideal.ofBits .f32 0x44800000#32) * (Ideal.ofBits .f32 0x40000000#32 * x)
    = x * Ideal.ofBits .f32 0x3A800000#32 := by
  rw [ofBits_half, ofBits_lanes, ofBits_inv, Cert.Model.ofBits_two, mul_one, Cert.Model.div_real _ (by norm_num), ← mul_assoc, ← EReal.coe_mul, mul_comm]
  congr 2; norm_num

end Cert.Head

end
-- ==== Proof.HeadOps.lean ====
module

public import proofs.«01_k».proof.Proof.Gen.Kernel3Ideal.Frame
public import proofs.«01_k».proof.Proof.HeadModel
public import Idealize.ShloMosaic.Lib.Pipeline.ValueKit
public import Idealize.ShloMosaic.Lib.Pointwise

@[expose] public section

set_option maxRecDepth 16384

noncomputable section

/-! What a grid point of the feed-forward network's forward call computes, read at an index. -/

namespace Cert.Kernel3Ideal.Hand

open Cert.Kernel3Ideal Cert.Kernel3Ideal.Gen Cert.Head
open Cert.Ffn (hid sum_hid)
open Idealize.ShloMosaic Idealize.ShloMosaic.TcCoe Idealize.SL.Sem

/-- The shards of a weight. -/
def pc0 (X : Vec Ideal S4x704x1024 .bf16) : Vec Ideal S1x704x1024 .bf16 := View.ld X (Rect.unit ![0, 0, 0] ![1, 704, 1024] inb_S4x704x1024_S1x704x1024_0_0_0)
def pc1 (X : Vec Ideal S4x704x1024 .bf16) : Vec Ideal S1x704x1024 .bf16 := View.ld X (Rect.unit ![1, 0, 0] ![1, 704, 1024] inb_S4x704x1024_S1x704x1024_1_0_0)
def pc2 (X : Vec Ideal S4x704x1024 .bf16) : Vec Ideal S1x704x1024 .bf16 := View.ld X (Rect.unit ![2, 0, 0] ![1, 704, 1024] inb_S4x704x1024_S1x704x1024_2_0_0)
def pc3 (X : Vec Ideal S4x704x1024 .bf16) : Vec Ideal S1x704x1024 .bf16 := View.ld X (Rect.unit ![3, 0, 0] ![1, 704, 1024] inb_S4x704x1024_S1x704x1024_3_0_0)

theorem pc0_at (X : Vec Ideal S4x704x1024 .bf16) (f : Fin 704) (d : Fin 1024) : pc0 X (ix3 0 f d) = X (ix3 0 f d) :=
  View.ld_unit_apply_of X _ _ _ _ _ (by intro a; fin_cases a <;> simp)
theorem pc1_at (X : Vec Ideal S4x704x1024 .bf16) (f : Fin 704) (d : Fin 1024) : pc1 X (ix3 0 f d) = X (ix3 1 f d) :=
  View.ld_unit_apply_of X _ _ _ _ _ (by intro a; fin_cases a <;> simp)
theorem pc2_at (X : Vec Ideal S4x704x1024 .bf16) (f : Fin 704) (d : Fin 1024) : pc2 X (ix3 0 f d) = X (ix3 2 f d) :=
  View.ld_unit_apply_of X _ _ _ _ _ (by intro a; fin_cases a <;> simp)
theorem pc3_at (X : Vec Ideal S4x704x1024 .bf16) (f : Fin 704) (d : Fin 1024) : pc3 X (ix3 0 f d) = X (ix3 3 f d) :=
  View.ld_unit_apply_of X _ _ _ _ _ (by intro a; fin_cases a <;> simp)

theorem pay4_at (x : Vec Ideal S256x1024 .bf16) (r : Fin 256) (d : Fin 1024) : k0_pay4 x (ix2 r d) = x (ix2 r d) := by
  pointwise [k0_pay4]
theorem pay12_at (x : FVec Ideal S256x1024 .bf16) (w : Vec Ideal S1x704x1024 .bf16) (r : Fin 256) (f : Fin 704) :
    k0_pay12 x w (ix2 r f) = ∑ d, (x (ix2 r d) : EReal) * w (ix3 0 f d) := by
  pointwise! [k0_pay12]
theorem pay13_at (v : FVec Ideal S256x704 .f32) (r : Fin 256) (f : Fin 704) : k0_pay13 v (ix3 0 r f) = v (ix2 r f) := by
  pointwise [k0_pay13]
theorem pay18_at (g u : FVec Ideal S256x704 .f32) (w : Vec Ideal S1x704x1024 .bf16) (r : Fin 256) (d : Fin 1024) :
    k0_pay18 g u w (ix2 r d) = ∑ f, (g (ix2 r f) : EReal) * Ideal.logistic (g (ix2 r f)) * u (ix2 r f) * w (ix3 0 f d) := by
  pointwise! [k0_pay18]
theorem pay15_at (g u : FVec Ideal S256x704 .f32) (w : Vec Ideal S1x704x1024 .bf16) (r : Fin 256) (d : Fin 1024) :
    k0_pay15 g u w (ix2 r d) = k0_pay18 g u w (ix2 r d) := by
  show (Ideal.ofBits .f32 0x00000000#32 : EReal) + k0_pay18 g u w (ix2 r d) = _
  rw [Ideal.ofBits_zero_f32, zero_add]

/-- The output of the network, -/
def outY (x0 : Vec Ideal S256x1024 .bf16) (x4 x5 x6 : Vec Ideal S4x704x1024 .bf16) : FVec Ideal S256x1024 .f32 :=
  k0_pay23 (k0_pay7 x0 (pc2 x4)) (k0_pay8 x0 (pc3 x4)) (k0_pay11 x0 (pc2 x5)) (k0_pay12 (k0_pay4 x0) (pc3 x5))
    (k0_pay15 (k0_pay5 x0 (pc0 x4)) (k0_pay9 x0 (pc0 x5)) (pc0 x6)) (k0_pay18 (k0_pay6 x0 (pc1 x4)) (k0_pay10 x0 (pc1 x5)) (pc1 x6)) (pc2 x6) (pc3 x6)
/-- and the sums of its rows' squares. -/
def sumsq (y : FVec Ideal S256x1024 .f32) : FVec Ideal S256 .f32 :=
  multiReduction .add [1] S256 (mulf y y) 0x00000000#32 reduces_S256x1024_S256 (.inl rfl) rfl

theorem outY_eq (x0 : Vec Ideal S256x1024 .bf16) (x4 x5 x6 : Vec Ideal S4x704x1024 .bf16) : outY x0 x4 x5 x6
    = addf (addf (addf (k0_pay15 (k0_pay12 (k0_pay4 x0) (pc0 x4)) (k0_pay12 (k0_pay4 x0) (pc0 x5)) (pc0 x6))
        (k0_pay18 (k0_pay12 (k0_pay4 x0) (pc1 x4)) (k0_pay12 (k0_pay4 x0) (pc1 x5)) (pc1 x6)))
        (k0_pay18 (k0_pay12 (k0_pay4 x0) (pc2 x4)) (k0_pay12 (k0_pay4 x0) (pc2 x5)) (pc2 x6)))
        (k0_pay18 (k0_pay12 (k0_pay4 x0) (pc3 x4)) (k0_pay12 (k0_pay4 x0) (pc3 x5)) (pc3 x6)) := rfl

theorem sumsq_at (y : FVec Ideal S256x1024 .f32) (r : Fin 256) : sumsq y (ix1 r) = ∑ d, (y (ix2 r d) : EReal) * y (ix2 r d) := by
  pointwise [sumsq]
theorem pay26_at (q : FVec Ideal S256 .f32) (r : Fin 256) : k0_pay26 q (ix2 r 0)
    = Ideal.rsqrt (Ideal.div (q (ix1 r)) (Ideal.ofBits .f32 0x44800000#32) + Ideal.ofBits .f32 0x358637BD#32) := by
  pointwise [k0_pay26]
theorem pay27_at (y : FVec Ideal S256x1024 .f32) (q : FVec Ideal S256 .f32) (r : Fin 256) (d : Fin 1024) :
    k0_pay27 y q (ix2 r d) = (y (ix2 r d) : EReal) * k0_pay26 q (ix2 r 0) := by
  pointwise [k0_pay27]
theorem pay28_at (y : FVec Ideal S256x1024 .f32) (w : FVec Ideal S1x1024 .f32) (q : FVec Ideal S256 .f32) (h t : Vec Ideal S256x1024 .f32) (r : Fin 256) (d : Fin 1024) :
    k0_pay28 y w q h t (ix2 r d) = (h (ix2 r d) : EReal) + k0_pay27 y q (ix2 r d) * w (ix2 0 d) - t (ix2 r d) := by
  pointwise [k0_pay28]
theorem pay24_at (w : Vec Ideal S1x1024 .f32) (d : Fin 1024) : k0_pay24 w (ix2 0 d) = w (ix2 0 d) := by
  pointwise [k0_pay24]
theorem pay29_at (y : FVec Ideal S256x1024 .f32) (w : FVec Ideal S1x1024 .f32) (q : FVec Ideal S256 .f32) (h t : Vec Ideal S256x1024 .f32) (o : Vec Ideal S1x1024 .f32) (d : Fin 1024) :
    k0_pay29 y w q h t o (ix2 0 d) = (o (ix2 0 d) : EReal) + ∑ r, (k0_pay28 y w q h t (ix2 r d) : EReal) * k0_pay28 y w q h t (ix2 r d) := by
  pointwise [k0_pay29]
theorem pay30_at (y : FVec Ideal S256x1024 .f32) (w : FVec Ideal S1x1024 .f32) (q : FVec Ideal S256 .f32) (h t : Vec Ideal S256x1024 .f32) (r : Fin 256) (d : Fin 1024) :
    k0_pay30 y w q h t (ix2 r d) = (k0_pay28 y w q h t (ix2 r d) : EReal) * Ideal.ofBits .f32 0x3A800000#32 := by
  pointwise [k0_pay30]
theorem pay31_at (y : FVec Ideal S256x1024 .f32) (w : FVec Ideal S1x1024 .f32) (q : FVec Ideal S256 .f32) (h t : Vec Ideal S256x1024 .f32) (d : Fin 1024) :
    k0_pay31 y w q h t (ix2 0 d) = ∑ r, (k0_pay30 y w q h t (ix2 r d) : EReal) * k0_pay27 y q (ix2 r d) := by
  pointwise [k0_pay31]
theorem pay32_at (y : FVec Ideal S256x1024 .f32) (w : FVec Ideal S1x1024 .f32) (q : FVec Ideal S256 .f32) (h t : Vec Ideal S256x1024 .f32) (r : Fin 256) (d : Fin 1024) :
    k0_pay32 y w q h t (ix2 r d) = (k0_pay26 q (ix2 r 0) : EReal) * ((k0_pay30 y w q h t (ix2 r d) : EReal) * w (ix2 0 d)
      - (k0_pay27 y q (ix2 r d) : EReal) * Ideal.div (∑ k, (k0_pay30 y w q h t (ix2 r k) : EReal) * w (ix2 0 k) * k0_pay27 y q (ix2 r k)) (Ideal.ofBits .f32 0x44800000#32)) := by
  pointwise [k0_pay32]
theorem pay1_at (v : FVec Ideal S1x1024 .f32) (o : Vec Ideal S1x1024 .f32) (d : Fin 1024) : k0_pay1 v o (ix2 0 d) = (o (ix2 0 d) : EReal) + v (ix2 0 d) := by
  pointwise [k0_pay1]
theorem pay2_at (d : Fin 1024) : (k0_pay2 (F := Ideal)) (ix2 0 d) = (0 : EReal) := by
  pointwise [k0_pay2]
theorem pay3_at (d : Fin 1024) : (k0_pay3 (F := Ideal)) (ix2 0 d) = (0 : EReal) := by
  pointwise [k0_pay3]

/-- The blocks that a grid point reads are a network's. -/
structure PtIs (N : Net) (b : Fin 16) (x0 : Vec Ideal S256x1024 .bf16) (x1 x2 : Vec Ideal S256x1024 .f32) (x3 : Vec Ideal S1x1024 .f32)
    (x4 x5 x6 : Vec Ideal S4x704x1024 .bf16) : Prop where
  z : ∀ r d, x0 (ix2 r d) = N.z (tk b r) d
  h : ∀ r d, x1 (ix2 r d) = N.h (tk b r) d
  t : ∀ r d, x2 (ix2 r d) = N.t (tk b r) d
  w : ∀ d, x3 (ix2 0 d) = N.w d
  wg : ∀ j f d, x4 (ix3 j f d) = N.wg d (hid j f)
  wu : ∀ j f d, x5 (ix3 j f d) = N.wu d (hid j f)
  wd : ∀ j f d, x6 (ix3 j f d) = N.wd (hid j f) d

section

variable {N : Net} {b : Fin 16} {x0 : Vec Ideal S256x1024 .bf16} {x1 x2 : Vec Ideal S256x1024 .f32} {x3 : Vec Ideal S1x1024 .f32}
  {x4 x5 x6 : Vec Ideal S4x704x1024 .bf16} (h : PtIs N b x0 x1 x2 x3 x4 x5 x6)
include h

theorem g_is (j : Fin 4) (p : Vec Ideal S1x704x1024 .bf16) (hp : ∀ f d, p (ix3 0 f d) = x4 (ix3 j f d)) (r : Fin 256) (f : Fin 704) :
    k0_pay12 (k0_pay4 x0) p (ix2 r f) = N.g (tk b r) (hid j f) := by
  rw [pay12_at]
  exact Finset.sum_congr rfl fun d _ => by rw [pay4_at, hp, h.z, h.wg]
theorem u_is (j : Fin 4) (p : Vec Ideal S1x704x1024 .bf16) (hp : ∀ f d, p (ix3 0 f d) = x5 (ix3 j f d)) (r : Fin 256) (f : Fin 704) :
    k0_pay12 (k0_pay4 x0) p (ix2 r f) = N.u (tk b r) (hid j f) := by
  rw [pay12_at]
  exact Finset.sum_congr rfl fun d _ => by rw [pay4_at, hp, h.z, h.wu]

/-- What a shard adds to the output. -/
theorem shard_is (j : Fin 4) (p q o : Vec Ideal S1x704x1024 .bf16) (hp : ∀ f d, p (ix3 0 f d) = x4 (ix3 j f d)) (hq : ∀ f d, q (ix3 0 f d) = x5 (ix3 j f d))
    (ho : ∀ f d, o (ix3 0 f d) = x6 (ix3 j f d)) (r : Fin 256) (d : Fin 1024) :
    k0_pay18 (k0_pay12 (k0_pay4 x0) p) (k0_pay12 (k0_pay4 x0) q) o (ix2 r d) = ∑ f, N.a (tk b r) (hid j f) * N.wd (hid j f) d := by
  rw [pay18_at]
  exact Finset.sum_congr rfl fun f _ => by rw [g_is h j p hp, u_is h j q hq, ho, h.wd]; rfl

theorem y_is (r : Fin 256) (d : Fin 1024) : outY x0 x4 x5 x6 (ix2 r d) = N.y (tk b r) d := by
  rw [outY_eq]
  refine (congrArg₂ (fun x y : EReal => x + y) (congrArg₂ (fun x y : EReal => x + y) (congrArg₂ (fun x y : EReal => x + y)
    ((pay15_at _ _ _ r d).trans (shard_is h 0 _ _ _ (pc0_at x4) (pc0_at x5) (pc0_at x6) r d)) (shard_is h 1 _ _ _ (pc1_at x4) (pc1_at x5) (pc1_at x6) r d))
    (shard_is h 2 _ _ _ (pc2_at x4) (pc2_at x5) (pc2_at x6) r d)) (shard_is h 3 _ _ _ (pc3_at x4) (pc3_at x5) (pc3_at x6) r d)).trans ?_
  refine Eq.trans ?_ (sum_hid fun f => N.a (tk b r) f * N.wd f d)
  rw [Fin.sum_univ_four]

theorem inv_is (r : Fin 256) : k0_pay26 (sumsq (outY x0 x4 x5 x6)) (ix2 r 0) = irms (N.y (tk b r)) := by
  rw [pay26_at, sumsq_at]
  unfold irms mean2
  exact congrArg (fun s => Ideal.rsqrt (Ideal.div s (Ideal.ofBits .f32 0x44800000#32) + Ideal.ofBits .f32 0x358637BD#32)) (Finset.sum_congr rfl fun d _ => by rw [y_is h])

theorem xn_is (r : Fin 256) (d : Fin 1024) : k0_pay27 (outY x0 x4 x5 x6) (sumsq (outY x0 x4 x5 x6)) (ix2 r d) = N.xn (tk b r) d := by
  rw [pay27_at, inv_is h, y_is h]; rfl
theorem e_is (r : Fin 256) (d : Fin 1024) : k0_pay28 (outY x0 x4 x5 x6) (k0_pay24 x3) (sumsq (outY x0 x4 x5 x6)) x1 x2 (ix2 r d) = N.e (tk b r) d := by
  rw [pay28_at, xn_is h, pay24_at, h.h, h.t, h.w]; rfl
theorem dh_is (r : Fin 256) (d : Fin 1024) : k0_pay30 (outY x0 x4 x5 x6) (k0_pay24 x3) (sumsq (outY x0 x4 x5 x6)) x1 x2 (ix2 r d) = N.dh (tk b r) d := by
  rw [pay30_at, e_is h]; rfl
/-- The gradient of the output, -/
theorem dy_is (r : Fin 256) (d : Fin 1024) : k0_pay32 (outY x0 x4 x5 x6) (k0_pay24 x3) (sumsq (outY x0 x4 x5 x6)) x1 x2 (ix2 r d) = N.dy (tk b r) d := by
  rw [pay32_at, inv_is h, dh_is h, xn_is h, pay24_at, h.w]
  unfold Net.dy back
  refine congrArg (fun s => irms (N.y (tk b r)) * (N.dh (tk b r) d * N.w d - N.xn (tk b r) d * Ideal.div s (Ideal.ofBits .f32 0x44800000#32))) ?_
  exact Finset.sum_congr rfl fun k _ => by rw [dh_is h, xn_is h, pay24_at, h.w]; rfl
/-- what a point adds to the squared errors -/
theorem sq_is (o : Vec Ideal S1x1024 .f32) (d : Fin 1024) : k0_pay29 (outY x0 x4 x5 x6) (k0_pay24 x3) (sumsq (outY x0 x4 x5 x6)) x1 x2 o (ix2 0 d)
    = (o (ix2 0 d) : EReal) + ∑ r, N.e (tk b r) d * N.e (tk b r) d := by
  rw [pay29_at]
  exact congrArg _ (Finset.sum_congr rfl fun r _ => by rw [e_is h])
/-- and to the gradient of the scale. -/
theorem dw_is (o : Vec Ideal S1x1024 .f32) (d : Fin 1024) :
    k0_pay1 (k0_pay31 (outY x0 x4 x5 x6) (k0_pay24 x3) (sumsq (outY x0 x4 x5 x6)) x1 x2) o (ix2 0 d)
    = (o (ix2 0 d) : EReal) + ∑ r, N.dh (tk b r) d * N.xn (tk b r) d := by
  rw [pay1_at, pay31_at]
  exact congrArg _ (Finset.sum_congr rfl fun r _ => by rw [dh_is h, xn_is h])

end

end Cert.Kernel3Ideal.Hand

end
-- ==== Proof.HeadBlocks.lean ====
module

public import proofs.«01_k».proof.Proof.HeadOps

@[expose] public section

set_option maxRecDepth 16384

noncomputable section

/-! What the feed-forward network's forward call is given, the blocks that its grid points read, and what they leave. -/

namespace Cert.Kernel3Ideal.Hand

open Cert.Kernel3Ideal Cert.Kernel3Ideal.Gen Cert.Head
open Cert.Ffn (hid sum_hid)
open Idealize.ShloMosaic Idealize.ShloMosaic.TcCoe Idealize.SL.Sem

/-- A weight's rows by shards, -/
def parts (w : FVec Ideal S2816x1024 .f32) : FVec Ideal S4x704x1024 .bf16 :=
  truncf .bf16 (shapeCast S4x704x1024 w shapeCasts_S2816x1024_S4x704x1024) bitsLt_bf16_f32
/-- its columns, -/
def turned (w : FVec Ideal S1024x2816 .f32) : FVec Ideal S2816x1024 .f32 := transpose S2816x1024 [1, 0] w transposes_S1024x2816_S2816x1024_1_0
/-- the tokens' lanes -/
def narrow (x : FVec Ideal S4096x1024 .f32) : FVec Ideal S4096x1024 .bf16 := truncf .bf16 x bitsLt_bf16_f32
/-- and the scale as a row. -/
def row (w : FVec Ideal S1024 .f32) : FVec Ideal S1x1024 .f32 := shapeCast S1x1024 w shapeCasts_S1024_S1x1024

theorem parts_at (w : FVec Ideal S2816x1024 .f32) (j : Fin 4) (f : Fin 704) (d : Fin 1024) : parts w (ix3 j f d) = w (ix2 (hid j f) d) := by
  pointwise! [parts]
theorem turned_at (w : FVec Ideal S1024x2816 .f32) (f : Fin 2816) (d : Fin 1024) : turned w (ix2 f d) = w (ix2 d f) := by
  pointwise [turned]
theorem row_at (w : FVec Ideal S1024 .f32) (d : Fin 1024) : row w (ix2 0 d) = w (ix1 d) := by
  pointwise [row]

/-- A network's arrays. -/
def netOf (z h t : FVec Ideal S4096x1024 .f32) (w : FVec Ideal S1024 .f32) (wg wu : FVec Ideal S1024x2816 .f32) (wd : FVec Ideal S2816x1024 .f32) : Net where
  z s d := z (ix2 s d)
  h s d := h (ix2 s d)
  t s d := t (ix2 s d)
  w d := w (ix1 d)
  wg d f := wg (ix2 d f)
  wu d f := wu (ix2 d f)
  wd f d := wd (ix2 f d)

variable (m : (ℓ : Loc nD τ sig) → Buf (Elt Ideal) ℓ) (c : Dev nD)

/-- The program's arguments. -/
abbrev aZ : FVec Ideal S4096x1024 .f32 := m ((c.tc : Thread nD τ).loc main_arg0)
abbrev aH : FVec Ideal S4096x1024 .f32 := m ((c.tc : Thread nD τ).loc main_arg1)
abbrev aT : FVec Ideal S4096x1024 .f32 := m ((c.tc : Thread nD τ).loc main_arg2)
abbrev aW : FVec Ideal S1024 .f32 := m ((c.tc : Thread nD τ).loc main_arg3)
abbrev aG : FVec Ideal S1024x2816 .f32 := m ((c.tc : Thread nD τ).loc main_arg4)
abbrev aU : FVec Ideal S1024x2816 .f32 := m ((c.tc : Thread nD τ).loc main_arg5)
abbrev aD : FVec Ideal S2816x1024 .f32 := m ((c.tc : Thread nD τ).loc main_arg6)
/-- Their network. -/
abbrev net : Net := netOf (aZ m c) (aH m c) (aT m c) (aW m c) (aG m c) (aU m c) (aD m c)

/-- The call's operands are these. -/
theorem V0 : V m c main_v0 = narrow (aZ m c) := by entry_read; rfl
theorem V1 : V m c main_v1 = row (aW m c) := by entry_read; rfl
theorem V4 : V m c main_v4 = parts (turned (aG m c)) := by entry_read; rfl
theorem V7 : V m c main_v7 = parts (turned (aU m c)) := by entry_read; rfl
theorem V9 : V m c main_v9 = parts (aD m c) := by entry_read; rfl

/-- The windows' index maps. -/
theorem idx : ∀ t : Fin cfg0.N, win0_0.index t = ![t.val, 0] ∧ win0_1.index t = ![t.val, 0] ∧ win0_2.index t = ![t.val, 0] ∧ win0_3.index t = ![0, 0]
    ∧ win0_4.index t = ![0, 0, 0] ∧ win0_5.index t = ![0, 0, 0] ∧ win0_6.index t = ![0, 0, 0] ∧ win0_7.index t = ![0, t.val, 0] ∧ win0_8.index t = ![0, t.val, 0]
    ∧ win0_9.index t = ![t.val, 0] ∧ win0_10.index t = ![t.val, 0] ∧ win0_11.index t = ![0, 0] ∧ win0_12.index t = ![0, 0] :=
  (by decide +kernel : ∀ t : Fin grid0.N, _)

variable (t : Fin cfg0.N)

theorem lt16 : t.val < 16 := lt_of_lt_of_eq t.isLt (show cfg0.N = 16 from N_0)

/-- A grid point's block of tokens. -/
def bAt : Fin 16 := ⟨t.val, lt16 t⟩

theorem rd0 (r : Fin 256) (d : Fin 1024) (s : Fin 4096) (hs : s.val = 256 * t.val + r.val) : iblk m c 0 t (ix2 r d) = V m c main_v0 (ix2 s d) := by
  blk_ext [iblk, idx t]
theorem rd1 (r : Fin 256) (d : Fin 1024) (s : Fin 4096) (hs : s.val = 256 * t.val + r.val) : iblk m c 1 t (ix2 r d) = V m c main_arg1 (ix2 s d) := by
  blk_ext [iblk, idx t]
theorem rd2 (r : Fin 256) (d : Fin 1024) (s : Fin 4096) (hs : s.val = 256 * t.val + r.val) : iblk m c 2 t (ix2 r d) = V m c main_arg2 (ix2 s d) := by
  blk_ext [iblk, idx t]
theorem rd3 (d : Fin 1024) : iblk m c 3 t (ix2 0 d) = V m c main_v1 (ix2 0 d) := by
  blk_ext [iblk, idx t]
theorem rd4 (j : Fin 4) (f : Fin 704) (d : Fin 1024) : iblk m c 4 t (ix3 j f d) = V m c main_v4 (ix3 j f d) := by
  blk_ext [iblk, idx t]
theorem rd5 (j : Fin 4) (f : Fin 704) (d : Fin 1024) : iblk m c 5 t (ix3 j f d) = V m c main_v7 (ix3 j f d) := by
  blk_ext [iblk, idx t]
theorem rd6 (j : Fin 4) (f : Fin 704) (d : Fin 1024) : iblk m c 6 t (ix3 j f d) = V m c main_v9 (ix3 j f d) := by
  blk_ext [iblk, idx t]

/-- The blocks that a grid point reads are the network's. -/
theorem pt_is : PtIs (net m c) (bAt t) (iblk m c 0 t) (iblk m c 1 t) (iblk m c 2 t) (iblk m c 3 t) (iblk m c 4 t) (iblk m c 5 t) (iblk m c 6 t) := by
  refine ⟨fun r d => ?_, fun r d => ?_, fun r d => ?_, fun d => ?_, fun j f d => ?_, fun j f d => ?_, fun j f d => ?_⟩
  · rw [rd0 m c t r d (tk (bAt t) r) rfl, V0]; rfl
  · rw [rd1 m c t r d (tk (bAt t) r) rfl, V_main_arg1]; rfl
  · rw [rd2 m c t r d (tk (bAt t) r) rfl, V_main_arg2]; rfl
  · rw [rd3 m c t d, V1, row_at]; rfl
  · rw [rd4 m c t j f d, V4, parts_at, turned_at]; rfl
  · rw [rd5 m c t j f d, V7, parts_at, turned_at]; rfl
  · rw [rd6 m c t j f d, V9, parts_at]; rfl

/-- The output at a grid point. -/
abbrev yAt : FVec Ideal S256x1024 .f32 := outY (iblk m c 0 t) (iblk m c 4 t) (iblk m c 5 t) (iblk m c 6 t)

theorem out10 : (outsAt0 m c t.val t.isLt).2.2.2.1 = k0_pay30 (yAt m c t) (k0_pay24 (iblk m c 3 t)) (sumsq (yAt m c t)) (iblk m c 1 t) (iblk m c 2 t) := by
  by_cases h : t.val % 16 = 0
  · rw [outsAt0_A m c t h]; frame_out; rfl
  · rw [outsAt0_B m c t h]; frame_out; rfl
theorem out9 : (outsAt0 m c t.val t.isLt).2.2.1 = k0_pay32 (yAt m c t) (k0_pay24 (iblk m c 3 t)) (sumsq (yAt m c t)) (iblk m c 1 t) (iblk m c 2 t) := by
  by_cases h : t.val % 16 = 0
  · rw [outsAt0_A m c t h]; frame_out; rfl
  · rw [outsAt0_B m c t h]; frame_out; rfl

theorem out11A (h : t.val % 16 = 0) : (outsAt0 m c t.val t.isLt).2.2.2.2.1
    = k0_pay29 (yAt m c t) (k0_pay24 (iblk m c 3 t)) (sumsq (yAt m c t)) (iblk m c 1 t) (iblk m c 2 t) (k0_pay2 (F := Ideal)) := by
  rw [outsAt0_A m c t h]; frame_out; rfl
theorem out12A (h : t.val % 16 = 0) : (outsAt0 m c t.val t.isLt).2.2.2.2.2
    = k0_pay1 (k0_pay31 (yAt m c t) (k0_pay24 (iblk m c 3 t)) (sumsq (yAt m c t)) (iblk m c 1 t) (iblk m c 2 t)) (k0_pay3 (F := Ideal)) := by
  rw [outsAt0_A m c t h]; frame_out; rfl
theorem out11B (h : ¬t.val % 16 = 0) : (outsAt0 m c t.val t.isLt).2.2.2.2.1
    = k0_pay29 (yAt m c t) (k0_pay24 (iblk m c 3 t)) (sumsq (yAt m c t)) (iblk m c 1 t) (iblk m c 2 t) (outsAt0 m c (t.val - 1) (by have := t.isLt; omega)).2.2.2.2.1 := by
  rw [outsAt0_B m c t h]; frame_out; rfl
theorem out12B (h : ¬t.val % 16 = 0) : (outsAt0 m c t.val t.isLt).2.2.2.2.2
    = k0_pay1 (k0_pay31 (yAt m c t) (k0_pay24 (iblk m c 3 t)) (sumsq (yAt m c t)) (iblk m c 1 t) (iblk m c 2 t)) (outsAt0 m c (t.val - 1) (by have := t.isLt; omega)).2.2.2.2.2 := by
  rw [outsAt0_B m c t h]; frame_out; rfl

/-- The shards of a hidden product, as a point stores them. -/
theorem out7 : (outsAt0 m c t.val t.isLt).1
    = View.canon [⟨Rect.unit ![3, 0, 0] ![1, 256, 704] inb_S4x256x704_S1x256x704_3_0_0, k0_pay21 (k0_pay8 (iblk m c 0 t) (pc3 (iblk m c 4 t)))⟩,
      ⟨Rect.unit ![2, 0, 0] ![1, 256, 704] inb_S4x256x704_S1x256x704_2_0_0, k0_pay19 (k0_pay7 (iblk m c 0 t) (pc2 (iblk m c 4 t)))⟩,
      ⟨Rect.unit ![1, 0, 0] ![1, 256, 704] inb_S4x256x704_S1x256x704_1_0_0, k0_pay16 (k0_pay6 (iblk m c 0 t) (pc1 (iblk m c 4 t)))⟩,
      ⟨Rect.unit ![0, 0, 0] ![1, 256, 704] inb_S4x256x704_S1x256x704_0_0_0, k0_pay13 (k0_pay5 (iblk m c 0 t) (pc0 (iblk m c 4 t)))⟩] := by
  by_cases h : t.val % 16 = 0
  · rw [outsAt0_A m c t h]; frame_out; rfl
  · rw [outsAt0_B m c t h]; frame_out; rfl
theorem out8 : (outsAt0 m c t.val t.isLt).2.1
    = View.canon [⟨Rect.unit ![3, 0, 0] ![1, 256, 704] inb_S4x256x704_S1x256x704_3_0_0, k0_pay22 (k0_pay12 (k0_pay4 (iblk m c 0 t)) (pc3 (iblk m c 5 t)))⟩,
      ⟨Rect.unit ![2, 0, 0] ![1, 256, 704] inb_S4x256x704_S1x256x704_2_0_0, k0_pay20 (k0_pay11 (iblk m c 0 t) (pc2 (iblk m c 5 t)))⟩,
      ⟨Rect.unit ![1, 0, 0] ![1, 256, 704] inb_S4x256x704_S1x256x704_1_0_0, k0_pay17 (k0_pay10 (iblk m c 0 t) (pc1 (iblk m c 5 t)))⟩,
      ⟨Rect.unit ![0, 0, 0] ![1, 256, 704] inb_S4x256x704_S1x256x704_0_0_0, k0_pay14 (k0_pay9 (iblk m c 0 t) (pc0 (iblk m c 5 t)))⟩] := by
  by_cases h : t.val % 16 = 0
  · rw [outsAt0_A m c t h]; frame_out; rfl
  · rw [outsAt0_B m c t h]; frame_out; rfl

end Cert.Kernel3Ideal.Hand

end
-- ==== Proof.HeadRef.lean ====
module

public import proofs.«01_k».proof.Proof.HeadModel
public import proofs.«01_k».proof.Proof.Gen.Reference3Ideal.Run
public import Idealize.ShloMosaic.Lib.Pointwise
public import Idealize.ShloMosaic.Lib.IdealHost

@[expose] public section

set_option maxRecDepth 16384

noncomputable section

/-! The results of the reference of the network's forward call, read at an index. -/

namespace Cert.HeadRef

open Cert.Reference3Ideal Cert.Reference3Ideal.Gen Cert.Head
open Cert.Ffn (hid)
open Idealize.ShloMosaic Idealize.SL.Sem

/-- The array of ones, -/
def ones : FVec Ideal S4096x2816 .f32 := broadcastInDim S4096x2816 ![] bcast_S_S4096x2816 (constant S_ .f32 0x3F800000#32)
/-- a hidden product, -/
def units (x : FVec Ideal S4096x1024 .f32) (w : FVec Ideal S1024x2816 .f32) : FVec Ideal S4096x2816 .f32 :=
  Host.dotGeneral dot_S4096x1024_S1024x2816_S4096x2816_1_0_0_1_n_n none x w
/-- by shards, -/
def sharded (v : FVec Ideal S4096x2816 .f32) : FVec Ideal S4x4096x704 .f32 :=
  transpose S4x4096x704 [1, 0, 2] (shapeCast S4096x4x704 v shapeCasts_S4096x2816_S4096x4x704) transposes_S4096x4x704_S4x4096x704_1_0_2
/-- the sigmoid, -/
def sig (g : FVec Ideal S4096x2816 .f32) : FVec Ideal S4096x2816 .f32 := Host.divf ones (addf ones (Host.exp (Host.negf g)))
/-- the gated product, -/
def gated (g u : FVec Ideal S4096x2816 .f32) : FVec Ideal S4096x2816 .f32 := mulf (mulf g (sig g)) u
/-- the output. -/
def out (g u : FVec Ideal S4096x2816 .f32) (w : FVec Ideal S2816x1024 .f32) : FVec Ideal S4096x1024 .f32 :=
  Host.dotGeneral dot_S4096x2816_S2816x1024_S4096x1024_1_0_0_1_n_n none (gated g u) w
/-- A token's lanes' sum, -/
def lanes (x : FVec Ideal S4096x1024 .f32) : FVec Ideal S4096 .f32 := Host.reduceAdd x (constant S_ .f32 0x00000000#32) reducesTo_S4096x1024_S4096_d1 h_S_
/-- a lane's tokens', -/
def tokens (x : FVec Ideal S4096x1024 .f32) : FVec Ideal S1024 .f32 := Host.reduceAdd x (constant S_ .f32 0x00000000#32) reducesTo_S4096x1024_S1024_d0 h_S_
/-- a constant for every token -/
def every (b : BitVec 32) : FVec Ideal S4096x1 .f32 := broadcastInDim S4096x1 ![] bcast_S_S4096x1 (constant S_ .f32 b)
/-- and a column for every lane. -/
def across (x : FVec Ideal S4096x1 .f32) : FVec Ideal S4096x1024 .f32 := broadcastInDim S4096x1024 ![0, 1] bcast_S4096x1_S4096x1024_0_1 x
/-- The mean square and the epsilon, -/
def ms (y : FVec Ideal S4096x1024 .f32) : FVec Ideal S4096x1 .f32 :=
  addf (Host.divf (broadcastInDim S4096x1 ![0] bcast_S4096_S4096x1_0 (lanes (mulf y y))) (every 0x44800000#32)) (every 0x358637BD#32)
/-- its root's inverse, -/
def rs (y : FVec Ideal S4096x1024 .f32) : FVec Ideal S4096x1 .f32 := Host.rsqrt (ms y)
/-- the normed output, -/
def xn (y : FVec Ideal S4096x1024 .f32) : FVec Ideal S4096x1024 .f32 := mulf y (across (rs y))
/-- the scale for every token, -/
def scale (w : FVec Ideal S1024 .f32) : FVec Ideal S4096x1024 .f32 :=
  broadcastInDim S4096x1024 ![0, 1] bcast_S1x1024_S4096x1024_0_1 (broadcastInDim S1x1024 ![1] bcast_S1024_S1x1024_1 w)
/-- the error, -/
def err (y h t : FVec Ideal S4096x1024 .f32) (w : FVec Ideal S1024 .f32) : FVec Ideal S4096x1024 .f32 := subf (addf h (mulf (xn y) (scale w))) t
/-- half of the lanes' part, -/
def half : FVec Ideal S4096x1024 .f32 :=
  broadcastInDim S4096x1024 ![0] bcast_S4096_S4096x1024_0 (Host.divf (broadcastInDim S4096 ![] bcast_S_S4096
    (mulf (constant S_ .f32 0x3F000000#32) (constant S_ .f32 0x3F800000#32))) (broadcastInDim S4096 ![] bcast_S_S4096 (constant S_ .f32 0x44800000#32)))
/-- twice an array. -/
def twice (e : FVec Ideal S4096x1024 .f32) : FVec Ideal S4096x1024 .f32 := mulf (broadcastInDim S4096x1024 ![] bcast_S_S4096x1024 (constant S_ .f32 0x40000000#32)) e
/-- The gradient of the residual stream, -/
def dh (e : FVec Ideal S4096x1024 .f32) : FVec Ideal S4096x1024 .f32 := mulf half (twice e)
/-- a coefficient of the output's, -/
def coef (y a : FVec Ideal S4096x1024 .f32) : FVec Ideal S4096x1024 .f32 :=
  broadcastInDim S4096x1024 ![0] bcast_S4096_S4096x1024_0 (Host.reduceAdd (Host.divf (mulf (shapeCast S4096x1 (lanes (mulf y a)) shapeCasts_S4096_S4096x1)
    (mulf (every 0xBF000000#32) (Host.divf (rs y) (ms y)))) (every 0x44800000#32)) (constant S_ .f32 0x00000000#32) reducesTo_S4096x1_S4096_d1 h_S_)
/-- the gradient of the output, given the normed one's, -/
def dy (y a : FVec Ideal S4096x1024 .f32) : FVec Ideal S4096x1024 .bf16 :=
  truncf .bf16 (addf (addf (mulf a (across (rs y))) (mulf y (coef y a))) (mulf (coef y a) y)) bitsLt_bf16_f32
/-- the squared errors -/
def sq (e : FVec Ideal S4096x1024 .f32) : FVec Ideal S1x1024 .f32 := broadcastInDim S1x1024 ![1] bcast_S1024_S1x1024_1 (tokens (mulf e e))
/-- and the gradient of the scale. -/
def dw (y d : FVec Ideal S4096x1024 .f32) : FVec Ideal S1x1024 .f32 :=
  shapeCast S1x1024 (Host.reduceAdd (shapeCast S1x1024 (tokens (mulf (xn y) d)) shapeCasts_S1024_S1x1024 : FVec Ideal S1x1024 .f32) (constant S_ .f32 0x00000000#32) reducesTo_S1x1024_S1024_d0 h_S_) shapeCasts_S1024_S1x1024

theorem ones_at (s : Fin 4096) (f : Fin 2816) : ones (ix2 s f) = (1 : EReal) := by
  pointwise [ones]
theorem units_at (x : FVec Ideal S4096x1024 .f32) (w : FVec Ideal S1024x2816 .f32) (s : Fin 4096) (f : Fin 2816) :
    units x w (ix2 s f) = ∑ d, (x (ix2 s d) : EReal) * w (ix2 d f) := by
  pointwise [units]
theorem sharded_at (v : FVec Ideal S4096x2816 .f32) (j : Fin 4) (s : Fin 4096) (f : Fin 704) : sharded v (ix3 j s f) = v (ix2 s (hid j f)) := by
  pointwise! [sharded]
theorem sig_at (g : FVec Ideal S4096x2816 .f32) (s : Fin 4096) (f : Fin 2816) : sig g (ix2 s f) = Ideal.logistic (g (ix2 s f)) := by
  show Ideal.div (ones (ix2 s f)) ((ones (ix2 s f) : EReal) + Ideal.exp (-(g (ix2 s f) : EReal))) = _
  rw [ones_at]; rfl
theorem gated_at (g u : FVec Ideal S4096x2816 .f32) (s : Fin 4096) (f : Fin 2816) :
    gated g u (ix2 s f) = (g (ix2 s f) : EReal) * Ideal.logistic (g (ix2 s f)) * u (ix2 s f) := by
  rw [← sig_at g s f]; rfl
theorem out_at (g u : FVec Ideal S4096x2816 .f32) (w : FVec Ideal S2816x1024 .f32) (s : Fin 4096) (d : Fin 1024) :
    out g u w (ix2 s d) = ∑ f, (gated g u (ix2 s f) : EReal) * w (ix2 f d) := by
  pointwise [out]
theorem lanes_at (x : FVec Ideal S4096x1024 .f32) (s : Fin 4096) : lanes x (ix1 s) = ∑ d, (x (ix2 s d) : EReal) := by
  pointwise [lanes]
theorem tokens_at (x : FVec Ideal S4096x1024 .f32) (d : Fin 1024) : tokens x (ix1 d) = ∑ s, (x (ix2 s d) : EReal) := by
  pointwise [tokens]
theorem every_at (b : BitVec 32) (s : Fin 4096) : every b (ix2 s 0) = Ideal.ofBits .f32 b := by
  pointwise [every]
theorem across_at (x : FVec Ideal S4096x1 .f32) (s : Fin 4096) (d : Fin 1024) : across x (ix2 s d) = x (ix2 s 0) := by
  pointwise [across]
theorem ms_at (y : FVec Ideal S4096x1024 .f32) (s : Fin 4096) : ms y (ix2 s 0)
    = Ideal.div (lanes (mulf y y) (ix1 s)) (every 0x44800000#32 (ix2 s 0)) + (every 0x358637BD#32 (ix2 s 0) : EReal) := by
  pointwise [ms]
theorem scale_at (w : FVec Ideal S1024 .f32) (s : Fin 4096) (d : Fin 1024) : scale w (ix2 s d) = w (ix1 d) := by
  pointwise [scale]
theorem half_at (s : Fin 4096) (d : Fin 1024) : half (ix2 s d) = Ideal.div (Ideal.ofBits .f32 0x3F000000#32 * 1) (Ideal.ofBits .f32 0x44800000#32) := by
  pointwise [half]
theorem twice_at (e : FVec Ideal S4096x1024 .f32) (s : Fin 4096) (d : Fin 1024) : twice e (ix2 s d) = Ideal.ofBits .f32 0x40000000#32 * (e (ix2 s d) : EReal) := by
  pointwise [twice]
theorem dh_at (e : FVec Ideal S4096x1024 .f32) (s : Fin 4096) (d : Fin 1024) : dh e (ix2 s d) = (e (ix2 s d) : EReal) * Ideal.ofBits .f32 0x3A800000#32 := by
  rw [← dh_eq, ← half_at s d, ← twice_at]; rfl
theorem coef_at (y a : FVec Ideal S4096x1024 .f32) (s : Fin 4096) (d : Fin 1024) : coef y a (ix2 s d)
    = Ideal.div ((lanes (mulf y a) (ix1 s) : EReal) * ((every 0xBF000000#32 (ix2 s 0) : EReal) * Ideal.div (rs y (ix2 s 0)) (ms y (ix2 s 0)))) (every 0x44800000#32 (ix2 s 0)) := by
  pointwise [coef]
  exact Fin.sum_univ_one _
theorem sq_at (e : FVec Ideal S4096x1024 .f32) (d : Fin 1024) : sq e (ix2 0 d) = ∑ s, (e (ix2 s d) : EReal) * e (ix2 s d) := by
  pointwise [sq, tokens]
theorem dw_at (y a : FVec Ideal S4096x1024 .f32) (d : Fin 1024) : dw y a (ix2 0 d) = ∑ s, (xn y (ix2 s d) : EReal) * a (ix2 s d) := by
  pointwise [dw, tokens]
  exact Fin.sum_univ_one _

/-- The six results. -/
def yOf (z : FVec Ideal S4096x1024 .f32) (wg wu : FVec Ideal S1024x2816 .f32) (wd : FVec Ideal S2816x1024 .f32) : FVec Ideal S4096x1024 .f32 := out (units z wg) (units z wu) wd
def eOf (z h t : FVec Ideal S4096x1024 .f32) (w : FVec Ideal S1024 .f32) (wg wu : FVec Ideal S1024x2816 .f32) (wd : FVec Ideal S2816x1024 .f32) : FVec Ideal S4096x1024 .f32 :=
  err (yOf z wg wu wd) h t w
def resU (z : FVec Ideal S4096x1024 .f32) (w : FVec Ideal S1024x2816 .f32) : FVec Ideal S4x4096x704 .f32 := sharded (units z w)
def resY (z h t : FVec Ideal S4096x1024 .f32) (w : FVec Ideal S1024 .f32) (wg wu : FVec Ideal S1024x2816 .f32) (wd : FVec Ideal S2816x1024 .f32) : FVec Ideal S4096x1024 .bf16 :=
  dy (yOf z wg wu wd) (mulf (dh (eOf z h t w wg wu wd)) (scale w))
def resH (z h t : FVec Ideal S4096x1024 .f32) (w : FVec Ideal S1024 .f32) (wg wu : FVec Ideal S1024x2816 .f32) (wd : FVec Ideal S2816x1024 .f32) : FVec Ideal S4096x1024 .f32 :=
  dh (eOf z h t w wg wu wd)
def resS (z h t : FVec Ideal S4096x1024 .f32) (w : FVec Ideal S1024 .f32) (wg wu : FVec Ideal S1024x2816 .f32) (wd : FVec Ideal S2816x1024 .f32) : FVec Ideal S1x1024 .f32 :=
  sq (eOf z h t w wg wu wd)
def resW (z h t : FVec Ideal S4096x1024 .f32) (w : FVec Ideal S1024 .f32) (wg wu : FVec Ideal S1024x2816 .f32) (wd : FVec Ideal S2816x1024 .f32) : FVec Ideal S1x1024 .f32 :=
  dw (yOf z wg wu wd) (dh (eOf z h t w wg wu wd))

/-- A network's arrays. -/
structure Reads (z h t : FVec Ideal S4096x1024 .f32) (w : FVec Ideal S1024 .f32) (wg wu : FVec Ideal S1024x2816 .f32) (wd : FVec Ideal S2816x1024 .f32) (N : Net) : Prop where
  z : ∀ s d, z (ix2 s d) = N.z s d
  h : ∀ s d, h (ix2 s d) = N.h s d
  t : ∀ s d, t (ix2 s d) = N.t s d
  w : ∀ d, w (ix1 d) = N.w d
  wg : ∀ d f, wg (ix2 d f) = N.wg d f
  wu : ∀ d f, wu (ix2 d f) = N.wu d f
  wd : ∀ f d, wd (ix2 f d) = N.wd f d

section

variable {z h t : FVec Ideal S4096x1024 .f32} {w : FVec Ideal S1024 .f32} {wg wu : FVec Ideal S1024x2816 .f32} {wd : FVec Ideal S2816x1024 .f32} {N : Net}
  (H : Reads z h t w wg wu wd N)
include H

theorem g_is (s : Fin 4096) (f : Fin 2816) : units z wg (ix2 s f) = N.g s f := by
  rw [units_at]; exact Finset.sum_congr rfl fun d _ => by rw [H.z, H.wg]
theorem u_is (s : Fin 4096) (f : Fin 2816) : units z wu (ix2 s f) = N.u s f := by
  rw [units_at]; exact Finset.sum_congr rfl fun d _ => by rw [H.z, H.wu]
theorem y_is (s : Fin 4096) (d : Fin 1024) : yOf z wg wu wd (ix2 s d) = N.y s d := by
  unfold yOf
  rw [out_at]
  exact Finset.sum_congr rfl fun f _ => by rw [gated_at, g_is H, u_is H, H.wd]; rfl
theorem ms_is (s : Fin 4096) : ms (yOf z wg wu wd) (ix2 s 0) = mean2 (N.y s) := by
  rw [ms_at, every_at, every_at, lanes_at]
  refine congrArg (fun x => Ideal.div x (Ideal.ofBits .f32 0x44800000#32) + Ideal.ofBits .f32 0x358637BD#32) (Finset.sum_congr rfl fun d _ => ?_)
  exact congrArg₂ (fun x y : EReal => x * y) (y_is H s d) (y_is H s d)
theorem rs_is (s : Fin 4096) : rs (yOf z wg wu wd) (ix2 s 0) = irms (N.y s) := by
  unfold irms
  rw [← ms_is H]; rfl
theorem xn_is (s : Fin 4096) (d : Fin 1024) : xn (yOf z wg wu wd) (ix2 s d) = N.xn s d := by
  refine congrArg₂ (fun x y : EReal => x * y) (y_is H s d) ?_
  rw [across_at, rs_is H]
theorem e_is (s : Fin 4096) (d : Fin 1024) : eOf z h t w wg wu wd (ix2 s d) = N.e s d := by
  show (h (ix2 s d) : EReal) + (xn (yOf z wg wu wd) (ix2 s d) : EReal) * scale w (ix2 s d) - t (ix2 s d) = _
  rw [H.h, H.t, xn_is H, scale_at, H.w]; rfl
theorem resH_is (s : Fin 4096) (d : Fin 1024) : resH z h t w wg wu wd (ix2 s d) = N.dh s d := by
  unfold resH
  rw [dh_at, e_is H]; rfl
theorem a_is (s : Fin 4096) (d : Fin 1024) : mulf (dh (eOf z h t w wg wu wd)) (scale w) (ix2 s d) = N.dh s d * N.w d := by
  refine congrArg₂ (fun x y : EReal => x * y) (resH_is H s d) ?_
  rw [scale_at, H.w]
theorem coef_is (s : Fin 4096) (d : Fin 1024) : coef (yOf z wg wu wd) (mulf (dh (eOf z h t w wg wu wd)) (scale w)) (ix2 s d) = part (N.y s) (fun k => N.dh s k * N.w k) := by
  rw [coef_at, every_at, every_at, rs_is H, ms_is H, lanes_at]
  refine congrArg (fun x => Ideal.div (x * (Ideal.ofBits .f32 0xBF000000#32 * Ideal.div (irms (N.y s)) (mean2 (N.y s)))) (Ideal.ofBits .f32 0x44800000#32)) (Finset.sum_congr rfl fun k _ => ?_)
  exact congrArg₂ (fun x y : EReal => x * y) (y_is H s k) (a_is H s k)
theorem resY_is (s : Fin 4096) (d : Fin 1024) : resY z h t w wg wu wd (ix2 s d) = N.dy s d := by
  show ((mulf (dh (eOf z h t w wg wu wd)) (scale w) (ix2 s d) : EReal) * across (rs (yOf z wg wu wd)) (ix2 s d)
      + (yOf z wg wu wd (ix2 s d) : EReal) * coef (yOf z wg wu wd) (mulf (dh (eOf z h t w wg wu wd)) (scale w)) (ix2 s d))
      + (coef (yOf z wg wu wd) (mulf (dh (eOf z h t w wg wu wd)) (scale w)) (ix2 s d) : EReal) * yOf z wg wu wd (ix2 s d) = _
  rw [a_is H, across_at, rs_is H, y_is H, coef_is H]
  exact back_eq (N.y s) (fun k => N.dh s k * N.w k) d
theorem resS_is (d : Fin 1024) : resS z h t w wg wu wd (ix2 0 d) = N.sq d := by
  unfold resS
  rw [sq_at]
  exact Finset.sum_congr rfl fun s _ => by rw [e_is H]
theorem resW_is (d : Fin 1024) : resW z h t w wg wu wd (ix2 0 d) = N.dw d := by
  unfold resW
  rw [dw_at]
  exact Finset.sum_congr rfl fun s _ => (congrArg₂ (fun x y : EReal => x * y) (xn_is H s d) (resH_is H s d)).trans (mul_comm _ _)
theorem resG_is (j : Fin 4) (s : Fin 4096) (f : Fin 704) : resU z wg (ix3 j s f) = N.g s (hid j f) := by
  unfold resU
  rw [sharded_at, g_is H]
theorem resU_is (j : Fin 4) (s : Fin 4096) (f : Fin 704) : resU z wu (ix3 j s f) = N.u s (hid j f) := by
  unfold resU
  rw [sharded_at, u_is H]

end

end Cert.HeadRef

end
-- ==== Proof.HeadFinal.lean ====
module

public import proofs.«01_k».proof.Proof.HeadBlocks
public import proofs.«01_k».proof.Proof.HeadRef

@[expose] public section

set_option maxRecDepth 16384

noncomputable section

/-! The arrays that the feed-forward network's forward call leaves: the reference's. -/

namespace Cert.Kernel3Ideal.Hand

open Cert.Kernel3Ideal Cert.Kernel3Ideal.Gen Cert.Head
open Cert.Ffn (hid sum_hid)
open Idealize.ShloMosaic Idealize.ShloMosaic.TcCoe Idealize.SL.Sem

/-- An entry of a stored shard is the block's at its place. -/
theorem piece (G : Fin 4 → Fin 256 → Fin 704 → EReal) (p : Vec Ideal S1x256x704 .f32) (k : Fin 4) (q : ∀ r f, p (ix3 0 r f) = G k r f) (x : S1x256x704.Idx)
    (j : Fin 4) (r : Fin 256) (f : Fin 704) (h0 : j.val = k.val) (h1 : r.val = (x 1).val) (h2 : f.val = (x 2).val) : p x = G j r f := by
  obtain ⟨o, r', f', rfl⟩ : ∃ (o : Fin 1) (r' : Fin 256) (f' : Fin 704), x = ix3 o r' f' := ⟨x 0, x 1, x 2, eq_ix3 x⟩
  obtain rfl : o = 0 := Subsingleton.elim _ _
  obtain rfl : j = k := Fin.ext h0
  obtain rfl : r = r' := Fin.ext h1
  obtain rfl : f = f' := Fin.ext h2
  exact q r f

/-- Four shards stored in a block are there. -/
theorem tiles (p0 p1 p2 p3 : Vec Ideal S1x256x704 .f32) (G : Fin 4 → Fin 256 → Fin 704 → EReal) (q0 : ∀ r f, p0 (ix3 0 r f) = G 0 r f)
    (q1 : ∀ r f, p1 (ix3 0 r f) = G 1 r f) (q2 : ∀ r f, p2 (ix3 0 r f) = G 2 r f) (q3 : ∀ r f, p3 (ix3 0 r f) = G 3 r f) (j : Fin 4) (r : Fin 256) (f : Fin 704) :
    View.canon (Val := Elt Ideal) (e := .f32) (s := S4x256x704) [⟨Rect.unit ![3, 0, 0] ![1, 256, 704] inb_S4x256x704_S1x256x704_3_0_0, p3⟩,
      ⟨Rect.unit ![2, 0, 0] ![1, 256, 704] inb_S4x256x704_S1x256x704_2_0_0, p2⟩,
      ⟨Rect.unit ![1, 0, 0] ![1, 256, 704] inb_S4x256x704_S1x256x704_1_0_0, p1⟩,
      ⟨Rect.unit ![0, 0, 0] ![1, 256, 704] inb_S4x256x704_S1x256x704_0_0_0, p0⟩] (ix3 j r f) = G j r f := by
  canon_tiles x h
  · exact piece G p3 3 q3 x j r f (h0.trans (by omega)) h1 h2
  · exact piece G p2 2 q2 x j r f (h0.trans (by omega)) h1 h2
  · exact piece G p1 1 q1 x j r f (h0.trans (by omega)) h1 h2
  · exact piece G p0 0 q0 x j r f (h0.trans (by omega)) h1 h2

variable (m : (ℓ : Loc nD τ sig) → Buf (Elt Ideal) ℓ) (c : Dev nD)

/-- The two hidden products at a point, -/
theorem point7 (t : Fin cfg0.N) (j : Fin 4) (r : Fin 256) (f : Fin 704) : (outsAt0 m c t.val t.isLt).1 (ix3 j r f) = (net m c).g (tk (bAt t) r) (hid j f) := by
  have hp := pt_is m c t
  rw [out7]
  exact tiles _ _ _ _ (fun j r f => (net m c).g (tk (bAt t) r) (hid j f)) (fun r f => (pay13_at _ r f).trans (g_is hp 0 _ (pc0_at _) r f))
    (fun r f => (pay13_at _ r f).trans (g_is hp 1 _ (pc1_at _) r f)) (fun r f => (pay13_at _ r f).trans (g_is hp 2 _ (pc2_at _) r f))
    (fun r f => (pay13_at _ r f).trans (g_is hp 3 _ (pc3_at _) r f)) j r f
theorem point8 (t : Fin cfg0.N) (j : Fin 4) (r : Fin 256) (f : Fin 704) : (outsAt0 m c t.val t.isLt).2.1 (ix3 j r f) = (net m c).u (tk (bAt t) r) (hid j f) := by
  have hp := pt_is m c t
  rw [out8]
  exact tiles _ _ _ _ (fun j r f => (net m c).u (tk (bAt t) r) (hid j f)) (fun r f => (pay13_at _ r f).trans (u_is hp 0 _ (pc0_at _) r f))
    (fun r f => (pay13_at _ r f).trans (u_is hp 1 _ (pc1_at _) r f)) (fun r f => (pay13_at _ r f).trans (u_is hp 2 _ (pc2_at _) r f))
    (fun r f => (pay13_at _ r f).trans (u_is hp 3 _ (pc3_at _) r f)) j r f

/-- What a point adds to the squared errors, -/
def partS (t : Fin cfg0.N) (i : S1x1024.Idx) : EReal := ∑ r, (net m c).e (tk (bAt t) r) (i 1) * (net m c).e (tk (bAt t) r) (i 1)
/-- and to the scale's gradient. -/
def partW (t : Fin cfg0.N) (i : S1x1024.Idx) : EReal := ∑ r, (net m c).dh (tk (bAt t) r) (i 1) * (net m c).xn (tk (bAt t) r) (i 1)

theorem sum_pts (F : Fin 4096 → EReal) : ∑ t : Fin cfg0.N, ∑ r, F (tk (bAt t) r) = ∑ s, F s :=
  (Fintype.sum_equiv (finCongr (show cfg0.N = 16 from N_0)) _ (fun b => ∑ r, F (tk b r)) fun _ => rfl).trans (sum_tk F)

/-- After the last point, all of them. -/
theorem point11 (t : Fin cfg0.N) (ht : t.val % 16 = 15) (d : Fin 1024) : (outsAt0 m c t.val t.isLt).2.2.2.2.1 (ix2 0 d) = (net m c).sq d := by
  have h16 := lt16 t
  have hN : cfg0.N = 16 := N_0
  rw [Pipeline.eq_sum_fin_of_reset_step_apply_last (M := EReal) (ι := S1x1024.Idx) (fun n h => (outsAt0 m c n h).2.2.2.2.1) 16 (fun _ => 0) (partS m c)
    (fun t h i => by
      obtain ⟨o, d, rfl⟩ : ∃ (o : Fin 1) (d : Fin 1024), i = ix2 o d := ⟨i 0, i 1, eq_ix2 i⟩
      obtain rfl : o = 0 := Subsingleton.elim _ _
      rw [out11A m c t h, sq_is (pt_is m c t), pay2_at]; rfl)
    (fun t h i => by
      obtain ⟨o, d, rfl⟩ : ∃ (o : Fin 1) (d : Fin 1024), i = ix2 o d := ⟨i 0, i 1, eq_ix2 i⟩
      obtain rfl : o = 0 := Subsingleton.elim _ _
      rw [out11B m c t h, sq_is (pt_is m c t)]; rfl)
    (le_of_eq N_0) t (by omega) (ix2 0 d), zero_add]
  exact sum_pts fun s => (net m c).e s d * (net m c).e s d
theorem point12 (t : Fin cfg0.N) (ht : t.val % 16 = 15) (d : Fin 1024) : (outsAt0 m c t.val t.isLt).2.2.2.2.2 (ix2 0 d) = (net m c).dw d := by
  have h16 := lt16 t
  have hN : cfg0.N = 16 := N_0
  rw [Pipeline.eq_sum_fin_of_reset_step_apply_last (M := EReal) (ι := S1x1024.Idx) (fun n h => (outsAt0 m c n h).2.2.2.2.2) 16 (fun _ => 0) (partW m c)
    (fun t h i => by
      obtain ⟨o, d, rfl⟩ : ∃ (o : Fin 1) (d : Fin 1024), i = ix2 o d := ⟨i 0, i 1, eq_ix2 i⟩
      obtain rfl : o = 0 := Subsingleton.elim _ _
      rw [out12A m c t h, dw_is (pt_is m c t), pay3_at]; rfl)
    (fun t h i => by
      obtain ⟨o, d, rfl⟩ : ∃ (o : Fin 1) (d : Fin 1024), i = ix2 o d := ⟨i 0, i 1, eq_ix2 i⟩
      obtain rfl : o = 0 := Subsingleton.elim _ _
      rw [out12B m c t h, dw_is (pt_is m c t)]; rfl)
    (le_of_eq N_0) t (by omega) (ix2 0 d), zero_add]
  exact sum_pts fun s => (net m c).dh s d * (net m c).xn s d

theorem reads : Cert.HeadRef.Reads (aZ m c) (aH m c) (aT m c) (aW m c) (aG m c) (aU m c) (aD m c) (net m c) :=
  ⟨fun _ _ => rfl, fun _ _ => rfl, fun _ _ => rfl, fun _ => rfl, fun _ _ => rfl, fun _ _ => rfl, fun _ _ => rfl⟩

/-- The gate's logits: the reference's first result. -/
theorem final7 : (dats m 0 c).arrAt 7 cfg0.N = Cert.HeadRef.resU (aZ m c) (aG m c) := by
  refine (dats m 0 c).arrAt_eq_of_covers 7 _ (by decide +kernel) fun t hf y => ?_
  blk_simp
  rw [after0_7]
  obtain ⟨j, r, f, rfl⟩ : ∃ (j : Fin 4) (r : Fin 256) (f : Fin 704), y = ix3 j r f := ⟨y 0, y 1, y 2, eq_ix3 y⟩
  have he : (win0_7.blk t).view.emb (ix3 j r f) = ix3 j (tk (bAt t) r) f := by unfold tk bAt; blk_ext [idx t]
  exact (point7 m c t j r f).trans (Eq.symm ((congrArg _ he).trans (Cert.HeadRef.resG_is (reads m c) _ _ _)))
/-- The other factor: its second. -/
theorem final8 : (dats m 0 c).arrAt 8 cfg0.N = Cert.HeadRef.resU (aZ m c) (aU m c) := by
  refine (dats m 0 c).arrAt_eq_of_covers 8 _ (by decide +kernel) fun t hf y => ?_
  blk_simp
  rw [after0_8]
  obtain ⟨j, r, f, rfl⟩ : ∃ (j : Fin 4) (r : Fin 256) (f : Fin 704), y = ix3 j r f := ⟨y 0, y 1, y 2, eq_ix3 y⟩
  have he : (win0_8.blk t).view.emb (ix3 j r f) = ix3 j (tk (bAt t) r) f := by unfold tk bAt; blk_ext [idx t]
  exact (point8 m c t j r f).trans (Eq.symm ((congrArg _ he).trans (Cert.HeadRef.resU_is (reads m c) _ _ _)))
/-- The gradient of the output: its third. -/
theorem final9 : (dats m 0 c).arrAt 9 cfg0.N = Cert.HeadRef.resY (aZ m c) (aH m c) (aT m c) (aW m c) (aG m c) (aU m c) (aD m c) := by
  refine (dats m 0 c).arrAt_eq_of_covers 9 _ (by decide +kernel) fun t hf y => ?_
  blk_simp
  rw [after0_9, out9]
  obtain ⟨r, d, rfl⟩ : ∃ (r : Fin 256) (d : Fin 1024), y = ix2 r d := ⟨y 0, y 1, eq_ix2 y⟩
  have he : (win0_9.blk t).view.emb (ix2 r d) = ix2 (tk (bAt t) r) d := by unfold tk bAt; blk_ext [idx t]
  exact (dy_is (pt_is m c t) r d).trans (Eq.symm ((congrArg _ he).trans (Cert.HeadRef.resY_is (reads m c) _ _)))
/-- Of the residual stream: its fourth. -/
theorem final10 : (dats m 0 c).arrAt 10 cfg0.N = Cert.HeadRef.resH (aZ m c) (aH m c) (aT m c) (aW m c) (aG m c) (aU m c) (aD m c) := by
  refine (dats m 0 c).arrAt_eq_of_covers 10 _ (by decide +kernel) fun t hf y => ?_
  blk_simp
  rw [after0_10, out10]
  obtain ⟨r, d, rfl⟩ : ∃ (r : Fin 256) (d : Fin 1024), y = ix2 r d := ⟨y 0, y 1, eq_ix2 y⟩
  have he : (win0_10.blk t).view.emb (ix2 r d) = ix2 (tk (bAt t) r) d := by unfold tk bAt; blk_ext [idx t]
  exact (dh_is (pt_is m c t) r d).trans (Eq.symm ((congrArg _ he).trans (Cert.HeadRef.resH_is (reads m c) _ _)))
/-- The squared errors: its fifth. -/
theorem final11 : (dats m 0 c).arrAt 11 cfg0.N = Cert.HeadRef.resS (aZ m c) (aH m c) (aT m c) (aW m c) (aG m c) (aU m c) (aD m c) := by
  refine (dats m 0 c).arrAt_eq_of_covers 11 _ (by decide +kernel) fun t hf y => ?_
  have hm := (flush0_11 t).mp hf
  blk_simp
  rw [after0_11]
  obtain ⟨o, d, rfl⟩ : ∃ (o : Fin 1) (d : Fin 1024), y = ix2 o d := ⟨y 0, y 1, eq_ix2 y⟩
  obtain rfl : o = 0 := Subsingleton.elim _ _
  have he : (win0_11.blk t).view.emb (ix2 0 d) = ix2 0 d := by blk_ext [idx t]
  exact (point11 m c t hm d).trans (Eq.symm ((congrArg _ he).trans (Cert.HeadRef.resS_is (reads m c) _)))
/-- The scale's gradient: its sixth. -/
theorem final12 : (dats m 0 c).arrAt 12 cfg0.N = Cert.HeadRef.resW (aZ m c) (aH m c) (aT m c) (aW m c) (aG m c) (aU m c) (aD m c) := by
  refine (dats m 0 c).arrAt_eq_of_covers 12 _ (by decide +kernel) fun t hf y => ?_
  have hm := (flush0_12 t).mp hf
  blk_simp
  rw [after0_12]
  obtain ⟨o, d, rfl⟩ : ∃ (o : Fin 1) (d : Fin 1024), y = ix2 o d := ⟨y 0, y 1, eq_ix2 y⟩
  obtain rfl : o = 0 := Subsingleton.elim _ _
  have he : (win0_12.blk t).view.emb (ix2 0 d) = ix2 0 d := by blk_ext [idx t]
  exact (point12 m c t hm d).trans (Eq.symm ((congrArg _ he).trans (Cert.HeadRef.resW_is (reads m c) _)))

end Cert.Kernel3Ideal.Hand

end
-- ==== Proof.HeadAlgebraic.lean ====
module

public import proofs.«01_k».proof.Defs
public import proofs.«01_k».proof.Proof.HeadFinal

@[expose] public section

set_option maxRecDepth 16384

noncomputable section

/-! The six results of the version's feed-forward forward call are the reference's. -/

namespace Cert.Kernel3Ideal.Hand

open Cert.Kernel3Ideal Cert.Kernel3Ideal.Gen Cert.Head Cert.HeadRef
open Idealize.ShloMosaic Idealize.SL.Sem

section

variable (m : (ℓ : Loc nD τ sig) → Buf (Elt Ideal) ℓ) (c : Dev nD)

/-- The six results. -/
def outG : FVec Ideal S4x4096x704 .f32 := resU (aZ m c) (aG m c)
def outU : FVec Ideal S4x4096x704 .f32 := resU (aZ m c) (aU m c)
def outDy : FVec Ideal S4096x1024 .bf16 := resY (aZ m c) (aH m c) (aT m c) (aW m c) (aG m c) (aU m c) (aD m c)
def outDh : FVec Ideal S4096x1024 .f32 := resH (aZ m c) (aH m c) (aT m c) (aW m c) (aG m c) (aU m c) (aD m c)
def outSq : FVec Ideal S1x1024 .f32 := resS (aZ m c) (aH m c) (aT m c) (aW m c) (aG m c) (aU m c) (aD m c)
def outDw : FVec Ideal S1x1024 .f32 := resW (aZ m c) (aH m c) (aT m c) (aW m c) (aG m c) (aU m c) (aD m c)

end

/-- The version's run ends with them, and leaves its arguments alone. -/
theorem run_kernel (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v10_0) = outG m c
      ∧ r.2.mem ((c.tc : Thread nD τ).loc main_v10_1) = outU m c
      ∧ r.2.mem ((c.tc : Thread nD τ).loc main_v10_2) = outDy m c
      ∧ r.2.mem ((c.tc : Thread nD τ).loc main_v10_3) = outDh m c
      ∧ r.2.mem ((c.tc : Thread nD τ).loc main_v10_4) = outSq m c
      ∧ r.2.mem ((c.tc : Thread nD τ).loc main_v10_5) = outDw m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h.1 c).1 7).trans (final7 m c), ((h.1 c).1 8).trans (final8 m c), ((h.1 c).1 9).trans (final9 m c), ((h.1 c).1 10).trans (final10 m c),
      ((h.1 c).1 11).trans (final11 m c), ((h.1 c).1 12).trans (final12 m c), h.2 c⟩) (θ_run_and (run_main m g) (unchanged m g))

/-- The version's hidden products, squared errors and gradients are the reference's. -/
theorem algebraic : Cert.algebraic_Kernel3Ideal_Reference3Ideal := fun m g m' g' _ hagree => by
  refine ⟨outG m, outU m, outDy m, outDh m, outSq m, outDw m, run_kernel m g, ?_⟩
  refine (θ_run Cert.Reference3Ideal.defs _ _).mono (fun _ h c => ?_) (Cert.Reference3Ideal.Value.run (F := Ideal) m' g')
  obtain ⟨h0, h1, h2, h3, h4, h5, h6⟩ := h c
  obtain ⟨a0, a1, a2, a3, a4, a5, a6⟩ := hagree c
  refine ⟨h0.trans ?_, h1.trans ?_, h2.trans ?_, h3.trans ?_, h4.trans ?_, h5.trans ?_, h6⟩
  · rw [a0, a4]; rfl
  · rw [a0, a5]; rfl
  · unfold Cert.Reference3Ideal.Value.res_main_v61
    rw [a0, a1, a2, a3, a4, a5, a6]; rfl
  · rw [a0, a1, a2, a3, a4, a5, a6]; rfl
  · unfold Cert.Reference3Ideal.Value.res_main_v79
    rw [a0, a1, a2, a3, a4, a5, a6]; rfl
  · unfold Cert.Reference3Ideal.Value.res_main_v80
    rw [a0, a1, a2, a3, a4, a5, a6]; rfl

end Cert.Kernel3Ideal.Hand

end
-- ==== Proof.InModel.lean ====
module

public import proofs.«01_k».proof.Proof.FfnModel
public import Mathlib.Analysis.SpecialFunctions.Trigonometric.Basic

@[expose] public section

noncomputable section

/-! The layer's input: the first norm, the fused projection, the norms of the two latent rows, their heads and the rotary embedding,
as sums of extended reals. -/

namespace Cert.In

open Idealize.ShloMosaic

/-- Row `r` of the block `b` of 512 tokens, among 4096. -/
def tk (b : Fin 8) (r : Fin 512) : Fin 4096 := ⟨512 * b.val + r.val, by omega⟩
/-- Lane `l` of the head `h`, padded to 128, -/
def hl (h : Fin 8) (l : Fin 128) : Fin 1024 := ⟨128 * h.val + l.val, by omega⟩
/-- and of its 64 values. -/
def hv (h : Fin 8) (l : Fin 64) : Fin 512 := ⟨64 * h.val + l.val, by omega⟩

theorem hl_surj (j : Fin 1024) : ∃ h l, j = hl h l :=
  ⟨⟨j.val / 128, by omega⟩, ⟨j.val % 128, by omega⟩, Fin.ext (by show j.val = 128 * (j.val / 128) + j.val % 128; omega)⟩
theorem hv_surj (j : Fin 512) : ∃ h l, j = hv h l :=
  ⟨⟨j.val / 64, by omega⟩, ⟨j.val % 64, by omega⟩, Fin.ext (by show j.val = 64 * (j.val / 64) + j.val % 64; omega)⟩

theorem cos_zero : Ideal.cos 0 = 1 := by
  show ((Real.cos 0 : ℝ) : EReal) = 1
  rw [Real.cos_zero]; rfl
theorem sin_zero : Ideal.sin 0 = 0 := by
  show ((Real.sin 0 : ℝ) : EReal) = 0
  rw [Real.sin_zero]; rfl

/-- One over the root of a row's mean square, the mean by the literal `c`. -/
def irms {n : ℕ} (c : BitVec 32) (y : Fin n → EReal) : EReal :=
  Ideal.rsqrt (Ideal.div (∑ d, y d * y d) (Ideal.ofBits .f32 c) + Ideal.ofBits .f32 0x358637BD#32)

/-- Sixteen numbers at both halves of the lanes 64 to 96, `o` at the others. -/
def spread (o : EReal) (f : Fin 16 → EReal) (l : Fin 128) : EReal :=
  if l.val < 64 then o else if h : l.val < 80 then f ⟨l.val - 64, by omega⟩ else if h : l.val < 96 then f ⟨l.val - 80, by omega⟩ else o

/-- The rotary embedding of a row of 128 lanes, which turns the lanes 64 to 80 against the lanes 80 to 96. -/
def turn (v : Fin 128 → EReal) (c s : Fin 16 → EReal) (l : Fin 128) : EReal :=
  if h1 : l.val < 64 then v l
  else if h2 : l.val < 80 then v l * c ⟨l.val - 64, by omega⟩ - v ⟨l.val + 16, by omega⟩ * s ⟨l.val - 64, by omega⟩
  else if h3 : l.val < 96 then v ⟨l.val - 16, by omega⟩ * s ⟨l.val - 80, by omega⟩ + v l * c ⟨l.val - 80, by omega⟩
  else v l

/-- The kernel's form of it: the row by the cosines, and the row moved both ways by the sines under two masks. -/
theorem turn_eq (v : Fin 128 → EReal) (p : EReal) (iv : Fin 16 → EReal) (l : Fin 128) :
    v l * Ideal.cos (p * spread 0 iv l)
      + v ⟨(l.val + 16) % 128, by omega⟩ * (if 64 ≤ l.val ∧ l.val < 80 then 0 - Ideal.sin (p * spread 0 iv l) else 0)
      + v ⟨(l.val + 112) % 128, by omega⟩ * (if 80 ≤ l.val ∧ l.val < 96 then Ideal.sin (p * spread 0 iv l) else 0)
    = turn v (fun i => Ideal.cos (p * iv i)) (fun i => Ideal.sin (p * iv i)) l := by
  unfold turn
  by_cases h1 : l.val < 64
  · rw [dif_pos h1, if_neg (by omega), if_neg (by omega)]
    unfold spread
    rw [if_pos h1, mul_zero, cos_zero, mul_zero, mul_zero, add_zero, add_zero, mul_one]
  · rw [dif_neg h1]
    by_cases h2 : l.val < 80
    · rw [dif_pos h2, if_pos (by omega), if_neg (by omega), mul_zero, add_zero]
      unfold spread
      rw [if_neg h1, dif_pos h2, zero_sub, mul_neg, ← sub_eq_add_neg]
      congr 3
      exact Fin.ext (by show (l.val + 16) % 128 = l.val + 16; omega)
    · rw [dif_neg h2]
      by_cases h3 : l.val < 96
      · rw [dif_pos h3, if_neg (by omega), if_pos (by omega), mul_zero, add_zero, add_comm]
        unfold spread
        rw [if_neg h1, dif_neg h2, dif_pos h3]
        congr 3
        exact Fin.ext (by show (l.val + 112) % 128 = l.val - 16; omega)
      · rw [dif_neg h3, if_neg (by omega), if_neg (by omega)]
        unfold spread
        rw [if_neg h1, dif_neg h2, dif_neg h3, mul_zero, cos_zero, mul_zero, mul_zero, add_zero, add_zero, mul_one]

/-- The tokens, their positions, the weights and the frequencies. -/
structure Net where
  x : Fin 4096 → Fin 1024 → EReal
  p : Fin 4096 → EReal
  w : Fin 1024 → EReal
  wi : Fin 1024 → Fin 2592 → EReal
  wqn : Fin 384 → EReal
  wq : Fin 384 → Fin 8 → Fin 96 → EReal
  wkn : Fin 128 → EReal
  wkv : Fin 128 → Fin 8 → Fin 128 → EReal
  iv : Fin 16 → EReal

namespace Net

variable (N : Net)

/-- The normed tokens, -/
def u (s : Fin 4096) (d : Fin 1024) : EReal := N.x s d * irms 0x44800000#32 (N.x s) * N.w d
/-- the projection, -/
def xp (s : Fin 4096) (j : Fin 2592) : EReal := ∑ d, N.u s d * N.wi d j
/-- the queries' latent row, -/
def cq (s : Fin 4096) (d : Fin 384) : EReal := N.xp s ⟨d.val, by omega⟩
/-- the keys' and the values', -/
def ckv (s : Fin 4096) (d : Fin 128) : EReal := N.xp s ⟨384 + d.val, by omega⟩
/-- the lanes of the key that all heads share, in its places, -/
def kr (s : Fin 4096) (l : Fin 128) : EReal := if h : 64 ≤ l.val ∧ l.val < 96 then N.xp s ⟨448 + l.val, by omega⟩ else 0
/-- what is left for the recurrence. -/
def rest (s : Fin 4096) (j : Fin 2048) : EReal := N.xp s ⟨544 + j.val, by omega⟩
/-- The normed latent rows, -/
def qn (s : Fin 4096) (d : Fin 384) : EReal := N.cq s d * irms 0x43C00000#32 (N.cq s) * N.wqn d
def kn (s : Fin 4096) (d : Fin 128) : EReal := N.ckv s d * irms 0x43000000#32 (N.ckv s) * N.wkn d
/-- the heads' lanes, -/
def qh (s : Fin 4096) (h : Fin 8) (l : Fin 96) : EReal := ∑ d, N.qn s d * N.wq d h l
def kvh (s : Fin 4096) (h : Fin 8) (l : Fin 128) : EReal := ∑ d, N.kn s d * N.wkv d h l
/-- padded with zeros, -/
def qp (s : Fin 4096) (h : Fin 8) (l : Fin 128) : EReal := if hl : l.val < 96 then N.qh s h ⟨l.val, hl⟩ else 0
def kp (s : Fin 4096) (h : Fin 8) (l : Fin 128) : EReal := if l.val < 64 then N.kvh s h l else 0
/-- the angles' cosines and sines, -/
def cs (s : Fin 4096) (i : Fin 16) : EReal := Ideal.cos (N.p s * N.iv i)
def sn (s : Fin 4096) (i : Fin 16) : EReal := Ideal.sin (N.p s * N.iv i)
/-- the queries, -/
def q (s : Fin 4096) (h : Fin 8) (l : Fin 128) : EReal := turn (N.qp s h) (N.cs s) (N.sn s) l * Ideal.ofBits .f32 0x3E16C740#32
/-- the keys -/
def k (s : Fin 4096) (h : Fin 8) (l : Fin 128) : EReal := N.kp s h l + turn (N.kr s) (N.cs s) (N.sn s) l
/-- and the values. -/
def v (s : Fin 4096) (h : Fin 8) (l : Fin 64) : EReal := N.kvh s h ⟨64 + l.val, by omega⟩
/-- The cosines and sines by lanes. -/
def rc (s : Fin 4096) (l : Fin 128) : EReal := spread 1 (N.cs s) l
def rs (s : Fin 4096) (l : Fin 128) : EReal := spread 0 (N.sn s) l

/-- The kernel's rows of the projection's weight. -/
def win (j : Fin 2688) (d : Fin 1024) : EReal :=
  if h : j.val < 512 then N.wi d ⟨j.val, by omega⟩ else if j.val < 576 then 0 else if h : j.val < 608 then N.wi d ⟨j.val - 64, by omega⟩
  else if h : j.val < 640 then 0 else N.wi d ⟨j.val - 96, by omega⟩

theorem rc_eq (s : Fin 4096) (l : Fin 128) : Ideal.cos (N.p s * spread 0 N.iv l) = N.rc s l := by
  unfold rc spread cs
  split_ifs <;> simp [cos_zero]
theorem rs_eq (s : Fin 4096) (l : Fin 128) : Ideal.sin (N.p s * spread 0 N.iv l) = N.rs s l := by
  unfold rs spread sn
  split_ifs <;> simp [sin_zero]

/-- The products by these rows. -/
def xw (s : Fin 4096) (j : Fin 2688) : EReal := ∑ d, N.u s d * N.win j d

theorem xw_of (s : Fin 4096) (j : Fin 2688) (k : Fin 2592) (h : ∀ d, N.win j d = N.wi d k) : N.xw s j = N.xp s k :=
  Finset.sum_congr rfl fun d _ => by rw [h]
theorem xw_zero (s : Fin 4096) (j : Fin 2688) (h : ∀ d, N.win j d = 0) : N.xw s j = 0 :=
  Finset.sum_eq_zero fun d _ => by rw [h, mul_zero]

theorem cq_eq (s : Fin 4096) (d : Fin 384) : N.xw s ⟨d.val, by omega⟩ = N.cq s d :=
  N.xw_of s _ _ fun e => by unfold win; rw [dif_pos (by show d.val < 512; omega)]
theorem ckv_eq (s : Fin 4096) (d : Fin 128) : N.xw s ⟨384 + d.val, by omega⟩ = N.ckv s d :=
  N.xw_of s _ _ fun e => by unfold win; rw [dif_pos (by show 384 + d.val < 512; omega)]
theorem kr_eq (s : Fin 4096) (l : Fin 128) : N.xw s ⟨512 + l.val, by omega⟩ = N.kr s l := by
  unfold kr
  by_cases h1 : l.val < 64
  · rw [dif_neg (by omega)]
    exact N.xw_zero s _ fun e => by unfold win; rw [dif_neg (by show ¬512 + l.val < 512; omega), if_pos (by show 512 + l.val < 576; omega)]
  · by_cases h2 : l.val < 96
    · rw [dif_pos (by omega)]
      exact N.xw_of s _ _ fun e => by
        unfold win
        rw [dif_neg (by show ¬512 + l.val < 512; omega), if_neg (by show ¬512 + l.val < 576; omega), dif_pos (by show 512 + l.val < 608; omega)]
        exact congrArg (N.wi e) (Fin.ext (by show 512 + l.val - 64 = 448 + l.val; omega))
    · rw [dif_neg (by omega)]
      exact N.xw_zero s _ fun e => by
        unfold win
        rw [dif_neg (by show ¬512 + l.val < 512; omega), if_neg (by show ¬512 + l.val < 576; omega), dif_neg (by show ¬512 + l.val < 608; omega),
          dif_pos (by show 512 + l.val < 640; omega)]
theorem rest_eq (s : Fin 4096) (j : Fin 2048) : N.xw s ⟨640 + j.val, by omega⟩ = N.rest s j :=
  N.xw_of s _ _ fun e => by
    unfold win
    rw [dif_neg (by show ¬640 + j.val < 512; omega), if_neg (by show ¬640 + j.val < 576; omega), dif_neg (by show ¬640 + j.val < 608; omega),
      dif_neg (by show ¬640 + j.val < 640; omega)]
    exact congrArg (N.wi e) (Fin.ext (by show 640 + j.val - 96 = 544 + j.val; omega))

end Net

end Cert.In

end
-- ==== Proof.InOps.lean ====
module

public import proofs.«01_k».proof.Proof.Gen.Kernel4Ideal.Frame
public import proofs.«01_k».proof.Proof.InModel
public import Idealize.ShloMosaic.Lib.Pipeline.ValueKit
public import Idealize.ShloMosaic.Lib.Pointwise
public import Idealize.ShloMosaic.Lib.WordCmp

@[expose] public section

set_option maxRecDepth 16384

noncomputable section

/-! What a grid point of the layer's input call computes, read at an index. -/

namespace Cert.Kernel4Ideal.Hand

open Cert.Kernel4Ideal Cert.Kernel4Ideal.Gen Cert.In
open Idealize.ShloMosaic Idealize.ShloMosaic.TcCoe Idealize.SL.Sem

/-- The two parts of the projection's weight. -/
def lo (X : Vec Ideal S2688x1024 .bf16) : Vec Ideal S640x1024 .bf16 := View.ld X (Rect.unit (s := S2688x1024) ![0, 0] S640x1024.size inb_S2688x1024_S640x1024_0_0)
def up (X : Vec Ideal S2688x1024 .bf16) : Vec Ideal S2048x1024 .bf16 := View.ld X (Rect.unit (s := S2688x1024) ![640, 0] S2048x1024.size inb_S2688x1024_S2048x1024_640_0)

theorem lo_at (X : Vec Ideal S2688x1024 .bf16) (j : Fin 640) (d : Fin 1024) : lo X (ix2 j d) = X (ix2 ⟨j.val, by omega⟩ d) :=
  View.ld_unit_apply_of X _ _ _ _ _ (by intro a; fin_cases a <;> simp)
theorem up_at (X : Vec Ideal S2688x1024 .bf16) (j : Fin 2048) (d : Fin 1024) : up X (ix2 j d) = X (ix2 ⟨640 + j.val, by omega⟩ d) :=
  View.ld_unit_apply_of X _ _ _ _ _ (by intro a; fin_cases a <;> simp)

/-! ### The norms and the products. -/

theorem pay2_at (x : Vec Ideal S512x1024 .f32) (w : Vec Ideal S1x1024 .f32) (r : Fin 512) (d : Fin 1024) :
    k0_pay2 x w (ix2 r d) = (x (ix2 r d) : EReal) * irms 0x44800000#32 (fun k : Fin 1024 => (x (ix2 r k) : EReal)) * w (ix2 0 d) := by
  unfold irms
  pointwise [k0_pay2]
theorem pay3_at (x : Vec Ideal S512x1024 .f32) (w : Vec Ideal S1x1024 .f32) (a : Vec Ideal S640x1024 .bf16) (r : Fin 512) (j : Fin 640) :
    k0_pay3 x w a (ix2 r j) = ∑ d, (k0_pay2 x w (ix2 r d) : EReal) * a (ix2 j d) := by
  pointwise! [k0_pay3]
theorem pay4_at (x : Vec Ideal S512x1024 .f32) (w : Vec Ideal S1x1024 .f32) (a : Vec Ideal S2048x1024 .bf16) (r : Fin 512) (j : Fin 2048) :
    k0_pay4 x w a (ix2 r j) = ∑ d, (k0_pay2 x w (ix2 r d) : EReal) * a (ix2 j d) := by
  pointwise! [k0_pay4]
theorem pay5_at (x : Vec Ideal S512x1024 .f32) (w : Vec Ideal S1x1024 .f32) (a : Vec Ideal S640x1024 .bf16) (r : Fin 512) (d : Fin 384) :
    k0_pay5 x w a (ix2 r d) = k0_pay3 x w a (ix2 r ⟨d.val, by omega⟩) := by
  pointwise [k0_pay5]
theorem pay6_at (x : Vec Ideal S512x1024 .f32) (w : Vec Ideal S1x1024 .f32) (a : Vec Ideal S640x1024 .bf16) (r : Fin 512) (d : Fin 128) :
    k0_pay6 x w a (ix2 r d) = k0_pay3 x w a (ix2 r ⟨384 + d.val, by omega⟩) := by
  pointwise [k0_pay6]
theorem pay7_at (x : Vec Ideal S512x1024 .f32) (w : Vec Ideal S1x1024 .f32) (a : Vec Ideal S640x1024 .bf16) (r : Fin 512) (d : Fin 128) :
    k0_pay7 x w a (ix2 r d) = k0_pay3 x w a (ix2 r ⟨512 + d.val, by omega⟩) := by
  pointwise [k0_pay7]
theorem pay14_at (x : FVec Ideal S512x384 .f32) (w : Vec Ideal S1x384 .f32) (r : Fin 512) (d : Fin 384) :
    k0_pay14 x w (ix2 r d) = (x (ix2 r d) : EReal) * irms 0x43C00000#32 (fun k : Fin 384 => (x (ix2 r k) : EReal)) * w (ix2 0 d) := by
  unfold irms
  pointwise [k0_pay14]
theorem pay15_at (x : FVec Ideal S512x384 .f32) (w : Vec Ideal S384x1024 .bf16) (r : Fin 512) (j : Fin 1024) :
    k0_pay15 x w (ix2 r j) = ∑ d, (x (ix2 r d) : EReal) * w (ix2 d j) := by
  pointwise! [k0_pay15]
theorem pay16_at (x : FVec Ideal S512x128 .f32) (w : Vec Ideal S1x128 .f32) (r : Fin 512) (d : Fin 128) :
    k0_pay16 x w (ix2 r d) = (x (ix2 r d) : EReal) * irms 0x43000000#32 (fun k : Fin 128 => (x (ix2 r k) : EReal)) * w (ix2 0 d) := by
  unfold irms
  pointwise [k0_pay16]
theorem pay17_at (x : FVec Ideal S512x128 .f32) (n : Vec Ideal S1x128 .f32) (w : Vec Ideal S128x1024 .bf16) (r : Fin 512) (j : Fin 1024) :
    k0_pay17 x n w (ix2 r j) = ∑ d, (k0_pay16 x n (ix2 r d) : EReal) * w (ix2 d j) := by
  pointwise! [k0_pay17]
theorem pay18_at (x : FVec Ideal S512x128 .f32) (n : Vec Ideal S1x128 .f32) (w : Vec Ideal S128x512 .bf16) (r : Fin 512) (j : Fin 512) :
    k0_pay18 x n w (ix2 r j) = ∑ d, (k0_pay16 x n (ix2 r d) : EReal) * w (ix2 d j) := by
  pointwise! [k0_pay18]
theorem pay19_at (x : FVec Ideal S512x128 .f32) (n : Vec Ideal S1x128 .f32) (w : Vec Ideal S128x512 .bf16) (r : Fin 512) (j : Fin 512) :
    k0_pay19 x n w (ix2 r j) = k0_pay18 x n w (ix2 r j) := rfl
theorem pay20_at (x : FVec Ideal S512x128 .f32) (n : Vec Ideal S1x128 .f32) (w : Vec Ideal S128x512 .bf16) (r : Fin 512) (j : Fin 512) :
    k0_pay20 x n w (ix2 j r) = k0_pay18 x n w (ix2 r j) := by
  pointwise [k0_pay20]

/-! ### The rotary embedding. -/

theorem pay9_at (p : FVec Ideal S512x1 .f32) (f : Vec Ideal S1x128 .f32) (r : Fin 512) (l : Fin 128) :
    k0_pay9 p f (ix2 r l) = (p (ix2 r 0) : EReal) * f (ix2 0 l) := by
  pointwise [k0_pay9]
theorem pay10_at (p : FVec Ideal S512x1 .f32) (f : Vec Ideal S1x128 .f32) (r : Fin 512) (l : Fin 128) :
    k0_pay10 p f (ix2 r l) = Ideal.cos ((p (ix2 r 0) : EReal) * f (ix2 0 l)) :=
  congrArg Ideal.cos (pay9_at p f r l)
theorem pay11_at (p : FVec Ideal S512x1 .f32) (f : Vec Ideal S1x128 .f32) (r : Fin 512) (l : Fin 128) :
    k0_pay11 p f (ix2 r l) = Ideal.sin ((p (ix2 r 0) : EReal) * f (ix2 0 l)) :=
  congrArg Ideal.sin (pay9_at p f r l)

theorem within (a b : ℕ) (ha : a < 256) (hb : b < 256) (l : Fin 128) (x y : EReal) :
    Scalar.select (IntOp.andi (IntOp.cmpi CmpIPredicate.sge (BitVec.ofNat 32 l.val) (BitVec.ofNat 32 a)) (IntOp.cmpi CmpIPredicate.slt (BitVec.ofNat 32 l.val) (BitVec.ofNat 32 b))) x y
    = if a ≤ l.val ∧ l.val < b then x else y := by
  have h1 : IntOp.cmpi CmpIPredicate.sge (BitVec.ofNat 32 l.val) (BitVec.ofNat 32 a) = BitVec.ofBool (decide (a ≤ l.val)) := by word_cmp
  have h2 : IntOp.cmpi CmpIPredicate.slt (BitVec.ofNat 32 l.val) (BitVec.ofNat 32 b) = BitVec.ofBool (decide (l.val < b)) := by word_cmp
  rw [h1, h2]
  by_cases e1 : a ≤ l.val <;> by_cases e2 : l.val < b <;> simp [e1, e2, Scalar.select, IntOp.andi]

theorem pay12_at (p : FVec Ideal S512x1 .f32) (f : Vec Ideal S1x128 .f32) (r : Fin 512) (l : Fin 128) :
    k0_pay12 p f (ix2 r l) = if 64 ≤ l.val ∧ l.val < 80 then 0 - (k0_pay11 p f (ix2 r l) : EReal) else 0 := by
  refine Eq.trans ?_ (within 64 80 (by norm_num) (by norm_num) l _ _)
  pointwise [k0_pay12]
theorem pay13_at (p : FVec Ideal S512x1 .f32) (f : Vec Ideal S1x128 .f32) (r : Fin 512) (l : Fin 128) :
    k0_pay13 p f (ix2 r l) = if 80 ≤ l.val ∧ l.val < 96 then (k0_pay11 p f (ix2 r l) : EReal) else 0 := by
  refine Eq.trans ?_ (within 80 96 (by norm_num) (by norm_num) l _ _)
  pointwise [k0_pay13]
theorem pay21_at (v c a b : FVec Ideal S512x128 .f32) (r : Fin 512) (l : Fin 128) :
    k0_pay21 v c a b (ix2 r l) = (v (ix2 r l) : EReal) * c (ix2 r l) + (v (ix2 r ⟨(l.val + 16) % 128, by omega⟩) : EReal) * a (ix2 r l)
      + (v (ix2 r ⟨(l.val + 112) % 128, by omega⟩) : EReal) * b (ix2 r l) := by
  pointwise [k0_pay21]
  simp only [show l.val + 128 - 112 = l.val + 16 by omega, show l.val + 128 - 16 = l.val + 112 by omega]

/-- The lanes of each head, -/
def hd0 (v : FVec Ideal S512x1024 .f32) : FVec Ideal S512x128 .f32 := extractStridedSlice S512x128 ![0, 0] v slices_S512x1024_o0_0_S512x128
def hd1 (v : FVec Ideal S512x1024 .f32) : FVec Ideal S512x128 .f32 := extractStridedSlice S512x128 ![0, 128] v slices_S512x1024_o0_128_S512x128
def hd2 (v : FVec Ideal S512x1024 .f32) : FVec Ideal S512x128 .f32 := extractStridedSlice S512x128 ![0, 256] v slices_S512x1024_o0_256_S512x128
def hd3 (v : FVec Ideal S512x1024 .f32) : FVec Ideal S512x128 .f32 := extractStridedSlice S512x128 ![0, 384] v slices_S512x1024_o0_384_S512x128
def hd4 (v : FVec Ideal S512x1024 .f32) : FVec Ideal S512x128 .f32 := extractStridedSlice S512x128 ![0, 512] v slices_S512x1024_o0_512_S512x128
def hd5 (v : FVec Ideal S512x1024 .f32) : FVec Ideal S512x128 .f32 := extractStridedSlice S512x128 ![0, 640] v slices_S512x1024_o0_640_S512x128
def hd6 (v : FVec Ideal S512x1024 .f32) : FVec Ideal S512x128 .f32 := extractStridedSlice S512x128 ![0, 768] v slices_S512x1024_o0_768_S512x128
def hd7 (v : FVec Ideal S512x1024 .f32) : FVec Ideal S512x128 .f32 := extractStridedSlice S512x128 ![0, 896] v slices_S512x1024_o0_896_S512x128
/-- queries by their scale -/
def scaled (v : FVec Ideal S512x128 .f32) : FVec Ideal S512x128 .bf16 := truncf .bf16 (mulf v (broadcast S512x128 (Scalar.ofBits (F := Ideal) .f32 0x3E16C740#32))) bitsLt_bf16_f32
/-- and keys as columns. -/
def turned (v : FVec Ideal S512x128 .f32) : FVec Ideal S128x512 .bf16 := truncf .bf16 (transpose S128x512 [1, 0] v transposes_S512x128_p1_0_S128x512) bitsLt_bf16_f32

theorem hd0_at (v : FVec Ideal S512x1024 .f32) (r : Fin 512) (l : Fin 128) : hd0 v (ix2 r l) = v (ix2 r (hl 0 l)) := by
  pointwise! [hd0, hl]
theorem hd1_at (v : FVec Ideal S512x1024 .f32) (r : Fin 512) (l : Fin 128) : hd1 v (ix2 r l) = v (ix2 r (hl 1 l)) := by
  pointwise! [hd1, hl]
theorem hd2_at (v : FVec Ideal S512x1024 .f32) (r : Fin 512) (l : Fin 128) : hd2 v (ix2 r l) = v (ix2 r (hl 2 l)) := by
  pointwise! [hd2, hl]
theorem hd3_at (v : FVec Ideal S512x1024 .f32) (r : Fin 512) (l : Fin 128) : hd3 v (ix2 r l) = v (ix2 r (hl 3 l)) := by
  pointwise! [hd3, hl]
theorem hd4_at (v : FVec Ideal S512x1024 .f32) (r : Fin 512) (l : Fin 128) : hd4 v (ix2 r l) = v (ix2 r (hl 4 l)) := by
  pointwise! [hd4, hl]
theorem hd5_at (v : FVec Ideal S512x1024 .f32) (r : Fin 512) (l : Fin 128) : hd5 v (ix2 r l) = v (ix2 r (hl 5 l)) := by
  pointwise! [hd5, hl]
theorem hd6_at (v : FVec Ideal S512x1024 .f32) (r : Fin 512) (l : Fin 128) : hd6 v (ix2 r l) = v (ix2 r (hl 6 l)) := by
  pointwise! [hd6, hl]
theorem hd7_at (v : FVec Ideal S512x1024 .f32) (r : Fin 512) (l : Fin 128) : hd7 v (ix2 r l) = v (ix2 r (hl 7 l)) := by
  pointwise! [hd7, hl]
theorem scaled_at (v : FVec Ideal S512x128 .f32) (r : Fin 512) (l : Fin 128) : scaled v (ix2 r l) = (v (ix2 r l) : EReal) * Ideal.ofBits .f32 0x3E16C740#32 := by
  pointwise [scaled]
theorem turned_at (v : FVec Ideal S512x128 .f32) (r : Fin 512) (l : Fin 128) : turned v (ix2 l r) = v (ix2 r l) := by
  pointwise [turned]

/-- The blocks that a grid point reads are a layer's. -/
structure PtIs (N : Net) (b : Fin 8) (x0 : Vec Ideal S512x1024 .f32) (x1 : Vec Ideal S512x1 .i32) (x2 : Vec Ideal S1x128 .f32) (x3 : Vec Ideal S1x1024 .f32)
    (x4 : Vec Ideal S2688x1024 .bf16) (x5 : Vec Ideal S1x384 .f32) (x6 : Vec Ideal S384x1024 .bf16) (x7 : Vec Ideal S1x128 .f32) (x8 : Vec Ideal S128x1024 .bf16)
    (x9 : Vec Ideal S128x512 .bf16) : Prop where
  x : ∀ r d, x0 (ix2 r d) = N.x (tk b r) d
  p : ∀ r, (k0_pay8 (F := Ideal) x1) (ix2 r 0) = N.p (tk b r)
  f : ∀ l, x2 (ix2 0 l) = spread 0 N.iv l
  w : ∀ d, x3 (ix2 0 d) = N.w d
  wi : ∀ j d, x4 (ix2 j d) = N.win j d
  wqn : ∀ d, x5 (ix2 0 d) = N.wqn d
  wq : ∀ d h l, x6 (ix2 d (hl h l)) = if e : l.val < 96 then N.wq d h ⟨l.val, e⟩ else 0
  wkn : ∀ d, x7 (ix2 0 d) = N.wkn d
  wk : ∀ d h l, x8 (ix2 d (hl h l)) = if l.val < 64 then N.wkv d h l else 0
  wv : ∀ d h l, x9 (ix2 d (hv h l)) = N.wkv d h ⟨64 + l.val, by omega⟩

section

variable {N : Net} {b : Fin 8} {x0 : Vec Ideal S512x1024 .f32} {x1 : Vec Ideal S512x1 .i32} {x2 : Vec Ideal S1x128 .f32} {x3 : Vec Ideal S1x1024 .f32}
  {x4 : Vec Ideal S2688x1024 .bf16} {x5 : Vec Ideal S1x384 .f32} {x6 : Vec Ideal S384x1024 .bf16} {x7 : Vec Ideal S1x128 .f32} {x8 : Vec Ideal S128x1024 .bf16}
  {x9 : Vec Ideal S128x512 .bf16} (h : PtIs N b x0 x1 x2 x3 x4 x5 x6 x7 x8 x9)
include h

theorem u_is (r : Fin 512) (d : Fin 1024) : k0_pay2 x0 x3 (ix2 r d) = N.u (tk b r) d := by
  rw [pay2_at, h.w, h.x, show (fun k : Fin 1024 => (x0 (ix2 r k) : EReal)) = N.x (tk b r) from funext fun k => h.x r k]; rfl
theorem lo_is (r : Fin 512) (j : Fin 640) : k0_pay3 x0 x3 (lo x4) (ix2 r j) = N.xw (tk b r) ⟨j.val, by omega⟩ := by
  rw [pay3_at]
  exact Finset.sum_congr rfl fun d _ => by rw [u_is h, lo_at, h.wi]
theorem cq_is (r : Fin 512) (d : Fin 384) : k0_pay5 x0 x3 (lo x4) (ix2 r d) = N.cq (tk b r) d := by
  rw [pay5_at, lo_is h]; exact N.cq_eq _ _
theorem ckv_is (r : Fin 512) (d : Fin 128) : k0_pay6 x0 x3 (lo x4) (ix2 r d) = N.ckv (tk b r) d := by
  rw [pay6_at, lo_is h]; exact N.ckv_eq _ _
theorem kr_is (r : Fin 512) (l : Fin 128) : k0_pay7 x0 x3 (lo x4) (ix2 r l) = N.kr (tk b r) l := by
  rw [pay7_at, lo_is h]; exact N.kr_eq _ _
theorem rest_is (r : Fin 512) (j : Fin 2048) : k0_pay4 x0 x3 (up x4) (ix2 r j) = N.rest (tk b r) j := by
  rw [pay4_at]
  refine Eq.trans (Finset.sum_congr rfl fun d _ => ?_) (N.rest_eq _ _)
  rw [u_is h, up_at, h.wi]
theorem qn_is (r : Fin 512) (d : Fin 384) : k0_pay14 (k0_pay5 x0 x3 (lo x4)) x5 (ix2 r d) = N.qn (tk b r) d := by
  rw [pay14_at, h.wqn, cq_is h, show (fun k : Fin 384 => (k0_pay5 x0 x3 (lo x4) (ix2 r k) : EReal)) = N.cq (tk b r) from funext fun k => cq_is h r k]; rfl
theorem kn_is (r : Fin 512) (d : Fin 128) : k0_pay16 (k0_pay6 x0 x3 (lo x4)) x7 (ix2 r d) = N.kn (tk b r) d := by
  rw [pay16_at, h.wkn, ckv_is h, show (fun k : Fin 128 => (k0_pay6 x0 x3 (lo x4) (ix2 r k) : EReal)) = N.ckv (tk b r) from funext fun k => ckv_is h r k]; rfl

/-- All heads' queries before the embedding, -/
theorem qp_is (r : Fin 512) (i : Fin 8) (l : Fin 128) : k0_pay15 (k0_pay14 (k0_pay5 x0 x3 (lo x4)) x5) x6 (ix2 r (hl i l)) = N.qp (tk b r) i l := by
  rw [pay15_at]
  unfold Net.qp
  by_cases e : l.val < 96
  · rw [dif_pos e]
    exact Finset.sum_congr rfl fun d _ => by rw [qn_is h, h.wq, dif_pos e]
  · rw [dif_neg e]
    exact Finset.sum_eq_zero fun d _ => by rw [h.wq, dif_neg e, mul_zero]
/-- their keys' own lanes -/
theorem kp_is (r : Fin 512) (i : Fin 8) (l : Fin 128) : k0_pay17 (k0_pay6 x0 x3 (lo x4)) x7 x8 (ix2 r (hl i l)) = N.kp (tk b r) i l := by
  rw [pay17_at]
  unfold Net.kp
  by_cases e : l.val < 64
  · rw [if_pos e]
    exact Finset.sum_congr rfl fun d _ => by rw [kn_is h, h.wk, if_pos e]
  · rw [if_neg e]
    exact Finset.sum_eq_zero fun d _ => by rw [h.wk, if_neg e, mul_zero]
/-- and their values. -/
theorem v_is (r : Fin 512) (i : Fin 8) (l : Fin 64) : k0_pay18 (k0_pay6 x0 x3 (lo x4)) x7 x9 (ix2 r (hv i l)) = N.v (tk b r) i l := by
  rw [pay18_at]
  unfold Net.v Net.kvh
  exact Finset.sum_congr rfl fun d _ => by rw [kn_is h, h.wv]

theorem rc_is (r : Fin 512) (l : Fin 128) : k0_pay10 (k0_pay8 x1) x2 (ix2 r l) = N.rc (tk b r) l := by
  rw [pay10_at, h.p, h.f]; exact N.rc_eq _ _
theorem rs_is (r : Fin 512) (l : Fin 128) : k0_pay11 (k0_pay8 x1) x2 (ix2 r l) = N.rs (tk b r) l := by
  rw [pay11_at, h.p, h.f]; exact N.rs_eq _ _
/-- The embedding of a row. -/
theorem turn_is (v : FVec Ideal S512x128 .f32) (g : Fin 128 → EReal) (r : Fin 512) (hv : ∀ l, v (ix2 r l) = g l) (l : Fin 128) :
    k0_pay21 v (k0_pay10 (k0_pay8 x1) x2) (k0_pay12 (k0_pay8 x1) x2) (k0_pay13 (k0_pay8 x1) x2) (ix2 r l) = turn g (N.cs (tk b r)) (N.sn (tk b r)) l := by
  rw [pay21_at, pay12_at, pay13_at, pay10_at, pay11_at, hv, hv, hv, h.p, h.f]
  exact turn_eq g _ _ l

end

end Cert.Kernel4Ideal.Hand

end
-- ==== Proof.InBlocks.lean ====
module

public import proofs.«01_k».proof.Proof.InOps

@[expose] public section

set_option maxRecDepth 16384

noncomputable section

/-! What the layer's input call is given, the blocks that its grid points read, and what they leave. -/

namespace Cert.Kernel4Ideal.Hand

open Cert.Kernel4Ideal Cert.Kernel4Ideal.Gen Cert.In
open Idealize.ShloMosaic Idealize.ShloMosaic.TcCoe Idealize.SL.Sem

/-! ### The host code that prepares the call. -/

/-- The projection's columns as rows, -/
def cols (w : FVec Ideal S1024x2592 .f32) : FVec Ideal S2592x1024 .bf16 :=
  truncf .bf16 (transpose S2592x1024 [1, 0] w transposes_S1024x2592_S2592x1024_1_0) bitsLt_bf16_f32
/-- with rows of zeros around the shared key's, -/
def joined (v : FVec Ideal S2592x1024 .bf16) : FVec Ideal S2688x1024 .bf16 :=
  concatenate S2688x1024 0 [⟨S512x1024, (extractStridedSlice S512x1024 ![0, 0] v slices_S2592x1024_S512x1024_0_0 : FVec Ideal S512x1024 .bf16)⟩,
    ⟨S64x1024, (broadcastInDim S64x1024 ![] bcast_S_S64x1024 (constant S_ .bf16 0x0000#16) : FVec Ideal S64x1024 .bf16)⟩,
    ⟨S32x1024, (extractStridedSlice S32x1024 ![512, 0] v slices_S2592x1024_S32x1024_512_0 : FVec Ideal S32x1024 .bf16)⟩,
    ⟨S32x1024, (broadcastInDim S32x1024 ![] bcast_S_S32x1024 (constant S_ .bf16 0x0000#16) : FVec Ideal S32x1024 .bf16)⟩,
    ⟨S2048x1024, (extractStridedSlice S2048x1024 ![544, 0] v slices_S2592x1024_S2048x1024_544_0 : FVec Ideal S2048x1024 .bf16)⟩]
    concatenates_S512x1024_S64x1024_S32x1024_S32x1024_S2048x1024_S2688x1024_d0
/-- the queries' weight padded to 128 lanes, -/
def padQ (w : FVec Ideal S384x8x96 .f32) : FVec Ideal S384x1024 .bf16 :=
  shapeCast S384x1024 (pad S384x8x128 ![0, 0, 0] ![0, 0, 32] ![0, 0, 0] (truncf .bf16 w bitsLt_bf16_f32 : FVec Ideal S384x8x96 .bf16) (sitofp .bf16 (constantI S_ 32 0#32))
    pads_S384x8x96_S384x8x128_000_000_0320 h_S_ : FVec Ideal S384x8x128 .bf16) shapeCasts_S384x8x128_S384x1024
/-- the keys' part of the other weight too, -/
def padK (w : FVec Ideal S128x8x128 .f32) : FVec Ideal S128x1024 .bf16 :=
  shapeCast S128x1024 (pad S128x8x128 ![0, 0, 0] ![0, 0, 64] ![0, 0, 0] (extractStridedSlice S128x8x64 ![0, 0, 0] (truncf .bf16 w bitsLt_bf16_f32 : FVec Ideal S128x8x128 .bf16) slices_S128x8x128_S128x8x64_0_0_0 : FVec Ideal S128x8x64 .bf16)
    (sitofp .bf16 (constantI S_ 32 0#32)) pads_S128x8x64_S128x8x128_000_000_0640 h_S_ : FVec Ideal S128x8x128 .bf16) shapeCasts_S128x8x128_S128x1024
/-- and the values'. -/
def valV (w : FVec Ideal S128x8x128 .f32) : FVec Ideal S128x512 .bf16 :=
  shapeCast S128x512 (extractStridedSlice S128x8x64 ![0, 0, 64] (truncf .bf16 w bitsLt_bf16_f32 : FVec Ideal S128x8x128 .bf16) slices_S128x8x128_S128x8x64_0_0_64 : FVec Ideal S128x8x64 .bf16)
    shapeCasts_S128x8x64_S128x512
/-- A number for every frequency, -/
def each (b : BitVec 32) : FVec Ideal S16 .f32 := broadcastInDim S16 ![] bcast_S_S16 (constant S_ .f32 b)
/-- the frequencies, -/
def freq : FVec Ideal S16 .f32 :=
  Host.divf (each 0x3F800000#32) (Host.powf (each 0x461C4000#32) (Host.divf (addf (each 0x00000000#32) (mulf (each 0x40000000#32) (sitofp .f32 (iotaInDim S16 32 0)))) (each 0x42000000#32)))
/-- by lanes, -/
def byLane (f : FVec Ideal S16 .f32) : FVec Ideal S1x128 .f32 :=
  shapeCast S1x128 (concatenate S128 0 [⟨S64, (broadcastInDim S64 ![] bcast_S_S64 (constant S_ .f32 0x00000000#32) : FVec Ideal S64 .f32)⟩, ⟨S16, f⟩, ⟨S16, f⟩,
    ⟨S32, (broadcastInDim S32 ![] bcast_S_S32 (constant S_ .f32 0x00000000#32) : FVec Ideal S32 .f32)⟩] concatenates_S64_S16_S16_S32_S128_d0 : FVec Ideal S128 .f32) shapeCasts_S128_S1x128
/-- the positions as a column -/
def column (p : IVec S4096 32) : IVec S4096x1 32 := shapeCast S4096x1 p shapeCasts_S4096_S4096x1
/-- and the scales as rows. -/
def row1024 (w : FVec Ideal S1024 .f32) : FVec Ideal S1x1024 .f32 := shapeCast S1x1024 w shapeCasts_S1024_S1x1024
def row384 (w : FVec Ideal S384 .f32) : FVec Ideal S1x384 .f32 := shapeCast S1x384 w shapeCasts_S384_S1x384
def row128 (w : FVec Ideal S128 .f32) : FVec Ideal S1x128 .f32 := shapeCast S1x128 w shapeCasts_S128_S1x128

theorem cols_at (w : FVec Ideal S1024x2592 .f32) (j : Fin 2592) (d : Fin 1024) : cols w (ix2 j d) = w (ix2 d j) := by
  pointwise [cols]
theorem zero_int (φ : FTy) : (FloatOps.sitofp (F := Ideal) φ (0#32) : EReal) = 0 := by simp [FloatOps.sitofp]
theorem joined_at (v : FVec Ideal S2592x1024 .bf16) (j : Fin 2688) (d : Fin 1024) : joined v (ix2 j d)
    = if h : j.val < 512 then (v (ix2 ⟨j.val, by omega⟩ d) : EReal) else if j.val < 576 then 0 else if h : j.val < 608 then v (ix2 ⟨j.val - 64, by omega⟩ d)
      else if h : j.val < 640 then 0 else v (ix2 ⟨j.val - 96, by omega⟩ d) := by
  pointwise [joined]
  by_cases h1 : j.val < 512
  · rw [dif_pos h1, dif_pos h1]
  · rw [dif_neg h1, dif_neg h1]
    by_cases h2 : j.val < 576
    · rw [dif_pos (by omega), if_pos h2]
    · rw [dif_neg (by omega), if_neg h2]
      by_cases h3 : j.val < 608
      · rw [dif_pos (by omega), dif_pos h3]
        exact congrArg (fun a => (v (ix2 a d) : EReal)) (Fin.ext (by dsimp only; omega))
      · rw [dif_neg (by omega), dif_neg h3]
        by_cases h4 : j.val < 640
        · rw [dif_pos (by omega), dif_pos h4]
        · rw [dif_neg (by omega), dif_neg h4]
          exact congrArg (fun a => (v (ix2 a d) : EReal)) (Fin.ext (by dsimp only; omega))
theorem padQ_at (w : FVec Ideal S384x8x96 .f32) (d : Fin 384) (h : Fin 8) (l : Fin 128) :
    padQ w (ix2 d (hl h l)) = if e : l.val < 96 then (w (ix3 d h ⟨l.val, e⟩) : EReal) else 0 := by
  pointwise! [padQ, hl]
  rw [zero_int]
theorem padK_at (w : FVec Ideal S128x8x128 .f32) (d : Fin 128) (h : Fin 8) (l : Fin 128) :
    padK w (ix2 d (hl h l)) = if l.val < 64 then (w (ix3 d h l) : EReal) else 0 := by
  pointwise! [padK, hl]
  rw [zero_int]
  by_cases e : l.val < 64
  · rw [dif_pos e, if_pos e]
  · rw [dif_neg e, if_neg e]
theorem valV_at (w : FVec Ideal S128x8x128 .f32) (d : Fin 128) (h : Fin 8) (l : Fin 64) : valV w (ix2 d (hv h l)) = w (ix3 d h ⟨64 + l.val, by omega⟩) := by
  pointwise! [valV, hv]
theorem byLane_at (f : FVec Ideal S16 .f32) (l : Fin 128) : byLane f (ix2 0 l) = spread 0 (fun i => f (ix1 i)) l := by
  unfold spread
  pointwise [byLane]
  by_cases h1 : l.val < 64
  · rw [dif_pos h1, if_pos h1]
  · rw [dif_neg h1, if_neg h1]
    by_cases h2 : l.val < 80
    · rw [dif_pos (by omega), dif_pos h2]
    · rw [dif_neg (by omega), dif_neg h2]
      by_cases h3 : l.val < 96
      · rw [dif_pos (by omega), dif_pos h3]
        exact congrArg (fun a => (f (ix1 a) : EReal)) (Fin.ext (by dsimp only; omega))
      · rw [dif_neg (by omega), dif_neg h3]
theorem column_at (p : IVec S4096 32) (s : Fin 4096) : column p (ix2 s 0) = p (ix1 s) := by
  pointwise [column]
theorem row1024_at (w : FVec Ideal S1024 .f32) (d : Fin 1024) : row1024 w (ix2 0 d) = w (ix1 d) := by
  pointwise [row1024]
theorem row384_at (w : FVec Ideal S384 .f32) (d : Fin 384) : row384 w (ix2 0 d) = w (ix1 d) := by
  pointwise [row384]
theorem row128_at (w : FVec Ideal S128 .f32) (d : Fin 128) : row128 w (ix2 0 d) = w (ix1 d) := by
  pointwise [row128]
theorem pos_at (x : Vec Ideal S512x1 .i32) (r : Fin 512) : (k0_pay8 (F := Ideal) x) (ix2 r 0) = FloatOps.sitofp (F := Ideal) .f32 (x (ix2 r 0)) := by
  pointwise [k0_pay8]

/-- A layer's arrays. -/
def netOf (x : FVec Ideal S4096x1024 .f32) (p : IVec S4096 32) (w : FVec Ideal S1024 .f32) (wi : FVec Ideal S1024x2592 .f32) (wqn : FVec Ideal S384 .f32)
    (wq : FVec Ideal S384x8x96 .f32) (wkn : FVec Ideal S128 .f32) (wkv : FVec Ideal S128x8x128 .f32) : Net where
  x s d := x (ix2 s d)
  p s := FloatOps.sitofp (F := Ideal) .f32 (p (ix1 s))
  w d := w (ix1 d)
  wi d j := wi (ix2 d j)
  wqn d := wqn (ix1 d)
  wq d h l := wq (ix3 d h l)
  wkn d := wkn (ix1 d)
  wkv d h l := wkv (ix3 d h l)
  iv i := freq (ix1 i)

variable (m : (ℓ : Loc nD τ sig) → Buf (Elt Ideal) ℓ) (c : Dev nD)

/-- The program's arguments. -/
abbrev aX : FVec Ideal S4096x1024 .f32 := m ((c.tc : Thread nD τ).loc main_arg0)
abbrev aP : IVec S4096 32 := m ((c.tc : Thread nD τ).loc main_arg1)
abbrev aW : FVec Ideal S1024 .f32 := m ((c.tc : Thread nD τ).loc main_arg2)
abbrev aI : FVec Ideal S1024x2592 .f32 := m ((c.tc : Thread nD τ).loc main_arg3)
abbrev aQn : FVec Ideal S384 .f32 := m ((c.tc : Thread nD τ).loc main_arg4)
abbrev aQ : FVec Ideal S384x8x96 .f32 := m ((c.tc : Thread nD τ).loc main_arg5)
abbrev aKn : FVec Ideal S128 .f32 := m ((c.tc : Thread nD τ).loc main_arg6)
abbrev aKv : FVec Ideal S128x8x128 .f32 := m ((c.tc : Thread nD τ).loc main_arg7)
/-- Their layer. -/
abbrev net : Net := netOf (aX m c) (aP m c) (aW m c) (aI m c) (aQn m c) (aQ m c) (aKn m c) (aKv m c)

/-- The call's operands are these. -/
theorem V17 : V m c main_v17 = column (aP m c) := by entry_read; rfl
theorem V32 : V m c main_v32 = byLane freq := by entry_read; rfl
theorem V33 : V m c main_v33 = row1024 (aW m c) := by entry_read; rfl
theorem V9 : V m c main_v9 = joined (cols (aI m c)) := by entry_read; rfl
theorem V34 : V m c main_v34 = row384 (aQn m c) := by entry_read; rfl
theorem V11 : V m c main_v11 = padQ (aQ m c) := by entry_read; rfl
theorem V35 : V m c main_v35 = row128 (aKn m c) := by entry_read; rfl
theorem V14 : V m c main_v14 = padK (aKv m c) := by entry_read; rfl
theorem V16 : V m c main_v16 = valV (aKv m c) := by entry_read; rfl

/-- The windows' index maps. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![0, t.val] ∧ win0_17.index t = ![0, t.val]
    ∧ win0_18.index t = ![t.val, 0] ∧ win0_19.index t = ![t.val, 0] :=
  (by decide +kernel : ∀ t : Fin grid0.N, _)

variable (t : Fin cfg0.N)

theorem lt8 : t.val < 8 := lt_of_lt_of_eq t.isLt (show cfg0.N = 8 from N_0)

/-- A grid point's block of tokens. -/
def bAt : Fin 8 := ⟨t.val, lt8 t⟩

theorem rd0 (r : Fin 512) (d : Fin 1024) (s : Fin 4096) (hs : s.val = 512 * t.val + r.val) : iblk m c 0 t (ix2 r d) = V m c main_arg0 (ix2 s d) := by
  blk_ext [iblk, idx t]
theorem rd1 (r : Fin 512) (s : Fin 4096) (hs : s.val = 512 * t.val + r.val) : iblk m c 1 t (ix2 r 0) = V m c main_v17 (ix2 s 0) := by
  blk_ext [iblk, idx t]
theorem rd2 (d : Fin 128) : iblk m c 2 t (ix2 0 d) = V m c main_v32 (ix2 0 d) := by
  blk_ext [iblk, idx t]
theorem rd3 (d : Fin 1024) : iblk m c 3 t (ix2 0 d) = V m c main_v33 (ix2 0 d) := by
  blk_ext [iblk, idx t]
theorem rd4 (j : Fin 2688) (d : Fin 1024) : iblk m c 4 t (ix2 j d) = V m c main_v9 (ix2 j d) := by
  blk_ext [iblk, idx t]
theorem rd5 (d : Fin 384) : iblk m c 5 t (ix2 0 d) = V m c main_v34 (ix2 0 d) := by
  blk_ext [iblk, idx t]
theorem rd6 (d : Fin 384) (j : Fin 1024) : iblk m c 6 t (ix2 d j) = V m c main_v11 (ix2 d j) := by
  blk_ext [iblk, idx t]
theorem rd7 (d : Fin 128) : iblk m c 7 t (ix2 0 d) = V m c main_v35 (ix2 0 d) := by
  blk_ext [iblk, idx t]
theorem rd8 (d : Fin 128) (j : Fin 1024) : iblk m c 8 t (ix2 d j) = V m c main_v14 (ix2 d j) := by
  blk_ext [iblk, idx t]
theorem rd9 (d : Fin 128) (j : Fin 512) : iblk m c 9 t (ix2 d j) = V m c main_v16 (ix2 d j) := by
  blk_ext [iblk, idx t]

/-- The blocks that a grid point reads are the layer's. -/
theorem pt_is : PtIs (net m c) (bAt t) (iblk m c 0 t) (iblk m c 1 t) (iblk m c 2 t) (iblk m c 3 t) (iblk m c 4 t) (iblk m c 5 t) (iblk m c 6 t) (iblk m c 7 t)
    (iblk m c 8 t) (iblk m c 9 t) where
  x r d := by rw [rd0 m c t r d (tk (bAt t) r) rfl, V_main_arg0]; rfl
  p r := by rw [pos_at, rd1 m c t r (tk (bAt t) r) rfl, V17, column_at]; rfl
  f l := by rw [rd2 m c t l, V32, byLane_at]; rfl
  w d := by rw [rd3 m c t d, V33, row1024_at]; rfl
  wi j d := by
    rw [rd4 m c t j d, V9, joined_at]
    unfold Net.win
    split_ifs <;> first | rfl | exact cols_at _ _ _
  wqn d := by rw [rd5 m c t d, V34, row384_at]; rfl
  wq d h l := by rw [rd6 m c t d _, V11, padQ_at]; rfl
  wkn d := by rw [rd7 m c t d, V35, row128_at]; rfl
  wk d h l := by rw [rd8 m c t d _, V14, padK_at]; rfl
  wv d h l := by rw [rd9 m c t d _, V16, valV_at]; rfl

end Cert.Kernel4Ideal.Hand

end
-- ==== Proof.InRef.lean ====
module

public import proofs.«01_k».proof.Proof.InModel
public import proofs.«01_k».proof.Proof.Gen.Reference4Ideal.Run
public import Idealize.ShloMosaic.Lib.Pointwise
public import Idealize.ShloMosaic.Lib.IdealHost

@[expose] public section

set_option maxRecDepth 16384

noncomputable section

/-! The results of the reference of the layer's input call, read at an index. -/

namespace Cert.InRef

open Cert.Reference4Ideal Cert.Reference4Ideal.Gen Cert.In
open Idealize.ShloMosaic Idealize.SL.Sem

/-- A constant for every token. -/
def every (b : BitVec 32) : FVec Ideal S4096x1 .f32 := broadcastInDim S4096x1 ![] bcast_S_S4096x1 (constant S_ .f32 b)
/-- A sum for every token as a column, -/
def asCol (x : FVec Ideal S4096 .f32) : FVec Ideal S4096x1 .f32 := broadcastInDim S4096x1 ![0] bcast_S4096_S4096x1_0 x
/-- one over the root of its mean. -/
def root (b : BitVec 32) (x : FVec Ideal S4096 .f32) : FVec Ideal S4096x1 .f32 := Host.rsqrt (addf (Host.divf (asCol x) (every b)) (every 0x358637BD#32))
/-- The normed tokens, -/
def normX (y : FVec Ideal S4096x1024 .f32) (w : FVec Ideal S1024 .f32) : FVec Ideal S4096x1024 .f32 :=
  mulf (mulf y (broadcastInDim S4096x1024 ![0, 1] bcast_S4096x1_S4096x1024_0_1
    (root 0x44800000#32 (Host.reduceAdd (mulf y y) (constant S_ .f32 0x00000000#32) reducesTo_S4096x1024_S4096_d1 h_S_))))
    (broadcastInDim S4096x1024 ![0, 1] bcast_S1x1024_S4096x1024_0_1 (broadcastInDim S1x1024 ![1] bcast_S1024_S1x1024_1 w))
/-- the queries' rows -/
def normQ (y : FVec Ideal S4096x384 .f32) (w : FVec Ideal S384 .f32) : FVec Ideal S4096x384 .f32 :=
  mulf (mulf y (broadcastInDim S4096x384 ![0, 1] bcast_S4096x1_S4096x384_0_1
    (root 0x43C00000#32 (Host.reduceAdd (mulf y y) (constant S_ .f32 0x00000000#32) reducesTo_S4096x384_S4096_d1 h_S_))))
    (broadcastInDim S4096x384 ![0, 1] bcast_S1x384_S4096x384_0_1 (broadcastInDim S1x384 ![1] bcast_S384_S1x384_1 w))
/-- and the keys'. -/
def normK (y : FVec Ideal S4096x128 .f32) (w : FVec Ideal S128 .f32) : FVec Ideal S4096x128 .f32 :=
  mulf (mulf y (broadcastInDim S4096x128 ![0, 1] bcast_S4096x1_S4096x128_0_1
    (root 0x43000000#32 (Host.reduceAdd (mulf y y) (constant S_ .f32 0x00000000#32) reducesTo_S4096x128_S4096_d1 h_S_))))
    (broadcastInDim S4096x128 ![0, 1] bcast_S1x128_S4096x128_0_1 (broadcastInDim S1x128 ![1] bcast_S128_S1x128_1 w))
/-- The projection, -/
def proj (u : FVec Ideal S4096x1024 .f32) (w : FVec Ideal S1024x2592 .f32) : FVec Ideal S4096x2592 .f32 :=
  Host.dotGeneral dot_S4096x1024_S1024x2592_S4096x2592_1_0_0_1_n_n none u w
/-- its parts. -/
def partQ (v : FVec Ideal S4096x2592 .f32) : FVec Ideal S4096x384 .f32 := extractStridedSlice S4096x384 ![0, 0] v slices_S4096x2592_S4096x384_0_0
def partK (v : FVec Ideal S4096x2592 .f32) : FVec Ideal S4096x128 .f32 := extractStridedSlice S4096x128 ![0, 384] v slices_S4096x2592_S4096x128_0_384
def partR (v : FVec Ideal S4096x2592 .f32) : FVec Ideal S4096x32 .f32 := extractStridedSlice S4096x32 ![0, 512] v slices_S4096x2592_S4096x32_0_512
def partH (v : FVec Ideal S4096x2592 .f32) : FVec Ideal S4096x2048 .f32 := extractStridedSlice S4096x2048 ![0, 544] v slices_S4096x2592_S4096x2048_0_544
/-- The heads, -/
def headsQ (u : FVec Ideal S4096x384 .f32) (w : FVec Ideal S384x8x96 .f32) : FVec Ideal S4096x8x96 .f32 :=
  Host.dotGeneral dot_S4096x384_S384x8x96_S4096x8x96_1_0_0_12_n_n none u w
def headsK (u : FVec Ideal S4096x128 .f32) (w : FVec Ideal S128x8x128 .f32) : FVec Ideal S4096x8x128 .f32 :=
  Host.dotGeneral dot_S4096x128_S128x8x128_S4096x8x128_1_0_0_12_n_n none u w
/-- their lanes before the rotary ones and the rotary ones, -/
def plainQ (v : FVec Ideal S4096x8x96 .f32) : FVec Ideal S4096x8x64 .f32 := extractStridedSlice S4096x8x64 ![0, 0, 0] v slices_S4096x8x96_S4096x8x64_0_0_0
def rotaryQ (v : FVec Ideal S4096x8x96 .f32) : FVec Ideal S4096x8x32 .f32 := extractStridedSlice S4096x8x32 ![0, 0, 64] v slices_S4096x8x96_S4096x8x32_0_0_64
/-- the keys' lanes and the values'. -/
def lanesK (v : FVec Ideal S4096x8x128 .f32) : FVec Ideal S4096x8x64 .f32 := extractStridedSlice S4096x8x64 ![0, 0, 0] v slices_S4096x8x128_S4096x8x64_0_0_0
def lanesV (v : FVec Ideal S4096x8x128 .f32) : FVec Ideal S4096x8x64 .f32 := extractStridedSlice S4096x8x64 ![0, 0, 64] v slices_S4096x8x128_S4096x8x64_0_0_64
/-- A number for every frequency, -/
def each (b : BitVec 32) : FVec Ideal S16 .f32 := broadcastInDim S16 ![] bcast_S_S16 (constant S_ .f32 b)
/-- the frequencies, -/
def freq : FVec Ideal S16 .f32 :=
  Host.divf (each 0x3F800000#32) (Host.powf (each 0x461C4000#32) (Host.divf (addf (each 0x00000000#32) (mulf (each 0x40000000#32) (sitofp .f32 (iotaInDim S16 32 0)))) (each 0x42000000#32)))
/-- the angles. -/
def angle (p : IVec S4096 32) : FVec Ideal S4096x16 .f32 :=
  mulf (broadcastInDim S4096x16 ![0, 1] bcast_S4096x1_S4096x16_0_1 (asCol (sitofp .f32 p)))
    (broadcastInDim S4096x16 ![0, 1] bcast_S1x16_S4096x16_0_1 (broadcastInDim S1x16 ![1] bcast_S16_S1x16_1 freq))
/-- Sixteen numbers of a token for its heads, -/
def toHeads (v : FVec Ideal S4096x16 .f32) : FVec Ideal S4096x8x16 .f32 :=
  broadcastInDim S4096x8x16 ![0, 1, 2] bcast_S4096x1x16_S4096x8x16_0_1_2 (broadcastInDim S4096x1x16 ![0, 2] bcast_S4096x16_S4096x1x16_0_2 v)
/-- the two halves of the rotary lanes, -/
def fstQ (v : FVec Ideal S4096x8x32 .f32) : FVec Ideal S4096x8x16 .f32 := extractStridedSlice S4096x8x16 ![0, 0, 0] v slices_S4096x8x32_S4096x8x16_0_0_0
def sndQ (v : FVec Ideal S4096x8x32 .f32) : FVec Ideal S4096x8x16 .f32 := extractStridedSlice S4096x8x16 ![0, 0, 16] v slices_S4096x8x32_S4096x8x16_0_0_16
def fstK (v : FVec Ideal S4096x32 .f32) : FVec Ideal S4096x16 .f32 := extractStridedSlice S4096x16 ![0, 0] v slices_S4096x32_S4096x16_0_0
def sndK (v : FVec Ideal S4096x32 .f32) : FVec Ideal S4096x16 .f32 := extractStridedSlice S4096x16 ![0, 16] v slices_S4096x32_S4096x16_0_16
/-- the rotary embedding of the heads -/
def turnQ (v : FVec Ideal S4096x8x32 .f32) (c s : FVec Ideal S4096x16 .f32) : FVec Ideal S4096x8x32 .f32 :=
  concatenate S4096x8x32 2 [⟨S4096x8x16, subf (mulf (fstQ v) (toHeads c)) (mulf (sndQ v) (toHeads s))⟩, ⟨S4096x8x16, addf (mulf (fstQ v) (toHeads s)) (mulf (sndQ v) (toHeads c))⟩]
    concatenates_S4096x8x16_S4096x8x16_S4096x8x32_d2
/-- and of the shared key, -/
def turnK (v : FVec Ideal S4096x32 .f32) (c s : FVec Ideal S4096x16 .f32) : FVec Ideal S4096x32 .f32 :=
  concatenate S4096x32 1 [⟨S4096x16, subf (mulf (fstK v) c) (mulf (sndK v) s)⟩, ⟨S4096x16, addf (mulf (fstK v) s) (mulf (sndK v) c)⟩]
    concatenates_S4096x16_S4096x16_S4096x32_d1
/-- this for every head. -/
def shared (v : FVec Ideal S4096x32 .f32) : FVec Ideal S4096x8x32 .f32 :=
  broadcastInDim S4096x8x32 ![0, 1, 2] bcast_S4096x1x32_S4096x8x32_0_1_2 (broadcastInDim S4096x1x32 ![0, 2] bcast_S4096x32_S4096x1x32_0_2 v)
/-- Heads of 128 lanes, the last ones zero. -/
def heads (a : FVec Ideal S4096x8x64 .f32) (b : FVec Ideal S4096x8x32 .f32) : FVec Ideal S4096x8x128 .f32 :=
  concatenate S4096x8x128 2 [⟨S4096x8x64, a⟩, ⟨S4096x8x32, b⟩, ⟨S4096x8x32, (broadcastInDim S4096x8x32 ![] bcast_S_S4096x8x32 (constant S_ .f32 0x00000000#32) : FVec Ideal S4096x8x32 .f32)⟩]
    concatenates_S4096x8x64_S4096x8x32_S4096x8x32_S4096x8x128_d2
/-- The heads as rows, -/
def flat (v : FVec Ideal S4096x8x128 .f32) : FVec Ideal S4096x1024 .bf16 := truncf .bf16 (shapeCast S4096x1024 v shapeCasts_S4096x8x128_S4096x1024) bitsLt_bf16_f32
def flatV (v : FVec Ideal S4096x8x64 .f32) : FVec Ideal S4096x512 .bf16 := truncf .bf16 (shapeCast S4096x512 v shapeCasts_S4096x8x64_S4096x512) bitsLt_bf16_f32
/-- by the scores' scale. -/
def scale (v : FVec Ideal S4096x8x128 .f32) : FVec Ideal S4096x8x128 .f32 := mulf v (broadcastInDim S4096x8x128 ![] bcast_S_S4096x8x128 (constant S_ .f32 0x3E16C740#32))
/-- The transposed keys and values, -/
def flipK (v : FVec Ideal S4096x1024 .bf16) : FVec Ideal S1024x4096 .bf16 := transpose S1024x4096 [1, 0] v transposes_S4096x1024_S1024x4096_1_0
def flipV (v : FVec Ideal S4096x512 .bf16) : FVec Ideal S512x4096 .bf16 := transpose S512x4096 [1, 0] v transposes_S4096x512_S512x4096_1_0
/-- and sixteen numbers by lanes. -/
def lanes (b : BitVec 32) (v : FVec Ideal S4096x16 .f32) : FVec Ideal S4096x128 .f32 :=
  concatenate S4096x128 1 [⟨S4096x64, (broadcastInDim S4096x64 ![] bcast_S_S4096x64 (constant S_ .f32 b) : FVec Ideal S4096x64 .f32)⟩, ⟨S4096x16, v⟩, ⟨S4096x16, v⟩,
    ⟨S4096x32, (broadcastInDim S4096x32 ![] bcast_S_S4096x32 (constant S_ .f32 b) : FVec Ideal S4096x32 .f32)⟩] concatenates_S4096x64_S4096x16_S4096x16_S4096x32_S4096x128_d1

theorem root_at (b : BitVec 32) (x : FVec Ideal S4096 .f32) (s : Fin 4096) :
    root b x (ix2 s 0) = Ideal.rsqrt (Ideal.div (x (ix1 s)) (Ideal.ofBits .f32 b) + Ideal.ofBits .f32 0x358637BD#32) := by
  pointwise [root, asCol, every]
theorem normX_at (y : FVec Ideal S4096x1024 .f32) (w : FVec Ideal S1024 .f32) (s : Fin 4096) (d : Fin 1024) :
    normX y w (ix2 s d) = (y (ix2 s d) : EReal) * irms 0x44800000#32 (fun d => (y (ix2 s d) : EReal)) * w (ix1 d) := by
  unfold irms
  pointwise [normX, root, asCol, every]
theorem normQ_at (y : FVec Ideal S4096x384 .f32) (w : FVec Ideal S384 .f32) (s : Fin 4096) (d : Fin 384) :
    normQ y w (ix2 s d) = (y (ix2 s d) : EReal) * irms 0x43C00000#32 (fun d => (y (ix2 s d) : EReal)) * w (ix1 d) := by
  unfold irms
  pointwise [normQ, root, asCol, every]
theorem normK_at (y : FVec Ideal S4096x128 .f32) (w : FVec Ideal S128 .f32) (s : Fin 4096) (d : Fin 128) :
    normK y w (ix2 s d) = (y (ix2 s d) : EReal) * irms 0x43000000#32 (fun d => (y (ix2 s d) : EReal)) * w (ix1 d) := by
  unfold irms
  pointwise [normK, root, asCol, every]
theorem proj_at (u : FVec Ideal S4096x1024 .f32) (w : FVec Ideal S1024x2592 .f32) (s : Fin 4096) (j : Fin 2592) :
    proj u w (ix2 s j) = ∑ d, (u (ix2 s d) : EReal) * w (ix2 d j) := by
  pointwise [proj]
theorem partQ_at (v : FVec Ideal S4096x2592 .f32) (s : Fin 4096) (d : Fin 384) : partQ v (ix2 s d) = v (ix2 s ⟨d.val, by omega⟩) := by
  pointwise [partQ]
theorem partK_at (v : FVec Ideal S4096x2592 .f32) (s : Fin 4096) (d : Fin 128) : partK v (ix2 s d) = v (ix2 s ⟨384 + d.val, by omega⟩) := by
  pointwise [partK]
theorem partR_at (v : FVec Ideal S4096x2592 .f32) (s : Fin 4096) (l : Fin 32) : partR v (ix2 s l) = v (ix2 s ⟨512 + l.val, by omega⟩) := by
  pointwise [partR]
theorem partH_at (v : FVec Ideal S4096x2592 .f32) (s : Fin 4096) (j : Fin 2048) : partH v (ix2 s j) = v (ix2 s ⟨544 + j.val, by omega⟩) := by
  pointwise [partH]
theorem headsQ_at (u : FVec Ideal S4096x384 .f32) (w : FVec Ideal S384x8x96 .f32) (s : Fin 4096) (h : Fin 8) (l : Fin 96) :
    headsQ u w (ix3 s h l) = ∑ d, (u (ix2 s d) : EReal) * w (ix3 d h l) := by
  pointwise [headsQ]
theorem headsK_at (u : FVec Ideal S4096x128 .f32) (w : FVec Ideal S128x8x128 .f32) (s : Fin 4096) (h : Fin 8) (l : Fin 128) :
    headsK u w (ix3 s h l) = ∑ d, (u (ix2 s d) : EReal) * w (ix3 d h l) := by
  pointwise [headsK]
theorem plainQ_at (v : FVec Ideal S4096x8x96 .f32) (s : Fin 4096) (h : Fin 8) (l : Fin 64) : plainQ v (ix3 s h l) = v (ix3 s h ⟨l.val, by omega⟩) := by
  pointwise [plainQ]
theorem rotaryQ_at (v : FVec Ideal S4096x8x96 .f32) (s : Fin 4096) (h : Fin 8) (l : Fin 32) : rotaryQ v (ix3 s h l) = v (ix3 s h ⟨64 + l.val, by omega⟩) := by
  pointwise [rotaryQ]
theorem lanesK_at (v : FVec Ideal S4096x8x128 .f32) (s : Fin 4096) (h : Fin 8) (l : Fin 64) : lanesK v (ix3 s h l) = v (ix3 s h ⟨l.val, by omega⟩) := by
  pointwise [lanesK]
theorem lanesV_at (v : FVec Ideal S4096x8x128 .f32) (s : Fin 4096) (h : Fin 8) (l : Fin 64) : lanesV v (ix3 s h l) = v (ix3 s h ⟨64 + l.val, by omega⟩) := by
  pointwise [lanesV]
theorem angle_at (p : IVec S4096 32) (s : Fin 4096) (i : Fin 16) : angle p (ix2 s i) = (FloatOps.sitofp (F := Ideal) .f32 (p (ix1 s)) : EReal) * freq (ix1 i) := by
  pointwise [angle, asCol]
theorem toHeads_at (v : FVec Ideal S4096x16 .f32) (s : Fin 4096) (h : Fin 8) (i : Fin 16) : toHeads v (ix3 s h i) = v (ix2 s i) := by
  pointwise [toHeads]
theorem fstQ_at (v : FVec Ideal S4096x8x32 .f32) (s : Fin 4096) (h : Fin 8) (i : Fin 16) : fstQ v (ix3 s h i) = v (ix3 s h ⟨i.val, by omega⟩) := by
  pointwise [fstQ]
theorem sndQ_at (v : FVec Ideal S4096x8x32 .f32) (s : Fin 4096) (h : Fin 8) (i : Fin 16) : sndQ v (ix3 s h i) = v (ix3 s h ⟨16 + i.val, by omega⟩) := by
  pointwise [sndQ]
theorem fstK_at (v : FVec Ideal S4096x32 .f32) (s : Fin 4096) (i : Fin 16) : fstK v (ix2 s i) = v (ix2 s ⟨i.val, by omega⟩) := by
  pointwise [fstK]
theorem sndK_at (v : FVec Ideal S4096x32 .f32) (s : Fin 4096) (i : Fin 16) : sndK v (ix2 s i) = v (ix2 s ⟨16 + i.val, by omega⟩) := by
  pointwise [sndK]
theorem turnQ_at (v : FVec Ideal S4096x8x32 .f32) (c s : FVec Ideal S4096x16 .f32) (t : Fin 4096) (h : Fin 8) (l : Fin 32) : turnQ v c s (ix3 t h l)
    = if e : l.val < 16 then (v (ix3 t h l) : EReal) * c (ix2 t ⟨l.val, e⟩) - v (ix3 t h ⟨16 + l.val, by omega⟩) * s (ix2 t ⟨l.val, e⟩)
      else (v (ix3 t h ⟨l.val - 16, by omega⟩) : EReal) * s (ix2 t ⟨l.val - 16, by omega⟩) + v (ix3 t h l) * c (ix2 t ⟨l.val - 16, by omega⟩) := by
  pointwise [turnQ, fstQ, sndQ, toHeads]
  by_cases e : l.val < 16
  · rw [dif_pos e, dif_pos e]
  · rw [dif_neg e, dif_neg e]
    have e1 : 16 + (l.val - 16) = l.val := by omega
    simp only [e1, Fin.eta]
theorem turnK_at (v : FVec Ideal S4096x32 .f32) (c s : FVec Ideal S4096x16 .f32) (t : Fin 4096) (l : Fin 32) : turnK v c s (ix2 t l)
    = if e : l.val < 16 then (v (ix2 t l) : EReal) * c (ix2 t ⟨l.val, e⟩) - v (ix2 t ⟨16 + l.val, by omega⟩) * s (ix2 t ⟨l.val, e⟩)
      else (v (ix2 t ⟨l.val - 16, by omega⟩) : EReal) * s (ix2 t ⟨l.val - 16, by omega⟩) + v (ix2 t l) * c (ix2 t ⟨l.val - 16, by omega⟩) := by
  pointwise [turnK, fstK, sndK]
  by_cases e : l.val < 16
  · rw [dif_pos e, dif_pos e]
  · rw [dif_neg e, dif_neg e]
    have e1 : 16 + (l.val - 16) = l.val := by omega
    simp only [e1, Fin.eta]
theorem shared_at (v : FVec Ideal S4096x32 .f32) (s : Fin 4096) (h : Fin 8) (l : Fin 32) : shared v (ix3 s h l) = v (ix2 s l) := by
  pointwise [shared]
theorem heads_at (a : FVec Ideal S4096x8x64 .f32) (b : FVec Ideal S4096x8x32 .f32) (s : Fin 4096) (h : Fin 8) (l : Fin 128) : heads a b (ix3 s h l)
    = if e : l.val < 64 then (a (ix3 s h ⟨l.val, e⟩) : EReal) else if f : l.val < 96 then b (ix3 s h ⟨l.val - 64, by omega⟩) else 0 := by
  pointwise [heads]
  by_cases h1 : l.val < 64
  · rw [dif_pos h1, dif_pos h1]
  · rw [dif_neg h1, dif_neg h1]
    by_cases h2 : l.val < 96
    · rw [dif_pos (by omega), dif_pos h2]
    · rw [dif_neg (by omega), dif_neg h2]
theorem flat_at (v : FVec Ideal S4096x8x128 .f32) (s : Fin 4096) (h : Fin 8) (l : Fin 128) : flat v (ix2 s (hl h l)) = v (ix3 s h l) := by
  pointwise! [flat, hl]
theorem flatV_at (v : FVec Ideal S4096x8x64 .f32) (s : Fin 4096) (h : Fin 8) (l : Fin 64) : flatV v (ix2 s (hv h l)) = v (ix3 s h l) := by
  pointwise! [flatV, hv]
theorem scale_at (v : FVec Ideal S4096x8x128 .f32) (s : Fin 4096) (h : Fin 8) (l : Fin 128) : scale v (ix3 s h l) = (v (ix3 s h l) : EReal) * Ideal.ofBits .f32 0x3E16C740#32 := by
  pointwise [scale]
theorem flipK_at (v : FVec Ideal S4096x1024 .bf16) (s : Fin 4096) (j : Fin 1024) : flipK v (ix2 j s) = v (ix2 s j) := by
  pointwise [flipK]
theorem flipV_at (v : FVec Ideal S4096x512 .bf16) (s : Fin 4096) (j : Fin 512) : flipV v (ix2 j s) = v (ix2 s j) := by
  pointwise [flipV]
theorem lanes_at (b : BitVec 32) (v : FVec Ideal S4096x16 .f32) (s : Fin 4096) (l : Fin 128) : lanes b v (ix2 s l) = spread (Ideal.ofBits .f32 b) (fun i => (v (ix2 s i) : EReal)) l := by
  unfold spread
  pointwise [lanes]
  by_cases h1 : l.val < 64
  · rw [dif_pos h1, if_pos h1]
  · rw [dif_neg h1, if_neg h1]
    by_cases h2 : l.val < 80
    · rw [dif_pos (by omega), dif_pos h2]
    · rw [dif_neg (by omega), dif_neg h2]
      by_cases h3 : l.val < 96
      · rw [dif_pos (by omega), dif_pos h3]
        exact congrArg (fun a => (v (ix2 s a) : EReal)) (Fin.ext (by dsimp only; omega))
      · rw [dif_neg (by omega), dif_neg h3]

/-! ### The results. -/

section

variable (x : FVec Ideal S4096x1024 .f32) (p : IVec S4096 32) (w : FVec Ideal S1024 .f32) (wi : FVec Ideal S1024x2592 .f32) (wqn : FVec Ideal S384 .f32)
  (wq : FVec Ideal S384x8x96 .f32) (wkn : FVec Ideal S128 .f32) (wkv : FVec Ideal S128x8x128 .f32)

def resXp : FVec Ideal S4096x2592 .f32 := proj (normX x w) wi
def resQl : FVec Ideal S4096x384 .f32 := partQ (resXp x w wi)
def resKl : FVec Ideal S4096x128 .f32 := partK (resXp x w wi)
def resH : FVec Ideal S4096x2048 .f32 := partH (resXp x w wi)
def qh : FVec Ideal S4096x8x96 .f32 := headsQ (normQ (resQl x w wi) wqn) wq
def kvh : FVec Ideal S4096x8x128 .f32 := headsK (normK (resKl x w wi) wkn) wkv
def cosA : FVec Ideal S4096x16 .f32 := Host.cos (angle p)
def sinA : FVec Ideal S4096x16 .f32 := Host.sin (angle p)
def resQ : FVec Ideal S4096x1024 .bf16 := flat (scale (heads (plainQ (qh x w wi wqn wq)) (turnQ (rotaryQ (qh x w wi wqn wq)) (cosA p) (sinA p))))
def resK : FVec Ideal S4096x1024 .bf16 := flat (heads (lanesK (kvh x w wi wkn wkv)) (shared (turnK (partR (resXp x w wi)) (cosA p) (sinA p))))
def resV : FVec Ideal S4096x512 .bf16 := flatV (lanesV (kvh x w wi wkn wkv))
def resKt : FVec Ideal S1024x4096 .bf16 := flipK (resK x p w wi wkn wkv)
def resVt : FVec Ideal S512x4096 .bf16 := flipV (resV x w wi wkn wkv)
def resC : FVec Ideal S4096x128 .f32 := lanes 0x3F800000#32 (cosA p)
def resS : FVec Ideal S4096x128 .f32 := lanes 0x00000000#32 (sinA p)

/-- The arrays are a layer's. -/
structure Reads (N : Net) : Prop where
  hx : ∀ s d, x (ix2 s d) = N.x s d
  hp : ∀ s, FloatOps.sitofp (F := Ideal) .f32 (p (ix1 s)) = N.p s
  hw : ∀ d, w (ix1 d) = N.w d
  hi : ∀ d j, wi (ix2 d j) = N.wi d j
  hqn : ∀ d, wqn (ix1 d) = N.wqn d
  hq : ∀ d h l, wq (ix3 d h l) = N.wq d h l
  hkn : ∀ d, wkn (ix1 d) = N.wkn d
  hkv : ∀ d h l, wkv (ix3 d h l) = N.wkv d h l
  hf : ∀ i, freq (ix1 i) = N.iv i

end

variable {x : FVec Ideal S4096x1024 .f32} {p : IVec S4096 32} {w : FVec Ideal S1024 .f32} {wi : FVec Ideal S1024x2592 .f32} {wqn : FVec Ideal S384 .f32}
  {wq : FVec Ideal S384x8x96 .f32} {wkn : FVec Ideal S128 .f32} {wkv : FVec Ideal S128x8x128 .f32} {N : Net} (hN : Reads x p w wi wqn wq wkn wkv N)

include hN

theorem xp_is (s : Fin 4096) (j : Fin 2592) : resXp x w wi (ix2 s j) = N.xp s j := by
  have hx : (fun d => (x (ix2 s d) : EReal)) = N.x s := funext fun d => hN.hx s d
  exact (proj_at _ _ s j).trans (Finset.sum_congr rfl fun d _ => by rw [normX_at, hN.hi, hN.hx, hN.hw, hx]; rfl)
theorem resQl_is (s : Fin 4096) (d : Fin 384) : resQl x w wi (ix2 s d) = N.cq s d := (partQ_at _ s d).trans (xp_is hN s _)
theorem resKl_is (s : Fin 4096) (d : Fin 128) : resKl x w wi (ix2 s d) = N.ckv s d := (partK_at _ s d).trans (xp_is hN s _)
theorem resH_is (s : Fin 4096) (j : Fin 2048) : resH x w wi (ix2 s j) = N.rest s j := (partH_at _ s j).trans (xp_is hN s _)
theorem qh_is (s : Fin 4096) (h : Fin 8) (l : Fin 96) : qh x w wi wqn wq (ix3 s h l) = N.qh s h l := by
  have hx : (fun d => (resQl x w wi (ix2 s d) : EReal)) = N.cq s := funext fun d => resQl_is hN s d
  exact (headsQ_at _ _ s h l).trans (Finset.sum_congr rfl fun d _ => by rw [normQ_at, hN.hq, resQl_is hN, hN.hqn, hx]; rfl)
theorem kvh_is (s : Fin 4096) (h : Fin 8) (l : Fin 128) : kvh x w wi wkn wkv (ix3 s h l) = N.kvh s h l := by
  have hx : (fun d => (resKl x w wi (ix2 s d) : EReal)) = N.ckv s := funext fun d => resKl_is hN s d
  exact (headsK_at _ _ s h l).trans (Finset.sum_congr rfl fun d _ => by rw [normK_at, hN.hkv, resKl_is hN, hN.hkn, hx]; rfl)
theorem cosA_is (s : Fin 4096) (i : Fin 16) : cosA p (ix2 s i) = N.cs s i := by
  show Ideal.cos (angle p (ix2 s i)) = _
  rw [angle_at, hN.hp, hN.hf]; rfl
theorem sinA_is (s : Fin 4096) (i : Fin 16) : sinA p (ix2 s i) = N.sn s i := by
  show Ideal.sin (angle p (ix2 s i)) = _
  rw [angle_at, hN.hp, hN.hf]; rfl
theorem resQ_is (s : Fin 4096) (h : Fin 8) (l : Fin 128) : resQ x p w wi wqn wq (ix2 s (hl h l)) = N.q s h l := by
  unfold resQ
  rw [flat_at, scale_at, heads_at]
  unfold Net.q turn Net.qp
  refine congrArg (· * Ideal.ofBits .f32 0x3E16C740#32) ?_
  by_cases h1 : l.val < 64
  · rw [dif_pos h1, dif_pos h1, dif_pos (by omega), plainQ_at, qh_is hN]
  · rw [dif_neg h1, dif_neg h1]
    by_cases h2 : l.val < 80
    · rw [dif_pos (by omega), dif_pos h2, turnQ_at, dif_pos (by show l.val - 64 < 16; omega), rotaryQ_at, rotaryQ_at, qh_is hN, qh_is hN, cosA_is hN, sinA_is hN,
        dif_pos (by omega), dif_pos (by show l.val + 16 < 96; omega)]
      have e1 : 64 + (l.val - 64) = l.val := by omega
      have e2 : 64 + (16 + (l.val - 64)) = l.val + 16 := by omega
      simp only [e1, e2]
    · rw [dif_neg h2]
      by_cases h3 : l.val < 96
      · rw [dif_pos h3, dif_pos h3, turnQ_at, dif_neg (by show ¬l.val - 64 < 16; omega), rotaryQ_at, rotaryQ_at, qh_is hN, qh_is hN, cosA_is hN, sinA_is hN,
          dif_pos (by show l.val - 16 < 96; omega), dif_pos h3]
        have e1 : 64 + (l.val - 64) = l.val := by omega
        have e2 : 64 + (l.val - 80) = l.val - 16 := by omega
        have e3 : l.val - 64 - 16 = l.val - 80 := by omega
        simp only [e1, e2, e3]
      · rw [dif_neg h3, dif_neg h3, dif_neg h3]
theorem resK_is (s : Fin 4096) (h : Fin 8) (l : Fin 128) : resK x p w wi wkn wkv (ix2 s (hl h l)) = N.k s h l := by
  unfold resK
  rw [flat_at, heads_at]
  unfold Net.k turn Net.kp Net.kr
  by_cases h1 : l.val < 64
  · rw [dif_pos h1, if_pos h1, dif_pos h1, dif_neg (by omega), add_zero, lanesK_at, kvh_is hN]
  · rw [dif_neg h1, if_neg h1, dif_neg h1, zero_add]
    by_cases h2 : l.val < 80
    · rw [dif_pos (by omega), dif_pos h2, shared_at, turnK_at, dif_pos (by show l.val - 64 < 16; omega), partR_at, partR_at, xp_is hN, xp_is hN, cosA_is hN, sinA_is hN,
        dif_pos (by omega), dif_pos (by show 64 ≤ l.val + 16 ∧ l.val + 16 < 96; omega)]
      have e1 : 512 + (l.val - 64) = 448 + l.val := by omega
      have e2 : 512 + (16 + (l.val - 64)) = 448 + (l.val + 16) := by omega
      simp only [e1, e2]
    · rw [dif_neg h2]
      by_cases h3 : l.val < 96
      · rw [dif_pos h3, dif_pos h3, shared_at, turnK_at, dif_neg (by show ¬l.val - 64 < 16; omega), partR_at, partR_at, xp_is hN, xp_is hN, cosA_is hN, sinA_is hN,
          dif_pos (by show 64 ≤ l.val - 16 ∧ l.val - 16 < 96; omega), dif_pos (by omega)]
        have e1 : 512 + (l.val - 64) = 448 + l.val := by omega
        have e2 : 512 + (l.val - 80) = 448 + (l.val - 16) := by omega
        have e3 : l.val - 64 - 16 = l.val - 80 := by omega
        simp only [e1, e2, e3]
      · rw [dif_neg h3, dif_neg h3, dif_neg (by omega)]
theorem resV_is (s : Fin 4096) (h : Fin 8) (l : Fin 64) : resV x w wi wkn wkv (ix2 s (hv h l)) = N.v s h l := by
  unfold resV
  rw [flatV_at, lanesV_at, kvh_is hN]; rfl
theorem resKt_is (s : Fin 4096) (h : Fin 8) (l : Fin 128) : resKt x p w wi wkn wkv (ix2 (hl h l) s) = N.k s h l := (flipK_at _ s _).trans (resK_is hN s h l)
theorem resVt_is (s : Fin 4096) (h : Fin 8) (l : Fin 64) : resVt x w wi wkn wkv (ix2 (hv h l) s) = N.v s h l := (flipV_at _ s _).trans (resV_is hN s h l)
theorem resC_is (s : Fin 4096) (l : Fin 128) : resC p (ix2 s l) = N.rc s l := by
  unfold resC
  rw [lanes_at, show (fun i => (cosA p (ix2 s i) : EReal)) = N.cs s from funext fun i => cosA_is hN s i, Ideal.ofBits_one_f32]; rfl
theorem resS_is (s : Fin 4096) (l : Fin 128) : resS p (ix2 s l) = N.rs s l := by
  unfold resS
  rw [lanes_at, show (fun i => (sinA p (ix2 s i) : EReal)) = N.sn s from funext fun i => sinA_is hN s i, Ideal.ofBits_zero_f32]; rfl

end Cert.InRef

end
-- ==== Proof.InFinal.lean ====
module

public import proofs.«01_k».proof.Proof.InBlocks
public import proofs.«01_k».proof.Proof.InRef

@[expose] public section

set_option maxRecDepth 16384

noncomputable section

/-! The arrays that the layer's input call leaves: the reference's. -/

namespace Cert.Kernel4Ideal.Hand

open Cert.Kernel4Ideal Cert.Kernel4Ideal.Gen Cert.In
open Idealize.ShloMosaic Idealize.ShloMosaic.TcCoe Idealize.SL.Sem

/-- An entry of a stored head is the block's at its place, -/
theorem pieceC (G : Fin 512 → Fin 1024 → EReal) (p : Vec Ideal S512x128 .bf16) (k : Fin 8) (q : ∀ r l, p (ix2 r l) = G r (hl k l)) (x : S512x128.Idx)
    (r : Fin 512) (j : Fin 1024) (h0 : r.val = (x 0).val) (h1 : j.val = 128 * k.val + (x 1).val) : p x = G r j := by
  obtain ⟨r', l, rfl⟩ : ∃ (r' : Fin 512) (l : Fin 128), x = ix2 r' l := ⟨x 0, x 1, eq_ix2 x⟩
  obtain rfl : r = r' := Fin.ext h0
  obtain rfl : j = hl k l := Fin.ext h1
  exact q r l
/-- and as columns. -/
theorem pieceR (G : Fin 1024 → Fin 512 → EReal) (p : Vec Ideal S128x512 .bf16) (k : Fin 8) (q : ∀ r l, p (ix2 l r) = G (hl k l) r) (x : S128x512.Idx)
    (j : Fin 1024) (r : Fin 512) (h0 : j.val = 128 * k.val + (x 0).val) (h1 : r.val = (x 1).val) : p x = G j r := by
  obtain ⟨l, r', rfl⟩ : ∃ (l : Fin 128) (r' : Fin 512), x = ix2 l r' := ⟨x 0, x 1, eq_ix2 x⟩
  obtain rfl : r = r' := Fin.ext h1
  obtain rfl : j = hl k l := Fin.ext h0
  exact q r l

/-- Eight heads stored in a block are there, -/
theorem tilesC (p0 p1 p2 p3 p4 p5 p6 p7 : Vec Ideal S512x128 .bf16) (G : Fin 512 → Fin 1024 → EReal)
    (q0 : ∀ r l, p0 (ix2 r l) = G r (hl 0 l)) (q1 : ∀ r l, p1 (ix2 r l) = G r (hl 1 l)) (q2 : ∀ r l, p2 (ix2 r l) = G r (hl 2 l)) (q3 : ∀ r l, p3 (ix2 r l) = G r (hl 3 l)) (q4 : ∀ r l, p4 (ix2 r l) = G r (hl 4 l)) (q5 : ∀ r l, p5 (ix2 r l) = G r (hl 5 l)) (q6 : ∀ r l, p6 (ix2 r l) = G r (hl 6 l)) (q7 : ∀ r l, p7 (ix2 r l) = G r (hl 7 l)) (r : Fin 512) (j : Fin 1024) :
    View.canon (Val := Elt Ideal) (e := .bf16) (s := S512x1024) [⟨Rect.unit ![0, 896] ![512, 128] inb_S512x1024_S512x128_0_896, p7⟩,
      ⟨Rect.unit ![0, 768] ![512, 128] inb_S512x1024_S512x128_0_768, p6⟩,
      ⟨Rect.unit ![0, 640] ![512, 128] inb_S512x1024_S512x128_0_640, p5⟩,
      ⟨Rect.unit ![0, 512] ![512, 128] inb_S512x1024_S512x128_0_512, p4⟩,
      ⟨Rect.unit ![0, 384] ![512, 128] inb_S512x1024_S512x128_0_384, p3⟩,
      ⟨Rect.unit ![0, 256] ![512, 128] inb_S512x1024_S512x128_0_256, p2⟩,
      ⟨Rect.unit ![0, 128] ![512, 128] inb_S512x1024_S512x128_0_128, p1⟩,
      ⟨Rect.unit ![0, 0] ![512, 128] inb_S512x1024_S512x128_0_0, p0⟩] (ix2 r j) = G r j := by
  canon_tiles x h
  · exact pieceC G p7 7 q7 x r j h0 (h1.trans (by simp))
  · exact pieceC G p6 6 q6 x r j h0 (h1.trans (by simp))
  · exact pieceC G p5 5 q5 x r j h0 (h1.trans (by simp))
  · exact pieceC G p4 4 q4 x r j h0 (h1.trans (by simp))
  · exact pieceC G p3 3 q3 x r j h0 (h1.trans (by simp))
  · exact pieceC G p2 2 q2 x r j h0 (h1.trans (by simp))
  · exact pieceC G p1 1 q1 x r j h0 (h1.trans (by simp))
  · exact pieceC G p0 0 q0 x r j h0 (h1.trans (by simp))
/-- and as columns. -/
theorem tilesR (p0 p1 p2 p3 p4 p5 p6 p7 : Vec Ideal S128x512 .bf16) (G : Fin 1024 → Fin 512 → EReal)
    (q0 : ∀ r l, p0 (ix2 l r) = G (hl 0 l) r) (q1 : ∀ r l, p1 (ix2 l r) = G (hl 1 l) r) (q2 : ∀ r l, p2 (ix2 l r) = G (hl 2 l) r) (q3 : ∀ r l, p3 (ix2 l r) = G (hl 3 l) r) (q4 : ∀ r l, p4 (ix2 l r) = G (hl 4 l) r) (q5 : ∀ r l, p5 (ix2 l r) = G (hl 5 l) r) (q6 : ∀ r l, p6 (ix2 l r) = G (hl 6 l) r) (q7 : ∀ r l, p7 (ix2 l r) = G (hl 7 l) r) (j : Fin 1024) (r : Fin 512) :
    View.canon (Val := Elt Ideal) (e := .bf16) (s := S1024x512) [⟨Rect.unit ![896, 0] ![128, 512] inb_S1024x512_S128x512_896_0, p7⟩,
      ⟨Rect.unit ![768, 0] ![128, 512] inb_S1024x512_S128x512_768_0, p6⟩,
      ⟨Rect.unit ![640, 0] ![128, 512] inb_S1024x512_S128x512_640_0, p5⟩,
      ⟨Rect.unit ![512, 0] ![128, 512] inb_S1024x512_S128x512_512_0, p4⟩,
      ⟨Rect.unit ![384, 0] ![128, 512] inb_S1024x512_S128x512_384_0, p3⟩,
      ⟨Rect.unit ![256, 0] ![128, 512] inb_S1024x512_S128x512_256_0, p2⟩,
      ⟨Rect.unit ![128, 0] ![128, 512] inb_S1024x512_S128x512_128_0, p1⟩,
      ⟨Rect.unit ![0, 0] ![128, 512] inb_S1024x512_S128x512_0_0, p0⟩] (ix2 j r) = G j r := by
  canon_tiles x h
  · exact pieceR G p7 7 q7 x j r (h0.trans (by simp)) h1
  · exact pieceR G p6 6 q6 x j r (h0.trans (by simp)) h1
  · exact pieceR G p5 5 q5 x j r (h0.trans (by simp)) h1
  · exact pieceR G p4 4 q4 x j r (h0.trans (by simp)) h1
  · exact pieceR G p3 3 q3 x j r (h0.trans (by simp)) h1
  · exact pieceR G p2 2 q2 x j r (h0.trans (by simp)) h1
  · exact pieceR G p1 1 q1 x j r (h0.trans (by simp)) h1
  · exact pieceR G p0 0 q0 x j r (h0.trans (by simp)) h1

section

variable (x0 : Vec Ideal S512x1024 .f32) (x1 : Vec Ideal S512x1 .i32) (x2 : Vec Ideal S1x128 .f32) (x3 : Vec Ideal S1x1024 .f32) (x4 : Vec Ideal S2688x1024 .bf16) (x5 : Vec Ideal S1x384 .f32) (x6 : Vec Ideal S384x1024 .bf16) (x7 : Vec Ideal S1x128 .f32) (x8 : Vec Ideal S128x1024 .bf16) (x9 : Vec Ideal S128x512 .bf16)

/-- A grid point's queries before the embedding, -/
def ptQ : FVec Ideal S512x1024 .f32 := k0_pay15 (k0_pay14 (k0_pay5 x0 x3 (lo x4)) x5) x6
/-- its keys' own lanes, -/
def ptK : FVec Ideal S512x1024 .f32 := k0_pay17 (k0_pay6 x0 x3 (lo x4)) x7 x8
/-- the embedding of a row, -/
def ptT (v : FVec Ideal S512x128 .f32) : FVec Ideal S512x128 .f32 := k0_pay21 v (k0_pay10 (k0_pay8 x1) x2) (k0_pay12 (k0_pay8 x1) x2) (k0_pay13 (k0_pay8 x1) x2)
/-- a head's keys. -/
def ptH (v : FVec Ideal S512x128 .f32) : FVec Ideal S512x128 .f32 := addf v (ptT x1 x2 (k0_pay7 x0 x3 (lo x4)))
/-- A head as it is stored. -/
def stored (v : FVec Ideal S512x128 .f32) : FVec Ideal S512x128 .bf16 := truncf .bf16 v bitsLt_bf16_f32

/-- What a grid point leaves. -/
theorem out10 : out0_10 x0 x1 x2 x3 x4 x5 x6 x7 x8 x9 = k0_pay5 x0 x3 (lo x4) := by
  unfold_out out0_10; frame_out; rfl
theorem out11 : out0_11 x0 x1 x2 x3 x4 x5 x6 x7 x8 x9 = k0_pay6 x0 x3 (lo x4) := by
  unfold_out out0_11; frame_out; rfl
theorem out12 : out0_12 x0 x1 x2 x3 x4 x5 x6 x7 x8 x9 = k0_pay4 x0 x3 (up x4) := by
  unfold_out out0_12; frame_out; rfl
theorem out13 : out0_13 x0 x1 x2 x3 x4 x5 x6 x7 x8 x9 = View.canon (Val := Elt Ideal) (e := .bf16) (s := S512x1024)
    [⟨Rect.unit ![0, 896] ![512, 128] inb_S512x1024_S512x128_0_896, scaled (ptT x1 x2 (hd7 (ptQ x0 x3 x4 x5 x6)))⟩,
      ⟨Rect.unit ![0, 768] ![512, 128] inb_S512x1024_S512x128_0_768, scaled (ptT x1 x2 (hd6 (ptQ x0 x3 x4 x5 x6)))⟩,
      ⟨Rect.unit ![0, 640] ![512, 128] inb_S512x1024_S512x128_0_640, scaled (ptT x1 x2 (hd5 (ptQ x0 x3 x4 x5 x6)))⟩,
      ⟨Rect.unit ![0, 512] ![512, 128] inb_S512x1024_S512x128_0_512, scaled (ptT x1 x2 (hd4 (ptQ x0 x3 x4 x5 x6)))⟩,
      ⟨Rect.unit ![0, 384] ![512, 128] inb_S512x1024_S512x128_0_384, scaled (ptT x1 x2 (hd3 (ptQ x0 x3 x4 x5 x6)))⟩,
      ⟨Rect.unit ![0, 256] ![512, 128] inb_S512x1024_S512x128_0_256, scaled (ptT x1 x2 (hd2 (ptQ x0 x3 x4 x5 x6)))⟩,
      ⟨Rect.unit ![0, 128] ![512, 128] inb_S512x1024_S512x128_0_128, scaled (ptT x1 x2 (hd1 (ptQ x0 x3 x4 x5 x6)))⟩,
      ⟨Rect.unit ![0, 0] ![512, 128] inb_S512x1024_S512x128_0_0, scaled (ptT x1 x2 (hd0 (ptQ x0 x3 x4 x5 x6)))⟩] := by
  unfold_out out0_13; frame_out; rfl
theorem out14 : out0_14 x0 x1 x2 x3 x4 x5 x6 x7 x8 x9 = View.canon (Val := Elt Ideal) (e := .bf16) (s := S512x1024)
    [⟨Rect.unit ![0, 896] ![512, 128] inb_S512x1024_S512x128_0_896, stored (ptH x0 x1 x2 x3 x4 (hd7 (ptK x0 x3 x4 x7 x8)))⟩,
      ⟨Rect.unit ![0, 768] ![512, 128] inb_S512x1024_S512x128_0_768, stored (ptH x0 x1 x2 x3 x4 (hd6 (ptK x0 x3 x4 x7 x8)))⟩,
      ⟨Rect.unit ![0, 640] ![512, 128] inb_S512x1024_S512x128_0_640, stored (ptH x0 x1 x2 x3 x4 (hd5 (ptK x0 x3 x4 x7 x8)))⟩,
      ⟨Rect.unit ![0, 512] ![512, 128] inb_S512x1024_S512x128_0_512, stored (ptH x0 x1 x2 x3 x4 (hd4 (ptK x0 x3 x4 x7 x8)))⟩,
      ⟨Rect.unit ![0, 384] ![512, 128] inb_S512x1024_S512x128_0_384, stored (ptH x0 x1 x2 x3 x4 (hd3 (ptK x0 x3 x4 x7 x8)))⟩,
      ⟨Rect.unit ![0, 256] ![512, 128] inb_S512x1024_S512x128_0_256, stored (ptH x0 x1 x2 x3 x4 (hd2 (ptK x0 x3 x4 x7 x8)))⟩,
      ⟨Rect.unit ![0, 128] ![512, 128] inb_S512x1024_S512x128_0_128, stored (ptH x0 x1 x2 x3 x4 (hd1 (ptK x0 x3 x4 x7 x8)))⟩,
      ⟨Rect.unit ![0, 0] ![512, 128] inb_S512x1024_S512x128_0_0, stored (ptH x0 x1 x2 x3 x4 (hd0 (ptK x0 x3 x4 x7 x8)))⟩] := by
  unfold_out out0_14; frame_out; rfl
theorem out15 : out0_15 x0 x1 x2 x3 x4 x5 x6 x7 x8 x9 = k0_pay19 (k0_pay6 x0 x3 (lo x4)) x7 x9 := by
  unfold_out out0_15; frame_out; rfl
theorem out16 : out0_16 x0 x1 x2 x3 x4 x5 x6 x7 x8 x9 = View.canon (Val := Elt Ideal) (e := .bf16) (s := S1024x512)
    [⟨Rect.unit ![896, 0] ![128, 512] inb_S1024x512_S128x512_896_0, turned (ptH x0 x1 x2 x3 x4 (hd7 (ptK x0 x3 x4 x7 x8)))⟩,
      ⟨Rect.unit ![768, 0] ![128, 512] inb_S1024x512_S128x512_768_0, turned (ptH x0 x1 x2 x3 x4 (hd6 (ptK x0 x3 x4 x7 x8)))⟩,
      ⟨Rect.unit ![640, 0] ![128, 512] inb_S1024x512_S128x512_640_0, turned (ptH x0 x1 x2 x3 x4 (hd5 (ptK x0 x3 x4 x7 x8)))⟩,
      ⟨Rect.unit ![512, 0] ![128, 512] inb_S1024x512_S128x512_512_0, turned (ptH x0 x1 x2 x3 x4 (hd4 (ptK x0 x3 x4 x7 x8)))⟩,
      ⟨Rect.unit ![384, 0] ![128, 512] inb_S1024x512_S128x512_384_0, turned (ptH x0 x1 x2 x3 x4 (hd3 (ptK x0 x3 x4 x7 x8)))⟩,
      ⟨Rect.unit ![256, 0] ![128, 512] inb_S1024x512_S128x512_256_0, turned (ptH x0 x1 x2 x3 x4 (hd2 (ptK x0 x3 x4 x7 x8)))⟩,
      ⟨Rect.unit ![128, 0] ![128, 512] inb_S1024x512_S128x512_128_0, turned (ptH x0 x1 x2 x3 x4 (hd1 (ptK x0 x3 x4 x7 x8)))⟩,
      ⟨Rect.unit ![0, 0] ![128, 512] inb_S1024x512_S128x512_0_0, turned (ptH x0 x1 x2 x3 x4 (hd0 (ptK x0 x3 x4 x7 x8)))⟩] := by
  unfold_out out0_16; frame_out; rfl
theorem out17 : out0_17 x0 x1 x2 x3 x4 x5 x6 x7 x8 x9 = k0_pay20 (k0_pay6 x0 x3 (lo x4)) x7 x9 := by
  unfold_out out0_17; frame_out; rfl
theorem out18 : out0_18 x0 x1 x2 x3 x4 x5 x6 x7 x8 x9 = k0_pay10 (k0_pay8 x1) x2 := by
  unfold_out out0_18; frame_out
theorem out19 : out0_19 x0 x1 x2 x3 x4 x5 x6 x7 x8 x9 = k0_pay11 (k0_pay8 x1) x2 := by
  unfold_out out0_19; frame_out

end

section

variable {N : Net} {b : Fin 8} {x0 : Vec Ideal S512x1024 .f32} {x1 : Vec Ideal S512x1 .i32} {x2 : Vec Ideal S1x128 .f32} {x3 : Vec Ideal S1x1024 .f32} {x4 : Vec Ideal S2688x1024 .bf16} {x5 : Vec Ideal S1x384 .f32} {x6 : Vec Ideal S384x1024 .bf16} {x7 : Vec Ideal S1x128 .f32} {x8 : Vec Ideal S128x1024 .bf16} {x9 : Vec Ideal S128x512 .bf16}
  (h : PtIs N b x0 x1 x2 x3 x4 x5 x6 x7 x8 x9)
include h

/-- A head's queries -/
theorem head_q (i : Fin 8) (f : FVec Ideal S512x1024 .f32 → FVec Ideal S512x128 .f32) (hf : ∀ v r l, f v (ix2 r l) = v (ix2 r (hl i l))) (r : Fin 512) (l : Fin 128) :
    scaled (ptT x1 x2 (f (ptQ x0 x3 x4 x5 x6))) (ix2 r l) = N.q (tk b r) i l := by
  rw [scaled_at]
  exact congrArg (· * Ideal.ofBits .f32 0x3E16C740#32) (turn_is h _ (N.qp (tk b r) i) r (fun l => (hf _ r l).trans (qp_is h r i l)) l)
/-- and keys, -/
theorem head_h (i : Fin 8) (f : FVec Ideal S512x1024 .f32 → FVec Ideal S512x128 .f32) (hf : ∀ v r l, f v (ix2 r l) = v (ix2 r (hl i l))) (r : Fin 512) (l : Fin 128) :
    ptH x0 x1 x2 x3 x4 (f (ptK x0 x3 x4 x7 x8)) (ix2 r l) = N.k (tk b r) i l :=
  congrArg₂ (fun a b : EReal => a + b) ((hf _ r l).trans (kp_is h r i l)) (turn_is h _ (N.kr (tk b r)) r (fun l => kr_is h r l) l)
/-- as rows and as columns. -/
theorem head_k (i : Fin 8) (f : FVec Ideal S512x1024 .f32 → FVec Ideal S512x128 .f32) (hf : ∀ v r l, f v (ix2 r l) = v (ix2 r (hl i l))) (r : Fin 512) (l : Fin 128) :
    stored (ptH x0 x1 x2 x3 x4 (f (ptK x0 x3 x4 x7 x8))) (ix2 r l) = N.k (tk b r) i l := head_h h i f hf r l
theorem head_t (i : Fin 8) (f : FVec Ideal S512x1024 .f32 → FVec Ideal S512x128 .f32) (hf : ∀ v r l, f v (ix2 r l) = v (ix2 r (hl i l))) (r : Fin 512) (l : Fin 128) :
    turned (ptH x0 x1 x2 x3 x4 (f (ptK x0 x3 x4 x7 x8))) (ix2 l r) = N.k (tk b r) i l := (turned_at _ r l).trans (head_h h i f hf r l)

end

variable (m : (ℓ : Loc nD τ sig) → Buf (Elt Ideal) ℓ) (c : Dev nD)

theorem reads : Cert.InRef.Reads (aX m c) (aP m c) (aW m c) (aI m c) (aQn m c) (aQ m c) (aKn m c) (aKv m c) (net m c) :=
  ⟨fun _ _ => rfl, fun _ => rfl, fun _ => rfl, fun _ _ => rfl, fun _ => rfl, fun _ _ _ => rfl, fun _ => rfl, fun _ _ _ => rfl, fun _ => rfl⟩

/-- The queries' latent rows: the reference's first result. -/
theorem final10 : (dats m 0 c).arrAt 10 cfg0.N = Cert.InRef.resQl (aX m c) (aW m c) (aI m c) := by
  refine (dats m 0 c).arrAt_eq_of_covers 10 _ (by decide +kernel) fun t hf y => ?_
  blk_simp
  rw [after0_10, out10]
  obtain ⟨r, d, rfl⟩ : ∃ (r : Fin 512) (d : Fin 384), y = ix2 r d := ⟨y 0, y 1, eq_ix2 y⟩
  have he : (win0_10.blk t).view.emb (ix2 r d) = ix2 (tk (bAt t) r) d := by unfold tk bAt; blk_ext [idx t]
  exact (cq_is (pt_is m c t) r d).trans (Eq.symm ((congrArg _ he).trans (Cert.InRef.resQl_is (reads m c) _ _)))
/-- The keys': its second. -/
theorem final11 : (dats m 0 c).arrAt 11 cfg0.N = Cert.InRef.resKl (aX m c) (aW m c) (aI m c) := by
  refine (dats m 0 c).arrAt_eq_of_covers 11 _ (by decide +kernel) fun t hf y => ?_
  blk_simp
  rw [after0_11, out11]
  obtain ⟨r, d, rfl⟩ : ∃ (r : Fin 512) (d : Fin 128), y = ix2 r d := ⟨y 0, y 1, eq_ix2 y⟩
  have he : (win0_11.blk t).view.emb (ix2 r d) = ix2 (tk (bAt t) r) d := by unfold tk bAt; blk_ext [idx t]
  exact (ckv_is (pt_is m c t) r d).trans (Eq.symm ((congrArg _ he).trans (Cert.InRef.resKl_is (reads m c) _ _)))
/-- What is left for the recurrence: its third. -/
theorem final12 : (dats m 0 c).arrAt 12 cfg0.N = Cert.InRef.resH (aX m c) (aW m c) (aI m c) := by
  refine (dats m 0 c).arrAt_eq_of_covers 12 _ (by decide +kernel) fun t hf y => ?_
  blk_simp
  rw [after0_12, out12]
  obtain ⟨r, d, rfl⟩ : ∃ (r : Fin 512) (d : Fin 2048), y = ix2 r d := ⟨y 0, y 1, eq_ix2 y⟩
  have he : (win0_12.blk t).view.emb (ix2 r d) = ix2 (tk (bAt t) r) d := by unfold tk bAt; blk_ext [idx t]
  exact (rest_is (pt_is m c t) r d).trans (Eq.symm ((congrArg _ he).trans (Cert.InRef.resH_is (reads m c) _ _)))
/-- The queries: its fourth. -/
theorem final13 : (dats m 0 c).arrAt 13 cfg0.N = Cert.InRef.resQ (aX m c) (aP m c) (aW m c) (aI m c) (aQn m c) (aQ m c) := by
  refine (dats m 0 c).arrAt_eq_of_covers 13 _ (by decide +kernel) fun t hf y => ?_
  blk_simp
  rw [after0_13, out13]
  obtain ⟨r, d, rfl⟩ : ∃ (r : Fin 512) (d : Fin 1024), y = ix2 r d := ⟨y 0, y 1, eq_ix2 y⟩
  have he : (win0_13.blk t).view.emb (ix2 r d) = ix2 (tk (bAt t) r) d := by unfold tk bAt; blk_ext [idx t]
  have hp := pt_is m c t
  exact (tilesC _ _ _ _ _ _ _ _ (fun r j => Cert.InRef.resQ (aX m c) (aP m c) (aW m c) (aI m c) (aQn m c) (aQ m c) (ix2 (tk (bAt t) r) j))
      (fun r l => (head_q hp 0 hd0 hd0_at r l).trans (Eq.symm (Cert.InRef.resQ_is (reads m c) (tk (bAt t) r) 0 l)))
      (fun r l => (head_q hp 1 hd1 hd1_at r l).trans (Eq.symm (Cert.InRef.resQ_is (reads m c) (tk (bAt t) r) 1 l)))
      (fun r l => (head_q hp 2 hd2 hd2_at r l).trans (Eq.symm (Cert.InRef.resQ_is (reads m c) (tk (bAt t) r) 2 l)))
      (fun r l => (head_q hp 3 hd3 hd3_at r l).trans (Eq.symm (Cert.InRef.resQ_is (reads m c) (tk (bAt t) r) 3 l)))
      (fun r l => (head_q hp 4 hd4 hd4_at r l).trans (Eq.symm (Cert.InRef.resQ_is (reads m c) (tk (bAt t) r) 4 l)))
      (fun r l => (head_q hp 5 hd5 hd5_at r l).trans (Eq.symm (Cert.InRef.resQ_is (reads m c) (tk (bAt t) r) 5 l)))
      (fun r l => (head_q hp 6 hd6 hd6_at r l).trans (Eq.symm (Cert.InRef.resQ_is (reads m c) (tk (bAt t) r) 6 l)))
      (fun r l => (head_q hp 7 hd7 hd7_at r l).trans (Eq.symm (Cert.InRef.resQ_is (reads m c) (tk (bAt t) r) 7 l))) r d).trans (Eq.symm (congrArg _ he))
/-- The keys: its fifth. -/
theorem final14 : (dats m 0 c).arrAt 14 cfg0.N = Cert.InRef.resK (aX m c) (aP m c) (aW m c) (aI m c) (aKn m c) (aKv m c) := by
  refine (dats m 0 c).arrAt_eq_of_covers 14 _ (by decide +kernel) fun t hf y => ?_
  blk_simp
  rw [after0_14, out14]
  obtain ⟨r, d, rfl⟩ : ∃ (r : Fin 512) (d : Fin 1024), y = ix2 r d := ⟨y 0, y 1, eq_ix2 y⟩
  have he : (win0_14.blk t).view.emb (ix2 r d) = ix2 (tk (bAt t) r) d := by unfold tk bAt; blk_ext [idx t]
  have hp := pt_is m c t
  exact (tilesC _ _ _ _ _ _ _ _ (fun r j => Cert.InRef.resK (aX m c) (aP m c) (aW m c) (aI m c) (aKn m c) (aKv m c) (ix2 (tk (bAt t) r) j))
      (fun r l => (head_k hp 0 hd0 hd0_at r l).trans (Eq.symm (Cert.InRef.resK_is (reads m c) (tk (bAt t) r) 0 l)))
      (fun r l => (head_k hp 1 hd1 hd1_at r l).trans (Eq.symm (Cert.InRef.resK_is (reads m c) (tk (bAt t) r) 1 l)))
      (fun r l => (head_k hp 2 hd2 hd2_at r l).trans (Eq.symm (Cert.InRef.resK_is (reads m c) (tk (bAt t) r) 2 l)))
      (fun r l => (head_k hp 3 hd3 hd3_at r l).trans (Eq.symm (Cert.InRef.resK_is (reads m c) (tk (bAt t) r) 3 l)))
      (fun r l => (head_k hp 4 hd4 hd4_at r l).trans (Eq.symm (Cert.InRef.resK_is (reads m c) (tk (bAt t) r) 4 l)))
      (fun r l => (head_k hp 5 hd5 hd5_at r l).trans (Eq.symm (Cert.InRef.resK_is (reads m c) (tk (bAt t) r) 5 l)))
      (fun r l => (head_k hp 6 hd6 hd6_at r l).trans (Eq.symm (Cert.InRef.resK_is (reads m c) (tk (bAt t) r) 6 l)))
      (fun r l => (head_k hp 7 hd7 hd7_at r l).trans (Eq.symm (Cert.InRef.resK_is (reads m c) (tk (bAt t) r) 7 l))) r d).trans (Eq.symm (congrArg _ he))
/-- The values: its sixth. -/
theorem final15 : (dats m 0 c).arrAt 15 cfg0.N = Cert.InRef.resV (aX m c) (aW m c) (aI m c) (aKn m c) (aKv m c) := by
  refine (dats m 0 c).arrAt_eq_of_covers 15 _ (by decide +kernel) fun t hf y => ?_
  blk_simp
  rw [after0_15, out15]
  obtain ⟨r, d, rfl⟩ : ∃ (r : Fin 512) (d : Fin 512), y = ix2 r d := ⟨y 0, y 1, eq_ix2 y⟩
  have he : (win0_15.blk t).view.emb (ix2 r d) = ix2 (tk (bAt t) r) d := by unfold tk bAt; blk_ext [idx t]
  obtain ⟨h, l, rfl⟩ := hv_surj d
  exact ((pay19_at _ _ _ r _).trans (v_is (pt_is m c t) r h l)).trans (Eq.symm ((congrArg _ he).trans (Cert.InRef.resV_is (reads m c) _ _ _)))
/-- The keys as columns: its seventh. -/
theorem final16 : (dats m 0 c).arrAt 16 cfg0.N = Cert.InRef.resKt (aX m c) (aP m c) (aW m c) (aI m c) (aKn m c) (aKv m c) := by
  refine (dats m 0 c).arrAt_eq_of_covers 16 _ (by decide +kernel) fun t hf y => ?_
  blk_simp
  rw [after0_16, out16]
  obtain ⟨d, r, rfl⟩ : ∃ (d : Fin 1024) (r : Fin 512), y = ix2 d r := ⟨y 0, y 1, eq_ix2 y⟩
  have he : (win0_16.blk t).view.emb (ix2 d r) = ix2 d (tk (bAt t) r) := by unfold tk bAt; blk_ext [idx t]
  have hp := pt_is m c t
  exact (tilesR _ _ _ _ _ _ _ _ (fun j r => Cert.InRef.resKt (aX m c) (aP m c) (aW m c) (aI m c) (aKn m c) (aKv m c) (ix2 j (tk (bAt t) r)))
      (fun r l => (head_t hp 0 hd0 hd0_at r l).trans (Eq.symm (Cert.InRef.resKt_is (reads m c) (tk (bAt t) r) 0 l)))
      (fun r l => (head_t hp 1 hd1 hd1_at r l).trans (Eq.symm (Cert.InRef.resKt_is (reads m c) (tk (bAt t) r) 1 l)))
      (fun r l => (head_t hp 2 hd2 hd2_at r l).trans (Eq.symm (Cert.InRef.resKt_is (reads m c) (tk (bAt t) r) 2 l)))
      (fun r l => (head_t hp 3 hd3 hd3_at r l).trans (Eq.symm (Cert.InRef.resKt_is (reads m c) (tk (bAt t) r) 3 l)))
      (fun r l => (head_t hp 4 hd4 hd4_at r l).trans (Eq.symm (Cert.InRef.resKt_is (reads m c) (tk (bAt t) r) 4 l)))
      (fun r l => (head_t hp 5 hd5 hd5_at r l).trans (Eq.symm (Cert.InRef.resKt_is (reads m c) (tk (bAt t) r) 5 l)))
      (fun r l => (head_t hp 6 hd6 hd6_at r l).trans (Eq.symm (Cert.InRef.resKt_is (reads m c) (tk (bAt t) r) 6 l)))
      (fun r l => (head_t hp 7 hd7 hd7_at r l).trans (Eq.symm (Cert.InRef.resKt_is (reads m c) (tk (bAt t) r) 7 l))) d r).trans (Eq.symm (congrArg _ he))
/-- The values as columns: its eighth. -/
theorem final17 : (dats m 0 c).arrAt 17 cfg0.N = Cert.InRef.resVt (aX m c) (aW m c) (aI m c) (aKn m c) (aKv m c) := by
  refine (dats m 0 c).arrAt_eq_of_covers 17 _ (by decide +kernel) fun t hf y => ?_
  blk_simp
  rw [after0_17, out17]
  obtain ⟨d, r, rfl⟩ : ∃ (d : Fin 512) (r : Fin 512), y = ix2 d r := ⟨y 0, y 1, eq_ix2 y⟩
  have he : (win0_17.blk t).view.emb (ix2 d r) = ix2 d (tk (bAt t) r) := by unfold tk bAt; blk_ext [idx t]
  obtain ⟨h, l, rfl⟩ := hv_surj d
  exact ((pay20_at _ _ _ r _).trans (v_is (pt_is m c t) r h l)).trans (Eq.symm ((congrArg _ he).trans (Cert.InRef.resVt_is (reads m c) _ _ _)))
/-- The cosines by lanes: its ninth. -/
theorem final18 : (dats m 0 c).arrAt 18 cfg0.N = Cert.InRef.resC (aP m c) := by
  refine (dats m 0 c).arrAt_eq_of_covers 18 _ (by decide +kernel) fun t hf y => ?_
  blk_simp
  rw [after0_18, out18]
  obtain ⟨r, d, rfl⟩ : ∃ (r : Fin 512) (d : Fin 128), y = ix2 r d := ⟨y 0, y 1, eq_ix2 y⟩
  have he : (win0_18.blk t).view.emb (ix2 r d) = ix2 (tk (bAt t) r) d := by unfold tk bAt; blk_ext [idx t]
  exact (rc_is (pt_is m c t) r d).trans (Eq.symm ((congrArg _ he).trans (Cert.InRef.resC_is (reads m c) _ _)))
/-- The sines: its tenth. -/
theorem final19 : (dats m 0 c).arrAt 19 cfg0.N = Cert.InRef.resS (aP m c) := by
  refine (dats m 0 c).arrAt_eq_of_covers 19 _ (by decide +kernel) fun t hf y => ?_
  blk_simp
  rw [after0_19, out19]
  obtain ⟨r, d, rfl⟩ : ∃ (r : Fin 512) (d : Fin 128), y = ix2 r d := ⟨y 0, y 1, eq_ix2 y⟩
  have he : (win0_19.blk t).view.emb (ix2 r d) = ix2 (tk (bAt t) r) d := by unfold tk bAt; blk_ext [idx t]
  exact (rs_is (pt_is m c t) r d).trans (Eq.symm ((congrArg _ he).trans (Cert.InRef.resS_is (reads m c) _ _)))

end Cert.Kernel4Ideal.Hand

end
-- ==== Proof.InAlgebraic.lean ====
module

public import proofs.«01_k».proof.Defs
public import proofs.«01_k».proof.Proof.InFinal

@[expose] public section

set_option maxRecDepth 16384

noncomputable section

/-! The ten results of the version's input call are the reference's. -/

namespace Cert.Kernel4Ideal.Hand

open Cert.Kernel4Ideal Cert.Kernel4Ideal.Gen Cert.In
open Idealize.ShloMosaic Idealize.SL.Sem

section

variable (m : (ℓ : Loc nD τ sig) → Buf (Elt Ideal) ℓ) (c : Dev nD)

/-- The ten results. -/
def out0 : FVec Ideal S4096x384 .f32 := Cert.InRef.resQl (aX m c) (aW m c) (aI m c)
def out1 : FVec Ideal S4096x128 .f32 := Cert.InRef.resKl (aX m c) (aW m c) (aI m c)
def out2 : FVec Ideal S4096x2048 .f32 := Cert.InRef.resH (aX m c) (aW m c) (aI m c)
def out3 : FVec Ideal S4096x1024 .bf16 := Cert.InRef.resQ (aX m c) (aP m c) (aW m c) (aI m c) (aQn m c) (aQ m c)
def out4 : FVec Ideal S4096x1024 .bf16 := Cert.InRef.resK (aX m c) (aP m c) (aW m c) (aI m c) (aKn m c) (aKv m c)
def out5 : FVec Ideal S4096x512 .bf16 := Cert.InRef.resV (aX m c) (aW m c) (aI m c) (aKn m c) (aKv m c)
def out6 : FVec Ideal S1024x4096 .bf16 := Cert.InRef.resKt (aX m c) (aP m c) (aW m c) (aI m c) (aKn m c) (aKv m c)
def out7 : FVec Ideal S512x4096 .bf16 := Cert.InRef.resVt (aX m c) (aW m c) (aI m c) (aKn m c) (aKv m c)
def out8 : FVec Ideal S4096x128 .f32 := Cert.InRef.resC (aP m c)
def out9 : FVec Ideal S4096x128 .f32 := Cert.InRef.resS (aP m c)

end

set_option maxHeartbeats 2000000 in
/-- The version's run ends with them, and leaves its arguments alone. -/
theorem run_kernel (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v36_0) = out0 m c
      ∧ r.2.mem ((c.tc : Thread nD τ).loc main_v36_1) = out1 m c
      ∧ r.2.mem ((c.tc : Thread nD τ).loc main_v36_2) = out2 m c
      ∧ r.2.mem ((c.tc : Thread nD τ).loc main_v36_3) = out3 m c
      ∧ r.2.mem ((c.tc : Thread nD τ).loc main_v36_4) = out4 m c
      ∧ r.2.mem ((c.tc : Thread nD τ).loc main_v36_5) = out5 m c
      ∧ r.2.mem ((c.tc : Thread nD τ).loc main_v36_6) = out6 m c
      ∧ r.2.mem ((c.tc : Thread nD τ).loc main_v36_7) = out7 m c
      ∧ r.2.mem ((c.tc : Thread nD τ).loc main_v36_8) = out8 m c
      ∧ r.2.mem ((c.tc : Thread nD τ).loc main_v36_9) = out9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (θ_run_and (run_main m g) (unchanged m g))
  obtain ⟨hr, hu⟩ := h
  have k := (hr c).1
  exact ⟨(k 10).trans (final10 m c), (k 11).trans (final11 m c), (k 12).trans (final12 m c), (k 13).trans (final13 m c), (k 14).trans (final14 m c),
    (k 15).trans (final15 m c), (k 16).trans (final16 m c), (k 17).trans (final17 m c), (k 18).trans (final18 m c), (k 19).trans (final19 m c), hu c⟩

/-- The version's latent rows, heads, cosines and sines are the reference's. -/
theorem algebraic : Cert.algebraic_Kernel4Ideal_Reference4Ideal := fun m g m' g' _ hagree => by
  refine ⟨out0 m, out1 m, out2 m, out3 m, out4 m, out5 m, out6 m, out7 m, out8 m, out9 m, run_kernel m g, ?_⟩
  refine (θ_run Cert.Reference4Ideal.defs _ _).mono (fun _ h c => ?_) (Cert.Reference4Ideal.Value.run (F := Ideal) m' g')
  obtain ⟨h0, h1, h2, h3, h4, h5, h6, h7, h8, h9, h10⟩ := h c
  obtain ⟨a0, a1, a2, a3, a4, a5, a6, a7⟩ := hagree c
  refine ⟨h0.trans ?_, h1.trans ?_, h2.trans ?_, h3.trans ?_, h4.trans ?_, h5.trans ?_, h6.trans ?_, h7.trans ?_, h8.trans ?_, h9.trans ?_, h10⟩
  · rw [a0, a2, a3]; rfl
  · rw [a0, a2, a3]; rfl
  · rw [a0, a2, a3]; rfl
  · unfold Cert.Reference4Ideal.Value.res_main_v99
    rw [a0, a1, a2, a3, a4, a5]; rfl
  · unfold Cert.Reference4Ideal.Value.res_main_v102
    rw [a0, a1, a2, a3, a6, a7]; rfl
  · rw [a0, a2, a3, a6, a7]; rfl
  · unfold Cert.Reference4Ideal.Value.res_main_v108
    rw [a0, a1, a2, a3, a6, a7]; rfl
  · rw [a0, a2, a3, a6, a7]; rfl
  · rw [a1]; rfl
  · rw [a1]; rfl

end Cert.Kernel4Ideal.Hand

end
-- ==== Proof.InbVal.lean ====
module

public import proofs.«01_k».proof.Proof.Gen.Kernel5Ideal.Frame
public import proofs.«01_k».proof.Proof.Gen.Kernel5Ideal.Skeleton
public import Idealize.ShloMosaic.Lib.Pipeline.ValueKit
public import Idealize.ShloMosaic.Lib.VecWindow
public import Idealize.ShloMosaic.Lib.WritesUnit

@[expose] public section

set_option maxRecDepth 16384

noncomputable section

/-! What a grid point of the layer input's backward call leaves in its first result, a function of the blocks it reads, whatever the
floats are. -/

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueKit

variable {F : FTy → Type} [FloatOps F]

local notation "𝕄" => MT nD τ sig Unit (Elt F) ℕ (UR sig nD τ) ℕ

/-- A head's rows of the query's gradient. -/
def qRows (x5 : Vec F S1024x256 .f32) (off : Fin 2 → ℕ) (inb : ∀ a, off a + S128x256.size a ≤ S1024x256.size a) : Vec F S128x256 .f32 :=
  View.ld x5 (Rect.unit (s := S1024x256) off S128x256.size inb)

/-- The rows of the recurrence's part of the projection's weight, -/
def winR (x15 : Vec F S2688x1024 .bf16) : Vec F S2048x1024 .bf16 :=
  View.ld x15 (Rect.unit (s := S2688x1024) ![640, 0] S2048x1024.size inb_S2688x1024_S2048x1024_640_0)

/-- and of the attention's. -/
def winA (x15 : Vec F S2688x1024 .bf16) : Vec F S640x1024 .bf16 :=
  View.ld x15 (Rect.unit (s := S2688x1024) ![0, 0] S640x1024.size inb_S2688x1024_S640x1024_0_0)

/-- The gradient of the query before the rotary embedding, all heads, -/
def dqLin (x5 : Vec F S1024x256 .f32) (x12 : Vec F S256x128 .f32) (x13 : Vec F S256x128 .f32) : FVec F S256x1024 .f32 :=
  k0_pay44 (k0_pay24 x13) (k0_pay26 (k0_pay21 x12) x13 (qRows x5 ![0, 0] inb_S1024x256_S128x256_0_0)) (k0_pay30 (k0_pay23 x13) (k0_pay24 x13) (k0_pay28 (qRows x5 ![128, 0] inb_S1024x256_S128x256_128_0)) (k0_pay29 (k0_pay21 x12) (qRows x5 ![128, 0] inb_S1024x256_S128x256_128_0))) (k0_pay31 (k0_pay21 x12) (k0_pay23 x13) (k0_pay24 x13) (qRows x5 ![256, 0] inb_S1024x256_S128x256_256_0)) (k0_pay32 (k0_pay21 x12) (k0_pay23 x13) (k0_pay24 x13) (qRows x5 ![384, 0] inb_S1024x256_S128x256_384_0)) (k0_pay37 (k0_pay24 x13) (k0_pay34 (qRows x5 ![512, 0] inb_S1024x256_S128x256_512_0)) (k0_pay35 (k0_pay21 x12) (qRows x5 ![512, 0] inb_S1024x256_S128x256_512_0)) (k0_pay36 (k0_pay23 x13) (qRows x5 ![512, 0] inb_S1024x256_S128x256_512_0))) (k0_pay38 (k0_pay21 x12) (k0_pay23 x13) (k0_pay24 x13) (qRows x5 ![640, 0] inb_S1024x256_S128x256_640_0)) (k0_pay39 (k0_pay21 x12) (k0_pay23 x13) (k0_pay24 x13) (qRows x5 ![768, 0] inb_S1024x256_S128x256_768_0)) (k0_pay42 (k0_pay21 x12) (k0_pay23 x13) (qRows x5 ![896, 0] inb_S1024x256_S128x256_896_0)) (k0_pay43 (qRows x5 ![896, 0] inb_S1024x256_S128x256_896_0))

/-- of the shared rotary lanes of the key, -/
def dkRope (x6 : Vec F S256x1024 .f32) (x12 : Vec F S256x128 .f32) (x13 : Vec F S256x128 .f32) : FVec F S256x128 .f32 :=
  k0_pay45 (k0_pay21 x12) (k0_pay23 x13) (k0_pay24 x13) (iota .tc S256x128 32 [1] iota_S256x128_d1_w32) (k0_pay25 x6) (k0_pay40 (k0_pay25 x6) (k0_pay33 (k0_pay25 x6) (k0_pay27 x6)))

/-- of the query's latent, -/
def dCq (x3 : Vec F S256x384 .f32) (x5 : Vec F S1024x256 .f32) (x12 : Vec F S256x128 .f32) (x13 : Vec F S256x128 .f32) (x16 : Vec F S1x384 .f32) (x17 : Vec F S384x1024 .bf16) : FVec F S256x384 .f32 :=
  k0_pay52 (dqLin x5 x12 x13) (k0_pay46 x16) (k0_pay48 x3) (k0_pay49 x3) x17

/-- of the keys' and values' latent, -/
def dCkv (x4 : Vec F S256x128 .f32) (x6 : Vec F S256x1024 .f32) (x7 : Vec F S256x512 .f32) (x18 : Vec F S1x128 .f32) (x19 : Vec F S128x1024 .bf16) (x20 : Vec F S128x512 .bf16) : FVec F S256x128 .f32 :=
  k0_pay63 (k0_pay25 x6) (k0_pay54 x18) (k0_pay56 x4) (k0_pay57 x4) x7 x19 x20

/-- of the normed input through the recurrence's projection, -/
def dU (x8 : Vec F S256x512 .f32) (x9 : Vec F S256x512 .f32) (x10 : Vec F S256x512 .f32) (x11 : Vec F S256x512 .f32) (x15 : Vec F S2688x1024 .bf16) : FVec F S256x1024 .f32 := k0_pay11 x8 x9 x10 x11 (winR x15)

/-- and of the layer's input. -/
def dxOf (x1 : Vec F S256x1024 .f32) (x2 : Vec F S256x1024 .f32) (x3 : Vec F S256x384 .f32) (x4 : Vec F S256x128 .f32) (x5 : Vec F S1024x256 .f32) (x6 : Vec F S256x1024 .f32) (x7 : Vec F S256x512 .f32) (x8 : Vec F S256x512 .f32) (x9 : Vec F S256x512 .f32) (x10 : Vec F S256x512 .f32) (x11 : Vec F S256x512 .f32) (x12 : Vec F S256x128 .f32) (x13 : Vec F S256x128 .f32) (x14 : Vec F S1x1024 .f32) (x15 : Vec F S2688x1024 .bf16) (x16 : Vec F S1x384 .f32) (x17 : Vec F S384x1024 .bf16) (x18 : Vec F S1x128 .f32) (x19 : Vec F S128x1024 .bf16) (x20 : Vec F S128x512 .bf16) : FVec F S256x1024 .f32 :=
  k0_pay2 (k0_pay13 x1) (k0_pay14 x1)
    (k0_pay71 (dU x8 x9 x10 x11 x15) (k0_pay12 x14) (dkRope x6 x12 x13) (dCq x3 x5 x12 x13 x16 x17) (dCkv x4 x6 x7 x18 x19 x20) (winA x15))
    (k0_pay72 (dU x8 x9 x10 x11 x15) (k0_pay12 x14) (k0_pay14 x1) (dkRope x6 x12 x13) (dCq x3 x5 x12 x13 x16 x17) (dCkv x4 x6 x7 x18 x19 x20) (winA x15))
    x2

end Cert.Kernel5Ideal.Hand

end
-- ==== Proof.InbRun.lean ====
module

public import proofs.«01_k».proof.Proof.Gen.Kernel5Ideal.Frame
public import proofs.«01_k».proof.Proof.InbVal
public import Idealize.ShloMosaic.Lib.Pipeline.ValueKit
public import Idealize.ShloMosaic.Lib.VecWindow
public import Idealize.ShloMosaic.Lib.WritesUnit

@[expose] public section

set_option maxRecDepth 16384

noncomputable section

/-! The body of the layer input's backward call at a grid point, whatever the floats are: it leaves in its first result's buffer
the input's gradient of the block, a function of the blocks it reads; what it adds to the weights' gradients is not stated. -/

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueKit

variable {F : FTy → Type} [FloatOps F]

local notation "𝕄" => MT nD τ sig Unit (Elt F) ℕ (UR sig nD τ) ℕ

theorem dx_of {v1 x1 : Vec F S256x1024 .f32} {v2 x2 : Vec F S256x1024 .f32} {v3 x3 : Vec F S256x384 .f32} {v4 x4 : Vec F S256x128 .f32} {v6 x6 : Vec F S256x1024 .f32} {v7 x7 : Vec F S256x512 .f32} {v8 x8 : Vec F S256x512 .f32} {v9 x9 : Vec F S256x512 .f32} {v10 x10 : Vec F S256x512 .f32} {v11 x11 : Vec F S256x512 .f32} {v12 x12 : Vec F S256x128 .f32} {v13 x13 : Vec F S256x128 .f32} {v14 x14 : Vec F S1x1024 .f32} {v16 x16 : Vec F S1x384 .f32} {v17 x17 : Vec F S384x1024 .bf16} {v18 x18 : Vec F S1x128 .f32} {v19 x19 : Vec F S128x1024 .bf16} {v20 x20 : Vec F S128x512 .bf16} {x5 : Vec F S1024x256 .f32} {q0 q1 q2 q3 q4 q5 q6 q7 : Vec F S128x256 .f32} {x15 : Vec F S2688x1024 .bf16} {wr : Vec F S2048x1024 .bf16} {wa : Vec F S640x1024 .bf16}
    (h1 : v1 = x1) (h2 : v2 = x2) (h3 : v3 = x3) (h4 : v4 = x4) (h6 : v6 = x6) (h7 : v7 = x7) (h8 : v8 = x8) (h9 : v9 = x9) (h10 : v10 = x10) (h11 : v11 = x11) (h12 : v12 = x12) (h13 : v13 = x13) (h14 : v14 = x14) (h16 : v16 = x16) (h17 : v17 = x17) (h18 : v18 = x18) (h19 : v19 = x19) (h20 : v20 = x20) (g0 : q0 = qRows x5 ![0, 0] inb_S1024x256_S128x256_0_0) (g1 : q1 = qRows x5 ![128, 0] inb_S1024x256_S128x256_128_0) (g2 : q2 = qRows x5 ![256, 0] inb_S1024x256_S128x256_256_0) (g3 : q3 = qRows x5 ![384, 0] inb_S1024x256_S128x256_384_0) (g4 : q4 = qRows x5 ![512, 0] inb_S1024x256_S128x256_512_0) (g5 : q5 = qRows x5 ![640, 0] inb_S1024x256_S128x256_640_0) (g6 : q6 = qRows x5 ![768, 0] inb_S1024x256_S128x256_768_0) (g7 : q7 = qRows x5 ![896, 0] inb_S1024x256_S128x256_896_0) (hr : wr = winR x15) (ha : wa = winA x15) :
    k0_pay2 (k0_pay13 v1) (k0_pay14 v1) (k0_pay71 (k0_pay11 v8 v9 v10 v11 wr) (k0_pay12 v14) (k0_pay45 (k0_pay21 v12) (k0_pay23 v13) (k0_pay24 v13) (iota .tc S256x128 32 [1] iota_S256x128_d1_w32) (k0_pay25 v6) (k0_pay40 (k0_pay25 v6) (k0_pay33 (k0_pay25 v6) (k0_pay27 v6)))) (k0_pay52 (k0_pay44 (k0_pay24 v13) (k0_pay26 (k0_pay21 v12) v13 q0) (k0_pay30 (k0_pay23 v13) (k0_pay24 v13) (k0_pay28 q1) (k0_pay29 (k0_pay21 v12) q1)) (k0_pay31 (k0_pay21 v12) (k0_pay23 v13) (k0_pay24 v13) q2) (k0_pay32 (k0_pay21 v12) (k0_pay23 v13) (k0_pay24 v13) q3) (k0_pay37 (k0_pay24 v13) (k0_pay34 q4) (k0_pay35 (k0_pay21 v12) q4) (k0_pay36 (k0_pay23 v13) q4)) (k0_pay38 (k0_pay21 v12) (k0_pay23 v13) (k0_pay24 v13) q5) (k0_pay39 (k0_pay21 v12) (k0_pay23 v13) (k0_pay24 v13) q6) (k0_pay42 (k0_pay21 v12) (k0_pay23 v13) q7) (k0_pay43 q7)) (k0_pay46 v16) (k0_pay48 v3) (k0_pay49 v3) v17) (k0_pay63 (k0_pay25 v6) (k0_pay54 v18) (k0_pay56 v4) (k0_pay57 v4) v7 v19 v20) wa) (k0_pay72 (k0_pay11 v8 v9 v10 v11 wr) (k0_pay12 v14) (k0_pay14 v1) (k0_pay45 (k0_pay21 v12) (k0_pay23 v13) (k0_pay24 v13) (iota .tc S256x128 32 [1] iota_S256x128_d1_w32) (k0_pay25 v6) (k0_pay40 (k0_pay25 v6) (k0_pay33 (k0_pay25 v6) (k0_pay27 v6)))) (k0_pay52 (k0_pay44 (k0_pay24 v13) (k0_pay26 (k0_pay21 v12) v13 q0) (k0_pay30 (k0_pay23 v13) (k0_pay24 v13) (k0_pay28 q1) (k0_pay29 (k0_pay21 v12) q1)) (k0_pay31 (k0_pay21 v12) (k0_pay23 v13) (k0_pay24 v13) q2) (k0_pay32 (k0_pay21 v12) (k0_pay23 v13) (k0_pay24 v13) q3) (k0_pay37 (k0_pay24 v13) (k0_pay34 q4) (k0_pay35 (k0_pay21 v12) q4) (k0_pay36 (k0_pay23 v13) q4)) (k0_pay38 (k0_pay21 v12) (k0_pay23 v13) (k0_pay24 v13) q5) (k0_pay39 (k0_pay21 v12) (k0_pay23 v13) (k0_pay24 v13) q6) (k0_pay42 (k0_pay21 v12) (k0_pay23 v13) q7) (k0_pay43 q7)) (k0_pay46 v16) (k0_pay48 v3) (k0_pay49 v3) v17) (k0_pay63 (k0_pay25 v6) (k0_pay54 v18) (k0_pay56 v4) (k0_pay57 v4) v7 v19 v20) wa) v2
      = dxOf x1 x2 x3 x4 x5 x6 x7 x8 x9 x10 x11 x12 x13 x14 x15 x16 x17 x18 x19 x20 := by
  subst h1; subst h2; subst h3; subst h4; subst h6; subst h7; subst h8; subst h9; subst h10; subst h11; subst h12; subst h13; subst h14; subst h16; subst h17; subst h18; subst h19; subst h20; subst g0; subst g1; subst g2; subst g3; subst g4; subst g5; subst g6; subst g7; subst hr; subst ha; rfl

set_option maxHeartbeats 16000000 in
/-- The body at a grid point. -/
theorem run (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x384 .f32) (harg3 : arg3.IsWhole) (arg4 : Memref sig .tc .vmem S256x128 .f32) (harg4 : arg4.IsWhole) (arg5 : Memref sig .tc .vmem S1024x256 .f32) (harg5 : arg5.IsWhole) (arg6 : Memref sig .tc .vmem S256x1024 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S1x1024 .f32) (harg14 : arg14.IsWhole) (arg15 : Memref sig .tc .vmem S2688x1024 .bf16) (harg15 : arg15.IsWhole) (arg16 : Memref sig .tc .vmem S1x384 .f32) (harg16 : arg16.IsWhole) (arg17 : Memref sig .tc .vmem S384x1024 .bf16) (harg17 : arg17.IsWhole) (arg18 : Memref sig .tc .vmem S1x128 .f32) (harg18 : arg18.IsWhole) (arg19 : Memref sig .tc .vmem S128x1024 .bf16) (harg19 : arg19.IsWhole) (arg20 : Memref sig .tc .vmem S128x512 .bf16) (harg20 : arg20.IsWhole) (arg21 : Memref sig .tc .vmem S256x1024 .f32) (harg21 : arg21.IsWhole) (arg22 : Memref sig .tc .vmem S4x672x1024 .f32) (harg22 : arg22.IsWhole) (arg23 : Memref sig .tc .vmem S384x1024 .f32) (harg23 : arg23.IsWhole) (arg24 : Memref sig .tc .vmem S128x1024 .f32) (harg24 : arg24.IsWhole) (arg25 : Memref sig .tc .vmem S128x512 .f32) (harg25 : arg25.IsWhole) (arg26 : Memref sig .tc .vmem S1x1024 .f32) (harg26 : arg26.IsWhole) (arg27 : Memref sig .tc .vmem S1x384 .f32) (harg27 : arg27.IsWhole) (arg28 : Memref sig .tc .vmem S1x128 .f32) (harg28 : arg28.IsWhole) (x1 : Vec F S256x1024 .f32) (x2 : Vec F S256x1024 .f32) (x3 : Vec F S256x384 .f32) (x4 : Vec F S256x128 .f32) (x5 : Vec F S1024x256 .f32) (x6 : Vec F S256x1024 .f32) (x7 : Vec F S256x512 .f32) (x8 : Vec F S256x512 .f32) (x9 : Vec F S256x512 .f32) (x10 : Vec F S256x512 .f32) (x11 : Vec F S256x512 .f32) (x12 : Vec F S256x128 .f32) (x13 : Vec F S256x128 .f32) (x14 : Vec F S1x1024 .f32) (x15 : Vec F S2688x1024 .bf16) (x16 : Vec F S1x384 .f32) (x17 : Vec F S384x1024 .bf16) (x18 : Vec F S1x128 .f32) (x19 : Vec F S128x1024 .bf16) (x20 : Vec F S128x512 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare (dxOf x1 x2 x3 x4 x5 x6 x7 x8 x9 x10 x11 x12 x13 x14 x15 x16 x17 x18 x19 x20) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
      ⊢ wp frame (wpE (defs₀ (F := F)) Variants.none (c : Thread nD τ) none) E (cc0_in_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_in_bwd_eq_skeleton]; unfold cc0_in_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, %hf21, H21⟩, ⟨%d22, %f22, %hf22, H22⟩, ⟨%d23, %f23, %hf23, H23⟩, ⟨%d24, %f24, %hf24, H24⟩, ⟨%d25, %f25, %hf25, H25⟩, ⟨%d26, %f26, %hf26, H26⟩, ⟨%d27, %f27, %hf27, H27⟩, ⟨%d28, %f28, %hf28, H28⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec
  sl_step
  iapply Hk
  have h1 := (View.readAt_full arg1.view (harg1.unread x1) (off := ![0, 0]) inb_S256x1024_S256x1024_0_0).trans (harg1.read_unread x1)
  have h2 := (View.readAt_full arg2.view (harg2.unread x2) (off := ![0, 0]) inb_S256x1024_S256x1024_0_0).trans (harg2.read_unread x2)
  have h3 := (View.readAt_full arg3.view (harg3.unread x3) (off := ![0, 0]) inb_S256x384_S256x384_0_0).trans (harg3.read_unread x3)
  have h4 := (View.readAt_full arg4.view (harg4.unread x4) (off := ![0, 0]) inb_S256x128_S256x128_0_0).trans (harg4.read_unread x4)
  have h6 := (View.readAt_full arg6.view (harg6.unread x6) (off := ![0, 0]) inb_S256x1024_S256x1024_0_0).trans (harg6.read_unread x6)
  have h7 := (View.readAt_full arg7.view (harg7.unread x7) (off := ![0, 0]) inb_S256x512_S256x512_0_0).trans (harg7.read_unread x7)
  have h8 := (View.readAt_full arg8.view (harg8.unread x8) (off := ![0, 0]) inb_S256x512_S256x512_0_0).trans (harg8.read_unread x8)
  have h9 := (View.readAt_full arg9.view (harg9.unread x9) (off := ![0, 0]) inb_S256x512_S256x512_0_0).trans (harg9.read_unread x9)
  have h10 := (View.readAt_full arg10.view (harg10.unread x10) (off := ![0, 0]) inb_S256x512_S256x512_0_0).trans (harg10.read_unread x10)
  have h11 := (View.readAt_full arg11.view (harg11.unread x11) (off := ![0, 0]) inb_S256x512_S256x512_0_0).trans (harg11.read_unread x11)
  have h12 := (View.readAt_full arg12.view (harg12.unread x12) (off := ![0, 0]) inb_S256x128_S256x128_0_0).trans (harg12.read_unread x12)
  have h13 := (View.readAt_full arg13.view (harg13.unread x13) (off := ![0, 0]) inb_S256x128_S256x128_0_0).trans (harg13.read_unread x13)
  have h14 := (View.readAt_full arg14.view (harg14.unread x14) (off := ![0, 0]) inb_S1x1024_S1x1024_0_0).trans (harg14.read_unread x14)
  have h16 := (View.readAt_full arg16.view (harg16.unread x16) (off := ![0, 0]) inb_S1x384_S1x384_0_0).trans (harg16.read_unread x16)
  have h17 := (View.readAt_full arg17.view (harg17.unread x17) (off := ![0, 0]) inb_S384x1024_S384x1024_0_0).trans (harg17.read_unread x17)
  have h18 := (View.readAt_full arg18.view (harg18.unread x18) (off := ![0, 0]) inb_S1x128_S1x128_0_0).trans (harg18.read_unread x18)
  have h19 := (View.readAt_full arg19.view (harg19.unread x19) (off := ![0, 0]) inb_S128x1024_S128x1024_0_0).trans (harg19.read_unread x19)
  have h20 := (View.readAt_full arg20.view (harg20.unread x20) (off := ![0, 0]) inb_S128x512_S128x512_0_0).trans (harg20.read_unread x20)
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; swap; · iexact H21
    ipureintro
    refine (View.read_writes_full _ _ _ _ _).trans ?_
    exact dx_of h1 h2 h3 h4 h6 h7 h8 h9 h10 h11 h12 h13 h14 h16 h17 h18 h19 h20 (congrArg (fun x => qRows x _ _) (harg5.read_unread x5)) (congrArg (fun x => qRows x _ _) (harg5.read_unread x5)) (congrArg (fun x => qRows x _ _) (harg5.read_unread x5)) (congrArg (fun x => qRows x _ _) (harg5.read_unread x5)) (congrArg (fun x => qRows x _ _) (harg5.read_unread x5)) (congrArg (fun x => qRows x _ _) (harg5.read_unread x5)) (congrArg (fun x => qRows x _ _) (harg5.read_unread x5)) (congrArg (fun x => qRows x _ _) (harg5.read_unread x5)) (congrArg winR (harg15.read_unread x15)) (congrArg winA (harg15.read_unread x15))
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  iexists _, _; isplitr; swap; · iexact H28
  ipureintro; rfl

end Cert.Kernel5Ideal.Hand

end
-- ==== Proof.InbLaunch.lean ====
module

public import proofs.«01_k».proof.Proof.InbRun
public import Idealize.ShloMosaic.Lib.Claim

@[expose] public section

set_option maxRecDepth 16384

noncomputable section

/-! The launch of the layer input's backward call over its sixteen blocks of 256 tokens. The weights' gradients, which the program
does not return, are held at whatever they are. -/

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueKit

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results nothing is said of. -/
def forgot : Fin 28 → Bool := fun w => decide (20 < w.val)

abbrev ms0_0 (t : Fin cfg0.N) : Memref sig .tc .vmem S256x1024 .f32 := win0_0.stage (cfg0.slots t 0)
abbrev ms0_1 (t : Fin cfg0.N) : Memref sig .tc .vmem S256x1024 .f32 := win0_1.stage (cfg0.slots t 1)
abbrev ms0_2 (t : Fin cfg0.N) : Memref sig .tc .vmem S256x384 .f32 := win0_2.stage (cfg0.slots t 2)
abbrev ms0_3 (t : Fin cfg0.N) : Memref sig .tc .vmem S256x128 .f32 := win0_3.stage (cfg0.slots t 3)
abbrev ms0_4 (t : Fin cfg0.N) : Memref sig .tc .vmem S1024x256 .f32 := win0_4.stage (cfg0.slots t 4)
abbrev ms0_5 (t : Fin cfg0.N) : Memref sig .tc .vmem S256x1024 .f32 := win0_5.stage (cfg0.slots t 5)
abbrev ms0_6 (t : Fin cfg0.N) : Memref sig .tc .vmem S256x512 .f32 := win0_6.stage (cfg0.slots t 6)
abbrev ms0_7 (t : Fin cfg0.N) : Memref sig .tc .vmem S256x512 .f32 := win0_7.stage (cfg0.slots t 7)
abbrev ms0_8 (t : Fin cfg0.N) : Memref sig .tc .vmem S256x512 .f32 := win0_8.stage (cfg0.slots t 8)
abbrev ms0_9 (t : Fin cfg0.N) : Memref sig .tc .vmem S256x512 .f32 := win0_9.stage (cfg0.slots t 9)
abbrev ms0_10 (t : Fin cfg0.N) : Memref sig .tc .vmem S256x512 .f32 := win0_10.stage (cfg0.slots t 10)
abbrev ms0_11 (t : Fin cfg0.N) : Memref sig .tc .vmem S256x128 .f32 := win0_11.stage (cfg0.slots t 11)
abbrev ms0_12 (t : Fin cfg0.N) : Memref sig .tc .vmem S256x128 .f32 := win0_12.stage (cfg0.slots t 12)
abbrev ms0_13 (t : Fin cfg0.N) : Memref sig .tc .vmem S1x1024 .f32 := win0_13.stage (cfg0.slots t 13)
abbrev ms0_14 (t : Fin cfg0.N) : Memref sig .tc .vmem S2688x1024 .bf16 := win0_14.stage (cfg0.slots t 14)
abbrev ms0_15 (t : Fin cfg0.N) : Memref sig .tc .vmem S1x384 .f32 := win0_15.stage (cfg0.slots t 15)
abbrev ms0_16 (t : Fin cfg0.N) : Memref sig .tc .vmem S384x1024 .bf16 := win0_16.stage (cfg0.slots t 16)
abbrev ms0_17 (t : Fin cfg0.N) : Memref sig .tc .vmem S1x128 .f32 := win0_17.stage (cfg0.slots t 17)
abbrev ms0_18 (t : Fin cfg0.N) : Memref sig .tc .vmem S128x1024 .bf16 := win0_18.stage (cfg0.slots t 18)
abbrev ms0_19 (t : Fin cfg0.N) : Memref sig .tc .vmem S128x512 .bf16 := win0_19.stage (cfg0.slots t 19)
abbrev ms0_20 (t : Fin cfg0.N) : Memref sig .tc .vmem S256x1024 .f32 := win0_20.stage (cfg0.slots t 20)
abbrev ms0_21 (t : Fin cfg0.N) : Memref sig .tc .vmem S4x672x1024 .f32 := win0_21.stage (cfg0.slots t 21)
abbrev ms0_22 (t : Fin cfg0.N) : Memref sig .tc .vmem S384x1024 .f32 := win0_22.stage (cfg0.slots t 22)
abbrev ms0_23 (t : Fin cfg0.N) : Memref sig .tc .vmem S128x1024 .f32 := win0_23.stage (cfg0.slots t 23)
abbrev ms0_24 (t : Fin cfg0.N) : Memref sig .tc .vmem S128x512 .f32 := win0_24.stage (cfg0.slots t 24)
abbrev ms0_25 (t : Fin cfg0.N) : Memref sig .tc .vmem S1x1024 .f32 := win0_25.stage (cfg0.slots t 25)
abbrev ms0_26 (t : Fin cfg0.N) : Memref sig .tc .vmem S1x384 .f32 := win0_26.stage (cfg0.slots t 26)
abbrev ms0_27 (t : Fin cfg0.N) : Memref sig .tc .vmem S1x128 .f32 := win0_27.stage (cfg0.slots t 27)

/-- The input's gradient of a grid point's block. -/
def dxAt (c : Dev nD) (t : Fin cfg0.N) : Vec F S256x1024 .f32 :=
  dxOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-- The proof data: the arrays as the launch finds them, the inputs' buffers at their blocks, the input's gradient's at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => dxAt m c t
    | ⟨21, _⟩ => Dat.unnamed 21 t
    | ⟨22, _⟩ => Dat.unnamed 22 t
    | ⟨23, _⟩ => Dat.unnamed 23 t
    | ⟨24, _⟩ => Dat.unnamed 24 t
    | ⟨25, _⟩ => Dat.unnamed 25 t
    | ⟨26, _⟩ => Dat.unnamed 26 t
    | ⟨27, _⟩ => Dat.unnamed 27 t
    | ⟨_ + 28, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = dxAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d))

set_option maxHeartbeats 2400000 in
/-- The body at any grid point. -/
theorem sound_body (c : Dev nD) (t : Fin cfg0.N) :
    bodyPre m c t ⊢ wp frame (wpE (defs₀ (F := F)) Variants.none c none) Set.univ (bodyAt0 (F := F) t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).owesAt () t.succ = (dats m 0 c).owesAt () t.castSucc from rfl, show (dats m 0 c).Φ t.succ = (dats m 0 c).Φ t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (run c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body's obligation, at every grid point. -/
theorem body_obligation (c : Dev nD) : BodyObligation (dats (F := F) m 0 c) (defs₀ (F := F)) Variants.none () Set.univ forgot := fun t => by
  rw [bigSep_W0, bigSep_W0, defs₀_row]
  exact triple_restated (sound_body m c t) rfl .rfl fun _ => .rfl

set_option backward.isDefEq.respectTransparency.types false in
/-- The run: every execution ends with the input's gradient's array as the pipeline wrote it, the arguments and everything else the
call does not write as the launch found it, and every semaphore counter at zero. -/
theorem run_main_quiescent : θ_run defs (onTc (τ := τ) (main (F := F))) (s₀ m ρ) (fun r => (Pipeline.RDat.FramePost cfg0 (fun c => (dats m 0 c).toRForget forgot) (V m)) r ∧ r.2.sem = fun _ => 0) :=
  Pipeline.θ_run_frame_forget (Q' := _) cfgs (dats m) (0 : Fin 1) launch0 defs₀ Variants.none forgot m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The input's gradient's array after the run. -/
theorem out_of {r : PUnit × MemSt nD τ sig (Elt F)} (h : Pipeline.RDat.FramePost cfg0 (fun c => (dats m 0 c).toRForget forgot) (V m) r) (c : Dev nD) :
    r.2.mem ((spec0 20).arr.view.loc (c.tc : Thread nD τ)) = (dats m 0 c).arrAt 20 cfg0.N :=
  ((dats m 0 c).toRForget_arrAt_iff (fgt := forgot) (w := 20) rfl _ _).mp ((h c).1 20)

/-- An input window's array after the run. -/
theorem in_of {r : PUnit × MemSt nD τ sig (Elt F)} (h : Pipeline.RDat.FramePost cfg0 (fun c => (dats m 0 c).toRForget forgot) (V m) r) (c : Dev nD)
    (w : Fin cfg0.W) (hin : (cfg0.win w).isOut = false) : r.2.mem ((spec0 w).arr.view.loc (c.tc : Thread nD τ)) = V m c (Pipeline.arrRef spec0 w) :=
  (Pipeline.RDat.FramePost.arr_in h c w hin).trans (A_eq m c w)

/-- The residual stream's and the carried gradient's arrays after the run. -/
theorem arg0_of {r : PUnit × MemSt nD τ sig (Elt F)} (h : Pipeline.RDat.FramePost cfg0 (fun c => (dats m 0 c).toRForget forgot) (V m) r) (c : Dev nD) :
    r.2.mem ((c.tc : Thread nD τ).loc main_arg0) = m ((c.tc : Thread nD τ).loc main_arg0) :=
  (in_of m h c 0 rfl).trans (V_main_arg0 m c)

theorem arg2_of {r : PUnit × MemSt nD τ sig (Elt F)} (h : Pipeline.RDat.FramePost cfg0 (fun c => (dats m 0 c).toRForget forgot) (V m) r) (c : Dev nD) :
    r.2.mem ((c.tc : Thread nD τ).loc main_arg2) = m ((c.tc : Thread nD τ).loc main_arg2) :=
  (in_of m h c 1 rfl).trans (V_main_arg2 m c)

set_option maxHeartbeats 8000000 in
/-- The frame: the argument arrays end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ hh => ⟨fun c => have h := hh.1; ⟨arg0_of m h c,
      ((h c).2 main_arg1 (Pipeline.mem_restRefs_of main_arg1 (by decide) (by decide))).trans (V_main_arg1 m c),
      arg2_of m h c,
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩, hh.2⟩) (run_main_quiescent m ρ)

end Cert.Kernel5Ideal.Hand

end
-- ==== Proof.InbModel.lean ====
module

public import proofs.«01_k».proof.Proof.InModel
public import proofs.«01_k».proof.Proof.HeadModel

@[expose] public section

noncomputable section

/-! The gradient of the layer's input, as sums of extended reals. -/

namespace Cert.Inb

open Idealize.ShloMosaic Cert.In

/-! ### One row of a norm of any width. -/

/-- A row's mean square and the epsilon. -/
def mean2 {n : ℕ} (c : BitVec 32) (y : Fin n → EReal) : EReal := Ideal.div (∑ d, y d * y d) (Ideal.ofBits .f32 c) + Ideal.ofBits .f32 0x358637BD#32

theorem irms_eq {n : ℕ} (c : BitVec 32) (y : Fin n → EReal) : irms c y = Ideal.rsqrt (mean2 c y) := rfl

/-- The gradient of the row, as the kernel has it, -/
def back {n : ℕ} (c : BitVec 32) (y a : Fin n → EReal) (d : Fin n) : EReal :=
  irms c y * (a d - y d * irms c y * Ideal.div (∑ k, a k * (y k * irms c y)) (Ideal.ofBits .f32 c))
/-- and a part of it in the reference. -/
def part {n : ℕ} (c : BitVec 32) (y a : Fin n → EReal) : EReal :=
  Ideal.div ((∑ k, y k * a k) * (Ideal.ofBits .f32 0xBF000000#32 * Ideal.div (irms c y) (mean2 c y))) (Ideal.ofBits .f32 c)

theorem inf_or_real {n : ℕ} (y : Fin n → EReal) : (∃ d, y d = ⊤ ∨ y d = ⊥) ∨ ∃ f : Fin n → ℝ, ∀ d, y d = (f d : EReal) := by
  by_cases h : ∃ d, y d = ⊤ ∨ y d = ⊥
  · exact .inl h
  · refine .inr ⟨fun d => (y d).toReal, fun d => ?_⟩
    push Not at h
    exact (EReal.coe_toReal (h d).1 (h d).2).symm

theorem mean2_top {n : ℕ} {c : BitVec 32} {w : ℝ} (hw0 : 0 < w) (hw : Ideal.ofBits .f32 c = (w : EReal)) {y : Fin n → EReal}
    (h : ∃ d, y d = ⊤ ∨ y d = ⊥) : mean2 c y = ⊤ := by
  obtain ⟨d, hd⟩ := h
  obtain ⟨e, _, he⟩ := Head.ofBits_eps
  have hs : y d * y d = ⊤ := by rcases hd with h | h <;> rw [h] <;> simp
  have ht : ∑ k, y k * y k = ⊤ := by
    refine top_le_iff.mp (hs ▸ ?_)
    exact Finset.single_le_sum (f := fun k => y k * y k) (fun k _ => Head.sq_nonneg' (y k)) (Finset.mem_univ d)
  unfold mean2
  rw [ht, he, hw, Ideal.div_coe hw0.ne', EReal.top_mul_coe_of_pos (one_div_pos.mpr hw0)]
  exact EReal.top_add_coe e

theorem mean2_real {n : ℕ} {c : BitVec 32} {w : ℝ} (hw0 : 0 < w) (hw : Ideal.ofBits .f32 c = (w : EReal)) {y : Fin n → EReal} {f : Fin n → ℝ}
    (h : ∀ d, y d = (f d : EReal)) : ∃ m : ℝ, 0 < m ∧ mean2 c y = (m : EReal) := by
  obtain ⟨e, he0, he⟩ := Head.ofBits_eps
  refine ⟨(∑ d, f d * f d) / w + e, add_pos_of_nonneg_of_pos (div_nonneg (Finset.sum_nonneg fun d _ => mul_self_nonneg _) hw0.le) he0, ?_⟩
  unfold mean2
  rw [Cert.Model.sum_eq_coe (fun d => f d * f d) fun d => by rw [h, EReal.coe_mul], he, hw, Cert.Model.div_real _ hw0.ne', EReal.coe_add]

/-- The two forms of the gradient are the same. -/
theorem back_eq {n : ℕ} {c : BitVec 32} {w : ℝ} (hw0 : 0 < w) (hw : Ideal.ofBits .f32 c = (w : EReal)) (y a : Fin n → EReal) (d : Fin n) :
    a d * irms c y + y d * part c y a + part c y a * y d = back c y a d := by
  rcases inf_or_real y with h | ⟨f, h⟩
  · have hm := mean2_top hw0 hw h
    have hr : irms c y = 0 := by rw [irms_eq, hm]; rfl
    have hd : Ideal.div (irms c y) (mean2 c y) = 0 := by rw [hr, hm]; unfold Ideal.div; rw [if_neg (by simp), zero_mul]
    have hp : part c y a = 0 := by
      unfold part
      rw [hd, mul_zero, mul_zero, hw, Ideal.div_coe hw0.ne', zero_mul]
    unfold back
    rw [hr, hp, mul_zero, mul_zero, zero_mul, zero_mul, add_zero, add_zero]
  · obtain ⟨m, hm0, hm⟩ := mean2_real hw0 hw h
    have hr : irms c y = (((Real.sqrt m)⁻¹ : ℝ) : EReal) := by
      rw [irms_eq, hm, Ideal.rsqrt_coe, if_neg (not_lt.mpr hm0.le), if_neg hm0.ne']
    have hpos : 0 < (Real.sqrt m)⁻¹ := inv_pos.mpr (Real.sqrt_pos.mpr hm0)
    have hrr : (Real.sqrt m)⁻¹ * (Real.sqrt m)⁻¹ = 1 / m := by rw [← mul_inv, Real.mul_self_sqrt hm0.le, one_div]
    unfold back part
    rw [hr, hm, hw, Head.ofBits_neghalf, Cert.Model.div_real _ hm0.ne', ← EReal.coe_mul, Ideal.div_coe hw0.ne', Ideal.div_coe hw0.ne']
    have hs : ∑ k, a k * (y k * (((Real.sqrt m)⁻¹ : ℝ) : EReal)) = (∑ k, y k * a k) * (((Real.sqrt m)⁻¹ : ℝ) : EReal) := by
      rw [← Head.sum_mul_pos _ hpos.le]
      exact Finset.sum_congr rfl fun k _ => by rw [← mul_assoc, mul_comm (a k)]
    rw [hs]
    generalize (∑ k, y k * a k) = S
    generalize (Real.sqrt m)⁻¹ = r at *
    rw [sub_eq_add_neg, EReal.left_distrib_of_nonneg_of_ne_top (by exact_mod_cast hpos.le) (EReal.coe_ne_top r), h d]
    have e1 : (r : EReal) * -((f d : EReal) * r * (S * r * ((1 / w : ℝ) : EReal))) = S * ((-(r * (f d * r * (r * (1 / w)))) : ℝ) : EReal) := by
      rw [mul_neg, EReal.coe_neg, mul_neg]
      congr 1
      simp only [EReal.coe_mul]
      ac_rfl
    have e2 : (f d : EReal) * (S * ((-(1 / 2) * (r / m) : ℝ) : EReal) * ((1 / w : ℝ) : EReal)) = S * ((f d * (-(1 / 2) * (r / m)) * (1 / w) : ℝ) : EReal) := by
      simp only [EReal.coe_mul]
      ac_rfl
    have e3 : ∀ v : ℝ, S * (v : EReal) + S * (v : EReal) = S * ((2 * v : ℝ) : EReal) := fun v => by
      rw [two_mul, EReal.coe_add]
      rcases le_total 0 v with hv | hv
      · exact (EReal.left_distrib_of_nonneg (by exact_mod_cast hv) (by exact_mod_cast hv)).symm
      · have := (EReal.left_distrib_of_nonneg (a := (((-v : ℝ)) : EReal)) (b := ((-v : ℝ) : EReal)) (c := -S) (by exact_mod_cast neg_nonneg.mpr hv) (by exact_mod_cast neg_nonneg.mpr hv)).symm
        rw [← EReal.coe_add]
        rw [← EReal.coe_add] at this
        simp only [EReal.coe_neg, neg_mul, mul_neg, neg_neg, ← neg_add] at this
        exact this
    rw [e1, mul_comm _ (f d : EReal), e2, add_assoc, e3, mul_comm (a d)]
    congr 3
    have : r * (f d * r * (r * (1 / w))) = f d * (1 / w) * r * (1 / m) := by rw [← hrr]; ring
    rw [this]; ring

theorem ofBits_1024 : Ideal.ofBits .f32 0x44800000#32 = ((1024 : ℝ) : EReal) := Head.ofBits_lanes
theorem ofBits_384 : Ideal.ofBits .f32 0x43C00000#32 = ((384 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num

/-! ### The rotary embedding's gradient. -/

/-- A row of 96 lanes with zeros up to 128. -/
def wide (f : Fin 96 → EReal) (l : Fin 128) : EReal := if h : l.val < 96 then f ⟨l.val, h⟩ else 0

/-- The gradient of a row before the rotary embedding from the row after it. -/
def unturn (v : Fin 128 → EReal) (c s : Fin 16 → EReal) (l : Fin 128) : EReal :=
  if h1 : l.val < 64 then v l
  else if h2 : l.val < 80 then v l * c ⟨l.val - 64, by omega⟩ + v ⟨l.val + 16, by omega⟩ * s ⟨l.val - 64, by omega⟩
  else if h3 : l.val < 96 then v l * c ⟨l.val - 80, by omega⟩ - v ⟨l.val - 16, by omega⟩ * s ⟨l.val - 80, by omega⟩
  else v l

/-- The kernel's form of it. -/
theorem unturn_eq (v : Fin 128 → EReal) (c s : Fin 16 → EReal) (l : Fin 128) :
    v l * spread 1 c l
      - v ⟨(l.val + 16) % 128, by omega⟩ * (if 64 ≤ l.val ∧ l.val < 80 then 0 - spread 0 s l else 0)
      - v ⟨(l.val + 112) % 128, by omega⟩ * (if 80 ≤ l.val ∧ l.val < 96 then spread 0 s l else 0)
    = unturn v c s l := by
  unfold unturn
  by_cases h1 : l.val < 64
  · rw [dif_pos h1, if_neg (by omega), if_neg (by omega)]
    unfold spread
    rw [if_pos h1, mul_zero, mul_zero, sub_zero, sub_zero, mul_one]
  · rw [dif_neg h1]
    by_cases h2 : l.val < 80
    · rw [dif_pos h2, if_pos (by omega), if_neg (by omega), mul_zero, sub_zero]
      unfold spread
      rw [if_neg h1, dif_pos h2, if_neg h1, dif_pos h2, zero_sub, mul_neg, sub_eq_add_neg, neg_neg]
      congr 3
      exact Fin.ext (by show (l.val + 16) % 128 = l.val + 16; omega)
    · rw [dif_neg h2]
      by_cases h3 : l.val < 96
      · rw [dif_pos h3, if_neg (by omega), if_pos (by omega), mul_zero, sub_zero]
        unfold spread
        rw [if_neg h1, dif_neg h2, dif_pos h3, if_neg h1, dif_neg h2, dif_pos h3]
        congr 3
        exact Fin.ext (by show (l.val + 112) % 128 = l.val - 16; omega)
      · rw [dif_neg h3, if_neg (by omega), if_neg (by omega)]
        unfold spread
        rw [if_neg h1, dif_neg h2, dif_neg h3, mul_zero, mul_zero, sub_zero, sub_zero, mul_one]

/-! ### Sums by heads and by parts. -/

theorem sum_hl (f : Fin 1024 → EReal) : ∑ j, f j = ∑ h, ∑ l, f (hl h l) := by
  rw [← Fintype.sum_prod_type' (f := fun h l => f (hl h l))]
  exact (Fintype.sum_equiv (finProdFinEquiv (m := 8) (n := 128)) _ _ fun x => congrArg f (Fin.ext (by
    show 128 * x.1.val + x.2.val = x.2.val + 128 * x.1.val; omega))).symm
theorem sum_hv (f : Fin 512 → EReal) : ∑ j, f j = ∑ h, ∑ l, f (hv h l) := by
  rw [← Fintype.sum_prod_type' (f := fun h l => f (hv h l))]
  exact (Fintype.sum_equiv (finProdFinEquiv (m := 8) (n := 64)) _ _ fun x => congrArg f (Fin.ext (by
    show 64 * x.1.val + x.2.val = x.2.val + 64 * x.1.val; omega))).symm
/-- A sum in two parts. -/
theorem sum_parts {n : ℕ} (a b : ℕ) (h : a + b = n) (f : Fin n → EReal) :
    ∑ j, f j = ∑ i : Fin a, f ⟨i.val, by omega⟩ + ∑ i : Fin b, f ⟨a + i.val, by omega⟩ := by
  subst h
  rw [Fin.sum_univ_add]; rfl

/-- The layer's arrays and the gradients of its results. -/
structure Net extends In.Net where
  dh : Fin 4096 → Fin 1024 → EReal
  dq : Fin 4096 → Fin 8 → Fin 96 → EReal
  dk : Fin 4096 → Fin 8 → Fin 96 → EReal
  dv : Fin 4096 → Fin 8 → Fin 64 → EReal
  dr : Fin 4096 → Fin 2048 → EReal

namespace Net

variable (N : Net)

/-- The scaled gradient of the queries, padded, -/
def dqs (s : Fin 4096) (h : Fin 8) (l : Fin 128) : EReal := wide (N.dq s h) l * Ideal.ofBits .f32 0x3DD105EC#32
/-- before the rotary embedding, -/
def dql (s : Fin 4096) (h : Fin 8) (l : Fin 128) : EReal := unturn (N.dqs s h) (N.cs s) (N.sn s) l
/-- of their normed latent row, -/
def dqn (s : Fin 4096) (d : Fin 384) : EReal := ∑ h, ∑ l : Fin 96, N.dql s h ⟨l.val, by omega⟩ * N.wq d h l
/-- of this row; -/
def dcq (s : Fin 4096) (d : Fin 384) : EReal := back 0x43C00000#32 (N.cq s) (fun k => N.dqn s k * N.wqn k) d
/-- the gradient of all heads' keys, -/
def dks (s : Fin 4096) (l : Fin 128) : EReal := ∑ h, wide (N.dk s h) l
/-- of the shared lanes before the rotary embedding, -/
def dkr (s : Fin 4096) (l : Fin 128) : EReal := if 64 ≤ l.val ∧ l.val < 96 then unturn (N.dks s) (N.cs s) (N.sn s) l else 0
/-- of the heads' own lanes and their values, -/
def dkv (s : Fin 4096) (h : Fin 8) (l : Fin 128) : EReal := if e : l.val < 64 then N.dk s h ⟨l.val, by omega⟩ else N.dv s h ⟨l.val - 64, by omega⟩
/-- of their normed latent row, -/
def dkn (s : Fin 4096) (d : Fin 128) : EReal := ∑ h, ∑ l, N.dkv s h l * N.wkv d h l
/-- of this row; -/
def dckv (s : Fin 4096) (d : Fin 128) : EReal := back 0x43000000#32 (N.ckv s) (fun k => N.dkn s k * N.wkn k) d
/-- of the projection, -/
def dxp (s : Fin 4096) (j : Fin 2592) : EReal :=
  if h : j.val < 384 then N.dcq s ⟨j.val, h⟩ else if h : j.val < 512 then N.dckv s ⟨j.val - 384, by omega⟩
  else if h : j.val < 544 then N.dkr s ⟨j.val - 448, by omega⟩ else N.dr s ⟨j.val - 544, by omega⟩
/-- of the normed input -/
def du (s : Fin 4096) (d : Fin 1024) : EReal := ∑ j, N.dxp s j * N.wi d j
/-- and of the input. -/
def dx (s : Fin 4096) (d : Fin 1024) : EReal := N.dh s d + back 0x44800000#32 (N.x s) (fun k => N.du s k * N.w k) d

/-- The product with the padded queries' weight. -/
theorem dqn_eq (s : Fin 4096) (d : Fin 384) (g : Fin 1024 → EReal) (hg : ∀ h l, g (hl h l) = N.dql s h l * (if e : l.val < 96 then N.wq d h ⟨l.val, e⟩ else 0)) :
    ∑ j, g j = N.dqn s d := by
  rw [sum_hl]
  refine Finset.sum_congr rfl fun h _ => ?_
  rw [sum_parts 96 32 rfl]
  refine (congrArg₂ (· + ·) (Finset.sum_congr rfl fun l _ => ?_) (Finset.sum_eq_zero fun l _ => ?_)).trans (add_zero _)
  · rw [hg, dif_pos (by show l.val < 96; omega)]
  · rw [hg, dif_neg (by show ¬96 + l.val < 96; omega), mul_zero]

/-- The products with the padded keys' weight and the values'. -/
theorem dkn_eq (s : Fin 4096) (d : Fin 128) (g : Fin 1024 → EReal) (f : Fin 512 → EReal)
    (hg : ∀ h l, g (hl h l) = wide (N.dk s h) l * (if l.val < 64 then N.wkv d h l else 0))
    (hf : ∀ h l, f (hv h l) = N.dv s h l * N.wkv d h ⟨64 + l.val, by omega⟩) : ∑ j, g j + ∑ j, f j = N.dkn s d := by
  rw [sum_hl, sum_hv, ← Finset.sum_add_distrib]
  refine Finset.sum_congr rfl fun h _ => ?_
  rw [sum_parts 64 64 rfl (fun l => g (hl h l)), sum_parts 64 64 rfl (fun l => N.dkv s h l * N.wkv d h l)]
  refine congrArg₂ (· + ·) ?_ (Finset.sum_congr rfl fun l _ => ?_)
  · refine (congrArg₂ (· + ·) (Finset.sum_congr rfl fun l _ => ?_) (Finset.sum_eq_zero fun l _ => ?_)).trans (add_zero _)
    · rw [hg, if_pos (by show l.val < 64; omega)]
      unfold wide dkv
      rw [dif_pos (by show l.val < 96; omega), dif_pos (by show l.val < 64; omega)]
    · rw [hg, if_neg (by show ¬64 + l.val < 64; omega), mul_zero]
  · rw [hf]
    unfold dkv
    rw [dif_neg (by show ¬64 + l.val < 64; omega)]
    exact congrArg (fun a => N.dv s h a * _) (Fin.ext (by show l.val = 64 + l.val - 64; omega))

theorem dxp_cq (s : Fin 4096) (j : Fin 384) : N.dxp s ⟨j.val, by omega⟩ = N.dcq s j := by
  unfold dxp
  rw [dif_pos (by show j.val < 384; omega)]
theorem dxp_ckv (s : Fin 4096) (j : Fin 128) : N.dxp s ⟨384 + j.val, by omega⟩ = N.dckv s j := by
  unfold dxp
  rw [dif_neg (by show ¬384 + j.val < 384; omega), dif_pos (by show 384 + j.val < 512; omega)]
  exact congrArg (N.dckv s) (Fin.ext (by show 384 + j.val - 384 = j.val; omega))
theorem dxp_kr (s : Fin 4096) (j : Fin 32) : N.dxp s ⟨512 + j.val, by omega⟩ = N.dkr s ⟨64 + j.val, by omega⟩ := by
  unfold dxp
  rw [dif_neg (by show ¬512 + j.val < 384; omega), dif_neg (by show ¬512 + j.val < 512; omega), dif_pos (by show 512 + j.val < 544; omega)]
  exact congrArg (N.dkr s) (Fin.ext (by show 512 + j.val - 448 = 64 + j.val; omega))
theorem dxp_dr (s : Fin 4096) (j : Fin 2048) : N.dxp s ⟨544 + j.val, by omega⟩ = N.dr s j := by
  unfold dxp
  rw [dif_neg (by show ¬544 + j.val < 384; omega), dif_neg (by show ¬544 + j.val < 512; omega), dif_neg (by show ¬544 + j.val < 544; omega)]
  exact congrArg (N.dr s) (Fin.ext (by show 544 + j.val - 544 = j.val; omega))
theorem win_lo (d : Fin 1024) (j : ℕ) (h : j < 512) : N.win ⟨j, by omega⟩ d = N.wi d ⟨j, by omega⟩ := by
  unfold In.Net.win
  rw [dif_pos (by show j < 512; omega)]
theorem win_kr (d : Fin 1024) (j : Fin 32) : N.win ⟨512 + (64 + j.val), by omega⟩ d = N.wi d ⟨512 + j.val, by omega⟩ := by
  unfold In.Net.win
  rw [dif_neg (by show ¬512 + (64 + j.val) < 512; omega), if_neg (by show ¬512 + (64 + j.val) < 576; omega), dif_pos (by show 512 + (64 + j.val) < 608; omega)]
  exact congrArg (N.wi d) (Fin.ext (by show 512 + (64 + j.val) - 64 = 512 + j.val; omega))
theorem win_dr (d : Fin 1024) (j : Fin 2048) : N.win ⟨640 + j.val, by omega⟩ d = N.wi d ⟨544 + j.val, by omega⟩ := by
  unfold In.Net.win
  rw [dif_neg (by show ¬640 + j.val < 512; omega), if_neg (by show ¬640 + j.val < 576; omega), dif_neg (by show ¬640 + j.val < 608; omega),
    dif_neg (by show ¬640 + j.val < 640; omega)]
  exact congrArg (N.wi d) (Fin.ext (by show 640 + j.val - 96 = 544 + j.val; omega))

/-- A sum over the lanes 64 to 96. -/
theorem sum_mid (F : Fin 128 → EReal) (h : ∀ l : Fin 128, ¬(64 ≤ l.val ∧ l.val < 96) → F l = 0) : ∑ l, F l = ∑ i : Fin 32, F ⟨64 + i.val, by omega⟩ := by
  rw [sum_parts 64 64 rfl F, sum_parts 32 32 rfl (fun i : Fin 64 => F ⟨64 + i.val, by omega⟩)]
  have z1 : ∑ l : Fin 64, F ⟨l.val, by omega⟩ = 0 := Finset.sum_eq_zero fun l _ => h _ (by show ¬(64 ≤ l.val ∧ l.val < 96); omega)
  have z2 : ∑ l : Fin 32, F ⟨64 + (32 + l.val), by omega⟩ = 0 :=
    Finset.sum_eq_zero fun l _ => h _ (by show ¬(64 ≤ 64 + (32 + l.val) ∧ 64 + (32 + l.val) < 96); omega)
  exact (congrArg₂ (· + ·) z1 (congrArg (_ + ·) z2)).trans ((zero_add _).trans (add_zero _))

/-- The kernel's two products with the projection's weight. -/
theorem du_eq (s : Fin 4096) (d : Fin 1024) (g : Fin 2048 → EReal) (f : Fin 640 → EReal) (hg : ∀ j, g j = N.dr s j * N.win ⟨640 + j.val, by omega⟩ d)
    (hf1 : ∀ j : Fin 384, f ⟨j.val, by omega⟩ = N.dcq s j * N.win ⟨j.val, by omega⟩ d)
    (hf2 : ∀ j : Fin 128, f ⟨384 + j.val, by omega⟩ = N.dckv s j * N.win ⟨384 + j.val, by omega⟩ d)
    (hf3 : ∀ j : Fin 128, f ⟨512 + j.val, by omega⟩ = N.dkr s j * N.win ⟨512 + j.val, by omega⟩ d) : ∑ j, g j + ∑ j, f j = N.du s d := by
  have e1 : ∑ j, g j = ∑ j : Fin 2048, N.dxp s ⟨544 + j.val, by omega⟩ * N.wi d ⟨544 + j.val, by omega⟩ :=
    Finset.sum_congr rfl fun j _ => by rw [hg, win_dr, dxp_dr]
  have e2 : ∑ j : Fin 384, f ⟨j.val, by omega⟩ = ∑ j : Fin 384, N.dxp s ⟨j.val, by omega⟩ * N.wi d ⟨j.val, by omega⟩ :=
    Finset.sum_congr rfl fun j _ => by rw [hf1, win_lo N d j.val (by omega), dxp_cq]
  have e3 : ∑ j : Fin 128, f ⟨384 + j.val, by omega⟩ = ∑ j : Fin 128, N.dxp s ⟨384 + j.val, by omega⟩ * N.wi d ⟨384 + j.val, by omega⟩ :=
    Finset.sum_congr rfl fun j _ => by rw [hf2, win_lo N d (384 + j.val) (by omega), dxp_ckv]
  have e4 : ∑ j : Fin 128, f ⟨512 + j.val, by omega⟩ = ∑ j : Fin 32, N.dxp s ⟨512 + j.val, by omega⟩ * N.wi d ⟨512 + j.val, by omega⟩ := by
    rw [sum_mid _ fun l hl => by rw [hf3]; unfold dkr; rw [if_neg hl, zero_mul]]
    exact Finset.sum_congr rfl fun j _ => by rw [hf3 ⟨64 + j.val, by omega⟩, win_kr, dxp_kr]
  have s1 : ∑ j, f j = ∑ j : Fin 384, f ⟨j.val, by omega⟩ + ∑ j : Fin 128, f ⟨384 + j.val, by omega⟩ + ∑ j : Fin 128, f ⟨512 + j.val, by omega⟩ :=
    (sum_parts 512 128 rfl f).trans (congrArg (· + _) (sum_parts 384 128 rfl fun i : Fin 512 => f ⟨i.val, by omega⟩))
  let u : Fin 2592 → EReal := fun j => N.dxp s j * N.wi d j
  have s2 : ∑ j, u j = ∑ j : Fin 384, u ⟨j.val, by omega⟩ + ∑ j : Fin 128, u ⟨384 + j.val, by omega⟩ + ∑ j : Fin 32, u ⟨512 + j.val, by omega⟩
      + ∑ j : Fin 2048, u ⟨544 + j.val, by omega⟩ :=
    (sum_parts 544 2048 rfl u).trans (congrArg (· + _) ((sum_parts 512 32 rfl fun i : Fin 544 => u ⟨i.val, by omega⟩).trans
      (congrArg (· + _) (sum_parts 384 128 rfl fun i : Fin 512 => u ⟨i.val, by omega⟩))))
  rw [s1, e1, e2, e3, e4, add_comm]
  exact s2.symm

end Net

end Cert.Inb

end
-- ==== Proof.InbOps.lean ====
module

public import proofs.«01_k».proof.Proof.InbVal
public import proofs.«01_k».proof.Proof.InbModel
public import Idealize.ShloMosaic.Lib.Pointwise
public import Idealize.ShloMosaic.Lib.WordCmp

@[expose] public section

set_option maxRecDepth 16384

noncomputable section

/-! What a grid point of the layer input's backward call computes, read at an index. -/

namespace Cert.Kernel5Ideal.Hand

open Cert.Kernel5Ideal Cert.Kernel5Ideal.Gen Cert.In Cert.Inb
open Idealize.ShloMosaic Idealize.ShloMosaic.TcCoe Idealize.SL.Sem

theorem winA_at (X : Vec Ideal S2688x1024 .bf16) (j : Fin 640) (d : Fin 1024) : winA X (ix2 j d) = X (ix2 ⟨j.val, by omega⟩ d) :=
  View.ld_unit_apply_of X _ _ _ _ _ (by intro a; fin_cases a <;> simp)
theorem winR_at (X : Vec Ideal S2688x1024 .bf16) (j : Fin 2048) (d : Fin 1024) : winR X (ix2 j d) = X (ix2 ⟨640 + j.val, by omega⟩ d) :=
  View.ld_unit_apply_of X _ _ _ _ _ (by intro a; fin_cases a <;> simp)
theorem qRows_at (X : Vec Ideal S1024x256 .f32) (o : ℕ) (ho : o + 128 ≤ 1024) (inb) (l : Fin 128) (r : Fin 256) :
    qRows X ![o, 0] inb (ix2 l r) = X (ix2 ⟨o + l.val, by omega⟩ r) :=
  View.ld_unit_apply_of X _ _ _ _ _ (by intro a; fin_cases a <;> simp)

/-! ### The norms and the products. -/

theorem pay13_at (x : Vec Ideal S256x1024 .f32) (r : Fin 256) : k0_pay13 x (ix2 r 0) = irms 0x44800000#32 (fun k : Fin 1024 => (x (ix2 r k) : EReal)) := by
  unfold irms
  pointwise [k0_pay13]
theorem pay14_at (x : Vec Ideal S256x1024 .f32) (r : Fin 256) (d : Fin 1024) : k0_pay14 x (ix2 r d) = (x (ix2 r d) : EReal) * k0_pay13 x (ix2 r 0) := by
  pointwise [k0_pay14]
theorem pay48_at (x : Vec Ideal S256x384 .f32) (r : Fin 256) : k0_pay48 x (ix2 r 0) = irms 0x43C00000#32 (fun k : Fin 384 => (x (ix2 r k) : EReal)) := by
  unfold irms
  pointwise [k0_pay48, k0_pay47]
theorem pay49_at (x : Vec Ideal S256x384 .f32) (r : Fin 256) (d : Fin 384) : k0_pay49 x (ix2 r d) = (x (ix2 r d) : EReal) * k0_pay48 x (ix2 r 0) := by
  pointwise [k0_pay49, k0_pay47]
theorem pay56_at (x : Vec Ideal S256x128 .f32) (r : Fin 256) : k0_pay56 x (ix2 r 0) = irms 0x43000000#32 (fun k : Fin 128 => (x (ix2 r k) : EReal)) := by
  unfold irms
  pointwise [k0_pay56, k0_pay55]
theorem pay57_at (x : Vec Ideal S256x128 .f32) (r : Fin 256) (d : Fin 128) : k0_pay57 x (ix2 r d) = (x (ix2 r d) : EReal) * k0_pay56 x (ix2 r 0) := by
  pointwise [k0_pay57, k0_pay55]
theorem pay12_at (w : Vec Ideal S1x1024 .f32) (d : Fin 1024) : k0_pay12 w (ix2 0 d) = w (ix2 0 d) := by
  pointwise [k0_pay12]
theorem pay46_at (w : Vec Ideal S1x384 .f32) (d : Fin 384) : k0_pay46 w (ix2 0 d) = w (ix2 0 d) := by
  pointwise [k0_pay46]
theorem pay54_at (w : Vec Ideal S1x128 .f32) (d : Fin 128) : k0_pay54 w (ix2 0 d) = w (ix2 0 d) := by
  pointwise [k0_pay54]
theorem pay21_at (x : Vec Ideal S256x128 .f32) (r : Fin 256) (l : Fin 128) : k0_pay21 x (ix2 r l) = x (ix2 r l) := by
  pointwise [k0_pay21]
theorem pay22_at (x : Vec Ideal S256x128 .f32) (r : Fin 256) (l : Fin 128) : k0_pay22 x (ix2 r l) = x (ix2 r l) := by
  pointwise [k0_pay22]
theorem pay25_at (x : Vec Ideal S256x1024 .f32) (r : Fin 256) (l : Fin 1024) : k0_pay25 x (ix2 r l) = x (ix2 r l) := by
  pointwise [k0_pay25]
theorem pay10_at (a b c d : Vec Ideal S256x512 .f32) (r : Fin 256) (j : Fin 2048) : k0_pay10 a b c d (ix2 r j)
    = if h : j.val < 512 then (a (ix2 r ⟨j.val, h⟩) : EReal) else if h : j.val < 1024 then b (ix2 r ⟨j.val - 512, by omega⟩)
      else if h : j.val < 1536 then c (ix2 r ⟨j.val - 1024, by omega⟩) else d (ix2 r ⟨j.val - 1536, by omega⟩) := by
  pointwise [k0_pay10]
  by_cases h1 : j.val < 512
  · rw [dif_pos h1, dif_pos h1]
  · rw [dif_neg h1, dif_neg h1]
    by_cases h2 : j.val < 1024
    · rw [dif_pos (by omega), dif_pos h2]
    · rw [dif_neg (by omega), dif_neg h2]
      by_cases h3 : j.val < 1536
      · rw [dif_pos (by omega), dif_pos h3]
        exact congrArg (fun a => (c (ix2 r a) : EReal)) (Fin.ext (by dsimp only; omega))
      · rw [dif_neg (by omega), dif_neg h3]
        exact congrArg (fun a => (d (ix2 r a) : EReal)) (Fin.ext (by dsimp only; omega))
theorem pay11_at (a b c e : Vec Ideal S256x512 .f32) (w : Vec Ideal S2048x1024 .bf16) (r : Fin 256) (d : Fin 1024) :
    k0_pay11 a b c e w (ix2 r d) = ∑ j, (k0_pay10 a b c e (ix2 r j) : EReal) * w (ix2 j d) := by
  pointwise! [k0_pay11]
theorem pay51_at (v : FVec Ideal S256x1024 .f32) (w : Vec Ideal S384x1024 .bf16) (r : Fin 256) (d : Fin 384) :
    k0_pay51 v w (ix2 r d) = ∑ j, (v (ix2 r j) : EReal) * w (ix2 d j) := by
  pointwise! [k0_pay51]
theorem pay62_at (v : FVec Ideal S256x1024 .f32) (u : Vec Ideal S256x512 .f32) (w : Vec Ideal S128x1024 .bf16) (z : Vec Ideal S128x512 .bf16) (r : Fin 256) (d : Fin 128) :
    k0_pay62 v u w z (ix2 r d) = ∑ j, (v (ix2 r j) : EReal) * w (ix2 d j) + ∑ j, (u (ix2 r j) : EReal) * z (ix2 d j) := by
  pointwise! [k0_pay62, k0_pay59]
theorem pay52_at (v : FVec Ideal S256x1024 .f32) (w : FVec Ideal S1x384 .f32) (i : FVec Ideal S256x1 .f32) (y : FVec Ideal S256x384 .f32) (z : Vec Ideal S384x1024 .bf16)
    (r : Fin 256) (d : Fin 384) : k0_pay52 v w i y z (ix2 r d)
    = (i (ix2 r 0) : EReal) * ((k0_pay51 v z (ix2 r d) : EReal) * w (ix2 0 d)
      - (y (ix2 r d) : EReal) * Ideal.div (∑ k, (k0_pay51 v z (ix2 r k) : EReal) * w (ix2 0 k) * y (ix2 r k)) (Ideal.ofBits .f32 0x43C00000#32)) := by
  pointwise [k0_pay52]
theorem pay63_at (v : FVec Ideal S256x1024 .f32) (w : FVec Ideal S1x128 .f32) (i : FVec Ideal S256x1 .f32) (y : FVec Ideal S256x128 .f32) (u : Vec Ideal S256x512 .f32)
    (z : Vec Ideal S128x1024 .bf16) (q : Vec Ideal S128x512 .bf16) (r : Fin 256) (d : Fin 128) : k0_pay63 v w i y u z q (ix2 r d)
    = (i (ix2 r 0) : EReal) * ((k0_pay62 v u z q (ix2 r d) : EReal) * w (ix2 0 d)
      - (y (ix2 r d) : EReal) * Ideal.div (∑ k, (k0_pay62 v u z q (ix2 r k) : EReal) * w (ix2 0 k) * y (ix2 r k)) (Ideal.ofBits .f32 0x43000000#32)) := by
  pointwise [k0_pay63]
theorem pay66_at (v : FVec Ideal S256x128 .f32) (a : FVec Ideal S256x384 .f32) (b : FVec Ideal S256x128 .f32) (r : Fin 256) (j : Fin 640) :
    k0_pay66 v a b (ix2 r j) = if h : j.val < 384 then (a (ix2 r ⟨j.val, h⟩) : EReal) else if h : j.val < 512 then b (ix2 r ⟨j.val - 384, by omega⟩)
      else v (ix2 r ⟨j.val - 512, by omega⟩) := by
  pointwise [k0_pay66]
  by_cases h1 : j.val < 384
  · rw [dif_pos h1, dif_pos h1]
  · rw [dif_neg h1, dif_neg h1]
    by_cases h2 : j.val < 512
    · rw [dif_pos (by omega), dif_pos h2]
    · rw [dif_neg (by omega), dif_neg h2]
      exact congrArg (fun a => (v (ix2 r a) : EReal)) (Fin.ext (by dsimp only; omega))
theorem pay70_at (u : FVec Ideal S256x1024 .f32) (v : FVec Ideal S256x128 .f32) (a : FVec Ideal S256x384 .f32) (b : FVec Ideal S256x128 .f32) (w : Vec Ideal S640x1024 .bf16)
    (r : Fin 256) (d : Fin 1024) : k0_pay70 u v a b w (ix2 r d) = (u (ix2 r d) : EReal) + ∑ j, (k0_pay66 v a b (ix2 r j) : EReal) * w (ix2 j d) := by
  pointwise! [k0_pay70]
theorem pay71_at (u : FVec Ideal S256x1024 .f32) (n : FVec Ideal S1x1024 .f32) (v : FVec Ideal S256x128 .f32) (a : FVec Ideal S256x384 .f32) (b : FVec Ideal S256x128 .f32)
    (w : Vec Ideal S640x1024 .bf16) (r : Fin 256) (d : Fin 1024) : k0_pay71 u n v a b w (ix2 r d) = (k0_pay70 u v a b w (ix2 r d) : EReal) * n (ix2 0 d) := by
  pointwise [k0_pay71]
theorem pay72_at (u : FVec Ideal S256x1024 .f32) (n : FVec Ideal S1x1024 .f32) (y : FVec Ideal S256x1024 .f32) (v : FVec Ideal S256x128 .f32) (a : FVec Ideal S256x384 .f32)
    (b : FVec Ideal S256x128 .f32) (w : Vec Ideal S640x1024 .bf16) (r : Fin 256) (d : Fin 1024) : k0_pay72 u n y v a b w (ix2 r d)
    = Ideal.div (∑ k, (k0_pay71 u n v a b w (ix2 r k) : EReal) * y (ix2 r k)) (Ideal.ofBits .f32 0x44800000#32) := by
  pointwise [k0_pay72]
theorem pay2_at (i : FVec Ideal S256x1 .f32) (y p q : FVec Ideal S256x1024 .f32) (h : Vec Ideal S256x1024 .f32) (r : Fin 256) (d : Fin 1024) :
    k0_pay2 i y p q h (ix2 r d) = (h (ix2 r d) : EReal) + (i (ix2 r 0) : EReal) * ((p (ix2 r d) : EReal) - (y (ix2 r d) : EReal) * q (ix2 r d)) := by
  pointwise [k0_pay2]

/-! ### The rotary embedding. -/

theorem within (a b : ℕ) (ha : a < 256) (hb : b < 256) (l : Fin 128) (x y : EReal) :
    Scalar.select (IntOp.andi (IntOp.cmpi CmpIPredicate.sge (BitVec.ofNat 32 l.val) (BitVec.ofNat 32 a)) (IntOp.cmpi CmpIPredicate.slt (BitVec.ofNat 32 l.val) (BitVec.ofNat 32 b))) x y
    = if a ≤ l.val ∧ l.val < b then x else y := by
  have h1 : IntOp.cmpi CmpIPredicate.sge (BitVec.ofNat 32 l.val) (BitVec.ofNat 32 a) = BitVec.ofBool (decide (a ≤ l.val)) := by word_cmp
  have h2 : IntOp.cmpi CmpIPredicate.slt (BitVec.ofNat 32 l.val) (BitVec.ofNat 32 b) = BitVec.ofBool (decide (l.val < b)) := by word_cmp
  rw [h1, h2]
  by_cases e1 : a ≤ l.val <;> by_cases e2 : l.val < b <;> simp [e1, e2, Scalar.select, IntOp.andi]

theorem pay23_at (x : Vec Ideal S256x128 .f32) (r : Fin 256) (l : Fin 128) :
    k0_pay23 x (ix2 r l) = if 64 ≤ l.val ∧ l.val < 80 then 0 - (x (ix2 r l) : EReal) else 0 := by
  refine Eq.trans ?_ (within 64 80 (by norm_num) (by norm_num) l _ _)
  pointwise [k0_pay23, k0_pay22]
theorem pay24_at (x : Vec Ideal S256x128 .f32) (r : Fin 256) (l : Fin 128) :
    k0_pay24 x (ix2 r l) = if 80 ≤ l.val ∧ l.val < 96 then (x (ix2 r l) : EReal) else 0 := by
  refine Eq.trans ?_ (within 80 96 (by norm_num) (by norm_num) l _ _)
  pointwise [k0_pay24, k0_pay22]
/-- A head's scaled gradient, -/
theorem pay34_at (q : Vec Ideal S128x256 .f32) (r : Fin 256) (l : Fin 128) : k0_pay34 q (ix2 r l) = (q (ix2 l r) : EReal) * Ideal.ofBits .f32 0x3DD105EC#32 := by
  pointwise [k0_pay34]
/-- and before the rotary embedding. -/
theorem pay30_at (a b v w : FVec Ideal S256x128 .f32) (r : Fin 256) (l : Fin 128) : k0_pay30 a b v w (ix2 r l)
    = (w (ix2 r l) : EReal) - (v (ix2 r ⟨(l.val + 16) % 128, by omega⟩) : EReal) * a (ix2 r l) - (v (ix2 r ⟨(l.val + 112) % 128, by omega⟩) : EReal) * b (ix2 r l) := by
  pointwise [k0_pay30]
  simp only [show l.val + 128 - 112 = l.val + 16 by omega, show l.val + 128 - 16 = l.val + 112 by omega]

/-- A head's gradient before the embedding, in one form for all heads. -/
def headQ (x12 x13 : Vec Ideal S256x128 .f32) (q : Vec Ideal S128x256 .f32) : FVec Ideal S256x128 .f32 :=
  k0_pay30 (k0_pay23 x13) (k0_pay24 x13) (k0_pay34 q) (mulf (k0_pay34 q) (k0_pay21 x12))

/-- All heads side by side. -/
def eight (a b c d e f g h : FVec Ideal S256x128 .f32) : FVec Ideal S256x1024 .f32 :=
  concatenate S256x1024 1 [⟨S256x128, a⟩, ⟨S256x128, b⟩, ⟨S256x128, c⟩, ⟨S256x128, d⟩, ⟨S256x128, e⟩, ⟨S256x128, f⟩, ⟨S256x128, g⟩, ⟨S256x128, h⟩]
    concatenates_S256x128_S256x128_S256x128_S256x128_S256x128_S256x128_S256x128_S256x128_S256x1024_d1

theorem dqLin_eq (x5 : Vec Ideal S1024x256 .f32) (x12 x13 : Vec Ideal S256x128 .f32) : dqLin x5 x12 x13
    = eight (headQ x12 x13 (qRows x5 ![0, 0] inb_S1024x256_S128x256_0_0)) (headQ x12 x13 (qRows x5 ![128, 0] inb_S1024x256_S128x256_128_0))
      (headQ x12 x13 (qRows x5 ![256, 0] inb_S1024x256_S128x256_256_0)) (headQ x12 x13 (qRows x5 ![384, 0] inb_S1024x256_S128x256_384_0))
      (headQ x12 x13 (qRows x5 ![512, 0] inb_S1024x256_S128x256_512_0)) (headQ x12 x13 (qRows x5 ![640, 0] inb_S1024x256_S128x256_640_0))
      (headQ x12 x13 (qRows x5 ![768, 0] inb_S1024x256_S128x256_768_0)) (headQ x12 x13 (qRows x5 ![896, 0] inb_S1024x256_S128x256_896_0)) := rfl

theorem eight_at (p : Fin 8 → FVec Ideal S256x128 .f32) (r : Fin 256) (h : Fin 8) (l : Fin 128) :
    eight (p 0) (p 1) (p 2) (p 3) (p 4) (p 5) (p 6) (p 7) (ix2 r (hl h l)) = p h (ix2 r l) := by
  unfold hl
  fin_cases h <;> pointwise! [eight] <;> (repeat first | rw [dif_neg (by omega)] | rw [dif_pos (by omega)]) <;>
    exact congrArg (fun a => (p _ (ix2 r a) : EReal)) (Fin.ext (by dsimp only; omega))

/-- The sum of all heads' keys' gradients. -/
def sumK (x6 : Vec Ideal S256x1024 .f32) : FVec Ideal S256x128 .f32 :=
  addf (k0_pay40 (k0_pay25 x6) (k0_pay33 (k0_pay25 x6) (k0_pay27 x6))) (extractStridedSlice S256x128 ![0, 896] (k0_pay25 x6) slices_S256x1024_o0_896_S256x128)
/-- The lanes 64 to 96 of a block, zeros elsewhere. -/
def middle (v : FVec Ideal S256x128 .f32) : FVec Ideal S256x128 .f32 :=
  select (andi (cmpi .sge (iota .tc S256x128 32 [1] iota_S256x128_d1_w32) (broadcast S256x128 64#32)) (cmpi .slt (iota .tc S256x128 32 [1] iota_S256x128_d1_w32) (broadcast S256x128 96#32)))
    v (broadcast S256x128 (Scalar.ofBits (F := Ideal) .f32 0x00000000#32))

theorem dkRope_eq (x6 : Vec Ideal S256x1024 .f32) (x12 x13 : Vec Ideal S256x128 .f32) : dkRope x6 x12 x13
    = middle (k0_pay30 (k0_pay23 x13) (k0_pay24 x13) (sumK x6) (mulf (sumK x6) (k0_pay21 x12))) := rfl
theorem middle_at (v : FVec Ideal S256x128 .f32) (r : Fin 256) (l : Fin 128) : middle v (ix2 r l) = if 64 ≤ l.val ∧ l.val < 96 then (v (ix2 r l) : EReal) else 0 := by
  refine Eq.trans ?_ (within 64 96 (by norm_num) (by norm_num) l _ _)
  pointwise [middle]
theorem sumK_at (x6 : Vec Ideal S256x1024 .f32) (r : Fin 256) (l : Fin 128) : sumK x6 (ix2 r l) = ∑ h, (x6 (ix2 r (hl h l)) : EReal) := by
  rw [Fin.sum_univ_eight]
  unfold hl
  pointwise! [sumK, k0_pay40, k0_pay33, k0_pay27, k0_pay25]

/-- The blocks that a grid point reads are a layer's. -/
structure PtIs (N : Inb.Net) (b : Fin 16) (x1 x2 : Vec Ideal S256x1024 .f32) (x3 : Vec Ideal S256x384 .f32) (x4 : Vec Ideal S256x128 .f32) (x5 : Vec Ideal S1024x256 .f32)
    (x6 : Vec Ideal S256x1024 .f32) (x7 x8 x9 x10 x11 : Vec Ideal S256x512 .f32) (x12 x13 : Vec Ideal S256x128 .f32) (x14 : Vec Ideal S1x1024 .f32)
    (x15 : Vec Ideal S2688x1024 .bf16) (x16 : Vec Ideal S1x384 .f32) (x17 : Vec Ideal S384x1024 .bf16) (x18 : Vec Ideal S1x128 .f32) (x19 : Vec Ideal S128x1024 .bf16)
    (x20 : Vec Ideal S128x512 .bf16) : Prop where
  x : ∀ r d, x1 (ix2 r d) = N.x (Head.tk b r) d
  dh : ∀ r d, x2 (ix2 r d) = N.dh (Head.tk b r) d
  cq : ∀ r d, x3 (ix2 r d) = N.cq (Head.tk b r) d
  ckv : ∀ r d, x4 (ix2 r d) = N.ckv (Head.tk b r) d
  dq : ∀ r h l, x5 (ix2 (hl h l) r) = wide (N.dq (Head.tk b r) h) l
  dk : ∀ r h l, x6 (ix2 r (hl h l)) = wide (N.dk (Head.tk b r) h) l
  dv : ∀ r h l, x7 (ix2 r (hv h l)) = N.dv (Head.tk b r) h l
  r0 : ∀ r (j : Fin 512), x8 (ix2 r j) = N.dr (Head.tk b r) ⟨j.val, by omega⟩
  r1 : ∀ r (j : Fin 512), x9 (ix2 r j) = N.dr (Head.tk b r) ⟨512 + j.val, by omega⟩
  r2 : ∀ r (j : Fin 512), x10 (ix2 r j) = N.dr (Head.tk b r) ⟨1024 + j.val, by omega⟩
  r3 : ∀ r (j : Fin 512), x11 (ix2 r j) = N.dr (Head.tk b r) ⟨1536 + j.val, by omega⟩
  c : ∀ r l, x12 (ix2 r l) = spread 1 (N.cs (Head.tk b r)) l
  s : ∀ r l, x13 (ix2 r l) = spread 0 (N.sn (Head.tk b r)) l
  w : ∀ d, x14 (ix2 0 d) = N.w d
  wi : ∀ j d, x15 (ix2 j d) = N.win j d
  wqn : ∀ d, x16 (ix2 0 d) = N.wqn d
  wq : ∀ d h l, x17 (ix2 d (hl h l)) = if e : l.val < 96 then N.wq d h ⟨l.val, e⟩ else 0
  wkn : ∀ d, x18 (ix2 0 d) = N.wkn d
  wk : ∀ d h l, x19 (ix2 d (hl h l)) = if l.val < 64 then N.wkv d h l else 0
  wv : ∀ d h l, x20 (ix2 d (hv h l)) = N.wkv d h ⟨64 + l.val, by omega⟩

section

variable {N : Inb.Net} {b : Fin 16} {x1 x2 : Vec Ideal S256x1024 .f32} {x3 : Vec Ideal S256x384 .f32} {x4 : Vec Ideal S256x128 .f32} {x5 : Vec Ideal S1024x256 .f32}
    {x6 : Vec Ideal S256x1024 .f32} {x7 x8 x9 x10 x11 : Vec Ideal S256x512 .f32} {x12 x13 : Vec Ideal S256x128 .f32} {x14 : Vec Ideal S1x1024 .f32}
    {x15 : Vec Ideal S2688x1024 .bf16} {x16 : Vec Ideal S1x384 .f32} {x17 : Vec Ideal S384x1024 .bf16} {x18 : Vec Ideal S1x128 .f32} {x19 : Vec Ideal S128x1024 .bf16}
    {x20 : Vec Ideal S128x512 .bf16} (h : PtIs N b x1 x2 x3 x4 x5 x6 x7 x8 x9 x10 x11 x12 x13 x14 x15 x16 x17 x18 x19 x20)
include h

/-- The embedding's gradient of a row, -/
theorem unturn_is (v : FVec Ideal S256x128 .f32) (g : Fin 128 → EReal) (r : Fin 256) (hv : ∀ l, v (ix2 r l) = g l) (l : Fin 128) :
    k0_pay30 (k0_pay23 x13) (k0_pay24 x13) v (mulf v (k0_pay21 x12)) (ix2 r l) = unturn g (N.cs (Head.tk b r)) (N.sn (Head.tk b r)) l := by
  rw [pay30_at, pay23_at, pay24_at, show mulf v (k0_pay21 x12) (ix2 r l) = (v (ix2 r l) : EReal) * k0_pay21 x12 (ix2 r l) from rfl, pay21_at, hv, hv, hv, h.c, h.s]
  exact unturn_eq g _ _ l
/-- of a head's queries -/
theorem headQ_is (o : ℕ) (i : Fin 8) (ho : o = 128 * i.val) (inb) (r : Fin 256) (l : Fin 128) :
    headQ x12 x13 (qRows x5 ![o, 0] inb) (ix2 r l) = N.dql (Head.tk b r) i l := by
  refine unturn_is h _ (N.dqs (Head.tk b r) i) r (fun l => ?_) l
  subst ho
  rw [pay34_at, qRows_at x5 _ (by omega) inb l r]
  exact congrArg (· * Ideal.ofBits .f32 0x3DD105EC#32) (h.dq r i l)
theorem dql_is (r : Fin 256) (i : Fin 8) (l : Fin 128) : dqLin x5 x12 x13 (ix2 r (hl i l)) = N.dql (Head.tk b r) i l := by
  rw [dqLin_eq]
  refine (eight_at ![headQ x12 x13 (qRows x5 ![0, 0] inb_S1024x256_S128x256_0_0), headQ x12 x13 (qRows x5 ![128, 0] inb_S1024x256_S128x256_128_0),
      headQ x12 x13 (qRows x5 ![256, 0] inb_S1024x256_S128x256_256_0), headQ x12 x13 (qRows x5 ![384, 0] inb_S1024x256_S128x256_384_0),
      headQ x12 x13 (qRows x5 ![512, 0] inb_S1024x256_S128x256_512_0), headQ x12 x13 (qRows x5 ![640, 0] inb_S1024x256_S128x256_640_0),
      headQ x12 x13 (qRows x5 ![768, 0] inb_S1024x256_S128x256_768_0), headQ x12 x13 (qRows x5 ![896, 0] inb_S1024x256_S128x256_896_0)] r i l).trans ?_
  fin_cases i
  · exact headQ_is h 0 0 rfl _ r l
  · exact headQ_is h 128 1 rfl _ r l
  · exact headQ_is h 256 2 rfl _ r l
  · exact headQ_is h 384 3 rfl _ r l
  · exact headQ_is h 512 4 rfl _ r l
  · exact headQ_is h 640 5 rfl _ r l
  · exact headQ_is h 768 6 rfl _ r l
  · exact headQ_is h 896 7 rfl _ r l
/-- and of the shared key. -/
theorem dkr_is (r : Fin 256) (l : Fin 128) : dkRope x6 x12 x13 (ix2 r l) = N.dkr (Head.tk b r) l := by
  rw [dkRope_eq, middle_at, unturn_is h (sumK x6) (N.dks (Head.tk b r)) r (fun l => by rw [sumK_at]; exact Finset.sum_congr rfl fun i _ => h.dk r i l)]
  rfl

theorem dqn_is (r : Fin 256) (d : Fin 384) : k0_pay51 (dqLin x5 x12 x13) x17 (ix2 r d) = N.dqn (Head.tk b r) d := by
  rw [pay51_at]
  exact N.dqn_eq _ _ _ fun i l => by rw [dql_is h, h.wq]
theorem iq_is (r : Fin 256) : k0_pay48 x3 (ix2 r 0) = irms 0x43C00000#32 (N.cq (Head.tk b r)) := by
  rw [pay48_at, show (fun k : Fin 384 => (x3 (ix2 r k) : EReal)) = N.cq (Head.tk b r) from funext fun k => h.cq r k]
theorem dcq_is (r : Fin 256) (d : Fin 384) : dCq x3 x5 x12 x13 x16 x17 (ix2 r d) = N.dcq (Head.tk b r) d := by
  unfold dCq
  rw [pay52_at, iq_is h, dqn_is h, pay46_at, h.wqn, pay49_at, iq_is h, h.cq]
  unfold Inb.Net.dcq back
  refine congrArg (fun s => irms 0x43C00000#32 (N.cq (Head.tk b r)) * (N.dqn (Head.tk b r) d * N.wqn d
    - N.cq (Head.tk b r) d * irms 0x43C00000#32 (N.cq (Head.tk b r)) * Ideal.div s (Ideal.ofBits .f32 0x43C00000#32))) ?_
  exact Finset.sum_congr rfl fun k _ => by rw [dqn_is h, pay46_at, h.wqn, pay49_at, iq_is h, h.cq]
theorem dkn_is (r : Fin 256) (d : Fin 128) : k0_pay62 (k0_pay25 x6) x7 x19 x20 (ix2 r d) = N.dkn (Head.tk b r) d := by
  rw [pay62_at]
  exact N.dkn_eq _ _ _ _ (fun i l => by rw [pay25_at, h.dk, h.wk]) (fun i l => by rw [h.dv, h.wv])
theorem ik_is (r : Fin 256) : k0_pay56 x4 (ix2 r 0) = irms 0x43000000#32 (N.ckv (Head.tk b r)) := by
  rw [pay56_at, show (fun k : Fin 128 => (x4 (ix2 r k) : EReal)) = N.ckv (Head.tk b r) from funext fun k => h.ckv r k]
theorem dckv_is (r : Fin 256) (d : Fin 128) : dCkv x4 x6 x7 x18 x19 x20 (ix2 r d) = N.dckv (Head.tk b r) d := by
  unfold dCkv
  rw [pay63_at, ik_is h, dkn_is h, pay54_at, h.wkn, pay57_at, ik_is h, h.ckv]
  unfold Inb.Net.dckv back
  refine congrArg (fun s => irms 0x43000000#32 (N.ckv (Head.tk b r)) * (N.dkn (Head.tk b r) d * N.wkn d
    - N.ckv (Head.tk b r) d * irms 0x43000000#32 (N.ckv (Head.tk b r)) * Ideal.div s (Ideal.ofBits .f32 0x43000000#32))) ?_
  exact Finset.sum_congr rfl fun k _ => by rw [dkn_is h, pay54_at, h.wkn, pay57_at, ik_is h, h.ckv]

/-- The recurrence's gradients side by side. -/
theorem dr_is (r : Fin 256) (j : Fin 2048) : k0_pay10 x8 x9 x10 x11 (ix2 r j) = N.dr (Head.tk b r) j := by
  rw [pay10_at]
  by_cases h1 : j.val < 512
  · rw [dif_pos h1, h.r0]
  · rw [dif_neg h1]
    by_cases h2 : j.val < 1024
    · rw [dif_pos h2, h.r1]
      exact congrArg (N.dr _) (Fin.ext (by show 512 + (j.val - 512) = j.val; omega))
    · rw [dif_neg h2]
      by_cases h3 : j.val < 1536
      · rw [dif_pos h3, h.r2]
        exact congrArg (N.dr _) (Fin.ext (by show 1024 + (j.val - 1024) = j.val; omega))
      · rw [dif_neg h3, h.r3]
        exact congrArg (N.dr _) (Fin.ext (by show 1536 + (j.val - 1536) = j.val; omega))
theorem du_is (r : Fin 256) (d : Fin 1024) :
    k0_pay70 (dU x8 x9 x10 x11 x15) (dkRope x6 x12 x13) (dCq x3 x5 x12 x13 x16 x17) (dCkv x4 x6 x7 x18 x19 x20) (winA x15) (ix2 r d) = N.du (Head.tk b r) d := by
  rw [pay70_at]
  unfold dU
  rw [pay11_at]
  refine N.du_eq _ _ _ _ (fun j => ?_) (fun j => ?_) (fun j => ?_) (fun j => ?_)
  · rw [dr_is h, winR_at, h.wi]
  · rw [pay66_at, dif_pos (by show j.val < 384; omega), winA_at, h.wi, dcq_is h]
  · rw [pay66_at, dif_neg (by show ¬384 + j.val < 384; omega), dif_pos (by show 384 + j.val < 512; omega), winA_at, h.wi, dckv_is h]
    exact congrArg (fun a => N.dckv _ a * _) (Fin.ext (by show 384 + j.val - 384 = j.val; omega))
  · rw [pay66_at, dif_neg (by show ¬512 + j.val < 384; omega), dif_neg (by show ¬512 + j.val < 512; omega), winA_at, h.wi, dkr_is h]
    exact congrArg (fun a => N.dkr _ a * _) (Fin.ext (by show 512 + j.val - 512 = j.val; omega))
theorem ix_is (r : Fin 256) : k0_pay13 x1 (ix2 r 0) = irms 0x44800000#32 (N.x (Head.tk b r)) := by
  rw [pay13_at, show (fun k : Fin 1024 => (x1 (ix2 r k) : EReal)) = N.x (Head.tk b r) from funext fun k => h.x r k]
/-- The gradient of the layer's input. -/
theorem dx_is (r : Fin 256) (d : Fin 1024) :
    dxOf x1 x2 x3 x4 x5 x6 x7 x8 x9 x10 x11 x12 x13 x14 x15 x16 x17 x18 x19 x20 (ix2 r d) = N.dx (Head.tk b r) d := by
  unfold dxOf
  rw [pay2_at, h.dh, ix_is h, pay71_at, du_is h, pay12_at, h.w, pay14_at, ix_is h, h.x, pay72_at]
  unfold Inb.Net.dx back
  refine congrArg (fun s => N.dh (Head.tk b r) d + irms 0x44800000#32 (N.x (Head.tk b r)) * (N.du (Head.tk b r) d * N.w d
    - N.x (Head.tk b r) d * irms 0x44800000#32 (N.x (Head.tk b r)) * Ideal.div s (Ideal.ofBits .f32 0x44800000#32))) ?_
  exact Finset.sum_congr rfl fun k _ => by rw [pay71_at, du_is h, pay12_at, h.w, pay14_at, ix_is h, h.x]

end

end Cert.Kernel5Ideal.Hand

end
-- ==== Proof.InbBlocks.lean ====
module

public import proofs.«01_k».proof.Proof.InbOps
public import Idealize.ShloMosaic.Lib.IdealHost

@[expose] public section

set_option maxRecDepth 16384

noncomputable section

/-! What the layer's backward input call is given, and the blocks that its grid points read. -/

namespace Cert.Kernel5Ideal.Hand

open Cert.Kernel5Ideal Cert.Kernel5Ideal.Gen Cert.In Cert.Inb
open Idealize.ShloMosaic Idealize.ShloMosaic.TcCoe Idealize.SL.Sem

/-! ### The host code that prepares the call. -/

/-- The projection's columns as rows, -/
def cols (w : FVec Ideal S1024x2592 .f32) : FVec Ideal S2592x1024 .bf16 :=
  truncf .bf16 (transpose S2592x1024 [1, 0] w transposes_S1024x2592_S2592x1024_1_0) bitsLt_bf16_f32
/-- with rows of zeros around the shared key's, -/
def joined (v : FVec Ideal S2592x1024 .bf16) : FVec Ideal S2688x1024 .bf16 :=
  concatenate S2688x1024 0 [⟨S512x1024, (extractStridedSlice S512x1024 ![0, 0] v slices_S2592x1024_S512x1024_0_0 : FVec Ideal S512x1024 .bf16)⟩,
    ⟨S64x1024, (broadcastInDim S64x1024 ![] bcast_S_S64x1024 (constant S_ .bf16 0x0000#16) : FVec Ideal S64x1024 .bf16)⟩,
    ⟨S32x1024, (extractStridedSlice S32x1024 ![512, 0] v slices_S2592x1024_S32x1024_512_0 : FVec Ideal S32x1024 .bf16)⟩,
    ⟨S32x1024, (broadcastInDim S32x1024 ![] bcast_S_S32x1024 (constant S_ .bf16 0x0000#16) : FVec Ideal S32x1024 .bf16)⟩,
    ⟨S2048x1024, (extractStridedSlice S2048x1024 ![544, 0] v slices_S2592x1024_S2048x1024_544_0 : FVec Ideal S2048x1024 .bf16)⟩]
    concatenates_S512x1024_S64x1024_S32x1024_S32x1024_S2048x1024_S2688x1024_d0
/-- the queries' weight padded to 128 lanes, -/
def padQ (w : FVec Ideal S384x8x96 .f32) : FVec Ideal S384x1024 .bf16 :=
  shapeCast S384x1024 (pad S384x8x128 ![0, 0, 0] ![0, 0, 32] ![0, 0, 0] (truncf .bf16 w bitsLt_bf16_f32 : FVec Ideal S384x8x96 .bf16) (sitofp .bf16 (constantI S_ 32 0#32))
    pads_S384x8x96_S384x8x128_000_000_0320 h_S_ : FVec Ideal S384x8x128 .bf16) shapeCasts_S384x8x128_S384x1024
/-- the keys' part of the other weight too, -/
def padK (w : FVec Ideal S128x8x128 .f32) : FVec Ideal S128x1024 .bf16 :=
  shapeCast S128x1024 (pad S128x8x128 ![0, 0, 0] ![0, 0, 64] ![0, 0, 0] (extractStridedSlice S128x8x64 ![0, 0, 0] (truncf .bf16 w bitsLt_bf16_f32 : FVec Ideal S128x8x128 .bf16) slices_S128x8x128_S128x8x64_0_0_0 : FVec Ideal S128x8x64 .bf16)
    (sitofp .bf16 (constantI S_ 32 0#32)) pads_S128x8x64_S128x8x128_000_000_0640 h_S_ : FVec Ideal S128x8x128 .bf16) shapeCasts_S128x8x128_S128x1024
/-- and the values'. -/
def valV (w : FVec Ideal S128x8x128 .f32) : FVec Ideal S128x512 .bf16 :=
  shapeCast S128x512 (extractStridedSlice S128x8x64 ![0, 0, 64] (truncf .bf16 w bitsLt_bf16_f32 : FVec Ideal S128x8x128 .bf16) slices_S128x8x128_S128x8x64_0_0_64 : FVec Ideal S128x8x64 .bf16)
    shapeCasts_S128x8x64_S128x512
/-- A number for every frequency, -/
def each (b : BitVec 32) : FVec Ideal S16 .f32 := broadcastInDim S16 ![] bcast_S_S16 (constant S_ .f32 b)
/-- the frequencies, -/
def freq : FVec Ideal S16 .f32 :=
  Host.divf (each 0x3F800000#32) (Host.powf (each 0x461C4000#32) (Host.divf (addf (each 0x00000000#32) (mulf (each 0x40000000#32) (sitofp .f32 (iotaInDim S16 32 0)))) (each 0x42000000#32)))
/-- The scales as rows. -/
def row1024 (w : FVec Ideal S1024 .f32) : FVec Ideal S1x1024 .f32 := shapeCast S1x1024 w shapeCasts_S1024_S1x1024
def row384 (w : FVec Ideal S384 .f32) : FVec Ideal S1x384 .f32 := shapeCast S1x384 w shapeCasts_S384_S1x384
def row128 (w : FVec Ideal S128 .f32) : FVec Ideal S1x128 .f32 := shapeCast S1x128 w shapeCasts_S128_S1x128

/-- A constant for every token. -/
def every (b : BitVec 32) : FVec Ideal S4096x1 .f32 := broadcastInDim S4096x1 ![] bcast_S_S4096x1 (constant S_ .f32 b)
/-- A sum for every token as a column, -/
def asCol (x : FVec Ideal S4096 .f32) : FVec Ideal S4096x1 .f32 := broadcastInDim S4096x1 ![0] bcast_S4096_S4096x1_0 x
/-- one over the root of its mean. -/
def root (b : BitVec 32) (x : FVec Ideal S4096 .f32) : FVec Ideal S4096x1 .f32 := Host.rsqrt (addf (Host.divf (asCol x) (every b)) (every 0x358637BD#32))
/-- The normed tokens, -/
def normX (y : FVec Ideal S4096x1024 .f32) (w : FVec Ideal S1024 .f32) : FVec Ideal S4096x1024 .f32 :=
  mulf (mulf y (broadcastInDim S4096x1024 ![0, 1] bcast_S4096x1_S4096x1024_0_1
    (root 0x44800000#32 (Host.reduceAdd (mulf y y) (constant S_ .f32 0x00000000#32) reducesTo_S4096x1024_S4096_d1 h_S_))))
    (broadcastInDim S4096x1024 ![0, 1] bcast_S1x1024_S4096x1024_0_1 (broadcastInDim S1x1024 ![1] bcast_S1024_S1x1024_1 w))
/-- The projection, -/
def proj (u : FVec Ideal S4096x1024 .f32) (w : FVec Ideal S1024x2592 .f32) : FVec Ideal S4096x2592 .f32 :=
  Host.dotGeneral dot_S4096x1024_S1024x2592_S4096x2592_1_0_0_1_n_n none u w
/-- its parts. -/
def partQ (v : FVec Ideal S4096x2592 .f32) : FVec Ideal S4096x384 .f32 := extractStridedSlice S4096x384 ![0, 0] v slices_S4096x2592_S4096x384_0_0
def partK (v : FVec Ideal S4096x2592 .f32) : FVec Ideal S4096x128 .f32 := extractStridedSlice S4096x128 ![0, 384] v slices_S4096x2592_S4096x128_0_384
/-- Sixteen numbers by lanes. -/
def lanes (b : BitVec 32) (v : FVec Ideal S4096x16 .f32) : FVec Ideal S4096x128 .f32 :=
  concatenate S4096x128 1 [⟨S4096x64, (broadcastInDim S4096x64 ![] bcast_S_S4096x64 (constant S_ .f32 b) : FVec Ideal S4096x64 .f32)⟩, ⟨S4096x16, v⟩, ⟨S4096x16, v⟩,
    ⟨S4096x32, (broadcastInDim S4096x32 ![] bcast_S_S4096x32 (constant S_ .f32 b) : FVec Ideal S4096x32 .f32)⟩] concatenates_S4096x64_S4096x16_S4096x16_S4096x32_S4096x128_d1
/-- the angles. -/
def angle (p : IVec S4096 32) : FVec Ideal S4096x16 .f32 :=
  mulf (broadcastInDim S4096x16 ![0, 1] bcast_S4096x1_S4096x16_0_1 (asCol (sitofp .f32 p)))
    (broadcastInDim S4096x16 ![0, 1] bcast_S1x16_S4096x16_0_1 (broadcastInDim S1x16 ![1] bcast_S16_S1x16_1 freq))
/-- Heads of 96 lanes padded to 128 as rows, -/
def padHeads (v : FVec Ideal S4096x8x96 .f32) : FVec Ideal S4096x1024 .f32 :=
  shapeCast S4096x1024 (pad S4096x8x128 ![0, 0, 0] ![0, 0, 32] ![0, 0, 0] v (sitofp .f32 (constantI S_ 32 0#32)) pads_S4096x8x96_S4096x8x128_000_000_0320 h_S_ : FVec Ideal S4096x8x128 .f32)
    shapeCasts_S4096x8x128_S4096x1024
/-- these as columns, -/
def flipHeads (v : FVec Ideal S4096x1024 .f32) : FVec Ideal S1024x4096 .f32 := transpose S1024x4096 [1, 0] v transposes_S4096x1024_S1024x4096_1_0
/-- the values' heads as rows, -/
def flatVals (v : FVec Ideal S4096x8x64 .f32) : FVec Ideal S4096x512 .f32 := shapeCast S4096x512 v shapeCasts_S4096x8x64_S4096x512
/-- and the quarters of the recurrence's part. -/
def quarter0 (v : FVec Ideal S4096x2048 .f32) : FVec Ideal S4096x512 .f32 := extractStridedSlice S4096x512 ![0, 0] v slices_S4096x2048_S4096x512_0_0
def quarter1 (v : FVec Ideal S4096x2048 .f32) : FVec Ideal S4096x512 .f32 := extractStridedSlice S4096x512 ![0, 512] v slices_S4096x2048_S4096x512_0_512
def quarter2 (v : FVec Ideal S4096x2048 .f32) : FVec Ideal S4096x512 .f32 := extractStridedSlice S4096x512 ![0, 1024] v slices_S4096x2048_S4096x512_0_1024
def quarter3 (v : FVec Ideal S4096x2048 .f32) : FVec Ideal S4096x512 .f32 := extractStridedSlice S4096x512 ![0, 1536] v slices_S4096x2048_S4096x512_0_1536

theorem cols_at (w : FVec Ideal S1024x2592 .f32) (j : Fin 2592) (d : Fin 1024) : cols w (ix2 j d) = w (ix2 d j) := by
  pointwise [cols]
theorem zero_int (φ : FTy) : (FloatOps.sitofp (F := Ideal) φ (0#32) : EReal) = 0 := by simp [FloatOps.sitofp]
theorem joined_at (v : FVec Ideal S2592x1024 .bf16) (j : Fin 2688) (d : Fin 1024) : joined v (ix2 j d)
    = if h : j.val < 512 then (v (ix2 ⟨j.val, by omega⟩ d) : EReal) else if j.val < 576 then 0 else if h : j.val < 608 then v (ix2 ⟨j.val - 64, by omega⟩ d)
      else if h : j.val < 640 then 0 else v (ix2 ⟨j.val - 96, by omega⟩ d) := by
  pointwise [joined]
  by_cases h1 : j.val < 512
  · rw [dif_pos h1, dif_pos h1]
  · rw [dif_neg h1, dif_neg h1]
    by_cases h2 : j.val < 576
    · rw [dif_pos (by omega), if_pos h2]
    · rw [dif_neg (by omega), if_neg h2]
      by_cases h3 : j.val < 608
      · rw [dif_pos (by omega), dif_pos h3]
        exact congrArg (fun a => (v (ix2 a d) : EReal)) (Fin.ext (by dsimp only; omega))
      · rw [dif_neg (by omega), dif_neg h3]
        by_cases h4 : j.val < 640
        · rw [dif_pos (by omega), dif_pos h4]
        · rw [dif_neg (by omega), dif_neg h4]
          exact congrArg (fun a => (v (ix2 a d) : EReal)) (Fin.ext (by dsimp only; omega))
theorem padQ_at (w : FVec Ideal S384x8x96 .f32) (d : Fin 384) (h : Fin 8) (l : Fin 128) :
    padQ w (ix2 d (hl h l)) = if e : l.val < 96 then (w (ix3 d h ⟨l.val, e⟩) : EReal) else 0 := by
  pointwise! [padQ, hl]
  rw [zero_int]
theorem padK_at (w : FVec Ideal S128x8x128 .f32) (d : Fin 128) (h : Fin 8) (l : Fin 128) :
    padK w (ix2 d (hl h l)) = if l.val < 64 then (w (ix3 d h l) : EReal) else 0 := by
  pointwise! [padK, hl]
  rw [zero_int]
  by_cases e : l.val < 64
  · rw [dif_pos e, if_pos e]
  · rw [dif_neg e, if_neg e]
theorem valV_at (w : FVec Ideal S128x8x128 .f32) (d : Fin 128) (h : Fin 8) (l : Fin 64) : valV w (ix2 d (hv h l)) = w (ix3 d h ⟨64 + l.val, by omega⟩) := by
  pointwise! [valV, hv]
theorem row1024_at (w : FVec Ideal S1024 .f32) (d : Fin 1024) : row1024 w (ix2 0 d) = w (ix1 d) := by
  pointwise [row1024]
theorem row384_at (w : FVec Ideal S384 .f32) (d : Fin 384) : row384 w (ix2 0 d) = w (ix1 d) := by
  pointwise [row384]
theorem row128_at (w : FVec Ideal S128 .f32) (d : Fin 128) : row128 w (ix2 0 d) = w (ix1 d) := by
  pointwise [row128]
theorem normX_at (y : FVec Ideal S4096x1024 .f32) (w : FVec Ideal S1024 .f32) (s : Fin 4096) (d : Fin 1024) :
    normX y w (ix2 s d) = (y (ix2 s d) : EReal) * irms 0x44800000#32 (fun d => (y (ix2 s d) : EReal)) * w (ix1 d) := by
  unfold irms
  pointwise [normX, root, asCol, every]
theorem proj_at (u : FVec Ideal S4096x1024 .f32) (w : FVec Ideal S1024x2592 .f32) (s : Fin 4096) (j : Fin 2592) :
    proj u w (ix2 s j) = ∑ d, (u (ix2 s d) : EReal) * w (ix2 d j) := by
  pointwise [proj]
theorem partQ_at (v : FVec Ideal S4096x2592 .f32) (s : Fin 4096) (d : Fin 384) : partQ v (ix2 s d) = v (ix2 s ⟨d.val, by omega⟩) := by
  pointwise [partQ]
theorem partK_at (v : FVec Ideal S4096x2592 .f32) (s : Fin 4096) (d : Fin 128) : partK v (ix2 s d) = v (ix2 s ⟨384 + d.val, by omega⟩) := by
  pointwise [partK]
theorem angle_at (p : IVec S4096 32) (s : Fin 4096) (i : Fin 16) : angle p (ix2 s i) = (FloatOps.sitofp (F := Ideal) .f32 (p (ix1 s)) : EReal) * freq (ix1 i) := by
  pointwise [angle, asCol]
theorem lanes_at (b : BitVec 32) (v : FVec Ideal S4096x16 .f32) (s : Fin 4096) (l : Fin 128) : lanes b v (ix2 s l) = spread (Ideal.ofBits .f32 b) (fun i => (v (ix2 s i) : EReal)) l := by
  unfold spread
  pointwise [lanes]
  by_cases h1 : l.val < 64
  · rw [dif_pos h1, if_pos h1]
  · rw [dif_neg h1, if_neg h1]
    by_cases h2 : l.val < 80
    · rw [dif_pos (by omega), dif_pos h2]
    · rw [dif_neg (by omega), dif_neg h2]
      by_cases h3 : l.val < 96
      · rw [dif_pos (by omega), dif_pos h3]
        exact congrArg (fun a => (v (ix2 s a) : EReal)) (Fin.ext (by dsimp only; omega))
      · rw [dif_neg (by omega), dif_neg h3]

theorem padHeads_at (v : FVec Ideal S4096x8x96 .f32) (s : Fin 4096) (h : Fin 8) (l : Fin 128) :
    padHeads v (ix2 s (hl h l)) = wide (fun l => (v (ix3 s h l) : EReal)) l := by
  unfold wide
  pointwise! [padHeads, hl]
  rw [zero_int]
theorem flipHeads_at (v : FVec Ideal S4096x1024 .f32) (s : Fin 4096) (j : Fin 1024) : flipHeads v (ix2 j s) = v (ix2 s j) := by
  pointwise [flipHeads]
theorem flatVals_at (v : FVec Ideal S4096x8x64 .f32) (s : Fin 4096) (h : Fin 8) (l : Fin 64) : flatVals v (ix2 s (hv h l)) = v (ix3 s h l) := by
  pointwise! [flatVals, hv]
theorem quarter0_at (v : FVec Ideal S4096x2048 .f32) (s : Fin 4096) (j : Fin 512) : quarter0 v (ix2 s j) = v (ix2 s ⟨j.val, by omega⟩) := by
  pointwise [quarter0]
theorem quarter1_at (v : FVec Ideal S4096x2048 .f32) (s : Fin 4096) (j : Fin 512) : quarter1 v (ix2 s j) = v (ix2 s ⟨512 + j.val, by omega⟩) := by
  pointwise [quarter1]
theorem quarter2_at (v : FVec Ideal S4096x2048 .f32) (s : Fin 4096) (j : Fin 512) : quarter2 v (ix2 s j) = v (ix2 s ⟨1024 + j.val, by omega⟩) := by
  pointwise [quarter2]
theorem quarter3_at (v : FVec Ideal S4096x2048 .f32) (s : Fin 4096) (j : Fin 512) : quarter3 v (ix2 s j) = v (ix2 s ⟨1536 + j.val, by omega⟩) := by
  pointwise [quarter3]

/-- A layer's arrays and the gradients of its results. -/
def netOf (x : FVec Ideal S4096x1024 .f32) (p : IVec S4096 32) (dh : FVec Ideal S4096x1024 .f32) (dq dk : FVec Ideal S4096x8x96 .f32) (dv : FVec Ideal S4096x8x64 .f32)
    (dr : FVec Ideal S4096x2048 .f32) (w : FVec Ideal S1024 .f32) (wi : FVec Ideal S1024x2592 .f32) (wqn : FVec Ideal S384 .f32)
    (wq : FVec Ideal S384x8x96 .f32) (wkn : FVec Ideal S128 .f32) (wkv : FVec Ideal S128x8x128 .f32) : Inb.Net where
  x s d := x (ix2 s d)
  p s := FloatOps.sitofp (F := Ideal) .f32 (p (ix1 s))
  w d := w (ix1 d)
  wi d j := wi (ix2 d j)
  wqn d := wqn (ix1 d)
  wq d h l := wq (ix3 d h l)
  wkn d := wkn (ix1 d)
  wkv d h l := wkv (ix3 d h l)
  iv i := freq (ix1 i)
  dh s d := dh (ix2 s d)
  dq s h l := dq (ix3 s h l)
  dk s h l := dk (ix3 s h l)
  dv s h l := dv (ix3 s h l)
  dr s j := dr (ix2 s j)

variable (m : (ℓ : Loc nD τ sig) → Buf (Elt Ideal) ℓ) (c : Dev nD)

/-- The program's arguments. -/
abbrev aX : FVec Ideal S4096x1024 .f32 := m ((c.tc : Thread nD τ).loc main_arg0)
abbrev aP : IVec S4096 32 := m ((c.tc : Thread nD τ).loc main_arg1)
abbrev aDh : FVec Ideal S4096x1024 .f32 := m ((c.tc : Thread nD τ).loc main_arg2)
abbrev aDq : FVec Ideal S4096x8x96 .f32 := m ((c.tc : Thread nD τ).loc main_arg3)
abbrev aDk : FVec Ideal S4096x8x96 .f32 := m ((c.tc : Thread nD τ).loc main_arg4)
abbrev aDv : FVec Ideal S4096x8x64 .f32 := m ((c.tc : Thread nD τ).loc main_arg5)
abbrev aDr : FVec Ideal S4096x2048 .f32 := m ((c.tc : Thread nD τ).loc main_arg6)
abbrev aW : FVec Ideal S1024 .f32 := m ((c.tc : Thread nD τ).loc main_arg7)
abbrev aI : FVec Ideal S1024x2592 .f32 := m ((c.tc : Thread nD τ).loc main_arg8)
abbrev aQn : FVec Ideal S384 .f32 := m ((c.tc : Thread nD τ).loc main_arg9)
abbrev aQ : FVec Ideal S384x8x96 .f32 := m ((c.tc : Thread nD τ).loc main_arg10)
abbrev aKn : FVec Ideal S128 .f32 := m ((c.tc : Thread nD τ).loc main_arg11)
abbrev aKv : FVec Ideal S128x8x128 .f32 := m ((c.tc : Thread nD τ).loc main_arg12)
/-- Their layer. -/
abbrev net : Inb.Net := netOf (aX m c) (aP m c) (aDh m c) (aDq m c) (aDk m c) (aDv m c) (aDr m c) (aW m c) (aI m c) (aQn m c) (aQ m c) (aKn m c) (aKv m c)

/-- The saved projection. -/
abbrev lat : FVec Ideal S4096x2592 .f32 := proj (normX (aX m c) (aW m c)) (aI m c)

/-- The call's operands are these. -/
theorem V60 : V m c main_v60 = partQ (lat m c) := by entry_read; rfl
theorem V61 : V m c main_v61 = partK (lat m c) := by entry_read; rfl
theorem V64 : V m c main_v64 = flipHeads (padHeads (aDq m c)) := by entry_read; rfl
theorem V66 : V m c main_v66 = padHeads (aDk m c) := by entry_read; rfl
theorem V67 : V m c main_v67 = flatVals (aDv m c) := by entry_read; rfl
theorem V56 : V m c main_v56 = quarter0 (aDr m c) := by entry_read; rfl
theorem V57 : V m c main_v57 = quarter1 (aDr m c) := by entry_read; rfl
theorem V58 : V m c main_v58 = quarter2 (aDr m c) := by entry_read; rfl
theorem V59 : V m c main_v59 = quarter3 (aDr m c) := by entry_read; rfl
theorem V53 : V m c main_v53 = lanes 0x3F800000#32 (Host.cos (angle (aP m c))) := by entry_read; rfl
theorem V55 : V m c main_v55 = lanes 0x00000000#32 (Host.sin (angle (aP m c))) := by entry_read; rfl
theorem V68 : V m c main_v68 = row1024 (aW m c) := by entry_read; rfl
theorem V9 : V m c main_v9 = joined (cols (aI m c)) := by entry_read; rfl
theorem V69 : V m c main_v69 = row384 (aQn m c) := by entry_read; rfl
theorem V11 : V m c main_v11 = padQ (aQ m c) := by entry_read; rfl
theorem V70 : V m c main_v70 = row128 (aKn m c) := by entry_read; rfl
theorem V14 : V m c main_v14 = padK (aKv m c) := by entry_read; rfl
theorem V16 : V m c main_v16 = valV (aKv m c) := by entry_read; rfl

theorem lat_is (s : Fin 4096) (j : Fin 2592) : lat m c (ix2 s j) = (net m c).xp s j :=
  (proj_at _ _ s j).trans (Finset.sum_congr rfl fun d _ => by rw [normX_at]; rfl)

/-- The windows' index maps. -/
theorem idx : ∀ t : Fin cfg0.N, win0_0.index t = ![t.val, 0] ∧ win0_1.index t = ![t.val, 0] ∧ win0_2.index t = ![t.val, 0] ∧ win0_3.index t = ![t.val, 0] ∧ win0_4.index t = ![0, t.val]
    ∧ win0_5.index t = ![t.val, 0] ∧ win0_6.index t = ![t.val, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![0, 0] ∧ win0_14.index t = ![0, 0]
    ∧ win0_15.index t = ![0, 0] ∧ win0_16.index t = ![0, 0] ∧ win0_17.index t = ![0, 0] ∧ win0_18.index t = ![0, 0] ∧ win0_19.index t = ![0, 0]
    ∧ win0_20.index t = ![t.val, 0] :=
  (by decide +kernel : ∀ t : Fin grid0.N, _)

variable (t : Fin cfg0.N)

theorem lt16 : t.val < 16 := lt_of_lt_of_eq t.isLt (show cfg0.N = 16 from N_0)

/-- A grid point's block of tokens. -/
def bAt : Fin 16 := ⟨t.val, lt16 t⟩

theorem rd0 (r : Fin 256) (d : Fin 1024) (s : Fin 4096) (hs : s.val = 256 * t.val + r.val) : iblk m c 0 t (ix2 r d) = V m c main_arg0 (ix2 s d) := by
  blk_ext [iblk, idx t]
theorem rd1 (r : Fin 256) (d : Fin 1024) (s : Fin 4096) (hs : s.val = 256 * t.val + r.val) : iblk m c 1 t (ix2 r d) = V m c main_arg2 (ix2 s d) := by
  blk_ext [iblk, idx t]
theorem rd2 (r : Fin 256) (d : Fin 384) (s : Fin 4096) (hs : s.val = 256 * t.val + r.val) : iblk m c 2 t (ix2 r d) = V m c main_v60 (ix2 s d) := by
  blk_ext [iblk, idx t]
theorem rd3 (r : Fin 256) (d : Fin 128) (s : Fin 4096) (hs : s.val = 256 * t.val + r.val) : iblk m c 3 t (ix2 r d) = V m c main_v61 (ix2 s d) := by
  blk_ext [iblk, idx t]
theorem rd4 (r : Fin 256) (d : Fin 1024) (s : Fin 4096) (hs : s.val = 256 * t.val + r.val) : iblk m c 4 t (ix2 d r) = V m c main_v64 (ix2 d s) := by
  blk_ext [iblk, idx t]
theorem rd5 (r : Fin 256) (d : Fin 1024) (s : Fin 4096) (hs : s.val = 256 * t.val + r.val) : iblk m c 5 t (ix2 r d) = V m c main_v66 (ix2 s d) := by
  blk_ext [iblk, idx t]
theorem rd6 (r : Fin 256) (d : Fin 512) (s : Fin 4096) (hs : s.val = 256 * t.val + r.val) : iblk m c 6 t (ix2 r d) = V m c main_v67 (ix2 s d) := by
  blk_ext [iblk, idx t]
theorem rd7 (r : Fin 256) (d : Fin 512) (s : Fin 4096) (hs : s.val = 256 * t.val + r.val) : iblk m c 7 t (ix2 r d) = V m c main_v56 (ix2 s d) := by
  blk_ext [iblk, idx t]
theorem rd8 (r : Fin 256) (d : Fin 512) (s : Fin 4096) (hs : s.val = 256 * t.val + r.val) : iblk m c 8 t (ix2 r d) = V m c main_v57 (ix2 s d) := by
  blk_ext [iblk, idx t]
theorem rd9 (r : Fin 256) (d : Fin 512) (s : Fin 4096) (hs : s.val = 256 * t.val + r.val) : iblk m c 9 t (ix2 r d) = V m c main_v58 (ix2 s d) := by
  blk_ext [iblk, idx t]
theorem rd10 (r : Fin 256) (d : Fin 512) (s : Fin 4096) (hs : s.val = 256 * t.val + r.val) : iblk m c 10 t (ix2 r d) = V m c main_v59 (ix2 s d) := by
  blk_ext [iblk, idx t]
theorem rd11 (r : Fin 256) (d : Fin 128) (s : Fin 4096) (hs : s.val = 256 * t.val + r.val) : iblk m c 11 t (ix2 r d) = V m c main_v53 (ix2 s d) := by
  blk_ext [iblk, idx t]
theorem rd12 (r : Fin 256) (d : Fin 128) (s : Fin 4096) (hs : s.val = 256 * t.val + r.val) : iblk m c 12 t (ix2 r d) = V m c main_v55 (ix2 s d) := by
  blk_ext [iblk, idx t]
theorem rd13 (d : Fin 1024) : iblk m c 13 t (ix2 0 d) = V m c main_v68 (ix2 0 d) := by
  blk_ext [iblk, idx t]
theorem rd14 (j : Fin 2688) (d : Fin 1024) : iblk m c 14 t (ix2 j d) = V m c main_v9 (ix2 j d) := by
  blk_ext [iblk, idx t]
theorem rd15 (d : Fin 384) : iblk m c 15 t (ix2 0 d) = V m c main_v69 (ix2 0 d) := by
  blk_ext [iblk, idx t]
theorem rd16 (j : Fin 384) (d : Fin 1024) : iblk m c 16 t (ix2 j d) = V m c main_v11 (ix2 j d) := by
  blk_ext [iblk, idx t]
theorem rd17 (d : Fin 128) : iblk m c 17 t (ix2 0 d) = V m c main_v70 (ix2 0 d) := by
  blk_ext [iblk, idx t]
theorem rd18 (j : Fin 128) (d : Fin 1024) : iblk m c 18 t (ix2 j d) = V m c main_v14 (ix2 j d) := by
  blk_ext [iblk, idx t]
theorem rd19 (j : Fin 128) (d : Fin 512) : iblk m c 19 t (ix2 j d) = V m c main_v16 (ix2 j d) := by
  blk_ext [iblk, idx t]

/-- The blocks that a grid point reads are the layer's. -/
theorem pt_is : PtIs (net m c) (bAt t) (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t) (iblk m c 16 t) (iblk m c 17 t)
    (iblk m c 18 t) (iblk m c 19 t) where
  x r d := by rw [rd0 m c t r d (Head.tk (bAt t) r) rfl, V_main_arg0]; rfl
  dh r d := by rw [rd1 m c t r d (Head.tk (bAt t) r) rfl, V_main_arg2]; rfl
  cq r d := by rw [rd2 m c t r d (Head.tk (bAt t) r) rfl, V60, partQ_at, lat_is]; rfl
  ckv r d := by rw [rd3 m c t r d (Head.tk (bAt t) r) rfl, V61, partK_at, lat_is]; rfl
  dq r h l := by rw [rd4 m c t r _ (Head.tk (bAt t) r) rfl, V64, flipHeads_at, padHeads_at]; rfl
  dk r h l := by rw [rd5 m c t r _ (Head.tk (bAt t) r) rfl, V66, padHeads_at]; rfl
  dv r h l := by rw [rd6 m c t r _ (Head.tk (bAt t) r) rfl, V67, flatVals_at]; rfl
  r0 r j := by rw [rd7 m c t r j (Head.tk (bAt t) r) rfl, V56, quarter0_at]; rfl
  r1 r j := by rw [rd8 m c t r j (Head.tk (bAt t) r) rfl, V57, quarter1_at]; rfl
  r2 r j := by rw [rd9 m c t r j (Head.tk (bAt t) r) rfl, V58, quarter2_at]; rfl
  r3 r j := by rw [rd10 m c t r j (Head.tk (bAt t) r) rfl, V59, quarter3_at]; rfl
  c r l := by
    rw [rd11 m c t r l (Head.tk (bAt t) r) rfl, V53, lanes_at, Ideal.ofBits_one_f32]
    exact congrArg (fun f => spread 1 f l) (funext fun i => congrArg Ideal.cos (angle_at _ _ i))
  s r l := by
    rw [rd12 m c t r l (Head.tk (bAt t) r) rfl, V55, lanes_at, Ideal.ofBits_zero_f32]
    exact congrArg (fun f => spread 0 f l) (funext fun i => congrArg Ideal.sin (angle_at _ _ i))
  w d := by rw [rd13 m c t d, V68, row1024_at]; rfl
  wi j d := by
    rw [rd14 m c t j d, V9, joined_at]
    unfold In.Net.win
    split_ifs <;> first | rfl | exact cols_at _ _ _
  wqn d := by rw [rd15 m c t d, V69, row384_at]; rfl
  wq d h l := by rw [rd16 m c t d _, V11, padQ_at]; rfl
  wkn d := by rw [rd17 m c t d, V70, row128_at]; rfl
  wk d h l := by rw [rd18 m c t d _, V14, padK_at]; rfl
  wv d h l := by rw [rd19 m c t d _, V16, valV_at]; rfl

end Cert.Kernel5Ideal.Hand

end
-- ==== Proof.InbRef.lean ====
module

public import proofs.«01_k».proof.Proof.InbModel
public import proofs.«01_k».proof.Proof.Gen.Reference5Ideal.Run
public import Idealize.ShloMosaic.Lib.Pointwise
public import Idealize.ShloMosaic.Lib.IdealHost

@[expose] public section

set_option maxRecDepth 16384

noncomputable section

/-! The result of the reference of the layer's backward input call, read at an index. -/

namespace Cert.InbRef

open Cert.Reference5Ideal Cert.Reference5Ideal.Gen Cert.In Cert.Inb
open Idealize.ShloMosaic Idealize.SL.Sem

/-- A constant for every token. -/
def every (b : BitVec 32) : FVec Ideal S4096x1 .f32 := broadcastInDim S4096x1 ![] bcast_S_S4096x1 (constant S_ .f32 b)
/-- A sum for every token as a column. -/
def asCol (x : FVec Ideal S4096 .f32) : FVec Ideal S4096x1 .f32 := broadcastInDim S4096x1 ![0] bcast_S4096_S4096x1_0 x

/-! ### Rows of 1024 lanes. -/

/-- A token's lanes' sum, -/
def lanes1024 (x : FVec Ideal S4096x1024 .f32) : FVec Ideal S4096 .f32 := Host.reduceAdd x (constant S_ .f32 0x00000000#32) reducesTo_S4096x1024_S4096_d1 h_S_
/-- a column for every lane, -/
def across1024 (x : FVec Ideal S4096x1 .f32) : FVec Ideal S4096x1024 .f32 := broadcastInDim S4096x1024 ![0, 1] bcast_S4096x1_S4096x1024_0_1 x
/-- a scale for every token, -/
def scale1024 (w : FVec Ideal S1024 .f32) : FVec Ideal S4096x1024 .f32 :=
  broadcastInDim S4096x1024 ![0, 1] bcast_S1x1024_S4096x1024_0_1 (broadcastInDim S1x1024 ![1] bcast_S1024_S1x1024_1 w)
/-- the mean square and the epsilon, -/
def ms1024 (y : FVec Ideal S4096x1024 .f32) : FVec Ideal S4096x1 .f32 := addf (Host.divf (asCol (lanes1024 (mulf y y))) (every 0x44800000#32)) (every 0x358637BD#32)
/-- its root's inverse, -/
def rs1024 (y : FVec Ideal S4096x1024 .f32) : FVec Ideal S4096x1 .f32 := Host.rsqrt (ms1024 y)
/-- a coefficient of the gradient. -/
def coef1024 (y a : FVec Ideal S4096x1024 .f32) : FVec Ideal S4096x1024 .f32 :=
  broadcastInDim S4096x1024 ![0] bcast_S4096_S4096x1024_0 (Host.reduceAdd (Host.divf (mulf (shapeCast S4096x1 (lanes1024 (mulf y a)) shapeCasts_S4096_S4096x1)
    (mulf (every 0xBF000000#32) (Host.divf (rs1024 y) (ms1024 y)))) (every 0x44800000#32)) (constant S_ .f32 0x00000000#32) reducesTo_S4096x1_S4096_d1 h_S_)

theorem lanes1024_at (x : FVec Ideal S4096x1024 .f32) (s : Fin 4096) : lanes1024 x (ix1 s) = ∑ d, (x (ix2 s d) : EReal) := by
  pointwise [lanes1024]
theorem across1024_at (x : FVec Ideal S4096x1 .f32) (s : Fin 4096) (d : Fin 1024) : across1024 x (ix2 s d) = x (ix2 s 0) := by
  pointwise [across1024]
theorem scale1024_at (w : FVec Ideal S1024 .f32) (s : Fin 4096) (d : Fin 1024) : scale1024 w (ix2 s d) = w (ix1 d) := by
  pointwise [scale1024]
theorem ms1024_at (y : FVec Ideal S4096x1024 .f32) (s : Fin 4096) : ms1024 y (ix2 s 0) = mean2 0x44800000#32 (fun d => (y (ix2 s d) : EReal)) := by
  unfold mean2
  pointwise [ms1024, asCol, every, lanes1024]
theorem rs1024_at (y : FVec Ideal S4096x1024 .f32) (s : Fin 4096) : rs1024 y (ix2 s 0) = irms 0x44800000#32 (fun d => (y (ix2 s d) : EReal)) := by
  rw [irms_eq, ← ms1024_at]; rfl
theorem coef1024_raw (y a : FVec Ideal S4096x1024 .f32) (s : Fin 4096) (d : Fin 1024) : coef1024 y a (ix2 s d)
    = Ideal.div ((lanes1024 (mulf y a) (ix1 s) : EReal) * (Ideal.ofBits .f32 0xBF000000#32 * Ideal.div (rs1024 y (ix2 s 0)) (ms1024 y (ix2 s 0)))) (Ideal.ofBits .f32 0x44800000#32) := by
  pointwise [coef1024, every]
  exact Fin.sum_univ_one _
theorem coef1024_at (y a : FVec Ideal S4096x1024 .f32) (s : Fin 4096) (d : Fin 1024) : coef1024 y a (ix2 s d) = part 0x44800000#32 (fun k => (y (ix2 s k) : EReal)) (fun k => (a (ix2 s k) : EReal)) := by
  rw [coef1024_raw, lanes1024_at, rs1024_at, ms1024_at]; rfl

/-- The gradient of the rows from their normed rows' by the scale, added to another. -/
def grad1024 (h y a : FVec Ideal S4096x1024 .f32) : FVec Ideal S4096x1024 .f32 := addf (addf (addf h (mulf a (across1024 (rs1024 y)))) (mulf y (coef1024 y a))) (mulf (coef1024 y a) y)
theorem grad1024_at (h y a : FVec Ideal S4096x1024 .f32) (s : Fin 4096) (d : Fin 1024) :
    grad1024 h y a (ix2 s d) = (h (ix2 s d) : EReal) + back 0x44800000#32 (fun k => (y (ix2 s k) : EReal)) (fun k => (a (ix2 s k) : EReal)) d := by
  show ((h (ix2 s d) : EReal) + (a (ix2 s d) : EReal) * across1024 (rs1024 y) (ix2 s d) + (y (ix2 s d) : EReal) * coef1024 y a (ix2 s d)) + (coef1024 y a (ix2 s d) : EReal) * y (ix2 s d) = _
  rw [across1024_at, rs1024_at, coef1024_at, add_assoc, add_assoc, ← add_assoc (_ * _)]
  exact congrArg ((h (ix2 s d) : EReal) + ·) (back_eq (by norm_num) ofBits_1024 (fun k => (y (ix2 s k) : EReal)) (fun k => (a (ix2 s k) : EReal)) d)

/-! ### Rows of 384 lanes. -/

/-- A token's lanes' sum, -/
def lanes384 (x : FVec Ideal S4096x384 .f32) : FVec Ideal S4096 .f32 := Host.reduceAdd x (constant S_ .f32 0x00000000#32) reducesTo_S4096x384_S4096_d1 h_S_
/-- a column for every lane, -/
def across384 (x : FVec Ideal S4096x1 .f32) : FVec Ideal S4096x384 .f32 := broadcastInDim S4096x384 ![0, 1] bcast_S4096x1_S4096x384_0_1 x
/-- a scale for every token, -/
def scale384 (w : FVec Ideal S384 .f32) : FVec Ideal S4096x384 .f32 :=
  broadcastInDim S4096x384 ![0, 1] bcast_S1x384_S4096x384_0_1 (broadcastInDim S1x384 ![1] bcast_S384_S1x384_1 w)
/-- the mean square and the epsilon, -/
def ms384 (y : FVec Ideal S4096x384 .f32) : FVec Ideal S4096x1 .f32 := addf (Host.divf (asCol (lanes384 (mulf y y))) (every 0x43C00000#32)) (every 0x358637BD#32)
/-- its root's inverse, -/
def rs384 (y : FVec Ideal S4096x384 .f32) : FVec Ideal S4096x1 .f32 := Host.rsqrt (ms384 y)
/-- a coefficient of the gradient. -/
def coef384 (y a : FVec Ideal S4096x384 .f32) : FVec Ideal S4096x384 .f32 :=
  broadcastInDim S4096x384 ![0] bcast_S4096_S4096x384_0 (Host.reduceAdd (Host.divf (mulf (shapeCast S4096x1 (lanes384 (mulf y a)) shapeCasts_S4096_S4096x1)
    (mulf (every 0xBF000000#32) (Host.divf (rs384 y) (ms384 y)))) (every 0x43C00000#32)) (constant S_ .f32 0x00000000#32) reducesTo_S4096x1_S4096_d1 h_S_)

theorem lanes384_at (x : FVec Ideal S4096x384 .f32) (s : Fin 4096) : lanes384 x (ix1 s) = ∑ d, (x (ix2 s d) : EReal) := by
  pointwise [lanes384]
theorem across384_at (x : FVec Ideal S4096x1 .f32) (s : Fin 4096) (d : Fin 384) : across384 x (ix2 s d) = x (ix2 s 0) := by
  pointwise [across384]
theorem scale384_at (w : FVec Ideal S384 .f32) (s : Fin 4096) (d : Fin 384) : scale384 w (ix2 s d) = w (ix1 d) := by
  pointwise [scale384]
theorem ms384_at (y : FVec Ideal S4096x384 .f32) (s : Fin 4096) : ms384 y (ix2 s 0) = mean2 0x43C00000#32 (fun d => (y (ix2 s d) : EReal)) := by
  unfold mean2
  pointwise [ms384, asCol, every, lanes384]
theorem rs384_at (y : FVec Ideal S4096x384 .f32) (s : Fin 4096) : rs384 y (ix2 s 0) = irms 0x43C00000#32 (fun d => (y (ix2 s d) : EReal)) := by
  rw [irms_eq, ← ms384_at]; rfl
theorem coef384_raw (y a : FVec Ideal S4096x384 .f32) (s : Fin 4096) (d : Fin 384) : coef384 y a (ix2 s d)
    = Ideal.div ((lanes384 (mulf y a) (ix1 s) : EReal) * (Ideal.ofBits .f32 0xBF000000#32 * Ideal.div (rs384 y (ix2 s 0)) (ms384 y (ix2 s 0)))) (Ideal.ofBits .f32 0x43C00000#32) := by
  pointwise [coef384, every]
  exact Fin.sum_univ_one _
theorem coef384_at (y a : FVec Ideal S4096x384 .f32) (s : Fin 4096) (d : Fin 384) : coef384 y a (ix2 s d) = part 0x43C00000#32 (fun k => (y (ix2 s k) : EReal)) (fun k => (a (ix2 s k) : EReal)) := by
  rw [coef384_raw, lanes384_at, rs384_at, ms384_at]; rfl

/-- The gradient of the rows from their normed rows' by the scale. -/
def grad384 (y a : FVec Ideal S4096x384 .f32) : FVec Ideal S4096x384 .f32 := addf (addf (mulf a (across384 (rs384 y))) (mulf y (coef384 y a))) (mulf (coef384 y a) y)
theorem grad384_at (y a : FVec Ideal S4096x384 .f32) (s : Fin 4096) (d : Fin 384) :
    grad384 y a (ix2 s d) = back 0x43C00000#32 (fun k => (y (ix2 s k) : EReal)) (fun k => (a (ix2 s k) : EReal)) d := by
  show ((a (ix2 s d) : EReal) * across384 (rs384 y) (ix2 s d) + (y (ix2 s d) : EReal) * coef384 y a (ix2 s d)) + (coef384 y a (ix2 s d) : EReal) * y (ix2 s d) = _
  rw [across384_at, rs384_at, coef384_at]
  exact back_eq (by norm_num) ofBits_384 (fun k => (y (ix2 s k) : EReal)) (fun k => (a (ix2 s k) : EReal)) d

/-! ### Rows of 128 lanes. -/

/-- A token's lanes' sum, -/
def lanes128 (x : FVec Ideal S4096x128 .f32) : FVec Ideal S4096 .f32 := Host.reduceAdd x (constant S_ .f32 0x00000000#32) reducesTo_S4096x128_S4096_d1 h_S_
/-- a column for every lane, -/
def across128 (x : FVec Ideal S4096x1 .f32) : FVec Ideal S4096x128 .f32 := broadcastInDim S4096x128 ![0, 1] bcast_S4096x1_S4096x128_0_1 x
/-- a scale for every token, -/
def scale128 (w : FVec Ideal S128 .f32) : FVec Ideal S4096x128 .f32 :=
  broadcastInDim S4096x128 ![0, 1] bcast_S1x128_S4096x128_0_1 (broadcastInDim S1x128 ![1] bcast_S128_S1x128_1 w)
/-- the mean square and the epsilon, -/
def ms128 (y : FVec Ideal S4096x128 .f32) : FVec Ideal S4096x1 .f32 := addf (Host.divf (asCol (lanes128 (mulf y y))) (every 0x43000000#32)) (every 0x358637BD#32)
/-- its root's inverse, -/
def rs128 (y : FVec Ideal S4096x128 .f32) : FVec Ideal S4096x1 .f32 := Host.rsqrt (ms128 y)
/-- a coefficient of the gradient. -/
def coef128 (y a : FVec Ideal S4096x128 .f32) : FVec Ideal S4096x128 .f32 :=
  broadcastInDim S4096x128 ![0] bcast_S4096_S4096x128_0 (Host.reduceAdd (Host.divf (mulf (shapeCast S4096x1 (lanes128 (mulf y a)) shapeCasts_S4096_S4096x1)
    (mulf (every 0xBF000000#32) (Host.divf (rs128 y) (ms128 y)))) (every 0x43000000#32)) (constant S_ .f32 0x00000000#32) reducesTo_S4096x1_S4096_d1 h_S_)

theorem lanes128_at (x : FVec Ideal S4096x128 .f32) (s : Fin 4096) : lanes128 x (ix1 s) = ∑ d, (x (ix2 s d) : EReal) := by
  pointwise [lanes128]
theorem across128_at (x : FVec Ideal S4096x1 .f32) (s : Fin 4096) (d : Fin 128) : across128 x (ix2 s d) = x (ix2 s 0) := by
  pointwise [across128]
theorem scale128_at (w : FVec Ideal S128 .f32) (s : Fin 4096) (d : Fin 128) : scale128 w (ix2 s d) = w (ix1 d) := by
  pointwise [scale128]
theorem ms128_at (y : FVec Ideal S4096x128 .f32) (s : Fin 4096) : ms128 y (ix2 s 0) = mean2 0x43000000#32 (fun d => (y (ix2 s d) : EReal)) := by
  unfold mean2
  pointwise [ms128, asCol, every, lanes128]
theorem rs128_at (y : FVec Ideal S4096x128 .f32) (s : Fin 4096) : rs128 y (ix2 s 0) = irms 0x43000000#32 (fun d => (y (ix2 s d) : EReal)) := by
  rw [irms_eq, ← ms128_at]; rfl
theorem coef128_raw (y a : FVec Ideal S4096x128 .f32) (s : Fin 4096) (d : Fin 128) : coef128 y a (ix2 s d)
    = Ideal.div ((lanes128 (mulf y a) (ix1 s) : EReal) * (Ideal.ofBits .f32 0xBF000000#32 * Ideal.div (rs128 y (ix2 s 0)) (ms128 y (ix2 s 0)))) (Ideal.ofBits .f32 0x43000000#32) := by
  pointwise [coef128, every]
  exact Fin.sum_univ_one _
theorem coef128_at (y a : FVec Ideal S4096x128 .f32) (s : Fin 4096) (d : Fin 128) : coef128 y a (ix2 s d) = part 0x43000000#32 (fun k => (y (ix2 s k) : EReal)) (fun k => (a (ix2 s k) : EReal)) := by
  rw [coef128_raw, lanes128_at, rs128_at, ms128_at]; rfl

/-- The gradient of the rows from their normed rows' by the scale. -/
def grad128 (y a : FVec Ideal S4096x128 .f32) : FVec Ideal S4096x128 .f32 := addf (addf (mulf a (across128 (rs128 y))) (mulf y (coef128 y a))) (mulf (coef128 y a) y)
theorem grad128_at (y a : FVec Ideal S4096x128 .f32) (s : Fin 4096) (d : Fin 128) :
    grad128 y a (ix2 s d) = back 0x43000000#32 (fun k => (y (ix2 s k) : EReal)) (fun k => (a (ix2 s k) : EReal)) d := by
  show ((a (ix2 s d) : EReal) * across128 (rs128 y) (ix2 s d) + (y (ix2 s d) : EReal) * coef128 y a (ix2 s d)) + (coef128 y a (ix2 s d) : EReal) * y (ix2 s d) = _
  rw [across128_at, rs128_at, coef128_at]
  exact back_eq (by norm_num) ofBits_128 (fun k => (y (ix2 s k) : EReal)) (fun k => (a (ix2 s k) : EReal)) d

/-! ### The layer. -/

/-- The normed tokens. -/
def normX (y : FVec Ideal S4096x1024 .f32) (w : FVec Ideal S1024 .f32) : FVec Ideal S4096x1024 .f32 := mulf (mulf y (across1024 (rs1024 y))) (scale1024 w)
/-- The projection, -/
def proj (u : FVec Ideal S4096x1024 .f32) (w : FVec Ideal S1024x2592 .f32) : FVec Ideal S4096x2592 .f32 :=
  Host.dotGeneral dot_S4096x1024_S1024x2592_S4096x2592_1_0_0_1_n_n none u w
/-- its parts. -/
def partQ (v : FVec Ideal S4096x2592 .f32) : FVec Ideal S4096x384 .f32 := extractStridedSlice S4096x384 ![0, 0] v slices_S4096x2592_S4096x384_0_0
def partK (v : FVec Ideal S4096x2592 .f32) : FVec Ideal S4096x128 .f32 := extractStridedSlice S4096x128 ![0, 384] v slices_S4096x2592_S4096x128_0_384
/-- A number for every frequency, -/
def each (b : BitVec 32) : FVec Ideal S16 .f32 := broadcastInDim S16 ![] bcast_S_S16 (constant S_ .f32 b)
/-- the frequencies, -/
def freq : FVec Ideal S16 .f32 :=
  Host.divf (each 0x3F800000#32) (Host.powf (each 0x461C4000#32) (Host.divf (addf (each 0x00000000#32) (mulf (each 0x40000000#32) (sitofp .f32 (iotaInDim S16 32 0)))) (each 0x42000000#32)))
/-- the angles. -/
def angle (p : IVec S4096 32) : FVec Ideal S4096x16 .f32 :=
  mulf (broadcastInDim S4096x16 ![0, 1] bcast_S4096x1_S4096x16_0_1 (asCol (sitofp .f32 p)))
    (broadcastInDim S4096x16 ![0, 1] bcast_S1x16_S4096x16_0_1 (broadcastInDim S1x16 ![1] bcast_S16_S1x16_1 freq))
/-- Sixteen numbers of a token for its heads. -/
def toHeads (v : FVec Ideal S4096x16 .f32) : FVec Ideal S4096x8x16 .f32 :=
  broadcastInDim S4096x8x16 ![0, 1, 2] bcast_S4096x1x16_S4096x8x16_0_1_2 (broadcastInDim S4096x1x16 ![0, 2] bcast_S4096x16_S4096x1x16_0_2 v)
/-- The scaled gradient of the queries, -/
def scaleQ (v : FVec Ideal S4096x8x96 .f32) : FVec Ideal S4096x8x96 .f32 := mulf v (broadcastInDim S4096x8x96 ![] bcast_S_S4096x8x96 (constant S_ .f32 0x3DD105EC#32))
/-- its lanes before the rotary ones and the rotary ones, -/
def plain (v : FVec Ideal S4096x8x96 .f32) : FVec Ideal S4096x8x64 .f32 := extractStridedSlice S4096x8x64 ![0, 0, 0] v slices_S4096x8x96_S4096x8x64_0_0_0
def rotary (v : FVec Ideal S4096x8x96 .f32) : FVec Ideal S4096x8x32 .f32 := extractStridedSlice S4096x8x32 ![0, 0, 64] v slices_S4096x8x96_S4096x8x32_0_0_64
/-- the two halves of these. -/
def fstQ (v : FVec Ideal S4096x8x32 .f32) : FVec Ideal S4096x8x16 .f32 := extractStridedSlice S4096x8x16 ![0, 0, 0] v slices_S4096x8x32_S4096x8x16_0_0_0
def sndQ (v : FVec Ideal S4096x8x32 .f32) : FVec Ideal S4096x8x16 .f32 := extractStridedSlice S4096x8x16 ![0, 0, 16] v slices_S4096x8x32_S4096x8x16_0_0_16
def fstK (v : FVec Ideal S4096x32 .f32) : FVec Ideal S4096x16 .f32 := extractStridedSlice S4096x16 ![0, 0] v slices_S4096x32_S4096x16_0_0
def sndK (v : FVec Ideal S4096x32 .f32) : FVec Ideal S4096x16 .f32 := extractStridedSlice S4096x16 ![0, 16] v slices_S4096x32_S4096x16_0_16
/-- The rotary embedding's gradient for the heads -/
def unturnQ (v : FVec Ideal S4096x8x32 .f32) (c s : FVec Ideal S4096x16 .f32) : FVec Ideal S4096x8x32 .f32 :=
  concatenate S4096x8x32 2 [⟨S4096x8x16, addf (mulf (sndQ v) (toHeads s)) (mulf (fstQ v) (toHeads c))⟩, ⟨S4096x8x16, addf (mulf (sndQ v) (toHeads c)) (mulf (Host.negf (fstQ v)) (toHeads s))⟩]
    concatenates_S4096x8x16_S4096x8x16_S4096x8x32_d2
/-- and for the shared key. -/
def unturnK (v : FVec Ideal S4096x32 .f32) (c s : FVec Ideal S4096x16 .f32) : FVec Ideal S4096x32 .f32 :=
  concatenate S4096x32 1 [⟨S4096x16, addf (mulf (sndK v) s) (mulf (fstK v) c)⟩, ⟨S4096x16, addf (mulf (sndK v) c) (mulf (Host.negf (fstK v)) s)⟩]
    concatenates_S4096x16_S4096x16_S4096x32_d1
/-- The zero that pads. -/
def zeroS : FVec Ideal S_ .f32 := constant S_ .f32 0x00000000#32
/-- The queries' heads, -/
def wholeQ (a : FVec Ideal S4096x8x32 .f32) (b : FVec Ideal S4096x8x64 .f32) : FVec Ideal S4096x8x96 .f32 :=
  addf (pad S4096x8x96 ![0, 0, 64] ![0, 0, 0] ![0, 0, 0] a zeroS pads_S4096x8x32_S4096x8x96_000_000_6400 h_S_)
    (pad S4096x8x96 ![0, 0, 0] ![0, 0, 32] ![0, 0, 0] b zeroS pads_S4096x8x64_S4096x8x96_000_000_0320 h_S_)
/-- and the keys' and the values'. -/
def wholeK (v a : FVec Ideal S4096x8x64 .f32) : FVec Ideal S4096x8x128 .f32 :=
  addf (pad S4096x8x128 ![0, 0, 64] ![0, 0, 0] ![0, 0, 0] v zeroS pads_S4096x8x64_S4096x8x128_000_000_6400 h_S_)
    (pad S4096x8x128 ![0, 0, 0] ![0, 0, 64] ![0, 0, 0] a zeroS pads_S4096x8x64_S4096x8x128_000_000_0640 h_S_)
/-- The shared key's gradient, -/
def sharedK (k : FVec Ideal S4096x8x96 .f32) : FVec Ideal S4096x32 .f32 :=
  Host.reduceAdd (broadcastInDim S4096x1x32 ![0, 2] bcast_S4096x32_S4096x1x32_0_2 (Host.reduceAdd (rotary k) (constant S_ .f32 0x00000000#32) reducesTo_S4096x8x32_S4096x32_d1 h_S_))
    (constant S_ .f32 0x00000000#32) reducesTo_S4096x1x32_S4096x32_d1 h_S_
/-- and the projection's. -/
def joinX (r : FVec Ideal S4096x2048 .f32) (k : FVec Ideal S4096x32 .f32) (a : FVec Ideal S4096x128 .f32) (b : FVec Ideal S4096x384 .f32) : FVec Ideal S4096x2592 .f32 :=
  addf (addf (addf (pad S4096x2592 ![0, 544] ![0, 0] ![0, 0] r zeroS pads_S4096x2048_S4096x2592_000_54400 h_S_)
    (pad S4096x2592 ![0, 512] ![0, 2048] ![0, 0] k zeroS pads_S4096x32_S4096x2592_000_51220480 h_S_))
    (pad S4096x2592 ![0, 384] ![0, 2080] ![0, 0] a zeroS pads_S4096x128_S4096x2592_000_38420800 h_S_))
    (pad S4096x2592 ![0, 0] ![0, 2208] ![0, 0] b zeroS pads_S4096x384_S4096x2592_000_022080 h_S_)
/-- The products with the weights. -/
def dotQ (u : FVec Ideal S4096x8x96 .f32) (w : FVec Ideal S384x8x96 .f32) : FVec Ideal S4096x384 .f32 :=
  Host.dotGeneral dot_S4096x8x96_S384x8x96_S4096x384_12_12_0_0_n_n none u w
def dotK (u : FVec Ideal S4096x8x128 .f32) (w : FVec Ideal S128x8x128 .f32) : FVec Ideal S4096x128 .f32 :=
  Host.dotGeneral dot_S4096x8x128_S128x8x128_S4096x128_12_12_0_0_n_n none u w
def dotX (u : FVec Ideal S4096x2592 .f32) (w : FVec Ideal S1024x2592 .f32) : FVec Ideal S4096x1024 .f32 :=
  Host.dotGeneral dot_S4096x2592_S1024x2592_S4096x1024_1_1_0_0_n_n none u w

theorem normX_at (y : FVec Ideal S4096x1024 .f32) (w : FVec Ideal S1024 .f32) (s : Fin 4096) (d : Fin 1024) :
    normX y w (ix2 s d) = (y (ix2 s d) : EReal) * irms 0x44800000#32 (fun d => (y (ix2 s d) : EReal)) * w (ix1 d) := by
  rw [← rs1024_at, ← across1024_at (rs1024 y) s d, ← scale1024_at w s d]; rfl
theorem proj_at (u : FVec Ideal S4096x1024 .f32) (w : FVec Ideal S1024x2592 .f32) (s : Fin 4096) (j : Fin 2592) :
    proj u w (ix2 s j) = ∑ d, (u (ix2 s d) : EReal) * w (ix2 d j) := by
  pointwise [proj]
theorem partQ_at (v : FVec Ideal S4096x2592 .f32) (s : Fin 4096) (d : Fin 384) : partQ v (ix2 s d) = v (ix2 s ⟨d.val, by omega⟩) := by
  pointwise [partQ]
theorem partK_at (v : FVec Ideal S4096x2592 .f32) (s : Fin 4096) (d : Fin 128) : partK v (ix2 s d) = v (ix2 s ⟨384 + d.val, by omega⟩) := by
  pointwise [partK]
theorem angle_at (p : IVec S4096 32) (s : Fin 4096) (i : Fin 16) : angle p (ix2 s i) = (FloatOps.sitofp (F := Ideal) .f32 (p (ix1 s)) : EReal) * freq (ix1 i) := by
  pointwise [angle, asCol]
theorem toHeads_at (v : FVec Ideal S4096x16 .f32) (s : Fin 4096) (h : Fin 8) (i : Fin 16) : toHeads v (ix3 s h i) = v (ix2 s i) := by
  pointwise [toHeads]
theorem fstQ_at (v : FVec Ideal S4096x8x32 .f32) (s : Fin 4096) (h : Fin 8) (i : Fin 16) : fstQ v (ix3 s h i) = v (ix3 s h ⟨i.val, by omega⟩) := by
  pointwise [fstQ]
theorem sndQ_at (v : FVec Ideal S4096x8x32 .f32) (s : Fin 4096) (h : Fin 8) (i : Fin 16) : sndQ v (ix3 s h i) = v (ix3 s h ⟨16 + i.val, by omega⟩) := by
  pointwise [sndQ]
theorem fstK_at (v : FVec Ideal S4096x32 .f32) (s : Fin 4096) (i : Fin 16) : fstK v (ix2 s i) = v (ix2 s ⟨i.val, by omega⟩) := by
  pointwise [fstK]
theorem sndK_at (v : FVec Ideal S4096x32 .f32) (s : Fin 4096) (i : Fin 16) : sndK v (ix2 s i) = v (ix2 s ⟨16 + i.val, by omega⟩) := by
  pointwise [sndK]
theorem scaleQ_at (v : FVec Ideal S4096x8x96 .f32) (s : Fin 4096) (h : Fin 8) (l : Fin 96) : scaleQ v (ix3 s h l) = (v (ix3 s h l) : EReal) * Ideal.ofBits .f32 0x3DD105EC#32 := by
  pointwise [scaleQ]
theorem plain_at (v : FVec Ideal S4096x8x96 .f32) (s : Fin 4096) (h : Fin 8) (l : Fin 64) : plain v (ix3 s h l) = v (ix3 s h ⟨l.val, by omega⟩) := by
  pointwise [plain]
theorem rotary_at (v : FVec Ideal S4096x8x96 .f32) (s : Fin 4096) (h : Fin 8) (l : Fin 32) : rotary v (ix3 s h l) = v (ix3 s h ⟨64 + l.val, by omega⟩) := by
  pointwise [rotary]
theorem unturnQ_at (v : FVec Ideal S4096x8x32 .f32) (c s : FVec Ideal S4096x16 .f32) (t : Fin 4096) (h : Fin 8) (l : Fin 32) : unturnQ v c s (ix3 t h l)
    = if e : l.val < 16 then (v (ix3 t h ⟨16 + l.val, by omega⟩) : EReal) * s (ix2 t ⟨l.val, e⟩) + v (ix3 t h l) * c (ix2 t ⟨l.val, e⟩)
      else (v (ix3 t h l) : EReal) * c (ix2 t ⟨l.val - 16, by omega⟩) + -(v (ix3 t h ⟨l.val - 16, by omega⟩) : EReal) * s (ix2 t ⟨l.val - 16, by omega⟩) := by
  pointwise [unturnQ, fstQ, sndQ, toHeads]
  by_cases e : l.val < 16
  · rw [dif_pos e, dif_pos e]
  · rw [dif_neg e, dif_neg e]
    have e1 : 16 + (l.val - 16) = l.val := by omega
    simp only [e1, Fin.eta]
theorem unturnK_at (v : FVec Ideal S4096x32 .f32) (c s : FVec Ideal S4096x16 .f32) (t : Fin 4096) (l : Fin 32) : unturnK v c s (ix2 t l)
    = if e : l.val < 16 then (v (ix2 t ⟨16 + l.val, by omega⟩) : EReal) * s (ix2 t ⟨l.val, e⟩) + v (ix2 t l) * c (ix2 t ⟨l.val, e⟩)
      else (v (ix2 t l) : EReal) * c (ix2 t ⟨l.val - 16, by omega⟩) + -(v (ix2 t ⟨l.val - 16, by omega⟩) : EReal) * s (ix2 t ⟨l.val - 16, by omega⟩) := by
  pointwise [unturnK, fstK, sndK]
  by_cases e : l.val < 16
  · rw [dif_pos e, dif_pos e]
  · rw [dif_neg e, dif_neg e]
    have e1 : 16 + (l.val - 16) = l.val := by omega
    simp only [e1, Fin.eta]
theorem wholeQ_at (a : FVec Ideal S4096x8x32 .f32) (b : FVec Ideal S4096x8x64 .f32) (s : Fin 4096) (h : Fin 8) (l : Fin 96) : wholeQ a b (ix3 s h l)
    = if e : l.val < 64 then (b (ix3 s h ⟨l.val, e⟩) : EReal) else a (ix3 s h ⟨l.val - 64, by omega⟩) := by
  pointwise! [wholeQ, zeroS]
  by_cases e : l.val < 64
  · (repeat first | rw [dif_neg (by omega)] | rw [dif_pos (by omega)])
    exact zero_add _
  · (repeat first | rw [dif_neg (by omega)] | rw [dif_pos (by omega)])
    exact add_zero _
theorem wholeK_at (v a : FVec Ideal S4096x8x64 .f32) (s : Fin 4096) (h : Fin 8) (l : Fin 128) : wholeK v a (ix3 s h l)
    = if e : l.val < 64 then (a (ix3 s h ⟨l.val, e⟩) : EReal) else v (ix3 s h ⟨l.val - 64, by omega⟩) := by
  pointwise! [wholeK, zeroS]
  by_cases e : l.val < 64
  · (repeat first | rw [dif_neg (by omega)] | rw [dif_pos (by omega)])
    exact zero_add _
  · (repeat first | rw [dif_neg (by omega)] | rw [dif_pos (by omega)])
    exact add_zero _
theorem sharedK_at (k : FVec Ideal S4096x8x96 .f32) (s : Fin 4096) (l : Fin 32) : sharedK k (ix2 s l) = ∑ h, (k (ix3 s h ⟨64 + l.val, by omega⟩) : EReal) := by
  pointwise [sharedK, rotary]
  exact Fin.sum_univ_one _
theorem joinX_at (r : FVec Ideal S4096x2048 .f32) (k : FVec Ideal S4096x32 .f32) (a : FVec Ideal S4096x128 .f32) (b : FVec Ideal S4096x384 .f32) (s : Fin 4096) (j : Fin 2592) :
    joinX r k a b (ix2 s j) = if h : j.val < 384 then (b (ix2 s ⟨j.val, h⟩) : EReal) else if h : j.val < 512 then a (ix2 s ⟨j.val - 384, by omega⟩)
      else if h : j.val < 544 then k (ix2 s ⟨j.val - 512, by omega⟩) else r (ix2 s ⟨j.val - 544, by omega⟩) := by
  pointwise! [joinX, zeroS]
  by_cases h1 : j.val < 384
  · (repeat first | rw [dif_neg (by omega)] | rw [dif_pos (by omega)])
    simp only [zero_add]
  · by_cases h2 : j.val < 512
    · (repeat first | rw [dif_neg (by omega)] | rw [dif_pos (by omega)])
      simp only [zero_add, add_zero]
    · by_cases h3 : j.val < 544
      · (repeat first | rw [dif_neg (by omega)] | rw [dif_pos (by omega)])
        simp only [zero_add, add_zero]
      · (repeat first | rw [dif_neg (by omega)] | rw [dif_pos (by omega)])
        simp only [add_zero]
theorem dotQ_at (u : FVec Ideal S4096x8x96 .f32) (w : FVec Ideal S384x8x96 .f32) (s : Fin 4096) (d : Fin 384) :
    dotQ u w (ix2 s d) = ∑ h, ∑ l, (u (ix3 s h l) : EReal) * w (ix3 d h l) := by
  pointwise [dotQ]
theorem dotK_at (u : FVec Ideal S4096x8x128 .f32) (w : FVec Ideal S128x8x128 .f32) (s : Fin 4096) (d : Fin 128) :
    dotK u w (ix2 s d) = ∑ h, ∑ l, (u (ix3 s h l) : EReal) * w (ix3 d h l) := by
  pointwise [dotK]
theorem dotX_at (u : FVec Ideal S4096x2592 .f32) (w : FVec Ideal S1024x2592 .f32) (s : Fin 4096) (d : Fin 1024) :
    dotX u w (ix2 s d) = ∑ j, (u (ix2 s j) : EReal) * w (ix2 d j) := by
  pointwise [dotX]

/-! ### The result. -/

section

variable (x : FVec Ideal S4096x1024 .f32) (p : IVec S4096 32) (dh : FVec Ideal S4096x1024 .f32) (dq dk : FVec Ideal S4096x8x96 .f32) (dv : FVec Ideal S4096x8x64 .f32)
  (dr : FVec Ideal S4096x2048 .f32) (w : FVec Ideal S1024 .f32) (wi : FVec Ideal S1024x2592 .f32) (wqn : FVec Ideal S384 .f32)
  (wq : FVec Ideal S384x8x96 .f32) (wkn : FVec Ideal S128 .f32) (wkv : FVec Ideal S128x8x128 .f32)

def lat : FVec Ideal S4096x2592 .f32 := proj (normX x w) wi
def cosA : FVec Ideal S4096x16 .f32 := Host.cos (angle p)
def sinA : FVec Ideal S4096x16 .f32 := Host.sin (angle p)
def gradQ : FVec Ideal S4096x384 .f32 :=
  mulf (dotQ (wholeQ (unturnQ (rotary (scaleQ dq)) (cosA p) (sinA p)) (plain (scaleQ dq))) wq) (scale384 wqn)
def gradK : FVec Ideal S4096x128 .f32 := mulf (dotK (wholeK dv (plain dk)) wkv) (scale128 wkn)
def gradP : FVec Ideal S4096x2592 .f32 :=
  joinX dr (unturnK (sharedK dk) (cosA p) (sinA p)) (grad128 (partK (lat x w wi)) (gradK dk dv wkn wkv)) (grad384 (partQ (lat x w wi)) (gradQ p dq wqn wq))
def gradX : FVec Ideal S4096x1024 .f32 := mulf (dotX (gradP x p dq dk dv dr w wi wqn wq wkn wkv) wi) (scale1024 w)
def res : FVec Ideal S4096x1024 .f32 := grad1024 dh x (gradX x p dq dk dv dr w wi wqn wq wkn wkv)

/-- The arrays are a layer's. -/
structure Reads (N : Inb.Net) : Prop where
  hx : ∀ s d, x (ix2 s d) = N.x s d
  hp : ∀ s, FloatOps.sitofp (F := Ideal) .f32 (p (ix1 s)) = N.p s
  hdh : ∀ s d, dh (ix2 s d) = N.dh s d
  hdq : ∀ s h l, dq (ix3 s h l) = N.dq s h l
  hdk : ∀ s h l, dk (ix3 s h l) = N.dk s h l
  hdv : ∀ s h l, dv (ix3 s h l) = N.dv s h l
  hdr : ∀ s j, dr (ix2 s j) = N.dr s j
  hw : ∀ d, w (ix1 d) = N.w d
  hi : ∀ d j, wi (ix2 d j) = N.wi d j
  hqn : ∀ d, wqn (ix1 d) = N.wqn d
  hq : ∀ d h l, wq (ix3 d h l) = N.wq d h l
  hkn : ∀ d, wkn (ix1 d) = N.wkn d
  hkv : ∀ d h l, wkv (ix3 d h l) = N.wkv d h l
  hf : ∀ i, freq (ix1 i) = N.iv i

end

section

variable {x : FVec Ideal S4096x1024 .f32} {p : IVec S4096 32} {dh : FVec Ideal S4096x1024 .f32} {dq dk : FVec Ideal S4096x8x96 .f32} {dv : FVec Ideal S4096x8x64 .f32}
  {dr : FVec Ideal S4096x2048 .f32} {w : FVec Ideal S1024 .f32} {wi : FVec Ideal S1024x2592 .f32} {wqn : FVec Ideal S384 .f32}
  {wq : FVec Ideal S384x8x96 .f32} {wkn : FVec Ideal S128 .f32} {wkv : FVec Ideal S128x8x128 .f32} {N : Inb.Net}
  (hN : Reads x p dh dq dk dv dr w wi wqn wq wkn wkv N)

include hN

theorem lat_is (s : Fin 4096) (j : Fin 2592) : lat x w wi (ix2 s j) = N.xp s j := by
  have hx : (fun d => (x (ix2 s d) : EReal)) = N.x s := funext fun d => hN.hx s d
  exact (proj_at _ _ s j).trans (Finset.sum_congr rfl fun d _ => by rw [normX_at, hN.hi, hN.hx, hN.hw, hx]; rfl)
theorem cosA_is (s : Fin 4096) (i : Fin 16) : cosA p (ix2 s i) = N.cs s i := by
  show Ideal.cos (angle p (ix2 s i)) = _
  rw [angle_at, hN.hp, hN.hf]; rfl
theorem sinA_is (s : Fin 4096) (i : Fin 16) : sinA p (ix2 s i) = N.sn s i := by
  show Ideal.sin (angle p (ix2 s i)) = _
  rw [angle_at, hN.hp, hN.hf]; rfl
/-- The gradient of the queries before the rotary embedding, -/
theorem dql_is (s : Fin 4096) (h : Fin 8) (l : Fin 96) :
    wholeQ (unturnQ (rotary (scaleQ dq)) (cosA p) (sinA p)) (plain (scaleQ dq)) (ix3 s h l) = N.dql s h ⟨l.val, by omega⟩ := by
  rw [wholeQ_at]
  unfold Net.dql unturn Net.dqs wide
  by_cases h1 : l.val < 64
  · rw [dif_pos h1, dif_pos h1, plain_at, scaleQ_at, hN.hdq, dif_pos l.isLt]
  · rw [dif_neg h1, dif_neg h1, unturnQ_at]
    by_cases h2 : l.val < 80
    · rw [dif_pos (by show l.val - 64 < 16; omega), dif_pos h2, rotary_at, rotary_at, scaleQ_at, scaleQ_at, hN.hdq, hN.hdq, cosA_is hN, sinA_is hN,
        dif_pos l.isLt, dif_pos (by show l.val + 16 < 96; omega), add_comm]
      have e1 : 64 + (l.val - 64) = l.val := by omega
      have e2 : 64 + (16 + (l.val - 64)) = l.val + 16 := by omega
      simp only [e1, e2]
    · rw [dif_neg (by show ¬l.val - 64 < 16; omega), dif_neg h2, dif_pos l.isLt, rotary_at, rotary_at, scaleQ_at, scaleQ_at, hN.hdq, hN.hdq, cosA_is hN, sinA_is hN,
        dif_pos l.isLt, dif_pos (by show l.val - 16 < 96; omega), neg_mul, ← sub_eq_add_neg]
      have e1 : 64 + (l.val - 64) = l.val := by omega
      have e2 : 64 + (l.val - 80) = l.val - 16 := by omega
      have e3 : l.val - 64 - 16 = l.val - 80 := by omega
      simp only [e1, e3, e2]
/-- of their latent row by the scale, -/
theorem gradQ_is (s : Fin 4096) (d : Fin 384) : gradQ p dq wqn wq (ix2 s d) = N.dqn s d * N.wqn d := by
  refine congrArg₂ (fun a b : EReal => a * b) ?_ ((scale384_at _ s d).trans (hN.hqn d))
  exact (dotQ_at _ _ s d).trans (Finset.sum_congr rfl fun h _ => Finset.sum_congr rfl fun l _ => by rw [dql_is hN, hN.hq])
theorem cq_is (s : Fin 4096) (d : Fin 384) : partQ (lat x w wi) (ix2 s d) = N.cq s d := (partQ_at _ s d).trans (lat_is hN s _)
theorem ckv_is (s : Fin 4096) (d : Fin 128) : partK (lat x w wi) (ix2 s d) = N.ckv s d := (partK_at _ s d).trans (lat_is hN s _)
/-- of this row; -/
theorem dcq_is (s : Fin 4096) (d : Fin 384) : grad384 (partQ (lat x w wi)) (gradQ p dq wqn wq) (ix2 s d) = N.dcq s d := by
  rw [grad384_at, show (fun k => (partQ (lat x w wi) (ix2 s k) : EReal)) = N.cq s from funext fun k => cq_is hN s k,
    show (fun k => (gradQ p dq wqn wq (ix2 s k) : EReal)) = fun k => N.dqn s k * N.wqn k from funext fun k => gradQ_is hN s k]
  rfl
/-- the same for the keys and the values; -/
theorem dkv_is (s : Fin 4096) (h : Fin 8) (l : Fin 128) : wholeK dv (plain dk) (ix3 s h l) = N.dkv s h l := by
  rw [wholeK_at]
  unfold Net.dkv
  by_cases h1 : l.val < 64
  · rw [dif_pos h1, dif_pos h1, plain_at, hN.hdk]
  · rw [dif_neg h1, dif_neg h1, hN.hdv]
theorem gradK_is (s : Fin 4096) (d : Fin 128) : gradK dk dv wkn wkv (ix2 s d) = N.dkn s d * N.wkn d := by
  refine congrArg₂ (fun a b : EReal => a * b) ?_ ((scale128_at _ s d).trans (hN.hkn d))
  exact (dotK_at _ _ s d).trans (Finset.sum_congr rfl fun h _ => Finset.sum_congr rfl fun l _ => by rw [dkv_is hN, hN.hkv])
theorem dckv_is (s : Fin 4096) (d : Fin 128) : grad128 (partK (lat x w wi)) (gradK dk dv wkn wkv) (ix2 s d) = N.dckv s d := by
  rw [grad128_at, show (fun k => (partK (lat x w wi) (ix2 s k) : EReal)) = N.ckv s from funext fun k => ckv_is hN s k,
    show (fun k => (gradK dk dv wkn wkv (ix2 s k) : EReal)) = fun k => N.dkn s k * N.wkn k from funext fun k => gradK_is hN s k]
  rfl
/-- of the shared key, -/
theorem dks_is (s : Fin 4096) (l : Fin 32) : sharedK dk (ix2 s l) = N.dks s ⟨64 + l.val, by omega⟩ := by
  rw [sharedK_at]
  refine Finset.sum_congr rfl fun h _ => ?_
  unfold wide
  rw [dif_pos (by show 64 + l.val < 96; omega), hN.hdk]
theorem dkr_is (s : Fin 4096) (l : Fin 32) : unturnK (sharedK dk) (cosA p) (sinA p) (ix2 s l) = N.dkr s ⟨64 + l.val, by omega⟩ := by
  rw [unturnK_at]
  unfold Net.dkr unturn
  by_cases h2 : l.val < 16
  · rw [dif_pos h2, if_pos (by show 64 ≤ 64 + l.val ∧ 64 + l.val < 96; omega), dif_neg (by show ¬64 + l.val < 64; omega), dif_pos (by show 64 + l.val < 80; omega), dks_is hN, dks_is hN, cosA_is hN, sinA_is hN, add_comm]
    have e1 : 64 + l.val - 64 = l.val := by omega
    have e2 : 64 + (16 + l.val) = 64 + l.val + 16 := by omega
    simp only [e1, e2]
  · rw [dif_neg h2, if_pos (by show 64 ≤ 64 + l.val ∧ 64 + l.val < 96; omega), dif_neg (by show ¬64 + l.val < 64; omega), dif_neg (by show ¬64 + l.val < 80; omega), dif_pos (by show 64 + l.val < 96; omega), dks_is hN, dks_is hN, cosA_is hN, sinA_is hN, neg_mul, ← sub_eq_add_neg]
    have e1 : 64 + (l.val - 16) = 64 + l.val - 16 := by omega
    have e2 : 64 + l.val - 80 = l.val - 16 := by omega
    simp only [e1, e2]
/-- of the projection, -/
theorem dxp_is (s : Fin 4096) (j : Fin 2592) : gradP x p dq dk dv dr w wi wqn wq wkn wkv (ix2 s j) = N.dxp s j := by
  unfold gradP
  rw [joinX_at]
  unfold Net.dxp
  by_cases h1 : j.val < 384
  · rw [dif_pos h1, dif_pos h1, dcq_is hN]
  · rw [dif_neg h1, dif_neg h1]
    by_cases h2 : j.val < 512
    · rw [dif_pos h2, dif_pos h2, dckv_is hN]
    · rw [dif_neg h2, dif_neg h2]
      by_cases h3 : j.val < 544
      · rw [dif_pos h3, dif_pos h3, dkr_is hN]
        exact congrArg (N.dkr s) (Fin.ext (by show 64 + (j.val - 512) = j.val - 448; omega))
      · rw [dif_neg h3, dif_neg h3, hN.hdr]
/-- of the normed input by the scale, -/
theorem gradX_is (s : Fin 4096) (d : Fin 1024) : gradX x p dq dk dv dr w wi wqn wq wkn wkv (ix2 s d) = N.du s d * N.w d := by
  refine congrArg₂ (fun a b : EReal => a * b) ?_ ((scale1024_at _ s d).trans (hN.hw d))
  exact (dotX_at _ _ s d).trans (Finset.sum_congr rfl fun j _ => by rw [dxp_is hN, hN.hi])
/-- and of the input. -/
theorem res_is (s : Fin 4096) (d : Fin 1024) : res x p dh dq dk dv dr w wi wqn wq wkn wkv (ix2 s d) = N.dx s d := by
  unfold res
  rw [grad1024_at, hN.hdh, show (fun k => (x (ix2 s k) : EReal)) = N.x s from funext fun k => hN.hx s k,
    show (fun k => (gradX x p dq dk dv dr w wi wqn wq wkn wkv (ix2 s k) : EReal)) = fun k => N.du s k * N.w k from funext fun k => gradX_is hN s k]
  rfl

end

/-! ### The reference's own names. -/

section

variable (V0 : Valuation τ sig (Elt Ideal))

/-- Its latent rows, -/
theorem v17_is : Value.res_main_v17 V0 = partQ (lat (V0 (Proc.devRef .tc main_arg0)) (V0 (Proc.devRef .tc main_arg7)) (V0 (Proc.devRef .tc main_arg8))) := rfl
theorem v18_is : Value.res_main_v18 V0 = partK (lat (V0 (Proc.devRef .tc main_arg0)) (V0 (Proc.devRef .tc main_arg7)) (V0 (Proc.devRef .tc main_arg8))) := rfl
/-- the gradients of their normed rows, -/
theorem v147_is : Value.res_main_v147 V0 = gradK (V0 (Proc.devRef .tc main_arg4)) (V0 (Proc.devRef .tc main_arg5)) (V0 (Proc.devRef .tc main_arg11)) (V0 (Proc.devRef .tc main_arg12)) := rfl
theorem v167_is : Value.res_main_v167 V0 = gradQ (V0 (Proc.devRef .tc main_arg1)) (V0 (Proc.devRef .tc main_arg3)) (V0 (Proc.devRef .tc main_arg9)) (V0 (Proc.devRef .tc main_arg10)) := rfl
/-- their coefficients, -/
theorem v157_is : Value.res_main_v157 V0 = coef128 (Value.res_main_v18 V0) (Value.res_main_v147 V0) := rfl
theorem v177_is : Value.res_main_v177 V0 = coef384 (Value.res_main_v17 V0) (Value.res_main_v167 V0) := rfl
/-- the gradient of the normed input -/
theorem v190_is : Value.res_main_v190 V0 = gradX (V0 (Proc.devRef .tc main_arg0)) (V0 (Proc.devRef .tc main_arg1)) (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))
    (V0 (Proc.devRef .tc main_arg12)) := by
  unfold Value.res_main_v190
  rw [v157_is, v177_is, v147_is, v167_is]
  rfl
/-- and its coefficient; -/
theorem v201_is : Value.res_main_v201 V0 = coef1024 (V0 (Proc.devRef .tc main_arg0)) (Value.res_main_v190 V0) := rfl
/-- its result. -/
theorem result_is : addf (addf (addf (V0 (Proc.devRef .tc main_arg2)) (mulf (Value.res_main_v190 V0) (broadcastInDim S4096x1024 ![0, 1] bcast_S4096x1_S4096x1024_0_1 (Value.res_main_v7 V0))))
      (mulf (V0 (Proc.devRef .tc main_arg0)) (Value.res_main_v201 V0))) (mulf (Value.res_main_v201 V0) (V0 (Proc.devRef .tc main_arg0)))
    = res (V0 (Proc.devRef .tc main_arg0)) (V0 (Proc.devRef .tc main_arg1)) (V0 (Proc.devRef .tc main_arg2)) (V0 (Proc.devRef .tc main_arg3)) (V0 (Proc.devRef .tc main_arg4))
    (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))
    (V0 (Proc.devRef .tc main_arg11)) (V0 (Proc.devRef .tc main_arg12)) := by
  rw [v201_is, v190_is]
  rfl

end

end Cert.InbRef

end
-- ==== Proof.InbFinal.lean ====
module

public import proofs.«01_k».proof.Proof.InbLaunch
public import proofs.«01_k».proof.Proof.InbBlocks
public import proofs.«01_k».proof.Proof.InbRef

@[expose] public section

set_option maxRecDepth 16384

noncomputable section

/-! The input's gradient that the layer's backward input call leaves: the reference's. -/

namespace Cert.Kernel5Ideal.Hand

open Cert.Kernel5Ideal Cert.Kernel5Ideal.Gen Cert.In Cert.Inb
open Idealize.ShloMosaic Idealize.ShloMosaic.TcCoe Idealize.SL.Sem

variable (m : (ℓ : Loc nD τ sig) → Buf (Elt Ideal) ℓ) (c : Dev nD)

/-- The program's arguments are the layer's. -/
theorem reads : Cert.InbRef.Reads (aX m c) (aP m c) (aDh m c) (aDq m c) (aDk m c) (aDv m c) (aDr m c) (aW m c) (aI m c) (aQn m c) (aQ m c) (aKn m c) (aKv m c) (net m c) where
  hx _ _ := rfl
  hp _ := rfl
  hdh _ _ := rfl
  hdq _ _ _ := rfl
  hdk _ _ _ := rfl
  hdv _ _ _ := rfl
  hdr _ _ := rfl
  hw _ := rfl
  hi _ _ := rfl
  hqn _ := rfl
  hq _ _ _ := rfl
  hkn _ := rfl
  hkv _ _ _ := rfl
  hf _ := rfl

/-- The input's gradient at a grid point. -/
theorem point20 (t : Fin cfg0.N) (r : Fin 256) (d : Fin 1024) : dxAt m c t (ix2 r d) = (net m c).dx (Head.tk (bAt t) r) d :=
  dx_is (pt_is m c t) r d

/-- The input's gradient: the reference's result. -/
theorem final20 : (dats m 0 c).arrAt 20 cfg0.N = Cert.InbRef.res (aX m c) (aP m c) (aDh m c) (aDq m c) (aDk m c) (aDv m c) (aDr m c) (aW m c) (aI m c) (aQn m c) (aQ m c) (aKn m c) (aKv m c) := by
  refine (dats m 0 c).arrAt_eq_of_covers 20 _ (by decide +kernel) fun t hf y => ?_
  blk_simp
  rw [after0_20]
  obtain ⟨r, d, rfl⟩ : ∃ (r : Fin 256) (d : Fin 1024), y = ix2 r d := ⟨y 0, y 1, eq_ix2 y⟩
  have he : (win0_20.blk t).view.emb (ix2 r d) = ix2 (Head.tk (bAt t) r) d := by unfold Head.tk bAt; blk_ext [idx t]
  exact (point20 m c t r d).trans (Eq.symm ((congrArg _ he).trans (Cert.InbRef.res_is (reads m c) _ _)))

end Cert.Kernel5Ideal.Hand

end
-- ==== Proof.InbAlgebraic.lean ====
module

public import proofs.«01_k».proof.Defs
public import proofs.«01_k».proof.Proof.InbFinal

@[expose] public section

set_option maxRecDepth 16384

noncomputable section

/-! The first result of the version's backward input call is the reference's. -/

namespace Cert.Kernel5Ideal.Hand

open Cert.Kernel5Ideal Cert.Kernel5Ideal.Gen Cert.InbRef
open Idealize.ShloMosaic Idealize.SL.Sem

/-- The input's gradient. -/
def outX (m : (ℓ : Loc nD τ sig) → Buf (Elt Ideal) ℓ) (c : Dev nD) : FVec Ideal S4096x1024 .f32 :=
  res (aX m c) (aP m c) (aDh m c) (aDq m c) (aDk m c) (aDv m c) (aDr m c) (aW m c) (aI m c) (aQn m c) (aQ m c) (aKn m c) (aKv m c)

/-- The version's run ends with it, and leaves its arguments alone. -/
theorem run_kernel (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v71_0) = outX m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(out_of m h.1.1 c).trans (final20 m c), h.2.1 c⟩) (θ_run_and (run_main_quiescent m g) (frame m g))

set_option maxHeartbeats 4000000 in
/-- The version's gradient of the input is the reference's. -/
theorem algebraic : Cert.algebraic_Kernel5Ideal_Reference5Ideal := fun m g m' g' _ hagree => by
  refine ⟨outX m, run_kernel m g, ?_⟩
  refine (θ_run Cert.Reference5Ideal.defs _ _).mono (fun _ h c => ?_) (Cert.Reference5Ideal.Value.run (F := Ideal) m' g')
  obtain ⟨h0, h1⟩ := h c
  obtain ⟨a0, a1, a2, a3, a4, a5, a6, a7, a8, a9, a10, a11, a12⟩ := hagree c
  refine ⟨h0.trans ((result_is _).trans ?_), h1⟩
  unfold outX
  show res
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3))
      (m' ((c.tc : Thread Cert.Reference5Ideal.nD Cert.Reference5Ideal.τ).loc Cert.Reference5Ideal.main_arg4))
      (m' ((c.tc : Thread Cert.Reference5Ideal.nD Cert.Reference5Ideal.τ).loc Cert.Reference5Ideal.main_arg5))
      (m' ((c.tc : Thread Cert.Reference5Ideal.nD Cert.Reference5Ideal.τ).loc Cert.Reference5Ideal.main_arg6))
      (m' ((c.tc : Thread Cert.Reference5Ideal.nD Cert.Reference5Ideal.τ).loc Cert.Reference5Ideal.main_arg7))
      (m' ((c.tc : Thread Cert.Reference5Ideal.nD Cert.Reference5Ideal.τ).loc Cert.Reference5Ideal.main_arg8))
      (m' ((c.tc : Thread Cert.Reference5Ideal.nD Cert.Reference5Ideal.τ).loc Cert.Reference5Ideal.main_arg9))
      (m' ((c.tc : Thread Cert.Reference5Ideal.nD Cert.Reference5Ideal.τ).loc Cert.Reference5Ideal.main_arg10))
      (m' ((c.tc : Thread Cert.Reference5Ideal.nD Cert.Reference5Ideal.τ).loc Cert.Reference5Ideal.main_arg11))
      (m' ((c.tc : Thread Cert.Reference5Ideal.nD Cert.Reference5Ideal.τ).loc Cert.Reference5Ideal.main_arg12)) = _
  rw [a0, a1, a2, a3, a4, a5, a6, a7, a8, a9, a10, a11, a12]

end Cert.Kernel5Ideal.Hand

end
-- ==== Proof.InbFrame.lean ====
module

public import proofs.«01_k».proof.Defs
public import proofs.«01_k».proof.Proof.Gen.Kernel5
public import proofs.«01_k».proof.Proof.InbLaunch

@[expose] public section

set_option maxRecDepth 65536

noncomputable section

/-! The machine program of the layer input's backward call is the same text as the idealized one, so its run is the same. -/

namespace Cert.Proof

open Idealize.ShloMosaic Idealize.SL.Sem

set_option maxHeartbeats 16000000 in
/-- The bodies' tables are the same. -/
theorem defs₀_eq5 : Cert.Kernel5.defs₀ (F := Bits) = Cert.Kernel5Ideal.defs₀ (F := Bits) := by
  unfold Cert.Kernel5.defs₀ Cert.Kernel5Ideal.defs₀
  refine congrArg Defs.onTc ?_
  funext l x
  match l, x with
  | ⟨0, _⟩, (t, s) => rfl

set_option maxHeartbeats 16000000 in
/-- So its frame is the one proved over any scalars, at machine floats. -/
theorem frame_kernel5 : Cert.quiescent_Kernel5 := by
  intro m ρ _
  show θ_run (Cert.Kernel5.defs (F := Bits)) _ _ _
  unfold Cert.Kernel5.defs
  rw [defs₀_eq5]
  exact Cert.Kernel5Ideal.Hand.frame (F := Bits) m ρ

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.FrameK
public import proofs.«01_k».proof.Proof.Run
public import proofs.«01_k».proof.Proof.Gen.Pre_finite
public import proofs.«01_k».proof.Proof.Algebraic
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Pre_finite2
public import proofs.«01_k».proof.Proof.FfnAlgebraic
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.HeadAlgebraic
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.InAlgebraic
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.InbAlgebraic
public import proofs.«01_k».proof.Proof.InbFrame
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The reference ends, leaves its arguments alone and every semaphore at zero. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The second kernel's body is the same text before and after the idealization, so its run is the same. -/
theorem defs₀_eq : Cert.Kernel2.defs₀ (F := Bits) = Cert.Kernel2Ideal.defs₀ (F := Bits) := by
  unfold Cert.Kernel2.defs₀ Cert.Kernel2Ideal.defs₀
  refine congrArg Defs.onTc ?_
  funext l x
  match l, x with
  | ⟨0, _⟩, (t, s) => rfl

/-- So its frame is the one proved over any scalars, at machine floats. -/
theorem frame_kernel2 : Cert.quiescent_Kernel2 := by
  intro m ρ _
  show θ_run (Cert.Kernel2.defs (F := Bits)) _ _ _
  unfold Cert.Kernel2.defs
  rw [defs₀_eq]
  exact Cert.Kernel2Ideal.Hand.frame (F := Bits) m ρ

/-- The second reference too. -/
theorem frame_reference2 : Cert.quiescent_Reference2Ideal := fun m ρ _ =>
  (θ_run Cert.Reference2Ideal.defs _ _).mono (fun r h => ⟨fun c => (h c).2.2.2.2,
      Idealize.ShloMosaic.sem_eq_zero_of_no_sems (by decide) r.2⟩)
    (Cert.Reference2Ideal.Value.run (F := Ideal) m ρ)

/-- And the third. -/
theorem frame_reference3 : Cert.quiescent_Reference3Ideal := fun m ρ _ =>
  (θ_run Cert.Reference3Ideal.defs _ _).mono (fun r h => ⟨fun c => (h c).2.2.2.2.2.2,
      Idealize.ShloMosaic.sem_eq_zero_of_no_sems (by decide) r.2⟩)
    (Cert.Reference3Ideal.Value.run (F := Ideal) m ρ)

/-- And the fourth. -/
theorem frame_reference4 : Cert.quiescent_Reference4Ideal := fun m ρ _ =>
  (θ_run Cert.Reference4Ideal.defs _ _).mono (fun r h => ⟨fun c => (h c).2.2.2.2.2.2.2.2.2.2,
      Idealize.ShloMosaic.sem_eq_zero_of_no_sems (by decide) r.2⟩)
    (Cert.Reference4Ideal.Value.run (F := Ideal) m ρ)

/-- And the fifth reference. -/
theorem frame_reference5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts, Cert.Pre_finite2.Gen.facts, by
  refine ⟨fun m ρ _ => Cert.Kernel.Hand.frame_args m ρ, fun m ρ _ => Cert.KernelIdeal.Hand.frame m ρ, fun m ρ _ => Cert.KernelIdeal.Hand.frame m ρ, frame_reference, fun m ρ _ => frame_reference m ρ trivial,
    frame_kernel2, fun m ρ _ => Cert.Kernel2Ideal.Hand.frame m ρ, fun m ρ _ => Cert.Kernel2Ideal.Hand.frame m ρ, frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    frame_kernel5, fun m ρ _ => Cert.Kernel5Ideal.Hand.frame m ρ, frame_reference5,
    ?_, Cert.KernelIdeal.Hand.algebraic, ?_, Cert.Kernel2Ideal.Hand.algebraic, ?_, Cert.Kernel3Ideal.Hand.algebraic, ?_, Cert.Kernel4Ideal.Hand.algebraic, ?_, Cert.Kernel5Ideal.Hand.algebraic⟩
  · exact IdealRules.named_const.statement Cert.KernelIdeal.κ "ln2" .f32 0x3F317218#32 ((Real.log 2 : ℝ) : EReal) rfl
  · trivial
  · trivial
  · trivial
  · trivial⟩

end Cert.Proof

end
